-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite3 [hPre_finite3 : Cert.Pre_finite3.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite3.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).1 = (fun _ => 1#1)
    ∧ (Cert.Pre_finite3.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.1 = (fun _ => 1#1)
    ∧ (Cert.Pre_finite3.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.1 = (fun _ => 1#1)
    ∧ (Cert.Pre_finite3.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.1 = (fun _ => 1#1)
    ∧ (Cert.Pre_finite3.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.2.1 = (fun _ => 1#1)
    ∧ (Cert.Pre_finite3.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.2.2.1 = (fun _ => 1#1)
    ∧ (Cert.Pre_finite3.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.2.2.2.1 = (fun _ => 1#1)
    ∧ (Cert.Pre_finite3.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))).2.2.2.2.2.2.2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite3 [hPre_finite3 : Cert.Pre_finite3.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite3.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7))).1 = (fun _ => 1#1)
    ∧ (Cert.Pre_finite3.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7))).2.1 = (fun _ => 1#1)
    ∧ (Cert.Pre_finite3.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7))).2.2.1 = (fun _ => 1#1)
    ∧ (Cert.Pre_finite3.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7))).2.2.2.1 = (fun _ => 1#1)
    ∧ (Cert.Pre_finite3.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7))).2.2.2.2.1 = (fun _ => 1#1)
    ∧ (Cert.Pre_finite3.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7))).2.2.2.2.2.1 = (fun _ => 1#1)
    ∧ (Cert.Pre_finite3.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7))).2.2.2.2.2.2.1 = (fun _ => 1#1)
    ∧ (Cert.Pre_finite3.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7))).2.2.2.2.2.2.2 = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite4 [hPre_finite4 : Cert.Pre_finite4.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite4.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8))).1 = (fun _ => 1#1)
    ∧ (Cert.Pre_finite4.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8))).2.1 = (fun _ => 1#1)
    ∧ (Cert.Pre_finite4.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8))).2.2.1 = (fun _ => 1#1)
    ∧ (Cert.Pre_finite4.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8))).2.2.2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite4 [hPre_finite4 : Cert.Pre_finite4.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite4.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5)) (m ((c.tc : Thread Cert.Reference23Ideal.nD Cert.Reference23Ideal.τ).loc Cert.Reference23Ideal.main_arg6)) (m ((c.tc : Thread Cert.Reference23Ideal.nD Cert.Reference23Ideal.τ).loc Cert.Reference23Ideal.main_arg7)) (m ((c.tc : Thread Cert.Reference23Ideal.nD Cert.Reference23Ideal.τ).loc Cert.Reference23Ideal.main_arg8))).1 = (fun _ => 1#1)
    ∧ (Cert.Pre_finite4.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5)) (m ((c.tc : Thread Cert.Reference23Ideal.nD Cert.Reference23Ideal.τ).loc Cert.Reference23Ideal.main_arg6)) (m ((c.tc : Thread Cert.Reference23Ideal.nD Cert.Reference23Ideal.τ).loc Cert.Reference23Ideal.main_arg7)) (m ((c.tc : Thread Cert.Reference23Ideal.nD Cert.Reference23Ideal.τ).loc Cert.Reference23Ideal.main_arg8))).2.1 = (fun _ => 1#1)
    ∧ (Cert.Pre_finite4.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5)) (m ((c.tc : Thread Cert.Reference23Ideal.nD Cert.Reference23Ideal.τ).loc Cert.Reference23Ideal.main_arg6)) (m ((c.tc : Thread Cert.Reference23Ideal.nD Cert.Reference23Ideal.τ).loc Cert.Reference23Ideal.main_arg7)) (m ((c.tc : Thread Cert.Reference23Ideal.nD Cert.Reference23Ideal.τ).loc Cert.Reference23Ideal.main_arg8))).2.2.1 = (fun _ => 1#1)
    ∧ (Cert.Pre_finite4.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5)) (m ((c.tc : Thread Cert.Reference23Ideal.nD Cert.Reference23Ideal.τ).loc Cert.Reference23Ideal.main_arg6)) (m ((c.tc : Thread Cert.Reference23Ideal.nD Cert.Reference23Ideal.τ).loc Cert.Reference23Ideal.main_arg7)) (m ((c.tc : Thread Cert.Reference23Ideal.nD Cert.Reference23Ideal.τ).loc Cert.Reference23Ideal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Kernel21Ideal_pre_finite3 [hKernel21Ideal : Cert.Kernel21Ideal.Facts] [hPre_finite3 : Cert.Pre_finite3.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite3 m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Reference21Ideal_pre_finite3 [hReference21Ideal : Cert.Reference21Ideal.Facts] [hPre_finite3 : Cert.Pre_finite3.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite3 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ r.2.sem = fun _ => 0)

def quiescent_Kernel23Ideal_pre_finite4 [hKernel23Ideal : Cert.Kernel23Ideal.Facts] [hPre_finite4 : Cert.Pre_finite4.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite4 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8))
      ∧ r.2.sem = fun _ => 0)

def quiescent_Reference23Ideal_pre_finite4 [hReference23Ideal : Cert.Reference23Ideal.Facts] [hPre_finite4 : Cert.Pre_finite4.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite4 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_5)) (v1 : (c : Dev Cert.Kernel2Ideal.nD) → Buf (Elt Ideal) ((c.tc : Thread Cert.Kernel2Ideal.nD Cert.Kernel2Ideal.τ).loc Cert.Kernel2Ideal.main_v7_0)) (v2 : (c : Dev Cert.Kernel2Ideal.nD) → Buf (Elt Ideal) ((c.tc : Thread Cert.Kernel2Ideal.nD Cert.Kernel2Ideal.τ).loc Cert.Kernel2Ideal.main_v7_6)) (v3 : (c : Dev Cert.Kernel2Ideal.nD) → Buf (Elt Ideal) ((c.tc : Thread Cert.Kernel2Ideal.nD Cert.Kernel2Ideal.τ).loc Cert.Kernel2Ideal.main_v7_1)) (v4 : (c : Dev Cert.Kernel2Ideal.nD) → Buf (Elt Ideal) ((c.tc : Thread Cert.Kernel2Ideal.nD Cert.Kernel2Ideal.τ).loc Cert.Kernel2Ideal.main_v7_2)) (v5 : (c : Dev Cert.Kernel2Ideal.nD) → Buf (Elt Ideal) ((c.tc : Thread Cert.Kernel2Ideal.nD Cert.Kernel2Ideal.τ).loc Cert.Kernel2Ideal.main_v7_3)) (v6 : (c : Dev Cert.Kernel2Ideal.nD) → Buf (Elt Ideal) ((c.tc : Thread Cert.Kernel2Ideal.nD Cert.Kernel2Ideal.τ).loc Cert.Kernel2Ideal.main_v7_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_5) = v0 c
          ∧ r.2.mem ((c.tc : Thread Cert.Kernel2Ideal.nD Cert.Kernel2Ideal.τ).loc Cert.Kernel2Ideal.main_v7_0) = v1 c
          ∧ r.2.mem ((c.tc : Thread Cert.Kernel2Ideal.nD Cert.Kernel2Ideal.τ).loc Cert.Kernel2Ideal.main_v7_6) = v2 c
          ∧ r.2.mem ((c.tc : Thread Cert.Kernel2Ideal.nD Cert.Kernel2Ideal.τ).loc Cert.Kernel2Ideal.main_v7_1) = v3 c
          ∧ r.2.mem ((c.tc : Thread Cert.Kernel2Ideal.nD Cert.Kernel2Ideal.τ).loc Cert.Kernel2Ideal.main_v7_2) = v4 c
          ∧ r.2.mem ((c.tc : Thread Cert.Kernel2Ideal.nD Cert.Kernel2Ideal.τ).loc Cert.Kernel2Ideal.main_v7_3) = v5 c
          ∧ r.2.mem ((c.tc : Thread Cert.Kernel2Ideal.nD Cert.Kernel2Ideal.τ).loc Cert.Kernel2Ideal.main_v7_4) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_v68) = v2 c
          ∧ r.2.mem ((c.tc : Thread Cert.Reference2Ideal.nD Cert.Reference2Ideal.τ).loc Cert.Reference2Ideal.main_v69) = v3 c
          ∧ r.2.mem ((c.tc : Thread Cert.Reference2Ideal.nD Cert.Reference2Ideal.τ).loc Cert.Reference2Ideal.main_v70) = v4 c
          ∧ r.2.mem ((c.tc : Thread Cert.Reference2Ideal.nD Cert.Reference2Ideal.τ).loc Cert.Reference2Ideal.main_v71) = v5 c
          ∧ r.2.mem ((c.tc : Thread Cert.Reference2Ideal.nD Cert.Reference2Ideal.τ).loc Cert.Reference2Ideal.main_v72) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v1_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal_pre_finite3 [hKernel21Ideal : Cert.Kernel21Ideal.Facts] [hReference21Ideal : Cert.Reference21Ideal.Facts] [hPre_finite3 : Cert.Pre_finite3.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite3 m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v6_0)) (v1 : (c : Dev Cert.Kernel21Ideal.nD) → Buf (Elt Ideal) ((c.tc : Thread Cert.Kernel21Ideal.nD Cert.Kernel21Ideal.τ).loc Cert.Kernel21Ideal.main_v6_3)) (v2 : (c : Dev Cert.Kernel21Ideal.nD) → Buf (Elt Ideal) ((c.tc : Thread Cert.Kernel21Ideal.nD Cert.Kernel21Ideal.τ).loc Cert.Kernel21Ideal.main_v6_1)) (v3 : (c : Dev Cert.Kernel21Ideal.nD) → Buf (Elt Ideal) ((c.tc : Thread Cert.Kernel21Ideal.nD Cert.Kernel21Ideal.τ).loc Cert.Kernel21Ideal.main_v6_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v6_0) = v0 c
          ∧ r.2.mem ((c.tc : Thread Cert.Kernel21Ideal.nD Cert.Kernel21Ideal.τ).loc Cert.Kernel21Ideal.main_v6_3) = v1 c
          ∧ r.2.mem ((c.tc : Thread Cert.Kernel21Ideal.nD Cert.Kernel21Ideal.τ).loc Cert.Kernel21Ideal.main_v6_1) = v2 c
          ∧ r.2.mem ((c.tc : Thread Cert.Kernel21Ideal.nD Cert.Kernel21Ideal.τ).loc Cert.Kernel21Ideal.main_v6_2) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v39) = v0 c
          ∧ r.2.mem ((c.tc : Thread Cert.Reference21Ideal.nD Cert.Reference21Ideal.τ).loc Cert.Reference21Ideal.main_v40) = v1 c
          ∧ r.2.mem ((c.tc : Thread Cert.Reference21Ideal.nD Cert.Reference21Ideal.τ).loc Cert.Reference21Ideal.main_v41) = v2 c
          ∧ r.2.mem ((c.tc : Thread Cert.Reference21Ideal.nD Cert.Reference21Ideal.τ).loc Cert.Reference21Ideal.main_v42) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal_pre_finite4 [hKernel23Ideal : Cert.Kernel23Ideal.Facts] [hReference23Ideal : Cert.Reference23Ideal.Facts] [hPre_finite4 : Cert.Pre_finite4.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite4 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)) (v4 : (c : Dev Cert.Kernel23Ideal.nD) → Buf (Elt Ideal) ((c.tc : Thread Cert.Kernel23Ideal.nD Cert.Kernel23Ideal.τ).loc Cert.Kernel23Ideal.main_v0_4)) (v5 : (c : Dev Cert.Kernel23Ideal.nD) → Buf (Elt Ideal) ((c.tc : Thread Cert.Kernel23Ideal.nD Cert.Kernel23Ideal.τ).loc Cert.Kernel23Ideal.main_v0_5)) (v6 : (c : Dev Cert.Kernel23Ideal.nD) → Buf (Elt Ideal) ((c.tc : Thread Cert.Kernel23Ideal.nD Cert.Kernel23Ideal.τ).loc Cert.Kernel23Ideal.main_v0_6)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_v0_4) = v4 c
          ∧ r.2.mem ((c.tc : Thread Cert.Kernel23Ideal.nD Cert.Kernel23Ideal.τ).loc Cert.Kernel23Ideal.main_v0_5) = v5 c
          ∧ r.2.mem ((c.tc : Thread Cert.Kernel23Ideal.nD Cert.Kernel23Ideal.τ).loc Cert.Kernel23Ideal.main_v0_6) = v6 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v150) = v0 c
          ∧ r.2.mem ((c.tc : Thread Cert.Reference23Ideal.nD Cert.Reference23Ideal.τ).loc Cert.Reference23Ideal.main_v142) = v1 c
          ∧ r.2.mem ((c.tc : Thread Cert.Reference23Ideal.nD Cert.Reference23Ideal.τ).loc Cert.Reference23Ideal.main_v151) = v2 c
          ∧ r.2.mem ((c.tc : Thread Cert.Reference23Ideal.nD Cert.Reference23Ideal.τ).loc Cert.Reference23Ideal.main_v79) = v3 c
          ∧ r.2.mem ((c.tc : Thread Cert.Reference23Ideal.nD Cert.Reference23Ideal.τ).loc Cert.Reference23Ideal.main_v75) = v4 c
          ∧ r.2.mem ((c.tc : Thread Cert.Reference23Ideal.nD Cert.Reference23Ideal.τ).loc Cert.Reference23Ideal.main_v162) = v5 c
          ∧ r.2.mem ((c.tc : Thread Cert.Reference23Ideal.nD Cert.Reference23Ideal.τ).loc Cert.Reference23Ideal.main_v174) = v6 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite3 (hKernel21Ideal := hKernel21Ideal) (hPre_finite3 := hPre_finite3)
    ∧ quiescent_Reference21Ideal (hReference21Ideal := hReference21Ideal)
    ∧ quiescent_Reference21Ideal_pre_finite3 (hReference21Ideal := hReference21Ideal) (hPre_finite3 := hPre_finite3)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite4 (hKernel23Ideal := hKernel23Ideal) (hPre_finite4 := hPre_finite4)
    ∧ quiescent_Reference23Ideal (hReference23Ideal := hReference23Ideal)
    ∧ quiescent_Reference23Ideal_pre_finite4 (hReference23Ideal := hReference23Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite3 (hKernel21Ideal := hKernel21Ideal) (hReference21Ideal := hReference21Ideal) (hPre_finite3 := hPre_finite3)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite4 (hKernel23Ideal := hKernel23Ideal) (hReference23Ideal := hReference23Ideal) (hPre_finite4 := hPre_finite4)
-- ==== Pre_finite.lean ====
abbrev S8x4096x256 : Shape := ⟨3, ![8, 4096, 256]⟩
abbrev S8x4096x128 : Shape := ⟨3, ![8, 4096, 128]⟩
abbrev S4096x1024 : Shape := ⟨2, ![4096, 1024]⟩
abbrev S_ : Shape := ⟨0, ![]⟩

class Facts : Prop where
  bcast_S_S8x4096x256 : S_.BroadcastsInDim S8x4096x256 (![] : Fin 0 → Fin S8x4096x256.rank)
  bcast_S_S8x4096x128 : S_.BroadcastsInDim S8x4096x128 (![] : Fin 0 → Fin S8x4096x128.rank)
  bcast_S_S4096x1024 : S_.BroadcastsInDim S4096x1024 (![] : Fin 0 → Fin S4096x1024.rank)

variable [Facts]

def fn {F : FTy → Type} [FloatOps F] (main_arg0 : FVec F S8x4096x256 .f32) (main_arg1 : FVec F S8x4096x256 .f32) (main_arg2 : FVec F S8x4096x128 .f32) (main_arg3 : FVec F S4096x1024 .f32) : IVec S8x4096x256 1 × IVec S8x4096x256 1 × IVec S8x4096x128 1 × IVec S4096x1024 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_v3 : FVec F S8x4096x256 .f32 := Host.absf main_arg1
  let main_cst_0 : FVec F S_ .f32 := constant S_ .f32 0x7F800000#32
  let main_v4 : FVec F S8x4096x256 .f32 := broadcastInDim S8x4096x256 ![] bcast_S_S8x4096x256 main_cst_0
  let main_v5 : IVec S8x4096x256 1 := cmpf .olt main_v3 main_v4
  let main_v6 : FVec F S8x4096x128 .f32 := Host.absf main_arg2
  let main_cst_1 : FVec F S_ .f32 := constant S_ .f32 0x7F800000#32
  let main_v7 : FVec F S8x4096x128 .f32 := broadcastInDim S8x4096x128 ![] bcast_S_S8x4096x128 main_cst_1
  let main_v8 : IVec S8x4096x128 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite2.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S4096x1024 .f32) (main_arg2 : FVec F S1024 .f32) (main_arg3 : FVec F S1024x4096 .f32) (main_arg4 : FVec F S4096x1024 .f32) : IVec S4096x1024 1 × IVec S4096x1024 1 × IVec S1024 1 × IVec S1024x4096 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite3.lean ====
abbrev S4096x1024 : Shape := ⟨2, ![4096, 1024]⟩
abbrev S1024 : Shape := ⟨1, ![1024]⟩
abbrev S1024x3328 : Shape := ⟨2, ![1024, 3328]⟩
abbrev S4096x512 : Shape := ⟨2, ![4096, 512]⟩
abbrev S4096x768 : Shape := ⟨2, ![4096, 768]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x3328 : S_.BroadcastsInDim S1024x3328 (![] : Fin 0 → Fin S1024x3328.rank)
  bcast_S_S4096x512 : S_.BroadcastsInDim S4096x512 (![] : Fin 0 → Fin S4096x512.rank)
  bcast_S_S4096x768 : S_.BroadcastsInDim S4096x768 (![] : Fin 0 → Fin S4096x768.rank)

variable [Facts]

def fn_part1 {F : FTy → Type} [FloatOps F] (main_arg6 : FVec F S4096x1024 .f32) (main_arg7 : FVec F S4096x1024 .f32) (main_v2 : IVec S4096x1024 1) (main_v5 : IVec S1024 1) (main_v8 : IVec S1024x3328 1) (main_v11 : IVec S4096x512 1) (main_v14 : IVec S4096x768 1) (main_v17 : IVec S4096x1024 1) : IVec S4096x1024 1 × IVec S1024 1 × IVec S1024x3328 1 × IVec S4096x512 1 × IVec S4096x768 1 × IVec S4096x1024 1 × IVec S4096x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S1024 .f32) (main_arg2 : FVec F S1024x3328 .f32) (main_arg3 : FVec F S4096x512 .f32) (main_arg4 : FVec F S4096x768 .f32) (main_arg5 : FVec F S4096x1024 .f32) (main_arg6 : FVec F S4096x1024 .f32) (main_arg7 : FVec F S4096x1024 .f32) : IVec S4096x1024 1 × IVec S1024 1 × IVec S1024x3328 1 × IVec S4096x512 1 × IVec S4096x768 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3328 .f32 := Host.absf main_arg2
  let main_cst_1 : FVec F S_ .f32 := constant S_ .f32 0x7F800000#32
  let main_v7 : FVec F S1024x3328 .f32 := broadcastInDim S1024x3328 ![] bcast_S_S1024x3328 main_cst_1
  let main_v8 : IVec S1024x3328 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x768 .f32 := Host.absf main_arg4
  let main_cst_3 : FVec F S_ .f32 := constant S_ .f32 0x7F800000#32
  let main_v13 : FVec F S4096x768 .f32 := broadcastInDim S4096x768 ![] bcast_S_S4096x768 main_cst_3
  let main_v14 : IVec S4096x768 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_v2 main_v5 main_v8 main_v11 main_v14 main_v17
-- ==== Pre_finite4.lean ====
abbrev S32x64 : Shape := ⟨2, ![32, 64]⟩
abbrev S32x1 : Shape := ⟨2, ![32, 1]⟩
abbrev S512x64 : Shape := ⟨2, ![512, 64]⟩
abbrev S1x2048 : Shape := ⟨2, ![1, 2048]⟩
abbrev S512x1024 : Shape := ⟨2, ![512, 1024]⟩
abbrev S_ : Shape := ⟨0, ![]⟩

class Facts : Prop where
  bcast_S_S1x2048 : S_.BroadcastsInDim S1x2048 (![] : Fin 0 → Fin S1x2048.rank)
  bcast_S_S512x1024 : S_.BroadcastsInDim S512x1024 (![] : Fin 0 → Fin S512x1024.rank)

variable [Facts]

def fn {F : FTy → Type} [FloatOps F] (main_arg0 : FVec F S32x64 .f32) (main_arg1 : FVec F S32x64 .f32) (main_arg2 : FVec F S32x1 .f32) (main_arg3 : FVec F S512x64 .f32) (main_arg4 : FVec F S512x64 .f32) (main_arg5 : FVec F S1x2048 .f32) (main_arg6 : FVec F S1x2048 .f32) (main_arg7 : FVec F S512x1024 .f32) (main_arg8 : FVec F S512x1024 .f32) : IVec S1x2048 1 × IVec S1x2048 1 × IVec S512x1024 1 × IVec S512x1024 1 :=
  let main_v0 : FVec F S1x2048 .f32 := Host.absf main_arg5
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048 .f32 := Host.absf main_arg6
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S512x1024 .f32 := Host.absf main_arg7
  let main_cst_1 : FVec F S_ .f32 := constant S_ .f32 0x7F800000#32
  let main_v7 : FVec F S512x1024 .f32 := broadcastInDim S512x1024 ![] bcast_S_S512x1024 main_cst_1
  let main_v8 : IVec S512x1024 1 := cmpf .olt main_v6 main_v7
  let main_v9 : FVec F S512x1024 .f32 := Host.absf main_arg8
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  (main_v2, main_v5, main_v8, main_v11)
-- ==== Kernel.lean ====
abbrev S8x4096x256 : Shape := ⟨3, ![8, 4096, 256]⟩
abbrev S8x4096x128 : Shape := ⟨3, ![8, 4096, 128]⟩
abbrev S4096x1024 : Shape := ⟨2, ![4096, 1024]⟩
abbrev S8x4x1x1024 : Shape := ⟨4, ![8, 4, 1, 1024]⟩
abbrev S2x1024x256 : Shape := ⟨3, ![2, 1024, 256]⟩
abbrev S2x4096x256 : Shape := ⟨3, ![2, 4096, 256]⟩
abbrev S2x4096x128 : Shape := ⟨3, ![2, 4096, 128]⟩
abbrev S1024x256 : Shape := ⟨2, ![1024, 256]⟩
abbrev S2x1x1x1024 : Shape := ⟨4, ![2, 1, 1, 1024]⟩
abbrev S1x1024x256 : Shape := ⟨3, ![1, 1024, 256]⟩
abbrev S1024x1 : Shape := ⟨2, ![1024, 1]⟩
abbrev S1024x128 : Shape := ⟨2, ![1024, 128]⟩
abbrev S1024x1024 : Shape := ⟨2, ![1024, 1024]⟩
abbrev S1024 : Shape := ⟨1, ![1024]⟩
abbrev S1x1024x128 : Shape := ⟨3, ![1, 1024, 128]⟩
abbrev S1x1024 : Shape := ⟨2, ![1, 1024]⟩
abbrev S1x1x1x1024 : Shape := ⟨4, ![1, 1, 1, 1024]⟩
abbrev S_ : Shape := ⟨0, ![]⟩
abbrev S8x128 : Shape := ⟨2, ![8, 128]⟩
abbrev S1x4096x256 : Shape := ⟨3, ![1, 4096, 256]⟩
abbrev S4096x128 : Shape := ⟨2, ![4096, 128]⟩
abbrev S1x4x1x1024 : Shape := ⟨4, ![1, 4, 1, 1024]⟩
abbrev S8x1024 : Shape := ⟨2, ![8, 1024]⟩

abbrev nBuf : Space → Nat
  | .hbm => 14
  | .vmem => 28
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x128, .f32⟩
  | .hbm, ⟨3, _⟩ => ⟨S4096x1024, .f32⟩
  | .hbm, ⟨4, _⟩ => ⟨S8x4096x256, .bf16⟩
  | .hbm, ⟨5, _⟩ => ⟨S8x4096x256, .bf16⟩
  | .hbm, ⟨6, _⟩ => ⟨S8x4096x128, .bf16⟩
  | .hbm, ⟨7, _⟩ => ⟨S4096x1024, .f32⟩
  | .hbm, ⟨8, _⟩ => ⟨S8x4x1x1024, .f32⟩
  | .hbm, ⟨9, _⟩ => ⟨S_, .f32⟩
  | .hbm, ⟨10, _⟩ => ⟨S8x128, .f32⟩
  | .hbm, ⟨11, _⟩ => ⟨S8x4096x256, .f32⟩
  | .hbm, ⟨12, _⟩ => ⟨S8x4096x256, .f32⟩
  | .hbm, ⟨13, _⟩ => ⟨S8x4096x128, .f32⟩
  | .local _ .vmem, ⟨0, _⟩ => ⟨S2x1024x256, .bf16⟩
  | .local _ .vmem, ⟨1, _⟩ => ⟨S2x1024x256, .bf16⟩
  | .local _ .vmem, ⟨2, _⟩ => ⟨S2x4096x256, .bf16⟩
  | .local _ .vmem, ⟨3, _⟩ => ⟨S2x4096x256, .bf16⟩
  | .local _ .vmem, ⟨4, _⟩ => ⟨S2x4096x128, .bf16⟩
  | .local _ .vmem, ⟨5, _⟩ => ⟨S2x4096x128, .bf16⟩
  | .local _ .vmem, ⟨6, _⟩ => ⟨S1024x256, .f32⟩
  | .local _ .vmem, ⟨7, _⟩ => ⟨S1024x256, .f32⟩
  | .local _ .vmem, ⟨8, _⟩ => ⟨S2x1x1x1024, .f32⟩
  | .local _ .vmem, ⟨9, _⟩ => ⟨S2x1x1x1024, .f32⟩
  | .local _ .vmem, ⟨10, _⟩ => ⟨S1x4096x256, .bf16⟩
  | .local _ .vmem, ⟨11, _⟩ => ⟨S1x4096x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x128, .bf16⟩
  | .local _ .vmem, ⟨15, _⟩ => ⟨S1x1024x128, .bf16⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S1x4x1x1024, .f32⟩
  | .local _ .vmem, ⟨21, _⟩ => ⟨S1x4x1x1024, .f32⟩
  | .local _ .vmem, ⟨22, _⟩ => ⟨S1x4096x256, .f32⟩
  | .local _ .vmem, ⟨23, _⟩ => ⟨S1x4096x256, .f32⟩
  | .local _ .vmem, ⟨24, _⟩ => ⟨S1x1024x256, .f32⟩
  | .local _ .vmem, ⟨25, _⟩ => ⟨S1x1024x256, .f32⟩
  | .local _ .vmem, ⟨26, _⟩ => ⟨S1x1024x128, .f32⟩
  | .local _ .vmem, ⟨27, _⟩ => ⟨S1x1024x128, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_cst : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_9 : BitVec 32 := 1#32
  ⟨c0_i32, v14, c1_i32_9⟩
def k0_mult1 (i : grid0.Coords) (k0_t1 : Fin (k0_t1_loop i).trips) : BitVec 32 :=
  let c0_i32 : BitVec 32 := 0#32
  let c1_i32_9 : BitVec 32 := 1#32
  let arg7 : BitVec 32 := Scf.iv c0_i32 c1_i32_9 k0_t1
  let c1024_i32_44 : BitVec 32 := 1024#32
  let v111 : BitVec 32 := Scalar.muli arg7 c1024_i32_44
  v111
def k0_off1 (i : grid0.Coords) (k0_t1 : Fin (k0_t1_loop i).trips) : Fin 3 → Nat :=
  let c0_45 : Index := 0#32
  let c0_i32 : BitVec 32 := 0#32
  let c1_i32_9 : BitVec 32 := 1#32
  let arg7 : BitVec 32 := Scf.iv c0_i32 c1_i32_9 k0_t1
  let c1024_i32_44 : BitVec 32 := 1024#32
  let v111 : BitVec 32 := Scalar.muli arg7 c1024_i32_44
  let v112 : BitVec 32 := v111
  let v113 : Index := Scalar.indexCast v112
  let c0_46 : Index := 0#32
  ![0, v113.toNat, 0]
def k0_off2 (i : grid0.Coords) (k0_t1 : Fin (k0_t1_loop i).trips) : Fin 3 → Nat :=
  let c0_50 : Index := 0#32
  let c0_i32 : BitVec 32 := 0#32
  let c1_i32_9 : BitVec 32 := 1#32
  let arg7 : BitVec 32 := Scf.iv c0_i32 c1_i32_9 k0_t1
  let c1024_i32_44 : BitVec 32 := 1024#32
  let v111 : BitVec 32 := Scalar.muli arg7 c1024_i32_44
  let v112 : BitVec 32 := v111
  let v131 : Index := Scalar.indexCast v112
  let c0_51 : Index := 0#32
  ![0, v131.toNat, 0]
def k0_off3 (i : grid0.Coords) (k0_t1 : Fin (k0_t1_loop i).trips) : Fin 3 → Nat :=
  let c1_53 : Index := 1#32
  let c0_i32 : BitVec 32 := 0#32
  let c1_i32_9 : BitVec 32 := 1#32
  let arg7 : BitVec 32 := Scf.iv c0_i32 c1_i32_9 k0_t1
  let c1024_i32_44 : BitVec 32 := 1024#32
  let v111 : BitVec 32 := Scalar.muli arg7 c1024_i32_44
  let v112 : BitVec 32 := v111
  let v137 : Index := Scalar.indexCast v112
  let c0_54 : Index := 0#32
  ![1, v137.toNat, 0]
def k0_off4 (i : grid0.Coords) (k0_t1 : Fin (k0_t1_loop i).trips) : Fin 3 → Nat :=
  let c1_58 : Index := 1#32
  let c0_i32 : BitVec 32 := 0#32
  let c1_i32_9 : BitVec 32 := 1#32
  let arg7 : BitVec 32 := Scf.iv c0_i32 c1_i32_9 k0_t1
  let c1024_i32_44 : BitVec 32 := 1024#32
  let v111 : BitVec 32 := Scalar.muli arg7 c1024_i32_44
  let v112 : BitVec 32 := v111
  let v155 : Index := Scalar.indexCast v112
  let c0_59 : Index := 0#32
  ![1, v155.toNat, 0]
@[reducible] def k0_t2_loop (i : grid0.Coords) : Scf.Loop 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_10 : BitVec 32 := 1#32
  ⟨v14, v11, c1_i32_10⟩
def k0_mult2 (i : grid0.Coords) (k0_t2 : Fin (k0_t2_loop i).trips) : BitVec 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c1024_i32_44 : BitVec 32 := 1024#32
  let v111 : BitVec 32 := Scalar.muli arg7 c1024_i32_44
  v111
def k0_off5 (i : grid0.Coords) (k0_t2 : Fin (k0_t2_loop i).trips) : Fin 3 → Nat :=
  let c0_45 : Index := 0#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c1024_i32_44 : BitVec 32 := 1024#32
  let v111 : BitVec 32 := Scalar.muli arg7 c1024_i32_44
  let v112 : BitVec 32 := v111
  let v113 : Index := Scalar.indexCast v112
  let c0_46 : Index := 0#32
  ![0, v113.toNat, 0]
def k0_off6 (i : grid0.Coords) (k0_t2 : Fin (k0_t2_loop i).trips) : Fin 3 → Nat :=
  let c0_50 : Index := 0#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c1024_i32_44 : BitVec 32 := 1024#32
  let v111 : BitVec 32 := Scalar.muli arg7 c1024_i32_44
  let v112 : BitVec 32 := v111
  let v131 : Index := Scalar.indexCast v112
  let c0_51 : Index := 0#32
  ![0, v131.toNat, 0]
def k0_off7 (i : grid0.Coords) (k0_t2 : Fin (k0_t2_loop i).trips) : Fin 3 → Nat :=
  let c1_53 : Index := 1#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c1024_i32_44 : BitVec 32 := 1024#32
  let v111 : BitVec 32 := Scalar.muli arg7 c1024_i32_44
  let v112 : BitVec 32 := v111
  let v137 : Index := Scalar.indexCast v112
  let c0_54 : Index := 0#32
  ![1, v137.toNat, 0]
def k0_off8 (i : grid0.Coords) (k0_t2 : Fin (k0_t2_loop i).trips) : Fin 3 → Nat :=
  let c1_58 : Index := 1#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c1024_i32_44 : BitVec 32 := 1024#32
  let v111 : BitVec 32 := Scalar.muli arg7 c1024_i32_44
  let v112 : BitVec 32 := v111
  let v155 : Index := Scalar.indexCast v112
  let c0_59 : Index := 0#32
  ![1, v155.toNat, 0]
def k0_mult3 (i : grid0.Coords) : BitVec 32 :=
  let arg1 : BitVec 32 := BitVec.ofNat 32 (i 1).val
  let c1024_i32 : BitVec 32 := 1024#32
  let v17 : BitVec 32 := Scalar.muli arg1 c1024_i32
  v17
def k0_off9 (i : grid0.Coords) : Fin 3 → Nat :=
  let c0_11 : Index := 0#32
  let arg1 : BitVec 32 := BitVec.ofNat 32 (i 1).val
  let c1024_i32 : BitVec 32 := 1024#32
  let v17 : BitVec 32 := Scalar.muli arg1 c1024_i32
  let v18 : BitVec 32 := v17
  let v19 : Index := Scalar.indexCast v18
  let c0_12 : Index := 0#32
  ![0, v19.toNat, 0]
def k0_off10 (i : grid0.Coords) : Fin 3 → Nat :=
  let c0_17 : Index := 0#32
  let arg1 : BitVec 32 := BitVec.ofNat 32 (i 1).val
  let c1024_i32 : BitVec 32 := 1024#32
  let v17 : BitVec 32 := Scalar.muli arg1 c1024_i32
  let v18 : BitVec 32 := v17
  let v42 : Index := Scalar.indexCast v18
  let c0_18 : Index := 0#32
  ![0, v42.toNat, 0]
def k0_off11 (i : grid0.Coords) : Fin 3 → Nat :=
  let c1_20 : Index := 1#32
  let arg1 : BitVec 32 := BitVec.ofNat 32 (i 1).val
  let c1024_i32 : BitVec 32 := 1024#32
  let v17 : BitVec 32 := Scalar.muli arg1 c1024_i32
  let v18 : BitVec 32 := v17
  let v48 : Index := Scalar.indexCast v18
  let c0_21 : Index := 0#32
  ![1, v48.toNat, 0]
def k0_off12 (i : grid0.Coords) : Fin 3 → Nat :=
  let c1_26 : Index := 1#32
  let arg1 : BitVec 32 := BitVec.ofNat 32 (i 1).val
  let c1024_i32 : BitVec 32 := 1024#32
  let v17 : BitVec 32 := Scalar.muli arg1 c1024_i32
  let v18 : BitVec 32 := v17
  let v71 : Index := Scalar.indexCast v18
  let c0_27 : Index := 0#32
  ![1, v71.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 4], ![false, false]⟩

def k1_mult1 (i : grid1.Coords) : BitVec 32 :=
  let arg1 : BitVec 32 := BitVec.ofNat 32 (i 1).val
  let c1024_i32 : BitVec 32 := 1024#32
  let v11 : BitVec 32 := Scalar.muli arg1 c1024_i32
  v11
def k1_off1 (i : grid1.Coords) : Fin 3 → Nat :=
  let c0_8 : Index := 0#32
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_9 : Index := 0#32
  ![0, v13.toNat, 0]
def k1_off2 (i : grid1.Coords) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v16 : Index := Scalar.indexCast v12
  let c0_10 : Index := 0#32
  ![v16.toNat, 0]
def k1_off3 (i : grid1.Coords) : Fin 4 → Nat :=
  let c0_18 : Index := 0#32
  let arg1 : BitVec 32 := BitVec.ofNat 32 (i 1).val
  let v44 : Index := Scalar.indexCast arg1
  let c0_19 : Index := 0#32
  let c0_20 : Index := 0#32
  ![0, v44.toNat, 0, 0]
@[reducible] def k1_t1_loop (i : grid1.Coords) : Scf.Loop 32 :=
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let c1_i32_30 : BitVec 32 := 1#32
  ⟨v10, v73, c1_i32_30⟩
def k1_mult2 (i : grid1.Coords) (k1_t1 : Fin (k1_t1_loop i).trips) : BitVec 32 :=
  let arg1 : BitVec 32 := BitVec.ofNat 32 (i 1).val
  let c1_i32 : BitVec 32 := 1#32
  let v10 : BitVec 32 := Scalar.addi arg1 c1_i32
  let c1_i32_30 : BitVec 32 := 1#32
  let arg12 : BitVec 32 := Scf.iv v10 c1_i32_30 k1_t1
  let c1024_i32_38 : BitVec 32 := 1024#32
  let v82 : BitVec 32 := Scalar.muli arg12 c1024_i32_38
  v82
def k1_off4 (i : grid1.Coords) (k1_t1 : Fin (k1_t1_loop i).trips) : Fin 3 → Nat :=
  let c0_39 : Index := 0#32
  let arg1 : BitVec 32 := BitVec.ofNat 32 (i 1).val
  let c1_i32 : BitVec 32 := 1#32
  let v10 : BitVec 32 := Scalar.addi arg1 c1_i32
  let c1_i32_30 : BitVec 32 := 1#32
  let arg12 : BitVec 32 := Scf.iv v10 c1_i32_30 k1_t1
  let c1024_i32_38 : BitVec 32 := 1024#32
  let v82 : BitVec 32 := Scalar.muli arg12 c1024_i32_38
  let v83 : BitVec 32 := v82
  let v84 : Index := Scalar.indexCast v83
  let c0_40 : Index := 0#32
  ![0, v84.toNat, 0]
def k1_off5 (i : grid1.Coords) (k1_t1 : Fin (k1_t1_loop i).trips) : Fin 2 → Nat :=
  let arg1 : BitVec 32 := BitVec.ofNat 32 (i 1).val
  let c1_i32 : BitVec 32 := 1#32
  let v10 : BitVec 32 := Scalar.addi arg1 c1_i32
  let c1_i32_30 : BitVec 32 := 1#32
  let arg12 : BitVec 32 := Scf.iv v10 c1_i32_30 k1_t1
  let c1024_i32_38 : BitVec 32 := 1024#32
  let v82 : BitVec 32 := Scalar.muli arg12 c1024_i32_38
  let v83 : BitVec 32 := v82
  let v87 : Index := Scalar.indexCast v83
  let c0_41 : Index := 0#32
  ![v87.toNat, 0]
def k1_off6 (i : grid1.Coords) (k1_t1 : Fin (k1_t1_loop i).trips) : Fin 4 → Nat :=
  let c0_48 : Index := 0#32
  let arg1 : BitVec 32 := BitVec.ofNat 32 (i 1).val
  let c1_i32 : BitVec 32 := 1#32
  let v10 : BitVec 32 := Scalar.addi arg1 c1_i32
  let c1_i32_30 : BitVec 32 := 1#32
  let arg12 : BitVec 32 := Scf.iv v10 c1_i32_30 k1_t1
  let v110 : Index := Scalar.indexCast arg12
  let c0_49 : Index := 0#32
  let c0_50 : Index := 0#32
  ![0, v110.toNat, 0, 0]
@[reducible] def k1_t2_loop (i : grid1.Coords) : Scf.Loop 32 :=
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let v70 : BitVec 32 := Scalar.addi v10 v69
  let c1_i32_31 : BitVec 32 := 1#32
  ⟨v73, v70, c1_i32_31⟩
def k1_mult3 (i : grid1.Coords) (k1_t2 : Fin (k1_t2_loop i).trips) : BitVec 32 :=
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let c1_i32_31 : BitVec 32 := 1#32
  let arg12 : BitVec 32 := Scf.iv v73 c1_i32_31 k1_t2
  let c1024_i32_38 : BitVec 32 := 1024#32
  let v82 : BitVec 32 := Scalar.muli arg12 c1024_i32_38
  v82
def k1_off7 (i : grid1.Coords) (k1_t2 : Fin (k1_t2_loop i).trips) : Fin 3 → Nat :=
  let c0_39 : Index := 0#32
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let c1_i32_31 : BitVec 32 := 1#32
  let arg12 : BitVec 32 := Scf.iv v73 c1_i32_31 k1_t2
  let c1024_i32_38 : BitVec 32 := 1024#32
  let v82 : BitVec 32 := Scalar.muli arg12 c1024_i32_38
  let v83 : BitVec 32 := v82
  let v84 : Index := Scalar.indexCast v83
  let c0_40 : Index := 0#32
  ![0, v84.toNat, 0]
def k1_off8 (i : grid1.Coords) (k1_t2 : Fin (k1_t2_loop i).trips) : Fin 2 → Nat :=
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let c1_i32_31 : BitVec 32 := 1#32
  let arg12 : BitVec 32 := Scf.iv v73 c1_i32_31 k1_t2
  let c1024_i32_38 : BitVec 32 := 1024#32
  let v82 : BitVec 32 := Scalar.muli arg12 c1024_i32_38
  let v83 : BitVec 32 := v82
  let v87 : Index := Scalar.indexCast v83
  let c0_41 : Index := 0#32
  ![v87.toNat, 0]
def k1_off9 (i : grid1.Coords) (k1_t2 : Fin (k1_t2_loop i).trips) : Fin 4 → Nat :=
  let c0_48 : Index := 0#32
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let c1_i32_31 : BitVec 32 := 1#32
  let arg12 : BitVec 32 := Scf.iv v73 c1_i32_31 k1_t2
  let v110 : Index := Scalar.indexCast arg12
  let c0_49 : Index := 0#32
  let c0_50 : Index := 0#32
  ![0, v110.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x4x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x4096x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== ReferenceIdeal.lean ====
abbrev S8x4096x256 : Shape := ⟨3, ![8, 4096, 256]⟩
abbrev S8x4096x128 : Shape := ⟨3, ![8, 4096, 128]⟩
abbrev S4096x1024 : Shape := ⟨2, ![4096, 1024]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x128, .f32⟩
  | .hbm, ⟨3, _⟩ => ⟨S4096x1024, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S8x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .i1⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .i1⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S8x4096, .f32⟩
  | .hbm, ⟨43, _⟩ => ⟨S8x4096x1, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x128x4096, .f32⟩
  | .hbm, ⟨57, _⟩ => ⟨S4096x8x128, .f32⟩
  | .hbm, ⟨58, _⟩ => ⟨S4096x1024, .f32⟩
  | .hbm, ⟨59, _⟩ => ⟨S4096x8x128, .f32⟩
  | .hbm, ⟨60, _⟩ => ⟨S8x128x4096, .f32⟩
  | .hbm, ⟨61, _⟩ => ⟨S8x4096x4096, .f32⟩
  | .hbm, ⟨62, _⟩ => ⟨S8x128x4096, .f32⟩
  | .hbm, ⟨63, _⟩ => ⟨S8x4096x128, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S8x4096x1, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096x4096, .f32⟩
  | .hbm, ⟨80, _⟩ => ⟨S8x4096x4096, .f32⟩
  | .hbm, ⟨81, _⟩ => ⟨S8x4096x256, .f32⟩
  | .hbm, ⟨82, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_v7_1 : Ref sig .tc := ⟨.hbm, 13, rfl⟩
abbrev main_call0_v2 : Ref sig .tc := ⟨.hbm, 14, rfl⟩
abbrev main_v7_0 : Ref sig .tc := ⟨.hbm, 15, rfl⟩
abbrev main_call0_cst : Ref sig .tc := ⟨.hbm, 16, rfl⟩
abbrev main_v7_2 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call1_cst : Ref sig .tc := ⟨.hbm, 78, rfl⟩
abbrev main_call1_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S4x1024x1024 : Shape := ⟨3, ![4, 1024, 1024]⟩
abbrev S1024x4x1024 : Shape := ⟨3, ![1024, 4, 1024]⟩
abbrev S_ : Shape := ⟨0, ![]⟩
abbrev S4x512x1024 : Shape := ⟨3, ![4, 512, 1024]⟩
abbrev S4x2560x1024 : Shape := ⟨3, ![4, 2560, 1024]⟩
abbrev S1x1024 : Shape := ⟨2, ![1, 1024]⟩
abbrev S4096x4096 : Shape := ⟨2, ![4096, 4096]⟩
abbrev S8x128 : Shape := ⟨2, ![8, 128]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 20
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4x1024x1024, .f32⟩
  | .hbm, ⟨6, _⟩ => ⟨S1024x4x1024, .f32⟩
  | .hbm, ⟨7, _⟩ => ⟨S4x1024x1024, .f32⟩
  | .hbm, ⟨8, _⟩ => ⟨S_, .f32⟩
  | .hbm, ⟨9, _⟩ => ⟨S4x512x1024, .f32⟩
  | .hbm, ⟨10, _⟩ => ⟨S4x2560x1024, .f32⟩
  | .hbm, ⟨11, _⟩ => ⟨S4x2560x1024, .bf16⟩
  | .hbm, ⟨12, _⟩ => ⟨S1x1024, .f32⟩
  | .hbm, ⟨13, _⟩ => ⟨S4096x1024, .f32⟩
  | .hbm, ⟨14, _⟩ => ⟨S4096x1024, .bf16⟩
  | .hbm, ⟨15, _⟩ => ⟨S4096x4096, .bf16⟩
  | .hbm, ⟨16, _⟩ => ⟨S4096x4096, .bf16⟩
  | .hbm, ⟨17, _⟩ => ⟨S4096x1024, .bf16⟩
  | .hbm, ⟨18, _⟩ => ⟨S8x128, .f32⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x1024x1024, .bf16⟩
  | .local _ .vmem, ⟨6, _⟩ => ⟨S4x1024x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .bf16⟩
  | .local _ .vmem, ⟨16, _⟩ => ⟨S256x1024, .bf16⟩
  | .local _ .vmem, ⟨17, _⟩ => ⟨S8x128, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev main_v7_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v75 : BitVec 32 := Scalar.extui v0
  let c0_i32_49 : BitVec 32 := 0#32
  let v76 : BitVec 1 := Scalar.cmpi .ne v75 c0_i32_49
  v76

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v77 : BitVec 1 := Scalar.xori v0 v_true
  let v78 : BitVec 32 := Scalar.extui v77
  let c0_i32_50 : BitVec 32 := 0#32
  let v79 : BitVec 1 := Scalar.cmpi .ne v78 c0_i32_50
  v79

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v160 : BitVec 32 := Scalar.extui v0
  let c0_i32_107 : BitVec 32 := 0#32
  let v161 : BitVec 1 := Scalar.cmpi .ne v160 c0_i32_107
  v161

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_108 : BitVec 1 := 1#1
  let v162 : BitVec 1 := Scalar.xori v0 true_108
  let v163 : BitVec 32 := Scalar.extui v162
  let c0_i32_109 : BitVec 32 := 0#32
  let v164 : BitVec 1 := Scalar.cmpi .ne v163 c0_i32_109
  v164

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x128 : Shape := ⟨2, ![8, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S8x128, .f32⟩
  | .hbm, ⟨95, _⟩ => ⟨S4096x1024, .f32⟩
  | .hbm, ⟨96, _⟩ => ⟨S1x1024, .f32⟩
  | .hbm, ⟨97, _⟩ => ⟨S4096x1024, .bf16⟩
  | .hbm, ⟨98, _⟩ => ⟨S4096x4096, .bf16⟩
  | .hbm, ⟨99, _⟩ => ⟨S4096x4096, .bf16⟩
  | .hbm, ⟨100, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_cst_11 : Ref sig .tc := ⟨.hbm, 54, rfl⟩
abbrev main_cst_12 : Ref sig .tc := ⟨.hbm, 55, rfl⟩
abbrev main_v35 : Ref sig .tc := ⟨.hbm, 56, rfl⟩
abbrev main_v36 : Ref sig .tc := ⟨.hbm, 57, rfl⟩
abbrev main_cst_13 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_14 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_15 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_18 : Ref sig .tc := ⟨.hbm, 84, rfl⟩
abbrev main_v58 : Ref sig .tc := ⟨.hbm, 85, rfl⟩
abbrev main_v59 : Ref sig .tc := ⟨.hbm, 86, rfl⟩
abbrev main_cst_19 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4x2560x1024 : Shape := ⟨3, ![4, 2560, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4x2560x1024, .f32⟩
  | .hbm, ⟨3, _⟩ => ⟨S4096x4096, .bf16⟩
  | .hbm, ⟨4, _⟩ => ⟨S4096x1024, .bf16⟩
  | .hbm, ⟨5, _⟩ => ⟨S4x2560x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S4x2560x1024 : Shape := ⟨3, ![4, 2560, 1024]⟩
abbrev S4x1024x1024 : Shape := ⟨3, ![4, 1024, 1024]⟩
abbrev S4x1536x1024 : Shape := ⟨3, ![4, 1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4x2560x1024, .f32⟩
  | .hbm, ⟨3, _⟩ => ⟨S4096x4096, .f32⟩
  | .hbm, ⟨4, _⟩ => ⟨S4096x1024, .f32⟩
  | .hbm, ⟨5, _⟩ => ⟨S4x1024x1024, .f32⟩
  | .hbm, ⟨6, _⟩ => ⟨S4x1536x1024, .f32⟩
  | .hbm, ⟨7, _⟩ => ⟨S4x2560x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x2560x1024 : Shape := ⟨3, ![4, 2560, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x2560x1024, .f32⟩
  | .hbm, ⟨3, _⟩ => ⟨S4096x1024, .bf16⟩
  | .hbm, ⟨4, _⟩ => ⟨S4096x4096, .bf16⟩
  | .hbm, ⟨5, _⟩ => ⟨S4x2560x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S4x2560x1024 : Shape := ⟨3, ![4, 2560, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x512x1024 : Shape := ⟨3, ![4, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x2560x1024, .f32⟩
  | .hbm, ⟨3, _⟩ => ⟨S1024x4096, .f32⟩
  | .hbm, ⟨4, _⟩ => ⟨S1024x4096, .f32⟩
  | .hbm, ⟨5, _⟩ => ⟨S1024x4x1024, .f32⟩
  | .hbm, ⟨6, _⟩ => ⟨S4x1024x1024, .f32⟩
  | .hbm, ⟨7, _⟩ => ⟨S4x1024x1024, .f32⟩
  | .hbm, ⟨8, _⟩ => ⟨S4x512x1024, .f32⟩
  | .hbm, ⟨9, _⟩ => ⟨S4x2560x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S4x2560x1024 : Shape := ⟨3, ![4, 2560, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x2560x1024, .f32⟩
  | .hbm, ⟨3, _⟩ => ⟨S4096x1024, .bf16⟩
  | .hbm, ⟨4, _⟩ => ⟨S4096x1024, .bf16⟩
  | .hbm, ⟨5, _⟩ => ⟨S4x2560x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S1x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg1
  let c0_i32 : BitVec 32 := 0#32
  let c0_i32_0 : BitVec 32 := 0#32
  ![arg0.toNat, v0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4x2560x1024 : Shape := ⟨3, ![4, 2560, 1024]⟩
abbrev S4x2304x1024 : Shape := ⟨3, ![4, 2304, 1024]⟩
abbrev S1024x4096 : Shape := ⟨2, ![1024, 4096]⟩
abbrev S1024x1024 : Shape := ⟨2, ![1024, 1024]⟩
abbrev S4x256x1024 : Shape := ⟨3, ![4, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x2560x1024, .f32⟩
  | .hbm, ⟨3, _⟩ => ⟨S4x2304x1024, .f32⟩
  | .hbm, ⟨4, _⟩ => ⟨S1024x4096, .f32⟩
  | .hbm, ⟨5, _⟩ => ⟨S1024x1024, .f32⟩
  | .hbm, ⟨6, _⟩ => ⟨S4x256x1024, .f32⟩
  | .hbm, ⟨7, _⟩ => ⟨S4x2560x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S4x2560x1024 : Shape := ⟨3, ![4, 2560, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x2560x1024, .f32⟩
  | .hbm, ⟨3, _⟩ => ⟨S4096x1024, .bf16⟩
  | .hbm, ⟨4, _⟩ => ⟨S4096x1024, .bf16⟩
  | .hbm, ⟨5, _⟩ => ⟨S4x2560x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S1x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4x2560x1024 : Shape := ⟨3, ![4, 2560, 1024]⟩
abbrev S4x2048x1024 : Shape := ⟨3, ![4, 2048, 1024]⟩
abbrev S1024x4096 : Shape := ⟨2, ![1024, 4096]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x2560x1024, .f32⟩
  | .hbm, ⟨3, _⟩ => ⟨S4x2048x1024, .f32⟩
  | .hbm, ⟨4, _⟩ => ⟨S1024x4096, .f32⟩
  | .hbm, ⟨5, _⟩ => ⟨S1024x1024, .f32⟩
  | .hbm, ⟨6, _⟩ => ⟨S4x256x1024, .f32⟩
  | .hbm, ⟨7, _⟩ => ⟨S4x256x1024, .f32⟩
  | .hbm, ⟨8, _⟩ => ⟨S4x2560x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S4096x3328 : Shape := ⟨2, ![4096, 3328]⟩
abbrev S1024x3328 : Shape := ⟨2, ![1024, 3328]⟩
abbrev S1024x512 : Shape := ⟨2, ![1024, 512]⟩
abbrev S512x3328 : Shape := ⟨2, ![512, 3328]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x3328, .f32⟩
  | .hbm, ⟨2, _⟩ => ⟨S4096x1024, .bf16⟩
  | .hbm, ⟨3, _⟩ => ⟨S4096x3328, .bf16⟩
  | .hbm, ⟨4, _⟩ => ⟨S1024x3328, .f32⟩
  | .local _ .vmem, ⟨0, _⟩ => ⟨S1024x512, .bf16⟩
  | .local _ .vmem, ⟨1, _⟩ => ⟨S1024x512, .bf16⟩
  | .local _ .vmem, ⟨2, _⟩ => ⟨S1024x3328, .bf16⟩
  | .local _ .vmem, ⟨3, _⟩ => ⟨S1024x3328, .bf16⟩
  | .local _ .vmem, ⟨4, _⟩ => ⟨S512x3328, .f32⟩
  | .local _ .vmem, ⟨5, _⟩ => ⟨S512x3328, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S4096x3328 : Shape := ⟨2, ![4096, 3328]⟩
abbrev S1024x4096 : Shape := ⟨2, ![1024, 4096]⟩
abbrev S1024x3328 : Shape := ⟨2, ![1024, 3328]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3328, .f32⟩
  | .hbm, ⟨2, _⟩ => ⟨S1024x4096, .f32⟩
  | .hbm, ⟨3, _⟩ => ⟨S1024x3328, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S4096x384 : Shape := ⟨2, ![4096, 384]⟩
abbrev S4096x2048 : Shape := ⟨2, ![4096, 2048]⟩
abbrev S384x2048 : Shape := ⟨2, ![384, 2048]⟩
abbrev S1024x384 : Shape := ⟨2, ![1024, 384]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x384, .f32⟩
  | .hbm, ⟨1, _⟩ => ⟨S4096x2048, .f32⟩
  | .hbm, ⟨2, _⟩ => ⟨S4096x384, .bf16⟩
  | .hbm, ⟨3, _⟩ => ⟨S4096x2048, .bf16⟩
  | .hbm, ⟨4, _⟩ => ⟨S384x2048, .f32⟩
  | .local _ .vmem, ⟨0, _⟩ => ⟨S1024x384, .bf16⟩
  | .local _ .vmem, ⟨1, _⟩ => ⟨S1024x384, .bf16⟩
  | .local _ .vmem, ⟨2, _⟩ => ⟨S1024x2048, .bf16⟩
  | .local _ .vmem, ⟨3, _⟩ => ⟨S1024x2048, .bf16⟩
  | .local _ .vmem, ⟨4, _⟩ => ⟨S384x2048, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S384x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S4096x384 : Shape := ⟨2, ![4096, 384]⟩
abbrev S4096x2048 : Shape := ⟨2, ![4096, 2048]⟩
abbrev S384x4096 : Shape := ⟨2, ![384, 4096]⟩
abbrev S384x2048 : Shape := ⟨2, ![384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x2048, .f32⟩
  | .hbm, ⟨2, _⟩ => ⟨S384x4096, .f32⟩
  | .hbm, ⟨3, _⟩ => ⟨S384x2048, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4096x512 : Shape := ⟨2, ![4096, 512]⟩
abbrev S4x384x512 : Shape := ⟨3, ![4, 384, 512]⟩
abbrev S2048x128 : Shape := ⟨2, ![2048, 128]⟩
abbrev S2048x512 : Shape := ⟨2, ![2048, 512]⟩
abbrev S1x128x512 : Shape := ⟨3, ![1, 128, 512]⟩
abbrev S128x512 : Shape := ⟨2, ![128, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4x384x512, .f32⟩
  | .hbm, ⟨3, _⟩ => ⟨S4096x512, .bf16⟩
  | .hbm, ⟨4, _⟩ => ⟨S4096x512, .bf16⟩
  | .hbm, ⟨5, _⟩ => ⟨S4x384x512, .f32⟩
  | .local _ .vmem, ⟨0, _⟩ => ⟨S2048x128, .bf16⟩
  | .local _ .vmem, ⟨1, _⟩ => ⟨S2048x128, .bf16⟩
  | .local _ .vmem, ⟨2, _⟩ => ⟨S2048x512, .bf16⟩
  | .local _ .vmem, ⟨3, _⟩ => ⟨S2048x512, .bf16⟩
  | .local _ .vmem, ⟨4, _⟩ => ⟨S1x128x512, .f32⟩
  | .local _ .vmem, ⟨5, _⟩ => ⟨S1x128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x512 : Shape := ⟨2, ![4096, 512]⟩
abbrev S4x384x512 : Shape := ⟨3, ![4, 384, 512]⟩
abbrev S4x256x512 : Shape := ⟨3, ![4, 256, 512]⟩
abbrev S512x4096 : Shape := ⟨2, ![512, 4096]⟩
abbrev S512x512 : Shape := ⟨2, ![512, 512]⟩
abbrev S4x128x512 : Shape := ⟨3, ![4, 128, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4x384x512, .f32⟩
  | .hbm, ⟨3, _⟩ => ⟨S4x256x512, .f32⟩
  | .hbm, ⟨4, _⟩ => ⟨S512x4096, .f32⟩
  | .hbm, ⟨5, _⟩ => ⟨S512x512, .f32⟩
  | .hbm, ⟨6, _⟩ => ⟨S4x128x512, .f32⟩
  | .hbm, ⟨7, _⟩ => ⟨S4x384x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x512 : Shape := ⟨2, ![4096, 512]⟩
abbrev S4096x1024 : Shape := ⟨2, ![4096, 1024]⟩
abbrev S4x512x256 : Shape := ⟨3, ![4, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S4x512x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x512 : Shape := ⟨2, ![4096, 512]⟩
abbrev S4096x1024 : Shape := ⟨2, ![4096, 1024]⟩
abbrev S512x4096 : Shape := ⟨2, ![512, 4096]⟩
abbrev S512x1024 : Shape := ⟨2, ![512, 1024]⟩
abbrev S512x4x256 : Shape := ⟨3, ![512, 4, 256]⟩
abbrev S4x512x256 : Shape := ⟨3, ![4, 512, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x4096, .f32⟩
  | .hbm, ⟨3, _⟩ => ⟨S512x1024, .f32⟩
  | .hbm, ⟨4, _⟩ => ⟨S512x4x256, .f32⟩
  | .hbm, ⟨5, _⟩ => ⟨S4x512x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S144x1024 : Shape := ⟨2, ![144, 1024]⟩
abbrev S_ : Shape := ⟨0, ![]⟩
abbrev S8x128 : Shape := ⟨2, ![8, 128]⟩
abbrev S16x1024 : Shape := ⟨2, ![16, 1024]⟩

abbrev nBuf : Space → Nat
  | .hbm => 10
  | .vmem => 16
  | .smem => 0
  | _ => 0

abbrev bufTy : (tb : Table) → Fin (tcTables nBuf tb) → BufTy
  | .hbm, ⟨0, _⟩ => ⟨S144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S8x128, .f32⟩
  | .hbm, ⟨6, _⟩ => ⟨S144x1024, .f32⟩
  | .hbm, ⟨7, _⟩ => ⟨S144x1024, .f32⟩
  | .hbm, ⟨8, _⟩ => ⟨S144x1024, .f32⟩
  | .hbm, ⟨9, _⟩ => ⟨S144x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | _, _ => ⟨S144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S144x1024 : Shape := ⟨2, ![144, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S144x1024, .f32⟩
  | .hbm, ⟨6, _⟩ => ⟨S144x1024, .f32⟩
  | .hbm, ⟨7, _⟩ => ⟨S_, .f32⟩
  | .hbm, ⟨8, _⟩ => ⟨S144x1024, .f32⟩
  | .hbm, ⟨9, _⟩ => ⟨S144x1024, .f32⟩
  | .hbm, ⟨10, _⟩ => ⟨S144x1024, .f32⟩
  | .hbm, ⟨11, _⟩ => ⟨S_, .f32⟩
  | .hbm, ⟨12, _⟩ => ⟨S144x1024, .f32⟩
  | .hbm, ⟨13, _⟩ => ⟨S144x1024, .f32⟩
  | .hbm, ⟨14, _⟩ => ⟨S144x1024, .f32⟩
  | .hbm, ⟨15, _⟩ => ⟨S_, .f32⟩
  | .hbm, ⟨16, _⟩ => ⟨S144x1024, .f32⟩
  | .hbm, ⟨17, _⟩ => ⟨S144x1024, .f32⟩
  | .hbm, ⟨18, _⟩ => ⟨S144x1024, .f32⟩
  | .hbm, ⟨19, _⟩ => ⟨S_, .f32⟩
  | .hbm, ⟨20, _⟩ => ⟨S144x1024, .f32⟩
  | .hbm, ⟨21, _⟩ => ⟨S144x1024, .f32⟩
  | .hbm, ⟨22, _⟩ => ⟨S_, .f32⟩
  | .hbm, ⟨23, _⟩ => ⟨S144x1024, .f32⟩
  | .hbm, ⟨24, _⟩ => ⟨S144x1024, .f32⟩
  | .hbm, ⟨25, _⟩ => ⟨S144x1024, .f32⟩
  | .hbm, ⟨26, _⟩ => ⟨S_, .f32⟩
  | .hbm, ⟨27, _⟩ => ⟨S144x1024, .f32⟩
  | .hbm, ⟨28, _⟩ => ⟨S144x1024, .f32⟩
  | .hbm, ⟨29, _⟩ => ⟨S144x1024, .f32⟩
  | .hbm, ⟨30, _⟩ => ⟨S_, .f32⟩
  | .hbm, ⟨31, _⟩ => ⟨S144x1024, .f32⟩
  | .hbm, ⟨32, _⟩ => ⟨S144x1024, .f32⟩
  | .hbm, ⟨33, _⟩ => ⟨S144x1024, .f32⟩
  | .hbm, ⟨34, _⟩ => ⟨S_, .f32⟩
  | .hbm, ⟨35, _⟩ => ⟨S144x1024, .f32⟩
  | .hbm, ⟨36, _⟩ => ⟨S144x1024, .f32⟩
  | _, _ => ⟨S144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1024x1024 : Shape := ⟨2, ![1024, 1024]⟩
abbrev S2560x1024 : Shape := ⟨2, ![2560, 1024]⟩
abbrev S_ : Shape := ⟨0, ![]⟩
abbrev S8x128 : Shape := ⟨2, ![8, 128]⟩
abbrev S256x1024 : Shape := ⟨2, ![256, 1024]⟩

abbrev nBuf : Space → Nat
  | .hbm => 10
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S2560x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S8x128, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S1024x1024 : Shape := ⟨2, ![1024, 1024]⟩
abbrev S2560x1024 : Shape := ⟨2, ![2560, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2560x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel13.lean ====
abbrev S1024x1024 : Shape := ⟨2, ![1024, 1024]⟩
abbrev S2560x1024 : Shape := ⟨2, ![2560, 1024]⟩
abbrev S_ : Shape := ⟨0, ![]⟩
abbrev S8x128 : Shape := ⟨2, ![8, 128]⟩
abbrev S256x1024 : Shape := ⟨2, ![256, 1024]⟩

abbrev nBuf : Space → Nat
  | .hbm => 10
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S2560x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S8x128, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S1024x1024 : Shape := ⟨2, ![1024, 1024]⟩
abbrev S2560x1024 : Shape := ⟨2, ![2560, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2560x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel14.lean ====
abbrev S256x1024 : Shape := ⟨2, ![256, 1024]⟩
abbrev S2560x1024 : Shape := ⟨2, ![2560, 1024]⟩
abbrev S_ : Shape := ⟨0, ![]⟩
abbrev S8x128 : Shape := ⟨2, ![8, 128]⟩

abbrev nBuf : Space → Nat
  | .hbm => 10
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S2560x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S8x128, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S256x1024 : Shape := ⟨2, ![256, 1024]⟩
abbrev S2560x1024 : Shape := ⟨2, ![2560, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2560x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel15.lean ====
abbrev S256x1024 : Shape := ⟨2, ![256, 1024]⟩
abbrev S2560x1024 : Shape := ⟨2, ![2560, 1024]⟩
abbrev S_ : Shape := ⟨0, ![]⟩
abbrev S8x128 : Shape := ⟨2, ![8, 128]⟩

abbrev nBuf : Space → Nat
  | .hbm => 10
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S2560x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S8x128, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S256x1024 : Shape := ⟨2, ![256, 1024]⟩
abbrev S2560x1024 : Shape := ⟨2, ![2560, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2560x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel16.lean ====
abbrev S1024x816 : Shape := ⟨2, ![1024, 816]⟩
abbrev S_ : Shape := ⟨0, ![]⟩
abbrev S8x128 : Shape := ⟨2, ![8, 128]⟩
abbrev S256x816 : Shape := ⟨2, ![256, 816]⟩

abbrev nBuf : Space → Nat
  | .hbm => 10
  | .vmem => 16
  | .smem => 0
  | _ => 0

abbrev bufTy : (tb : Table) → Fin (tcTables nBuf tb) → BufTy
  | .hbm, ⟨0, _⟩ => ⟨S1024x816, .f32⟩
  | .hbm, ⟨1, _⟩ => ⟨S1024x816, .f32⟩
  | .hbm, ⟨2, _⟩ => ⟨S1024x816, .f32⟩
  | .hbm, ⟨3, _⟩ => ⟨S1024x816, .f32⟩
  | .hbm, ⟨4, _⟩ => ⟨S_, .f32⟩
  | .hbm, ⟨5, _⟩ => ⟨S8x128, .f32⟩
  | .hbm, ⟨6, _⟩ => ⟨S1024x816, .f32⟩
  | .hbm, ⟨7, _⟩ => ⟨S1024x816, .f32⟩
  | .hbm, ⟨8, _⟩ => ⟨S1024x816, .f32⟩
  | .hbm, ⟨9, _⟩ => ⟨S1024x816, .f32⟩
  | .local _ .vmem, ⟨0, _⟩ => ⟨S256x816, .f32⟩
  | .local _ .vmem, ⟨1, _⟩ => ⟨S256x816, .f32⟩
  | .local _ .vmem, ⟨2, _⟩ => ⟨S256x816, .f32⟩
  | .local _ .vmem, ⟨3, _⟩ => ⟨S256x816, .f32⟩
  | .local _ .vmem, ⟨4, _⟩ => ⟨S256x816, .f32⟩
  | .local _ .vmem, ⟨5, _⟩ => ⟨S256x816, .f32⟩
  | .local _ .vmem, ⟨6, _⟩ => ⟨S256x816, .f32⟩
  | .local _ .vmem, ⟨7, _⟩ => ⟨S256x816, .f32⟩
  | .local _ .vmem, ⟨8, _⟩ => ⟨S256x816, .f32⟩
  | .local _ .vmem, ⟨9, _⟩ => ⟨S256x816, .f32⟩
  | .local _ .vmem, ⟨10, _⟩ => ⟨S256x816, .f32⟩
  | .local _ .vmem, ⟨11, _⟩ => ⟨S256x816, .f32⟩
  | .local _ .vmem, ⟨12, _⟩ => ⟨S256x816, .f32⟩
  | .local _ .vmem, ⟨13, _⟩ => ⟨S256x816, .f32⟩
  | .local _ .vmem, ⟨14, _⟩ => ⟨S256x816, .f32⟩
  | .local _ .vmem, ⟨15, _⟩ => ⟨S256x816, .f32⟩
  | _, _ => ⟨S1024x816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S1024x816 : Shape := ⟨2, ![1024, 816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x816, .f32⟩
  | .hbm, ⟨1, _⟩ => ⟨S1024x816, .f32⟩
  | .hbm, ⟨2, _⟩ => ⟨S1024x816, .f32⟩
  | .hbm, ⟨3, _⟩ => ⟨S1024x816, .f32⟩
  | .hbm, ⟨4, _⟩ => ⟨S_, .f32⟩
  | .hbm, ⟨5, _⟩ => ⟨S1024x816, .f32⟩
  | .hbm, ⟨6, _⟩ => ⟨S1024x816, .f32⟩
  | .hbm, ⟨7, _⟩ => ⟨S_, .f32⟩
  | .hbm, ⟨8, _⟩ => ⟨S1024x816, .f32⟩
  | .hbm, ⟨9, _⟩ => ⟨S1024x816, .f32⟩
  | .hbm, ⟨10, _⟩ => ⟨S1024x816, .f32⟩
  | .hbm, ⟨11, _⟩ => ⟨S_, .f32⟩
  | .hbm, ⟨12, _⟩ => ⟨S1024x816, .f32⟩
  | .hbm, ⟨13, _⟩ => ⟨S1024x816, .f32⟩
  | .hbm, ⟨14, _⟩ => ⟨S1024x816, .f32⟩
  | .hbm, ⟨15, _⟩ => ⟨S_, .f32⟩
  | .hbm, ⟨16, _⟩ => ⟨S1024x816, .f32⟩
  | .hbm, ⟨17, _⟩ => ⟨S1024x816, .f32⟩
  | .hbm, ⟨18, _⟩ => ⟨S1024x816, .f32⟩
  | .hbm, ⟨19, _⟩ => ⟨S_, .f32⟩
  | .hbm, ⟨20, _⟩ => ⟨S1024x816, .f32⟩
  | .hbm, ⟨21, _⟩ => ⟨S1024x816, .f32⟩
  | .hbm, ⟨22, _⟩ => ⟨S_, .f32⟩
  | .hbm, ⟨23, _⟩ => ⟨S1024x816, .f32⟩
  | .hbm, ⟨24, _⟩ => ⟨S1024x816, .f32⟩
  | .hbm, ⟨25, _⟩ => ⟨S1024x816, .f32⟩
  | .hbm, ⟨26, _⟩ => ⟨S_, .f32⟩
  | .hbm, ⟨27, _⟩ => ⟨S1024x816, .f32⟩
  | .hbm, ⟨28, _⟩ => ⟨S1024x816, .f32⟩
  | .hbm, ⟨29, _⟩ => ⟨S1024x816, .f32⟩
  | .hbm, ⟨30, _⟩ => ⟨S_, .f32⟩
  | .hbm, ⟨31, _⟩ => ⟨S1024x816, .f32⟩
  | .hbm, ⟨32, _⟩ => ⟨S1024x816, .f32⟩
  | .hbm, ⟨33, _⟩ => ⟨S1024x816, .f32⟩
  | .hbm, ⟨34, _⟩ => ⟨S_, .f32⟩
  | .hbm, ⟨35, _⟩ => ⟨S1024x816, .f32⟩
  | .hbm, ⟨36, _⟩ => ⟨S1024x816, .f32⟩
  | _, _ => ⟨S1024x816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S384x384 : Shape := ⟨2, ![384, 384]⟩
abbrev S_ : Shape := ⟨0, ![]⟩
abbrev S8x128 : Shape := ⟨2, ![8, 128]⟩
abbrev S128x384 : Shape := ⟨2, ![128, 384]⟩

abbrev nBuf : Space → Nat
  | .hbm => 10
  | .vmem => 16
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S_, .f32⟩
  | .hbm, ⟨5, _⟩ => ⟨S8x128, .f32⟩
  | .hbm, ⟨6, _⟩ => ⟨S384x384, .f32⟩
  | .hbm, ⟨7, _⟩ => ⟨S384x384, .f32⟩
  | .hbm, ⟨8, _⟩ => ⟨S384x384, .f32⟩
  | .hbm, ⟨9, _⟩ => ⟨S384x384, .f32⟩
  | .local _ .vmem, ⟨0, _⟩ => ⟨S128x384, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S128x384, .f32⟩
  | .local _ .vmem, ⟨7, _⟩ => ⟨S128x384, .f32⟩
  | .local _ .vmem, ⟨8, _⟩ => ⟨S128x384, .f32⟩
  | .local _ .vmem, ⟨9, _⟩ => ⟨S128x384, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x384, .f32⟩
  | .local _ .vmem, ⟨15, _⟩ => ⟨S128x384, .f32⟩
  | _, _ => ⟨S384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S384x384 : Shape := ⟨2, ![384, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S_, .f32⟩
  | .hbm, ⟨5, _⟩ => ⟨S384x384, .f32⟩
  | .hbm, ⟨6, _⟩ => ⟨S384x384, .f32⟩
  | .hbm, ⟨7, _⟩ => ⟨S_, .f32⟩
  | .hbm, ⟨8, _⟩ => ⟨S384x384, .f32⟩
  | .hbm, ⟨9, _⟩ => ⟨S384x384, .f32⟩
  | .hbm, ⟨10, _⟩ => ⟨S384x384, .f32⟩
  | .hbm, ⟨11, _⟩ => ⟨S_, .f32⟩
  | .hbm, ⟨12, _⟩ => ⟨S384x384, .f32⟩
  | .hbm, ⟨13, _⟩ => ⟨S384x384, .f32⟩
  | .hbm, ⟨14, _⟩ => ⟨S384x384, .f32⟩
  | .hbm, ⟨15, _⟩ => ⟨S_, .f32⟩
  | .hbm, ⟨16, _⟩ => ⟨S384x384, .f32⟩
  | .hbm, ⟨17, _⟩ => ⟨S384x384, .f32⟩
  | .hbm, ⟨18, _⟩ => ⟨S384x384, .f32⟩
  | .hbm, ⟨19, _⟩ => ⟨S_, .f32⟩
  | .hbm, ⟨20, _⟩ => ⟨S384x384, .f32⟩
  | .hbm, ⟨21, _⟩ => ⟨S384x384, .f32⟩
  | .hbm, ⟨22, _⟩ => ⟨S_, .f32⟩
  | .hbm, ⟨23, _⟩ => ⟨S384x384, .f32⟩
  | .hbm, ⟨24, _⟩ => ⟨S384x384, .f32⟩
  | .hbm, ⟨25, _⟩ => ⟨S384x384, .f32⟩
  | .hbm, ⟨26, _⟩ => ⟨S_, .f32⟩
  | .hbm, ⟨27, _⟩ => ⟨S384x384, .f32⟩
  | .hbm, ⟨28, _⟩ => ⟨S384x384, .f32⟩
  | .hbm, ⟨29, _⟩ => ⟨S384x384, .f32⟩
  | .hbm, ⟨30, _⟩ => ⟨S_, .f32⟩
  | .hbm, ⟨31, _⟩ => ⟨S384x384, .f32⟩
  | .hbm, ⟨32, _⟩ => ⟨S384x384, .f32⟩
  | .hbm, ⟨33, _⟩ => ⟨S384x384, .f32⟩
  | .hbm, ⟨34, _⟩ => ⟨S_, .f32⟩
  | .hbm, ⟨35, _⟩ => ⟨S384x384, .f32⟩
  | .hbm, ⟨36, _⟩ => ⟨S384x384, .f32⟩
  | _, _ => ⟨S384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x512 : Shape := ⟨2, ![256, 512]⟩
abbrev S384x512 : Shape := ⟨2, ![384, 512]⟩
abbrev S_ : Shape := ⟨0, ![]⟩
abbrev S8x128 : Shape := ⟨2, ![8, 128]⟩

abbrev nBuf : Space → Nat
  | .hbm => 10
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S384x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S8x128, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S256x512 : Shape := ⟨2, ![256, 512]⟩
abbrev S384x512 : Shape := ⟨2, ![384, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S384x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S_, .f32⟩
  | .hbm, ⟨6, _⟩ => ⟨S256x512, .f32⟩
  | .hbm, ⟨7, _⟩ => ⟨S256x512, .f32⟩
  | .hbm, ⟨8, _⟩ => ⟨S_, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S_, .f32⟩
  | .hbm, ⟨13, _⟩ => ⟨S256x512, .f32⟩
  | .hbm, ⟨14, _⟩ => ⟨S256x512, .f32⟩
  | .hbm, ⟨15, _⟩ => ⟨S256x512, .f32⟩
  | .hbm, ⟨16, _⟩ => ⟨S_, .f32⟩
  | .hbm, ⟨17, _⟩ => ⟨S256x512, .f32⟩
  | .hbm, ⟨18, _⟩ => ⟨S256x512, .f32⟩
  | .hbm, ⟨19, _⟩ => ⟨S256x512, .f32⟩
  | .hbm, ⟨20, _⟩ => ⟨S_, .f32⟩
  | .hbm, ⟨21, _⟩ => ⟨S256x512, .f32⟩
  | .hbm, ⟨22, _⟩ => ⟨S256x512, .f32⟩
  | .hbm, ⟨23, _⟩ => ⟨S_, .f32⟩
  | .hbm, ⟨24, _⟩ => ⟨S256x512, .f32⟩
  | .hbm, ⟨25, _⟩ => ⟨S256x512, .f32⟩
  | .hbm, ⟨26, _⟩ => ⟨S256x512, .f32⟩
  | .hbm, ⟨27, _⟩ => ⟨S_, .f32⟩
  | .hbm, ⟨28, _⟩ => ⟨S256x512, .f32⟩
  | .hbm, ⟨29, _⟩ => ⟨S256x512, .f32⟩
  | .hbm, ⟨30, _⟩ => ⟨S256x512, .f32⟩
  | .hbm, ⟨31, _⟩ => ⟨S_, .f32⟩
  | .hbm, ⟨32, _⟩ => ⟨S256x512, .f32⟩
  | .hbm, ⟨33, _⟩ => ⟨S256x512, .f32⟩
  | .hbm, ⟨34, _⟩ => ⟨S256x512, .f32⟩
  | .hbm, ⟨35, _⟩ => ⟨S_, .f32⟩
  | .hbm, ⟨36, _⟩ => ⟨S256x512, .f32⟩
  | .hbm, ⟨37, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel19.lean ====
abbrev S128x512 : Shape := ⟨2, ![128, 512]⟩
abbrev S384x512 : Shape := ⟨2, ![384, 512]⟩
abbrev S_ : Shape := ⟨0, ![]⟩
abbrev S8x128 : Shape := ⟨2, ![8, 128]⟩

abbrev nBuf : Space → Nat
  | .hbm => 10
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S384x512, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S8x128, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S128x512 : Shape := ⟨2, ![128, 512]⟩
abbrev S384x512 : Shape := ⟨2, ![384, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S384x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S_, .f32⟩
  | .hbm, ⟨6, _⟩ => ⟨S128x512, .f32⟩
  | .hbm, ⟨7, _⟩ => ⟨S128x512, .f32⟩
  | .hbm, ⟨8, _⟩ => ⟨S_, .f32⟩
  | .hbm, ⟨9, _⟩ => ⟨S128x512, .f32⟩
  | .hbm, ⟨10, _⟩ => ⟨S128x512, .f32⟩
  | .hbm, ⟨11, _⟩ => ⟨S128x512, .f32⟩
  | .hbm, ⟨12, _⟩ => ⟨S_, .f32⟩
  | .hbm, ⟨13, _⟩ => ⟨S128x512, .f32⟩
  | .hbm, ⟨14, _⟩ => ⟨S128x512, .f32⟩
  | .hbm, ⟨15, _⟩ => ⟨S128x512, .f32⟩
  | .hbm, ⟨16, _⟩ => ⟨S_, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S_, .f32⟩
  | .hbm, ⟨21, _⟩ => ⟨S128x512, .f32⟩
  | .hbm, ⟨22, _⟩ => ⟨S128x512, .f32⟩
  | .hbm, ⟨23, _⟩ => ⟨S_, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S_, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S_, .f32⟩
  | .hbm, ⟨36, _⟩ => ⟨S128x512, .f32⟩
  | .hbm, ⟨37, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel20.lean ====
abbrev S512x256 : Shape := ⟨2, ![512, 256]⟩
abbrev S_ : Shape := ⟨0, ![]⟩
abbrev S8x128 : Shape := ⟨2, ![8, 128]⟩
abbrev S256x256 : Shape := ⟨2, ![256, 256]⟩

abbrev nBuf : Space → Nat
  | .hbm => 10
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S8x128, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4096x1024 : Shape := ⟨2, ![4096, 1024]⟩
abbrev S1024 : Shape := ⟨1, ![1024]⟩
abbrev S1024x3328 : Shape := ⟨2, ![1024, 3328]⟩
abbrev S4096x512 : Shape := ⟨2, ![4096, 512]⟩
abbrev S4096x768 : Shape := ⟨2, ![4096, 768]⟩
abbrev S1x1024 : Shape := ⟨2, ![1, 1024]⟩
abbrev S4096x3328 : Shape := ⟨2, ![4096, 3328]⟩
abbrev S512x1024 : Shape := ⟨2, ![512, 1024]⟩
abbrev S512x512 : Shape := ⟨2, ![512, 512]⟩
abbrev S512x768 : Shape := ⟨2, ![512, 768]⟩
abbrev S512x3328 : Shape := ⟨2, ![512, 3328]⟩
abbrev S512 : Shape := ⟨1, ![512]⟩
abbrev S512x1 : Shape := ⟨2, ![512, 1]⟩

abbrev nBuf : Space → Nat
  | .hbm => 18
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3328, .f32⟩
  | .hbm, ⟨3, _⟩ => ⟨S4096x512, .f32⟩
  | .hbm, ⟨4, _⟩ => ⟨S4096x768, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1024x3328, .bf16⟩
  | .hbm, ⟨10, _⟩ => ⟨S4096x512, .bf16⟩
  | .hbm, ⟨11, _⟩ => ⟨S4096x768, .bf16⟩
  | .hbm, ⟨12, _⟩ => ⟨S4096x1024, .bf16⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S4096x3328, .bf16⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x512, .bf16⟩
  | .local _ .vmem, ⟨5, _⟩ => ⟨S512x512, .bf16⟩
  | .local _ .vmem, ⟨6, _⟩ => ⟨S512x768, .bf16⟩
  | .local _ .vmem, ⟨7, _⟩ => ⟨S512x768, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x3328, .bf16⟩
  | .local _ .vmem, ⟨19, _⟩ => ⟨S512x3328, .bf16⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_35 : BitVec 32 := 0#32
  let v64 : BitVec 1 := Scalar.cmpi .ne v63 c0_i32_35
  v64

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v65 : BitVec 1 := Scalar.xori v62 v_true
  let v66 : BitVec 32 := Scalar.extui v65
  let c0_i32_36 : BitVec 32 := 0#32
  let v67 : BitVec 1 := Scalar.cmpi .ne v66 c0_i32_36
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3328 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference21Ideal.lean ====
abbrev S4096x1024 : Shape := ⟨2, ![4096, 1024]⟩
abbrev S1024 : Shape := ⟨1, ![1024]⟩
abbrev S1024x3328 : Shape := ⟨2, ![1024, 3328]⟩
abbrev S4096x512 : Shape := ⟨2, ![4096, 512]⟩
abbrev S4096x768 : Shape := ⟨2, ![4096, 768]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3328 : Shape := ⟨2, ![4096, 3328]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3328, .f32⟩
  | .hbm, ⟨3, _⟩ => ⟨S4096x512, .f32⟩
  | .hbm, ⟨4, _⟩ => ⟨S4096x768, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x3328, .f32⟩
  | .hbm, ⟨29, _⟩ => ⟨S4096x3328, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .bf16⟩
  | .hbm, ⟨59, _⟩ => ⟨S4096x3328, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel22.lean ====
abbrev S4096x256 : Shape := ⟨2, ![4096, 256]⟩
abbrev S4096x2048 : Shape := ⟨2, ![4096, 2048]⟩
abbrev S4x384x512 : Shape := ⟨3, ![4, 384, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4x384x512, .f32⟩
  | .hbm, ⟨3, _⟩ => ⟨S4096x256, .bf16⟩
  | .hbm, ⟨4, _⟩ => ⟨S4096x2048, .bf16⟩
  | .hbm, ⟨5, _⟩ => ⟨S4x384x512, .f32⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S1x256x512, .f32⟩
  | .local _ .vmem, ⟨5, _⟩ => ⟨S1x256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x256 : Shape := ⟨2, ![4096, 256]⟩
abbrev S4096x2048 : Shape := ⟨2, ![4096, 2048]⟩
abbrev S4x384x512 : Shape := ⟨3, ![4, 384, 512]⟩
abbrev S256x4096 : Shape := ⟨2, ![256, 4096]⟩
abbrev S256x2048 : Shape := ⟨2, ![256, 2048]⟩
abbrev S256x4x512 : Shape := ⟨3, ![256, 4, 512]⟩
abbrev S4x256x512 : Shape := ⟨3, ![4, 256, 512]⟩
abbrev S4x128x512 : Shape := ⟨3, ![4, 128, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4x384x512, .f32⟩
  | .hbm, ⟨3, _⟩ => ⟨S256x4096, .f32⟩
  | .hbm, ⟨4, _⟩ => ⟨S256x2048, .f32⟩
  | .hbm, ⟨5, _⟩ => ⟨S256x4x512, .f32⟩
  | .hbm, ⟨6, _⟩ => ⟨S4x256x512, .f32⟩
  | .hbm, ⟨7, _⟩ => ⟨S4x128x512, .f32⟩
  | .hbm, ⟨8, _⟩ => ⟨S4x384x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S32x64 : Shape := ⟨2, ![32, 64]⟩
abbrev S32x1 : Shape := ⟨2, ![32, 1]⟩
abbrev S512x64 : Shape := ⟨2, ![512, 64]⟩
abbrev S1x2048 : Shape := ⟨2, ![1, 2048]⟩
abbrev S512x1024 : Shape := ⟨2, ![512, 1024]⟩
abbrev S64x2048 : Shape := ⟨2, ![64, 2048]⟩
abbrev S32x2048 : Shape := ⟨2, ![32, 2048]⟩
abbrev S512x512 : Shape := ⟨2, ![512, 512]⟩
abbrev S32x1x64 : Shape := ⟨3, ![32, 1, 64]⟩
abbrev S32x16x64 : Shape := ⟨3, ![32, 16, 64]⟩
abbrev S64x512 : Shape := ⟨2, ![64, 512]⟩
abbrev S32 : Shape := ⟨1, ![32]⟩

abbrev nBuf : Space → Nat
  | .hbm => 16
  | .vmem => 16
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S512x64, .f32⟩
  | .hbm, ⟨4, _⟩ => ⟨S512x64, .f32⟩
  | .hbm, ⟨5, _⟩ => ⟨S1x2048, .f32⟩
  | .hbm, ⟨6, _⟩ => ⟨S1x2048, .f32⟩
  | .hbm, ⟨7, _⟩ => ⟨S512x1024, .f32⟩
  | .hbm, ⟨8, _⟩ => ⟨S512x1024, .f32⟩
  | .hbm, ⟨9, _⟩ => ⟨S32x64, .f32⟩
  | .hbm, ⟨10, _⟩ => ⟨S32x64, .f32⟩
  | .hbm, ⟨11, _⟩ => ⟨S32x1, .f32⟩
  | .hbm, ⟨12, _⟩ => ⟨S512x64, .f32⟩
  | .hbm, ⟨13, _⟩ => ⟨S512x64, .f32⟩
  | .hbm, ⟨14, _⟩ => ⟨S512x64, .f32⟩
  | .hbm, ⟨15, _⟩ => ⟨S512x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S512x64, .f32⟩
  | .local _ .vmem, ⟨4, _⟩ => ⟨S512x64, .f32⟩
  | .local _ .vmem, ⟨5, _⟩ => ⟨S1x2048, .f32⟩
  | .local _ .vmem, ⟨6, _⟩ => ⟨S1x2048, .f32⟩
  | .local _ .vmem, ⟨7, _⟩ => ⟨S512x1024, .f32⟩
  | .local _ .vmem, ⟨8, _⟩ => ⟨S512x1024, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Reference23Ideal.lean ====
abbrev S32x64 : Shape := ⟨2, ![32, 64]⟩
abbrev S32x1 : Shape := ⟨2, ![32, 1]⟩
abbrev S512x64 : Shape := ⟨2, ![512, 64]⟩
abbrev S1x2048 : Shape := ⟨2, ![1, 2048]⟩
abbrev S512x1024 : Shape := ⟨2, ![512, 1024]⟩
abbrev S_ : Shape := ⟨0, ![]⟩
abbrev S32x1x64 : Shape := ⟨3, ![32, 1, 64]⟩
abbrev S32x16x64 : Shape := ⟨3, ![32, 16, 64]⟩
abbrev S512x512 : Shape := ⟨2, ![512, 512]⟩
abbrev S8x8 : Shape := ⟨2, ![8, 8]⟩
abbrev S1x8x1x8x1 : Shape := ⟨5, ![1, 8, 1, 8, 1]⟩
abbrev S4x8x16x8x64 : Shape := ⟨5, ![4, 8, 16, 8, 64]⟩
abbrev S4x8x16x64 : Shape := ⟨4, ![4, 8, 16, 64]⟩
abbrev S32 : Shape := ⟨1, ![32]⟩

abbrev nBuf : Space → Nat
  | .hbm => 218
  | .vmem => 0
  | .smem => 0
  | _ => 0

abbrev hbmTy0_0 (i : Nat) : BufTy := match i % 128 with
  | 0 => ⟨S32x64, .f32⟩
  | 1 => ⟨S32x64, .f32⟩
  | 2 => ⟨S32x1, .f32⟩
  | 3 => ⟨S512x64, .f32⟩
  | 4 => ⟨S512x64, .f32⟩
  | 5 => ⟨S1x2048, .f32⟩
  | 6 => ⟨S1x2048, .f32⟩
  | 7 => ⟨S512x1024, .f32⟩
  | 8 => ⟨S512x1024, .f32⟩
  | 9 => ⟨S32x1, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S_, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S_, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S_, .f32⟩
  | 43 => ⟨S32x64, .f32⟩
  | 44 => ⟨S32x64, .f32⟩
  | 45 => ⟨S32x1x64, .f32⟩
  | 46 => ⟨S32x16x64, .f32⟩
  | 47 => ⟨S512x64, .f32⟩
  | 48 => ⟨S32x1x64, .f32⟩
  | 49 => ⟨S32x16x64, .f32⟩
  | 50 => ⟨S512x64, .f32⟩
  | 51 => ⟨S512x64, .f32⟩
  | 52 => ⟨S512x64, .f32⟩
  | 53 => ⟨S512x64, .f32⟩
  | 54 => ⟨S512x64, .f32⟩
  | 55 => ⟨S512x64, .f32⟩
  | 56 => ⟨S512x64, .f32⟩
  | 57 => ⟨S32x64, .f32⟩
  | 58 => ⟨S32x64, .f32⟩
  | 59 => ⟨S512x512, .f32⟩
  | 60 => ⟨S8x8, .i32⟩
  | 61 => ⟨S8x8, .i32⟩
  | 62 => ⟨S_, .i32⟩
  | 63 => ⟨S8x8, .i32⟩
  | 64 => ⟨S8x8, .i32⟩
  | 65 => ⟨S8x8, .i1⟩
  | 66 => ⟨S1x8x1x8x1, .i1⟩
  | 67 => ⟨S4x8x16x8x64, .f32⟩
  | 68 => ⟨S_, .f32⟩
  | 69 => ⟨S_, .f32⟩
  | 70 => ⟨S4x8x16x8x64, .i1⟩
  | 71 => ⟨S4x8x16x8x64, .f32⟩
  | 72 => ⟨S4x8x16x8x64, .f32⟩
  | 73 => ⟨S_, .f32⟩
  | 74 => ⟨S4x8x16x64, .f32⟩
  | 75 => ⟨S512x64, .f32⟩
  | 76 => ⟨S512x512, .f32⟩
  | 77 => ⟨S8x8, .i32⟩
  | 78 => ⟨S8x8, .i32⟩
  | 79 => ⟨S_, .i32⟩
  | 80 => ⟨S8x8, .i32⟩
  | 81 => ⟨S8x8, .i32⟩
  | 82 => ⟨S8x8, .i1⟩
  | 83 => ⟨S1x8x1x8x1, .i1⟩
  | 84 => ⟨S4x8x16x8x64, .f32⟩
  | 85 => ⟨S_, .f32⟩
  | 86 => ⟨S_, .f32⟩
  | 87 => ⟨S4x8x16x8x64, .i1⟩
  | 88 => ⟨S4x8x16x8x64, .f32⟩
  | 89 => ⟨S4x8x16x8x64, .f32⟩
  | 90 => ⟨S_, .f32⟩
  | 91 => ⟨S4x8x16x64, .f32⟩
  | 92 => ⟨S512x64, .f32⟩
  | 93 => ⟨S512x64, .f32⟩
  | 94 => ⟨S512x64, .f32⟩
  | 95 => ⟨S512x64, .f32⟩
  | 96 => ⟨S512x64, .f32⟩
  | 97 => ⟨S512x64, .f32⟩
  | 98 => ⟨S512x64, .f32⟩
  | 99 => ⟨S512x64, .f32⟩
  | 100 => ⟨S512x64, .f32⟩
  | 101 => ⟨S512x64, .f32⟩
  | 102 => ⟨S512x64, .f32⟩
  | 103 => ⟨S512x64, .f32⟩
  | 104 => ⟨S512x64, .f32⟩
  | 105 => ⟨S512x64, .f32⟩
  | 106 => ⟨S32x16x64, .f32⟩
  | 107 => ⟨S_, .f32⟩
  | 108 => ⟨S32x64, .f32⟩
  | 109 => ⟨S32x1x64, .f32⟩
  | 110 => ⟨S_, .f32⟩
  | 111 => ⟨S32x64, .f32⟩
  | 112 => ⟨S32x16x64, .f32⟩
  | 113 => ⟨S_, .f32⟩
  | 114 => ⟨S32x64, .f32⟩
  | 115 => ⟨S32x1x64, .f32⟩
  | 116 => ⟨S_, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S_, .f32⟩
  | 27 => ⟨S32, .f32⟩
  | 28 => ⟨S32x1, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S_, .f32⟩
  | 39 => ⟨S32, .f32⟩
  | 40 => ⟨S32x1, .f32⟩
  | 41 => ⟨S32x1, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S_, .f32⟩
  | 48 => ⟨S32, .f32⟩
  | 49 => ⟨S32x1, .f32⟩
  | 50 => ⟨S32x1, .f32⟩
  | 51 => ⟨S32x64, .f32⟩
  | 52 => ⟨S32x64, .f32⟩
  | 53 => ⟨S32x64, .f32⟩
  | 54 => ⟨S32x1, .f32⟩
  | 55 => ⟨S512x512, .f32⟩
  | 56 => ⟨S8x8, .i32⟩
  | 57 => ⟨S8x8, .i32⟩
  | 58 => ⟨S_, .i32⟩
  | 59 => ⟨S8x8, .i32⟩
  | 60 => ⟨S8x8, .i32⟩
  | 61 => ⟨S8x8, .i1⟩
  | 62 => ⟨S1x8x1x8x1, .i1⟩
  | 63 => ⟨S4x8x16x8x64, .f32⟩
  | 64 => ⟨S_, .f32⟩
  | 65 => ⟨S_, .f32⟩
  | 66 => ⟨S4x8x16x8x64, .i1⟩
  | 67 => ⟨S4x8x16x8x64, .f32⟩
  | 68 => ⟨S4x8x16x8x64, .f32⟩
  | 69 => ⟨S_, .f32⟩
  | 70 => ⟨S4x8x16x64, .f32⟩
  | 71 => ⟨S512x64, .f32⟩
  | 72 => ⟨S512x512, .f32⟩
  | 73 => ⟨S8x8, .i32⟩
  | 74 => ⟨S8x8, .i32⟩
  | 75 => ⟨S_, .i32⟩
  | 76 => ⟨S8x8, .i32⟩
  | 77 => ⟨S8x8, .i32⟩
  | 78 => ⟨S8x8, .i1⟩
  | 79 => ⟨S1x8x1x8x1, .i1⟩
  | 80 => ⟨S4x8x16x8x64, .f32⟩
  | 81 => ⟨S_, .f32⟩
  | 82 => ⟨S_, .f32⟩
  | 83 => ⟨S4x8x16x8x64, .i1⟩
  | 84 => ⟨S4x8x16x8x64, .f32⟩
  | 85 => ⟨S4x8x16x8x64, .f32⟩
  | 86 => ⟨S_, .f32⟩
  | 87 => ⟨S4x8x16x64, .f32⟩
  | 88 => ⟨S512x64, .f32⟩
  | 89 => ⟨S512x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v55 : Ref sig .tc := ⟨.hbm, 72, rfl⟩
abbrev main_cst_3 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_4 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_5 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v66 : Ref sig .tc := ⟨.hbm, 89, rfl⟩
abbrev main_cst_6 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_7 : Ref sig .tc := ⟨.hbm, 107, rfl⟩
abbrev main_v83 : Ref sig .tc := ⟨.hbm, 108, rfl⟩
abbrev main_v84 : Ref sig .tc := ⟨.hbm, 109, rfl⟩
abbrev main_cst_8 : Ref sig .tc := ⟨.hbm, 110, rfl⟩
abbrev main_v85 : Ref sig .tc := ⟨.hbm, 111, rfl⟩
abbrev main_v86 : Ref sig .tc := ⟨.hbm, 112, rfl⟩
abbrev main_cst_9 : Ref sig .tc := ⟨.hbm, 113, rfl⟩
abbrev main_v87 : Ref sig .tc := ⟨.hbm, 114, rfl⟩
abbrev main_v88 : Ref sig .tc := ⟨.hbm, 115, rfl⟩
abbrev main_cst_10 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_11 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_12 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_13 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_c_14 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_cst_15 : Ref sig .tc := ⟨.hbm, 192, rfl⟩
abbrev main_call2_v0 : Ref sig .tc := ⟨.hbm, 193, rfl⟩
abbrev main_call2_v1 : Ref sig .tc := ⟨.hbm, 194, rfl⟩
abbrev main_call2_v2 : Ref sig .tc := ⟨.hbm, 195, rfl⟩
abbrev main_v160 : Ref sig .tc := ⟨.hbm, 196, rfl⟩
abbrev main_cst_16 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_c_17 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_18 : Ref sig .tc := ⟨.hbm, 209, rfl⟩
abbrev main_call3_v0 : Ref sig .tc := ⟨.hbm, 210, rfl⟩
abbrev main_call3_v1 : Ref sig .tc := ⟨.hbm, 211, rfl⟩
abbrev main_call3_v2 : Ref sig .tc := ⟨.hbm, 212, rfl⟩
abbrev main_v171 : Ref sig .tc := ⟨.hbm, 213, rfl⟩
abbrev main_cst_19 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩

abbrev nD : Nat := 1
abbrev τ : Topo := Topo.v7x

variable {F : FTy → Type} [FloatOps F]
-- ==== Proof.Spec.lean ====
/-
  What one block of each of the two kernel bodies computes, as plain functions of vectors: the running softmax of the
  forward body over the key blocks at and below the diagonal, and the backward body's contribution of one pair of
  blocks. Everything is over any float values `F`, in the program's own pure operations.
-/
module

public import proofs.«01_k».proof.Proof.Gen.KernelIdeal.Loops
public import Idealize.ShloMosaic.Lib.VecWindow
public import Idealize.ShloMosaic.Lib.ValueIdx

@[expose] public section

set_option maxRecDepth 16384

noncomputable section

namespace Cert.KernelIdeal.Hand

open Idealize.ShloMosaic Idealize.ShloMosaic.TcCoe Idealize.ShloMosaic.ValueIdx
open Cert.KernelIdeal.Gen

variable {F : FTy → Type} [FloatOps F]

/-- Plane `h` of a stack of matrices, rows `1024 j … 1024 j + 1023`. -/
def rows3 {α : Type} {p n : ℕ} (x : (⟨3, ![p, 4096, n]⟩ : Shape).Idx → α) (h : Fin p) (j : ℕ) : (⟨3, ![1, 1024, n]⟩ : Shape).Idx → α :=
  fun y => x (ix3 h ⟨(1024 * j + (y 1).val) % 4096, Nat.mod_lt _ (by omega)⟩ (y 2))

/-- Rows `1024 j … 1024 j + 1023` of a matrix. -/
def rows2 {α : Type} {n : ℕ} (x : (⟨2, ![4096, n]⟩ : Shape).Idx → α) (j : ℕ) : (⟨2, ![1024, n]⟩ : Shape).Idx → α :=
  fun y => x (ix2 ⟨(1024 * j + (y 0).val) % 4096, Nat.mod_lt _ (by omega)⟩ (y 1))

/-- Row block `j` of the row statistics, which lie as one row of 1024 per block. -/
def lseRow {α : Type} (x : S1x4x1x1024.Idx → α) (j : ℕ) : S1x1x1x1024.Idx → α :=
  fun y => x (ix4 0 ⟨j % 4, Nat.mod_lt _ (by omega)⟩ 0 (y 3))

/-- Head `h` of the query block. -/
def qHead {α : Type} (x : S2x1024x256.Idx → α) (h : Fin 2) : S1x1024x256.Idx → α := fun y => x (ix3 h (y 1) (y 2))

/-! ## The forward body -/

/-- The running softmax of one row block: the row maximum, the row sum and the weighted sum of value rows. -/
abbrev FwdSt (F : FTy → Type) := FVec F S1024x1 .f32 × FVec F S1024x1 .f32 × FVec F S1024x128 .f32

/-- One key block below the diagonal taken into the running softmax. -/
def fwdStep (q : FVec F S1024x256 .bf16) (kb : Vec F S1x1024x256 .bf16) (vb : Vec F S1x1024x128 .bf16) (s : FwdSt F) : FwdSt F :=
  (k0_pay5 q s.1 kb, k0_pay8 q s.1 s.2.1 kb, k0_pay9 q s.1 s.2.2 kb vb)

/-- The running softmax after the first `n` key blocks. -/
def fwdSt (q : FVec F S1024x256 .bf16) (xk : Vec F S2x4096x256 .bf16) (xv : Vec F S2x4096x128 .bf16) (h : Fin 2) : ℕ → FwdSt F
  | 0 => (k0_pay30, k0_pay31, k0_pay32)
  | n + 1 => fwdStep q (rows3 xk h n) (rows3 xv h n) (fwdSt q xk xv h n)

/-- The running softmax with the diagonal block, whose entries above the diagonal are masked, taken in last. -/
def fwdFin (q : FVec F S1024x256 .bf16) (xk : Vec F S2x4096x256 .bf16) (xv : Vec F S2x4096x128 .bf16) (h : Fin 2) (j : ℕ) : FwdSt F :=
  (k0_pay44 q (fwdSt q xk xv h j).1 (rows3 xk h j),
   k0_pay47 q (fwdSt q xk xv h j).1 (fwdSt q xk xv h j).2.1 (rows3 xk h j),
   k0_pay48 q (fwdSt q xk xv h j).1 (fwdSt q xk xv h j).2.2 (rows3 xk h j) (rows3 xv h j))

/-- The query block of head `h`, as the matrix the products take. -/
def fwdQ (xq : Vec F S2x1024x256 .bf16) (h : Fin 2) : FVec F S1024x256 .bf16 := k0_pay28 (qHead xq h)

/-- The output rows of head `h`: the weighted sum of value rows over the row sum. -/
def fwdO (xq : Vec F S2x1024x256 .bf16) (xk : Vec F S2x4096x256 .bf16) (xv : Vec F S2x4096x128 .bf16) (h : Fin 2) (j : ℕ) : FVec F S1024x128 .f32 :=
  k0_pay2 (fwdFin (fwdQ xq h) xk xv h j).2.1 (fwdFin (fwdQ xq h) xk xv h j).2.2

/-- The row statistics of head `h`: the logarithm of the row sum of exponentials. -/
def fwdL (xq : Vec F S2x1024x256 .bf16) (xk : Vec F S2x4096x256 .bf16) (xv : Vec F S2x4096x128 .bf16) (h : Fin 2) (j : ℕ) : FVec F S1x1x1x1024 .f32 :=
  k0_pay3 (fwdFin (fwdQ xq h) xk xv h j).1 (fwdFin (fwdQ xq h) xk xv h j).2.1

/-- The output block of the forward body: its two heads' rows side by side. -/
def fwdOut (xq : Vec F S2x1024x256 .bf16) (xk : Vec F S2x4096x256 .bf16) (xv : Vec F S2x4096x128 .bf16) (j : ℕ) : Vec F S1024x256 .f32 :=
  fun y => fwdO xq xk xv ⟨(y 1).val / 128, by have := (y 1).isLt; simp at this; omega⟩ j (ix2 (y 0) ⟨(y 1).val % 128, by omega⟩)

/-- The block of row statistics of the forward body: its two heads' rows stacked. -/
def fwdLse (xq : Vec F S2x1024x256 .bf16) (xk : Vec F S2x4096x256 .bf16) (xv : Vec F S2x4096x128 .bf16) (j : ℕ) : Vec F S2x1x1x1024 .f32 :=
  fun y => fwdL xq xk xv (y 0) j (ix4 0 0 0 (y 3))

/-! ## The backward body -/

/-- What one query block gives the two products of the diagonal or a block below it: the softmax derivative, transposed. -/
abbrev BwdSt (F : FTy → Type) := FVec F S1024x256 .f32 × FVec F S1024x128 .f32

/-- The derivative of the scores of the diagonal block, transposed. -/
def bwdDst (k : FVec F S1024x256 .bf16) (v : FVec F S1024x128 .bf16) (qb : Vec F S1x1024x256 .bf16) (ob db : Vec F S1024x128 .f32) (lb : Vec F S1x1x1x1024 .f32) :
    FVec F S1024x1024 .bf16 :=
  k1_pay31 k v (k1_pay21 qb) (k1_pay22 db) (k1_pay27 db ob) (k1_pay28 db ob) lb

/-- The two carried sums of the backward body after the diagonal block and `n` query blocks past it. -/
def bwdSt (xq : Vec F S1x4096x256 .bf16) (k : FVec F S1024x256 .bf16) (v : FVec F S1024x128 .bf16) (xo xd : Vec F S4096x128 .f32)
    (xl : Vec F S1x4x1x1024 .f32) (j : ℕ) : ℕ → BwdSt F
  | 0 => (k1_pay32 k v k1_pay19 (k1_pay21 (rows3 xq 0 j)) (k1_pay22 (rows2 xd j)) (k1_pay27 (rows2 xd j) (rows2 xo j)) (k1_pay28 (rows2 xd j) (rows2 xo j)) (lseRow xl j),
          k1_pay30 k k1_pay20 (k1_pay21 (rows3 xq 0 j)) (k1_pay22 (rows2 xd j)) (lseRow xl j))
  | n + 1 => (k1_pay34 (bwdSt xq k v xo xd xl j n).1
                (k1_pay8 k v k1_pay18 (rows3 xq 0 (j + 1 + n)) (rows2 xd (j + 1 + n)) (rows2 xo (j + 1 + n)) (lseRow xl (j + 1 + n))),
              k1_pay6 k (bwdSt xq k v xo xd xl j n).2 (rows3 xq 0 (j + 1 + n)) (rows2 xd (j + 1 + n)) (lseRow xl (j + 1 + n)))

/-- Row block `j` of the query gradient replaced by `w`. -/
def putQ (x : Vec F S1x4096x256 .f32) (j : ℕ) (w : Vec F S1x1024x256 .f32) : Vec F S1x4096x256 .f32 :=
  VecWindow.put x ![0, 1024 * j, 0] S1x1024x256.size w

/-- The query gradient after the diagonal block and `n` query blocks past it have been added to what it held. -/
def bwdDq (xq : Vec F S1x4096x256 .bf16) (k : FVec F S1024x256 .bf16) (v : FVec F S1024x128 .bf16) (xo xd : Vec F S4096x128 .f32)
    (xl : Vec F S1x4x1x1024 .f32) (j : ℕ) (x : Vec F S1x4096x256 .f32) : ℕ → Vec F S1x4096x256 .f32
  | 0 => putQ x j (k1_pay33 k v (k1_pay21 (rows3 xq 0 j)) (k1_pay22 (rows2 xd j)) (k1_pay27 (rows2 xd j) (rows2 xo j)) (k1_pay28 (rows2 xd j) (rows2 xo j))
            (lseRow xl j) (rows3 x 0 j))
  | n + 1 => putQ (bwdDq xq k v xo xd xl j x n) (j + 1 + n)
            (k1_pay35 k (k1_pay7 k v k1_pay18 (rows3 xq 0 (j + 1 + n)) (rows2 xd (j + 1 + n)) (rows2 xo (j + 1 + n)) (lseRow xl (j + 1 + n)))
              (rows3 (bwdDq xq k v xo xd xl j x n) 0 (j + 1 + n)))

end Cert.KernelIdeal.Hand

end
-- ==== Proof.Fwd.lean ====
/-
  The forward body's run, with what it leaves in its two output blocks named by Spec.lean's functions.
-/
module

public import proofs.«01_k».proof.Proof.Spec
public import Idealize.ShloMosaic.Lib.Pipeline.FrameBody
public import Idealize.ShloMosaic.Lib.WholeRead

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The first loop of the forward body runs once for each key block below the diagonal. -/
theorem k0_trips (i : grid0.Coords) : (k0_t1_loop i).trips = (i 1).val := by
  have h : ∀ b : Fin 4, (⟨0#32, Scalar.addi 0#32 (Scalar.muli (Scalar.divsi (Scalar.subi (BitVec.ofNat 32 b.val) 0#32) 1#32) 1#32), 1#32⟩ : Scf.Loop 32).trips = b.val := by
    decide +kernel
  exact h (i 1)

/-- The second loop over key blocks is empty: every block is taken by the first. -/
theorem k0_trips2 (i : grid0.Coords) : (k0_t2_loop i).trips = 0 := by
  have h : ∀ i : grid0.Coords, (k0_t2_loop i).trips = 0 := by decide +kernel
  exact h i

/-- A block offset of the forward call. -/
theorem k0_off1_eq (i : grid0.Coords) (t : Fin (k0_t1_loop i).trips) : k0_off1 i t = ![0, 1024 * t.val, 0] := by
  have h : ∀ (i : grid0.Coords) (t : Fin (k0_t1_loop i).trips), k0_off1 i t = ![0, 1024 * t.val, 0] := by decide +kernel
  exact h i t

/-- A block offset of the forward call. -/
theorem k0_off2_eq (i : grid0.Coords) (t : Fin (k0_t1_loop i).trips) : k0_off2 i t = ![0, 1024 * t.val, 0] := by
  have h : ∀ (i : grid0.Coords) (t : Fin (k0_t1_loop i).trips), k0_off2 i t = ![0, 1024 * t.val, 0] := by decide +kernel
  exact h i t

/-- A block offset of the forward call. -/
theorem k0_off3_eq (i : grid0.Coords) (t : Fin (k0_t1_loop i).trips) : k0_off3 i t = ![1, 1024 * t.val, 0] := by
  have h : ∀ (i : grid0.Coords) (t : Fin (k0_t1_loop i).trips), k0_off3 i t = ![1, 1024 * t.val, 0] := by decide +kernel
  exact h i t

/-- A block offset of the forward call. -/
theorem k0_off4_eq (i : grid0.Coords) (t : Fin (k0_t1_loop i).trips) : k0_off4 i t = ![1, 1024 * t.val, 0] := by
  have h : ∀ (i : grid0.Coords) (t : Fin (k0_t1_loop i).trips), k0_off4 i t = ![1, 1024 * t.val, 0] := by decide +kernel
  exact h i t

/-- A block offset of the forward call. -/
theorem k0_off9_eq (i : grid0.Coords) : k0_off9 i = ![0, 1024 * (i 1).val, 0] := by
  have h : ∀ i : grid0.Coords, k0_off9 i = ![0, 1024 * (i 1).val, 0] := by decide +kernel
  exact h i

/-- A block offset of the forward call. -/
theorem k0_off10_eq (i : grid0.Coords) : k0_off10 i = ![0, 1024 * (i 1).val, 0] := by
  have h : ∀ i : grid0.Coords, k0_off10 i = ![0, 1024 * (i 1).val, 0] := by decide +kernel
  exact h i

/-- A block offset of the forward call. -/
theorem k0_off11_eq (i : grid0.Coords) : k0_off11 i = ![1, 1024 * (i 1).val, 0] := by
  have h : ∀ i : grid0.Coords, k0_off11 i = ![1, 1024 * (i 1).val, 0] := by decide +kernel
  exact h i

/-- A block offset of the forward call. -/
theorem k0_off12_eq (i : grid0.Coords) : k0_off12 i = ![1, 1024 * (i 1).val, 0] := by
  have h : ∀ i : grid0.Coords, k0_off12 i = ![1, 1024 * (i 1).val, 0] := by decide +kernel
  exact h i

/-- A load of 1024 rows of one plane reads `rows3`. -/
theorem readAt_rows3 {p n : ℕ} {κ : Kind} {sp : Space} {e : EltTy} (m : Memref sig κ sp ⟨3, ![p, 4096, n]⟩ e) (hm : m.IsWhole)
    (x : Vec F ⟨3, ![p, 4096, n]⟩ e) {off : Fin 3 → ℕ} (inb : ∀ a, off a + ![1, 1024, n] a ≤ ![p, 4096, n] a) (h : Fin p) (j : ℕ)
    (ho : off = ![h.val, 1024 * j, 0]) :
    m.view.readAt (Elt F) (Rect.unit (s := ⟨3, ![p, 4096, n]⟩) off ![1, 1024, n] inb).toLoadRect (hm.unread x) = rows3 x h j := by
  subst ho
  funext y
  rw [hm.readAt_unread]
  have h1 := inb 1
  have hy := (y 1).isLt
  have hy0 := (y 0).isLt
  refine congrArg x (funext fun a => Fin.ext ?_)
  show ![h.val, 1024 * j, 0] a + 1 * (y a).val = _
  fin_cases a
  · have : (y 0).val = 0 := by change (y 0).val < 1 at hy0; omega
    simp [this, ix3]
  · change 1024 * j + 1024 ≤ 4096 at h1
    change (y 1).val < 1024 at hy
    show 1024 * j + 1 * (y 1).val = (1024 * j + (y 1).val) % 4096
    omega
  · show 0 + 1 * (y 2).val = (y 2).val
    omega

/-- What one trip of the first loop yields, head by head. -/
theorem trip_fwd (𝒱 : Variants) (c : Dev nD) (bd : Option 𝒱.V) (i : grid0.Coords) (arg2 : Memref sig .tc .vmem S2x1024x256 .bf16) (harg2 : arg2.IsWhole) (arg3 : Memref sig .tc .vmem S2x4096x256 .bf16) (harg3 : arg3.IsWhole) (arg4 : Memref sig .tc .vmem S2x4096x128 .bf16) (harg4 : arg4.IsWhole) (arg5 : Memref sig .tc .vmem S1024x256 .f32) (harg5 : arg5.IsWhole) (arg6 : Memref sig .tc .vmem S2x1x1x1024 .f32) (harg6 : arg6.IsWhole) (v0 v2 : Vec F S1x1024x256 .bf16)
    (x1 : Vec F S2x4096x256 .bf16) (x2 : Vec F S2x4096x128 .bf16) (k : Fin (k0_t1_loop i).trips) (s t : FwdSt F) :
    tripR_k0_t1 (F := F) 𝒱 c bd i arg2 harg2 arg3 harg3 arg4 harg4 arg5 harg5 arg6 harg6 v0 v2 (harg3.unread x1) (harg4.unread x2) k
        (s.1, s.2.1, s.2.2, t.1, t.2.1, t.2.2)
      = ((fwdStep (k0_pay28 v0) (rows3 x1 0 k.val) (rows3 x2 0 k.val) s).1,
         (fwdStep (k0_pay28 v0) (rows3 x1 0 k.val) (rows3 x2 0 k.val) s).2.1,
         (fwdStep (k0_pay28 v0) (rows3 x1 0 k.val) (rows3 x2 0 k.val) s).2.2,
         (fwdStep (k0_pay28 v2) (rows3 x1 1 k.val) (rows3 x2 1 k.val) t).1,
         (fwdStep (k0_pay28 v2) (rows3 x1 1 k.val) (rows3 x2 1 k.val) t).2.1,
         (fwdStep (k0_pay28 v2) (rows3 x1 1 k.val) (rows3 x2 1 k.val) t).2.2) := by
  rw [← readAt_rows3 arg3 harg3 x1 (k0_off1_inb i k) 0 k.val (k0_off1_eq i k),
    ← readAt_rows3 arg4 harg4 x2 (k0_off2_inb i k) 0 k.val (k0_off2_eq i k),
    ← readAt_rows3 arg3 harg3 x1 (k0_off3_inb i k) 1 k.val (k0_off3_eq i k),
    ← readAt_rows3 arg4 harg4 x2 (k0_off4_inb i k) 1 k.val (k0_off4_eq i k)]
  unfold tripR_k0_t1 trip_k0_t1
  rfl

/-- The carried values after `n` trips. -/
theorem st_fwd (𝒱 : Variants) (c : Dev nD) (bd : Option 𝒱.V) (i : grid0.Coords) (arg2 : Memref sig .tc .vmem S2x1024x256 .bf16) (harg2 : arg2.IsWhole) (arg3 : Memref sig .tc .vmem S2x4096x256 .bf16) (harg3 : arg3.IsWhole) (arg4 : Memref sig .tc .vmem S2x4096x128 .bf16) (harg4 : arg4.IsWhole) (arg5 : Memref sig .tc .vmem S1024x256 .f32) (harg5 : arg5.IsWhole) (arg6 : Memref sig .tc .vmem S2x1x1x1024 .f32) (harg6 : arg6.IsWhole) (v0 v2 : Vec F S1x1024x256 .bf16)
    (x1 : Vec F S2x4096x256 .bf16) (x2 : Vec F S2x4096x128 .bf16) (n : ℕ) (hn : n ≤ (k0_t1_loop i).trips) :
    st_k0_t1 (F := F) 𝒱 c bd i arg2 harg2 arg3 harg3 arg4 harg4 arg5 harg5 arg6 harg6 v0 v2 (harg3.unread x1) (harg4.unread x2)
        (k0_pay30 (F := F), k0_pay31 (F := F), k0_pay32 (F := F), k0_pay33 (F := F), k0_pay34 (F := F), k0_pay35 (F := F)) n
      = ((fwdSt (k0_pay28 v0) x1 x2 0 n).1, (fwdSt (k0_pay28 v0) x1 x2 0 n).2.1, (fwdSt (k0_pay28 v0) x1 x2 0 n).2.2,
         (fwdSt (k0_pay28 v2) x1 x2 1 n).1, (fwdSt (k0_pay28 v2) x1 x2 1 n).2.1, (fwdSt (k0_pay28 v2) x1 x2 1 n).2.2) := by
  induction n with
  | zero => rfl
  | succ n ih =>
    have h := st_k0_t1_succ (F := F) 𝒱 c bd i arg2 harg2 arg3 harg3 arg4 harg4 arg5 harg5 arg6 harg6 v0 v2 (harg3.unread x1) (harg4.unread x2)
        (k0_pay30 (F := F), k0_pay31 (F := F), k0_pay32 (F := F), k0_pay33 (F := F), k0_pay34 (F := F), k0_pay35 (F := F)) ⟨n, hn⟩
    rw [show n + 1 = (⟨n, hn⟩ : Fin (k0_t1_loop i).trips).val + 1 from rfl, h, ih (Nat.le_of_succ_le hn)]
    exact trip_fwd 𝒱 c bd i arg2 harg2 arg3 harg3 arg4 harg4 arg5 harg5 arg6 harg6 v0 v2 x1 x2 ⟨n, hn⟩ _ _

/-- A load of one head of the query block reads `qHead`. -/
theorem readAt_qHead {κ : Kind} {sp : Space} (m : Memref sig κ sp S2x1024x256 .bf16) (hm : m.IsWhole)
    (x : Vec F S2x1024x256 .bf16) {off : Fin 3 → ℕ} (inb : ∀ a, off a + S1x1024x256.size a ≤ S2x1024x256.size a) (h : Fin 2)
    (ho : off = ![h.val, 0, 0]) :
    m.view.readAt (Elt F) (Rect.unit (s := S2x1024x256) off S1x1024x256.size inb).toLoadRect (hm.unread x) = qHead x h := by
  subst ho
  funext y
  rw [hm.readAt_unread]
  have hy0 : (y 0).val < 1 := (y 0).isLt
  refine congrArg x (funext fun a => Fin.ext ?_)
  show ![h.val, 0, 0] a + 1 * (y a).val = _
  fin_cases a
  · have : (y 0).val = 0 := by omega
    simp [this, ix3]
  · show 0 + 1 * (y 1).val = (y 1).val
    omega
  · show 0 + 1 * (y 2).val = (y 2).val
    omega

/-- Two stores side by side make the whole block. -/
theorem put_halves {e : EltTy} (z : Vec F S1024x256 e) (g : Fin 2 → Vec F S1024x128 e) :
    VecWindow.put (s := S1024x256) (VecWindow.put (s := S1024x256) z ![0, 0] S1024x128.size (g 0)) ![0, 128] S1024x128.size (g 1)
      = fun y => g ⟨(y 1).val / 128, by have : (y 1).val < 256 := (y 1).isLt; omega⟩ (ix2 (y 0) ⟨(y 1).val % 128, by omega⟩) := by
  funext y
  have h0 : (y 0).val < 1024 := (y 0).isLt
  have h1 : (y 1).val < 256 := (y 1).isLt
  unfold VecWindow.put
  by_cases hlt : (y 1).val < 128
  · have n2 : ¬ ∀ a, (![0, 128] : Fin 2 → ℕ) a ≤ (y a).val ∧ (y a).val < (![0, 128] : Fin 2 → ℕ) a + S1024x128.size a := fun h => by
      have : 128 ≤ (y 1).val := (h 1).1
      omega
    have p1 : ∀ a, (![0, 0] : Fin 2 → ℕ) a ≤ (y a).val ∧ (y a).val < (![0, 0] : Fin 2 → ℕ) a + S1024x128.size a := fun a => by
      fin_cases a
      · exact ⟨Nat.zero_le _, by show (y 0).val < 0 + 1024; omega⟩
      · exact ⟨Nat.zero_le _, by show (y 1).val < 0 + 128; omega⟩
    refine (dif_neg n2).trans ((dif_pos p1).trans ?_)
    have e0 : (⟨(y 1).val / 128, by omega⟩ : Fin 2) = 0 := Fin.ext (by show (y 1).val / 128 = 0; omega)
    rw [e0]
    refine congrArg (g 0) (funext fun a => Fin.ext ?_)
    fin_cases a
    · show (y 0).val - 0 = (y 0).val; omega
    · show (y 1).val - 0 = (y 1).val % 128; omega
  · have p2 : ∀ a, (![0, 128] : Fin 2 → ℕ) a ≤ (y a).val ∧ (y a).val < (![0, 128] : Fin 2 → ℕ) a + S1024x128.size a := fun a => by
      fin_cases a
      · exact ⟨Nat.zero_le _, by show (y 0).val < 0 + 1024; omega⟩
      · exact ⟨by show 128 ≤ (y 1).val; omega, by show (y 1).val < 128 + 128; omega⟩
    refine (dif_pos p2).trans ?_
    have e0 : (⟨(y 1).val / 128, by omega⟩ : Fin 2) = 1 := Fin.ext (by show (y 1).val / 128 = 1; omega)
    rw [e0]
    refine congrArg (g 1) (funext fun a => Fin.ext ?_)
    fin_cases a
    · show (y 0).val - 0 = (y 0).val; omega
    · show (y 1).val - 128 = (y 1).val % 128; omega

/-- Two stores one above the other make the whole block of row statistics. -/
theorem put_stack {e : EltTy} (z : Vec F S2x1x1x1024 e) (g : Fin 2 → Vec F S1x1x1x1024 e) :
    VecWindow.put (s := S2x1x1x1024) (VecWindow.put (s := S2x1x1x1024) z ![0, 0, 0, 0] S1x1x1x1024.size (g 0)) ![1, 0, 0, 0] S1x1x1x1024.size (g 1)
      = fun y => g (y 0) (ix4 0 0 0 (y 3)) := by
  funext y
  have h0 : (y 0).val < 2 := (y 0).isLt
  have h1 : (y 1).val < 1 := (y 1).isLt
  have h2 : (y 2).val < 1 := (y 2).isLt
  have h3 : (y 3).val < 1024 := (y 3).isLt
  unfold VecWindow.put
  by_cases hlt : (y 0).val < 1
  · have n2 : ¬ ∀ a, (![1, 0, 0, 0] : Fin 4 → ℕ) a ≤ (y a).val ∧ (y a).val < (![1, 0, 0, 0] : Fin 4 → ℕ) a + S1x1x1x1024.size a := fun h => by
      have : 1 ≤ (y 0).val := (h 0).1
      omega
    have p1 : ∀ a, (![0, 0, 0, 0] : Fin 4 → ℕ) a ≤ (y a).val ∧ (y a).val < (![0, 0, 0, 0] : Fin 4 → ℕ) a + S1x1x1x1024.size a := fun a => by
      fin_cases a
      · exact ⟨Nat.zero_le _, by show (y 0).val < 0 + 1; omega⟩
      · exact ⟨Nat.zero_le _, by show (y 1).val < 0 + 1; omega⟩
      · exact ⟨Nat.zero_le _, by show (y 2).val < 0 + 1; omega⟩
      · exact ⟨Nat.zero_le _, by show (y 3).val < 0 + 1024; omega⟩
    refine (dif_neg n2).trans ((dif_pos p1).trans ?_)
    have e0 : @Eq (Fin 2) (y 0) 0 := Fin.ext (by show (y 0).val = 0; omega)
    refine Eq.trans ?_ (congrArg (fun h : Fin 2 => g h (ix4 0 0 0 (y 3))) e0.symm)
    show g 0 _ = g 0 _
    refine congrArg (g 0) (funext fun a => Fin.ext ?_)
    fin_cases a
    · show (y 0).val - 0 = 0; omega
    · show (y 1).val - 0 = 0; omega
    · show (y 2).val - 0 = 0; omega
    · show (y 3).val - 0 = (y 3).val; omega
  · have p2 : ∀ a, (![1, 0, 0, 0] : Fin 4 → ℕ) a ≤ (y a).val ∧ (y a).val < (![1, 0, 0, 0] : Fin 4 → ℕ) a + S1x1x1x1024.size a := fun a => by
      fin_cases a
      · exact ⟨by show 1 ≤ (y 0).val; omega, by show (y 0).val < 1 + 1; omega⟩
      · exact ⟨Nat.zero_le _, by show (y 1).val < 0 + 1; omega⟩
      · exact ⟨Nat.zero_le _, by show (y 2).val < 0 + 1; omega⟩
      · exact ⟨Nat.zero_le _, by show (y 3).val < 0 + 1024; omega⟩
    refine (dif_pos p2).trans ?_
    have e0 : @Eq (Fin 2) (y 0) 1 := Fin.ext (by show (y 0).val = 1; omega)
    refine Eq.trans ?_ (congrArg (fun h : Fin 2 => g h (ix4 0 0 0 (y 3))) e0.symm)
    show g 1 _ = g 1 _
    refine congrArg (g 1) (funext fun a => Fin.ext ?_)
    fin_cases a
    · show (y 0).val - 1 = 0; omega
    · show (y 1).val - 0 = 0; omega
    · show (y 2).val - 0 = 0; omega
    · show (y 3).val - 0 = (y 3).val; omega

/-- The forward body on whole staging memrefs: the three inputs are left as they were, the two outputs hold `fwdOut` and `fwdLse`. -/
theorem fwd_body (c : Dev nD) (i : grid0.Coords) (arg2 : Memref sig .tc .vmem S2x1024x256 .bf16) (harg2 : arg2.IsWhole) (arg3 : Memref sig .tc .vmem S2x4096x256 .bf16) (harg3 : arg3.IsWhole) (arg4 : Memref sig .tc .vmem S2x4096x128 .bf16) (harg4 : arg4.IsWhole) (arg5 : Memref sig .tc .vmem S1024x256 .f32) (harg5 : arg5.IsWhole) (arg6 : Memref sig .tc .vmem S2x1x1x1024 .f32) (harg6 : arg6.IsWhole)
    (x0 : Vec F S2x1024x256 .bf16) (x1 : Vec F S2x4096x256 .bf16) (x2 : Vec F S2x4096x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (fwdOut x0 x1 x2 (i 1).val) ∗ owns (c : Thread nD τ) arg6 fullShare (fwdLse x0 x1 x2 (i 1).val)) -∗ K ⟨⟩))
      ⊢ wp frame (wpE (defs₀ (F := F)) Variants.none c none) E (cc0_attn_fwd i arg2 harg2 arg3 harg3 arg4 harg4 arg5 harg5 arg6 harg6) K := by
  simp only [cc0_attn_fwd_eq_skeleton]; unfold cc0_attn_fwd_skel
  simp only [k0_part3_eq_skeleton, k0_part4_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  have e2 : Scf.trips (k0_t2_loop i).lb (k0_t2_loop i).ub (k0_t2_loop i).st = 0 := k0_trips2 i
  have e1 : ∀ v0 v2 : Vec F S1x1024x256 .bf16, st_k0_t1 (F := F) Variants.none c none i arg2 harg2 arg3 harg3 arg4 harg4 arg5 harg5 arg6 harg6 v0 v2 (harg3.unread x1) (harg4.unread x2)
        (k0_pay30 (F := F), k0_pay31 (F := F), k0_pay32 (F := F), k0_pay33 (F := F), k0_pay34 (F := F), k0_pay35 (F := F)) (Scf.trips (k0_t1_loop i).lb (k0_t1_loop i).ub (k0_t1_loop i).st)
      = ((fwdSt (k0_pay28 v0) x1 x2 0 (i 1).val).1, (fwdSt (k0_pay28 v0) x1 x2 0 (i 1).val).2.1, (fwdSt (k0_pay28 v0) x1 x2 0 (i 1).val).2.2,
         (fwdSt (k0_pay28 v2) x1 x2 1 (i 1).val).1, (fwdSt (k0_pay28 v2) x1 x2 1 (i 1).val).2.1, (fwdSt (k0_pay28 v2) x1 x2 1 (i 1).val).2.2) := fun v0 v2 => by
    rw [show Scf.trips (k0_t1_loop i).lb (k0_t1_loop i).ub (k0_t1_loop i).st = (i 1).val from k0_trips i]
    exact st_fwd _ c _ i arg2 harg2 arg3 harg3 arg4 harg4 arg5 harg5 arg6 harg6 v0 v2 x1 x2 _ (k0_trips i).ge
  have e9 := readAt_rows3 arg3 harg3 x1 (k0_off9_inb i) 0 _ (k0_off9_eq i)
  have e10 := readAt_rows3 arg4 harg4 x2 (k0_off10_inb i) 0 _ (k0_off10_eq i)
  have e11 := readAt_rows3 arg3 harg3 x1 (k0_off11_inb i) 1 _ (k0_off11_eq i)
  have e12 := readAt_rows3 arg4 harg4 x2 (k0_off12_inb i) 1 _ (k0_off12_eq i)
  have eq0 := readAt_qHead arg2 harg2 x0 inb_S2x1024x256_S1x1024x256_0_0_0 0 rfl
  have eq1 := readAt_qHead arg2 harg2 x0 inb_S2x1024x256_S1x1024x256_1_0_0 1 rfl
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_cons_put _ _ _ _ _ rfl, View.read_writes_cons_put _ _ _ _ _ rfl]
    refine Eq.trans (congrArg₂ (fun a b => VecWindow.put (s := S1024x256) (VecWindow.put (s := S1024x256) _ ![0, 0] S1024x128.size a) ![0, 128] S1024x128.size b) ?_ ?_)
      (put_halves (F := F) (e := .f32) _ (fun h => fwdO x0 x1 x2 h (i 1).val))
    · unfold fwd_body.sl.r_1 fwd_body.sl.r_2 fwd_body.sl.r_7 fwd_body.sl.r_8
      simp only [e2, st_k0_t2_zero, e1, e9, e10, eq0, eq1]
      rfl
    · unfold fwd_body.sl.r_11 fwd_body.sl.r_12 fwd_body.sl.r fwd_body.sl.r_3 fwd_body.sl.r_4 fwd_body.sl.r_5
      simp only [e2, st_k0_t2_zero, e1, e11, e12, eq0, eq1]
      rfl
  iexists _; isplitr; swap; · iexact H4
  ipureintro
  rw [View.read_writes_cons_put _ _ _ _ _ rfl, View.read_writes_cons_put _ _ _ _ _ rfl]
  refine Eq.trans (congrArg₂ (fun a b => VecWindow.put (s := S2x1x1x1024) (VecWindow.put (s := S2x1x1x1024) _ ![0, 0, 0, 0] S1x1x1x1024.size a) ![1, 0, 0, 0] S1x1x1x1024.size b) ?_ ?_)
    (put_stack (F := F) (e := .f32) _ (fun h => fwdL x0 x1 x2 h (i 1).val))
  · unfold fwd_body.sl.r_6 fwd_body.sl.r_9
    try unfold fwd_body.sl.r_1
    try unfold fwd_body.sl.r_7
    try unfold fwd_body.sl.r_8
    simp only [e2, st_k0_t2_zero, e1, e9, e10, eq0, eq1]
    rfl
  · try unfold fwd_body.sl.r_10
    try unfold fwd_body.sl.r_11
    unfold fwd_body.sl.r fwd_body.sl.r_3 fwd_body.sl.r_4
    simp only [e2, st_k0_t2_zero, e1, e11, e12, eq0, eq1]
    rfl

end Cert.KernelIdeal.Hand

end
-- ==== Proof.Bwd.lean ====
/-
  The backward body's run, with what it leaves in its three output blocks named by Spec.lean's functions.
-/
module

public import proofs.«01_k».proof.Proof.Fwd
public import Idealize.ShloMosaic.Lib.Pipeline.FrameBody
public import Idealize.ShloMosaic.Lib.WholeRead

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The loop of the backward body runs once for each query block past the diagonal. -/
theorem k1_trips (i : grid1.Coords) : (k1_t1_loop i).trips = 3 - (i 1).val := by
  have h : ∀ i : grid1.Coords, (k1_t1_loop i).trips = 3 - (i 1).val := by decide +kernel
  exact h i

/-- The second loop over query blocks is empty: every block is taken by the first. -/
theorem k1_trips2 (i : grid1.Coords) : (k1_t2_loop i).trips = 0 := by
  have h : ∀ i : grid1.Coords, (k1_t2_loop i).trips = 0 := by decide +kernel
  exact h i

/-- The key block's offset. -/
theorem k1_off1_eq (i : grid1.Coords) : k1_off1 i = ![0, 1024 * (i 1).val, 0] := by
  have h : ∀ i : grid1.Coords, k1_off1 i = ![0, 1024 * (i 1).val, 0] := by decide +kernel
  exact h i

/-- The offset of the block's own rows. -/
theorem k1_off2_eq (i : grid1.Coords) : k1_off2 i = ![1024 * (i 1).val, 0] := by
  have h : ∀ i : grid1.Coords, k1_off2 i = ![1024 * (i 1).val, 0] := by decide +kernel
  exact h i

/-- The offset of the block's own row logarithms. -/
theorem k1_off3_eq (i : grid1.Coords) : k1_off3 i = ![0, (i 1).val, 0, 0] := by
  have h : ∀ i : grid1.Coords, k1_off3 i = ![0, (i 1).val, 0, 0] := by decide +kernel
  exact h i

/-- The query block's offset in the loop. -/
theorem k1_off4_eq (i : grid1.Coords) (t : Fin (k1_t1_loop i).trips) : k1_off4 i t = ![0, 1024 * ((i 1).val + 1 + t.val), 0] := by
  have h : ∀ (i : grid1.Coords) (t : Fin (k1_t1_loop i).trips), k1_off4 i t = ![0, 1024 * ((i 1).val + 1 + t.val), 0] := by decide +kernel
  exact h i t

/-- The row block's offset in the loop. -/
theorem k1_off5_eq (i : grid1.Coords) (t : Fin (k1_t1_loop i).trips) : k1_off5 i t = ![1024 * ((i 1).val + 1 + t.val), 0] := by
  have h : ∀ (i : grid1.Coords) (t : Fin (k1_t1_loop i).trips), k1_off5 i t = ![1024 * ((i 1).val + 1 + t.val), 0] := by decide +kernel
  exact h i t

/-- The row logarithms' offset in the loop. -/
theorem k1_off6_eq (i : grid1.Coords) (t : Fin (k1_t1_loop i).trips) : k1_off6 i t = ![0, (i 1).val + 1 + t.val, 0, 0] := by
  have h : ∀ (i : grid1.Coords) (t : Fin (k1_t1_loop i).trips), k1_off6 i t = ![0, (i 1).val + 1 + t.val, 0, 0] := by decide +kernel
  exact h i t

/-- A load of 1024 rows of one plane, of any contents, reads `rows3` of what the view reads. -/
theorem readAt_rows3' {p n : ℕ} {κ : Kind} {sp : Space} {e : EltTy} (v : View sig κ sp ⟨3, ![p, 4096, n]⟩ e)
    (f : v.ty.Contents (Elt F)) {off : Fin 3 → ℕ} (inb : ∀ a, off a + ![1, 1024, n] a ≤ ![p, 4096, n] a) (h : Fin p) (j : ℕ)
    (ho : off = ![h.val, 1024 * j, 0]) :
    v.readAt (Elt F) (Rect.unit (s := ⟨3, ![p, 4096, n]⟩) off ![1, 1024, n] inb).toLoadRect f = rows3 (v.read (Elt F) f) h j := by
  subst ho
  funext y
  have h1 := inb 1
  have hy := (y 1).isLt
  have hy0 := (y 0).isLt
  refine congrArg (v.read (Elt F) f) (funext fun a => Fin.ext ?_)
  show ![h.val, 1024 * j, 0] a + 1 * (y a).val = _
  fin_cases a
  · have : (y 0).val = 0 := by change (y 0).val < 1 at hy0; omega
    simp [this, ix3]
  · change 1024 * j + 1024 ≤ 4096 at h1
    change (y 1).val < 1024 at hy
    show 1024 * j + 1 * (y 1).val = (1024 * j + (y 1).val) % 4096
    omega
  · show 0 + 1 * (y 2).val = (y 2).val
    omega

/-- A load of 1024 rows of a matrix reads `rows2`. -/
theorem readAt_rows2 {n : ℕ} {κ : Kind} {sp : Space} {e : EltTy} (m : Memref sig κ sp ⟨2, ![4096, n]⟩ e) (hm : m.IsWhole)
    (x : Vec F ⟨2, ![4096, n]⟩ e) {off : Fin 2 → ℕ} (inb : ∀ a, off a + ![1024, n] a ≤ ![4096, n] a) (j : ℕ)
    (ho : off = ![1024 * j, 0]) :
    m.view.readAt (Elt F) (Rect.unit (s := ⟨2, ![4096, n]⟩) off ![1024, n] inb).toLoadRect (hm.unread x) = rows2 x j := by
  subst ho
  funext y
  rw [hm.readAt_unread]
  have h1 := inb 0
  have hy := (y 0).isLt
  refine congrArg x (funext fun a => Fin.ext ?_)
  show ![1024 * j, 0] a + 1 * (y a).val = _
  fin_cases a
  · change 1024 * j + 1024 ≤ 4096 at h1
    change (y 0).val < 1024 at hy
    show 1024 * j + 1 * (y 0).val = (1024 * j + (y 0).val) % 4096
    omega
  · show 0 + 1 * (y 1).val = (y 1).val
    omega

/-- A load of one block of the row statistics reads `lseRow`. -/
theorem readAt_lseRow {κ : Kind} {sp : Space} (m : Memref sig κ sp S1x4x1x1024 .f32) (hm : m.IsWhole)
    (x : Vec F S1x4x1x1024 .f32) {off : Fin 4 → ℕ} (inb : ∀ a, off a + S1x1x1x1024.size a ≤ S1x4x1x1024.size a) (j : ℕ)
    (ho : off = ![0, j, 0, 0]) :
    m.view.readAt (Elt F) (Rect.unit (s := S1x4x1x1024) off S1x1x1x1024.size inb).toLoadRect (hm.unread x) = lseRow x j := by
  subst ho
  funext y
  rw [hm.readAt_unread]
  have h1 := inb 1
  have hy0 : (y 0).val < 1 := (y 0).isLt
  have hy1 : (y 1).val < 1 := (y 1).isLt
  have hy2 : (y 2).val < 1 := (y 2).isLt
  refine congrArg x (funext fun a => Fin.ext ?_)
  show ![0, j, 0, 0] a + 1 * (y a).val = _
  fin_cases a
  · show 0 + 1 * (y 0).val = 0
    omega
  · change j + 1 ≤ 4 at h1
    show j + 1 * (y 1).val = j % 4
    omega
  · show 0 + 1 * (y 2).val = 0
    omega
  · show 0 + 1 * (y 3).val = (y 3).val
    omega

/-- What one trip of the loop yields. -/
theorem trip_bwd (𝒱 : Variants) (c : Dev nD) (bd : Option 𝒱.V) (i : grid1.Coords) (arg2 : Memref sig .tc .vmem S1x4096x256 .bf16) (harg2 : arg2.IsWhole) (arg3 : Memref sig .tc .vmem S1x1024x256 .bf16) (harg3 : arg3.IsWhole) (arg4 : Memref sig .tc .vmem S1x1024x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x4x1x1024 .f32) (harg7 : arg7.IsWhole) (arg8 : Memref sig .tc .hbm S8x128 .f32) (harg8 : arg8.IsWhole) (arg9 : Memref sig .tc .vmem S1x4096x256 .f32) (harg9 : arg9.IsWhole) (arg10 : Memref sig .tc .vmem S1x1024x256 .f32) (harg10 : arg10.IsWhole) (arg11 : Memref sig .tc .vmem S1x1024x128 .f32) (harg11 : arg11.IsWhole) (arg1 : BitVec 32) (v4 : FVec F S1024x256 .bf16) (v6 : FVec F S1024x128 .bf16) (v8 : FVec F S1024x256 .f32) (v9 : FVec F S1024x128 .f32) (v10 : BitVec 32) (v12 : BitVec 32) (v15 : FVec F S1024x256 .bf16) (v18 : FVec F S1024x128 .bf16) (v34 v35 : FVec F S8x1024 .f32)
    (x0 : Vec F S1x4096x256 .bf16) (x3 x4 : Vec F S4096x128 .f32) (x5 : Vec F S1x4x1x1024 .f32) (k : Fin (k1_t1_loop i).trips) (s : BwdSt F) (f : arg9.view.ty.Contents (Elt F)) :
    tripR_k1_t1 (F := F) 𝒱 c bd i arg2 harg2 arg3 harg3 arg4 harg4 arg5 harg5 arg6 harg6 arg7 harg7 arg8 harg8 arg9 harg9 arg10 harg10 arg11 harg11 arg1 v4 v6 (k1_pay18 (F := F)) v8 v9 v10 v12 v15 v18 v34 v35 (harg2.unread x0) (harg5.unread x3) (harg6.unread x4) (harg7.unread x5) k s f
      = (k1_pay34 s.1 (k1_pay8 v4 v6 k1_pay18 (rows3 x0 0 ((i 1).val + 1 + k.val)) (rows2 x4 ((i 1).val + 1 + k.val)) (rows2 x3 ((i 1).val + 1 + k.val)) (lseRow x5 ((i 1).val + 1 + k.val))),
         k1_pay6 v4 s.2 (rows3 x0 0 ((i 1).val + 1 + k.val)) (rows2 x4 ((i 1).val + 1 + k.val)) (lseRow x5 ((i 1).val + 1 + k.val))) := by
  rw [← readAt_rows3 arg2 harg2 x0 (k1_off4_inb i k) 0 _ (k1_off4_eq i k),
    ← readAt_rows2 arg6 harg6 x4 (k1_off5_inb i k) _ (k1_off5_eq i k),
    ← readAt_rows2 arg5 harg5 x3 (k1_off5_inb i k) _ (k1_off5_eq i k),
    ← readAt_lseRow arg7 harg7 x5 (k1_off6_inb i k) _ (k1_off6_eq i k)]
  unfold tripR_k1_t1 trip_k1_t1
  rfl

/-- What one trip of the loop writes into the query gradient. -/
theorem tripL_bwd (𝒱 : Variants) (c : Dev nD) (bd : Option 𝒱.V) (i : grid1.Coords) (arg2 : Memref sig .tc .vmem S1x4096x256 .bf16) (harg2 : arg2.IsWhole) (arg3 : Memref sig .tc .vmem S1x1024x256 .bf16) (harg3 : arg3.IsWhole) (arg4 : Memref sig .tc .vmem S1x1024x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x4x1x1024 .f32) (harg7 : arg7.IsWhole) (arg8 : Memref sig .tc .hbm S8x128 .f32) (harg8 : arg8.IsWhole) (arg9 : Memref sig .tc .vmem S1x4096x256 .f32) (harg9 : arg9.IsWhole) (arg10 : Memref sig .tc .vmem S1x1024x256 .f32) (harg10 : arg10.IsWhole) (arg11 : Memref sig .tc .vmem S1x1024x128 .f32) (harg11 : arg11.IsWhole) (arg1 : BitVec 32) (v4 : FVec F S1024x256 .bf16) (v6 : FVec F S1024x128 .bf16) (v8 : FVec F S1024x256 .f32) (v9 : FVec F S1024x128 .f32) (v10 : BitVec 32) (v12 : BitVec 32) (v15 : FVec F S1024x256 .bf16) (v18 : FVec F S1024x128 .bf16) (v34 v35 : FVec F S8x1024 .f32)
    (x0 : Vec F S1x4096x256 .bf16) (x3 x4 : Vec F S4096x128 .f32) (x5 : Vec F S1x4x1x1024 .f32) (k : Fin (k1_t1_loop i).trips) (s : BwdSt F) (f : arg9.view.ty.Contents (Elt F)) :
    tripL_k1_t1 (F := F) 𝒱 c bd i arg2 harg2 arg3 harg3 arg4 harg4 arg5 harg5 arg6 harg6 arg7 harg7 arg8 harg8 arg9 harg9 arg10 harg10 arg11 harg11 arg1 v4 v6 (k1_pay18 (F := F)) v8 v9 v10 v12 v15 v18 v34 v35 (harg2.unread x0) (harg5.unread x3) (harg6.unread x4) (harg7.unread x5) k s f
      = [⟨Rect.unit (s := S1x4096x256) (k1_off4 i k) S1x1024x256.size (k1_off4_inb i k),
          k1_pay35 v4 (k1_pay7 v4 v6 k1_pay18 (rows3 x0 0 ((i 1).val + 1 + k.val)) (rows2 x4 ((i 1).val + 1 + k.val)) (rows2 x3 ((i 1).val + 1 + k.val)) (lseRow x5 ((i 1).val + 1 + k.val)))
            (rows3 (arg9.view.read (Elt F) f) 0 ((i 1).val + 1 + k.val))⟩] := by
  rw [← readAt_rows3 arg2 harg2 x0 (k1_off4_inb i k) 0 _ (k1_off4_eq i k),
    ← readAt_rows2 arg6 harg6 x4 (k1_off5_inb i k) _ (k1_off5_eq i k),
    ← readAt_rows2 arg5 harg5 x3 (k1_off5_inb i k) _ (k1_off5_eq i k),
    ← readAt_lseRow arg7 harg7 x5 (k1_off6_inb i k) _ (k1_off6_eq i k),
    ← readAt_rows3' arg9.view f (k1_off4_inb i k) 0 _ (k1_off4_eq i k)]
  unfold tripL_k1_t1 trip_k1_t1
  rfl

/-- The carried sums and the query gradient after `n` trips, from any start `init` and any contents `G` that are those of the spec after the diagonal block. -/
theorem st_bwd (𝒱 : Variants) (c : Dev nD) (bd : Option 𝒱.V) (i : grid1.Coords) (arg2 : Memref sig .tc .vmem S1x4096x256 .bf16) (harg2 : arg2.IsWhole) (arg3 : Memref sig .tc .vmem S1x1024x256 .bf16) (harg3 : arg3.IsWhole) (arg4 : Memref sig .tc .vmem S1x1024x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x4x1x1024 .f32) (harg7 : arg7.IsWhole) (arg8 : Memref sig .tc .hbm S8x128 .f32) (harg8 : arg8.IsWhole) (arg9 : Memref sig .tc .vmem S1x4096x256 .f32) (harg9 : arg9.IsWhole) (arg10 : Memref sig .tc .vmem S1x1024x256 .f32) (harg10 : arg10.IsWhole) (arg11 : Memref sig .tc .vmem S1x1024x128 .f32) (harg11 : arg11.IsWhole) (arg1 : BitVec 32) (v4 : FVec F S1024x256 .bf16) (v6 : FVec F S1024x128 .bf16) (v8 : FVec F S1024x256 .f32) (v9 : FVec F S1024x128 .f32) (v10 : BitVec 32) (v12 : BitVec 32) (v15 : FVec F S1024x256 .bf16) (v18 : FVec F S1024x128 .bf16) (v34 v35 : FVec F S8x1024 .f32)
    (x0 : Vec F S1x4096x256 .bf16) (x3 x4 : Vec F S4096x128 .f32) (x5 : Vec F S1x4x1x1024 .f32) (G : arg9.view.ty.Contents (Elt F)) (x6 : Vec F S1x4096x256 .f32) (init : BwdSt F)
    (hi : init = bwdSt x0 v4 v6 x3 x4 x5 (i 1).val 0) (hG : arg9.view.read (Elt F) G = bwdDq x0 v4 v6 x3 x4 x5 (i 1).val x6 0)
    (n : ℕ) (hn : n ≤ (k1_t1_loop i).trips) :
    (st_k1_t1 (F := F) 𝒱 c bd i arg2 harg2 arg3 harg3 arg4 harg4 arg5 harg5 arg6 harg6 arg7 harg7 arg8 harg8 arg9 harg9 arg10 harg10 arg11 harg11 arg1 v4 v6 (k1_pay18 (F := F)) v8 v9 v10 v12 v15 v18 v34 v35 (harg2.unread x0) (harg5.unread x3) (harg6.unread x4) (harg7.unread x5) G init n).1 = bwdSt x0 v4 v6 x3 x4 x5 (i 1).val n
    ∧ arg9.view.read (Elt F) (arg9.view.writes (Elt F) G (st_k1_t1 (F := F) 𝒱 c bd i arg2 harg2 arg3 harg3 arg4 harg4 arg5 harg5 arg6 harg6 arg7 harg7 arg8 harg8 arg9 harg9 arg10 harg10 arg11 harg11 arg1 v4 v6 (k1_pay18 (F := F)) v8 v9 v10 v12 v15 v18 v34 v35 (harg2.unread x0) (harg5.unread x3) (harg6.unread x4) (harg7.unread x5) G init n).2) = bwdDq x0 v4 v6 x3 x4 x5 (i 1).val x6 n := by
  induction n with
  | zero => exact ⟨hi, hG⟩
  | succ n ih =>
    obtain ⟨ih1, ih2⟩ := ih (Nat.le_of_succ_le hn)
    have h := st_k1_t1_succ (F := F) 𝒱 c bd i arg2 harg2 arg3 harg3 arg4 harg4 arg5 harg5 arg6 harg6 arg7 harg7 arg8 harg8 arg9 harg9 arg10 harg10 arg11 harg11 arg1 v4 v6 (k1_pay18 (F := F)) v8 v9 v10 v12 v15 v18 v34 v35 (harg2.unread x0) (harg5.unread x3) (harg6.unread x4) (harg7.unread x5) G init ⟨n, hn⟩
    rw [trip_bwd, tripL_bwd] at h
    have e : (⟨n, hn⟩ : Fin (k1_t1_loop i).trips).val = n := rfl
    rw [e, ih1, ih2] at h
    rw [h]
    refine ⟨rfl, ?_⟩
    rw [List.singleton_append, View.read_writes_cons_put _ _ _ _ _ (k1_off4_eq i ⟨n, hn⟩), ih2]
    rfl

/-- The condition under which the backward body zeroes the query gradient. -/
abbrev k1_cond1 (i : grid1.Coords) : Prop := (Scalar.cmpi .ne (Scalar.extui (Scalar.cmpi .eq (BitVec.ofNat 32 (i 1).val) 0#32)) 0#32) = 1#1

/-- It holds at the first key block of each head. -/
theorem k1_cond1_iff (i : grid1.Coords) : k1_cond1 i ↔ (i 1).val = 0 := by
  have h : ∀ i : grid1.Coords, k1_cond1 i ↔ (i 1).val = 0 := by decide +kernel
  exact h i

/-- The backward body on whole staging memrefs, at a point that first zeroes the query gradient: the inputs are left
    as they were, the outputs hold the spec's query gradient, key gradient and value gradient. -/
theorem bwd_body_A (c : Dev nD) (i : grid1.Coords) (arg2 : Memref sig .tc .vmem S1x4096x256 .bf16) (harg2 : arg2.IsWhole) (arg3 : Memref sig .tc .vmem S1x1024x256 .bf16) (harg3 : arg3.IsWhole) (arg4 : Memref sig .tc .vmem S1x1024x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x4x1x1024 .f32) (harg7 : arg7.IsWhole) (arg9 : Memref sig .tc .vmem S1x4096x256 .f32) (harg9 : arg9.IsWhole) (arg10 : Memref sig .tc .vmem S1x1024x256 .f32) (harg10 : arg10.IsWhole) (arg11 : Memref sig .tc .vmem S1x1024x128 .f32) (harg11 : arg11.IsWhole) (hc0 : k1_cond1 i)
    (x0 : Vec F S1x4096x256 .bf16) (x1 : Vec F S1x1024x256 .bf16) (x2 : Vec F S1x1024x128 .bf16) (x3 x4 : Vec F S4096x128 .f32) (x5 : Vec F S1x4x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (bwdDq x0 (k1_pay16 x1) (k1_pay17 x2) x3 x4 x5 (i 1).val k1_pay15 (3 - (i 1).val)) ∗ owns (c : Thread nD τ) arg10 fullShare (k1_pay1 (bwdSt x0 (k1_pay16 x1) (k1_pay17 x2) x3 x4 x5 (i 1).val (3 - (i 1).val)).1) ∗ owns (c : Thread nD τ) arg11 fullShare (k1_pay2 (bwdSt x0 (k1_pay16 x1) (k1_pay17 x2) x3 x4 x5 (i 1).val (3 - (i 1).val)).2)) -∗ K ⟨⟩))
      ⊢ wp frame (wpE (defs₀ (F := F)) Variants.none c none) E (cc1_attn_bwd i arg2 harg2 arg3 harg3 arg4 harg4 arg5 harg5 arg6 harg6 arg7 harg7 (Memref.whole main_v4) (Memref.isWhole_whole _) arg9 harg9 arg10 harg10 arg11 harg11) K := by
  simp only [cc1_attn_bwd_eq_skeleton]; unfold cc1_attn_bwd_skel
  simp only [k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  have e2 : Scf.trips (k1_t2_loop i).lb (k1_t2_loop i).ub (k1_t2_loop i).st = 0 := k1_trips2 i
  have et : Scf.trips (k1_t1_loop i).lb (k1_t1_loop i).ub (k1_t1_loop i).st = 3 - (i 1).val := k1_trips i
  have l2 := readAt_rows3 arg2 harg2 x0 (k1_off1_inb i) 0 _ (k1_off1_eq i)
  have l3 : arg3.view.readAt (Elt F) (Rect.unit ![0, 0, 0] S1x1024x256.size inb_S1x1024x256_S1x1024x256_0_0_0).toLoadRect (harg3.unread x1) = x1 :=
    (View.readAt_full _ _ _).trans (harg3.read_unread x1)
  have l4 : arg4.view.readAt (Elt F) (Rect.unit ![0, 0, 0] S1x1024x128.size inb_S1x1024x128_S1x1024x128_0_0_0).toLoadRect (harg4.unread x2) = x2 :=
    (View.readAt_full _ _ _).trans (harg4.read_unread x2)
  have l5 := readAt_rows2 arg5 harg5 x3 (k1_off2_inb i) _ (k1_off2_eq i)
  have l6 := readAt_rows2 arg6 harg6 x4 (k1_off2_inb i) _ (k1_off2_eq i)
  have l7 := readAt_lseRow arg7 harg7 x5 (k1_off3_inb i) _ (k1_off3_eq i)
  have l9 := fun f => readAt_rows3' arg9.view (F := F) f (k1_off1_inb i) 0 _ (k1_off1_eq i)
  have hst := fun (G : arg9.view.ty.Contents (Elt F)) (hG : arg9.view.read (Elt F) G = bwdDq x0 (k1_pay16 x1) (k1_pay17 x2) x3 x4 x5 (i 1).val k1_pay15 0) (v10 v12 : BitVec 32) =>
    st_bwd (F := F) Variants.none c none i arg2 harg2 arg3 harg3 arg4 harg4 arg5 harg5 arg6 harg6 arg7 harg7 (Memref.whole main_v4) (Memref.isWhole_whole _) arg9 harg9 arg10 harg10 arg11 harg11 (BitVec.ofNat 32 (i 1).val) (k1_pay16 x1) (k1_pay17 x2) k1_pay19 k1_pay20 v10 v12
      (k1_pay21 (rows3 x0 0 (i 1).val)) (k1_pay22 (rows2 x4 (i 1).val)) (k1_pay27 (rows2 x4 (i 1).val) (rows2 x3 (i 1).val)) (k1_pay28 (rows2 x4 (i 1).val) (rows2 x3 (i 1).val))
      x0 x3 x4 x5 G k1_pay15 _ rfl hG (3 - (i 1).val) (k1_trips i).ge
  have r0 : bwd_body_A.sl.r c arg3 harg3 x1 = k1_pay16 x1 := by unfold bwd_body_A.sl.r; rw [l3]
  have r1 : bwd_body_A.sl.r_1 c arg4 harg4 x2 = k1_pay17 x2 := by unfold bwd_body_A.sl.r_1; rw [l4]
  have r2 : bwd_body_A.sl.r_2 c i arg2 harg2 x0 = k1_pay21 (rows3 x0 0 (i 1).val) := by unfold bwd_body_A.sl.r_2; exact congrArg _ l2
  have r3 : bwd_body_A.sl.r_3 c i arg6 harg6 x4 = k1_pay22 (rows2 x4 (i 1).val) := by unfold bwd_body_A.sl.r_3; exact congrArg _ l6
  have r4 : bwd_body_A.sl.r_4 c i arg5 harg5 arg6 harg6 x3 x4 = k1_pay27 (rows2 x4 (i 1).val) (rows2 x3 (i 1).val) := by unfold bwd_body_A.sl.r_4; exact congrArg₂ _ l6 l5
  have r5 : bwd_body_A.sl.r_5 c i arg5 harg5 arg6 harg6 x3 x4 = k1_pay28 (rows2 x4 (i 1).val) (rows2 x3 (i 1).val) := by unfold bwd_body_A.sl.r_5; exact congrArg₂ _ l6 l5
  have eH : ∀ f, arg9.view.writes (Elt F) f (bwd_body_A.sl.H6_1 (F := F)) = harg9.unread k1_pay15 := fun f => harg9.eq_unread (by
    unfold bwd_body_A.sl.H6_1; exact View.read_writes_full _ _ _ _ _)
  have hG : arg9.view.read (Elt F) (arg9.view.writes (Elt F) (harg9.unread k1_pay15) [⟨Rect.unit (k1_off1 i) S1x1024x256.size (k1_off1_inb i),
      k1_pay33 (k1_pay16 x1) (k1_pay17 x2) (k1_pay21 (rows3 x0 0 (i 1).val)) (k1_pay22 (rows2 x4 (i 1).val)) (k1_pay27 (rows2 x4 (i 1).val) (rows2 x3 (i 1).val))
        (k1_pay28 (rows2 x4 (i 1).val) (rows2 x3 (i 1).val)) (lseRow x5 (i 1).val) (rows3 k1_pay15 0 (i 1).val)⟩]) = bwdDq x0 (k1_pay16 x1) (k1_pay17 x2) x3 x4 x5 (i 1).val k1_pay15 0 := by
    rw [View.read_writes_cons_put _ _ _ _ _ (k1_off1_eq i), View.writes_nil, harg9.read_unread]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    simp only [e2, et, st_k1_t2.eq_1, r0, r1, r2, r3, r4, r5, l7, l9, eH, View.writes_append, View.writes_cons, harg9.read_unread, List.nil_append]
    exact (hst _ hG _ _).2
  isplitl [H7]
  · iexists _; isplitr; swap; · iexact H7
    ipureintro
    refine (View.read_writes_full _ _ _ _ _).trans (congrArg k1_pay1 ?_)
    unfold bwd_body_A.sl.r_6
    simp only [e2, et, st_k1_t2.eq_1, r0, r1, r2, r3, r4, r5, l7, l9, eH, View.writes_append, View.writes_cons, harg9.read_unread, List.nil_append]
    exact congrArg Prod.fst (hst _ hG _ _).1
  iexists _; isplitr; swap; · iexact H8
  ipureintro
  refine (View.read_writes_full _ _ _ _ _).trans (congrArg k1_pay2 ?_)
  unfold bwd_body_A.sl.r_7
  simp only [e2, et, st_k1_t2.eq_1, r0, r1, r2, r3, r4, r5, l7, l9, eH, View.writes_append, View.writes_cons, harg9.read_unread, List.nil_append]
  exact congrArg Prod.snd (hst _ hG _ _).1

/-- The backward body on whole staging memrefs, at a point that adds to the query gradient it finds: the inputs are left
    as they were, the outputs hold the spec's query gradient, key gradient and value gradient. -/
theorem bwd_body_B (c : Dev nD) (i : grid1.Coords) (arg2 : Memref sig .tc .vmem S1x4096x256 .bf16) (harg2 : arg2.IsWhole) (arg3 : Memref sig .tc .vmem S1x1024x256 .bf16) (harg3 : arg3.IsWhole) (arg4 : Memref sig .tc .vmem S1x1024x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x4x1x1024 .f32) (harg7 : arg7.IsWhole) (arg9 : Memref sig .tc .vmem S1x4096x256 .f32) (harg9 : arg9.IsWhole) (arg10 : Memref sig .tc .vmem S1x1024x256 .f32) (harg10 : arg10.IsWhole) (arg11 : Memref sig .tc .vmem S1x1024x128 .f32) (harg11 : arg11.IsWhole) (hc0 : ¬ k1_cond1 i)
    (x0 : Vec F S1x4096x256 .bf16) (x1 : Vec F S1x1024x256 .bf16) (x2 : Vec F S1x1024x128 .bf16) (x3 x4 : Vec F S4096x128 .f32) (x5 : Vec F S1x4x1x1024 .f32) (x6 : Vec F S1x4096x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare x6 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (bwdDq x0 (k1_pay16 x1) (k1_pay17 x2) x3 x4 x5 (i 1).val x6 (3 - (i 1).val)) ∗ owns (c : Thread nD τ) arg10 fullShare (k1_pay1 (bwdSt x0 (k1_pay16 x1) (k1_pay17 x2) x3 x4 x5 (i 1).val (3 - (i 1).val)).1) ∗ owns (c : Thread nD τ) arg11 fullShare (k1_pay2 (bwdSt x0 (k1_pay16 x1) (k1_pay17 x2) x3 x4 x5 (i 1).val (3 - (i 1).val)).2)) -∗ K ⟨⟩))
      ⊢ wp frame (wpE (defs₀ (F := F)) Variants.none c none) E (cc1_attn_bwd i arg2 harg2 arg3 harg3 arg4 harg4 arg5 harg5 arg6 harg6 arg7 harg7 (Memref.whole main_v4) (Memref.isWhole_whole _) arg9 harg9 arg10 harg10 arg11 harg11) K := by
  simp only [cc1_attn_bwd_eq_skeleton]; unfold cc1_attn_bwd_skel
  simp only [k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  have e2 : Scf.trips (k1_t2_loop i).lb (k1_t2_loop i).ub (k1_t2_loop i).st = 0 := k1_trips2 i
  have et : Scf.trips (k1_t1_loop i).lb (k1_t1_loop i).ub (k1_t1_loop i).st = 3 - (i 1).val := k1_trips i
  have l2 := readAt_rows3 arg2 harg2 x0 (k1_off1_inb i) 0 _ (k1_off1_eq i)
  have l3 : arg3.view.readAt (Elt F) (Rect.unit ![0, 0, 0] S1x1024x256.size inb_S1x1024x256_S1x1024x256_0_0_0).toLoadRect (harg3.unread x1) = x1 :=
    (View.readAt_full _ _ _).trans (harg3.read_unread x1)
  have l4 : arg4.view.readAt (Elt F) (Rect.unit ![0, 0, 0] S1x1024x128.size inb_S1x1024x128_S1x1024x128_0_0_0).toLoadRect (harg4.unread x2) = x2 :=
    (View.readAt_full _ _ _).trans (harg4.read_unread x2)
  have l5 := readAt_rows2 arg5 harg5 x3 (k1_off2_inb i) _ (k1_off2_eq i)
  have l6 := readAt_rows2 arg6 harg6 x4 (k1_off2_inb i) _ (k1_off2_eq i)
  have l7 := readAt_lseRow arg7 harg7 x5 (k1_off3_inb i) _ (k1_off3_eq i)
  have l9 := fun f => readAt_rows3' arg9.view (F := F) f (k1_off1_inb i) 0 _ (k1_off1_eq i)
  have hst := fun (G : arg9.view.ty.Contents (Elt F)) (hG : arg9.view.read (Elt F) G = bwdDq x0 (k1_pay16 x1) (k1_pay17 x2) x3 x4 x5 (i 1).val x6 0) (v10 v12 : BitVec 32) =>
    st_bwd (F := F) Variants.none c none i arg2 harg2 arg3 harg3 arg4 harg4 arg5 harg5 arg6 harg6 arg7 harg7 (Memref.whole main_v4) (Memref.isWhole_whole _) arg9 harg9 arg10 harg10 arg11 harg11 (BitVec.ofNat 32 (i 1).val) (k1_pay16 x1) (k1_pay17 x2) k1_pay19 k1_pay20 v10 v12
      (k1_pay21 (rows3 x0 0 (i 1).val)) (k1_pay22 (rows2 x4 (i 1).val)) (k1_pay27 (rows2 x4 (i 1).val) (rows2 x3 (i 1).val)) (k1_pay28 (rows2 x4 (i 1).val) (rows2 x3 (i 1).val))
      x0 x3 x4 x5 G x6 _ rfl hG (3 - (i 1).val) (k1_trips i).ge
  have r0 : bwd_body_B.sl.r c arg3 harg3 x1 = k1_pay16 x1 := by unfold bwd_body_B.sl.r; rw [l3]
  have r1 : bwd_body_B.sl.r_1 c arg4 harg4 x2 = k1_pay17 x2 := by unfold bwd_body_B.sl.r_1; rw [l4]
  have r2 : bwd_body_B.sl.r_2 c i arg2 harg2 x0 = k1_pay21 (rows3 x0 0 (i 1).val) := by unfold bwd_body_B.sl.r_2; exact congrArg _ l2
  have r3 : bwd_body_B.sl.r_3 c i arg6 harg6 x4 = k1_pay22 (rows2 x4 (i 1).val) := by unfold bwd_body_B.sl.r_3; exact congrArg _ l6
  have r4 : bwd_body_B.sl.r_4 c i arg5 harg5 arg6 harg6 x3 x4 = k1_pay27 (rows2 x4 (i 1).val) (rows2 x3 (i 1).val) := by unfold bwd_body_B.sl.r_4; exact congrArg₂ _ l6 l5
  have r5 : bwd_body_B.sl.r_5 c i arg5 harg5 arg6 harg6 x3 x4 = k1_pay28 (rows2 x4 (i 1).val) (rows2 x3 (i 1).val) := by unfold bwd_body_B.sl.r_5; exact congrArg₂ _ l6 l5
  have hG : arg9.view.read (Elt F) (arg9.view.writes (Elt F) f6 [⟨Rect.unit (k1_off1 i) S1x1024x256.size (k1_off1_inb i),
      k1_pay33 (k1_pay16 x1) (k1_pay17 x2) (k1_pay21 (rows3 x0 0 (i 1).val)) (k1_pay22 (rows2 x4 (i 1).val)) (k1_pay27 (rows2 x4 (i 1).val) (rows2 x3 (i 1).val))
        (k1_pay28 (rows2 x4 (i 1).val) (rows2 x3 (i 1).val)) (lseRow x5 (i 1).val) (rows3 x6 0 (i 1).val)⟩]) = bwdDq x0 (k1_pay16 x1) (k1_pay17 x2) x3 x4 x5 (i 1).val x6 0 := by
    rw [View.read_writes_cons_put _ _ _ _ _ (k1_off1_eq i), View.writes_nil, hf6]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    simp only [e2, et, st_k1_t2.eq_1, r0, r1, r2, r3, r4, r5, l7, l9, hf6, View.writes_append, List.nil_append]
    exact (hst _ hG _ _).2
  isplitl [H7]
  · iexists _; isplitr; swap; · iexact H7
    ipureintro
    refine (View.read_writes_full _ _ _ _ _).trans (congrArg k1_pay1 ?_)
    unfold bwd_body_B.sl.r_6
    simp only [e2, et, st_k1_t2.eq_1, r0, r1, r2, r3, r4, r5, l7, l9, hf6, View.writes_append, List.nil_append]
    exact congrArg Prod.fst (hst _ hG _ _).1
  iexists _; isplitr; swap; · iexact H8
  ipureintro
  refine (View.read_writes_full _ _ _ _ _).trans (congrArg k1_pay2 ?_)
  unfold bwd_body_B.sl.r_7
  simp only [e2, et, st_k1_t2.eq_1, r0, r1, r2, r3, r4, r5, l7, l9, hf6, View.writes_append, List.nil_append]
  exact congrArg Prod.snd (hst _ hG _ _).1

end Cert.KernelIdeal.Hand

end
-- ==== Proof.Halves.lean ====
/- The two regions of @main at the buffer contents `V` they are entered with: the windows' blocks, the proof data of each
   pipeline (what every staging buffer holds after a point) and the body obligations, over any float values. -/
module

public import proofs.«01_k».proof.Proof.Bwd
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Window `w`'s block at point `t`, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, whether fetched there or kept from before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every point, whether fetched there or kept from before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every point, whether fetched there or kept from before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0: the arrays as entered, each input's buffer at its block, each output's at what the body
    leaves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => fwdOut (iblk0 V c 0 t) (iblk0 V c 1 t) (iblk0 V c 2 t) ((grid0.coords t) 1).val
    | ⟨4, _⟩ => fwdLse (iblk0 V c 0 t) (iblk0 V c 1 t) (iblk0 V c 2 t) ((grid0.coords t) 1).val
  Φ _ := Pipeline.ΦA spec0 c
  q _ := fullShare
  owed _ := 0

/-- The arrays are the entry contents. -/
theorem A_eq0 (c : Dev nD) (w : Fin cfg0.W) : (dat0 V c).A w = V c (Pipeline.arrRef spec0 w) := by
  dsimp only [dat0]

/-- What window 0 holds after a point. -/
theorem after0_0 (c : Dev nD) (t : Fin cfg0.N) : (dat0 V c).after 0 t = iblk0 V c 0 t := by dsimp only [dat0]

/-- What window 1 holds after a point. -/
theorem after0_1 (c : Dev nD) (t : Fin cfg0.N) : (dat0 V c).after 1 t = iblk0 V c 1 t := by dsimp only [dat0]

/-- What window 2 holds after a point. -/
theorem after0_2 (c : Dev nD) (t : Fin cfg0.N) : (dat0 V c).after 2 t = iblk0 V c 2 t := by dsimp only [dat0]

/-- What window 3 holds after a point. -/
theorem after0_3 (c : Dev nD) (t : Fin cfg0.N) : (dat0 V c).after 3 t = fwdOut (iblk0 V c 0 t) (iblk0 V c 1 t) (iblk0 V c 2 t) ((grid0.coords t) 1).val := by dsimp only [dat0]

/-- What window 4 holds after a point. -/
theorem after0_4 (c : Dev nD) (t : Fin cfg0.N) : (dat0 V c).after 4 t = fwdLse (iblk0 V c 0 t) (iblk0 V c 1 t) (iblk0 V c 2 t) ((grid0.coords t) 1).val := by dsimp only [dat0]

/-- What input window 0 holds before a point. -/
theorem before0_0 (c : Dev nD) (t : Fin cfg0.N) (d) : (dat0 V c).before 0 t d = iblk0 V c 0 t :=
  before0_0_of V (dat0 V c) (A_eq0 V c 0) (after0_0 V c) t d

/-- What input window 1 holds before a point. -/
theorem before0_1 (c : Dev nD) (t : Fin cfg0.N) (d) : (dat0 V c).before 1 t d = iblk0 V c 1 t :=
  before0_1_of V (dat0 V c) (A_eq0 V c 1) (after0_1 V c) t d

/-- What input window 2 holds before a point. -/
theorem before0_2 (c : Dev nD) (t : Fin cfg0.N) (d) : (dat0 V c).before 2 t d = iblk0 V c 2 t :=
  before0_2_of V (dat0 V c) (A_eq0 V c 2) (after0_2 V c) t d

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (fwd_body c (grid0.coords t) _ _ _ _ _ _ _ _ _ _ (iblk0 V c 0 t) (iblk0 V c 1 t) (iblk0 V c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The row of the body table at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The body obligation of region 0, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # Region 1 -/

/-- Window `w`'s block at point `t`, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether fetched there or kept from before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, whether fetched there or kept from before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, whether fetched there or kept from before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point, whether fetched there or kept from before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every point, whether fetched there or kept from before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 holds its block at every point, whether fetched there or kept from before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The gradient of `k` and of `v` at point `t` after all the blocks of queries the point walks. -/
def bwdAt (c : Dev nD) (t : Fin cfg1.N) : BwdSt F := bwdSt (iblk1 V c 0 t) (k1_pay16 (iblk1 V c 1 t)) (k1_pay17 (iblk1 V c 2 t)) (iblk1 V c 3 t) (iblk1 V c 4 t) (iblk1 V c 5 t) ((grid1.coords t) 1).val (3 - ((grid1.coords t) 1).val)

/-- The resident gradient of `q` after point `t`, from its contents `x` before it. -/
def dqStep (c : Dev nD) (t : Fin cfg1.N) (x : Vec F S1x4096x256 .f32) : Vec F S1x4096x256 .f32 :=
  bwdDq (iblk1 V c 0 t) (k1_pay16 (iblk1 V c 1 t)) (k1_pay17 (iblk1 V c 2 t)) (iblk1 V c 3 t) (iblk1 V c 4 t) (iblk1 V c 5 t) ((grid1.coords t) 1).val x (3 - ((grid1.coords t) 1).val)

/-- The resident gradient of `q` after point `n`: started from zero at every fourth point. -/
def dqAt (c : Dev nD) : (n : ℕ) → n < cfg1.N → Vec F S1x4096x256 .f32
  | 0, h => dqStep V c ⟨0, h⟩ k1_pay15
  | n + 1, h => dqStep V c ⟨n + 1, h⟩ (if (n + 1) % 4 = 0 then k1_pay15 else dqAt c n (Nat.lt_of_succ_lt h))

/-- At a first point of a head the accumulator starts from zero. -/
theorem dqAt_first (c : Dev nD) (t : Fin cfg1.N) (ht : t.val % 4 = 0) : dqAt V c t.val t.isLt = dqStep V c t k1_pay15 := by
  obtain ⟨n, hn⟩ := t
  cases n with
  | zero => rfl
  | succ n => exact congrArg (dqStep V c ⟨n + 1, hn⟩) (if_pos ht)

/-- At every other point it goes on from the point before. -/
theorem dqAt_next (c : Dev nD) (t : Fin cfg1.N) (ht : ¬ t.val % 4 = 0) :
    dqAt V c t.val t.isLt = dqStep V c t (dqAt V c (t.val - 1) (Nat.lt_of_le_of_lt (Nat.sub_le _ _) t.isLt)) := by
  obtain ⟨n, hn⟩ := t
  cases n with
  | zero => exact absurd rfl ht
  | succ n => exact congrArg (dqStep V c ⟨n + 1, hn⟩) (if_neg ht)

/-- The proof data of pipeline 1: the arrays as entered, each input's buffer at its block, each output's at what the body
    leaves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => dqAt V c t.val t.isLt
    | ⟨7, _⟩ => k1_pay1 (bwdAt V c t).1
    | ⟨8, _⟩ => k1_pay2 (bwdAt V c t).2
  Φ _ := Pipeline.ΦA spec1 c
  q _ := fullShare
  owed _ := 0

/-- The arrays are the entry contents. -/
theorem A_eq1 (c : Dev nD) (w : Fin cfg1.W) : (dat1 V c).A w = V c (Pipeline.arrRef spec1 w) := by
  dsimp only [dat1]

/-- What window 0 holds after a point. -/
theorem after1_0 (c : Dev nD) (t : Fin cfg1.N) : (dat1 V c).after 0 t = iblk1 V c 0 t := by dsimp only [dat1]

/-- What window 1 holds after a point. -/
theorem after1_1 (c : Dev nD) (t : Fin cfg1.N) : (dat1 V c).after 1 t = iblk1 V c 1 t := by dsimp only [dat1]

/-- What window 2 holds after a point. -/
theorem after1_2 (c : Dev nD) (t : Fin cfg1.N) : (dat1 V c).after 2 t = iblk1 V c 2 t := by dsimp only [dat1]

/-- What window 3 holds after a point. -/
theorem after1_3 (c : Dev nD) (t : Fin cfg1.N) : (dat1 V c).after 3 t = iblk1 V c 3 t := by dsimp only [dat1]

/-- What window 4 holds after a point. -/
theorem after1_4 (c : Dev nD) (t : Fin cfg1.N) : (dat1 V c).after 4 t = iblk1 V c 4 t := by dsimp only [dat1]

/-- What window 5 holds after a point. -/
theorem after1_5 (c : Dev nD) (t : Fin cfg1.N) : (dat1 V c).after 5 t = iblk1 V c 5 t := by dsimp only [dat1]

/-- What window 6 holds after a point. -/
theorem after1_6 (c : Dev nD) (t : Fin cfg1.N) : (dat1 V c).after 6 t = dqAt V c t.val t.isLt := by dsimp only [dat1]

/-- What window 7 holds after a point. -/
theorem after1_7 (c : Dev nD) (t : Fin cfg1.N) : (dat1 V c).after 7 t = k1_pay1 (bwdAt V c t).1 := by dsimp only [dat1]

/-- What window 8 holds after a point. -/
theorem after1_8 (c : Dev nD) (t : Fin cfg1.N) : (dat1 V c).after 8 t = k1_pay2 (bwdAt V c t).2 := by dsimp only [dat1]

/-- What input window 0 holds before a point. -/
theorem before1_0 (c : Dev nD) (t : Fin cfg1.N) (d) : (dat1 V c).before 0 t d = iblk1 V c 0 t :=
  before1_0_of V (dat1 V c) (A_eq1 V c 0) (after1_0 V c) t d

/-- What input window 1 holds before a point. -/
theorem before1_1 (c : Dev nD) (t : Fin cfg1.N) (d) : (dat1 V c).before 1 t d = iblk1 V c 1 t :=
  before1_1_of V (dat1 V c) (A_eq1 V c 1) (after1_1 V c) t d

/-- What input window 2 holds before a point. -/
theorem before1_2 (c : Dev nD) (t : Fin cfg1.N) (d) : (dat1 V c).before 2 t d = iblk1 V c 2 t :=
  before1_2_of V (dat1 V c) (A_eq1 V c 2) (after1_2 V c) t d

/-- What input window 3 holds before a point. -/
theorem before1_3 (c : Dev nD) (t : Fin cfg1.N) (d) : (dat1 V c).before 3 t d = iblk1 V c 3 t :=
  before1_3_of V (dat1 V c) (A_eq1 V c 3) (after1_3 V c) t d

/-- What input window 4 holds before a point. -/
theorem before1_4 (c : Dev nD) (t : Fin cfg1.N) (d) : (dat1 V c).before 4 t d = iblk1 V c 4 t :=
  before1_4_of V (dat1 V c) (A_eq1 V c 4) (after1_4 V c) t d

/-- What input window 5 holds before a point. -/
theorem before1_5 (c : Dev nD) (t : Fin cfg1.N) (d) : (dat1 V c).before 5 t d = iblk1 V c 5 t :=
  before1_5_of V (dat1 V c) (A_eq1 V c 5) (after1_5 V c) t d

/-- The resident gradient of `q` before a point that does not start a head: what the point before left. -/
theorem before1_6 (c : Dev nD) (t : Fin cfg1.N) (ht : ¬ t.val % 4 = 0) (d) :
    (dat1 V c).before 6 t d = dqAt V c (t.val - 1) (Nat.lt_of_le_of_lt (Nat.sub_le _ _) t.isLt) := by
  have h0 : t.val ≠ 0 := fun h => ht (by rw [h])
  have hfl : (cfg1.win 6).flush ⟨t.val - 1, Nat.lt_of_le_of_lt (Nat.sub_le _ _) t.isLt⟩ = false := by
    rw [Bool.eq_false_iff]
    intro hf
    have := (flush1_6 _).mp hf
    dsimp only at this
    omega
  exact (Dat.before_out_kept (dat1 V c) 6 rfl t h0 hfl (fun _ => rfl) (fun _ _ => rfl) d).trans (after1_6 V c _)

/-- A point starts a head exactly when its number is a multiple of four. -/
theorem cond1_point : ∀ t : Fin cfg1.N, ((grid1.coords t) 1).val = t.val % 4 := by decide +kernel

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What the body returns at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 800000 in
/-- The body at a point that starts a head. -/
theorem sound_body1_A (c : Dev nD) (t : Fin cfg1.N) (ht : t.val % 4 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  rw [dqAt_first V c t ht]
  unfold dqStep bwdAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bwd_body_A c (grid1.coords t) _ _ _ _ _ _ _ _ _ _ _ _ _ _ _ _ _ _ ((k1_cond1_iff _).mpr ((cond1_point t).trans ht)) (iblk1 V c 0 t) (iblk1 V c 1 t) (iblk1 V c 2 t) (iblk1 V c 3 t) (iblk1 V c 4 t) (iblk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 800000 in
/-- The body at any other point. -/
theorem sound_body1_B (c : Dev nD) (t : Fin cfg1.N) (ht : ¬ t.val % 4 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6 V c t ht]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  rw [dqAt_next V c t ht]
  unfold dqStep bwdAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bwd_body_B c (grid1.coords t) _ _ _ _ _ _ _ _ _ _ _ _ _ _ _ _ _ _ (fun h => ht ((cond1_point t).symm.trans ((k1_cond1_iff _).mp h))) (iblk1 V c 0 t) (iblk1 V c 1 t) (iblk1 V c 2 t) (iblk1 V c 3 t) (iblk1 V c 4 t) (iblk1 V c 5 t) (dqAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases ht : t.val % 4 = 0
  · exact sound_body1_A V c t ht
  · exact sound_body1_B V c t ht

/-- The row of the body table at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The body obligation of region 1, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand
-- ==== Proof.Run.lean ====
/- The run of @main over any float values: the buffer contents at every boundary of its four segments, the two regions as
   segments, and the launch. Its conclusion reads, at the end, the four argument arrays unchanged and the four results at what
   the pipelines leave. -/
module

public import proofs.«01_k».proof.Proof.Halves
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
/-- A fact of the run: `hostOps0_writes`. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_cst, main_v4]
/-- A fact of the run: `hostOps1_writes`. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- A fact of the run: `W0_args`. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A fact of the run: `W1_args`. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- A fact of the run: `W2_arr`. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A fact of the run: `W2_of_ne`. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- A fact of the run: `W2_args`. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- A fact of the run: `hrest0`. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- A fact of the run: `W3_args`. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- A fact of the run: `W4_arr`. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A fact of the run: `W4_of_ne`. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- A fact of the run: `W4_args`. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- A fact of the run: `hrest1`. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

/-- A fact of the run: `W4_main_arg0`. -/
theorem W4_main_arg0 (c : Dev nD) : W4 m ρ c (Proc.devRef .tc main_arg0) = m ((c : Thread nD τ).loc main_arg0) :=
  W4_args m ρ c main_arg0 (by decide)
/-- A fact of the run: `W4_main_arg1`. -/
theorem W4_main_arg1 (c : Dev nD) : W4 m ρ c (Proc.devRef .tc main_arg1) = m ((c : Thread nD τ).loc main_arg1) :=
  W4_args m ρ c main_arg1 (by decide)
/-- A fact of the run: `W4_main_arg2`. -/
theorem W4_main_arg2 (c : Dev nD) : W4 m ρ c (Proc.devRef .tc main_arg2) = m ((c : Thread nD τ).loc main_arg2) :=
  W4_args m ρ c main_arg2 (by decide)
/-- A fact of the run: `W4_main_arg3`. -/
theorem W4_main_arg3 (c : Dev nD) : W4 m ρ c (Proc.devRef .tc main_arg3) = m ((c : Thread nD τ).loc main_arg3) :=
  W4_args m ρ c main_arg3 (by decide)

/-- The forward result goes unchanged through the second region. -/
theorem W4_main_v3_0 (c : Dev nD) : W4 m ρ c (Proc.devRef .tc main_v3_0) = (dat0 (V1 m ρ) c).arrAt 3 cfg0.N :=
  (W4_of m ρ c main_v3_0 (by decide +kernel)).trans ((W3_of m ρ c main_v3_0 (by decide)).trans (W2_arr m ρ c 3))

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment: every unscoped buffer in at the contents before it, out at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: every unscoped buffer in at the contents before it, out at the contents after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters every weakly fair run of @main ends, nothing faulting, with the arguments as launched,
    the results at what the pipelines leave and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v3_0) = (dat0 (V1 m ρ) c).arrAt 3 cfg0.N
      ∧ r.2.mem ((c.tc : Thread nD τ).loc main_v5_0) = (dat1 (V3 m ρ) c).arrAt 6 cfg1.N
      ∧ r.2.mem ((c.tc : Thread nD τ).loc main_v5_1) = (dat1 (V3 m ρ) c).arrAt 7 cfg1.N
      ∧ r.2.mem ((c.tc : Thread nD τ).loc main_v5_2) = (dat1 (V3 m ρ) c).arrAt 8 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_v3_0 (by decide))).trans (W4_main_v3_0 m ρ c),
       (h c _ (mem_uc main_v5_0 (by decide))).trans (W4_arr m ρ c 6),
       (h c _ (mem_uc main_v5_1 (by decide))).trans (W4_arr m ρ c 7),
       (h c _ (mem_uc main_v5_2 (by decide))).trans (W4_arr m ρ c 8)⟩), funext fun g => hz g (.inr (no_unscoped g.2))⟩)

end Cert.KernelIdeal.Hand
-- ==== Proof.Frames.lean ====
/- The frames of the three programs. The kernel and its idealization have the same text, so one run over any float values
   gives both; the reference is host operations alone. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent
public import Idealize.ShloMosaic.Lib.Claim
public import Idealize.ShloMosaic.Lib.Tactic

@[expose] public section

set_option maxRecDepth 16384

noncomputable section

namespace Cert.Proof

open Idealize.ShloMosaic Idealize.SL.Sem

/-- The run over any float values, read at the arguments and the counters. -/
theorem args_main {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run (Cert.KernelIdeal.defs (F := F)) _ _).mono
    (fun _ h => ⟨fun c => ⟨(h.1 c).1, (h.1 c).2.1, (h.1 c).2.2.1, (h.1 c).2.2.2.1⟩, h.2⟩)
    (Cert.KernelIdeal.Hand.run_main (F := F) m ρ)

/-- The kernel runs, leaves its arguments as launched and ends with every counter at zero. -/
theorem frame_kernel : Cert.quiescent_Kernel (hKernel := Cert.Kernel.Gen.facts) := fun m ρ _ =>
  Eq.mp (by sl_kernel_rfl) (args_main (F := Bits) m ρ)

/-- The idealized kernel runs, leaves its arguments as launched and ends with every counter at zero. -/
theorem frame_kernelIdeal : Cert.quiescent_KernelIdeal (hKernelIdeal := Cert.KernelIdeal.Gen.facts) := fun m ρ _ =>
  args_main (F := Ideal) m ρ

/-- The reference's signature has no semaphore. -/
theorem no_sems : Cert.ReferenceIdeal.sig.nSem + Cert.ReferenceIdeal.sig.nDmaSem = 0 := by decide

/-- The reference runs, leaves its arguments as launched and ends with every counter at zero. -/
theorem frame_referenceIdeal : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2, sem_eq_zero_of_no_sems no_sems r.2⟩)
    (Cert.ReferenceIdeal.Value.run (F := Ideal) m ρ)

end Cert.Proof

end
-- ==== Proof.Pay0.lean ====
/-
  The pure operations of the forward body over extended reals, read at an index: scores as sums of products, the
  running maximum, sum and weighted sum of one block, and the two stored values.
-/
module

public import proofs.«01_k».proof.Proof.Spec
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.WordCmp

@[expose] public section

set_option maxRecDepth 16384

noncomputable section

namespace Cert.KernelIdeal.Hand

open Idealize.ShloMosaic Idealize.ShloMosaic.TcCoe Idealize.ShloMosaic.ValueIdx
open Cert.KernelIdeal.Gen
open scoped BigOperators

/-- The bit pattern of minus infinity is the least extended real. -/
theorem ofBits_bot : Ideal.ofBits .f32 0xFF800000#32 = (⊥ : EReal) := by simp [Ideal.ofBits, Ideal.ieee]

/-- A row sum of a matrix is the sum over its columns. -/
theorem rowSum_apply {n k : ℕ} (x : FVec Ideal ⟨2, ![n, k]⟩ .f32) (h : (⟨2, ![n, k]⟩ : Shape).Reduces [1] ⟨1, ![n]⟩) (hφ hacc) (r : Fin n) :
    multiReduction .add [1] ⟨1, ![n]⟩ x 0x00000000#32 h hφ hacc (ix1 r) = ∑ c : Fin k, x (ix2 r c) :=
  (Ideal.multiReduction_add_single x _ h hφ hacc (ix1 r)).trans (Finset.sum_congr rfl fun c _ => congrArg x (by
    funext a; apply Fin.ext
    match a with
    | ⟨0, _⟩ => rfl
    | ⟨1, _⟩ => rfl))

/-- A column sum of a matrix is the sum over its rows. -/
theorem colSum_apply {n k : ℕ} (x : FVec Ideal ⟨2, ![n, k]⟩ .f32) (h : (⟨2, ![n, k]⟩ : Shape).Reduces [0] ⟨1, ![k]⟩) (hφ hacc) (c : Fin k) :
    multiReduction .add [0] ⟨1, ![k]⟩ x 0x00000000#32 h hφ hacc (ix1 c) = ∑ r : Fin n, x (ix2 r c) :=
  (Ideal.multiReduction_add_single x _ h hφ hacc (ix1 c)).trans (Finset.sum_congr rfl fun r _ => congrArg x (by
    funext a; apply Fin.ext
    match a with
    | ⟨0, _⟩ => rfl
    | ⟨1, _⟩ => rfl))

/-- A row maximum of a matrix is the maximum over its columns. -/
theorem rowMax_apply {n k : ℕ} (x : FVec Ideal ⟨2, ![n, k]⟩ .f32) (h : (⟨2, ![n, k]⟩ : Shape).Reduces [1] ⟨1, ![n]⟩) (hφ hacc) (r : Fin n) :
    multiReduction .maximumf [1] ⟨1, ![n]⟩ x 0xFF800000#32 h hφ hacc (ix1 r)
      = (Finset.univ : Finset (Fin k)).fold max ⊥ (fun c => x (ix2 r c)) := by
  refine (Ideal.multiReduction_maximumf_single x _ h hφ hacc (ix1 r)).trans ?_
  refine congrArg₂ (fun b f => Finset.fold max b f Finset.univ) ofBits_bot (funext fun c => congrArg x ?_)
  funext a; apply Fin.ext
  match a with
  | ⟨0, _⟩ => rfl
  | ⟨1, _⟩ => rfl

/-- A column repeated along the rows reads its own row. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine Idealize.ShloMosaic.broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A selection by a comparison of row and column numbers below 1024. -/
theorem iota_sle {a b : Fin 1024} : IntOp.cmpi .sle (BitVec.ofNat 32 a.val) (BitVec.ofNat 32 b.val) = if a.val ≤ b.val then 1#1 else 0#1 := by
  rw [WordCmp.cmpi_sle_ofNat (by have := a.isLt; omega) (by have := b.isLt; omega)]
  by_cases h : a.val ≤ b.val <;> simp [h]

/-- An equality test of row and column numbers below 1024. -/
theorem iota_eq {a b : Fin 1024} : IntOp.cmpi .eq (BitVec.ofNat 32 a.val) (BitVec.ofNat 32 b.val) = if a = b then 1#1 else 0#1 := by
  rw [WordCmp.cmpi_eq_ofNat (by have := a.isLt; omega) (by have := b.isLt; omega)]
  by_cases h : a = b
  · simp [h]
  · have h' : a.val ≠ b.val := fun e => h (Fin.ext e)
    simp [h, h']

variable (q : FVec Ideal S1024x256 .bf16) (kb : Vec Ideal S1x1024x256 .bf16) (vb : Vec Ideal S1x1024x128 .bf16)
  (m den : FVec Ideal S1024x1 .f32) (acc : FVec Ideal S1024x128 .f32)

/-- The scores of a block. -/
theorem pay4_apply (r c : Fin 1024) : k0_pay4 q kb (ix2 r c) = ∑ k : Fin 256, q (ix2 r k) * kb (ix3 0 c k) := by
  refine (Ideal.matmul_transposedRhs_apply none q (shapeCast S1024x256 kb shapeCasts_S1x1024x256_S1024x256) _ r c).trans ?_
  rw [show (constant (F := Ideal) S1024x1024 .f32 0x00000000#32 (ix2 r c)) = (0 : EReal) from Ideal.ofBits_zero_f32, zero_add]
  exact Finset.sum_congr rfl fun k _ => congrArg (q (ix2 r k) * ·) (shapeCast_1ab_ab_apply kb _ c k)

/-- The running maximum. -/
theorem pay5_apply (r : Fin 1024) (u : Fin 1) :
    k0_pay5 q m kb (ix2 r u) = max (m (ix2 r u)) ((Finset.univ : Finset (Fin 1024)).fold max ⊥ fun c => k0_pay4 q kb (ix2 r c)) :=
  congrArg (max (m (ix2 r u))) ((shapeCast_a_a1_apply _ _ r u).trans (rowMax_apply (k0_pay4 q kb) _ _ _ r))

/-- The factor the old sums are scaled by. -/
theorem pay6_apply (r : Fin 1024) (u : Fin 1) : k0_pay6 q m kb (ix2 r u) = Ideal.exp (m (ix2 r u) - k0_pay5 q m kb (ix2 r u)) := rfl

/-- The block's exponentials. -/
theorem pay7_apply (r c : Fin 1024) : k0_pay7 q m kb (ix2 r c) = Ideal.exp (k0_pay4 q kb (ix2 r c) - k0_pay5 q m kb (ix2 r 0)) :=
  congrArg (fun x => Ideal.exp (k0_pay4 q kb (ix2 r c) - x)) (broadcastTo_a1_ab_apply _ _ r c)

/-- The running sum. -/
theorem pay8_apply (r : Fin 1024) (u : Fin 1) :
    k0_pay8 q m den kb (ix2 r u) = k0_pay6 q m kb (ix2 r u) * den (ix2 r u) + ∑ c : Fin 1024, k0_pay7 q m kb (ix2 r c) :=
  congrArg (k0_pay6 q m kb (ix2 r u) * den (ix2 r u) + ·) ((shapeCast_a_a1_apply _ _ r u).trans (rowSum_apply (k0_pay7 q m kb) _ _ _ r))

/-- The running weighted sum of value rows. -/
theorem pay9_apply (r : Fin 1024) (d : Fin 128) :
    k0_pay9 q m acc kb vb (ix2 r d) = k0_pay6 q m kb (ix2 r 0) * acc (ix2 r d) + ∑ c : Fin 1024, k0_pay7 q m kb (ix2 r c) * vb (ix3 0 c d) := by
  refine congrArg₂ (fun x y : EReal => x * acc (ix2 r d) + y) (broadcastTo_a1_ab_apply _ _ r d)
    ((Ideal.matmul_plain_apply none (truncf .bf16 (k0_pay7 q m kb) bitsLt_bf16_f32) (shapeCast S1024x128 vb shapeCasts_S1x1024x128_S1024x128) _ r d).trans ?_)
  rw [show (constant (F := Ideal) S1024x128 .f32 0x00000000#32 (ix2 r d)) = (0 : EReal) from Ideal.ofBits_zero_f32, zero_add]
  exact Finset.sum_congr rfl fun k _ => congrArg (k0_pay7 q m kb (ix2 r k) * ·) (shapeCast_1ab_ab_apply vb _ k d)

/-- The masked scores of the diagonal block. -/
theorem pay43_apply (r c : Fin 1024) : k0_pay43 q kb (ix2 r c) = if c.val ≤ r.val then ∑ k : Fin 256, q (ix2 r k) * kb (ix3 0 c k) else ⊥ := by
  refine (congrArg₂ (fun x y : EReal => Scalar.select (IntOp.cmpi .sle (BitVec.ofNat 32 (0 * 1024 + c.val)) (BitVec.ofNat 32 (0 * 1024 + r.val))) x y)
    (pay4_apply q kb r c) ofBits_bot : _ = _).trans ?_
  rw [Nat.zero_mul, Nat.zero_add, Nat.zero_add, iota_sle]
  split <;> rfl

/-- The maximum with the diagonal block. -/
theorem pay44_apply (r : Fin 1024) (u : Fin 1) :
    k0_pay44 q m kb (ix2 r u) = max (m (ix2 r u)) ((Finset.univ : Finset (Fin 1024)).fold max ⊥ fun c => k0_pay43 q kb (ix2 r c)) :=
  congrArg (max (m (ix2 r u))) ((shapeCast_a_a1_apply _ _ r u).trans (rowMax_apply (k0_pay43 q kb) _ _ _ r))

/-- The factor the old sums are scaled by at the diagonal block. -/
theorem pay45_apply (r : Fin 1024) (u : Fin 1) : k0_pay45 q m kb (ix2 r u) = Ideal.exp (m (ix2 r u) - k0_pay44 q m kb (ix2 r u)) := rfl

/-- The diagonal block's exponentials. -/
theorem pay46_apply (r c : Fin 1024) : k0_pay46 q m kb (ix2 r c) = Ideal.exp (k0_pay43 q kb (ix2 r c) - k0_pay44 q m kb (ix2 r 0)) :=
  congrArg (fun x => Ideal.exp (k0_pay43 q kb (ix2 r c) - x)) (broadcastTo_a1_ab_apply _ _ r c)

/-- The row sum with the diagonal block. -/
theorem pay47_apply (r : Fin 1024) (u : Fin 1) :
    k0_pay47 q m den kb (ix2 r u) = k0_pay45 q m kb (ix2 r u) * den (ix2 r u) + ∑ c : Fin 1024, k0_pay46 q m kb (ix2 r c) :=
  congrArg (k0_pay45 q m kb (ix2 r u) * den (ix2 r u) + ·) ((shapeCast_a_a1_apply _ _ r u).trans (rowSum_apply (k0_pay46 q m kb) _ _ _ r))

/-- The weighted sum of value rows with the diagonal block. -/
theorem pay48_apply (r : Fin 1024) (d : Fin 128) :
    k0_pay48 q m acc kb vb (ix2 r d) = k0_pay45 q m kb (ix2 r 0) * acc (ix2 r d) + ∑ c : Fin 1024, k0_pay46 q m kb (ix2 r c) * vb (ix3 0 c d) := by
  refine congrArg₂ (fun x y : EReal => x * acc (ix2 r d) + y) (broadcastTo_a1_ab_apply _ _ r d)
    ((Ideal.matmul_plain_apply none (truncf .bf16 (k0_pay46 q m kb) bitsLt_bf16_f32) (shapeCast S1024x128 vb shapeCasts_S1x1024x128_S1024x128) _ r d).trans ?_)
  rw [show (constant (F := Ideal) S1024x128 .f32 0x00000000#32 (ix2 r d)) = (0 : EReal) from Ideal.ofBits_zero_f32, zero_add]
  exact Finset.sum_congr rfl fun k _ => congrArg (k0_pay46 q m kb (ix2 r k) * ·) (shapeCast_1ab_ab_apply vb _ k d)

/-- The output rows: the weighted sum over the row sum. -/
theorem pay2_apply (r : Fin 1024) (d : Fin 128) : k0_pay2 den acc (ix2 r d) = Ideal.div (acc (ix2 r d)) (den (ix2 r 0)) :=
  congrArg (Ideal.div (acc (ix2 r d))) (broadcastTo_a1_ab_apply _ _ r d)

/-- The row statistics, laid out as a row: the row maximum plus the logarithm of the row sum. -/
theorem pay3_apply (r : Fin 1024) (a b c : Fin 1) : k0_pay3 m den (ix4 a b c r) = m (ix2 r 0) + Ideal.log (den (ix2 r 0)) := by
  unfold k0_pay3
  refine (shapeCast_apply _ _ (ix4 a b c r) (ix2 (0 : Fin 1) r) (by
    have ha := a.isLt; have hb := b.isLt; have hc := c.isLt
    rw [Shape.rowMajor_val_four, Shape.rowMajor_val_two]
    show 0 * 1024 + r.val = ((a.val * 1 + b.val) * 1 + c.val) * 1024 + r.val
    omega)).trans ?_
  refine (shapeCast_a_1a_apply _ _ (0 : Fin 1) r).trans ((colSum_apply _ _ _ _ r).trans ?_)
  have hcell : ∀ p : Fin 1024, (select (cmpi .eq (iota .tc S1024x1024 32 [0] iota_S1024x1024_d0_w32) (iota .tc S1024x1024 32 [1] iota_S1024x1024_d1_w32))
      (broadcastTo S1024x1024 (shapeCast S1024x1 (addf m (log den)) shapeCasts_S1024x1_S1024x1) broadcasts_S1024x1_S1024x1024)
      (broadcast S1024x1024 (Scalar.ofBits .f32 0x00000000#32 : Ideal .f32))) (ix2 p r)
      = if p = r then m (ix2 p 0) + Ideal.log (den (ix2 p 0)) else 0 := by
    intro p
    refine (congrArg₂ (fun x y : EReal => Scalar.select (IntOp.cmpi .eq (BitVec.ofNat 32 (0 * 1024 + p.val)) (BitVec.ofNat 32 (0 * 1024 + r.val))) x y)
      ((broadcastTo_a1_ab_apply _ _ p r).trans (shapeCast_apply _ _ (ix2 p (0 : Fin 1)) (ix2 p (0 : Fin 1)) rfl)) Ideal.ofBits_zero_f32 : _ = _).trans ?_
    rw [Nat.zero_mul, Nat.zero_add, Nat.zero_add, iota_eq]
    split <;> rfl
  refine (Finset.sum_congr rfl fun p _ => hcell p).trans ?_
  simp

end Cert.KernelIdeal.Hand

end
-- ==== Proof.Scal.lean ====
/-
  Extended reals that are real numbers, sums of them, and one step of the running softmax of one row: the row sum and
  the weighted sums, multiplied by the exponential of the row maximum, are the plain sums of exponentials.
-/
module

public import Idealize.ShloMosaic.PureOps.Ideal.Laws

@[expose] public section

noncomputable section

namespace Cert.KernelIdeal.Hand

open Idealize.ShloMosaic
open scoped BigOperators

/-- A finite sum of real numbers is the same in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers. -/
theorem coe_dot {ι : Type*} (s : Finset ι) {x y : ι → EReal} {f g : ι → ℝ} (hx : ∀ i ∈ s, x i = (f i : EReal)) (hy : ∀ i ∈ s, y i = (g i : EReal)) :
    ∑ i ∈ s, x i * y i = ((∑ i ∈ s, f i * g i : ℝ) : EReal) := by
  rw [← coe_sum]
  exact Finset.sum_congr rfl fun i hi => by rw [hx i hi, hy i hi, EReal.coe_mul]

/-- An extended real that is neither infinity is a real number. -/
theorem exists_real {x : EReal} (h : x ≠ ⊤) (h' : x ≠ ⊥) : ∃ r : ℝ, x = (r : EReal) := ⟨x.toReal, (EReal.coe_toReal h h').symm⟩

/-- The exponential after a real shift. -/
theorem exp_sub_real {x : EReal} {w : ℝ} (hx : x ≠ ⊤) (hw : Ideal.exp x = (w : EReal)) (ρ : ℝ) :
    Ideal.exp (x - (ρ : EReal)) = ((w * Real.exp (-ρ) : ℝ) : EReal) := by
  induction x using EReal.rec with
  | bot =>
    have h0 : w = 0 := by
      have : ((0 : ℝ) : EReal) = (w : EReal) := hw
      exact (EReal.coe_injective this).symm
    rw [EReal.bot_sub, h0, zero_mul]; rfl
  | top => exact absurd rfl hx
  | coe r =>
    have h0 : Real.exp r = w := EReal.coe_injective hw
    rw [← EReal.coe_sub, Ideal.exp_coe, ← h0, ← Real.exp_add]; rfl

/-- A maximum of entries none of which is plus infinity and one of which is real is real. -/
theorem fold_max_real {n : ℕ} {f : Fin n → EReal} (hf : ∀ i, f i ≠ ⊤) (i : Fin n) (hi : f i ≠ ⊥) {m : EReal} (hm : m ≠ ⊤) :
    ∃ ρ : ℝ, max m ((Finset.univ : Finset (Fin n)).fold max ⊥ f) = (ρ : EReal) := by
  refine exists_real (ne_of_lt (max_lt (lt_top_iff_ne_top.mpr hm) ?_)) (ne_of_gt (lt_max_of_lt_right ?_))
  · exact (Finset.fold_max_lt _).mpr ⟨bot_lt_top, fun j _ => lt_top_iff_ne_top.mpr (hf j)⟩
  · exact (Finset.lt_fold_max _).mpr (Or.inr ⟨i, Finset.mem_univ _, bot_lt_iff_ne_bot.mpr hi⟩)

/-- What a row of the running softmax stands for: its row sum and weighted sums, times the exponential of its maximum, are
`S` and `T`. -/
def Holds (m den : EReal) (acc : Fin 128 → EReal) (S : ℝ) (T : Fin 128 → ℝ) : Prop :=
  ∃ (w D : ℝ) (a : Fin 128 → ℝ), m ≠ ⊤ ∧ Ideal.exp m = (w : EReal) ∧ den = (D : EReal) ∧ (∀ d, acc d = (a d : EReal)) ∧ D * w = S ∧ ∀ d, a d * w = T d

/-- Before any block: nothing summed. -/
theorem holds_zero : Holds ⊥ 0 (fun _ => 0) 0 (fun _ => 0) :=
  ⟨0, 0, fun _ => 0, by simp, rfl, rfl, fun _ => rfl, by simp, fun _ => by simp⟩

/-- One block taken in, the new maximum `ρ` being whatever real number it is. -/
theorem holds_step {n : ℕ} {m den : EReal} {acc : Fin 128 → EReal} {S : ℝ} {T : Fin 128 → ℝ} (h : Holds m den acc S T)
    {x : Fin n → EReal} {e : Fin n → ℝ} (hx : ∀ c, x c ≠ ⊤) (he : ∀ c, Ideal.exp (x c) = (e c : EReal))
    {v : Fin n → Fin 128 → EReal} {V : Fin n → Fin 128 → ℝ} (hv : ∀ c d, v c d = (V c d : EReal)) (ρ : ℝ)
    {m' den' : EReal} {acc' : Fin 128 → EReal} (hm' : m' = (ρ : EReal))
    (hd : den' = Ideal.exp (m - m') * den + ∑ c, Ideal.exp (x c - m'))
    (ha : ∀ d, acc' d = Ideal.exp (m - m') * acc d + ∑ c, Ideal.exp (x c - m') * v c d) :
    Holds m' den' acc' (S + ∑ c, e c) (fun d => T d + ∑ c, e c * V c d) ∧ den' = ((Real.exp (-ρ) * (S + ∑ c, e c) : ℝ) : EReal) := by
  obtain ⟨w, D, a, hmt, hmw, hD, hA, hS, hT⟩ := h
  subst hm'
  have hden : den' = ((Real.exp (-ρ) * (S + ∑ c, e c) : ℝ) : EReal) := by
    rw [hd, exp_sub_real hmt hmw, hD, ← EReal.coe_mul, Finset.sum_congr rfl fun c _ => exp_sub_real (hx c) (he c) ρ, coe_sum, ← EReal.coe_add]
    refine congrArg _ ?_
    rw [← Finset.sum_mul, ← hS]; ring
  have hacc : ∀ d, acc' d = ((Real.exp (-ρ) * (T d + ∑ c, e c * V c d) : ℝ) : EReal) := by
    intro d
    rw [ha d, exp_sub_real hmt hmw, hA d, ← EReal.coe_mul,
      coe_dot Finset.univ (fun c _ => exp_sub_real (hx c) (he c) ρ) (fun c _ => hv c d), ← EReal.coe_add]
    refine congrArg _ ?_
    rw [← hT d, mul_add, Finset.mul_sum]
    refine congrArg₂ (· + ·) (by ring) (Finset.sum_congr rfl fun c _ => by ring)
  have hexp : Real.exp (-ρ) * Real.exp ρ = 1 := by rw [← Real.exp_add]; simp
  refine ⟨⟨Real.exp ρ, _, _, EReal.coe_ne_top _, rfl, hden, hacc, ?_, fun d => ?_⟩, hden⟩
  · linear_combination (S + ∑ c, e c) * hexp
  · linear_combination (T d + ∑ c, e c * V c d) * hexp

/-- The row's output: the weighted sum over the sum. -/
theorem holds_div {m den : EReal} {acc : Fin 128 → EReal} {S : ℝ} {T : Fin 128 → ℝ} (h : Holds m den acc S T) (hS : S ≠ 0) (d : Fin 128) :
    Ideal.div (acc d) den = ((T d / S : ℝ) : EReal) := by
  obtain ⟨w, D, a, hmt, hmw, hD, hA, hSe, hT⟩ := h
  have hDw : D * w ≠ 0 := by rw [hSe]; exact hS
  have hD0 : D ≠ 0 := left_ne_zero_of_mul hDw
  have hw0 : w ≠ 0 := right_ne_zero_of_mul hDw
  rw [hD, hA d, Ideal.div_coe hD0, ← EReal.coe_mul, ← hSe, ← hT d]
  refine congrArg _ ?_
  field_simp

/-- The row's statistics: the logarithm of the sum of exponentials. -/
theorem holds_log {ρ S : ℝ} (hS : 0 < S) {m den : EReal} (hm : m = (ρ : EReal)) (hd : den = ((Real.exp (-ρ) * S : ℝ) : EReal)) :
    m + Ideal.log den = ((Real.log S : ℝ) : EReal) := by
  have hp : 0 < Real.exp (-ρ) * S := mul_pos (Real.exp_pos _) hS
  rw [hm, hd, Ideal.log_coe, if_neg (not_le.mpr hp), ← EReal.coe_add, Real.log_mul (Real.exp_pos _).ne' hS.ne', Real.log_exp]
  refine congrArg _ ?_
  ring

end Cert.KernelIdeal.Hand

end
-- ==== Proof.FwdVal.lean ====
/-
  What the forward body computes, over the reals: row `r` of the output is the softmax-weighted mean of the value rows
  at and below `r`, and the row statistics are the logarithm of the sum of exponentials.
-/
module

public import proofs.«01_k».proof.Proof.Pay0
public import proofs.«01_k».proof.Proof.Scal

@[expose] public section

set_option maxRecDepth 16384

noncomputable section

namespace Cert.KernelIdeal.Hand

open Idealize.ShloMosaic Idealize.ShloMosaic.TcCoe Idealize.ShloMosaic.ValueIdx
open Cert.KernelIdeal.Gen
open scoped BigOperators

/-! ## Causal attention of one head over the reals, rows and columns numbered by naturals -/

/-- The score of query row `r` and key row `c`. -/
def sc (Q K : ℕ → ℕ → ℝ) (r c : ℕ) : ℝ := ∑ k : Fin 256, Q r k.val * K c k.val

/-- The exponential of the score, none above the diagonal. -/
def ex (Q K : ℕ → ℕ → ℝ) (r c : ℕ) : ℝ := if c ≤ r then Real.exp (sc Q K r c) else 0

/-- The row sum of exponentials. -/
def den (Q K : ℕ → ℕ → ℝ) (r : ℕ) : ℝ := ∑ c ∈ Finset.range 4096, ex Q K r c

/-- The weighted sum of value rows. -/
def num (Q K V : ℕ → ℕ → ℝ) (r d : ℕ) : ℝ := ∑ c ∈ Finset.range 4096, ex Q K r c * V c d

/-- The attention's output. -/
def att (Q K V : ℕ → ℕ → ℝ) (r d : ℕ) : ℝ := num Q K V r d / den Q K r

/-- A sum over the first `n + 1` blocks is the sum over `n` and the last block's. -/
theorem sum_block (f : ℕ → ℝ) (n : ℕ) :
    ∑ c ∈ Finset.range (1024 * (n + 1)), f c = (∑ c ∈ Finset.range (1024 * n), f c) + ∑ c : Fin 1024, f (1024 * n + c.val) := by
  rw [Nat.mul_succ, Finset.sum_range_add, Finset.sum_range (fun x => f (1024 * n + x))]

/-- A sum of terms zero beyond row `r` need only reach past `r`. -/
theorem sum_past {f : ℕ → ℝ} {n N r : ℕ} (hn : r < n) (hN : n ≤ N) (hf : ∀ c, r < c → f c = 0) :
    ∑ c ∈ Finset.range n, f c = ∑ c ∈ Finset.range N, f c :=
  Finset.sum_subset (Finset.range_mono hN) fun c _ hc => hf c (by
    have : n ≤ c := by simpa using hc
    omega)

/-- A key past the row has exponential zero. -/
theorem ex_past (Q K : ℕ → ℕ → ℝ) {r c : ℕ} (h : r < c) : ex Q K r c = 0 := if_neg (by omega)

/-- The exponentials are not negative. -/
theorem ex_nonneg (Q K : ℕ → ℕ → ℝ) (r c : ℕ) : 0 ≤ ex Q K r c := by
  unfold ex; split
  · exact (Real.exp_pos _).le
  · exact le_rfl

/-- The row sum is positive: the row's own column is there. -/
theorem den_pos (Q K : ℕ → ℕ → ℝ) {r : ℕ} (hr : r < 4096) : 0 < den Q K r :=
  Finset.sum_pos' (fun c _ => ex_nonneg Q K r c) ⟨0, by simp, by
    unfold ex; rw [if_pos (Nat.zero_le _)]; exact Real.exp_pos _⟩

section
variable {q : FVec Ideal S1024x256 .bf16} {xk : Vec Ideal S2x4096x256 .bf16} {xv : Vec Ideal S2x4096x128 .bf16} {h : Fin 2} {j : ℕ}
  {Q K V : ℕ → ℕ → ℝ}

/-- A block of rows reads the rows. -/
theorem rows3_real {p n : ℕ} {x : (⟨3, ![p, 4096, n]⟩ : Shape).Idx → EReal} {h : Fin p} {X : ℕ → ℕ → ℝ}
    (hx : ∀ (c : Fin 4096) (k : Fin n), x (ix3 h c k) = (X c.val k.val : EReal)) {b : ℕ} (hb : b < 4) (c : Fin 1024) (k : Fin n) :
    rows3 x h b (ix3 0 c k) = (X (1024 * b + c.val) k.val : EReal) := by
  have := c.isLt
  refine (hx ⟨(1024 * b + c.val) % 4096, Nat.mod_lt _ (by omega)⟩ k).trans ?_
  show ((X ((1024 * b + c.val) % 4096) k.val : ℝ) : EReal) = _
  rw [Nat.mod_eq_of_lt (show 1024 * b + c.val < 4096 by omega)]

/-- A block's scores. -/
theorem pay4_real (hq : ∀ (r : Fin 1024) (k : Fin 256), q (ix2 r k) = (Q (1024 * j + r.val) k.val : EReal))
    (hk : ∀ (c : Fin 4096) (k : Fin 256), xk (ix3 h c k) = (K c.val k.val : EReal)) {n : ℕ} (hn : n < 4) (r c : Fin 1024) :
    k0_pay4 q (rows3 xk h n) (ix2 r c) = (sc Q K (1024 * j + r.val) (1024 * n + c.val) : EReal) :=
  (pay4_apply q _ r c).trans (coe_dot _ (fun k _ => hq r k) (fun k _ => rows3_real hk hn c k))

/-- The running softmax after `n` blocks below the diagonal stands for the sums over their columns. -/
theorem fwdSt_holds (hj : j < 4) (hq : ∀ (r : Fin 1024) (k : Fin 256), q (ix2 r k) = (Q (1024 * j + r.val) k.val : EReal))
    (hk : ∀ (c : Fin 4096) (k : Fin 256), xk (ix3 h c k) = (K c.val k.val : EReal))
    (hv : ∀ (c : Fin 4096) (d : Fin 128), xv (ix3 h c d) = (V c.val d.val : EReal)) (r : Fin 1024) :
    ∀ n ≤ j, Holds ((fwdSt q xk xv h n).1 (ix2 r 0)) ((fwdSt q xk xv h n).2.1 (ix2 r 0)) (fun d => (fwdSt q xk xv h n).2.2 (ix2 r d))
      (∑ c ∈ Finset.range (1024 * n), ex Q K (1024 * j + r.val) c)
      (fun d => ∑ c ∈ Finset.range (1024 * n), ex Q K (1024 * j + r.val) c * V c d.val) := by
  intro n
  induction n with
  | zero =>
    intro _
    simp only [Nat.mul_zero, Finset.range_zero, Finset.sum_empty]
    have e1 : (fwdSt q xk xv h 0).1 (ix2 r 0) = (⊥ : EReal) := ofBits_bot
    have e2 : (fwdSt q xk xv h 0).2.1 (ix2 r 0) = (0 : EReal) := Ideal.ofBits_zero_f32
    have e3 : (fun d : Fin 128 => (fwdSt q xk xv h 0).2.2 (ix2 r d)) = fun _ => (0 : EReal) := funext fun _ => Ideal.ofBits_zero_f32
    rw [e1, e2, e3]
    exact holds_zero
  | succ n ih =>
    intro hn
    have hS := ih (by omega)
    have hs : ∀ c : Fin 1024, k0_pay4 q (rows3 xk h n) (ix2 r c) = (sc Q K (1024 * j + r.val) (1024 * n + c.val) : EReal) :=
      fun c => pay4_real hq hk (by omega) r c
    have he : ∀ c : Fin 1024, Ideal.exp (k0_pay4 q (rows3 xk h n) (ix2 r c)) = (ex Q K (1024 * j + r.val) (1024 * n + c.val) : EReal) := fun c => by
      rw [hs c, Ideal.exp_coe]
      refine congrArg _ ?_
      unfold ex
      rw [if_pos (by have := c.isLt; omega)]
    obtain ⟨ρ, hρ⟩ := fold_max_real (f := fun c : Fin 1024 => k0_pay4 q (rows3 xk h n) (ix2 r c)) (fun c => by rw [hs c]; exact EReal.coe_ne_top _)
      (0 : Fin 1024) (by rw [hs]; exact EReal.coe_ne_bot _) (m := (fwdSt q xk xv h n).1 (ix2 r 0)) hS.choose_spec.choose_spec.choose_spec.1
    have hm' : k0_pay5 q (fwdSt q xk xv h n).1 (rows3 xk h n) (ix2 r 0) = (ρ : EReal) := (pay5_apply q _ _ r 0).trans hρ
    have := (holds_step hS (fun c => by rw [hs c]; exact EReal.coe_ne_top _) he (fun c d => rows3_real hv (b := n) (by omega) c d) ρ hm'
      ((pay8_apply q _ _ _ r 0).trans (congrArg _ (Finset.sum_congr rfl fun c _ => pay7_apply q _ _ r c)))
      (fun d => (pay9_apply q _ _ _ _ r d).trans (congrArg _ (Finset.sum_congr rfl fun c _ => congrArg (· * _) (pay7_apply q _ _ r c))))).1
    rw [sum_block (fun c => ex Q K (1024 * j + r.val) c)]
    simp only [sum_block (fun c => ex Q K (1024 * j + r.val) c * V c _)]
    exact this

/-- With the diagonal block taken in: the whole row. -/
theorem fwdFin_holds (hj : j < 4) (hq : ∀ (r : Fin 1024) (k : Fin 256), q (ix2 r k) = (Q (1024 * j + r.val) k.val : EReal))
    (hk : ∀ (c : Fin 4096) (k : Fin 256), xk (ix3 h c k) = (K c.val k.val : EReal))
    (hv : ∀ (c : Fin 4096) (d : Fin 128), xv (ix3 h c d) = (V c.val d.val : EReal)) (r : Fin 1024) :
    Holds ((fwdFin q xk xv h j).1 (ix2 r 0)) ((fwdFin q xk xv h j).2.1 (ix2 r 0)) (fun d => (fwdFin q xk xv h j).2.2 (ix2 r d))
      (den Q K (1024 * j + r.val)) (fun d => num Q K V (1024 * j + r.val) d.val)
      ∧ ∃ ρ : ℝ, (fwdFin q xk xv h j).1 (ix2 r 0) = (ρ : EReal)
        ∧ (fwdFin q xk xv h j).2.1 (ix2 r 0) = ((Real.exp (-ρ) * den Q K (1024 * j + r.val) : ℝ) : EReal) := by
  have hS := fwdSt_holds hj hq hk hv r j le_rfl
  have hs : ∀ c : Fin 1024, k0_pay43 q (rows3 xk h j) (ix2 r c)
      = if c.val ≤ r.val then ((sc Q K (1024 * j + r.val) (1024 * j + c.val) : ℝ) : EReal) else ⊥ := fun c => by
    rw [pay43_apply, ← pay4_apply, pay4_real hq hk hj r c]
  have hnt : ∀ c : Fin 1024, k0_pay43 q (rows3 xk h j) (ix2 r c) ≠ (⊤ : EReal) := fun c => by
    rw [hs c]; split
    · exact EReal.coe_ne_top _
    · exact bot_ne_top
  have he : ∀ c : Fin 1024, Ideal.exp (k0_pay43 q (rows3 xk h j) (ix2 r c)) = (ex Q K (1024 * j + r.val) (1024 * j + c.val) : EReal) := fun c => by
    rw [hs c]
    unfold ex
    by_cases hc : c.val ≤ r.val
    · rw [if_pos hc, if_pos (by omega)]; rfl
    · rw [if_neg hc, if_neg (by omega)]; rfl
  obtain ⟨ρ, hρ⟩ := fold_max_real (f := fun c : Fin 1024 => k0_pay43 q (rows3 xk h j) (ix2 r c)) hnt
    (0 : Fin 1024) (by rw [hs, if_pos (show (0 : Fin 1024).val ≤ r.val from Nat.zero_le _)]; exact EReal.coe_ne_bot _) (m := (fwdSt q xk xv h j).1 (ix2 r 0)) hS.choose_spec.choose_spec.choose_spec.1
  have hm' : k0_pay44 q (fwdSt q xk xv h j).1 (rows3 xk h j) (ix2 r 0) = (ρ : EReal) := (pay44_apply q _ _ r 0).trans hρ
  have key := holds_step hS hnt he (fun c d => rows3_real hv (b := j) hj c d) ρ hm'
    ((pay47_apply q _ _ _ r 0).trans (congrArg _ (Finset.sum_congr rfl fun c _ => pay46_apply q _ _ r c)))
    (fun d => (pay48_apply q _ _ _ _ r d).trans (congrArg _ (Finset.sum_congr rfl fun c _ => congrArg (· * _) (pay46_apply q _ _ r c))))
  have hr := r.isLt
  have e1 : (∑ c ∈ Finset.range (1024 * j), ex Q K (1024 * j + r.val) c) + ∑ c : Fin 1024, ex Q K (1024 * j + r.val) (1024 * j + c.val)
      = den Q K (1024 * j + r.val) := by
    rw [← sum_block (fun c => ex Q K (1024 * j + r.val) c)]
    exact sum_past (r := 1024 * j + r.val) (by omega) (by omega) fun c hc => ex_past Q K hc
  have e2 : (fun d : Fin 128 => (∑ c ∈ Finset.range (1024 * j), ex Q K (1024 * j + r.val) c * V c d.val)
      + ∑ c : Fin 1024, ex Q K (1024 * j + r.val) (1024 * j + c.val) * V (1024 * j + c.val) d.val)
      = fun d => num Q K V (1024 * j + r.val) d.val := funext fun d => by
    rw [← sum_block (fun c => ex Q K (1024 * j + r.val) c * V c d.val)]
    exact sum_past (r := 1024 * j + r.val) (by omega) (by omega) fun c hc => by rw [ex_past Q K hc, zero_mul]
  rw [e1, e2] at key
  exact ⟨key.1, ρ, hm', key.2⟩

end

/-- The query block of a head reads the block's rows. -/
theorem fwdQ_apply (xq : Vec Ideal S2x1024x256 .bf16) (h : Fin 2) (r : Fin 1024) (k : Fin 256) : fwdQ xq h (ix2 r k) = xq (ix3 h r k) :=
  shapeCast_1ab_ab_apply (qHead xq h) shapeCasts_S1x1024x256_S1024x256 r k

/-- The output block of one head. -/
theorem fwdO_real {xq : Vec Ideal S2x1024x256 .bf16} {xk : Vec Ideal S2x4096x256 .bf16} {xv : Vec Ideal S2x4096x128 .bf16} {h : Fin 2} {j : ℕ}
    {Q K V : ℕ → ℕ → ℝ} (hj : j < 4) (hq : ∀ (r : Fin 1024) (k : Fin 256), xq (ix3 h r k) = (Q (1024 * j + r.val) k.val : EReal))
    (hk : ∀ (c : Fin 4096) (k : Fin 256), xk (ix3 h c k) = (K c.val k.val : EReal))
    (hv : ∀ (c : Fin 4096) (d : Fin 128), xv (ix3 h c d) = (V c.val d.val : EReal)) (r : Fin 1024) (d : Fin 128) :
    fwdO xq xk xv h j (ix2 r d) = (att Q K V (1024 * j + r.val) d.val : EReal) :=
  (pay2_apply _ _ r d).trans (holds_div (fwdFin_holds (q := fwdQ xq h) hj (fun r k => (fwdQ_apply xq h r k).trans (hq r k)) hk hv r).1
    (den_pos Q K (by have := r.isLt; omega)).ne' d)

/-- The block of row statistics of one head. -/
theorem fwdL_real {xq : Vec Ideal S2x1024x256 .bf16} {xk : Vec Ideal S2x4096x256 .bf16} {xv : Vec Ideal S2x4096x128 .bf16} {h : Fin 2} {j : ℕ}
    {Q K V : ℕ → ℕ → ℝ} (hj : j < 4) (hq : ∀ (r : Fin 1024) (k : Fin 256), xq (ix3 h r k) = (Q (1024 * j + r.val) k.val : EReal))
    (hk : ∀ (c : Fin 4096) (k : Fin 256), xk (ix3 h c k) = (K c.val k.val : EReal))
    (hv : ∀ (c : Fin 4096) (d : Fin 128), xv (ix3 h c d) = (V c.val d.val : EReal)) (r : Fin 1024) :
    fwdL xq xk xv h j (ix4 0 0 0 r) = (Real.log (den Q K (1024 * j + r.val)) : EReal) := by
  obtain ⟨_, ρ, hm, hd⟩ := fwdFin_holds (q := fwdQ xq h) hj (fun r k => (fwdQ_apply xq h r k).trans (hq r k)) hk hv r
  exact (pay3_apply _ _ r 0 0 0).trans (holds_log (den_pos Q K (by have := r.isLt; omega)) hm hd)

end Cert.KernelIdeal.Hand

end
-- ==== Proof.Arrays0.lean ====
/- The forward call's two result arrays as real numbers: every element of the attention output and of the row statistics,
   when the arrays the call is entered with hold real numbers. -/
module

public import proofs.«01_k».proof.Proof.Halves
public import proofs.«01_k».proof.Proof.FwdVal
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Idealize.ShloMosaic.ValueIdx

variable (V : (c : Dev nD) → (b : Ref sig .tc) → Buf (Elt Ideal) ((c : Thread nD τ).loc b))

/-- The query window's block index at a point. -/
theorem index0_0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])

/-- The key window's block index at a point. -/
theorem index0_1 : ∀ t : Fin cfg0.N, win0_1.index t = ![(grid0.coords t 0).val, 0, 0] :=
  (by decide +kernel : ∀ t : Fin grid0.N, win0_1.index t = ![(grid0.coords t 0).val, 0, 0])

/-- The value window's block index at a point. -/
theorem index0_2 : ∀ t : Fin cfg0.N, win0_2.index t = ![(grid0.coords t 0).val, 0, 0] :=
  (by decide +kernel : ∀ t : Fin grid0.N, win0_2.index t = ![(grid0.coords t 0).val, 0, 0])

/-- The output window's block index at a point. -/
theorem index0_3 : ∀ t : Fin cfg0.N, win0_3.index t = ![(grid0.coords t 1).val, (grid0.coords t 0).val] :=
  (by decide +kernel : ∀ t : Fin grid0.N, win0_3.index t = ![(grid0.coords t 1).val, (grid0.coords t 0).val])

/-- The row statistics window's block index at a point. -/
theorem index0_4 : ∀ t : Fin cfg0.N, win0_4.index t = ![(grid0.coords t 0).val, (grid0.coords t 1).val, 0, 0] :=
  (by decide +kernel : ∀ t : Fin grid0.N, win0_4.index t = ![(grid0.coords t 0).val, (grid0.coords t 1).val, 0, 0])

/-- The head pair of a point is one of four. -/
theorem pair_lt (t : Fin cfg0.N) : (grid0.coords t 0).val < 4 := (grid0.coords t 0).isLt

/-- The row block of a point is one of four. -/
theorem rowblk_lt (t : Fin cfg0.N) : (grid0.coords t 1).val < 4 := (grid0.coords t 1).isLt

/-- The query block at a point: the rows of its row block, for the two heads of its pair. -/
theorem iblk0_0_apply (c : Dev nD) (t : Fin cfg0.N) (h : Fin 2) (r : Fin 1024) (k : Fin 256) :
    iblk0 V c 0 t (ix3 h r k) = V c main_v0 (ix3 ⟨(grid0.coords t 0).val * 2 + h.val, by have := pair_lt t; omega⟩
      ⟨(grid0.coords t 1).val * 1024 + r.val, by have := rowblk_lt t; omega⟩ k) := by
  unfold iblk0
  refine congrArg (V c main_v0) (?_ : ((cfg0.win 0).blk t).view.emb (ix3 h r k) = _)
  blk_ext [index0_0]

/-- The key block at a point: all rows, for the two heads of its pair. -/
theorem iblk0_1_apply (c : Dev nD) (t : Fin cfg0.N) (h : Fin 2) (r : Fin 4096) (k : Fin 256) :
    iblk0 V c 1 t (ix3 h r k) = V c main_v1 (ix3 ⟨(grid0.coords t 0).val * 2 + h.val, by have := pair_lt t; omega⟩ r k) := by
  unfold iblk0
  refine congrArg (V c main_v1) (?_ : ((cfg0.win 1).blk t).view.emb (ix3 h r k) = _)
  blk_ext [index0_1]

/-- The value block at a point: all rows, for the two heads of its pair. -/
theorem iblk0_2_apply (c : Dev nD) (t : Fin cfg0.N) (h : Fin 2) (r : Fin 4096) (k : Fin 128) :
    iblk0 V c 2 t (ix3 h r k) = V c main_v2 (ix3 ⟨(grid0.coords t 0).val * 2 + h.val, by have := pair_lt t; omega⟩ r k) := by
  unfold iblk0
  refine congrArg (V c main_v2) (?_ : ((cfg0.win 2).blk t).view.emb (ix3 h r k) = _)
  blk_ext [index0_2]

variable (Q K U : ℕ → ℕ → ℕ → ℝ)

/-- One element of the attention block a point leaves. -/
theorem fwdOut_point (c : Dev nD) (hq : ∀ (h : Fin 8) (r : Fin 4096) (k : Fin 256), V c main_v0 (ix3 h r k) = (↑(Q h.val r.val k.val) : EReal))
    (hk : ∀ (h : Fin 8) (r : Fin 4096) (k : Fin 256), V c main_v1 (ix3 h r k) = (↑(K h.val r.val k.val) : EReal))
    (hv : ∀ (h : Fin 8) (r : Fin 4096) (k : Fin 128), V c main_v2 (ix3 h r k) = (↑(U h.val r.val k.val) : EReal))
    (t : Fin cfg0.N) (y : S1024x256.Idx) (n r d : ℕ) (hn : n = (grid0.coords t 0).val * 2 + (y 1).val / 128)
    (hr : r = (grid0.coords t 1).val * 1024 + (y 0).val) (hd : d = (y 1).val % 128) :
    fwdOut (iblk0 V c 0 t) (iblk0 V c 1 t) (iblk0 V c 2 t) ((grid0.coords t) 1).val y = (↑(att (Q n) (K n) (U n) r d) : EReal) := by
  subst hn hr hd
  have h1 : (y 1).val < 256 := (y 1).isLt
  refine (fwdO_real (Q := Q ((grid0.coords t 0).val * 2 + (y 1).val / 128)) (K := K ((grid0.coords t 0).val * 2 + (y 1).val / 128))
    (V := U ((grid0.coords t 0).val * 2 + (y 1).val / 128)) (rowblk_lt t)
    (fun r k => ((iblk0_0_apply V c t _ r k).trans (hq _ _ _)).trans ?_)
    (fun r k => (iblk0_1_apply V c t _ r k).trans (hk _ _ _)) (fun r k => (iblk0_2_apply V c t _ r k).trans (hv _ _ _)) (y 0) _).trans ?_
  · rw [Nat.mul_comm 1024]
  · rw [Nat.mul_comm 1024]

/-- One element of the row statistics a point leaves. -/
theorem fwdLse_point (c : Dev nD) (hq : ∀ (h : Fin 8) (r : Fin 4096) (k : Fin 256), V c main_v0 (ix3 h r k) = (↑(Q h.val r.val k.val) : EReal))
    (hk : ∀ (h : Fin 8) (r : Fin 4096) (k : Fin 256), V c main_v1 (ix3 h r k) = (↑(K h.val r.val k.val) : EReal))
    (hv : ∀ (h : Fin 8) (r : Fin 4096) (k : Fin 128), V c main_v2 (ix3 h r k) = (↑(U h.val r.val k.val) : EReal))
    (t : Fin cfg0.N) (y : S2x1x1x1024.Idx) (n r : ℕ) (hn : n = (grid0.coords t 0).val * 2 + (y 0).val)
    (hr : r = (grid0.coords t 1).val * 1024 + (y 3).val) :
    fwdLse (iblk0 V c 0 t) (iblk0 V c 1 t) (iblk0 V c 2 t) ((grid0.coords t) 1).val y = (↑(Real.log (den (Q n) (K n) r)) : EReal) := by
  subst hn hr
  refine (fwdL_real (Q := Q ((grid0.coords t 0).val * 2 + (y 0).val)) (K := K ((grid0.coords t 0).val * 2 + (y 0).val))
    (V := U ((grid0.coords t 0).val * 2 + (y 0).val)) (rowblk_lt t)
    (fun r k => ((iblk0_0_apply V c t _ r k).trans (hq _ _ _)).trans ?_)
    (fun r k => (iblk0_1_apply V c t _ r k).trans (hk _ _ _)) (fun r k => (iblk0_2_apply V c t _ r k).trans (hv _ _ _)) (y 3)).trans ?_
  · rw [Nat.mul_comm 1024]
  · rw [Nat.mul_comm 1024]

/-- The attention output array: column `128 h + d` holds head `h`. -/
theorem attn_arr (c : Dev nD) (hq : ∀ (h : Fin 8) (r : Fin 4096) (k : Fin 256), V c main_v0 (ix3 h r k) = (↑(Q h.val r.val k.val) : EReal))
    (hk : ∀ (h : Fin 8) (r : Fin 4096) (k : Fin 256), V c main_v1 (ix3 h r k) = (↑(K h.val r.val k.val) : EReal))
    (hv : ∀ (h : Fin 8) (r : Fin 4096) (k : Fin 128), V c main_v2 (ix3 h r k) = (↑(U h.val r.val k.val) : EReal)) :
    (dat0 V c).arrAt 3 cfg0.N = fun i : S4096x1024.Idx => (↑(att (Q ((i 1).val / 128)) (K ((i 1).val / 128)) (U ((i 1).val / 128)) (i 0).val ((i 1).val % 128)) : EReal) := by
  refine (dat0 V c).arrAt_eq_of_covers 3 _ (by decide +kernel) fun t hf y => ?_
  blk_simp
  rw [after0_3]
  refine fwdOut_point V Q K U c hq hk hv t y _ _ _ ?_ ?_ ?_
  · blk_simp [index0_3]; have h1 : (y 1).val < 256 := (y 1).isLt; omega
  · blk_simp [index0_3]
  · blk_simp [index0_3]; have h1 : (y 1).val < 256 := (y 1).isLt; omega

/-- The array of row statistics: the logarithm of each row's sum of exponentials. -/
theorem lse_arr (c : Dev nD) (hq : ∀ (h : Fin 8) (r : Fin 4096) (k : Fin 256), V c main_v0 (ix3 h r k) = (↑(Q h.val r.val k.val) : EReal))
    (hk : ∀ (h : Fin 8) (r : Fin 4096) (k : Fin 256), V c main_v1 (ix3 h r k) = (↑(K h.val r.val k.val) : EReal))
    (hv : ∀ (h : Fin 8) (r : Fin 4096) (k : Fin 128), V c main_v2 (ix3 h r k) = (↑(U h.val r.val k.val) : EReal)) :
    (dat0 V c).arrAt 4 cfg0.N = fun i : S8x4x1x1024.Idx => (↑(Real.log (den (Q (i 0).val) (K (i 0).val) (1024 * (i 1).val + (i 3).val))) : EReal) := by
  refine (dat0 V c).arrAt_eq_of_covers 4 _ (by decide +kernel) fun t hf y => ?_
  blk_simp
  rw [after0_4]
  refine fwdLse_point V Q K U c hq hk hv t y _ _ ?_ ?_
  · blk_simp [index0_4]; try omega
  · blk_simp [index0_4]; have h1 : (y 1).val < 1 := (y 1).isLt; omega

end Cert.KernelIdeal.Hand

end
-- ==== Proof.Pay1.lean ====
/-
  The pure operations of the backward body over the reals, read at an index, for one pair of a key block and a query
  block: the softmax entries recomputed from the row statistics, the derivative of the scores, and the three products.
-/
module

public import proofs.«01_k».proof.Proof.Pay0
public import proofs.«01_k».proof.Proof.Scal

@[expose] public section

set_option maxRecDepth 16384

noncomputable section

namespace Cert.KernelIdeal.Hand

open Idealize.ShloMosaic Idealize.ShloMosaic.TcCoe Idealize.ShloMosaic.ValueIdx
open Cert.KernelIdeal.Gen
open scoped BigOperators

/-- A product contracting the rows of both operands, at an index. -/
theorem dot_rows_apply (x : FVec Ideal S1024x1024 .bf16) (y : FVec Ideal S1024x256 .bf16) (acc : FVec Ideal S1024x256 .f32) (r : Fin 1024) (d : Fin 256) :
    matmul dot_S1024x1024_S1024x256_S1024x256_0_0_1_1_n_n none x y acc (ix2 r d) = acc (ix2 r d) + ∑ c : Fin 1024, x (ix2 c r) * y (ix2 c d) := by
  refine (Ideal.matmul_apply _ _ _ _ _ _).trans ?_
  rw [← Equiv.sum_comp (contrEquiv1 dot_S1024x1024_S1024x256_S1024x256_0_0_1_1_n_n 1024 rfl rfl).symm]
  refine congrArg (acc (ix2 r d) + ·) (Finset.sum_congr rfl fun k _ => ?_)
  have hk := contrEquiv1_symm_val dot_S1024x1024_S1024x256_S1024x256_0_0_1_1_n_n 1024 rfl rfl k
  refine congrArg₂ (fun i j => x i * y j) ?_ ?_
  · funext a; apply Fin.ext
    match a with
    | ⟨0, _⟩ => exact hk
    | ⟨1, _⟩ => rfl
  · funext a; apply Fin.ext
    match a with
    | ⟨0, _⟩ => exact hk
    | ⟨1, _⟩ => rfl

/-- The zero a product starts from. -/
theorem zero_add_real {x y : EReal} (hx : x = 0) : x + y = y := by rw [hx, zero_add]

section
variable {k : FVec Ideal S1024x256 .bf16} {v : FVec Ideal S1024x128 .bf16} {qb : Vec Ideal S1x1024x256 .bf16}
  {ob db : Vec Ideal S1024x128 .f32} {lb : Vec Ideal S1x1x1x1024 .f32}
  {kk qq : Fin 1024 → Fin 256 → ℝ} {vv dd oo : Fin 1024 → Fin 128 → ℝ} {ll : Fin 1024 → ℝ}

/-- The transposed scores less the row statistics, exponentiated: a softmax entry. -/
def pt (kk qq : Fin 1024 → Fin 256 → ℝ) (ll : Fin 1024 → ℝ) (c r : Fin 1024) : ℝ := Real.exp ((∑ i, kk c i * qq r i) - ll r)

/-- The same with the entries above the diagonal masked. -/
def ptm (kk qq : Fin 1024 → Fin 256 → ℝ) (ll : Fin 1024 → ℝ) (c r : Fin 1024) : ℝ := if c.val ≤ r.val then pt kk qq ll c r else 0

/-- The derivative of a score over its softmax entry. -/
def dpd (vv dd oo : Fin 1024 → Fin 128 → ℝ) (c r : Fin 1024) : ℝ := (∑ d, vv c d * dd r d) - ∑ d, dd r d * oo r d

/-- The query block read from its window, as real numbers. -/
theorem qblk_real (hq : ∀ r i, qb (ix3 0 r i) = (qq r i : EReal)) (r : Fin 1024) (i : Fin 256) : k1_pay3 qb (ix2 r i) = (qq r i : EReal) :=
  (shapeCast_1ab_ab_apply qb _ r i).trans (hq r i)

/-- The row statistics repeated down the rows. -/
theorem lrow_real (hl : ∀ r, lb (ix4 0 0 0 r) = (ll r : EReal)) (c r : Fin 1024) :
    broadcastTo S1024x1024 (shapeCast S1x1024 lb shapeCasts_S1x1x1x1024_S1x1024) broadcasts_S1x1024_S1024x1024 (ix2 c r) = (ll r : EReal) :=
  (broadcastTo_1b_ab_apply _ _ c r).trans ((shapeCast_apply lb _ (ix2 (0 : Fin 1) r) (ix4 0 0 0 r) (by
    rw [Shape.rowMajor_val_four, Shape.rowMajor_val_two]; rfl)).trans (hl r))

/-- The transposed scores. -/
theorem scoreT_real (hk : ∀ c i, k (ix2 c i) = (kk c i : EReal)) {q2 : FVec Ideal S1024x256 .bf16} (hq : ∀ r i, q2 (ix2 r i) = (qq r i : EReal)) (c r : Fin 1024) :
    matmul dot_S1024x256_S1024x256_S1024x1024_1_1_0_0_n_n none k q2 (constant S1024x1024 .f32 0x00000000#32) (ix2 c r) = ((∑ i, kk c i * qq r i : ℝ) : EReal) :=
  (Ideal.matmul_transposedRhs_apply none k q2 _ c r).trans ((zero_add_real Ideal.ofBits_zero_f32).trans (coe_dot _ (fun i _ => hk c i) (fun i _ => hq r i)))

/-- The exponentials of the scores less the row logarithms, keys by rows, as real numbers. -/
theorem pay5b_real (hk : ∀ c i, k (ix2 c i) = (kk c i : EReal)) (hq : ∀ r i, qb (ix3 0 r i) = (qq r i : EReal)) (hl : ∀ r, lb (ix4 0 0 0 r) = (ll r : EReal))
    (c r : Fin 1024) : k1_pay5 k qb lb (ix2 c r) = (pt kk qq ll c r : EReal) :=
  congrArg₂ (fun x y : EReal => Ideal.exp (x - y)) (scoreT_real hk (qblk_real hq) c r) (lrow_real hl c r)

/-- The same of the diagonal block, where a key past the row counts zero. -/
theorem pay29_real (hk : ∀ c i, k (ix2 c i) = (kk c i : EReal)) (hq : ∀ r i, qb (ix3 0 r i) = (qq r i : EReal)) (hl : ∀ r, lb (ix4 0 0 0 r) = (ll r : EReal))
    (c r : Fin 1024) : k1_pay29 k (k1_pay21 qb) lb (ix2 c r) = (ptm kk qq ll c r : EReal) := by
  have hm : (select (cmpi .sle (iota .tc S1024x1024 32 [0] iota_S1024x1024_d0_w32) (iota .tc S1024x1024 32 [1] iota_S1024x1024_d1_w32))
      (matmul dot_S1024x256_S1024x256_S1024x1024_1_1_0_0_n_n none k (k1_pay21 qb) (constant S1024x1024 .f32 0x00000000#32))
      (broadcast S1024x1024 (Scalar.ofBits .f32 0xFF800000#32 : Ideal .f32))) (ix2 c r)
      = if c.val ≤ r.val then ((∑ i, kk c i * qq r i : ℝ) : EReal) else ⊥ := by
    refine (congrArg₂ (fun x y : EReal => Scalar.select (IntOp.cmpi .sle (BitVec.ofNat 32 (0 * 1024 + c.val)) (BitVec.ofNat 32 (0 * 1024 + r.val))) x y)
      (scoreT_real hk (q2 := k1_pay21 qb) (qblk_real hq) c r) ofBits_bot : _ = _).trans ?_
    rw [Nat.zero_mul, Nat.zero_add, Nat.zero_add, iota_sle]
    split <;> rfl
  refine (congrArg₂ (fun x y : EReal => Ideal.exp (x - y)) hm (lrow_real hl c r) : _ = _).trans ?_
  unfold ptm
  split
  · rfl
  · rw [EReal.bot_sub]; rfl

/-- A row of ones times a matrix: each row's sum. -/
theorem ones_real (x : FVec Ideal S1024x128 .bf16) {xx : Fin 1024 → Fin 128 → ℝ} (hx : ∀ r d, x (ix2 r d) = (xx r d : EReal)) (p : Fin 8) (r : Fin 1024) :
    matmul dot_S8x128_S1024x128_S8x1024_1_1_0_0_n_n none (k1_pay18 (F := Ideal)) x (constant S8x1024 .f32 0x00000000#32) (ix2 p r)
      = ((∑ d, xx r d : ℝ) : EReal) := by
  refine (Ideal.matmul_transposedRhs_apply none k1_pay18 x _ p r).trans ((zero_add_real Ideal.ofBits_zero_f32).trans ?_)
  refine (coe_dot (f := fun _ => 1) _ (fun d _ => ?_) (fun d _ => hx r d)).trans ?_
  · exact (Ideal.ofBits_one_bf16 : Ideal.ofBits .bf16 0x3F80#16 = 1)
  · simp only [one_mul]

/-- The product of the output with its cotangent. -/
theorem pay23_real (hd : ∀ r d, db (ix2 r d) = (dd r d : EReal)) (ho : ∀ r d, ob (ix2 r d) = (oo r d : EReal)) (r : Fin 1024) (d : Fin 128) :
    k1_pay23 db ob (ix2 r d) = ((dd r d * oo r d : ℝ) : EReal) := by
  refine (congrArg₂ (fun x y : EReal => x * y) (hd r d) ((shapeCast_apply ob _ (ix2 r d) (ix2 r d) rfl).trans (ho r d)) : _ = _).trans ?_
  exact (EReal.coe_mul _ _).symm

/-- What is left of it past its first part: nothing, over the reals. -/
theorem pay25_real (hd : ∀ r d, db (ix2 r d) = (dd r d : EReal)) (ho : ∀ r d, ob (ix2 r d) = (oo r d : EReal)) (r : Fin 1024) (d : Fin 128) :
    k1_pay25 db ob (ix2 r d) = ((0 : ℝ) : EReal) := by
  refine (congrArg₂ (fun x y : EReal => x - y) (pay23_real hd ho r d) (pay23_real hd ho r d) : _ = _).trans ?_
  rw [← EReal.coe_sub, sub_self]

theorem pay25'_real (hd : ∀ r d, db (ix2 r d) = (dd r d : EReal)) (ho : ∀ r d, ob (ix2 r d) = (oo r d : EReal)) (r : Fin 1024) (d : Fin 128) :
    (truncf .bf16 (subf (k1_pay25 db ob) (extf .f32 (k1_pay26 db ob) bitsLt_bf16_f32)) bitsLt_bf16_f32 : FVec Ideal S1024x128 .bf16) (ix2 r d) = ((0 : ℝ) : EReal) := by
  refine (congrArg₂ (fun x y : EReal => x - y) (pay25_real hd ho r d) (pay25_real hd ho r d) : _ = _).trans ?_
  rw [← EReal.coe_sub, sub_self]

/-- The row sums of the product, from its three parts. -/
theorem delta_real (hd : ∀ r d, db (ix2 r d) = (dd r d : EReal)) (ho : ∀ r d, ob (ix2 r d) = (oo r d : EReal)) (c r : Fin 1024) :
    broadcastTo S1024x1024 (extractStridedSlice S1x1024 ![0, 0] (addf (k1_pay27 db ob) (k1_pay28 db ob)) slices_S8x1024_o0_0_S1x1024)
      broadcasts_S1x1024_S1024x1024 (ix2 c r) = ((∑ d, dd r d * oo r d : ℝ) : EReal) := by
  refine (broadcastTo_1b_ab_apply _ _ c r).trans ?_
  refine (congrArg (addf (k1_pay27 db ob) (k1_pay28 db ob)) (show _ = ix2 (0 : Fin 8) r from ?_) : _ = _).trans ?_
  · funext a; apply Fin.ext
    match a with
    | ⟨0, _⟩ => rfl
    | ⟨1, _⟩ => exact Nat.zero_add _
  · have e1 : (matmul dot_S8x128_S1024x128_S8x1024_1_1_0_0_n_n none (k1_pay18 (F := Ideal)) (k1_pay24 db ob) (constant S8x1024 .f32 0x00000000#32)) (ix2 0 r)
        = ((∑ d, dd r d * oo r d : ℝ) : EReal) := ones_real _ (pay23_real hd ho) 0 r
    have e2 : (matmul dot_S8x128_S1024x128_S8x1024_1_1_0_0_n_n none (k1_pay18 (F := Ideal)) (k1_pay26 db ob) (constant S8x1024 .f32 0x00000000#32)) (ix2 0 r)
        = ((∑ d : Fin 128, 0 : ℝ) : EReal) := ones_real _ (pay25_real hd ho) 0 r
    have e3 : k1_pay28 db ob (ix2 0 r) = ((∑ d : Fin 128, 0 : ℝ) : EReal) := ones_real _ (pay25'_real hd ho) 0 r
    have e0 : (broadcast S8x1024 (Scalar.ofBits .f32 0x00000000#32 : Ideal .f32)) (ix2 0 r) = (0 : EReal) := Ideal.ofBits_zero_f32
    refine (congrArg₂ (fun x y : EReal => x + y) (congrArg₂ (fun x y : EReal => x + y) (congrArg₂ (fun x y : EReal => x + y) e0 e1) e2) e3 : _ = _).trans ?_
    simp

/-- The cotangent's scores less the row sums. -/
theorem dpd_real (hv : ∀ c d, v (ix2 c d) = (vv c d : EReal)) (hd : ∀ r d, db (ix2 r d) = (dd r d : EReal)) (ho : ∀ r d, ob (ix2 r d) = (oo r d : EReal)) (c r : Fin 1024) :
    subf (matmul dot_S1024x128_S1024x128_S1024x1024_1_1_0_0_n_n none v (k1_pay22 db) (constant S1024x1024 .f32 0x00000000#32))
      (broadcastTo S1024x1024 (extractStridedSlice S1x1024 ![0, 0] (addf (k1_pay27 db ob) (k1_pay28 db ob)) slices_S8x1024_o0_0_S1x1024)
        broadcasts_S1x1024_S1024x1024) (ix2 c r) = (dpd vv dd oo c r : EReal) :=
  (congrArg₂ (fun x y : EReal => x - y)
    ((Ideal.matmul_transposedRhs_apply none v (k1_pay22 db) _ c r).trans ((zero_add_real Ideal.ofBits_zero_f32).trans (coe_dot _ (fun i _ => hv c i) (fun i _ => hd r i))))
    (delta_real hd ho c r) : _ = _).trans (EReal.coe_sub _ _).symm

/-- The derivative of the scores, transposed, of a block below the diagonal. -/
theorem pay7b_real (hk : ∀ c i, k (ix2 c i) = (kk c i : EReal)) (hv : ∀ c d, v (ix2 c d) = (vv c d : EReal)) (hq : ∀ r i, qb (ix3 0 r i) = (qq r i : EReal))
    (hd : ∀ r d, db (ix2 r d) = (dd r d : EReal)) (ho : ∀ r d, ob (ix2 r d) = (oo r d : EReal)) (hl : ∀ r, lb (ix4 0 0 0 r) = (ll r : EReal)) (c r : Fin 1024) :
    k1_pay7 k v k1_pay18 qb db ob lb (ix2 c r) = ((pt kk qq ll c r * dpd vv dd oo c r : ℝ) : EReal) :=
  (congrArg₂ (fun x y : EReal => x * y) (pay5b_real hk hq hl c r) (dpd_real hv hd ho c r) : _ = _).trans (EReal.coe_mul _ _).symm

/-- The derivative of the scores, transposed, of the diagonal block. -/
theorem pay31_real (hk : ∀ c i, k (ix2 c i) = (kk c i : EReal)) (hv : ∀ c d, v (ix2 c d) = (vv c d : EReal)) (hq : ∀ r i, qb (ix3 0 r i) = (qq r i : EReal))
    (hd : ∀ r d, db (ix2 r d) = (dd r d : EReal)) (ho : ∀ r d, ob (ix2 r d) = (oo r d : EReal)) (hl : ∀ r, lb (ix4 0 0 0 r) = (ll r : EReal)) (c r : Fin 1024) :
    k1_pay31 k v (k1_pay21 qb) (k1_pay22 db) (k1_pay27 db ob) (k1_pay28 db ob) lb (ix2 c r) = ((ptm kk qq ll c r * dpd vv dd oo c r : ℝ) : EReal) :=
  (congrArg₂ (fun x y : EReal => x * y) (pay29_real hk hq hl c r) (dpd_real hv hd ho c r) : _ = _).trans (EReal.coe_mul _ _).symm

/-- A product of a square block with a block of 128 columns, onto a sum. -/
theorem addDot128_real {x : FVec Ideal S1024x1024 .bf16} {y : FVec Ideal S1024x128 .bf16} {a : FVec Ideal S1024x128 .f32}
    {xx : Fin 1024 → Fin 1024 → ℝ} {yy aa : Fin 1024 → Fin 128 → ℝ} (hx : ∀ c r, x (ix2 c r) = (xx c r : EReal)) (hy : ∀ r d, y (ix2 r d) = (yy r d : EReal))
    (ha : ∀ c d, a (ix2 c d) = (aa c d : EReal)) (c : Fin 1024) (d : Fin 128) :
    addf a (matmul dot_S1024x1024_S1024x128_S1024x128_1_0_0_1_n_n none x y (constant S1024x128 .f32 0x00000000#32)) (ix2 c d)
      = ((aa c d + ∑ r, xx c r * yy r d : ℝ) : EReal) :=
  (congrArg₂ (fun x y : EReal => x + y) (ha c d) ((Ideal.matmul_plain_apply none x y _ c d).trans
    ((zero_add_real Ideal.ofBits_zero_f32).trans (coe_dot _ (fun i _ => hx c i) (fun i _ => hy i d)))) : _ = _).trans (EReal.coe_add _ _).symm

/-- A product of a square block with a block of 256 columns. -/
theorem dot256_real {x : FVec Ideal S1024x1024 .bf16} {y : FVec Ideal S1024x256 .bf16}
    {xx : Fin 1024 → Fin 1024 → ℝ} {yy : Fin 1024 → Fin 256 → ℝ} (hx : ∀ c r, x (ix2 c r) = (xx c r : EReal)) (hy : ∀ r d, y (ix2 r d) = (yy r d : EReal))
    (c : Fin 1024) (d : Fin 256) :
    matmul dot_S1024x1024_S1024x256_S1024x256_1_0_0_1_n_n none x y (constant S1024x256 .f32 0x00000000#32) (ix2 c d)
      = ((∑ r, xx c r * yy r d : ℝ) : EReal) :=
  (Ideal.matmul_plain_apply none x y _ c d).trans ((zero_add_real Ideal.ofBits_zero_f32).trans (coe_dot _ (fun i _ => hx c i) (fun i _ => hy i d)))

/-- A product contracting the rows of a square block with those of a block of 256 columns, onto a sum, as the query
gradient takes it. -/
theorem addDotT_real {x : FVec Ideal S1024x1024 .bf16} {y : FVec Ideal S1024x256 .bf16} {a : Vec Ideal S1x1024x256 .f32}
    {xx : Fin 1024 → Fin 1024 → ℝ} {yy aa : Fin 1024 → Fin 256 → ℝ} (hx : ∀ c r, x (ix2 c r) = (xx c r : EReal)) (hy : ∀ r d, y (ix2 r d) = (yy r d : EReal))
    (ha : ∀ c d, a (ix3 0 c d) = (aa c d : EReal)) (r : Fin 1024) (d : Fin 256) :
    k1_pay35 y x a (ix3 0 r d) = ((aa r d + ∑ c, xx c r * yy c d : ℝ) : EReal) := by
  unfold k1_pay35
  refine (shapeCast_ab_1ab_apply _ _ 0 r d).trans ?_
  refine (congrArg₂ (fun x y : EReal => x + y) ((shapeCast_1ab_ab_apply a _ r d).trans (ha r d)) ((dot_rows_apply x y _ r d).trans
    ((zero_add_real Ideal.ofBits_zero_f32).trans (coe_dot _ (fun i _ => hx i r) (fun i _ => hy i d)))) : _ = _).trans (EReal.coe_add _ _).symm

end

end Cert.KernelIdeal.Hand

end
-- ==== Proof.BwdVal.lean ====
/-
  What the backward body computes, over the reals: its two carried sums are the gradients of the key and value rows of
  its block over the query rows at and past the block, and the resident query gradient gains the block's key columns.
-/
module

public import proofs.«01_k».proof.Proof.FwdVal
public import proofs.«01_k».proof.Proof.Pay1

@[expose] public section

set_option maxRecDepth 16384

noncomputable section

namespace Cert.KernelIdeal.Hand

open Idealize.ShloMosaic Idealize.ShloMosaic.TcCoe Idealize.ShloMosaic.ValueIdx
open Cert.KernelIdeal.Gen
open scoped BigOperators

/-! ## The gradients of causal attention of one head over the reals -/

/-- The softmax entry of query row `r` and key row `c`. -/
def pr (Q K : ℕ → ℕ → ℝ) (r c : ℕ) : ℝ := ex Q K r c / den Q K r

/-- The derivative by the score of row `r` and column `c`: the softmax entry times the cotangent's score less its row mean. -/
def ds (Q K V D : ℕ → ℕ → ℝ) (r c : ℕ) : ℝ :=
  pr Q K r c * ((∑ d : Fin 128, V c d.val * D r d.val) - ∑ d : Fin 128, D r d.val * att Q K V r d.val)

/-- The gradient of a key row. -/
def gradK (Q K V D : ℕ → ℕ → ℝ) (c i : ℕ) : ℝ := ∑ r ∈ Finset.range 4096, ds Q K V D r c * Q r i

/-- The gradient of a value row. -/
def gradV (Q K D : ℕ → ℕ → ℝ) (c d : ℕ) : ℝ := ∑ r ∈ Finset.range 4096, pr Q K r c * D r d

/-- The gradient of a query row. -/
def gradQ (Q K V D : ℕ → ℕ → ℝ) (r i : ℕ) : ℝ := ∑ c ∈ Finset.range 4096, ds Q K V D r c * K c i

/-- A key past the row has probability zero. -/
theorem pr_past (Q K : ℕ → ℕ → ℝ) {r c : ℕ} (h : r < c) : pr Q K r c = 0 := by unfold pr; rw [ex_past Q K h, zero_div]

theorem ds_past (Q K V D : ℕ → ℕ → ℝ) {r c : ℕ} (h : r < c) : ds Q K V D r c = 0 := by unfold ds; rw [pr_past Q K h, zero_mul]

/-- A sum over rows of terms zero before block `j` is the sum from that block on. -/
theorem sum_from {f : ℕ → ℝ} {j : ℕ} (hj : j < 4) (hf : ∀ r, r < 1024 * j → f r = 0) :
    ∑ r ∈ Finset.range (1024 * (3 - j + 1)), f (1024 * j + r) = ∑ r ∈ Finset.range 4096, f r := by
  have e : 4096 = 1024 * j + 1024 * (3 - j + 1) := by omega
  rw [e, Finset.sum_range_add, Finset.sum_eq_zero (s := Finset.range (1024 * j)) fun r hr => hf r (Finset.mem_range.mp hr), zero_add]

/-- A softmax entry from the score and the logarithm of the row sum. -/
theorem pt_eq {Q K : ℕ → ℕ → ℝ} {b j : ℕ} (hb : b < 4) {c r : Fin 1024} (hcr : 1024 * j + c.val ≤ 1024 * b + r.val) :
    pt (fun c i => K (1024 * j + c.val) i.val) (fun r i => Q (1024 * b + r.val) i.val) (fun r => Real.log (den Q K (1024 * b + r.val))) c r
      = pr Q K (1024 * b + r.val) (1024 * j + c.val) := by
  unfold pt pr ex
  have hr := r.isLt
  rw [if_pos hcr, Real.exp_sub, Real.exp_log (den_pos Q K (by omega))]
  refine congrArg (fun x => Real.exp x / _) ?_
  exact Finset.sum_congr rfl fun i _ => mul_comm _ _

/-- The transposed probabilities of the diagonal block, from the masked exponentials. -/
theorem ptm_eq {Q K : ℕ → ℕ → ℝ} {j : ℕ} (hj : j < 4) (c r : Fin 1024) :
    ptm (fun c i => K (1024 * j + c.val) i.val) (fun r i => Q (1024 * j + r.val) i.val) (fun r => Real.log (den Q K (1024 * j + r.val))) c r
      = pr Q K (1024 * j + r.val) (1024 * j + c.val) := by
  unfold ptm
  by_cases h : c.val ≤ r.val
  · rw [if_pos h, pt_eq hj (by omega)]
  · rw [if_neg h, pr_past Q K (by omega)]

/-- The query gradient with one row block replaced, read at a row. -/
theorem putQ_apply (x : Vec Ideal S1x4096x256 .f32) (b : ℕ) (w : Vec Ideal S1x1024x256 .f32) (r : Fin 4096) (i : Fin 256) :
    putQ x b w (ix3 0 r i) = if h : 1024 * b ≤ r.val ∧ r.val < 1024 * b + 1024 then w (ix3 0 ⟨r.val - 1024 * b, by omega⟩ i) else x (ix3 0 r i) := by
  unfold putQ VecWindow.put
  by_cases h : 1024 * b ≤ r.val ∧ r.val < 1024 * b + 1024
  · have h' : ∀ a : Fin 3, (![0, 1024 * b, 0] : Fin 3 → ℕ) a ≤ ((ix3 (0 : Fin 1) r i : S1x4096x256.Idx) a).val
        ∧ ((ix3 (0 : Fin 1) r i : S1x4096x256.Idx) a).val < (![0, 1024 * b, 0] : Fin 3 → ℕ) a + S1x1024x256.size a := fun a => by
      match a with
      | ⟨0, _⟩ => exact ⟨Nat.le_refl 0, by show 0 < 0 + 1; omega⟩
      | ⟨1, _⟩ => exact h
      | ⟨2, _⟩ => exact ⟨Nat.zero_le _, by have := i.isLt; show i.val < 0 + 256; omega⟩
    rw [dif_pos h, dif_pos h']
    refine congrArg w ?_
    funext a; apply Fin.ext
    match a with
    | ⟨0, _⟩ => rfl
    | ⟨1, _⟩ => rfl
    | ⟨2, _⟩ => rfl
  · rw [dif_neg h, dif_neg]
    intro h'
    exact h (h' 1)

section
variable {xq : Vec Ideal S1x4096x256 .bf16} {k : FVec Ideal S1024x256 .bf16} {v : FVec Ideal S1024x128 .bf16}
  {xo xd : Vec Ideal S4096x128 .f32} {xl : Vec Ideal S1x4x1x1024 .f32} {j : ℕ} {Q K V D : ℕ → ℕ → ℝ}

/-- A block of rows of a matrix reads the rows. -/
theorem rows2_real {n : ℕ} {x : (⟨2, ![4096, n]⟩ : Shape).Idx → EReal} {X : ℕ → ℕ → ℝ}
    (hx : ∀ (c : Fin 4096) (k : Fin n), x (ix2 c k) = (X c.val k.val : EReal)) {b : ℕ} (hb : b < 4) (c : Fin 1024) (k : Fin n) :
    rows2 x b (ix2 c k) = (X (1024 * b + c.val) k.val : EReal) := by
  have := c.isLt
  refine (hx ⟨(1024 * b + c.val) % 4096, Nat.mod_lt _ (by omega)⟩ k).trans ?_
  show ((X ((1024 * b + c.val) % 4096) k.val : ℝ) : EReal) = _
  rw [Nat.mod_eq_of_lt (show 1024 * b + c.val < 4096 by omega)]

/-- A block of the row statistics reads them. -/
theorem lseRow_real {X : ℕ → ℝ} (hl : ∀ (b : Fin 4) (r : Fin 1024), xl (ix4 0 b 0 r) = (X (1024 * b.val + r.val) : EReal)) {b : ℕ} (hb : b < 4) (r : Fin 1024) :
    lseRow xl b (ix4 0 0 0 r) = (X (1024 * b + r.val) : EReal) := by
  refine (hl ⟨b % 4, Nat.mod_lt _ (by omega)⟩ r).trans ?_
  show ((X (1024 * (b % 4) + r.val) : ℝ) : EReal) = _
  rw [Nat.mod_eq_of_lt hb]

variable (hj : j < 4)
  (hq : ∀ (r : Fin 4096) (i : Fin 256), xq (ix3 0 r i) = (Q r.val i.val : EReal))
  (hk : ∀ (c : Fin 1024) (i : Fin 256), k (ix2 c i) = (K (1024 * j + c.val) i.val : EReal))
  (hv : ∀ (c : Fin 1024) (d : Fin 128), v (ix2 c d) = (V (1024 * j + c.val) d.val : EReal))
  (ho : ∀ (r : Fin 4096) (d : Fin 128), xo (ix2 r d) = (att Q K V r.val d.val : EReal))
  (hd : ∀ (r : Fin 4096) (d : Fin 128), xd (ix2 r d) = (D r.val d.val : EReal))
  (hl : ∀ (b : Fin 4) (r : Fin 1024), xl (ix4 0 b 0 r) = (Real.log (den Q K (1024 * b.val + r.val)) : EReal))
include hj hq hk hv ho hd hl

/-- The derivative of the scores of the diagonal block. -/
theorem dst_diag (c r : Fin 1024) :
    bwdDst k v (rows3 xq 0 j) (rows2 xo j) (rows2 xd j) (lseRow xl j) (ix2 c r) = (ds Q K V D (1024 * j + r.val) (1024 * j + c.val) : EReal) := by
  refine (pay31_real hk hv (fun r i => rows3_real hq hj r i) (fun r d => rows2_real hd hj r d) (fun r d => rows2_real (X := att Q K V) ho hj r d)
    (fun r => lseRow_real (X := fun r => Real.log (den Q K r)) hl hj r) c r).trans (congrArg _ ?_)
  rw [ptm_eq hj]; rfl

/-- The derivative of the scores of a block below the diagonal. -/
theorem dst_below {b : ℕ} (hb : b < 4) (hjb : j < b) (c r : Fin 1024) :
    k1_pay7 k v k1_pay18 (rows3 xq 0 b) (rows2 xd b) (rows2 xo b) (lseRow xl b) (ix2 c r)
      = (ds Q K V D (1024 * b + r.val) (1024 * j + c.val) : EReal) := by
  refine (pay7b_real hk hv (fun r i => rows3_real hq hb r i) (fun r d => rows2_real hd hb r d) (fun r d => rows2_real (X := att Q K V) ho hb r d)
    (fun r => lseRow_real (X := fun r => Real.log (den Q K r)) hl hb r) c r).trans (congrArg _ ?_)
  rw [pt_eq hb (by have := c.isLt; omega)]; rfl

/-- The carried key gradient after the diagonal block and `n` blocks past it. -/
theorem bwdSt_fst : ∀ n, j + n < 4 → ∀ (c : Fin 1024) (i : Fin 256), (bwdSt xq k v xo xd xl j n).1 (ix2 c i)
    = ((∑ r ∈ Finset.range (1024 * (n + 1)), ds Q K V D (1024 * j + r) (1024 * j + c.val) * Q (1024 * j + r) i.val : ℝ) : EReal) := by
  intro n
  induction n with
  | zero =>
    intro _ c i
    have e0 : k1_pay19 (F := Ideal) (ix2 c i) = ((0 : ℝ) : EReal) := Ideal.ofBits_zero_f32
    refine (congrArg₂ (fun x y : EReal => x + y) e0 (dot256_real (dst_diag hj hq hk hv ho hd hl) (qblk_real fun r i => rows3_real hq hj r i) c i) : _ = _).trans ?_
    rw [← EReal.coe_add, zero_add, sum_block (fun r => ds Q K V D (1024 * j + r) (1024 * j + c.val) * Q (1024 * j + r) i.val)]
    simp
  | succ n ih =>
    intro hn c i
    refine (congrArg₂ (fun x y : EReal => x + y) (ih (by omega) c i)
      (dot256_real (dst_below hj hq hk hv ho hd hl (b := j + 1 + n) (by omega) (by omega)) (qblk_real fun r i => rows3_real hq (by omega) r i) c i) : _ = _).trans ?_
    rw [← EReal.coe_add, sum_block (fun r => ds Q K V D (1024 * j + r) (1024 * j + c.val) * Q (1024 * j + r) i.val) (n + 1)]
    refine congrArg _ (congrArg _ (Finset.sum_congr rfl fun r _ => ?_))
    rw [show 1024 * j + (1024 * (n + 1) + r.val) = 1024 * (j + 1 + n) + r.val by ring]

/-- The carried value gradient after the diagonal block and `n` blocks past it. -/
theorem bwdSt_snd : ∀ n, j + n < 4 → ∀ (c : Fin 1024) (d : Fin 128), (bwdSt xq k v xo xd xl j n).2 (ix2 c d)
    = ((∑ r ∈ Finset.range (1024 * (n + 1)), pr Q K (1024 * j + r) (1024 * j + c.val) * D (1024 * j + r) d.val : ℝ) : EReal) := by
  intro n
  induction n with
  | zero =>
    intro _ c d
    have e0 : ∀ (c : Fin 1024) (d : Fin 128), k1_pay20 (F := Ideal) (ix2 c d) = ((0 : ℝ) : EReal) := fun _ _ => Ideal.ofBits_zero_f32
    refine (addDot128_real (x := truncf .bf16 (k1_pay29 k (k1_pay21 (rows3 xq 0 j)) (lseRow xl j)) bitsLt_bf16_f32) (y := k1_pay22 (rows2 xd j)) (a := k1_pay20)
      (fun c r => (pay29_real hk (fun r i => rows3_real hq hj r i) (fun r => lseRow_real (X := fun r => Real.log (den Q K r)) hl hj r) c r).trans (congrArg _ (ptm_eq hj c r)))
      (fun r d => rows2_real hd hj r d) e0 c d : _ = _).trans ?_
    rw [zero_add, sum_block (fun r => pr Q K (1024 * j + r) (1024 * j + c.val) * D (1024 * j + r) d.val)]
    simp
  | succ n ih =>
    intro hn c d
    have hb : j + 1 + n < 4 := by omega
    refine (addDot128_real (x := truncf .bf16 (k1_pay5 k (rows3 xq 0 (j + 1 + n)) (lseRow xl (j + 1 + n))) bitsLt_bf16_f32) (y := k1_pay4 (rows2 xd (j + 1 + n)))
      (fun c r => (pay5b_real hk (fun r i => rows3_real hq hb r i) (fun r => lseRow_real (X := fun r => Real.log (den Q K r)) hl hb r) c r).trans
        (congrArg _ (pt_eq hb (by have := c.isLt; omega))))
      (fun r d => rows2_real hd hb r d) (ih (by omega)) c d : _ = _).trans ?_
    rw [sum_block (fun r => pr Q K (1024 * j + r) (1024 * j + c.val) * D (1024 * j + r) d.val) (n + 1)]
    refine congrArg _ (congrArg _ (Finset.sum_congr rfl fun r _ => ?_))
    rw [show 1024 * j + (1024 * (n + 1) + r.val) = 1024 * (j + 1 + n) + r.val by ring]

/-- The whole key gradient of the block. -/
theorem bwdSt_gradK (c : Fin 1024) (i : Fin 256) : (bwdSt xq k v xo xd xl j (3 - j)).1 (ix2 c i) = (gradK Q K V D (1024 * j + c.val) i.val : EReal) :=
  (bwdSt_fst hj hq hk hv ho hd hl (3 - j) (by omega) c i).trans (congrArg _ (sum_from (f := fun r => ds Q K V D r (1024 * j + c.val) * Q r i.val) hj
    fun r hr => by rw [ds_past Q K V D (by omega), zero_mul]))

/-- The whole value gradient of the block. -/
theorem bwdSt_gradV (c : Fin 1024) (d : Fin 128) : (bwdSt xq k v xo xd xl j (3 - j)).2 (ix2 c d) = (gradV Q K D (1024 * j + c.val) d.val : EReal) :=
  (bwdSt_snd hj hq hk hv ho hd hl (3 - j) (by omega) c d).trans (congrArg _ (sum_from (f := fun r => pr Q K r (1024 * j + c.val) * D r d.val) hj
    fun r hr => by rw [pr_past Q K (by omega), zero_mul]))

/-- The resident query gradient after the diagonal block and `n` blocks past it: every row before the last of them has
gained the block's key columns. -/
theorem bwdDq_real {x : Vec Ideal S1x4096x256 .f32} {X : ℕ → ℕ → ℝ} (hx : ∀ (r : Fin 4096) (i : Fin 256), x (ix3 0 r i) = (X r.val i.val : EReal)) :
    ∀ n, j + n < 4 → ∀ (r : Fin 4096) (i : Fin 256), bwdDq xq k v xo xd xl j x n (ix3 0 r i)
      = ((X r.val i.val + if r.val < 1024 * (j + n + 1) then ∑ c : Fin 1024, ds Q K V D r.val (1024 * j + c.val) * K (1024 * j + c.val) i.val else 0 : ℝ) : EReal) := by
  intro n
  induction n with
  | zero =>
    intro _ r i
    refine (putQ_apply _ _ _ r i).trans ?_
    by_cases h : 1024 * j ≤ r.val ∧ r.val < 1024 * j + 1024
    · rw [dif_pos h]
      refine (addDotT_real (x := bwdDst k v (rows3 xq 0 j) (rows2 xo j) (rows2 xd j) (lseRow xl j)) (y := k) (a := rows3 x 0 j)
        (dst_diag hj hq hk hv ho hd hl) hk (fun r i => rows3_real hx hj r i) ⟨r.val - 1024 * j, by omega⟩ i : _ = _).trans (congrArg _ ?_)
      rw [if_pos (by omega)]
      show X (1024 * j + (r.val - 1024 * j)) i.val + _ = _
      rw [show 1024 * j + (r.val - 1024 * j) = r.val by omega]
    · rw [dif_neg h, hx r i]
      refine congrArg _ ?_
      by_cases h2 : r.val < 1024 * (j + 0 + 1)
      · rw [if_pos h2, Finset.sum_eq_zero fun c _ => by rw [ds_past Q K V D (by omega), zero_mul], add_zero]
      · rw [if_neg h2, add_zero]
  | succ n ih =>
    intro hn r i
    have hb : j + 1 + n < 4 := by omega
    refine (putQ_apply _ _ _ r i).trans ?_
    by_cases h : 1024 * (j + 1 + n) ≤ r.val ∧ r.val < 1024 * (j + 1 + n) + 1024
    · rw [dif_pos h]
      refine (addDotT_real (y := k) (a := rows3 (bwdDq xq k v xo xd xl j x n) 0 (j + 1 + n))
        (dst_below hj hq hk hv ho hd hl hb (by omega)) hk
        (fun r i => rows3_real (X := fun r i => X r i + if r < 1024 * (j + n + 1) then ∑ c : Fin 1024, ds Q K V D r (1024 * j + c.val) * K (1024 * j + c.val) i else 0)
          (ih (by omega)) hb r i) ⟨r.val - 1024 * (j + 1 + n), by omega⟩ i : _ = _).trans (congrArg _ ?_)
      show X (1024 * (j + 1 + n) + (r.val - 1024 * (j + 1 + n))) i.val + _ + _ = _
      rw [show 1024 * (j + 1 + n) + (r.val - 1024 * (j + 1 + n)) = r.val by omega, if_neg (by omega), if_pos (by omega), add_zero]
    · rw [dif_neg h, ih (by omega) r i]
      refine congrArg (fun y : ℝ => ((X r.val i.val + y : ℝ) : EReal)) ?_
      by_cases h2 : r.val < 1024 * (j + n + 1)
      · rw [if_pos h2, if_pos (by omega)]
      · rw [if_neg h2, if_neg (by omega)]

/-- The resident query gradient after a whole point: every row has gained the block's key columns. -/
theorem bwdDq_whole {x : Vec Ideal S1x4096x256 .f32} {X : ℕ → ℕ → ℝ} (hx : ∀ (r : Fin 4096) (i : Fin 256), x (ix3 0 r i) = (X r.val i.val : EReal))
    (r : Fin 4096) (i : Fin 256) : bwdDq xq k v xo xd xl j x (3 - j) (ix3 0 r i)
      = ((X r.val i.val + ∑ c : Fin 1024, ds Q K V D r.val (1024 * j + c.val) * K (1024 * j + c.val) i.val : ℝ) : EReal) := by
  refine (bwdDq_real hj hq hk hv ho hd hl hx (3 - j) (by omega) r i).trans ?_
  rw [if_pos (by have := r.isLt; omega)]

end

end Cert.KernelIdeal.Hand

end
-- ==== Proof.Arrays1.lean ====
/- The backward call's three result arrays as real numbers: the gradients of the queries, the keys and the values, when the
   arrays the call is entered with hold real numbers and the saved arrays hold what the forward call leaves. -/
module

public import proofs.«01_k».proof.Proof.Halves
public import proofs.«01_k».proof.Proof.BwdVal
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Idealize.ShloMosaic.ValueIdx

variable (V : (c : Dev nD) → (b : Ref sig .tc) → Buf (Elt Ideal) ((c : Thread nD τ).loc b))

/-- The head and the key block of a point. -/
theorem coords1 : ∀ t : Fin cfg1.N, (grid1.coords t 0).val = t.val / 4 ∧ (grid1.coords t 1).val = t.val % 4 :=
  (by decide +kernel : ∀ t : Fin grid1.N, (grid1.coords t 0).val = t.val / 4 ∧ (grid1.coords t 1).val = t.val % 4)

/-- The number of points. -/
theorem points1 (t : Fin cfg1.N) : t.val < 32 := t.isLt

/-- The query window's block index at a point. -/
theorem index1_0 : ∀ t : Fin cfg1.N, win1_0.index t = ![t.val / 4, 0, 0] :=
  (by decide +kernel : ∀ t : Fin grid1.N, win1_0.index t = ![t.val / 4, 0, 0])

/-- The key window's block index at a point. -/
theorem index1_1 : ∀ t : Fin cfg1.N, win1_1.index t = ![t.val / 4, t.val % 4, 0] :=
  (by decide +kernel : ∀ t : Fin grid1.N, win1_1.index t = ![t.val / 4, t.val % 4, 0])

/-- The value window's block index at a point. -/
theorem index1_2 : ∀ t : Fin cfg1.N, win1_2.index t = ![t.val / 4, t.val % 4, 0] :=
  (by decide +kernel : ∀ t : Fin grid1.N, win1_2.index t = ![t.val / 4, t.val % 4, 0])

/-- The saved output window's block index at a point. -/
theorem index1_3 : ∀ t : Fin cfg1.N, win1_3.index t = ![0, t.val / 4] :=
  (by decide +kernel : ∀ t : Fin grid1.N, win1_3.index t = ![0, t.val / 4])

/-- The incoming gradient window's block index at a point. -/
theorem index1_4 : ∀ t : Fin cfg1.N, win1_4.index t = ![0, t.val / 4] :=
  (by decide +kernel : ∀ t : Fin grid1.N, win1_4.index t = ![0, t.val / 4])

/-- The row statistics window's block index at a point. -/
theorem index1_5 : ∀ t : Fin cfg1.N, win1_5.index t = ![t.val / 4, 0, 0, 0] :=
  (by decide +kernel : ∀ t : Fin grid1.N, win1_5.index t = ![t.val / 4, 0, 0, 0])

/-- The query gradient window's block index at a point. -/
theorem index1_6 : ∀ t : Fin cfg1.N, win1_6.index t = ![t.val / 4, 0, 0] :=
  (by decide +kernel : ∀ t : Fin grid1.N, win1_6.index t = ![t.val / 4, 0, 0])

/-- The key gradient window's block index at a point. -/
theorem index1_7 : ∀ t : Fin cfg1.N, win1_7.index t = ![t.val / 4, t.val % 4, 0] :=
  (by decide +kernel : ∀ t : Fin grid1.N, win1_7.index t = ![t.val / 4, t.val % 4, 0])

/-- The value gradient window's block index at a point. -/
theorem index1_8 : ∀ t : Fin cfg1.N, win1_8.index t = ![t.val / 4, t.val % 4, 0] :=
  (by decide +kernel : ∀ t : Fin grid1.N, win1_8.index t = ![t.val / 4, t.val % 4, 0])

/-- The query block at a point: all rows of the point's head. -/
theorem iblk1_0_apply (c : Dev nD) (t : Fin cfg1.N) (r : Fin 4096) (k : Fin 256) :
    iblk1 V c 0 t (ix3 0 r k) = V c main_v0 (ix3 ⟨t.val / 4, by have := points1 t; omega⟩ r k) := by
  unfold iblk1
  refine congrArg (V c main_v0) (?_ : ((cfg1.win 0).blk t).view.emb (ix3 0 r k) = _)
  blk_ext [index1_0]

/-- The key block at a point: the rows of the point's key block. -/
theorem iblk1_1_apply (c : Dev nD) (t : Fin cfg1.N) (r : Fin 1024) (k : Fin 256) :
    iblk1 V c 1 t (ix3 0 r k) = V c main_v1 (ix3 ⟨t.val / 4, by have := points1 t; omega⟩ ⟨1024 * (t.val % 4) + r.val, by omega⟩ k) := by
  unfold iblk1
  refine congrArg (V c main_v1) (?_ : ((cfg1.win 1).blk t).view.emb (ix3 0 r k) = _)
  blk_ext [index1_1]
  try (show t.val % 4 * 1024 + r.val = _; omega)

/-- The value block at a point: the rows of the point's key block. -/
theorem iblk1_2_apply (c : Dev nD) (t : Fin cfg1.N) (r : Fin 1024) (k : Fin 128) :
    iblk1 V c 2 t (ix3 0 r k) = V c main_v2 (ix3 ⟨t.val / 4, by have := points1 t; omega⟩ ⟨1024 * (t.val % 4) + r.val, by omega⟩ k) := by
  unfold iblk1
  refine congrArg (V c main_v2) (?_ : ((cfg1.win 2).blk t).view.emb (ix3 0 r k) = _)
  blk_ext [index1_2]
  show t.val % 4 * 1024 + r.val = _
  omega

/-- The saved output block at a point: the columns of the point's head. -/
theorem iblk1_3_apply (c : Dev nD) (t : Fin cfg1.N) (r : Fin 4096) (d : Fin 128) :
    iblk1 V c 3 t (ix2 r d) = V c main_v3_0 (ix2 r ⟨128 * (t.val / 4) + d.val, by have := points1 t; omega⟩) := by
  unfold iblk1
  refine congrArg (V c main_v3_0) (?_ : ((cfg1.win 3).blk t).view.emb (ix2 r d) = _)
  blk_ext [index1_3]
  show t.val / 4 * 128 + d.val = _
  omega

/-- The incoming gradient block at a point: the columns of the point's head. -/
theorem iblk1_4_apply (c : Dev nD) (t : Fin cfg1.N) (r : Fin 4096) (d : Fin 128) :
    iblk1 V c 4 t (ix2 r d) = V c main_arg3 (ix2 r ⟨128 * (t.val / 4) + d.val, by have := points1 t; omega⟩) := by
  unfold iblk1
  refine congrArg (V c main_arg3) (?_ : ((cfg1.win 4).blk t).view.emb (ix2 r d) = _)
  blk_ext [index1_4]
  show t.val / 4 * 128 + d.val = _
  omega

/-- The row statistics block at a point: those of the point's head. -/
theorem iblk1_5_apply (c : Dev nD) (t : Fin cfg1.N) (b : Fin 4) (r : Fin 1024) :
    iblk1 V c 5 t (ix4 0 b 0 r) = V c main_v3_1 (ix4 ⟨t.val / 4, by have := points1 t; omega⟩ b 0 r) := by
  unfold iblk1
  refine congrArg (V c main_v3_1) (?_ : ((cfg1.win 5).blk t).view.emb (ix4 0 b 0 r) = _)
  blk_ext [index1_5]

/-- What the backward call's argument arrays hold: the queries, keys, values and incoming gradient are real, head by head, and
the saved arrays are the attention output and the row statistics of the same queries, keys and values. -/
structure Entry (c : Dev nD) (Q K U D : ℕ → ℕ → ℕ → ℝ) : Prop where
  q : ∀ (h : Fin 8) (r : Fin 4096) (k : Fin 256), V c main_v0 (ix3 h r k) = (↑(Q h.val r.val k.val) : EReal)
  k : ∀ (h : Fin 8) (r : Fin 4096) (k : Fin 256), V c main_v1 (ix3 h r k) = (↑(K h.val r.val k.val) : EReal)
  v : ∀ (h : Fin 8) (r : Fin 4096) (k : Fin 128), V c main_v2 (ix3 h r k) = (↑(U h.val r.val k.val) : EReal)
  o : ∀ (r : Fin 4096) (x : Fin 1024), V c main_v3_0 (ix2 r x) = (↑(att (Q (x.val / 128)) (K (x.val / 128)) (U (x.val / 128)) r.val (x.val % 128)) : EReal)
  d : ∀ (r : Fin 4096) (x : Fin 1024), V c main_arg3 (ix2 r x) = (↑(D (x.val / 128) r.val (x.val % 128)) : EReal)
  l : ∀ (h : Fin 8) (b : Fin 4) (r : Fin 1024), V c main_v3_1 (ix4 h b 0 r) = (↑(Real.log (den (Q h.val) (K h.val) (1024 * b.val + r.val))) : EReal)

variable {V} {c : Dev nD} {Q K U D : ℕ → ℕ → ℕ → ℝ}

namespace Entry

/-- The query block, real. -/
theorem bq (e : Entry V c Q K U D) (t : Fin cfg1.N) (r : Fin 4096) (k : Fin 256) :
    iblk1 V c 0 t (ix3 0 r k) = (↑(Q (t.val / 4) r.val k.val) : EReal) := (iblk1_0_apply V c t r k).trans (e.q _ _ _)

/-- The key block, real. -/
theorem bk (e : Entry V c Q K U D) (t : Fin cfg1.N) (r : Fin 1024) (k : Fin 256) :
    k1_pay16 (iblk1 V c 1 t) (ix2 r k) = (↑(K (t.val / 4) (1024 * (t.val % 4) + r.val) k.val) : EReal) := by
  unfold k1_pay16
  exact (shapeCast_1ab_ab_apply _ _ r k).trans ((iblk1_1_apply V c t r k).trans (e.k _ _ _))

/-- The value block, real. -/
theorem bv (e : Entry V c Q K U D) (t : Fin cfg1.N) (r : Fin 1024) (k : Fin 128) :
    k1_pay17 (iblk1 V c 2 t) (ix2 r k) = (↑(U (t.val / 4) (1024 * (t.val % 4) + r.val) k.val) : EReal) := by
  unfold k1_pay17
  exact (shapeCast_1ab_ab_apply _ _ r k).trans ((iblk1_2_apply V c t r k).trans (e.v _ _ _))

/-- The saved output block, real. -/
theorem bo (e : Entry V c Q K U D) (t : Fin cfg1.N) (r : Fin 4096) (d : Fin 128) :
    iblk1 V c 3 t (ix2 r d) = (↑(att (Q (t.val / 4)) (K (t.val / 4)) (U (t.val / 4)) r.val d.val) : EReal) := by
  refine ((iblk1_3_apply V c t r d).trans (e.o _ _)).trans ?_
  have h1 : (128 * (t.val / 4) + d.val) / 128 = t.val / 4 := by omega
  have h2 : (128 * (t.val / 4) + d.val) % 128 = d.val := by omega
  dsimp only
  rw [h1, h2]

/-- The incoming gradient block, real. -/
theorem bd (e : Entry V c Q K U D) (t : Fin cfg1.N) (r : Fin 4096) (d : Fin 128) :
    iblk1 V c 4 t (ix2 r d) = (↑(D (t.val / 4) r.val d.val) : EReal) := by
  refine ((iblk1_4_apply V c t r d).trans (e.d _ _)).trans ?_
  have h1 : (128 * (t.val / 4) + d.val) / 128 = t.val / 4 := by omega
  have h2 : (128 * (t.val / 4) + d.val) % 128 = d.val := by omega
  dsimp only
  rw [h1, h2]

/-- The row statistics block, real. -/
theorem bl (e : Entry V c Q K U D) (t : Fin cfg1.N) (b : Fin 4) (r : Fin 1024) :
    iblk1 V c 5 t (ix4 0 b 0 r) = (↑(Real.log (den (Q (t.val / 4)) (K (t.val / 4)) (1024 * b.val + r.val))) : EReal) :=
  (iblk1_5_apply V c t b r).trans (e.l _ _ _)

/-- The key gradient of a point's block. -/
theorem gradK_point (e : Entry V c Q K U D) (t : Fin cfg1.N) (r : Fin 1024) (k : Fin 256) :
    (bwdAt V c t).1 (ix2 r k) = (↑(gradK (Q (t.val / 4)) (K (t.val / 4)) (U (t.val / 4)) (D (t.val / 4)) (1024 * (t.val % 4) + r.val) k.val) : EReal) := by
  unfold bwdAt
  rw [(coords1 t).2]
  exact bwdSt_gradK (Nat.mod_lt _ (by omega)) (e.bq t) (e.bk t) (e.bv t) (e.bo t) (e.bd t) (e.bl t) r k

/-- The value gradient of a point's block. -/
theorem gradV_point (e : Entry V c Q K U D) (t : Fin cfg1.N) (r : Fin 1024) (k : Fin 128) :
    (bwdAt V c t).2 (ix2 r k) = (↑(gradV (Q (t.val / 4)) (K (t.val / 4)) (D (t.val / 4)) (1024 * (t.val % 4) + r.val) k.val) : EReal) := by
  unfold bwdAt
  rw [(coords1 t).2]
  exact bwdSt_gradV (Nat.mod_lt _ (by omega)) (e.bq t) (e.bk t) (e.bv t) (e.bo t) (e.bd t) (e.bl t) r k

/-- One point's step of the resident query gradient. -/
theorem dqStep_real (e : Entry V c Q K U D) (t : Fin cfg1.N) {x : Vec Ideal S1x4096x256 .f32} {X : ℕ → ℕ → ℝ}
    (hx : ∀ (r : Fin 4096) (i : Fin 256), x (ix3 0 r i) = (X r.val i.val : EReal)) (r : Fin 4096) (i : Fin 256) :
    dqStep V c t x (ix3 0 r i) = (↑(X r.val i.val + ∑ k : Fin 1024, ds (Q (t.val / 4)) (K (t.val / 4)) (U (t.val / 4)) (D (t.val / 4)) r.val (1024 * (t.val % 4) + k.val)
      * K (t.val / 4) (1024 * (t.val % 4) + k.val) i.val) : EReal) := by
  unfold dqStep
  rw [(coords1 t).2]
  exact bwdDq_whole (Nat.mod_lt _ (by omega)) (e.bq t) (e.bk t) (e.bv t) (e.bo t) (e.bd t) (e.bl t) hx r i

/-- The resident query gradient after point `n`: the sum over the key blocks walked so far. -/
theorem dqAt_real (e : Entry V c Q K U D) : ∀ (n : ℕ) (hn : n < cfg1.N) (r : Fin 4096) (i : Fin 256), dqAt V c n hn (ix3 0 r i)
    = (↑(∑ k ∈ Finset.range (1024 * (n % 4 + 1)), ds (Q (n / 4)) (K (n / 4)) (U (n / 4)) (D (n / 4)) r.val k * K (n / 4) k i.val) : EReal) := by
  intro n
  induction n with
  | zero =>
    intro hn r i
    refine (congrFun (dqAt_first V c ⟨0, hn⟩ rfl) (ix3 0 r i)).trans ((e.dqStep_real ⟨0, hn⟩ (X := fun _ _ => 0) (fun r i => Ideal.ofBits_zero_f32) r i).trans ?_)
    rw [zero_add, Finset.sum_range]
    simp
  | succ n ih =>
    intro hn r i
    by_cases h0 : (n + 1) % 4 = 0
    · refine (congrFun (dqAt_first V c ⟨n + 1, hn⟩ h0) (ix3 0 r i)).trans ((e.dqStep_real ⟨n + 1, hn⟩ (X := fun _ _ => 0) (fun r i => Ideal.ofBits_zero_f32) r i).trans ?_)
      dsimp only
      rw [zero_add, h0, show 1024 * (0 + 1) = 1024 from rfl, Finset.sum_range]
      simp
    · have ih' := ih (Nat.lt_of_succ_lt hn)
      refine (congrFun (dqAt_next V c ⟨n + 1, hn⟩ h0) (ix3 0 r i)).trans ((e.dqStep_real ⟨n + 1, hn⟩
        (X := fun r i => ∑ k ∈ Finset.range (1024 * (n % 4 + 1)), ds (Q (n / 4)) (K (n / 4)) (U (n / 4)) (D (n / 4)) r k * K (n / 4) k i) ih' r i).trans ?_)
      dsimp only
      have h1 : n / 4 = (n + 1) / 4 := by omega
      have h2 : (n + 1) % 4 = n % 4 + 1 := by omega
      rw [h1, h2, show 1024 * (n % 4 + 1 + 1) = 1024 * (n % 4 + 1) + 1024 by ring, Finset.sum_range_add, Finset.sum_range (n := 1024)]

/-- One element of the resident query gradient at the last point of a head. -/
theorem dq_point (e : Entry V c Q K U D) (t : Fin cfg1.N) (ht : t.val % 4 = 3) (y : S1x4096x256.Idx) (n r i : ℕ)
    (hn : n = t.val / 4) (hr : r = (y 1).val) (hi : i = (y 2).val) :
    dqAt V c t.val t.isLt y = (↑(gradQ (Q n) (K n) (U n) (D n) r i) : EReal) := by
  subst hn hr hi
  have hy : y = ix3 0 (y 1) (y 2) := (eq_ix3 _).trans (congrArg (fun a => ix3 a (y 1) (y 2)) (Fin.eq_zero (y 0 : Fin 1)))
  refine (congrArg _ hy).trans ((e.dqAt_real t.val t.isLt (y 1) (y 2)).trans ?_)
  rw [ht]
  rfl

/-- The query gradient array. -/
theorem dq_arr (e : Entry V c Q K U D) : (dat1 V c).arrAt 6 cfg1.N = fun i : S8x4096x256.Idx =>
    (↑(gradQ (Q (i 0).val) (K (i 0).val) (U (i 0).val) (D (i 0).val) (i 1).val (i 2).val) : EReal) := by
  refine (dat1 V c).arrAt_eq_of_covers 6 _ (by decide +kernel) fun t hf y => ?_
  blk_simp
  rw [after1_6]
  have h0 : (y 0).val < 1 := (y 0).isLt
  refine e.dq_point t ((flush1_6 t).mp hf) y _ _ _ ?_ ?_ ?_
  · blk_simp [index1_6]; try omega
  · blk_simp [index1_6]; try omega
  · blk_simp [index1_6]; try omega

/-- One element of a point's key gradient block. -/
theorem dk_point (e : Entry V c Q K U D) (t : Fin cfg1.N) (y : S1x1024x256.Idx) (n r i : ℕ)
    (hn : n = t.val / 4) (hr : r = 1024 * (t.val % 4) + (y 1).val) (hi : i = (y 2).val) :
    k1_pay1 (bwdAt V c t).1 y = (↑(gradK (Q n) (K n) (U n) (D n) r i) : EReal) := by
  subst hn hr hi
  have hy : y = ix3 0 (y 1) (y 2) := (eq_ix3 _).trans (congrArg (fun a => ix3 a (y 1) (y 2)) (Fin.eq_zero (y 0 : Fin 1)))
  unfold k1_pay1
  exact (congrArg _ hy).trans ((shapeCast_ab_1ab_apply _ _ 0 (y 1) (y 2)).trans (e.gradK_point t (y 1) (y 2)))

/-- The key gradient array. -/
theorem dk_arr (e : Entry V c Q K U D) : (dat1 V c).arrAt 7 cfg1.N = fun i : S8x4096x256.Idx =>
    (↑(gradK (Q (i 0).val) (K (i 0).val) (U (i 0).val) (D (i 0).val) (i 1).val (i 2).val) : EReal) := by
  refine (dat1 V c).arrAt_eq_of_covers 7 _ (by decide +kernel) fun t hf y => ?_
  blk_simp
  rw [after1_7]
  have h0 : (y 0).val < 1 := (y 0).isLt
  refine e.dk_point t y _ _ _ ?_ ?_ ?_
  · blk_simp [index1_7]; try omega
  · blk_simp [index1_7]; try omega
  · blk_simp [index1_7]; try omega

/-- One element of a point's value gradient block. -/
theorem dv_point (e : Entry V c Q K U D) (t : Fin cfg1.N) (y : S1x1024x128.Idx) (n r i : ℕ)
    (hn : n = t.val / 4) (hr : r = 1024 * (t.val % 4) + (y 1).val) (hi : i = (y 2).val) :
    k1_pay2 (bwdAt V c t).2 y = (↑(gradV (Q n) (K n) (D n) r i) : EReal) := by
  subst hn hr hi
  have hy : y = ix3 0 (y 1) (y 2) := (eq_ix3 _).trans (congrArg (fun a => ix3 a (y 1) (y 2)) (Fin.eq_zero (y 0 : Fin 1)))
  unfold k1_pay2
  exact (congrArg _ hy).trans ((shapeCast_ab_1ab_apply _ _ 0 (y 1) (y 2)).trans (e.gradV_point t (y 1) (y 2)))

/-- The value gradient array. -/
theorem dv_arr (e : Entry V c Q K U D) : (dat1 V c).arrAt 8 cfg1.N = fun i : S8x4096x128.Idx =>
    (↑(gradV (Q (i 0).val) (K (i 0).val) (D (i 0).val) (i 1).val (i 2).val) : EReal) := by
  refine (dat1 V c).arrAt_eq_of_covers 8 _ (by decide +kernel) fun t hf y => ?_
  blk_simp
  rw [after1_8]
  have h0 : (y 0).val < 1 := (y 0).isLt
  refine e.dv_point t y _ _ _ ?_ ?_ ?_
  · blk_simp [index1_8]; try omega
  · blk_simp [index1_8]; try omega
  · blk_simp [index1_8]; try omega

end Entry

end Cert.KernelIdeal.Hand

end
-- ==== Proof.Ref.lean ====
/- The reference's four results as real numbers: the masked softmax attention and the three gradients of its backward pass,
   when the arguments hold real numbers. The row maximum the softmax is shifted by is some real number, which cancels. -/
module

public import proofs.«01_k».proof.Proof.Gen.ReferenceIdeal.Read
public import proofs.«01_k».proof.Proof.BwdVal
public import Idealize.ShloMosaic.Lib.IdealHost
public import Idealize.ShloMosaic.Lib.WordCmp
public import Idealize.ShloMosaic.Lib.KernelVsHost

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.KernelIdeal.Hand (sc ex den num att pr ds gradK gradV gradQ den_pos ex_past ds_past exists_real coe_sum coe_dot exp_sub_real fold_max_real ofBits_bot)
open scoped BigOperators

variable {x0 x1 : (⟨S8x4096x256, .f32⟩ : BufTy).Contents (Elt Ideal)} {x2 : (⟨S8x4096x128, .f32⟩ : BufTy).Contents (Elt Ideal)}
  {x3 : (⟨S4096x1024, .f32⟩ : BufTy).Contents (Elt Ideal)} {Q K U D : ℕ → ℕ → ℕ → ℝ} {R : ℕ → ℕ → ℝ}

/-- The causal mask: the column is at most the row. -/
theorem mask_apply (i : S8x4096x4096.Idx) : val_main_v7_1 (F := Ideal) i = if (i 2).val ≤ (i 1).val then 1#1 else 0#1 := by
  rw [val_main_v7_1_apply, val_main_v6_apply, val_main_v4_apply, val_main_v5_apply, val_main_v2_apply, val_main_v3_apply, val_main_v1_apply, val_main_v1_apply]
  have h1 : (i 1).val < 4096 := (i 1).isLt
  have h2 : (i 2).val < 4096 := (i 2).isLt
  show IntOp.cmpi .sle (BitVec.ofNat 32 (i 2).val) (BitVec.ofNat 32 (i 1).val) = _
  rw [WordCmp.cmpi_sle_ofNat (by omega) (by omega)]
  by_cases h : (i 2).val ≤ (i 1).val <;> simp [h]

/-- The scores. -/
theorem score_real (hq : ∀ i, x0 i = (↑(Q (i 0).val (i 1).val (i 2).val) : EReal)) (hk : ∀ i, x1 i = (↑(K (i 0).val (i 1).val (i 2).val) : EReal))
    (i : S8x4096x4096.Idx) : val_main_v0 (F := Ideal) x0 x1 i = (↑(sc (Q (i 0).val) (K (i 0).val) (i 1).val (i 2).val) : EReal) := by
  rw [val_main_v0_apply]
  exact coe_dot _ (fun k _ => hq _) (fun k _ => hk _)

/-- The masked scores. -/
theorem masked_real (hq : ∀ i, x0 i = (↑(Q (i 0).val (i 1).val (i 2).val) : EReal)) (hk : ∀ i, x1 i = (↑(K (i 0).val (i 1).val (i 2).val) : EReal))
    (i : S8x4096x4096.Idx) : val_main_v7_0 (F := Ideal) x0 x1 i
      = if (i 2).val ≤ (i 1).val then (↑(sc (Q (i 0).val) (K (i 0).val) (i 1).val (i 2).val) : EReal) else ⊥ := by
  rw [val_main_v7_0_apply, mask_apply, score_real hq hk, val_main_call0_v2_apply]
  by_cases h : (i 2).val ≤ (i 1).val
  · rw [if_pos h, if_pos h]; rfl
  · rw [if_neg h, if_neg h]; exact ofBits_bot

/-- The shape fact of a reduction along the last axis. -/
theorem reduces_last : (⟨3, ![8, 4096, 4096]⟩ : Shape).Reduces [2] ⟨2, ![8, 4096]⟩ := by decide

/-- The row maximum is a real number: the diagonal's score is one of the row's. -/
theorem rowMax_real (hq : ∀ i, x0 i = (↑(Q (i 0).val (i 1).val (i 2).val) : EReal)) (hk : ∀ i, x1 i = (↑(K (i 0).val (i 1).val (i 2).val) : EReal))
    (i : S8x4096.Idx) : ∃ ρ : ℝ, val_main_v8 (F := Ideal) x0 x1 i = (ρ : EReal) := by
  have e : val_main_v8 (F := Ideal) x0 x1 i = (Finset.univ : Finset (Fin 4096)).fold max ⊥ (fun c => val_main_v7_0 (F := Ideal) x0 x1 (reduces_last.lift i c)) := by
    have e1 := hostReduce_maximumf_eq_multiReduction (F := Ideal) (φ := .f32) (val_main_v7_0 (F := Ideal) x0 x1) 0xFF800000#32 reducesTo_S8x4096x4096_S8x4096_d2 h_S_ reduces_last (.inl rfl) rfl
    have e2 := Ideal.multiReduction_maximumf_single (φ := .f32) (val_main_v7_0 (F := Ideal) x0 x1) 0xFF800000#32 reduces_last (.inl rfl) rfl i
    rw [show FloatOps.ofBits (F := Ideal) .f32 0xFF800000#32 = (⊥ : EReal) from ofBits_bot] at e2
    unfold val_main_v8
    exact (congrFun e1 i).trans e2
  obtain ⟨ρ, hρ⟩ := fold_max_real (f := fun c : Fin 4096 => val_main_v7_0 (F := Ideal) x0 x1 (reduces_last.lift i c))
    (fun c => by
      rw [masked_real hq hk]
      split
      · exact EReal.coe_ne_top _
      · exact bot_ne_top)
    (i 1) ((masked_real hq hk _).trans_ne ((if_pos (show (i 1).val ≤ (i 1).val from le_rfl)).trans_ne (EReal.coe_ne_bot _))) (m := ⊥) bot_ne_top
  exact ⟨ρ, e.trans ((max_eq_right bot_le).symm.trans hρ)⟩

/-- The row maxima, as one real function of head and row. -/
theorem exists_shift (hq : ∀ i, x0 i = (↑(Q (i 0).val (i 1).val (i 2).val) : EReal)) (hk : ∀ i, x1 i = (↑(K (i 0).val (i 1).val (i 2).val) : EReal)) :
    ∃ R : ℕ → ℕ → ℝ, ∀ i : S8x4096.Idx, val_main_v8 (F := Ideal) x0 x1 i = (↑(R (i 0).val (i 1).val) : EReal) := by
  choose f hf using rowMax_real hq hk
  refine ⟨fun h r => f (ValueIdx.ix2 ⟨h % 8, Nat.mod_lt _ (by omega)⟩ ⟨r % 4096, Nat.mod_lt _ (by omega)⟩), fun i => (hf i).trans (congrArg (fun j => (↑(f j) : EReal)) ?_)⟩
  refine (ValueIdx.eq_ix2 i).trans (congrArg₂ ValueIdx.ix2 (Fin.ext ?_) (Fin.ext ?_))
  · exact (Nat.mod_eq_of_lt (i 0).isLt).symm
  · exact (Nat.mod_eq_of_lt (i 1).isLt).symm

/-! ## From the shifted exponentials on -/

/-- The shifted exponentials. -/
theorem exp_real (hq : ∀ i, x0 i = (↑(Q (i 0).val (i 1).val (i 2).val) : EReal)) (hk : ∀ i, x1 i = (↑(K (i 0).val (i 1).val (i 2).val) : EReal))
    (hR : ∀ i : S8x4096.Idx, val_main_v8 (F := Ideal) x0 x1 i = (↑(R (i 0).val (i 1).val) : EReal)) (i : S8x4096x4096.Idx) :
    val_main_v28 (F := Ideal) x0 x1 i = (↑(ex (Q (i 0).val) (K (i 0).val) (i 1).val (i 2).val * Real.exp (-R (i 0).val (i 1).val)) : EReal) := by
  have hs : val_main_v26 (F := Ideal) x0 x1 i = (↑(R (i 0).val (i 1).val) : EReal) := by
    rw [val_main_v26_apply, val_main_v25_apply, val_main_v15_apply, val_main_v14_apply, hR]
    exact (congrArg (fun b : EReal => max b (↑(R (i 0).val (i 1).val) : EReal)) ofBits_bot).trans (max_eq_right bot_le)
  rw [val_main_v28_apply, val_main_v27_apply, hs]
  refine exp_sub_real ?_ ?_ _
  · rw [masked_real hq hk]
    split
    · exact EReal.coe_ne_top _
    · exact bot_ne_top
  · rw [masked_real hq hk]
    unfold ex
    by_cases h : (i 2).val ≤ (i 1).val
    · rw [if_pos h, if_pos h]; exact Ideal.exp_coe _
    · rw [if_neg h, if_neg h]; rfl

/-- The row sums of the shifted exponentials. -/
theorem sum_real (hq : ∀ i, x0 i = (↑(Q (i 0).val (i 1).val (i 2).val) : EReal)) (hk : ∀ i, x1 i = (↑(K (i 0).val (i 1).val (i 2).val) : EReal))
    (hR : ∀ i : S8x4096.Idx, val_main_v8 (F := Ideal) x0 x1 i = (↑(R (i 0).val (i 1).val) : EReal)) (i : S8x4096.Idx) :
    val_main_v29 (F := Ideal) x0 x1 i = (↑(den (Q (i 0).val) (K (i 0).val) (i 1).val * Real.exp (-R (i 0).val (i 1).val)) : EReal) := by
  rw [val_main_v29_apply]
  refine (congrArg₂ (fun x y : EReal => x + y) Ideal.ofBits_zero_f32 ((Finset.sum_congr rfl fun k _ => exp_real hq hk hR _).trans (coe_sum _ _)) : _ = _).trans ?_
  rw [zero_add]
  refine congrArg _ ?_
  unfold den
  rw [Finset.sum_range, Finset.sum_mul]

/-- The softmax. -/
theorem softmax_real (hq : ∀ i, x0 i = (↑(Q (i 0).val (i 1).val (i 2).val) : EReal)) (hk : ∀ i, x1 i = (↑(K (i 0).val (i 1).val (i 2).val) : EReal))
    (hR : ∀ i : S8x4096.Idx, val_main_v8 (F := Ideal) x0 x1 i = (↑(R (i 0).val (i 1).val) : EReal)) (i : S8x4096x4096.Idx) :
    val_main_v32 (F := Ideal) x0 x1 i = (↑(pr (Q (i 0).val) (K (i 0).val) (i 1).val (i 2).val) : EReal) := by
  have hw := (Real.exp_pos (-R (i 0).val (i 1).val)).ne'
  have hd := (den_pos (Q (i 0).val) (K (i 0).val) (show (i 1).val < 4096 from (i 1).isLt)).ne'
  rw [val_main_v32_apply, val_main_v31_apply, val_main_v30_apply, exp_real hq hk hR, sum_real hq hk hR]
  refine (Ideal.div_coe (mul_ne_zero hd hw) _).trans ?_
  rw [← EReal.coe_mul]
  refine congrArg _ ?_
  unfold pr
  field_simp

/-- The first result: the attention's output. -/
theorem out_real (hq : ∀ i, x0 i = (↑(Q (i 0).val (i 1).val (i 2).val) : EReal)) (hk : ∀ i, x1 i = (↑(K (i 0).val (i 1).val (i 2).val) : EReal))
    (hv : ∀ i, x2 i = (↑(U (i 0).val (i 1).val (i 2).val) : EReal)) (i : S4096x1024.Idx) : val_main_v38 (F := Ideal) x0 x1 x2 i
      = (↑(att (Q ((i 1).val / 128)) (K ((i 1).val / 128)) (U ((i 1).val / 128)) (i 0).val ((i 1).val % 128)) : EReal) := by
  obtain ⟨R, hR⟩ := exists_shift hq hk
  rw [val_main_v38_apply, val_main_v37_apply, val_main_v36_apply]
  refine (coe_dot _ (fun k _ => hv _) (fun k _ => softmax_real hq hk hR _)).trans (congrArg _ ?_)
  have h0 : (i 0).val < 4096 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  show (∑ k : Fin 4096, U (((i 0).val * 1024 + (i 1).val) / 128 % 8) k.val (((i 0).val * 1024 + (i 1).val) % 128)
    * pr (Q (((i 0).val * 1024 + (i 1).val) / 128 % 8)) (K (((i 0).val * 1024 + (i 1).val) / 128 % 8)) (((i 0).val * 1024 + (i 1).val) / 1024) k.val) = _
  rw [e0, e1, e2]
  unfold att num pr
  rw [Finset.sum_range, Finset.sum_div]
  exact Finset.sum_congr rfl fun k _ => by ring

/-- The incoming gradient by head, column and row. -/
theorem cot_real (hd : ∀ i : S4096x1024.Idx, x3 i = (↑(D ((i 1).val / 128) (i 0).val ((i 1).val % 128)) : EReal)) (i : S8x128x4096.Idx) :
    val_main_v40 (F := Ideal) x3 i = (↑(D (i 0).val (i 2).val (i 1).val) : EReal) := by
  rw [val_main_v40_apply, val_main_v39_apply, hd]
  have h0 : (i 0).val < 8 := (i 0).isLt
  have h1 : (i 1).val < 128 := (i 1).isLt
  have h2 : (i 2).val < 4096 := (i 2).isLt
  show (↑(D ((((i 2).val * 8 + (i 0).val) * 128 + (i 1).val) % 1024 / 128) ((((i 2).val * 8 + (i 0).val) * 128 + (i 1).val) / 1024)
    ((((i 2).val * 8 + (i 0).val) * 128 + (i 1).val) % 1024 % 128)) : EReal) = _
  have e0 : (((i 2).val * 8 + (i 0).val) * 128 + (i 1).val) % 1024 / 128 = (i 0).val := by omega
  have e1 : (((i 2).val * 8 + (i 0).val) * 128 + (i 1).val) / 1024 = (i 2).val := by omega
  have e2 : (((i 2).val * 8 + (i 0).val) * 128 + (i 1).val) % 1024 % 128 = (i 1).val := by omega
  rw [e0, e1, e2]

/-- The fourth result: the gradient of the values. -/
theorem dv_real (hq : ∀ i, x0 i = (↑(Q (i 0).val (i 1).val (i 2).val) : EReal)) (hk : ∀ i, x1 i = (↑(K (i 0).val (i 1).val (i 2).val) : EReal))
    (hd : ∀ i : S4096x1024.Idx, x3 i = (↑(D ((i 1).val / 128) (i 0).val ((i 1).val % 128)) : EReal)) (i : S8x4096x128.Idx) :
    val_main_v43 (F := Ideal) x0 x1 x3 i = (↑(gradV (Q (i 0).val) (K (i 0).val) (D (i 0).val) (i 1).val (i 2).val) : EReal) := by
  obtain ⟨R, hR⟩ := exists_shift hq hk
  rw [val_main_v43_apply, val_main_v42_apply]
  refine (coe_dot _ (fun k _ => cot_real hd _) (fun k _ => softmax_real hq hk hR _)).trans (congrArg _ ?_)
  unfold gradV
  rw [Finset.sum_range]
  exact Finset.sum_congr rfl fun k _ => mul_comm _ _

/-- The incoming gradient against the values: the derivative by the softmax. -/
theorem dp_real (hv : ∀ i, x2 i = (↑(U (i 0).val (i 1).val (i 2).val) : EReal))
    (hd : ∀ i : S4096x1024.Idx, x3 i = (↑(D ((i 1).val / 128) (i 0).val ((i 1).val % 128)) : EReal)) (i : S8x4096x4096.Idx) :
    val_main_v41 (F := Ideal) x2 x3 i = (↑(∑ d : Fin 128, U (i 0).val (i 2).val d.val * D (i 0).val (i 1).val d.val) : EReal) := by
  rw [val_main_v41_apply]
  refine (coe_dot _ (fun k _ => cot_real hd _) (fun k _ => hv _)).trans (congrArg _ ?_)
  exact Finset.sum_congr rfl fun k _ => mul_comm _ _

/-- The backward softmax, over the reals: the shift cancels, and the sum over columns is the incoming gradient against the output. -/
theorem ds_eq (Q K U D : ℕ → ℕ → ℝ) {r : ℕ} (c : ℕ) {w : ℝ} (hw : w ≠ 0) (hr : r < 4096) :
    ((∑ d : Fin 128, U c d.val * D r d.val) * (1 / (den Q K r * w))
      + -(∑ k : Fin 4096, (∑ d : Fin 128, U k.val d.val * D r d.val) * (1 / ((den Q K r * w) * (den Q K r * w))) * (ex Q K r k.val * w))) * (ex Q K r c * w)
      = ds Q K U D r c := by
  have hd := (den_pos Q K hr).ne'
  have hs : ∑ d : Fin 128, D r d.val * att Q K U r d.val = (∑ k : Fin 4096, (∑ d : Fin 128, U k.val d.val * D r d.val) * ex Q K r k.val) / den Q K r := by
    unfold att num
    simp only [Finset.sum_range, Finset.sum_div, Finset.mul_sum, Finset.sum_mul]
    rw [Finset.sum_comm]
    exact Finset.sum_congr rfl fun k _ => Finset.sum_congr rfl fun d _ => by ring
  have ht : ∑ k : Fin 4096, (∑ d : Fin 128, U k.val d.val * D r d.val) * (1 / ((den Q K r * w) * (den Q K r * w))) * (ex Q K r k.val * w)
      = (∑ k : Fin 4096, (∑ d : Fin 128, U k.val d.val * D r d.val) * ex Q K r k.val) / (den Q K r * den Q K r * w) := by
    rw [Finset.sum_div]
    exact Finset.sum_congr rfl fun k _ => by field_simp
  unfold ds pr
  rw [ht, hs]
  field_simp
  ring

/-- The derivative by the masked scores. -/
theorem ds_real (hq : ∀ i, x0 i = (↑(Q (i 0).val (i 1).val (i 2).val) : EReal)) (hk : ∀ i, x1 i = (↑(K (i 0).val (i 1).val (i 2).val) : EReal))
    (hv : ∀ i, x2 i = (↑(U (i 0).val (i 1).val (i 2).val) : EReal))
    (hd : ∀ i : S4096x1024.Idx, x3 i = (↑(D ((i 1).val / 128) (i 0).val ((i 1).val % 128)) : EReal)) (i : S8x4096x4096.Idx) :
    val_main_v56 (F := Ideal) x0 x1 x2 x3 i = (↑(ds (Q (i 0).val) (K (i 0).val) (U (i 0).val) (D (i 0).val) (i 1).val (i 2).val) : EReal) := by
  obtain ⟨R, hR⟩ := exists_shift hq hk
  have hn : ∀ j : S8x4096.Idx, den (Q (j 0).val) (K (j 0).val) (j 1).val * Real.exp (-R (j 0).val (j 1).val) ≠ 0 := fun j =>
    mul_ne_zero (den_pos _ _ (show (j 1).val < 4096 from (j 1).isLt)).ne' (Real.exp_pos _).ne'
  have h46 : ∀ j : S8x4096x4096.Idx, val_main_v46 (F := Ideal) x0 x1 x2 x3 j
      = (↑((∑ d : Fin 128, U (j 0).val (j 2).val d.val * D (j 0).val (j 1).val d.val)
        * (1 / ((den (Q (j 0).val) (K (j 0).val) (j 1).val * Real.exp (-R (j 0).val (j 1).val)) * (den (Q (j 0).val) (K (j 0).val) (j 1).val * Real.exp (-R (j 0).val (j 1).val))))
        * (ex (Q (j 0).val) (K (j 0).val) (j 1).val (j 2).val * Real.exp (-R (j 0).val (j 1).val))) : EReal) := fun j => by
    rw [val_main_v46_apply, val_main_v45_apply, val_main_v44_apply, val_main_v35_apply, val_main_v34_apply, val_main_v33_apply, val_main_v30_apply,
      dp_real hv hd, exp_real hq hk hR, sum_real hq hk hR]
    have hj := hn (idx_main_v30 (idx_main_v44 j))
    refine (congrArg (fun x : EReal => _ * x * _) ((congrArg₂ Ideal.div Ideal.ofBits_one_f32 (EReal.coe_mul _ _).symm).trans ((Ideal.div_coe (mul_ne_zero hj hj) _).trans (one_mul _))) : _ = _).trans ?_
    rw [← EReal.coe_mul, ← EReal.coe_mul]
  have h52 : ∀ j : S8x4096.Idx, val_main_v52 (F := Ideal) x0 x1 x2 x3 j
      = (↑(-(∑ k : Fin 4096, (∑ d : Fin 128, U (j 0).val k.val d.val * D (j 0).val (j 1).val d.val)
        * (1 / ((den (Q (j 0).val) (K (j 0).val) (j 1).val * Real.exp (-R (j 0).val (j 1).val)) * (den (Q (j 0).val) (K (j 0).val) (j 1).val * Real.exp (-R (j 0).val (j 1).val))))
        * (ex (Q (j 0).val) (K (j 0).val) (j 1).val k.val * Real.exp (-R (j 0).val (j 1).val)))) : EReal) := fun j => by
    have h0 : (j 0).val < 8 := (j 0).isLt
    have h1 : (j 1).val < 4096 := (j 1).isLt
    have hidx : idx_main_v48 (idx_main_v52 j 0) = j := funext fun a => Fin.ext (by
      match a with
      | ⟨0, _⟩ => show (((j 0).val * 4096 + (j 1).val) * 1 + 0) / 4096 = (j 0).val; omega
      | ⟨1, _⟩ => show (((j 0).val * 4096 + (j 1).val) * 1 + 0) % 4096 = (j 1).val; omega)
    rw [val_main_v52_apply, Fin.sum_univ_one, val_main_v49_apply, val_main_v48_apply, hidx, val_main_v47_apply]
    refine (congrArg₂ (fun x y : EReal => x + -y) Ideal.ofBits_zero_f32
      ((congrArg₂ (fun x y : EReal => x + y) Ideal.ofBits_zero_f32 ((Finset.sum_congr rfl fun k _ => h46 _).trans (coe_sum _ _)) : _ = _).trans (zero_add _)) : _ = _).trans ?_
    rw [zero_add, ← EReal.coe_neg]
  have h55 : val_main_v55 (F := Ideal) x0 x1 x2 x3 i = (↑(ds (Q (i 0).val) (K (i 0).val) (U (i 0).val) (D (i 0).val) (i 1).val (i 2).val) : EReal) := by
    rw [val_main_v55_apply, val_main_v54_apply, val_main_v51_apply, val_main_v50_apply, val_main_v30_apply, val_main_v53_apply,
      dp_real hv hd, exp_real hq hk hR, sum_real hq hk hR, h52]
    have hj := hn (idx_main_v30 (idx_main_v50 i))
    refine (congrArg (fun x : EReal => (x + _) * _) (Ideal.div_coe hj _) : _ = _).trans ?_
    rw [← EReal.coe_mul, ← EReal.coe_add, ← EReal.coe_mul]
    exact congrArg _ (ds_eq _ _ _ _ _ (Real.exp_pos _).ne' (show (i 1).val < 4096 from (i 1).isLt))
  rw [val_main_v56_apply, mask_apply, h55, val_main_call1_v0_apply]
  by_cases h : (i 2).val ≤ (i 1).val
  · rw [if_pos h]; rfl
  · rw [if_neg h, ds_past _ _ _ _ (by omega)]; exact Ideal.ofBits_zero_f32

/-- The third result: the gradient of the keys. -/
theorem dk_real (hq : ∀ i, x0 i = (↑(Q (i 0).val (i 1).val (i 2).val) : EReal)) (hk : ∀ i, x1 i = (↑(K (i 0).val (i 1).val (i 2).val) : EReal))
    (hv : ∀ i, x2 i = (↑(U (i 0).val (i 1).val (i 2).val) : EReal))
    (hd : ∀ i : S4096x1024.Idx, x3 i = (↑(D ((i 1).val / 128) (i 0).val ((i 1).val % 128)) : EReal)) (i : S8x4096x256.Idx) :
    val_main_v57 (F := Ideal) x0 x1 x2 x3 i = (↑(gradK (Q (i 0).val) (K (i 0).val) (U (i 0).val) (D (i 0).val) (i 1).val (i 2).val) : EReal) := by
  rw [val_main_v57_apply]
  refine (coe_dot _ (fun k _ => ds_real hq hk hv hd _) (fun k _ => hq _)).trans (congrArg _ ?_)
  unfold gradK
  rw [Finset.sum_range]

/-- The second result: the gradient of the queries. -/
theorem dq_real (hq : ∀ i, x0 i = (↑(Q (i 0).val (i 1).val (i 2).val) : EReal)) (hk : ∀ i, x1 i = (↑(K (i 0).val (i 1).val (i 2).val) : EReal))
    (hv : ∀ i, x2 i = (↑(U (i 0).val (i 1).val (i 2).val) : EReal))
    (hd : ∀ i : S4096x1024.Idx, x3 i = (↑(D ((i 1).val / 128) (i 0).val ((i 1).val % 128)) : EReal)) (i : S8x4096x256.Idx) :
    val_main_v58 (F := Ideal) x0 x1 x2 x3 i = (↑(gradQ (Q (i 0).val) (K (i 0).val) (U (i 0).val) (D (i 0).val) (i 1).val (i 2).val) : EReal) := by
  rw [val_main_v58_apply]
  refine (coe_dot _ (fun k _ => ds_real hq hk hv hd _) (fun k _ => hk _)).trans (congrArg _ ?_)
  unfold gradQ
  rw [Finset.sum_range]

end Cert.ReferenceIdeal.Hand

end
-- ==== Proof.Value.lean ====
/- The two calls' results on finite arguments: what the run leaves in the kernel's result arrays is, element by element, what
   the reference computes. -/
module

public import proofs.«01_k».proof.Defs
public import proofs.«01_k».proof.Proof.Arrays0
public import proofs.«01_k».proof.Proof.Arrays1
public import proofs.«01_k».proof.Proof.Run
public import proofs.«01_k».proof.Proof.Ref
public import proofs.«01_k».proof.Proof.Gen.Pre_finite
public import Idealize.ShloMosaic.Lib.KernelVsHost

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)
open Idealize.ShloMosaic.ValueIdx

/-! ## Finite values are real numbers -/

/-- The pattern of positive infinity reads as the top. -/
theorem ofBits_top : Ideal.ofBits .f32 0x7F800000#32 = (⊤ : EReal) := by
  simp [Ideal.ofBits, Ideal.ieee]

/-- A value whose absolute value compares below infinity is a real number. -/
theorem real_of_finite (x : Ideal .f32) (h : FloatOps.cmpf .olt (FloatOps.hostAbsf x) (FloatOps.ofBits (F := Ideal) .f32 0x7F800000#32) = 1#1) :
    ∃ r : ℝ, (x : EReal) = (r : EReal) := by
  have h' : max (x : EReal) (-(x : EReal)) < ⊤ := by
    have e : FloatOps.cmpf .olt (FloatOps.hostAbsf x) (FloatOps.ofBits (F := Ideal) .f32 0x7F800000#32)
        = BitVec.ofBool (decide (max (x : EReal) (-(x : EReal)) < ⊤)) := by
      rw [← ofBits_top]; rfl
    rw [e] at h
    by_contra hn
    rw [decide_eq_false hn] at h
    exact absurd h (by decide)
  refine exists_real (fun e => ?_) (fun e => ?_)
  · rw [e] at h'; exact absurd h' (by simp)
  · rw [e] at h'; exact absurd h' (by simp)

/-- A rank-3 array of real numbers, as one real function of its three coordinates. -/
theorem exists_fn3 {a b d : ℕ} (ha : 0 < a) (hb : 0 < b) (hd : 0 < d) (x : (⟨3, ![a, b, d]⟩ : Shape).Idx → EReal) (hx : ∀ i, ∃ r : ℝ, x i = (r : EReal)) :
    ∃ X : ℕ → ℕ → ℕ → ℝ, ∀ i, x i = (↑(X (i 0).val (i 1).val (i 2).val) : EReal) := by
  choose f hf using hx
  refine ⟨fun p q r => f (ix3 ⟨p % a, Nat.mod_lt _ ha⟩ ⟨q % b, Nat.mod_lt _ hb⟩ ⟨r % d, Nat.mod_lt _ hd⟩), fun i => (hf i).trans (congrArg (fun j => (↑(f j) : EReal)) ?_)⟩
  refine (eq_ix3 i).trans ?_
  congr 1
  · exact Fin.ext (Nat.mod_eq_of_lt (i 0).isLt).symm
  · exact Fin.ext (Nat.mod_eq_of_lt (i 1).isLt).symm
  · exact Fin.ext (Nat.mod_eq_of_lt (i 2).isLt).symm

/-- The incoming gradient, as one real function of head, row and column within the head. -/
theorem exists_cot (x : S4096x1024.Idx → EReal) (hx : ∀ i, ∃ r : ℝ, x i = (r : EReal)) :
    ∃ D : ℕ → ℕ → ℕ → ℝ, ∀ i, x i = (↑(D ((i 1).val / 128) (i 0).val ((i 1).val % 128)) : EReal) := by
  choose f hf using hx
  refine ⟨fun h r d => f (ix2 ⟨r % 4096, Nat.mod_lt _ (by omega)⟩ ⟨(128 * h + d) % 1024, Nat.mod_lt _ (by omega)⟩), fun i => (hf i).trans (congrArg (fun j => (↑(f j) : EReal)) ?_)⟩
  have h1 : (i 1).val < 1024 := (i 1).isLt
  refine (eq_ix2 i).trans ?_
  congr 1
  · exact Fin.ext (Nat.mod_eq_of_lt (i 0).isLt).symm
  · refine Fin.ext ?_
    show (i 1).val = (128 * ((i 1).val / 128) + (i 1).val % 128) % 1024
    omega

/-! ## What the two calls are entered with -/

variable (m : (ℓ : Loc nD τ sig) → Buf (Elt Ideal) ℓ) (ρ : Dev nD → PrngReg) (c : Dev nD)

/-- The rounded queries are the queries. -/
theorem V1_q (i : S8x4096x256.Idx) : (V1 m ρ c main_v0 i : EReal) = m ((c : Thread nD τ).loc main_arg0) i := by
  have e : W1 m ρ c (Proc.devRef .tc main_v0) = fun i => (m ((c : Thread nD τ).loc main_arg0) i : EReal) := by
    show StableHlo.after hostOps0 (W0 m ρ c) (Proc.devRef .tc main_v0) = _
    after_results_simp <;> rfl
  exact congrFun e i

/-- The rounded keys are the keys. -/
theorem V1_k (i : S8x4096x256.Idx) : (V1 m ρ c main_v1 i : EReal) = m ((c : Thread nD τ).loc main_arg1) i := by
  have e : W1 m ρ c (Proc.devRef .tc main_v1) = fun i => (m ((c : Thread nD τ).loc main_arg1) i : EReal) := by
    show StableHlo.after hostOps0 (W0 m ρ c) (Proc.devRef .tc main_v1) = _
    after_results_simp <;> rfl
  exact congrFun e i

/-- The rounded values are the values. -/
theorem V1_v (i : S8x4096x128.Idx) : (V1 m ρ c main_v2 i : EReal) = m ((c : Thread nD τ).loc main_arg2) i := by
  have e : W1 m ρ c (Proc.devRef .tc main_v2) = fun i => (m ((c : Thread nD τ).loc main_arg2) i : EReal) := by
    show StableHlo.after hostOps0 (W0 m ρ c) (Proc.devRef .tc main_v2) = _
    after_results_simp <;> rfl
  exact congrFun e i

/-- The second call reads the same queries. -/
theorem V3_q : V3 m ρ c main_v0 = V1 m ρ c main_v0 := (W3_of m ρ c main_v0 (by decide)).trans (W2_of m ρ c main_v0 (by decide +kernel))

/-- The second call reads the same keys. -/
theorem V3_k : V3 m ρ c main_v1 = V1 m ρ c main_v1 := (W3_of m ρ c main_v1 (by decide)).trans (W2_of m ρ c main_v1 (by decide +kernel))

/-- The second call reads the same values. -/
theorem V3_v : V3 m ρ c main_v2 = V1 m ρ c main_v2 := (W3_of m ρ c main_v2 (by decide)).trans (W2_of m ρ c main_v2 (by decide +kernel))

/-- The second call reads the output the first leaves. -/
theorem V3_o : V3 m ρ c main_v3_0 = (dat0 (V1 m ρ) c).arrAt 3 cfg0.N := (W3_of m ρ c main_v3_0 (by decide)).trans (W2_arr m ρ c 3)

/-- The second call reads the row logarithms the first leaves. -/
theorem V3_l : V3 m ρ c main_v3_1 = (dat0 (V1 m ρ) c).arrAt 4 cfg0.N := (W3_of m ρ c main_v3_1 (by decide)).trans (W2_arr m ρ c 4)

/-- The second call reads the incoming gradient as launched. -/
theorem V3_d : V3 m ρ c main_arg3 = m ((c : Thread nD τ).loc main_arg3) := W3_args m ρ c main_arg3 (by decide)

variable {m ρ c} {Q K U D : ℕ → ℕ → ℕ → ℝ}

/-- The second call's entry, from real arguments. -/
theorem entry (hq : ∀ i : S8x4096x256.Idx, m ((c : Thread nD τ).loc main_arg0) i = (↑(Q (i 0).val (i 1).val (i 2).val) : EReal))
    (hk : ∀ i : S8x4096x256.Idx, m ((c : Thread nD τ).loc main_arg1) i = (↑(K (i 0).val (i 1).val (i 2).val) : EReal))
    (hv : ∀ i : S8x4096x128.Idx, m ((c : Thread nD τ).loc main_arg2) i = (↑(U (i 0).val (i 1).val (i 2).val) : EReal))
    (hd : ∀ i : S4096x1024.Idx, m ((c : Thread nD τ).loc main_arg3) i = (↑(D ((i 1).val / 128) (i 0).val ((i 1).val % 128)) : EReal)) :
    Entry (V3 m ρ) c Q K U D where
  q h r k := (congrFun (V3_q m ρ c) _).trans ((V1_q m ρ c _).trans (hq _))
  k h r k := (congrFun (V3_k m ρ c) _).trans ((V1_k m ρ c _).trans (hk _))
  v h r k := (congrFun (V3_v m ρ c) _).trans ((V1_v m ρ c _).trans (hv _))
  o r x := (congrFun ((V3_o m ρ c).trans (attn_arr (V1 m ρ) Q K U c (fun h r k => (V1_q m ρ c _).trans (hq _)) (fun h r k => (V1_k m ρ c _).trans (hk _))
    (fun h r k => (V1_v m ρ c _).trans (hv _)))) _)
  d r x := (congrFun (V3_d m ρ c) _).trans (hd _)
  l h b r := (congrFun ((V3_l m ρ c).trans (lse_arr (V1 m ρ) Q K U c (fun h r k => (V1_q m ρ c _).trans (hq _)) (fun h r k => (V1_k m ρ c _).trans (hk _))
    (fun h r k => (V1_v m ρ c _).trans (hv _)))) _)

end Cert.KernelIdeal.Hand

namespace Cert.Proof

open Idealize.ShloMosaic Idealize.SL.Sem
open Cert.KernelIdeal.Hand

/-- The reference's run, each result by the name of its last operation's value. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v38) = Cert.ReferenceIdeal.Read.val_main_v38 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v58) = Cert.ReferenceIdeal.Read.val_main_v58 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v57) = Cert.ReferenceIdeal.Read.val_main_v57 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v43) = Cert.ReferenceIdeal.Read.val_main_v43 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun r h c => ⟨(h c).1.trans (Cert.ReferenceIdeal.Read.val_main_v38_eq (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))),
      (h c).2.1.trans (Cert.ReferenceIdeal.Read.val_main_v58_eq (F := Ideal) m c),
      (h c).2.2.1.trans (Cert.ReferenceIdeal.Read.val_main_v57_eq (F := Ideal) m c),
      (h c).2.2.2.1.trans (Cert.ReferenceIdeal.Read.val_main_v43_eq (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))),
      (h c).2.2.2.2⟩)
    (Cert.ReferenceIdeal.Value.run (F := Ideal) m ρ)

/-- The idealized kernel and the plain reference end with the same four results on finite arguments. -/
theorem algebraic_finite : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hres : ∀ c : Dev Cert.KernelIdeal.nD,
      (dat0 (V1 m g) c).arrAt 3 Cert.KernelIdeal.cfg0.N = Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ (dat1 (V3 m g) c).arrAt 6 Cert.KernelIdeal.cfg1.N = Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ (dat1 (V3 m g) c).arrAt 7 Cert.KernelIdeal.cfg1.N = Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ (dat1 (V3 m g) c).arrAt 8 Cert.KernelIdeal.cfg1.N = Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) := by
    intro c
    obtain ⟨h0, h1, h2, h3⟩ := hpre c
    obtain ⟨Q, hq⟩ := exists_fn3 (by omega) (by omega) (by omega) (m ((c.tc : Thread Cert.KernelIdeal.nD Cert.KernelIdeal.τ).loc Cert.KernelIdeal.main_arg0)) fun i => real_of_finite _ (congrFun h0 i)
    obtain ⟨K, hk⟩ := exists_fn3 (by omega) (by omega) (by omega) (m ((c.tc : Thread Cert.KernelIdeal.nD Cert.KernelIdeal.τ).loc Cert.KernelIdeal.main_arg1)) fun i => real_of_finite _ (congrFun h1 i)
    obtain ⟨U, hv⟩ := exists_fn3 (by omega) (by omega) (by omega) (m ((c.tc : Thread Cert.KernelIdeal.nD Cert.KernelIdeal.τ).loc Cert.KernelIdeal.main_arg2)) fun i => real_of_finite _ (congrFun h2 i)
    obtain ⟨D, hd⟩ := exists_cot (m ((c.tc : Thread Cert.KernelIdeal.nD Cert.KernelIdeal.τ).loc Cert.KernelIdeal.main_arg3)) fun i => real_of_finite _ (congrFun h3 i)
    have e : Entry (V3 m g) c Q K U D := entry hq hk hv hd
    refine ⟨?_, ?_, ?_, ?_⟩
    · exact (attn_arr (V1 m g) Q K U c (fun h r k => (V1_q m g c _).trans (hq _)) (fun h r k => (V1_k m g c _).trans (hk _)) (fun h r k => (V1_v m g c _).trans (hv _))).trans
        (funext fun i => (Cert.ReferenceIdeal.Hand.out_real hq hk hv i).symm)
    · exact e.dq_arr.trans (funext fun i => (Cert.ReferenceIdeal.Hand.dq_real hq hk hv hd i).symm)
    · exact e.dk_arr.trans (funext fun i => (Cert.ReferenceIdeal.Hand.dk_real hq hk hv hd i).symm)
    · exact e.dv_arr.trans (funext fun i => (Cert.ReferenceIdeal.Hand.dv_real hq hk hd i).symm)
  refine ⟨fun c => (dat0 (V1 m g) c).arrAt 3 Cert.KernelIdeal.cfg0.N, fun c => (dat1 (V3 m g) c).arrAt 6 Cert.KernelIdeal.cfg1.N,
    fun c => (dat1 (V3 m g) c).arrAt 7 Cert.KernelIdeal.cfg1.N, fun c => (dat1 (V3 m g) c).arrAt 8 Cert.KernelIdeal.cfg1.N, ?_, ?_⟩
  · exact (θ_run (Cert.KernelIdeal.defs (F := Ideal)) _ _).mono
      (fun r h c => ⟨(h.1 c).2.2.2.2.1, (h.1 c).2.2.2.2.2.1, (h.1 c).2.2.2.2.2.2.1, (h.1 c).2.2.2.2.2.2.2, (h.1 c).1, (h.1 c).2.1, (h.1 c).2.2.1, (h.1 c).2.2.2.1⟩)
      (run_main (F := Ideal) m g)
  · refine (θ_run (Cert.ReferenceIdeal.defs (F := Ideal)) _ _).mono (fun r h c => ?_) (run_reference m' g')
    obtain ⟨e0, e1, e2, e3⟩ := hargs c
    obtain ⟨r0, r1, r2, r3⟩ := hres c
    obtain ⟨k0, k1, k2, k3, ka⟩ := h c
    rw [e0, e1, e2] at k0
    rw [e0, e1, e2, e3] at k1 k2
    rw [e0, e1, e3] at k3
    exact ⟨k0.trans r0.symm, k1.trans r1.symm, k2.trans r2.symm, k3.trans r3.symm, ka⟩

end Cert.Proof

end
-- ==== Proof.MlpSpec.lean ====
/-
  The feed-forward layer with the loss, its gradients included, of one row as formulas over the real numbers.
-/
module

public import proofs.«01_k».proof.Proof.Scal
public import Idealize.ShloMosaic.Lib.IdealHost

@[expose] public section

noncomputable section

namespace Cert.Mlp

open Idealize.ShloMosaic
open scoped BigOperators

/-- The bit pattern of the reciprocal of 1024. -/
theorem ofBits_inv1024 : Ideal.ofBits .f32 0x3A800000#32 = ((1 / 1024 : ℝ) : EReal) := by simp [Ideal.ofBits, Ideal.ieee]; rw [← EReal.coe_mul]; norm_num
/-- The bit pattern of the reciprocal of 2048. -/
theorem ofBits_inv2048 : Ideal.ofBits .f32 0x3A000000#32 = ((1 / 2048 : ℝ) : EReal) := by simp [Ideal.ofBits, Ideal.ieee]; rw [← EReal.coe_mul]; norm_num
/-- The bit pattern of two. -/
theorem ofBits_two : Ideal.ofBits .f32 0x40000000#32 = ((2 : ℝ) : EReal) := by simp [Ideal.ofBits, Ideal.ieee]; rw [← EReal.coe_mul]; norm_num
/-- The bit pattern of 1024. -/
theorem ofBits_1024 : Ideal.ofBits .f32 0x44800000#32 = ((1024 : ℝ) : EReal) := by simp [Ideal.ofBits, Ideal.ieee]; rw [← EReal.coe_mul]; norm_num
/-- The bit pattern of a half. -/
theorem ofBits_half : Ideal.ofBits .f32 0x3F000000#32 = ((1 / 2 : ℝ) : EReal) := by simp [Ideal.ofBits, Ideal.ieee]; rw [← EReal.coe_mul]; norm_num
/-- The bit pattern of minus a half. -/
theorem ofBits_neg_half : Ideal.ofBits .f32 0xBF000000#32 = ((-(1 / 2) : ℝ) : EReal) := by simp [Ideal.ofBits, Ideal.ieee]; rw [← EReal.coe_mul]; norm_num

/-- The number added to the mean square. -/
def eps : ℝ := 8796093 / 2 ^ 43

/-- The bit pattern of the number added to the mean square. -/
theorem ofBits_eps : Ideal.ofBits .f32 0x358637BD#32 = (eps : EReal) := by
  unfold eps; simp [Ideal.ofBits, Ideal.ieee]; rw [← EReal.coe_mul]; norm_num

/-- The mean square of a row plus the small number. -/
def vv (x : Fin 1024 → ℝ) : ℝ := (∑ j, x j * x j) * (1 / 1024) + eps

/-- It is positive. -/
theorem vv_pos (x : Fin 1024 → ℝ) : 0 < vv x := by
  have h : 0 ≤ ∑ j, x j * x j := Finset.sum_nonneg fun j _ => mul_self_nonneg (x j)
  have he : 0 < eps := by unfold eps; norm_num
  unfold vv; positivity

/-- The reciprocal root of the mean square. -/
def rr (x : Fin 1024 → ℝ) : ℝ := (Real.sqrt (vv x))⁻¹

/-- The reciprocal root over the extended reals. -/
theorem rsqrt_vv (x : Fin 1024 → ℝ) : Ideal.rsqrt ((vv x : ℝ) : EReal) = ((rr x : ℝ) : EReal) := by
  rw [Ideal.rsqrt_coe, if_neg (not_lt.mpr (vv_pos x).le), if_neg (vv_pos x).ne']; rfl

/-- The square of the reciprocal root, times the mean square, is one. -/
theorem rr_sq (x : Fin 1024 → ℝ) : rr x * rr x * vv x = 1 := by
  have h := Real.mul_self_sqrt (vv_pos x).le
  have h0 : Real.sqrt (vv x) ≠ 0 := (Real.sqrt_pos.mpr (vv_pos x)).ne'
  unfold rr
  field_simp
  rw [pow_two]
  exact h.symm

variable (G : Fin 1024 → ℝ) (U D : Fin 4 → Fin 1024 → Fin 1024 → ℝ) (x t : Fin 1024 → ℝ)

/-- The normalised row. -/
def hn (j : Fin 1024) : ℝ := x j * rr x * G j
/-- The rectified first product. -/
def re (s : Fin 4) (k : Fin 1024) : ℝ := max (∑ j, hn G x j * U s j k) 0
/-- Its square. -/
def hid (s : Fin 4) (k : Fin 1024) : ℝ := re G U x s k * re G U x s k
/-- The row plus the second product, less the target. -/
def err (j : Fin 1024) : ℝ :=
  x j + (∑ k, hid G U x 0 k * D 0 k j) + (∑ k, hid G U x 1 k * D 1 k j) + (∑ k, hid G U x 2 k * D 2 k j) + (∑ k, hid G U x 3 k * D 3 k j) - t j
/-- The gradient of the output. -/
def dout (j : Fin 1024) : ℝ := err G U D x t j * (1 / 1024)
/-- The gradient of the first product. -/
def da (s : Fin 4) (k : Fin 1024) : ℝ := (∑ j, dout G U D x t j * D s k j) * (2 * re G U x s k)
/-- The gradient of the normalised row. -/
def dn (j : Fin 1024) : ℝ :=
  (∑ k, da G U D x t 0 k * U 0 j k) + (∑ k, da G U D x t 1 k * U 1 j k) + (∑ k, da G U D x t 2 k * U 2 j k) + (∑ k, da G U D x t 3 k * U 3 j k)
/-- The gradient of the row. -/
def dh (j : Fin 1024) : ℝ :=
  dout G U D x t j + rr x * (dn G U D x t j * G j - x j * rr x * ((∑ i, dn G U D x t i * G i * (x i * rr x)) * (1 / 1024)))
/-- The row's share of the gradient of the gains. -/
def dg (j : Fin 1024) : ℝ := dn G U D x t j * (x j * rr x)

end Cert.Mlp

end
-- ==== Proof.MlpBody.lean ====
/-
  What one block of 256 rows of the feed-forward body computes, as plain functions of its five input blocks, and the
  proof that each output block after a grid point is one of them. Everything is over any float values `F`, in the
  program's own pure operations.
-/
module

public import proofs.«01_k».proof.Proof.Gen.Kernel2Ideal.Value
public import Idealize.ShloMosaic.Lib.Pipeline.ValueKit
public import Idealize.ShloMosaic.Lib.ValueIdx

@[expose] public section

set_option maxRecDepth 16384

noncomputable section

namespace Cert.Kernel2Ideal.Hand

open Idealize.ShloMosaic hiding ix1 ix2 ix3 ix4
open Idealize.ShloMosaic.TcCoe Idealize.ShloMosaic.ValueIdx
open Cert.Kernel2Ideal Cert.Kernel2Ideal.Gen

variable {F : FTy → Type} [FloatOps F]

/-- Plane 0 of a stack of four weight matrices. -/
abbrev pl0 (w : Vec F S4x1024x1024 .bf16) : Vec F S1x1024x1024 .bf16 := View.ld w (Rect.unit ![0, 0, 0] ![1, 1024, 1024] inb_S4x1024x1024_S1x1024x1024_0_0_0)
/-- Plane 1 of a stack of four weight matrices. -/
abbrev pl1 (w : Vec F S4x1024x1024 .bf16) : Vec F S1x1024x1024 .bf16 := View.ld w (Rect.unit ![1, 0, 0] ![1, 1024, 1024] inb_S4x1024x1024_S1x1024x1024_1_0_0)
/-- Plane 2 of a stack of four weight matrices. -/
abbrev pl2 (w : Vec F S4x1024x1024 .bf16) : Vec F S1x1024x1024 .bf16 := View.ld w (Rect.unit ![2, 0, 0] ![1, 1024, 1024] inb_S4x1024x1024_S1x1024x1024_2_0_0)
/-- Plane 3 of a stack of four weight matrices. -/
abbrev pl3 (w : Vec F S4x1024x1024 .bf16) : Vec F S1x1024x1024 .bf16 := View.ld w (Rect.unit ![3, 0, 0] ![1, 1024, 1024] inb_S4x1024x1024_S1x1024x1024_3_0_0)

variable (x tg : Vec F S256x1024 .f32) (g : Vec F S1x1024 .f32) (u d : Vec F S4x1024x1024 .bf16)

/-- The normalised rows. -/
def hnB : FVec F S256x1024 .bf16 := k0_pay3 x g
/-- The rectified first product, columns 0 to 1023. -/
def re0 : FVec F S256x1024 .f32 := k0_pay4 x g (pl0 u)
/-- The rectified first product, columns 1024 to 2047. -/
def re1 : FVec F S256x1024 .f32 := k0_pay8 (hnB x g) (k0_pay7 (pl1 u)) (constant S256x1024 .f32 0x00000000#32)
/-- The rectified first product, columns 2048 to 3071. -/
def re2 : FVec F S256x1024 .f32 := k0_pay10 (hnB x g) (pl2 u)
/-- The rectified first product, columns 3072 to 4095. -/
def re3 : FVec F S256x1024 .f32 := k0_pay13 (hnB x g) (pl3 u)
/-- Its square, columns 0 to 1023. -/
def hd0 : FVec F S256x1024 .bf16 := k0_pay5 x g (pl0 u)
/-- Its square, columns 1024 to 2047. -/
def hd1 : FVec F S256x1024 .bf16 := k0_pay9 (hnB x g) (k0_pay7 (pl1 u)) (constant S256x1024 .f32 0x00000000#32)
/-- Its square, columns 2048 to 3071. -/
def hd2 : FVec F S256x1024 .bf16 := k0_pay11 (hnB x g) (pl2 u)
/-- Its square, columns 3072 to 4095. -/
def hd3 : FVec F S256x1024 .bf16 := k0_pay14 (hnB x g) (pl3 u)
/-- The rows with the first quarter of the second product added. -/
def runA : FVec F S256x1024 .f32 := k0_pay6 x g (pl0 u) (pl0 d)
/-- The rows with three quarters of the second product added. -/
def runB : FVec F S256x1024 .f32 :=
  k0_pay12 (hnB x g) (runA x g u d) (k0_pay7 (pl1 u)) (constant S256x1024 .f32 0x00000000#32) (pl1 d) (pl2 u) (pl2 d)
/-- The output less the target. -/
def errB : FVec F S256x1024 .f32 := k0_pay15 (runB x g u d) (hd3 x g u) (pl3 d) tg
/-- The block's share of the loss, in every element. -/
def lossB : FVec F S8x128 .f32 := k0_pay16 (runB x g u d) (hd3 x g u) (pl3 d) tg
/-- The gradient of the output. -/
def doF : FVec F S256x1024 .f32 := k0_pay18 (runB x g u d) (hd3 x g u) (pl3 d) tg
/-- The gradient of the output, as the products take it. -/
def doB : FVec F S256x1024 .bf16 := k0_pay19 (runB x g u d) (hd3 x g u) (pl3 d) tg
/-- The gradient of the first product, columns 0 to 1023. -/
def da0 : FVec F S256x1024 .bf16 := k0_pay21 (re0 x g u) (runB x g u d) (hd3 x g u) (pl3 d) tg (pl0 d)
/-- The gradient of the first product, columns 1024 to 2047. -/
def da1 : FVec F S256x1024 .bf16 := k0_pay23 (re1 x g u) (doB x tg g u d) (pl1 d)
/-- The gradient of the first product, columns 2048 to 3071. -/
def da2 : FVec F S256x1024 .bf16 := k0_pay24 (re2 x g u) (doB x tg g u d) (pl2 d)
/-- The gradient of the first product, columns 3072 to 4095. -/
def da3 : FVec F S256x1024 .bf16 := k0_pay28 (re3 x g u) (k0_pay26 (doB x tg g u d) (pl3 d)) k0_pay27
/-- Three quarters of the gradient of the normalised rows. -/
def dnA : FVec F S256x1024 .f32 :=
  k0_pay25 (re1 x g u) (re2 x g u) (doB x tg g u d) k0_pay20 (da0 x tg g u d) (k0_pay22 (pl0 u)) (pl1 d) (pl1 u) (pl2 d) (pl2 u)
/-- The gradient of the normalised rows. -/
def dnB : FVec F S256x1024 .f32 := k0_pay29 (re3 x g u) (dnA x tg g u d) (k0_pay26 (doB x tg g u d) (pl3 d)) k0_pay27 (pl3 u)
/-- The gradient of the rows. -/
def dhB : FVec F S256x1024 .f32 :=
  k0_pay32 x (k0_pay2 g) (re3 x g u) (doF x tg g u d) (dnA x tg g u d) (k0_pay26 (doB x tg g u d) (pl3 d)) k0_pay27 (pl3 u)
/-- The block's share of the gradient of the gains. -/
def dgB : FVec F S1x1024 .f32 := k0_pay33 x (re3 x g u) (dnA x tg g u d) (k0_pay26 (doB x tg g u d) (pl3 d)) k0_pay27 (pl3 u)

/-- Four strips side by side. -/
def side {α : Type} (a b c e : S256x1024.Idx → α) : S256x4096.Idx → α := fun y =>
  (if (y 1).val < 1024 then a else if (y 1).val < 2048 then b else if (y 1).val < 3072 then c else e)
    (ix2 (y 0) ⟨(y 1).val % 1024, Nat.mod_lt _ (by omega)⟩)

variable (m : (ℓ : Loc nD τ sig) → Buf (Elt F) ℓ)

/-- The rows of a grid point. -/
abbrev bX (c : Dev nD) (t : Fin cfg0.N) : Vec F S256x1024 .f32 := iblk m c 0 t
/-- The target rows of a grid point. -/
abbrev bT (c : Dev nD) (t : Fin cfg0.N) : Vec F S256x1024 .f32 := iblk m c 1 t
/-- The gains. -/
abbrev bG (c : Dev nD) (t : Fin cfg0.N) : Vec F S1x1024 .f32 := iblk m c 2 t
/-- The first weights. -/
abbrev bU (c : Dev nD) (t : Fin cfg0.N) : Vec F S4x1024x1024 .bf16 := X0_3 m c t
/-- The second weights. -/
abbrev bD (c : Dev nD) (t : Fin cfg0.N) : Vec F S4x1024x1024 .bf16 := X0_4 m c t

/-- The gradient of the rows, after a grid point. -/
theorem out5 (c : Dev nD) (t : Fin cfg0.N) :
    (outsAt0 m c t.val t.isLt).1 = dhB (bX m c t) (bT m c t) (bG m c t) (bU m c t) (bD m c t) := by
  have hN : t.val < 16 := lt_of_lt_of_eq t.isLt N_0
  by_cases h : t.val = 0
  · rw [outsAt0_A m c t (by omega) (by omega) (by omega) (by omega)]; frame_out; rfl
  · rw [outsAt0_B m c t (by omega) (by omega) (by omega) (by omega)]; frame_out; rfl

/-- The normalised rows, after a grid point. -/
theorem out6 (c : Dev nD) (t : Fin cfg0.N) : (outsAt0 m c t.val t.isLt).2.1 = hnB (bX m c t) (bG m c t) := by
  have hN : t.val < 16 := lt_of_lt_of_eq t.isLt N_0
  by_cases h : t.val = 0
  · rw [outsAt0_A m c t (by omega) (by omega) (by omega) (by omega)]; frame_out; rfl
  · rw [outsAt0_B m c t (by omega) (by omega) (by omega) (by omega)]; frame_out; rfl

/-- The gradient of the output, after a grid point. -/
theorem out9 (c : Dev nD) (t : Fin cfg0.N) :
    (outsAt0 m c t.val t.isLt).2.2.2.2.1 = doB (bX m c t) (bT m c t) (bG m c t) (bU m c t) (bD m c t) := by
  have hN : t.val < 16 := lt_of_lt_of_eq t.isLt N_0
  by_cases h : t.val = 0
  · rw [outsAt0_A m c t (by omega) (by omega) (by omega) (by omega)]; frame_out; rfl
  · rw [outsAt0_B m c t (by omega) (by omega) (by omega) (by omega)]; frame_out; rfl

/-- Four strips stored one after the other into a block are the four side by side. -/
theorem side_canon (a b c e : Vec F S256x1024 .bf16) :
    View.canon (Val := Elt F)
        [⟨Rect.unit ![0, 3072] ![256, 1024] inb_S256x4096_S256x1024_0_3072, e⟩, ⟨Rect.unit ![0, 2048] ![256, 1024] inb_S256x4096_S256x1024_0_2048, c⟩,
          ⟨Rect.unit ![0, 1024] ![256, 1024] inb_S256x4096_S256x1024_0_1024, b⟩, ⟨Rect.unit ![0, 0] ![256, 1024] inb_S256x4096_S256x1024_0_0, a⟩]
      = (side a b c e : Vec F S256x4096 .bf16) := by
  funext y
  have key : ∀ (v : Vec F S256x1024 .bf16) (z : S256x1024.Idx) (o : ℕ), (y 0).val = (z 0).val → (y 1).val = 1024 * o + (z 1).val →
      v z = v (ix2 (y 0) ⟨(y 1).val % 1024, Nat.mod_lt _ (by omega)⟩) := by
    intro v z o h0 h1
    refine congrArg v (funext fun ax => Fin.ext ?_)
    match ax with
    | ⟨0, _⟩ => exact h0.symm
    | ⟨1, _⟩ =>
      have : (z 1).val < 1024 := (z 1).isLt
      show (z 1).val = (y 1).val % 1024
      omega
  canon_tiles x h
  all_goals
    have hx : (x 1).val < 1024 := (x 1).isLt
    unfold side
  · rw [if_neg (by omega), if_neg (by omega), if_neg (by omega)]; exact key e x 3 h0 h1
  · rw [if_neg (by omega), if_neg (by omega), if_pos (by omega)]; exact key c x 2 h0 h1
  · rw [if_neg (by omega), if_pos (by omega)]; exact key b x 1 h0 h1
  · rw [if_pos (by omega)]; exact key a x 0 h0 (by omega)

/-- The gradient of the first product, after a grid point. -/
theorem out7 (c : Dev nD) (t : Fin cfg0.N) :
    (outsAt0 m c t.val t.isLt).2.2.1 = side (da0 (bX m c t) (bT m c t) (bG m c t) (bU m c t) (bD m c t)) (da1 (bX m c t) (bT m c t) (bG m c t) (bU m c t) (bD m c t))
      (da2 (bX m c t) (bT m c t) (bG m c t) (bU m c t) (bD m c t)) (da3 (bX m c t) (bT m c t) (bG m c t) (bU m c t) (bD m c t)) := by
  have hN : t.val < 16 := lt_of_lt_of_eq t.isLt N_0
  refine Eq.trans ?_ (side_canon _ _ _ _)
  by_cases h : t.val = 0
  · rw [outsAt0_A m c t (by omega) (by omega) (by omega) (by omega)]; frame_out; rfl
  · rw [outsAt0_B m c t (by omega) (by omega) (by omega) (by omega)]; frame_out; rfl

/-- The squares, after a grid point. -/
theorem out8 (c : Dev nD) (t : Fin cfg0.N) :
    (outsAt0 m c t.val t.isLt).2.2.2.1 = side (hd0 (bX m c t) (bG m c t) (bU m c t)) (hd1 (bX m c t) (bG m c t) (bU m c t)) (hd2 (bX m c t) (bG m c t) (bU m c t))
      (hd3 (bX m c t) (bG m c t) (bU m c t)) := by
  have hN : t.val < 16 := lt_of_lt_of_eq t.isLt N_0
  refine Eq.trans ?_ (side_canon _ _ _ _)
  by_cases h : t.val = 0
  · rw [outsAt0_A m c t (by omega) (by omega) (by omega) (by omega)]; frame_out; rfl
  · rw [outsAt0_B m c t (by omega) (by omega) (by omega) (by omega)]; frame_out; rfl

/-- The loss after the first grid point. -/
theorem out10_first (c : Dev nD) (t : Fin cfg0.N) (h : t.val = 0) :
    (outsAt0 m c t.val t.isLt).2.2.2.2.2.1 = lossB (bX m c t) (bT m c t) (bG m c t) (bU m c t) (bD m c t) := by
  rw [outsAt0_A m c t (by omega) (by omega) (by omega) (by omega)]; frame_out; rfl

/-- The loss after a later grid point: the block's share added to what was there. -/
theorem out10_next (c : Dev nD) (t : Fin cfg0.N) (h : t.val ≠ 0) :
    (outsAt0 m c t.val t.isLt).2.2.2.2.2.1
      = addf (outsAt0 m c (t.val - 1) (Nat.lt_of_le_of_lt (Nat.sub_le _ _) t.isLt)).2.2.2.2.2.1 (lossB (bX m c t) (bT m c t) (bG m c t) (bU m c t) (bD m c t)) := by
  have hN : t.val < 16 := lt_of_lt_of_eq t.isLt N_0
  rw [outsAt0_B m c t (by omega) (by omega) (by omega) (by omega)]; frame_out
  unfold k0_pay17
  rw [shapeCast_self]; rfl

/-- The gradient of the gains after the first grid point. -/
theorem out11_first (c : Dev nD) (t : Fin cfg0.N) (h : t.val = 0) :
    (outsAt0 m c t.val t.isLt).2.2.2.2.2.2 = dgB (bX m c t) (bT m c t) (bG m c t) (bU m c t) (bD m c t) := by
  rw [outsAt0_A m c t (by omega) (by omega) (by omega) (by omega)]; frame_out; rfl

/-- The gradient of the gains after a later grid point: the block's share added to what was there. -/
theorem out11_next (c : Dev nD) (t : Fin cfg0.N) (h : t.val ≠ 0) :
    (outsAt0 m c t.val t.isLt).2.2.2.2.2.2
      = addf (outsAt0 m c (t.val - 1) (Nat.lt_of_le_of_lt (Nat.sub_le _ _) t.isLt)).2.2.2.2.2.2 (dgB (bX m c t) (bT m c t) (bG m c t) (bU m c t) (bD m c t)) := by
  have hN : t.val < 16 := lt_of_lt_of_eq t.isLt N_0
  rw [outsAt0_B m c t (by omega) (by omega) (by omega) (by omega)]; frame_out
  unfold k0_pay1
  rw [shapeCast_self]; rfl

end Cert.Kernel2Ideal.Hand

end
-- ==== Proof.MlpReal.lean ====
/-
  One block of the feed-forward body at real inputs: every value is the real number that the formulas of the row give.
-/
module

public import proofs.«01_k».proof.Proof.MlpSpec
public import proofs.«01_k».proof.Proof.MlpBody
public import proofs.«01_k».proof.Proof.Pay0

@[expose] public section

set_option maxRecDepth 16384

noncomputable section

namespace Cert.Kernel2Ideal.Hand

open Idealize.ShloMosaic hiding ix1 ix2 ix3 ix4
open Idealize.ShloMosaic.TcCoe Idealize.ShloMosaic.ValueIdx
open Cert.Kernel2Ideal Cert.Kernel2Ideal.Gen
open Cert.KernelIdeal.Hand (coe_sum coe_dot rowSum_apply colSum_apply broadcastTo_a1_ab_apply)
open Cert.Mlp
open scoped BigOperators

/-- A product of real matrices is real. -/
theorem mmP (A : FVec Ideal S256x1024 .bf16) (B : FVec Ideal S1024x1024 .bf16) (C : FVec Ideal S256x1024 .f32) (r : Fin 256) (c : Fin 1024)
    (hC : (C (ix2 r c) : EReal) = 0) {a b : Fin 1024 → ℝ} (hA : ∀ k, (A (ix2 r k) : EReal) = (a k : ℝ)) (hB : ∀ k, (B (ix2 k c) : EReal) = (b k : ℝ)) :
    (matmul dot_S256x1024_S1024x1024_S256x1024_1_0_0_1_n_n none A B C (ix2 r c) : EReal) = ((∑ k, a k * b k : ℝ) : EReal) := by
  refine (Ideal.matmul_plain_apply none A B C r c).trans ?_
  rw [hC, zero_add]
  exact coe_dot _ (fun k _ => hA k) (fun k _ => hB k)

/-- A product of a real matrix with the transpose of another is real. -/
theorem mmT (A : FVec Ideal S256x1024 .bf16) (B : FVec Ideal S1024x1024 .bf16) (C : FVec Ideal S256x1024 .f32) (r : Fin 256) (c : Fin 1024)
    (hC : (C (ix2 r c) : EReal) = 0) {a b : Fin 1024 → ℝ} (hA : ∀ k, (A (ix2 r k) : EReal) = (a k : ℝ)) (hB : ∀ k, (B (ix2 c k) : EReal) = (b k : ℝ)) :
    (matmul dot_S256x1024_S1024x1024_S256x1024_1_1_0_0_n_n none A B C (ix2 r c) : EReal) = ((∑ k, a k * b k : ℝ) : EReal) := by
  refine (Ideal.matmul_transposedRhs_apply none A B C r c).trans ?_
  rw [hC, zero_add]
  exact coe_dot _ (fun k _ => hA k) (fun k _ => hB k)

/-- The zero the products start from. -/
theorem cst_zero (r : Fin 256) (c : Fin 1024) : (constant (F := Ideal) S256x1024 .f32 0x00000000#32 (ix2 r c) : EReal) = 0 := Ideal.ofBits_zero_f32

variable (w : Vec Ideal S4x1024x1024 .bf16)

/-- Plane 0 read at an index. -/
theorem pl0_apply (h) (a b : Fin 1024) : shapeCast S1024x1024 (pl0 w) h (ix2 a b) = w (ix3 0 a b) :=
  (shapeCast_1ab_ab_apply (pl0 w) h a b).trans (View.ld_unit_apply_of w _ _ _ _ _ fun ax => match ax with
    | ⟨0, _⟩ => rfl | ⟨1, _⟩ => (Nat.zero_add _).symm | ⟨2, _⟩ => (Nat.zero_add _).symm)
/-- Plane 1 read at an index. -/
theorem pl1_apply (h) (a b : Fin 1024) : shapeCast S1024x1024 (pl1 w) h (ix2 a b) = w (ix3 1 a b) :=
  (shapeCast_1ab_ab_apply (pl1 w) h a b).trans (View.ld_unit_apply_of w _ _ _ _ _ fun ax => match ax with
    | ⟨0, _⟩ => rfl | ⟨1, _⟩ => (Nat.zero_add _).symm | ⟨2, _⟩ => (Nat.zero_add _).symm)
/-- Plane 2 read at an index. -/
theorem pl2_apply (h) (a b : Fin 1024) : shapeCast S1024x1024 (pl2 w) h (ix2 a b) = w (ix3 2 a b) :=
  (shapeCast_1ab_ab_apply (pl2 w) h a b).trans (View.ld_unit_apply_of w _ _ _ _ _ fun ax => match ax with
    | ⟨0, _⟩ => rfl | ⟨1, _⟩ => (Nat.zero_add _).symm | ⟨2, _⟩ => (Nat.zero_add _).symm)
/-- Plane 3 read at an index. -/
theorem pl3_apply (h) (a b : Fin 1024) : shapeCast S1024x1024 (pl3 w) h (ix2 a b) = w (ix3 3 a b) :=
  (shapeCast_1ab_ab_apply (pl3 w) h a b).trans (View.ld_unit_apply_of w _ _ _ _ _ fun ax => match ax with
    | ⟨0, _⟩ => rfl | ⟨1, _⟩ => (Nat.zero_add _).symm | ⟨2, _⟩ => (Nat.zero_add _).symm)

/-- A row repeated down the rows reads its own column. -/
theorem row_apply {n k : ℕ} {α : Type} (v : (⟨2, ![1, k]⟩ : Shape).Idx → α) (h) (r : Fin n) (c : Fin k) :
    broadcastTo ⟨2, ![n, k]⟩ v h (ix2 r c) = v (ix2 0 c) := broadcastTo_1b_ab_apply v h r c

/-- The inputs of a block are real numbers. -/
structure RealIn (x tg : Vec Ideal S256x1024 .f32) (g : Vec Ideal S1x1024 .f32) (u d : Vec Ideal S4x1024x1024 .bf16)
    (X T : Fin 256 → Fin 1024 → ℝ) (G : Fin 1024 → ℝ) (U D : Fin 4 → Fin 1024 → Fin 1024 → ℝ) : Prop where
  x : ∀ r j, (x (ix2 r j) : EReal) = (X r j : ℝ)
  t : ∀ r j, (tg (ix2 r j) : EReal) = (T r j : ℝ)
  g : ∀ j, (g (ix2 0 j) : EReal) = (G j : ℝ)
  u : ∀ s j k, (u (ix3 s j k) : EReal) = (U s j k : ℝ)
  d : ∀ s k j, (d (ix3 s k j) : EReal) = (D s k j : ℝ)

variable {x tg : Vec Ideal S256x1024 .f32} {g : Vec Ideal S1x1024 .f32} {u d : Vec Ideal S4x1024x1024 .bf16}
    {X T : Fin 256 → Fin 1024 → ℝ} {G : Fin 1024 → ℝ} {U D : Fin 4 → Fin 1024 → Fin 1024 → ℝ}
    (H : RealIn x tg g u d X T G U D)
include H

/-- The reciprocal root. -/
theorem pay30_real (r : Fin 256) (q : Fin 1) : (k0_pay30 x (ix2 r q) : EReal) = ((rr (X r) : ℝ) : EReal) := by
  have h1 : (shapeCast S256x1 (multiReduction .add [1] S256 (mulf x x : FVec Ideal S256x1024 .f32) 0x00000000#32 reduces_S256x1024_S256 (.inl rfl) rfl) shapeCasts_S256_S256x1 (ix2 r q) : EReal)
      = ((∑ j, X r j * X r j : ℝ) : EReal) := by
    refine (shapeCast_a_a1_apply _ _ r q).trans ?_
    exact (rowSum_apply (mulf x x : FVec Ideal S256x1024 .f32) _ _ _ r).trans (coe_dot _ (fun j _ => H.x r j) (fun j _ => H.x r j))
  refine (congrArg₂ (fun a b : EReal => Ideal.rsqrt (a * Ideal.ofBits .f32 0x3A800000#32 + b)) h1 ofBits_eps : _ = _).trans ?_
  rw [ofBits_inv1024, ← EReal.coe_mul, ← EReal.coe_add]
  exact rsqrt_vv (X r)

/-- The row times the reciprocal root. -/
theorem pay31_real (r : Fin 256) (j : Fin 1024) : (k0_pay31 x (ix2 r j) : EReal) = ((X r j * rr (X r) : ℝ) : EReal) := by
  refine (congrArg₂ (fun a b : EReal => a * b) (H.x r j) ((broadcastTo_a1_ab_apply (k0_pay30 x) _ r j).trans (pay30_real H r 0)) : _ = _).trans ?_
  rw [← EReal.coe_mul]

/-- The normalised rows. -/
theorem hn_real (r : Fin 256) (j : Fin 1024) : (hnB x g (ix2 r j) : EReal) = ((hn G (X r) j : ℝ) : EReal) := by
  have h2 : (broadcastTo S256x1024 (k0_pay2 g) broadcasts_S1x1024_S256x1024 (ix2 r j) : EReal) = ((G j : ℝ) : EReal) := by
    refine (row_apply (k0_pay2 g) _ r j).trans ?_
    unfold k0_pay2
    rw [shapeCast_self]; exact H.g j
  refine (congrArg₂ (fun a b : EReal => a * b) (pay31_real H r j) h2 : _ = _).trans ?_
  rw [← EReal.coe_mul]; rfl

/-- A rectified real number. -/
theorem relu_real {a : EReal} {b : ℝ} (h : a = (b : EReal)) : max a (Ideal.ofBits .f32 0x00000000#32) = ((max b 0 : ℝ) : EReal) := by
  rw [h, Ideal.ofBits_zero_f32]
  exact ((EReal.coe_strictMono.monotone).map_max (a := b) (b := 0)).symm

/-- The rectified first product, strip 0. -/
theorem re0_real (r : Fin 256) (k : Fin 1024) : (re0 x g u (ix2 r k) : EReal) = ((re G U (X r) 0 k : ℝ) : EReal) :=
  relu_real H (mmP (hnB x g) _ _ r k (cst_zero r k) (hn_real H r) fun j => (pl0_apply u _ j k).trans (H.u 0 j k))
/-- The rectified first product, strip 1. -/
theorem re1_real (r : Fin 256) (k : Fin 1024) : (re1 x g u (ix2 r k) : EReal) = ((re G U (X r) 1 k : ℝ) : EReal) :=
  relu_real H (mmP (hnB x g) _ _ r k (cst_zero r k) (hn_real H r) fun j => (pl1_apply u _ j k).trans (H.u 1 j k))
/-- The rectified first product, strip 2. -/
theorem re2_real (r : Fin 256) (k : Fin 1024) : (re2 x g u (ix2 r k) : EReal) = ((re G U (X r) 2 k : ℝ) : EReal) :=
  relu_real H (mmP (hnB x g) _ _ r k (cst_zero r k) (hn_real H r) fun j => (pl2_apply u _ j k).trans (H.u 2 j k))
/-- The rectified first product, strip 3. -/
theorem re3_real (r : Fin 256) (k : Fin 1024) : (re3 x g u (ix2 r k) : EReal) = ((re G U (X r) 3 k : ℝ) : EReal) :=
  relu_real H (mmP (hnB x g) _ _ r k (cst_zero r k) (hn_real H r) fun j => (pl3_apply u _ j k).trans (H.u 3 j k))

/-- The square of a real number. -/
theorem sq_real {a : EReal} {b : ℝ} (h : a = (b : EReal)) : a * a = ((b * b : ℝ) : EReal) := by rw [h, EReal.coe_mul]

/-- The squares, strip 0. -/
theorem hd0_real (r : Fin 256) (k : Fin 1024) : (hd0 x g u (ix2 r k) : EReal) = ((hid G U (X r) 0 k : ℝ) : EReal) := sq_real H (re0_real H r k)
/-- The squares, strip 1. -/
theorem hd1_real (r : Fin 256) (k : Fin 1024) : (hd1 x g u (ix2 r k) : EReal) = ((hid G U (X r) 1 k : ℝ) : EReal) := sq_real H (re1_real H r k)
/-- The squares, strip 2. -/
theorem hd2_real (r : Fin 256) (k : Fin 1024) : (hd2 x g u (ix2 r k) : EReal) = ((hid G U (X r) 2 k : ℝ) : EReal) := sq_real H (re2_real H r k)
/-- The squares, strip 3. -/
theorem hd3_real (r : Fin 256) (k : Fin 1024) : (hd3 x g u (ix2 r k) : EReal) = ((hid G U (X r) 3 k : ℝ) : EReal) := sq_real H (re3_real H r k)

/-- The output less the target. -/
theorem err_real (r : Fin 256) (j : Fin 1024) : (errB x tg g u d (ix2 r j) : EReal) = ((err G U D (X r) (T r) j : ℝ) : EReal) := by
  have q0 := mmP (hd0 x g u) _ _ r j (cst_zero r j) (hd0_real H r) fun k => (pl0_apply d shapeCasts_S1x1024x1024_S1024x1024 k j).trans (H.d 0 k j)
  have q1 := mmP (hd1 x g u) _ _ r j (cst_zero r j) (hd1_real H r) fun k => (pl1_apply d shapeCasts_S1x1024x1024_S1024x1024 k j).trans (H.d 1 k j)
  have q2 := mmP (hd2 x g u) _ _ r j (cst_zero r j) (hd2_real H r) fun k => (pl2_apply d shapeCasts_S1x1024x1024_S1024x1024 k j).trans (H.d 2 k j)
  have q3 := mmP (hd3 x g u) _ _ r j (cst_zero r j) (hd3_real H r) fun k => (pl3_apply d shapeCasts_S1x1024x1024_S1024x1024 k j).trans (H.d 3 k j)
  have a0 := (congrArg₂ (fun a b : EReal => a + b) (H.x r j) q0 : _ = _)
  have a1 := (congrArg₂ (fun a b : EReal => a + b) a0 q1 : _ = _)
  have a2 := (congrArg₂ (fun a b : EReal => a + b) a1 q2 : _ = _)
  have a3 := (congrArg₂ (fun a b : EReal => a + b) a2 q3 : _ = _)
  refine (congrArg₂ (fun a b : EReal => a - b) a3 (H.t r j) : _ = _).trans ?_
  simp only [← EReal.coe_add, ← EReal.coe_sub]; rfl

/-- The gradient of the output. -/
theorem doF_real (r : Fin 256) (j : Fin 1024) : (doF x tg g u d (ix2 r j) : EReal) = ((dout G U D (X r) (T r) j : ℝ) : EReal) := by
  refine (congrArg₂ (fun a b : EReal => a * b) (err_real H r j) ofBits_inv1024 : _ = _).trans ?_
  rw [← EReal.coe_mul]; rfl

/-- The gradient of the output, as the products take it. -/
theorem doB_real (r : Fin 256) (j : Fin 1024) : (doB x tg g u d (ix2 r j) : EReal) = ((dout G U D (X r) (T r) j : ℝ) : EReal) := doF_real H r j

/-- A product with twice a rectified number. -/
theorem gate_real {p a : EReal} {q b : ℝ} (hp : p = (q : EReal)) (h : a = (b : EReal)) : p * (Ideal.ofBits .f32 0x40000000#32 * a) = ((q * (2 * b) : ℝ) : EReal) := by
  rw [hp, h, ofBits_two, ← EReal.coe_mul, ← EReal.coe_mul]

/-- The gradient of the first product, strip 0. -/
theorem da0_real (r : Fin 256) (k : Fin 1024) : (da0 x tg g u d (ix2 r k) : EReal) = ((da G U D (X r) (T r) 0 k : ℝ) : EReal) :=
  gate_real H (mmT (doB x tg g u d) _ _ r k (cst_zero r k) (doB_real H r) fun j => (pl0_apply d shapeCasts_S1x1024x1024_S1024x1024 k j).trans (H.d 0 k j)) (re0_real H r k)
/-- The gradient of the first product, strip 1. -/
theorem da1_real (r : Fin 256) (k : Fin 1024) : (da1 x tg g u d (ix2 r k) : EReal) = ((da G U D (X r) (T r) 1 k : ℝ) : EReal) :=
  gate_real H (mmT (doB x tg g u d) _ _ r k (cst_zero r k) (doB_real H r) fun j => (pl1_apply d shapeCasts_S1x1024x1024_S1024x1024 k j).trans (H.d 1 k j)) (re1_real H r k)
/-- The gradient of the first product, strip 2. -/
theorem da2_real (r : Fin 256) (k : Fin 1024) : (da2 x tg g u d (ix2 r k) : EReal) = ((da G U D (X r) (T r) 2 k : ℝ) : EReal) :=
  gate_real H (mmT (doB x tg g u d) _ _ r k (cst_zero r k) (doB_real H r) fun j => (pl2_apply d shapeCasts_S1x1024x1024_S1024x1024 k j).trans (H.d 2 k j)) (re2_real H r k)
/-- The gradient of the first product, strip 3. -/
theorem da3_real (r : Fin 256) (k : Fin 1024) : (da3 x tg g u d (ix2 r k) : EReal) = ((da G U D (X r) (T r) 3 k : ℝ) : EReal) :=
  gate_real H (mmT (doB x tg g u d) _ _ r k (cst_zero r k) (doB_real H r) fun j => (pl3_apply d shapeCasts_S1x1024x1024_S1024x1024 k j).trans (H.d 3 k j)) (re3_real H r k)

/-- The gradient of the normalised rows. -/
theorem dn_real (r : Fin 256) (j : Fin 1024) : (dnB x tg g u d (ix2 r j) : EReal) = ((dn G U D (X r) (T r) j : ℝ) : EReal) := by
  have q0 := mmT (da0 x tg g u d) _ _ r j (cst_zero r j) (da0_real H r) fun k => (pl0_apply u shapeCasts_S1x1024x1024_S1024x1024 j k).trans (H.u 0 j k)
  have q1 := mmT (da1 x tg g u d) _ _ r j (cst_zero r j) (da1_real H r) fun k => (pl1_apply u shapeCasts_S1x1024x1024_S1024x1024 j k).trans (H.u 1 j k)
  have q2 := mmT (da2 x tg g u d) _ _ r j (cst_zero r j) (da2_real H r) fun k => (pl2_apply u shapeCasts_S1x1024x1024_S1024x1024 j k).trans (H.u 2 j k)
  have q3 := mmT (da3 x tg g u d) _ _ r j (cst_zero r j) (da3_real H r) fun k => (pl3_apply u shapeCasts_S1x1024x1024_S1024x1024 j k).trans (H.u 3 j k)
  have a0 := (congrArg₂ (fun a b : EReal => a + b) (cst_zero r j) q0 : _ = _)
  have a1 := (congrArg₂ (fun a b : EReal => a + b) a0 q1 : _ = _)
  have a2 := (congrArg₂ (fun a b : EReal => a + b) a1 q2 : _ = _)
  refine (congrArg₂ (fun a b : EReal => a + b) a2 q3 : _ = _).trans ?_
  simp only [zero_add, ← EReal.coe_add]; rfl

/-- The gradient of the rows. -/
theorem dh_real (r : Fin 256) (j : Fin 1024) : (dhB x tg g u d (ix2 r j) : EReal) = ((dh G U D (X r) (T r) j : ℝ) : EReal) := by
  have hg : ∀ i, (broadcastTo S256x1024 (k0_pay2 g) broadcasts_S1x1024_S256x1024 (ix2 r i) : EReal) = ((G i : ℝ) : EReal) := fun i => by
    refine (row_apply (k0_pay2 g) _ r i).trans ?_
    unfold k0_pay2
    rw [shapeCast_self]; exact H.g i
  have e1 : ∀ i, (mulf (dnB x tg g u d) (broadcastTo S256x1024 (k0_pay2 g) broadcasts_S1x1024_S256x1024) (ix2 r i) : EReal)
      = ((dn G U D (X r) (T r) i * G i : ℝ) : EReal) := fun i => by
    refine (congrArg₂ (fun a b : EReal => a * b) (dn_real H r i) (hg i) : _ = _).trans ?_
    rw [← EReal.coe_mul]
  have hs : (shapeCast S256x1 (multiReduction .add [1] S256 (mulf (mulf (dnB x tg g u d) (broadcastTo S256x1024 (k0_pay2 g) broadcasts_S1x1024_S256x1024)) (k0_pay31 x))
        0x00000000#32 reduces_S256x1024_S256 (.inl rfl) rfl) shapeCasts_S256_S256x1 (ix2 r 0) : EReal)
      = ((∑ i, dn G U D (X r) (T r) i * G i * (X r i * rr (X r)) : ℝ) : EReal) :=
    (shapeCast_a_a1_apply (multiReduction .add [1] S256 (mulf (mulf (dnB x tg g u d) (broadcastTo S256x1024 (k0_pay2 g) broadcasts_S1x1024_S256x1024)) (k0_pay31 x)) 0x00000000#32 reduces_S256x1024_S256 (.inl rfl) rfl) _ r 0).trans ((rowSum_apply _ _ _ _ r).trans (coe_dot _ (fun i _ => e1 i) (fun i _ => pay31_real H r i)))
  have hm := (congrArg₂ (fun a b : EReal => a * b) hs ofBits_inv1024 : _ = _)
  have hb := (congrArg₂ (fun a b : EReal => a * b) (pay31_real H r j) ((broadcastTo_a1_ab_apply (mulf (shapeCast S256x1 (multiReduction .add [1] S256 (mulf (mulf (dnB x tg g u d) (broadcastTo S256x1024 (k0_pay2 g) broadcasts_S1x1024_S256x1024)) (k0_pay31 x)) 0x00000000#32 reduces_S256x1024_S256 (.inl rfl) rfl) shapeCasts_S256_S256x1) (broadcast S256x1 (Scalar.ofBits .f32 0x3A800000#32))) broadcasts_S256x1_S256x1024 r j).trans hm) : _ = _)
  have hd := (congrArg₂ (fun a b : EReal => a - b) (e1 j) hb : _ = _)
  have hp := (congrArg₂ (fun a b : EReal => a * b) ((broadcastTo_a1_ab_apply (k0_pay30 x) broadcasts_S256x1_S256x1024 r j).trans (pay30_real H r 0)) hd : _ = _)
  refine (congrArg₂ (fun a b : EReal => a + b) (doF_real H r j) hp : _ = _).trans ?_
  simp only [← EReal.coe_mul, ← EReal.coe_sub, ← EReal.coe_add]; rfl

/-- The block's share of the gradient of the gains. -/
theorem dg_real (q : Fin 1) (j : Fin 1024) : (dgB x tg g u d (ix2 q j) : EReal) = ((∑ r, dg G U D (X r) (T r) j : ℝ) : EReal) :=
  (shapeCast_a_1a_apply (multiReduction .add [0] S1024 (mulf (dnB x tg g u d) (k0_pay31 x)) 0x00000000#32 reduces_S256x1024_S1024 (.inl rfl) rfl) shapeCasts_S1024_S1x1024 q j).trans
    ((colSum_apply (mulf (dnB x tg g u d) (k0_pay31 x)) reduces_S256x1024_S1024 (.inl rfl) rfl j).trans (coe_dot _ (fun r _ => dn_real H r j) (fun r _ => pay31_real H r j)))

/-- The block's share of the loss. -/
theorem loss_real (y : S8x128.Idx) : (lossB x tg g u d y : EReal) = (((∑ r, ∑ j, err G U D (X r) (T r) j * err G U D (X r) (T r) j) * (1 / 2048) : ℝ) : EReal) := by
  have e : ∀ r j, (mulf (errB x tg g u d) (errB x tg g u d) (ix2 r j) : EReal) = ((err G U D (X r) (T r) j * err G U D (X r) (T r) j : ℝ) : EReal) :=
    fun r j => sq_real H (err_real H r j)
  have ht : (∑ i : S256x1024.Idx, (mulf (errB x tg g u d) (errB x tg g u d) i : EReal)) = ((∑ r, ∑ j, err G U D (X r) (T r) j * err G U D (X r) (T r) j : ℝ) : EReal) := by
    rw [ValueIdx.sum_idx2, ← coe_sum]
    exact Finset.sum_congr rfl fun r _ => (Finset.sum_congr rfl fun j _ => e r j).trans (coe_sum _ _)
  have hs : ∀ q, (multiReduction .add [1, 2] S1 (shapeCast S1x256x1024 (mulf (errB x tg g u d) (errB x tg g u d)) shapeCasts_S256x1024_S1x256x1024) 0x00000000#32
        reduces_S1x256x1024_S1 (.inl rfl) rfl q : EReal) = ((∑ r, ∑ j, err G U D (X r) (T r) j * err G U D (X r) (T r) j : ℝ) : EReal) := fun q => by
    refine (Ideal.multiReduction_add_total _ _ _ (by decide) _ _ q).trans (Eq.trans ?_ ht)
    exact Equiv.sum_comp (Shape.reshapeEquiv shapeCasts_S256x1024_S1x256x1024) (fun i => (mulf (errB x tg g u d) (errB x tg g u d) i : EReal))
  refine (congrArg₂ (fun a b : EReal => a * b) (hs _) ofBits_inv2048 : _ = _).trans ?_
  rw [← EReal.coe_mul]

end Cert.Kernel2Ideal.Hand

end
-- ==== Proof.MlpArr.lean ====
/-
  The arrays the feed-forward call leaves, as real numbers: the blocks a grid point reads off the arrays, and every
  element of the seven result arrays when the arguments hold real numbers.
-/
module

public import proofs.«01_k».proof.Proof.MlpReal
public import Idealize.ShloMosaic.Lib.Pipeline.ValueKit.Geometry

@[expose] public section

set_option maxRecDepth 16384

noncomputable section

namespace Cert.Kernel2Ideal.Hand

open Idealize.ShloMosaic hiding ix1 ix2 ix3 ix4
open Idealize.ShloMosaic.TcCoe Idealize.ShloMosaic.ValueIdx Idealize.ShloMosaic.Tactic
open Idealize.ShloMosaic.Pipeline (Dat Cfg Window)
open Cert.Kernel2Ideal Cert.Kernel2Ideal.Gen
open Cert.KernelIdeal.Hand (coe_sum coe_dot)
open Cert.Mlp
open scoped BigOperators

variable (m : (ℓ : Loc nD τ sig) → Buf (Elt Ideal) ℓ) (c : Dev nD)

/-- The block index of the rows at a point. -/
theorem index2_0 : ∀ t : Fin cfg0.N, win0_0.index t = ![t.val, 0] :=
  (by decide +kernel : ∀ t : Fin grid0.N, win0_0.index t = ![t.val, 0])
/-- The block index of the target at a point. -/
theorem index2_1 : ∀ t : Fin cfg0.N, win0_1.index t = ![t.val, 0] :=
  (by decide +kernel : ∀ t : Fin grid0.N, win0_1.index t = ![t.val, 0])
/-- The block index of the gains at a point. -/
theorem index2_2 : ∀ t : Fin cfg0.N, win0_2.index t = ![0, 0] :=
  (by decide +kernel : ∀ t : Fin grid0.N, win0_2.index t = ![0, 0])
/-- The block index of the first weights at a point. -/
theorem index2_3 : ∀ t : Fin cfg0.N, win0_3.index t = ![0, 1, 0] :=
  (by decide +kernel : ∀ t : Fin grid0.N, win0_3.index t = ![0, 1, 0])
/-- The block index of the second weights at a point. -/
theorem index2_4 : ∀ t : Fin cfg0.N, win0_4.index t = ![0, 0, 0] :=
  (by decide +kernel : ∀ t : Fin grid0.N, win0_4.index t = ![0, 0, 0])
/-- The block index of the row gradient at a point. -/
theorem index2_5 : ∀ t : Fin cfg0.N, win0_5.index t = ![t.val, 0] :=
  (by decide +kernel : ∀ t : Fin grid0.N, win0_5.index t = ![t.val, 0])
/-- The block index of the normalised rows at a point. -/
theorem index2_6 : ∀ t : Fin cfg0.N, win0_6.index t = ![t.val, 0] :=
  (by decide +kernel : ∀ t : Fin grid0.N, win0_6.index t = ![t.val, 0])
/-- The block index of the first product gradient at a point. -/
theorem index2_7 : ∀ t : Fin cfg0.N, win0_7.index t = ![t.val, 0] :=
  (by decide +kernel : ∀ t : Fin grid0.N, win0_7.index t = ![t.val, 0])
/-- The block index of the squares at a point. -/
theorem index2_8 : ∀ t : Fin cfg0.N, win0_8.index t = ![t.val, 0] :=
  (by decide +kernel : ∀ t : Fin grid0.N, win0_8.index t = ![t.val, 0])
/-- The block index of the output gradient at a point. -/
theorem index2_9 : ∀ t : Fin cfg0.N, win0_9.index t = ![t.val, 0] :=
  (by decide +kernel : ∀ t : Fin grid0.N, win0_9.index t = ![t.val, 0])

/-- A grid point's number is below 16. -/
theorem t_lt (t : Fin cfg0.N) : t.val < 16 := lt_of_lt_of_eq t.isLt N_0

/-- The rows of a grid point, read off the first argument. -/
theorem bX_apply (t : Fin cfg0.N) (r : Fin 256) (j : Fin 1024) :
    bX m c t (ix2 r j) = m ((c : Thread nD τ).loc main_arg0) (ix2 ⟨256 * t.val + r.val, by have := t_lt t; omega⟩ j) := by
  have e : bX m c t (ix2 r j) = V m c main_arg0 (ix2 ⟨256 * t.val + r.val, by have := t_lt t; omega⟩ j) := by
    show iblk m c 0 t (ix2 r j) = _
    unfold iblk
    refine congrArg (V m c main_arg0) (?_ : ((cfg0.win 0).blk t).view.emb (ix2 r j) = _)
    blk_ext [index2_0]
    show t.val * 256 + r.val = 256 * t.val + r.val
    omega
  rw [e, V_main_arg0]

/-- The target rows of a grid point, read off the second argument. -/
theorem bT_apply (t : Fin cfg0.N) (r : Fin 256) (j : Fin 1024) :
    bT m c t (ix2 r j) = m ((c : Thread nD τ).loc main_arg1) (ix2 ⟨256 * t.val + r.val, by have := t_lt t; omega⟩ j) := by
  have e : bT m c t (ix2 r j) = V m c main_arg1 (ix2 ⟨256 * t.val + r.val, by have := t_lt t; omega⟩ j) := by
    show iblk m c 1 t (ix2 r j) = _
    unfold iblk
    refine congrArg (V m c main_arg1) (?_ : ((cfg0.win 1).blk t).view.emb (ix2 r j) = _)
    blk_ext [index2_1]
    show t.val * 256 + r.val = 256 * t.val + r.val
    omega
  rw [e, V_main_arg1]

/-- The gains as the call is entered with them. -/
theorem V_gain (j : Fin 1024) : (V m c main_v6 (ix2 0 j) : EReal) = m ((c : Thread nD τ).loc main_arg2) (ix1 j) := by
  have e : V m c main_v6 = shapeCast S1x1024 (m ((c : Thread nD τ).loc main_arg2)) shapeCasts_S1024_S1x1024 := by
    show StableHlo.after hostOps0 (fun b => m (c, b)) (Proc.devRef .tc main_v6) = _
    after_results_simp <;> rfl
  rw [e]
  exact shapeCast_a_1a_apply _ _ 0 j

/-- The gains of a grid point. -/
theorem bG_apply (t : Fin cfg0.N) (j : Fin 1024) : (bG m c t (ix2 0 j) : EReal) = m ((c : Thread nD τ).loc main_arg2) (ix1 j) := by
  have e : bG m c t (ix2 0 j) = V m c main_v6 (ix2 0 j) := by
    show iblk m c 2 t (ix2 0 j) = _
    unfold iblk
    refine congrArg (V m c main_v6) (?_ : ((cfg0.win 2).blk t).view.emb (ix2 0 j) = _)
    blk_ext [index2_2]
  rw [e, V_gain]

/-- The stack of weights as the call is entered with it: the second weights' rows, then the first weights' columns, then zeros. -/
theorem V_grp : ∃ (a b : S4x1024x1024.Idx → EReal) (z : S4x512x1024.Idx → EReal),
    (V m c main_v5 : S4x2560x1024.Idx → EReal) = concatenate S4x2560x1024 1 [⟨S4x1024x1024, a⟩, ⟨S4x1024x1024, b⟩, ⟨S4x512x1024, z⟩] concatenates_S4x1024x1024_S4x1024x1024_S4x512x1024_S4x2560x1024_d1
      ∧ a = shapeCast S4x1024x1024 (m ((c : Thread nD τ).loc main_arg4)) shapeCasts_S4096x1024_S4x1024x1024
      ∧ b = transpose S4x1024x1024 [1, 0, 2] (shapeCast S1024x4x1024 (m ((c : Thread nD τ).loc main_arg3)) shapeCasts_S1024x4096_S1024x4x1024) transposes_S1024x4x1024_S4x1024x1024_1_0_2 := by
  refine ⟨_, _, broadcastInDim S4x512x1024 ![] bcast_S_S4x512x1024 (constant (F := Ideal) S_ .f32 0x00000000#32), ?_, rfl, rfl⟩
  show StableHlo.after hostOps0 (fun b => m (c, b)) (Proc.devRef .tc main_v5) = _
  after_results_simp <;> rfl

/-- The first weights of a grid point: plane `s` holds columns `1024 s … 1024 s + 1023` of the fourth argument. -/
theorem bU_apply (t : Fin cfg0.N) (s : Fin 4) (j k : Fin 1024) :
    bU m c t (ix3 s j k) = m ((c : Thread nD τ).loc main_arg3) (ix2 j ⟨1024 * s.val + k.val, by omega⟩) := by
  have e : bU m c t (ix3 s j k) = V m c main_v5 (ix3 s ⟨1024 + j.val, by omega⟩ k) := by
    show X0_3 m c t (ix3 s j k) = _
    unfold X0_3 Window.fill
    rw [dif_pos (moved0_3 t _)]
    unfold iblk
    refine congrArg (V m c main_v5) (?_ : ((cfg0.win 3).blk t).view.emb _ = _)
    blk_ext [index2_3]
  obtain ⟨a, b, z, h, ha, hb⟩ := V_grp m c
  rw [e]
  refine (congrFun h _).trans ?_
  refine (concatenate_apply_piece (α := EReal) 1 [⟨S4x1024x1024, a⟩, ⟨S4x1024x1024, b⟩, ⟨S4x512x1024, z⟩] concatenates_S4x1024x1024_S4x1024x1024_S4x512x1024_S4x2560x1024_d1 (ix3 s ⟨1024 + j.val, by omega⟩ k) 1 (show 1 < 3 by decide) S4x1024x1024 b rfl rfl 1024 rfl (ix3 s j k) (fun q hq => ?_) rfl).trans ?_
  · match q with
    | ⟨0, _⟩ => rfl
    | ⟨1, _⟩ => exact absurd rfl hq
    | ⟨2, _⟩ => rfl
  rw [hb]
  refine (transpose_apply _ _ _ _ (ix3 j s k) fun q => ?_).trans ?_
  · match q with
    | ⟨0, _⟩ => rfl
    | ⟨1, _⟩ => rfl
    | ⟨2, _⟩ => rfl
  refine shapeCast_apply _ _ _ _ ?_
  refine (Shape.rowMajor_val_two (d := ![1024, 4096]) (ix2 j ⟨1024 * s.val + k.val, by omega⟩)).trans (Eq.trans ?_ (Shape.rowMajor_val_three (d := ![1024, 4, 1024]) (ix3 j s k)).symm)
  show j.val * 4096 + (1024 * s.val + k.val) = (j.val * 4 + s.val) * 1024 + k.val
  omega

/-- The second weights of a grid point: plane `s` holds rows `1024 s … 1024 s + 1023` of the fifth argument. -/
theorem bD_apply (t : Fin cfg0.N) (s : Fin 4) (k j : Fin 1024) :
    bD m c t (ix3 s k j) = m ((c : Thread nD τ).loc main_arg4) (ix2 ⟨1024 * s.val + k.val, by omega⟩ j) := by
  have e : bD m c t (ix3 s k j) = V m c main_v5 (ix3 s ⟨k.val, by omega⟩ j) := by
    show X0_4 m c t (ix3 s k j) = _
    unfold X0_4 Window.fill
    rw [dif_pos (moved0_4 t _)]
    unfold iblk
    refine congrArg (V m c main_v5) (?_ : ((cfg0.win 4).blk t).view.emb _ = _)
    blk_ext [index2_4]
  obtain ⟨a, b, z, h, ha, hb⟩ := V_grp m c
  rw [e]
  refine (congrFun h _).trans ?_
  refine (concatenate_apply_piece (α := EReal) 1 [⟨S4x1024x1024, a⟩, ⟨S4x1024x1024, b⟩, ⟨S4x512x1024, z⟩] concatenates_S4x1024x1024_S4x1024x1024_S4x512x1024_S4x2560x1024_d1 (ix3 s ⟨k.val, by omega⟩ j) 0 (show 0 < 3 by decide) S4x1024x1024 a rfl rfl 0 rfl (ix3 s k j) (fun q hq => ?_) (Nat.zero_add _)).trans ?_
  · match q with
    | ⟨0, _⟩ => rfl
    | ⟨1, _⟩ => exact absurd rfl hq
    | ⟨2, _⟩ => rfl
  rw [ha]
  refine shapeCast_apply _ _ _ _ ?_
  refine (Shape.rowMajor_val_two (d := ![4096, 1024]) (ix2 ⟨1024 * s.val + k.val, by omega⟩ j)).trans (Eq.trans ?_ (Shape.rowMajor_val_three (d := ![4, 1024, 1024]) (ix3 s k j)).symm)
  show (1024 * s.val + k.val) * 1024 + j.val = (s.val * 1024 + k.val) * 1024 + j.val
  omega

/-- The strip of a column of the wide arrays. -/
def strip (k : Fin 4096) : Fin 4 := ⟨k.val / 1024, by omega⟩
/-- Its place in the strip. -/
def place (k : Fin 4096) : Fin 1024 := ⟨k.val % 1024, by omega⟩

/-- Four strips of real numbers side by side. -/
theorem side_real {a b p e : S256x1024.Idx → EReal} {f : Fin 256 → Fin 4 → Fin 1024 → ℝ}
    (h0 : ∀ r k, a (ix2 r k) = (f r 0 k : EReal)) (h1 : ∀ r k, b (ix2 r k) = (f r 1 k : EReal))
    (h2 : ∀ r k, p (ix2 r k) = (f r 2 k : EReal)) (h3 : ∀ r k, e (ix2 r k) = (f r 3 k : EReal)) (r : Fin 256) (k : Fin 4096) :
    side a b p e (ix2 r k) = (f r (strip k) (place k) : EReal) := by
  unfold side
  show (if k.val < 1024 then a else if k.val < 2048 then b else if k.val < 3072 then p else e) (ix2 r (place k)) = _
  split
  · rw [h0, show strip k = 0 from Fin.ext (show k.val / 1024 = 0 by omega)]
  split
  · rw [h1, show strip k = 1 from Fin.ext (show k.val / 1024 = 1 by omega)]
  split
  · rw [h2, show strip k = 2 from Fin.ext (show k.val / 1024 = 2 by omega)]
  · rw [h3, show strip k = 3 from Fin.ext (show k.val / 1024 = 3 by omega)]

/-- Sixteen blocks of 256 numbers are 4096 numbers. -/
theorem sum_blocks (f : ℕ → ℝ) (n : ℕ) : ∑ i ∈ Finset.range n, ∑ r : Fin 256, f (256 * i + r.val) = ∑ i ∈ Finset.range (256 * n), f i := by
  induction n with
  | zero => rfl
  | succ n ih => rw [Finset.sum_range_succ, ih, Nat.mul_succ, Finset.sum_range_add, Finset.sum_range (fun x => f (256 * n + x))]

/-- The five arguments hold real numbers: row `i` of the first two is `X i` and `T i`, the columns of the fourth and the
rows of the fifth are numbered by strip and place in the strip. -/
structure RealArgs (X T : ℕ → Fin 1024 → ℝ) (G : Fin 1024 → ℝ) (U D : Fin 4 → Fin 1024 → Fin 1024 → ℝ) : Prop where
  x : ∀ (i : Fin 4096) j, @Eq EReal (m ((c : Thread nD τ).loc main_arg0) (ix2 i j)) ((X i.val j : ℝ))
  t : ∀ (i : Fin 4096) j, @Eq EReal (m ((c : Thread nD τ).loc main_arg1) (ix2 i j)) ((T i.val j : ℝ))
  g : ∀ j, @Eq EReal (m ((c : Thread nD τ).loc main_arg2) (ix1 j)) ((G j : ℝ))
  u : ∀ (s : Fin 4) j (k : Fin 1024), @Eq EReal (m ((c : Thread nD τ).loc main_arg3) (ix2 j ⟨1024 * s.val + k.val, by omega⟩)) ((U s j k : ℝ))
  d : ∀ (s : Fin 4) (k : Fin 1024) j, @Eq EReal (m ((c : Thread nD τ).loc main_arg4) (ix2 ⟨1024 * s.val + k.val, by omega⟩ j)) ((D s k j : ℝ))

variable {X T : ℕ → Fin 1024 → ℝ} {G : Fin 1024 → ℝ} {U D : Fin 4 → Fin 1024 → Fin 1024 → ℝ} (H : RealArgs m c X T G U D)
include H

/-- The blocks of a grid point then hold real numbers. -/
theorem realIn (t : Fin cfg0.N) : RealIn (bX m c t) (bT m c t) (bG m c t) (bU m c t) (bD m c t)
    (fun r => X (256 * t.val + r.val)) (fun r => T (256 * t.val + r.val)) G U D where
  x r j := (bX_apply m c t r j).trans (H.x _ j)
  t r j := (bT_apply m c t r j).trans (H.t _ j)
  g j := (bG_apply m c t j).trans (H.g j)
  u s j k := (bU_apply m c t s j k).trans (H.u s j k)
  d s k j := (bD_apply m c t s k j).trans (H.d s k j)

/-- The gradient of the rows. -/
theorem arr5 : (dats m 0 c).arrAt 5 cfg0.N = fun i : S4096x1024.Idx => ((dh G U D (X (i 0).val) (T (i 0).val) (i 1) : ℝ) : EReal) := by
  refine (dats m 0 c).arrAt_eq_of_covers 5 _ (by decide +kernel) fun t hf y => ?_
  rw [after0_5, out5]
  obtain ⟨r, j, rfl⟩ : ∃ (r : Fin 256) (j : Fin 1024), y = ix2 r j := ⟨y 0, y 1, ValueIdx.eq_ix2 y⟩
  refine (dh_real (realIn m c H t) r j).trans ?_
  have e0 : (((cfg0.win 5).blk t).view.emb (ix2 r j)) = ix2 ⟨256 * t.val + r.val, by have := t_lt t; omega⟩ j := by
    blk_ext [index2_5]
    show t.val * 256 + r.val = 256 * t.val + r.val
    omega
  refine Eq.trans ?_ (congrArg (fun i : S4096x1024.Idx => ((dh G U D (X (i 0).val) (T (i 0).val) (i 1) : ℝ) : EReal)) e0).symm
  rfl

/-- The normalised rows. -/
theorem arr6 : (dats m 0 c).arrAt 6 cfg0.N = fun i : S4096x1024.Idx => ((hn G (X (i 0).val) (i 1) : ℝ) : EReal) := by
  refine (dats m 0 c).arrAt_eq_of_covers 6 _ (by decide +kernel) fun t hf y => ?_
  rw [after0_6, out6]
  obtain ⟨r, j, rfl⟩ : ∃ (r : Fin 256) (j : Fin 1024), y = ix2 r j := ⟨y 0, y 1, ValueIdx.eq_ix2 y⟩
  refine (hn_real (realIn m c H t) r j).trans ?_
  have e0 : (((cfg0.win 6).blk t).view.emb (ix2 r j)) = ix2 ⟨256 * t.val + r.val, by have := t_lt t; omega⟩ j := by
    blk_ext [index2_6]
    show t.val * 256 + r.val = 256 * t.val + r.val
    omega
  refine Eq.trans ?_ (congrArg (fun i : S4096x1024.Idx => ((hn G (X (i 0).val) (i 1) : ℝ) : EReal)) e0).symm
  rfl

/-- The gradient of the output. -/
theorem arr9 : (dats m 0 c).arrAt 9 cfg0.N = fun i : S4096x1024.Idx => ((dout G U D (X (i 0).val) (T (i 0).val) (i 1) : ℝ) : EReal) := by
  refine (dats m 0 c).arrAt_eq_of_covers 9 _ (by decide +kernel) fun t hf y => ?_
  rw [after0_9, out9]
  obtain ⟨r, j, rfl⟩ : ∃ (r : Fin 256) (j : Fin 1024), y = ix2 r j := ⟨y 0, y 1, ValueIdx.eq_ix2 y⟩
  refine (doB_real (realIn m c H t) r j).trans ?_
  have e0 : (((cfg0.win 9).blk t).view.emb (ix2 r j)) = ix2 ⟨256 * t.val + r.val, by have := t_lt t; omega⟩ j := by
    blk_ext [index2_9]
    show t.val * 256 + r.val = 256 * t.val + r.val
    omega
  refine Eq.trans ?_ (congrArg (fun i : S4096x1024.Idx => ((dout G U D (X (i 0).val) (T (i 0).val) (i 1) : ℝ) : EReal)) e0).symm
  rfl

/-- The gradient of the first product. -/
theorem arr7 : (dats m 0 c).arrAt 7 cfg0.N = fun i : S4096x4096.Idx => ((da G U D (X (i 0).val) (T (i 0).val) (strip (i 1)) (place (i 1)) : ℝ) : EReal) := by
  refine (dats m 0 c).arrAt_eq_of_covers 7 _ (by decide +kernel) fun t hf y => ?_
  rw [after0_7, out7]
  obtain ⟨r, k, rfl⟩ : ∃ (r : Fin 256) (k : Fin 4096), y = ix2 r k := ⟨y 0, y 1, ValueIdx.eq_ix2 y⟩
  refine (side_real (da0_real (realIn m c H t)) (da1_real (realIn m c H t)) (da2_real (realIn m c H t)) (da3_real (realIn m c H t)) r k).trans ?_
  have e0 : (((cfg0.win 7).blk t).view.emb (ix2 r k)) = ix2 ⟨256 * t.val + r.val, by have := t_lt t; omega⟩ k := by
    blk_ext [index2_7]
    show t.val * 256 + r.val = 256 * t.val + r.val
    omega
  refine Eq.trans ?_ (congrArg (fun i : S4096x4096.Idx => ((da G U D (X (i 0).val) (T (i 0).val) (strip (i 1)) (place (i 1)) : ℝ) : EReal)) e0).symm
  rfl

/-- The squares. -/
theorem arr8 : (dats m 0 c).arrAt 8 cfg0.N = fun i : S4096x4096.Idx => ((hid G U (X (i 0).val) (strip (i 1)) (place (i 1)) : ℝ) : EReal) := by
  refine (dats m 0 c).arrAt_eq_of_covers 8 _ (by decide +kernel) fun t hf y => ?_
  rw [after0_8, out8]
  obtain ⟨r, k, rfl⟩ : ∃ (r : Fin 256) (k : Fin 4096), y = ix2 r k := ⟨y 0, y 1, ValueIdx.eq_ix2 y⟩
  refine (side_real (hd0_real (realIn m c H t)) (hd1_real (realIn m c H t)) (hd2_real (realIn m c H t)) (hd3_real (realIn m c H t)) r k).trans ?_
  have e0 : (((cfg0.win 8).blk t).view.emb (ix2 r k)) = ix2 ⟨256 * t.val + r.val, by have := t_lt t; omega⟩ k := by
    blk_ext [index2_8]
    show t.val * 256 + r.val = 256 * t.val + r.val
    omega
  refine Eq.trans ?_ (congrArg (fun i : S4096x4096.Idx => ((hid G U (X (i 0).val) (strip (i 1)) (place (i 1)) : ℝ) : EReal)) e0).symm
  rfl

/-- The loss after a grid point: the shares of the blocks up to it. -/
theorem loss_upto (y : S8x128.Idx) : ∀ (n : ℕ) (hn : n < cfg0.N),
    @Eq EReal ((outsAt0 m c n hn).2.2.2.2.2.1 y)
      ((∑ i ∈ Finset.range (n + 1), (∑ r : Fin 256, ∑ j, err G U D (X (256 * i + r.val)) (T (256 * i + r.val)) j * err G U D (X (256 * i + r.val)) (T (256 * i + r.val)) j) * (1 / 2048) : ℝ))
  | 0, hn => (congrFun (out10_first m c ⟨0, hn⟩ rfl) y).trans ((loss_real (realIn m c H ⟨0, hn⟩) y).trans (by rw [Finset.sum_range_one]))
  | n + 1, hn => by
    refine (congrFun (out10_next m c ⟨n + 1, hn⟩ (Nat.succ_ne_zero n)) y).trans ?_
    refine (congrArg₂ (fun a b : EReal => a + b) (loss_upto y n (Nat.lt_of_succ_lt hn)) (loss_real (realIn m c H ⟨n + 1, hn⟩) y) : _ = _).trans ?_
    rw [← EReal.coe_add, ← Finset.sum_range_succ (fun i => (∑ r : Fin 256, ∑ j, err G U D (X (256 * i + r.val)) (T (256 * i + r.val)) j * err G U D (X (256 * i + r.val)) (T (256 * i + r.val)) j) * (1 / 2048))]

/-- The gradient of the gains after a grid point: the shares of the blocks up to it. -/
theorem dg_upto (j : Fin 1024) : ∀ (n : ℕ) (hn : n < cfg0.N),
    @Eq EReal ((outsAt0 m c n hn).2.2.2.2.2.2 (ix2 0 j))
      ((∑ i ∈ Finset.range (n + 1), ∑ r : Fin 256, dg G U D (X (256 * i + r.val)) (T (256 * i + r.val)) j : ℝ))
  | 0, hn => (congrFun (out11_first m c ⟨0, hn⟩ rfl) (ix2 0 j)).trans ((dg_real (realIn m c H ⟨0, hn⟩) 0 j).trans (by rw [Finset.sum_range_one]))
  | n + 1, hn => by
    refine (congrFun (out11_next m c ⟨n + 1, hn⟩ (Nat.succ_ne_zero n)) (ix2 0 j)).trans ?_
    refine (congrArg₂ (fun a b : EReal => a + b) (dg_upto j n (Nat.lt_of_succ_lt hn)) (dg_real (realIn m c H ⟨n + 1, hn⟩) 0 j) : _ = _).trans ?_
    rw [← EReal.coe_add, ← Finset.sum_range_succ (fun i => ∑ r : Fin 256, dg G U D (X (256 * i + r.val)) (T (256 * i + r.val)) j)]

/-- The loss. -/
theorem arr10 : (dats m 0 c).arrAt 10 cfg0.N
    = fun _ : S8x128.Idx => (((∑ i ∈ Finset.range 4096, ∑ j, err G U D (X i) (T i) j * err G U D (X i) (T i) j) * (1 / 2048) : ℝ) : EReal) := by
  refine (dats m 0 c).arrAt_eq_of_after_last 10 t0_15 (by decide +kernel) _ fun y => ?_
  rw [after0_10]
  refine (loss_upto m c H _ 15 _).trans ?_
  rw [← Finset.sum_mul, sum_blocks (fun i => ∑ j, err G U D (X i) (T i) j * err G U D (X i) (T i) j) 16]

/-- The gradient of the gains. -/
theorem arr11 : (dats m 0 c).arrAt 11 cfg0.N
    = fun i : S1x1024.Idx => ((∑ n ∈ Finset.range 4096, dg G U D (X n) (T n) (i 1) : ℝ) : EReal) := by
  refine (dats m 0 c).arrAt_eq_of_after_last 11 t0_15 (by decide +kernel) _ fun y => ?_
  rw [after0_11]
  obtain ⟨q, j, rfl⟩ : ∃ (q : Fin 1) (j : Fin 1024), y = ix2 q j := ⟨y 0, y 1, ValueIdx.eq_ix2 y⟩
  obtain rfl : q = 0 := Subsingleton.elim _ _
  refine (dg_upto m c H j 15 _).trans ?_
  rw [sum_blocks (fun n => dg G U D (X n) (T n) j) 16]
  rfl

end Cert.Kernel2Ideal.Hand

end
-- ==== Proof.MlpRef.lean ====
/-
  The plain feed-forward reference at real arguments: every array of it is the real number that the formulas of the row give.
-/
module

public import proofs.«01_k».proof.Proof.Gen.Reference2Ideal.Read
public import proofs.«01_k».proof.Proof.MlpArr
public import Idealize.ShloMosaic.Lib.IdealHost
public import Idealize.ShloMosaic.Lib.KernelVsHost

@[expose] public section

set_option maxRecDepth 16384

noncomputable section

namespace Cert.Reference2Ideal.Hand

open Cert.Reference2Ideal Cert.Reference2Ideal.Gen Cert.Reference2Ideal.Read
open Idealize.ShloMosaic Idealize.ShloMosaic.TcCoe
open Cert.KernelIdeal.Hand (coe_sum coe_dot)
open Cert.Kernel2Ideal.Hand (strip place)
open Cert.Mlp
open scoped BigOperators

/-- A sum over the wide axis is the sum over the four strips. -/
theorem sum_strips (f : Fin 4 → Fin 1024 → ℝ) :
    ∑ k : Fin 4096, f (strip k) (place k) = (∑ k, f 0 k) + (∑ k, f 1 k) + (∑ k, f 2 k) + (∑ k, f 3 k) := by
  have e : ∑ k : Fin 4096, f (strip k) (place k) = ∑ p : Fin 4 × Fin 1024, f p.1 p.2 :=
    Equiv.sum_comp (finProdFinEquiv (m := 4) (n := 1024)).symm (fun p => f p.1 p.2)
  rw [e, Fintype.sum_prod_type, Fin.sum_univ_four]

/-- A sum of real numbers from zero. -/
theorem zero_sum {ι : Type*} [Fintype ι] {x : ι → EReal} {f : ι → ℝ} (h : ∀ k, x k = (f k : EReal)) :
    Ideal.ofBits .f32 0x00000000#32 + ∑ k, x k = ((∑ k, f k : ℝ) : EReal) := by
  rw [Ideal.ofBits_zero_f32, zero_add, ← coe_sum]
  exact Finset.sum_congr rfl fun k _ => h k

/-- The arguments are real numbers. -/
structure RealRef (x0 x1 : (⟨S4096x1024, .f32⟩ : BufTy).Contents (Elt Ideal)) (x2 : (⟨S1024, .f32⟩ : BufTy).Contents (Elt Ideal))
    (x3 : (⟨S1024x4096, .f32⟩ : BufTy).Contents (Elt Ideal)) (x4 : (⟨S4096x1024, .f32⟩ : BufTy).Contents (Elt Ideal))
    (X T : ℕ → Fin 1024 → ℝ) (G : Fin 1024 → ℝ) (U D : Fin 4 → Fin 1024 → Fin 1024 → ℝ) : Prop where
  x : ∀ i : S4096x1024.Idx, @Eq EReal (x0 i) (X (i 0).val (i 1) : ℝ)
  t : ∀ i : S4096x1024.Idx, @Eq EReal (x1 i) (T (i 0).val (i 1) : ℝ)
  g : ∀ i : S1024.Idx, @Eq EReal (x2 i) (G (i 0) : ℝ)
  u : ∀ i : S1024x4096.Idx, @Eq EReal (x3 i) (U (strip (i 1)) (i 0) (place (i 1)) : ℝ)
  d : ∀ i : S4096x1024.Idx, @Eq EReal (x4 i) (D (strip (i 0)) (place (i 0)) (i 1) : ℝ)

variable {x0 x1 : (⟨S4096x1024, .f32⟩ : BufTy).Contents (Elt Ideal)} {x2 : (⟨S1024, .f32⟩ : BufTy).Contents (Elt Ideal)}
    {x3 : (⟨S1024x4096, .f32⟩ : BufTy).Contents (Elt Ideal)} {x4 : (⟨S4096x1024, .f32⟩ : BufTy).Contents (Elt Ideal)}
    {X T : ℕ → Fin 1024 → ℝ} {G : Fin 1024 → ℝ} {U D : Fin 4 → Fin 1024 → Fin 1024 → ℝ}
    (H : RealRef x0 x1 x2 x3 x4 X T G U D)
include H

/-- The mean square and the small number. -/
theorem r6 (i : S4096x1.Idx) : @Eq EReal (val_main_v6 (F := Ideal) x0 i) (vv (X (i 0).val) : ℝ) := by
  have h1 : @Eq EReal (val_main_v2 (F := Ideal) x0 i) (∑ j, X (i 0).val j * X (i 0).val j : ℝ) := by
    rw [val_main_v2_apply, val_main_v1_apply]
    refine zero_sum (f := fun j => X (i 0).val j * X (i 0).val j) fun k => ?_
    rw [val_main_v0_apply]
    refine (congrArg₂ (fun a b : EReal => a * b) (H.x _) (H.x _) : _ = _).trans ?_
    rw [← EReal.coe_mul]; rfl
  rw [val_main_v6_apply, val_main_v4_apply, val_main_v3_apply, val_main_v5_apply]
  refine (congrArg₂ (fun a b : EReal => a + b) ((congrArg₂ Ideal.div h1 ofBits_1024).trans (Ideal.div_coe (by norm_num) _)) ofBits_eps : _ = _).trans ?_
  rw [← EReal.coe_mul, ← EReal.coe_add]; rfl

/-- Its reciprocal root. -/
theorem r7 (i : S4096x1.Idx) : @Eq EReal (val_main_v7 (F := Ideal) x0 i) (rr (X (i 0).val) : ℝ) := by
  rw [val_main_v7_apply]
  exact (congrArg Ideal.rsqrt (r6 H i)).trans (rsqrt_vv _)

/-- Minus half its cube. -/
theorem r10 (i : S4096x1.Idx) : @Eq EReal (val_main_v10 (F := Ideal) x0 i) (-(1 / 2) * (rr (X (i 0).val) * (1 / vv (X (i 0).val))) : ℝ) := by
  rw [val_main_v10_apply, val_main_v9_apply, val_main_v8_apply]
  refine (congrArg₂ (fun a b : EReal => a * b) ofBits_neg_half ((congrArg₂ Ideal.div (r7 H i) (r6 H i)).trans (Ideal.div_coe (vv_pos _).ne' _)) : _ = _).trans ?_
  rw [← EReal.coe_mul, ← EReal.coe_mul]

/-- The rows over their root mean square. -/
theorem r12 (i : S4096x1024.Idx) : @Eq EReal (val_main_v12 (F := Ideal) x0 i) (X (i 0).val (i 1) * rr (X (i 0).val) : ℝ) := by
  rw [val_main_v12_apply, val_main_v11_apply]
  refine (congrArg₂ (fun a b : EReal => a * b) (H.x i) (r7 H _) : _ = _).trans ?_
  rw [← EReal.coe_mul]

/-- The normalised rows. -/
theorem r15 (i : S4096x1024.Idx) : @Eq EReal (val_main_v15 (F := Ideal) x0 x2 i) (hn G (X (i 0).val) (i 1) : ℝ) := by
  rw [val_main_v15_apply, val_main_v14_apply, val_main_v13_apply]
  refine (congrArg₂ (fun a b : EReal => a * b) (r12 H i) (H.g _) : _ = _).trans ?_
  rw [← EReal.coe_mul]; rfl

/-- The first product. -/
theorem r16 (i : S4096x4096.Idx) :
    @Eq EReal (val_main_v16 (F := Ideal) x0 x2 x3 i) (∑ j, hn G (X (i 0).val) j * U (strip (i 1)) j (place (i 1)) : ℝ) := by
  rw [val_main_v16_apply]
  exact coe_dot _ (fun k _ => r15 H _) (fun k _ => H.u _)

/-- The rectified first product. -/
theorem r17 (i : S4096x4096.Idx) : @Eq EReal (val_main_v17 (F := Ideal) x0 x2 x3 i) (re G U (X (i 0).val) (strip (i 1)) (place (i 1)) : ℝ) := by
  rw [val_main_v17_apply, val_main_call0_v0_apply]
  refine (congrArg₂ (fun a b : EReal => max a b) (r16 H i) Ideal.ofBits_zero_f32 : _ = _).trans ?_
  exact ((EReal.coe_strictMono.monotone).map_max (a := ∑ j, hn G (X (i 0).val) j * U (strip (i 1)) j (place (i 1))) (b := 0)).symm

/-- The squares. -/
theorem r21 (i : S4096x4096.Idx) : @Eq EReal (val_main_v21 (F := Ideal) x0 x2 x3 i) (hid G U (X (i 0).val) (strip (i 1)) (place (i 1)) : ℝ) := by
  rw [val_main_v21_apply]
  refine (congrArg₂ (fun a b : EReal => a * b) (r17 H i) (r17 H i) : _ = _).trans ?_
  rw [← EReal.coe_mul]; rfl

/-- The output less the target. -/
theorem r26 (i : S4096x1024.Idx) : @Eq EReal (val_main_v26 (F := Ideal) x0 x1 x2 x3 x4 i) (err G U D (X (i 0).val) (T (i 0).val) (i 1) : ℝ) := by
  rw [val_main_v26_apply, val_main_v25_apply, val_main_v24_apply]
  have h : @Eq EReal (∑ k : Fin 4096, (val_main_v21 (F := Ideal) x0 x2 x3) (lidx_main_v24 i k) * x4 (ridx_main_v24 i k))
      (∑ k : Fin 4096, hid G U (X (i 0).val) (strip k) (place k) * D (strip k) (place k) (i 1) : ℝ) :=
    coe_dot _ (fun k _ => r21 H _) (fun k _ => H.d _)
  refine (congrArg₂ (fun a b : EReal => a - b) (congrArg₂ (fun a b : EReal => a + b) (H.x i) h) (H.t i) : _ = _).trans ?_
  rw [← EReal.coe_add, ← EReal.coe_sub, sum_strips (fun s k => hid G U (X (i 0).val) s k * D s k (i 1))]
  refine congrArg _ ?_
  unfold err
  ring

/-- The gradient of the output. -/
theorem r40 (i : S4096x1024.Idx) : @Eq EReal (val_main_v40 (F := Ideal) x0 x1 x2 x3 x4 i) (dout G U D (X (i 0).val) (T (i 0).val) (i 1) : ℝ) := by
  rw [val_main_v40_apply, val_main_v39_apply, val_main_v38_apply, val_main_v36_apply, val_main_v35_apply, val_main_v37_apply, val_main_v29_apply, val_main_v28_apply]
  have h1 : Ideal.div (Ideal.ofBits .f32 0x3F000000#32 * Ideal.ofBits .f32 0x3F800000#32) (Ideal.ofBits .f32 0x44800000#32) = ((1 / 2 * (1 / 1024) : ℝ) : EReal) := by
    rw [ofBits_1024, Ideal.ofBits_one_f32, mul_one, ofBits_half, Ideal.div_coe (by norm_num), ← EReal.coe_mul]
  refine (congrArg₂ (fun a b : EReal => a * b) h1 (congrArg₂ (fun a b : EReal => a * b) ofBits_two (r26 H i)) : _ = _).trans ?_
  rw [← EReal.coe_mul, ← EReal.coe_mul]
  refine congrArg _ ?_
  unfold dout
  ring

/-- The gradient of the first product. -/
theorem r44 (i : S4096x4096.Idx) : @Eq EReal (val_main_v44 (F := Ideal) x0 x1 x2 x3 x4 i)
    (da G U D (X (i 0).val) (T (i 0).val) (strip (i 1)) (place (i 1)) : ℝ) := by
  have h1 : @Eq EReal (val_main_v41 (F := Ideal) x0 x1 x2 x3 x4 i) (∑ j, dout G U D (X (i 0).val) (T (i 0).val) j * D (strip (i 1)) (place (i 1)) j : ℝ) := by
    rw [val_main_v41_apply]
    exact coe_dot _ (fun k _ => r40 H _) (fun k _ => H.d _)
  have h2 : @Eq EReal (val_main_v42 (F := Ideal) x0 x1 x2 x3 x4 i) (da G U D (X (i 0).val) (T (i 0).val) (strip (i 1)) (place (i 1)) : ℝ) := by
    rw [val_main_v42_apply, val_main_v23_apply, val_main_v22_apply]
    refine (congrArg₂ (fun a b : EReal => a * b) h1 (congrArg₂ (fun a b : EReal => a * b) ofBits_two (r17 H i)) : _ = _).trans ?_
    rw [← EReal.coe_mul, ← EReal.coe_mul]; rfl
  rw [val_main_v44_apply, val_main_v19_apply, val_main_v18_apply, val_main_v43_apply]
  have h3 : FloatOps.cmpf (F := Ideal) (φ := .f32) .ogt (val_main_v16 (F := Ideal) x0 x2 x3 i) (val_main_cst_3 (F := Ideal) (idx_main_v18 i))
      = BitVec.ofBool (decide ((0 : EReal) < ((∑ j, hn G (X (i 0).val) j * U (strip (i 1)) j (place (i 1)) : ℝ) : EReal))) := by
    rw [← r16 H i, ← Ideal.ofBits_zero_f32]; rfl
  rw [h3]
  by_cases hp : 0 < ∑ j, hn G (X (i 0).val) j * U (strip (i 1)) j (place (i 1))
  · rw [decide_eq_true (EReal.coe_pos.2 hp)]
    exact h2
  · rw [decide_eq_false (fun h => hp (EReal.coe_pos.1 h))]
    refine (Ideal.ofBits_zero_f32 : _ = _).trans ?_
    refine (congrArg (fun r : ℝ => (r : EReal)) ?_ : ((0 : ℝ) : EReal) = _)
    unfold da re
    rw [max_eq_right (not_lt.1 hp), mul_zero, mul_zero]

/-- The gradient of the normalised rows. -/
theorem r45 (i : S4096x1024.Idx) : @Eq EReal (val_main_v45 (F := Ideal) x0 x1 x2 x3 x4 i) (dn G U D (X (i 0).val) (T (i 0).val) (i 1) : ℝ) := by
  rw [val_main_v45_apply]
  have h : @Eq EReal (∑ k : Fin 4096, (val_main_v44 (F := Ideal) x0 x1 x2 x3 x4) (lidx_main_v45 i k) * x3 (ridx_main_v45 i k))
      (∑ k : Fin 4096, da G U D (X (i 0).val) (T (i 0).val) (strip k) (place k) * U (strip k) (i 1) (place k) : ℝ) :=
    coe_dot _ (fun k _ => r44 H _) (fun k _ => H.u _)
  refine h.trans ?_
  rw [sum_strips (fun s k => da G U D (X (i 0).val) (T (i 0).val) s k * U s (i 1) k)]
  rfl

/-- That times the gains. -/
theorem r50 (i : S4096x1024.Idx) : @Eq EReal (val_main_v50 (F := Ideal) x0 x1 x2 x3 x4 i) (dn G U D (X (i 0).val) (T (i 0).val) (i 1) * G (i 1) : ℝ) := by
  rw [val_main_v50_apply, val_main_v49_apply, val_main_v13_apply]
  refine (congrArg₂ (fun a b : EReal => a * b) (r45 H i) (H.g _) : _ = _).trans ?_
  rw [← EReal.coe_mul]; rfl

/-- The part of the gradient that comes through the mean square, over the row's entry and halved. -/
theorem r61 (i : S4096x1024.Idx) : @Eq EReal (val_main_v61 (F := Ideal) x0 x1 x2 x3 x4 i)
    ((∑ j, X (i 0).val j * (dn G U D (X (i 0).val) (T (i 0).val) j * G j)) * (-(1 / 2) * (rr (X (i 0).val) * (1 / vv (X (i 0).val)))) * (1 / 1024) : ℝ) := by
  rw [val_main_v61_apply, val_main_v60_apply]
  refine (zero_sum (f := fun _ : Fin 1 => (∑ j, X (i 0).val j * (dn G U D (X (i 0).val) (T (i 0).val) j * G j)) * (-(1 / 2) * (rr (X (i 0).val) * (1 / vv (X (i 0).val)))) * (1 / 1024)) fun k => ?_).trans (by rw [Fin.sum_univ_one])
  rw [val_main_v59_apply, val_main_v57_apply, val_main_v54_apply, val_main_v53_apply, val_main_v58_apply]
  have h : @Eq EReal ((val_main_cst_17 (F := Ideal)) (Shape.Idx.first h_S_) + ∑ j : Fin 1024, (val_main_v52 (F := Ideal) x0 x1 x2 x3 x4) (idx_main_v53 (idx_main_v54 (idx_main_v60 (idx_main_v61 i) k)) j))
      (∑ j, X (i 0).val j * (dn G U D (X (i 0).val) (T (i 0).val) j * G j) : ℝ) := by
    refine zero_sum (f := fun j => X (i 0).val j * (dn G U D (X (i 0).val) (T (i 0).val) j * G j)) fun j => ?_
    obtain rfl : k = 0 := Subsingleton.elim _ _
    rw [val_main_v52_apply]
    refine (congrArg₂ (fun a b : EReal => a * b) (H.x _) (r50 H _) : _ = _).trans ?_
    have e0 : ((idx_main_v53 (idx_main_v54 (idx_main_v60 (idx_main_v61 i) 0)) j) 0).val = (i 0).val := by
      show (i 0).val * 1 + 0 = (i 0).val
      omega
    rw [← EReal.coe_mul, e0]; rfl
  refine ((congrArg₂ Ideal.div (congrArg₂ (fun a b : EReal => a * b) h (r10 H _)) ofBits_1024).trans (Ideal.div_coe (by norm_num) _) : _ = _).trans ?_
  rw [← EReal.coe_mul, ← EReal.coe_mul]

/-- The second result: the gradient of the rows. -/
theorem r67 (i : S4096x1024.Idx) : @Eq EReal (val_main_v67 (F := Ideal) x0 x1 x2 x3 x4 i) (dh G U D (X (i 0).val) (T (i 0).val) (i 1) : ℝ) := by
  rw [val_main_v67_apply, val_main_v65_apply, val_main_v63_apply, val_main_v56_apply, val_main_v55_apply, val_main_v62_apply, val_main_v64_apply]
  refine (congrArg₂ (fun a b : EReal => a + b) (r40 H i) (congrArg₂ (fun a b : EReal => a + b) (congrArg₂ (fun a b : EReal => a + b)
    (congrArg₂ (fun a b : EReal => a * b) (r50 H i) (r7 H _)) (congrArg₂ (fun a b : EReal => a * b) (H.x i) (r61 H i))) (congrArg₂ (fun a b : EReal => a * b) (r61 H i) (H.x i))) : _ = _).trans ?_
  simp only [← EReal.coe_mul, ← EReal.coe_add]
  refine congrArg _ ?_
  show dout G U D (X (i 0).val) (T (i 0).val) (i 1) + (dn G U D (X (i 0).val) (T (i 0).val) (i 1) * G (i 1) * rr (X (i 0).val) + _ + _) = _
  unfold dh
  have e : (∑ j, X (i 0).val j * (dn G U D (X (i 0).val) (T (i 0).val) j * G j)) * rr (X (i 0).val)
      = ∑ j, dn G U D (X (i 0).val) (T (i 0).val) j * G j * (X (i 0).val j * rr (X (i 0).val)) := by
    rw [Finset.sum_mul]
    exact Finset.sum_congr rfl fun j _ => by ring
  have e2 : 1 / vv (X (i 0).val) = rr (X (i 0).val) * rr (X (i 0).val) := by
    have := rr_sq (X (i 0).val)
    have h := (vv_pos (X (i 0).val)).ne'
    field_simp
    linarith
  rw [← e, e2]
  ring

/-- The third result: the gradient of the gains. -/
theorem r68 (i : S1x1024.Idx) : @Eq EReal (val_main_v68 (F := Ideal) x0 x1 x2 x3 x4 i) (∑ n ∈ Finset.range 4096, dg G U D (X n) (T n) (i 1) : ℝ) := by
  have h1 : (i 1).val < 1024 := (i 1).isLt
  have h0 : (i 0).val < 1 := (i 0).isLt
  rw [val_main_v68_apply, val_main_v51_apply]
  refine (zero_sum (f := fun _ : Fin 1 => ∑ n ∈ Finset.range 4096, dg G U D (X n) (T n) (i 1)) fun k => ?_).trans (by rw [Fin.sum_univ_one])
  rw [val_main_v48_apply, val_main_v47_apply, Finset.sum_range]
  refine zero_sum (f := fun n : Fin 4096 => dg G U D (X n.val) (T n.val) (i 1)) fun n => ?_
  rw [val_main_v46_apply]
  refine (congrArg₂ (fun a b : EReal => a * b) (r12 H _) (r45 H _) : _ = _).trans ?_
  rw [← EReal.coe_mul]
  refine congrArg _ ?_
  obtain rfl : k = 0 := Subsingleton.elim _ _
  have e : (idx_main_v47 (idx_main_v48 (idx_main_v51 (idx_main_v68 i) 0)) n) 1 = i 1 := Fin.ext (by
    show 0 * 1024 + ((i 0).val * 1024 + (i 1).val) = (i 1).val
    omega)
  rw [e]
  exact mul_comm _ _

/-- The first result: the loss. -/
theorem r66 (i : S8x128.Idx) : @Eq EReal (val_main_v66 (F := Ideal) x0 x1 x2 x3 x4 i)
    ((∑ n ∈ Finset.range 4096, ∑ j, err G U D (X n) (T n) j * err G U D (X n) (T n) j) * (1 / 2048) : ℝ) := by
  rw [val_main_v66_apply, val_main_v34_apply, val_main_v33_apply]
  have h : ∀ n : S4096.Idx, @Eq EReal (val_main_v32 (F := Ideal) x0 x1 x2 x3 x4 n) ((∑ j, err G U D (X (n 0).val) (T (n 0).val) j * err G U D (X (n 0).val) (T (n 0).val) j) * (1 / 1024) : ℝ) := fun n => by
    rw [val_main_v32_apply, val_main_v31_apply, val_main_v30_apply]
    have h1 : @Eq EReal ((val_main_cst_7 (F := Ideal)) (Shape.Idx.first h_S_) + ∑ k : Fin 1024, (val_main_v27 (F := Ideal) x0 x1 x2 x3 x4) (idx_main_v30 n k))
        (∑ j, err G U D (X (n 0).val) (T (n 0).val) j * err G U D (X (n 0).val) (T (n 0).val) j : ℝ) := by
      refine zero_sum (f := fun j => err G U D (X (n 0).val) (T (n 0).val) j * err G U D (X (n 0).val) (T (n 0).val) j) fun k => ?_
      rw [val_main_v27_apply]
      refine (congrArg₂ (fun a b : EReal => a * b) (r26 H _) (r26 H _) : _ = _).trans ?_
      rw [← EReal.coe_mul]; rfl
    refine ((congrArg₂ Ideal.div h1 ofBits_1024).trans (Ideal.div_coe (by norm_num) _) : _ = _).trans ?_
    rw [← EReal.coe_mul]
  have hs : ∑ n : S4096.Idx, ((∑ j, err G U D (X (n 0).val) (T (n 0).val) j * err G U D (X (n 0).val) (T (n 0).val) j) * (1 / 1024))
      = (∑ n ∈ Finset.range 4096, ∑ j, err G U D (X n) (T n) j * err G U D (X n) (T n) j) * (1 / 1024) := by
    rw [← Finset.sum_mul, Finset.sum_range]
    refine congrArg (fun a : ℝ => a * (1 / 1024)) ?_
    exact Fintype.sum_equiv ⟨fun n : S4096.Idx => n 0, fun n => ValueIdx.ix1 n, fun n => (ValueIdx.eq_ix1 n).symm, fun n => rfl⟩ _ (fun n : Fin 4096 => ∑ j, err G U D (X n.val) (T n.val) j * err G U D (X n.val) (T n.val) j) fun n => rfl
  refine (congrArg₂ (fun a b : EReal => a * b) ofBits_half (zero_sum h) : _ = _).trans ?_
  rw [hs, ← EReal.coe_mul]
  refine congrArg _ ?_
  ring

end Cert.Reference2Ideal.Hand

end
-- ==== Proof.MlpValue.lean ====
/- The feed-forward call's results on finite arguments: what the run leaves in the seven result arrays is, element by
   element, what the plain reference computes; and the runs of the three feed-forward programs. -/
module

public import proofs.«01_k».proof.Defs
public import proofs.«01_k».proof.Proof.MlpRef
public import proofs.«01_k».proof.Proof.Value
public import proofs.«01_k».proof.Proof.Gen.Kernel2
public import proofs.«01_k».proof.Proof.Gen.Kernel2Ideal.Value
public import proofs.«01_k».proof.Proof.Gen.Pre_finite2

@[expose] public section

set_option maxRecDepth 16384

noncomputable section

namespace Cert.Proof

open Idealize.ShloMosaic hiding ix1 ix2 ix3 ix4
open Idealize.ShloMosaic.TcCoe Idealize.ShloMosaic.ValueIdx Idealize.SL.Sem
open Cert.Kernel2Ideal.Hand (RealArgs strip place)
open Cert.Reference2Ideal.Hand (RealRef)
open Cert.KernelIdeal.Hand (real_of_finite)

/-- The arguments of the feed-forward reference, as arrays. -/
abbrev Mem2 := (ℓ : Loc Cert.Kernel2Ideal.nD Cert.Kernel2Ideal.τ Cert.Kernel2Ideal.sig) → Buf (Elt Ideal) ℓ

/-- Finite arguments are real numbers, numbered as the proofs about the call number them. -/
theorem exists_realArgs (m : Mem2) (c : Dev Cert.Kernel2Ideal.nD)
    (h0 : ∀ i : Cert.Kernel2Ideal.S4096x1024.Idx, ∃ r : ℝ, @Eq EReal (m ((c : Thread Cert.Kernel2Ideal.nD Cert.Kernel2Ideal.τ).loc Cert.Kernel2Ideal.main_arg0) i) r)
    (h1 : ∀ i : Cert.Kernel2Ideal.S4096x1024.Idx, ∃ r : ℝ, @Eq EReal (m ((c : Thread Cert.Kernel2Ideal.nD Cert.Kernel2Ideal.τ).loc Cert.Kernel2Ideal.main_arg1) i) r)
    (h2 : ∀ i : Cert.Kernel2Ideal.S1024.Idx, ∃ r : ℝ, @Eq EReal (m ((c : Thread Cert.Kernel2Ideal.nD Cert.Kernel2Ideal.τ).loc Cert.Kernel2Ideal.main_arg2) i) r)
    (h3 : ∀ i : Cert.Kernel2Ideal.S1024x4096.Idx, ∃ r : ℝ, @Eq EReal (m ((c : Thread Cert.Kernel2Ideal.nD Cert.Kernel2Ideal.τ).loc Cert.Kernel2Ideal.main_arg3) i) r)
    (h4 : ∀ i : Cert.Kernel2Ideal.S4096x1024.Idx, ∃ r : ℝ, @Eq EReal (m ((c : Thread Cert.Kernel2Ideal.nD Cert.Kernel2Ideal.τ).loc Cert.Kernel2Ideal.main_arg4) i) r) :
    ∃ X T G U D, RealArgs m c X T G U D := by
  choose f0 e0 using h0
  choose f1 e1 using h1
  choose f2 e2 using h2
  choose f3 e3 using h3
  choose f4 e4 using h4
  refine ⟨fun i j => f0 (ix2 ⟨i % 4096, Nat.mod_lt _ (by decide)⟩ j), fun i j => f1 (ix2 ⟨i % 4096, Nat.mod_lt _ (by decide)⟩ j), fun j => f2 (ix1 j),
    fun s j k => f3 (ix2 j ⟨1024 * s.val + k.val, by omega⟩), fun s k j => f4 (ix2 ⟨1024 * s.val + k.val, by omega⟩ j), ?_, ?_, ?_, ?_, ?_⟩
  · intro i j
    exact (e0 _).trans (congrArg (fun k => (f0 (ix2 k j) : EReal)) (Fin.ext (Nat.mod_eq_of_lt i.isLt).symm))
  · intro i j
    exact (e1 _).trans (congrArg (fun k => (f1 (ix2 k j) : EReal)) (Fin.ext (Nat.mod_eq_of_lt i.isLt).symm))
  · exact fun j => e2 _
  · exact fun s j k => e3 _
  · exact fun s k j => e4 _

/-- A wide column is its strip's start and its place in it. -/
theorem strip_place (k : Fin 4096) : k = ⟨1024 * (strip k).val + (place k).val, by omega⟩ :=
  Fin.ext (show k.val = 1024 * (k.val / 1024) + k.val % 1024 by omega)

/-- The same numbers, numbered as the proofs about the reference number them. -/
theorem realRef {m : Mem2} {c : Dev Cert.Kernel2Ideal.nD} {X T : ℕ → Fin 1024 → ℝ} {G : Fin 1024 → ℝ} {U D : Fin 4 → Fin 1024 → Fin 1024 → ℝ}
    (H : RealArgs m c X T G U D) :
    RealRef (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4)) X T G U D where
  x i := (congrArg (m ((c : Thread Cert.Kernel2Ideal.nD Cert.Kernel2Ideal.τ).loc Cert.Kernel2Ideal.main_arg0)) (ValueIdx.eq_ix2 i)).trans (H.x (i 0) (i 1))
  t i := (congrArg (m ((c : Thread Cert.Kernel2Ideal.nD Cert.Kernel2Ideal.τ).loc Cert.Kernel2Ideal.main_arg1)) (ValueIdx.eq_ix2 i)).trans (H.t (i 0) (i 1))
  g i := (congrArg (m ((c : Thread Cert.Kernel2Ideal.nD Cert.Kernel2Ideal.τ).loc Cert.Kernel2Ideal.main_arg2)) (ValueIdx.eq_ix1 i)).trans (H.g (i 0))
  u i := (congrArg (m ((c : Thread Cert.Kernel2Ideal.nD Cert.Kernel2Ideal.τ).loc Cert.Kernel2Ideal.main_arg3))
    ((ValueIdx.eq_ix2 i).trans (congrArg (ix2 (i 0)) (strip_place (i 1))))).trans (H.u (strip (i 1)) (i 0) (place (i 1)))
  d i := (congrArg (m ((c : Thread Cert.Kernel2Ideal.nD Cert.Kernel2Ideal.τ).loc Cert.Kernel2Ideal.main_arg4))
    ((ValueIdx.eq_ix2 i).trans (congrArg (fun k => ix2 k (i 1)) (strip_place (i 0))))).trans (H.d (strip (i 0)) (place (i 0)) (i 1))

/-- The feed-forward call and its plain reference end with the same seven results on finite arguments. -/
theorem algebraic_mlp : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hargs
  refine ⟨fun c => (Cert.Kernel2Ideal.Gen.dats m 0 c).arrAt 10 Cert.Kernel2Ideal.cfg0.N, fun c => (Cert.Kernel2Ideal.Gen.dats m 0 c).arrAt 5 Cert.Kernel2Ideal.cfg0.N,
    fun c => (Cert.Kernel2Ideal.Gen.dats m 0 c).arrAt 11 Cert.Kernel2Ideal.cfg0.N, fun c => (Cert.Kernel2Ideal.Gen.dats m 0 c).arrAt 6 Cert.Kernel2Ideal.cfg0.N,
    fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 9 Cert.Kernel2Ideal.cfg0.N, ?_, ?_⟩
  · refine (θ_run (Cert.Kernel2Ideal.defs (F := Ideal)) _ _).mono (fun r h c => ?_) (Cert.Kernel2Ideal.Value.run_blocks (F := Ideal) m g)
    obtain ⟨k5, k6, k7, k8, k9, k10, k11, ka⟩ := h c
    exact ⟨k10, k5, k11, k6, k7, k8, k9, ka⟩
  · refine (θ_run (Cert.Reference2Ideal.defs (F := Ideal)) _ _).mono (fun r h c => ?_) (Cert.Reference2Ideal.Value.run (F := Ideal) m' g')
    obtain ⟨e0, e1, e2, e3, e4⟩ := hargs c
    obtain ⟨h0, h1, h2, h3, h4⟩ := hpre c
    obtain ⟨X, T, G, U, D, H⟩ := exists_realArgs m c (fun i => real_of_finite _ (congrFun h0 i)) (fun i => real_of_finite _ (congrFun h1 i))
      (fun i => real_of_finite _ (congrFun h2 i)) (fun i => real_of_finite _ (congrFun h3 i)) (fun i => real_of_finite _ (congrFun h4 i))
    have R := realRef H
    rw [← e0, ← e1, ← e2, ← e3, ← e4] at R
    obtain ⟨k66, k67, k68, k69, k70, k71, k72, ka⟩ := h c
    refine ⟨(k66.trans (Cert.Reference2Ideal.Read.val_main_v66_eq (F := Ideal) m' c)).trans ?_, (k67.trans (Cert.Reference2Ideal.Read.val_main_v67_eq (F := Ideal) m' c)).trans ?_,
      (k68.trans (Cert.Reference2Ideal.Read.val_main_v68_eq (F := Ideal) m' c)).trans ?_, (k69.trans (Cert.Reference2Ideal.Read.val_main_v69_eq (F := Ideal) _ _)).trans ?_,
      (k70.trans (Cert.Reference2Ideal.Read.val_main_v70_eq (F := Ideal) m' c)).trans ?_, (k71.trans (Cert.Reference2Ideal.Read.val_main_v71_eq (F := Ideal) _ _ _)).trans ?_,
      (k72.trans (Cert.Reference2Ideal.Read.val_main_v72_eq (F := Ideal) _ _ _ _ _)).trans ?_, ka⟩
    · exact (funext fun i => Cert.Reference2Ideal.Hand.r66 R i).trans (Cert.Kernel2Ideal.Hand.arr10 m c H).symm
    · exact (funext fun i => Cert.Reference2Ideal.Hand.r67 R i).trans (Cert.Kernel2Ideal.Hand.arr5 m c H).symm
    · exact (funext fun i => Cert.Reference2Ideal.Hand.r68 R i).trans (Cert.Kernel2Ideal.Hand.arr11 m c H).symm
    · exact (funext fun i => (Cert.Reference2Ideal.Read.val_main_v69_apply (F := Ideal) _ _ i).trans (Cert.Reference2Ideal.Hand.r15 R i)).trans (Cert.Kernel2Ideal.Hand.arr6 m c H).symm
    · exact (funext fun i => (Cert.Reference2Ideal.Read.val_main_v70_apply (F := Ideal) _ _ _ _ _ i).trans (Cert.Reference2Ideal.Hand.r44 R i)).trans (Cert.Kernel2Ideal.Hand.arr7 m c H).symm
    · exact (funext fun i => (Cert.Reference2Ideal.Read.val_main_v71_apply (F := Ideal) _ _ _ i).trans (Cert.Reference2Ideal.Hand.r21 R i)).trans (Cert.Kernel2Ideal.Hand.arr8 m c H).symm
    · exact (funext fun i => (Cert.Reference2Ideal.Read.val_main_v72_apply (F := Ideal) _ _ _ _ _ i).trans (Cert.Reference2Ideal.Hand.r40 R i)).trans (Cert.Kernel2Ideal.Hand.arr9 m c H).symm

/-- The feed-forward call runs, leaves its arguments as launched and ends with every counter at zero. -/
theorem frame_kernel2 : Cert.quiescent_Kernel2 (hKernel2 := Cert.Kernel2.Gen.facts) := fun m ρ _ =>
  Eq.mp (by sl_kernel_rfl) (Cert.Kernel2Ideal.Gen.frame (F := Bits) m ρ)

/-- The idealized feed-forward call runs, leaves its arguments as launched and ends with every counter at zero. -/
theorem frame_kernel2Ideal : Cert.quiescent_Kernel2Ideal (hKernel2Ideal := Cert.Kernel2Ideal.Gen.facts) := fun m ρ _ =>
  Cert.Kernel2Ideal.Gen.frame (F := Ideal) m ρ

/-- The feed-forward reference runs, leaves its arguments as launched and ends with every counter at zero. -/
theorem frame_reference2Ideal : Cert.quiescent_Reference2Ideal (hReference2Ideal := Cert.Reference2Ideal.Gen.facts) := fun m ρ _ =>
  (θ_run (Cert.Reference2Ideal.defs (F := Ideal)) _ _).mono
    (fun r h => ⟨fun c => (h c).2.2.2.2.2.2.2, sem_eq_zero_of_no_sems (by decide) r.2⟩)
    (Cert.Reference2Ideal.Value.run (F := Ideal) m ρ)

end Cert.Proof

end
-- ==== Proof.Wgrad.lean ====
/-
  What the gradients of the weights have in common: the product of two arrays' columns over the rows, taken a stretch of
  rows at a time and added up.
-/
module

public import Idealize.ShloMosaic.Lib.MatmulPlain
public import Idealize.ShloMosaic.Lib.ValueLayout
public import Idealize.ShloMosaic.Lib.Pipeline.Value
public import Mathlib.Algebra.BigOperators.Intervals

@[expose] public section

noncomputable section

namespace Cert.Wgrad

open Idealize.ShloMosaic Idealize.ShloMosaic.TcCoe
open Idealize.ShloMosaic.ValueIdx
open scoped BigOperators

variable {n a b : ℕ}

/-- An array's element by two natural numbers, zero outside the array. -/
def at2 (x : (⟨2, ![n, a]⟩ : Shape).Idx → EReal) (k p : ℕ) : EReal :=
  if h : k < n ∧ p < a then x (ix2 ⟨k, h.1⟩ ⟨p, h.2⟩) else 0

/-- Inside the array it is the element. -/
theorem at2_ix (x : (⟨2, ![n, a]⟩ : Shape).Idx → EReal) (k : Fin n) (p : Fin a) : at2 x k.val p.val = x (ix2 k p) :=
  dif_pos ⟨k.isLt, p.isLt⟩

/-- Inside the array it is the element, by the numbers. -/
theorem at2_of (x : (⟨2, ![n, a]⟩ : Shape).Idx → EReal) {k p : ℕ} (hk : k < n) (hp : p < a) : at2 x k p = x (ix2 ⟨k, hk⟩ ⟨p, hp⟩) :=
  dif_pos ⟨hk, hp⟩

/-- The product of column `p` of one array with column `q` of another, over all the rows. -/
def col (x : (⟨2, ![n, a]⟩ : Shape).Idx → EReal) (y : (⟨2, ![n, b]⟩ : Shape).Idx → EReal) (p q : ℕ) : EReal :=
  ∑ k ∈ Finset.range n, at2 x k p * at2 y k q

/-- The product of two columns as a sum over the rows. -/
theorem col_eq (x : (⟨2, ![n, a]⟩ : Shape).Idx → EReal) (y : (⟨2, ![n, b]⟩ : Shape).Idx → EReal) {p q : ℕ} (hp : p < a) (hq : q < b) :
    col x y p q = ∑ k : Fin n, x (ix2 k ⟨p, hp⟩) * y (ix2 k ⟨q, hq⟩) := by
  unfold col
  rw [Finset.sum_range]
  refine Finset.sum_congr rfl fun k _ => ?_
  rw [at2_of x k.isLt hp, at2_of y k.isLt hq]

/-- Stretches of `s` terms each, added one after the other to what the last left, come to the sum of all the terms so far. -/
theorem accum {N J s : ℕ} (o : (t : ℕ) → t < N → EReal) (f : ℕ → EReal) (g : ℕ)
    (hA : ∀ h : J * g < N, o (J * g) h = ∑ k : Fin s, f k.val)
    (hB : ∀ j (h : J * g + (j + 1) < N), j + 1 < J → o (J * g + (j + 1)) h = o (J * g + j) (by omega) + ∑ k : Fin s, f (s * (j + 1) + k.val)) :
    ∀ j (h : J * g + j < N), j < J → o (J * g + j) h = ∑ k ∈ Finset.range (s * (j + 1)), f k
  | 0, h, _ => by
    rw [Nat.zero_add, Nat.mul_one, Finset.sum_range]
    exact hA h
  | j + 1, h, hj => by
    rw [hB j h hj, accum o f g hA hB j (by omega) (by omega), Nat.mul_succ s (j + 1), Finset.sum_range_add]
    exact congrArg _ (Finset.sum_range (fun k => f (s * (j + 1) + k))).symm

/-- Points taken in groups of `J`, the first of a group starting a sum with its stretch of `s` terms and each later one adding its own:
    the last of a group holds the sum of all `s * J` terms of the group. -/
theorem accum_last {N J s : ℕ} (hJ : 0 < J) (o : (t : ℕ) → t < N → EReal) (f : ℕ → ℕ → EReal)
    (hA : ∀ t (h : t < N), t % J = 0 → o t h = ∑ k : Fin s, f (t / J) (s * (t % J) + k.val))
    (hB : ∀ t (h : t < N), ¬t % J = 0 → o t h = o (t - 1) (by omega) + ∑ k : Fin s, f (t / J) (s * (t % J) + k.val))
    (t : ℕ) (h : t < N) (ht : t % J = J - 1) : o t h = ∑ k ∈ Finset.range (s * J), f (t / J) k := by
  have et : J * (t / J) + (J - 1) = t := by have := Nat.div_add_mod t J; omega
  have key := accum (N := N) (J := J) (s := s) o (f (t / J)) (t / J)
    (fun h' => (hA _ h' (Nat.mul_mod_right J _)).trans (by
      rw [Nat.mul_div_cancel_left _ hJ, Nat.mul_mod_right, Nat.mul_zero]
      simp only [Nat.zero_add]))
    (fun j h' hj => (hB _ h' (by rw [Nat.mul_add_mod, Nat.mod_eq_of_lt hj]; omega)).trans (by
      have e1 : (J * (t / J) + (j + 1)) / J = t / J := by rw [Nat.mul_add_div hJ, Nat.div_eq_of_lt hj, Nat.add_zero]
      have e2 : (J * (t / J) + (j + 1)) % J = j + 1 := by rw [Nat.mul_add_mod, Nat.mod_eq_of_lt hj]
      exact congrArg₂ (fun u v : EReal => u + v) rfl (Finset.sum_congr rfl fun k _ => by rw [e1, e2])))
    (J - 1) (by omega) (by omega)
  rw [Nat.sub_add_cancel hJ] at key
  simp only [et] at key
  exact key

section Payload

variable {K M N : ℕ} {φ₁ φ₂ : FTy}

/-- A product of columns, `[K,M]ᵀ × [K,N]`, is the accumulator plus the sum over the rows. -/
theorem matmul_cols_apply (d : DotDims ⟨2, ![K, M]⟩ ⟨2, ![K, N]⟩ ⟨2, ![M, N]⟩) (hlc : d.lhsContracting = [0]) (hrc : d.rhsContracting = [0])
    (hln : d.lhsNonContracting = [1]) (hrn : d.rhsNonContracting = [1]) (hlb : d.lhsBatch = []) (hrb : d.rhsBatch = []) (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    (matmul d prec lhs rhs acc (ix2 r c) : EReal) = acc (ix2 r c) + ∑ k : Fin K, (lhs (ix2 k r) * rhs (ix2 k c) : EReal) := by
  obtain ⟨lc, rc, ln, rn, lb, rb, wf⟩ := d
  obtain rfl : lc = [0] := hlc
  obtain rfl : rc = [0] := hrc
  obtain rfl : ln = [1] := hln
  obtain rfl : rn = [1] := hrn
  obtain rfl : lb = [] := hlb
  obtain rfl : rb = [] := hrb
  refine (Ideal.matmul_apply _ _ _ _ _ _).trans ?_
  rw [← Equiv.sum_comp (contrEquiv1 _ K rfl rfl).symm]
  refine congrArg (acc (ix2 r c) + ·) (Finset.sum_congr rfl fun k _ => ?_)
  have hk := contrEquiv1_symm_val (⟨[0], [0], [1], [1], [], [], wf⟩ : DotDims ⟨2, ![K, M]⟩ ⟨2, ![K, N]⟩ ⟨2, ![M, N]⟩) K rfl rfl k
  refine congrArg₂ (fun u v : EReal => u * v) (congrArg lhs ?_) (congrArg rhs ?_)
  · funext q; apply Fin.ext
    match q with
    | ⟨0, _⟩ => exact hk
    | ⟨1, _⟩ => rfl
  · funext q; apply Fin.ext
    match q with
    | ⟨0, _⟩ => exact hk
    | ⟨1, _⟩ => rfl

/-- The first stretch of rows: the product of its columns. -/
theorem part_apply (d : DotDims ⟨2, ![K, M]⟩ ⟨2, ![K, N]⟩ ⟨2, ![M, N]⟩) (hlc : d.lhsContracting = [0]) (hrc : d.rhsContracting = [0])
    (hln : d.lhsNonContracting = [1]) (hrn : d.rhsNonContracting = [1]) (hlb : d.lhsBatch = []) (hrb : d.rhsBatch = [])
    (lhs : FVec Ideal ⟨2, ![K, M]⟩ φ₁) (rhs : FVec Ideal ⟨2, ![K, N]⟩ φ₂) (h1 h2) (r : Fin M) (c : Fin N) :
    (matmul d none (shapeCast ⟨2, ![K, M]⟩ lhs h1) (shapeCast ⟨2, ![K, N]⟩ rhs h2) (constant (F := Ideal) ⟨2, ![M, N]⟩ .f32 0x00000000#32) (ix2 r c) : EReal)
      = ∑ k : Fin K, (lhs (ix2 k r) * rhs (ix2 k c) : EReal) := by
  rw [matmul_cols_apply d hlc hrc hln hrn hlb hrb, shapeCast_self, shapeCast_self]
  refine (congrArg (· + _) (Ideal.ofBits_zero_f32 : _ = (0 : EReal))).trans (zero_add _)

/-- A product put behind an axis of one, read there. -/
theorem lift_apply (u : (⟨2, ![M, N]⟩ : Shape).Idx → EReal) (h) (r : Fin M) (c : Fin N) :
    shapeCast ⟨3, ![1, M, N]⟩ u h (ix3 0 r c) = u (ix2 r c) := shapeCast_ab_1ab_apply u h 0 r c

/-- A product added, behind an axis of one, to what was there. -/
theorem lift_add_apply (u : FVec Ideal ⟨2, ![M, N]⟩ .f32) (w : FVec Ideal ⟨3, ![1, M, N]⟩ .f32) (h h') (r : Fin M) (c : Fin N) :
    (shapeCast ⟨3, ![1, M, N]⟩ (addf (shapeCast ⟨2, ![M, N]⟩ w h) u : FVec Ideal ⟨2, ![M, N]⟩ .f32) h' (ix3 0 r c) : EReal) = w (ix3 0 r c) + u (ix2 r c) :=
  (shapeCast_ab_1ab_apply _ h' 0 r c).trans (congrArg (fun v : EReal => v + u (ix2 r c)) (shapeCast_1ab_ab_apply w h r c))

/-- A product added to what was there. -/
theorem flat_add_apply (u w : FVec Ideal ⟨2, ![M, N]⟩ .f32) (h) (r : Fin M) (c : Fin N) :
    (addf (shapeCast ⟨2, ![M, N]⟩ w h) u (ix2 r c) : EReal) = w (ix2 r c) + u (ix2 r c) := by
  rw [shapeCast_self]; rfl

end Payload

end Cert.Wgrad

end
-- ==== Proof.W3.lean ====
/-
  The gradient of the second feed-forward weights: the call leaves in each shard's rows the product of the two arrays' columns over all
  the rows, and what else was in the buffer is kept.
-/
module

public import proofs.«01_k».proof.Defs
public import proofs.«01_k».proof.Proof.Wgrad
public import proofs.«01_k».proof.Proof.Gen.Kernel3
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Kernel3Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel3Ideal Cert.Kernel3Ideal.Gen
open Cert.Wgrad
open scoped BigOperators

variable (m : (ℓ : Loc nD τ sig) → Buf (Elt Ideal) ℓ) (c : Dev nD)

/-- The block index of the first array at a point. -/
theorem index3_0 : ∀ t : Fin cfg0.N, win0_0.index t = ![t.val % 2, t.val / 2] :=
  (by decide +kernel : ∀ t : Fin grid0.N, win0_0.index t = ![t.val % 2, t.val / 2])
/-- The block index of the second array at a point. -/
theorem index3_1 : ∀ t : Fin cfg0.N, win0_1.index t = ![t.val % 2, 0] :=
  (by decide +kernel : ∀ t : Fin grid0.N, win0_1.index t = ![t.val % 2, 0])
/-- The block index of the result at a point. -/
theorem index3_2 : ∀ t : Fin cfg0.N, win0_2.index t = ![t.val / 4, t.val / 2 % 2, 0] :=
  (by decide +kernel : ∀ t : Fin grid0.N, win0_2.index t = ![t.val / 4, t.val / 2 % 2, 0])

/-- A grid point's number is below 16. -/
theorem t_lt (t : Fin cfg0.N) : t.val < 16 := lt_of_lt_of_eq t.isLt N_0

/-- The first array as the call is entered with it. -/
theorem V_x : (V m c main_v0 : S4096x4096.Idx → EReal) = m ((c : Thread nD τ).loc main_arg0) := by
  show StableHlo.after hostOps0 (fun b => m (c, b)) (Proc.devRef .tc main_v0) = _
  after_results_simp <;> rfl

/-- The second array as the call is entered with it. -/
theorem V_y : (V m c main_v1 : S4096x1024.Idx → EReal) = m ((c : Thread nD τ).loc main_arg1) := by
  show StableHlo.after hostOps0 (fun b => m (c, b)) (Proc.devRef .tc main_v1) = _
  after_results_simp <;> rfl

/-- The result's buffer as the call is entered with it. -/
theorem V_d : V m c main_v2 = m ((c : Thread nD τ).loc main_arg2) := by
  show StableHlo.after hostOps0 (fun b => m (c, b)) (Proc.devRef .tc main_v2) = _
  after_results_simp <;> rfl

/-- The first array. -/
abbrev aX : S4096x4096.Idx → EReal := m ((c : Thread nD τ).loc main_arg0)
/-- The second array. -/
abbrev aY : S4096x1024.Idx → EReal := m ((c : Thread nD τ).loc main_arg1)

/-- The first array's rows of a grid point. -/
theorem bX_apply (t : Fin cfg0.N) (k : Fin 2048) (r : Fin 512) :
    (iblk m c 0 t (ix2 k r) : EReal) = at2 (aX m c) (2048 * (t.val % 2) + k.val) (512 * (t.val / 2) + r.val) := by
  have ht := t_lt t
  rw [at2_of (aX m c) (by omega) (by omega)]
  refine Eq.trans ?_ (congrFun (V_x m c) _)
  unfold iblk
  refine congrArg (V m c main_v0) (?_ : ((cfg0.win 0).blk t).view.emb (ix2 k r) = _)
  blk_ext [index3_0]
  · show t.val % 2 * 2048 + k.val = 2048 * (t.val % 2) + k.val
    omega
  · show t.val / 2 * 512 + r.val = 512 * (t.val / 2) + r.val
    omega

/-- The second array's rows of a grid point. -/
theorem bY_apply (t : Fin cfg0.N) (k : Fin 2048) (j : Fin 1024) :
    (iblk m c 1 t (ix2 k j) : EReal) = at2 (aY m c) (2048 * (t.val % 2) + k.val) j.val := by
  have ht := t_lt t
  rw [at2_of (aY m c) (by omega) (by omega)]
  refine Eq.trans ?_ (congrFun (V_y m c) _)
  unfold iblk
  refine congrArg (V m c main_v1) (?_ : ((cfg0.win 1).blk t).view.emb (ix2 k j) = _)
  blk_ext [index3_1]
  show t.val % 2 * 2048 + k.val = 2048 * (t.val % 2) + k.val
  omega

/-- The term a row adds to an element of shard `s`'s gradient. -/
abbrev term (s : ℕ) (r : Fin 512) (j : Fin 1024) (k : ℕ) : EReal := at2 (aX m c) k (512 * s + r.val) * at2 (aY m c) k j.val

/-- The product of a grid point's stretch of rows. -/
theorem part3 (t : Fin cfg0.N) (r : Fin 512) (j : Fin 1024) :
    (k0_pay1 (iblk m c 0 t) (iblk m c 1 t) (ix2 r j) : EReal) = ∑ k : Fin 2048, term m c (t.val / 2) r j (2048 * (t.val % 2) + k.val) :=
  (part_apply dot_S2048x512_S2048x1024_S512x1024_0_0_1_1_n_n rfl rfl rfl rfl rfl rfl _ _ _ _ r j).trans
    (Finset.sum_congr rfl fun k _ => congrArg₂ (fun u v : EReal => u * v) (bX_apply m c t k r) (bY_apply m c t k j))

/-- The first stretch starts the sum. -/
theorem first3 (t : Fin cfg0.N) (h0 : t.val % 2 = 0) (r : Fin 512) (j : Fin 1024) :
    (outsAt0 m c t.val t.isLt (ix3 0 r j) : EReal) = ∑ k : Fin 2048, term m c (t.val / 2) r j (2048 * (t.val % 2) + k.val) := by
  have e : outsAt0 m c t.val t.isLt = k0_pay2 (iblk m c 0 t) (iblk m c 1 t) := by
    rw [outsAt0_A m c t h0 (by omega)]; frame_out
  rw [e]
  exact (lift_apply _ _ r j).trans (part3 m c t r j)

/-- The next stretch adds to it. -/
theorem next3 (t : Fin cfg0.N) (h0 : ¬t.val % 2 = 0) (r : Fin 512) (j : Fin 1024) :
    (outsAt0 m c t.val t.isLt (ix3 0 r j) : EReal) = outsAt0 m c (t.val - 1) (Nat.lt_of_le_of_lt (Nat.sub_le _ _) t.isLt) (ix3 0 r j)
      + ∑ k : Fin 2048, term m c (t.val / 2) r j (2048 * (t.val % 2) + k.val) := by
  have e : outsAt0 m c t.val t.isLt = k0_pay3 (iblk m c 0 t) (iblk m c 1 t) (outsAt0 m c (t.val - 1) (Nat.lt_of_le_of_lt (Nat.sub_le _ _) t.isLt)) := by
    rw [outsAt0_B m c t h0 (by omega)]; frame_out
  rw [e]
  exact (lift_add_apply _ _ _ _ r j).trans (congrArg _ (part3 m c t r j))

/-- When a shard's block is written back it holds the product of the columns over all the rows. -/
theorem last3 (t : Fin cfg0.N) (h : t.val % 2 = 1) (r : Fin 512) (j : Fin 1024) :
    (outsAt0 m c t.val t.isLt (ix3 0 r j) : EReal) = col (aX m c) (aY m c) (512 * (t.val / 2) + r.val) j.val :=
   accum_last (N := cfg0.N) (J := 2) (s := 2048) (by decide) (fun n hn => (outsAt0 m c n hn (ix3 0 r j) : EReal)) (fun g => term m c g r j)
    (fun t h h0 => first3 m c ⟨t, h⟩ h0 r j) (fun t h h0 => next3 m c ⟨t, h⟩ h0 r j) t.val t.isLt h

end Cert.Kernel3Ideal.Hand

namespace Cert.Reference3Ideal.Hand

open Idealize.ShloMosaic hiding ix1 ix2 ix3 ix4
open Idealize.ShloMosaic.TcCoe Idealize.ShloMosaic.ValueIdx
open Cert.Reference3Ideal Cert.Reference3Ideal.Gen Cert.Reference3Ideal.Read
open Cert.Wgrad

variable (x : S4096x4096.Idx → EReal) (y : S4096x1024.Idx → EReal) (d : S4x2560x1024.Idx → EReal)

/-- The reference's product. -/
theorem prod_apply (p : Fin 4096) (q : Fin 1024) : (val_main_v1 (F := Ideal) x y (ix2 p q) : EReal) = col x y p.val q.val := by
  refine (val_main_v1_apply x y (ix2 p q)).trans (Eq.trans ?_ (col_eq x y p.isLt q.isLt).symm)
  refine Finset.sum_congr rfl fun k _ => ?_
  refine congrArg₂ (fun u v : EReal => u * v) ((val_main_v0_apply (F := Ideal) x _).trans (congrArg x ?_)) (congrArg y ?_)
  · exact ValueIdx.eq_ix2 _
  · exact ValueIdx.eq_ix2 _

/-- The reference where the call writes. -/
theorem ref_in (s : Fin 4) (r : Fin 1024) (j : Fin 1024) :
    (val_main_v4 (F := Ideal) x y d (ix3 s ⟨r.val, by omega⟩ j) : EReal) = col x y (1024 * s.val + r.val) j.val := by
  unfold val_main_v4
  refine (concatenate_pair_apply_left (s₁ := S4x1024x1024) (s₂ := S4x1536x1024) (t := S4x2560x1024) 1 (val_main_v2 (F := Ideal) x y) (val_main_v3 (F := Ideal) d) _ (ix3 s ⟨r.val, by omega⟩ j) rfl (ix3 s r j)
    (fun b => ?_)).trans ?_
  · match b with
    | ⟨0, _⟩ => rfl
    | ⟨1, _⟩ => rfl
    | ⟨2, _⟩ => rfl
  refine (val_main_v2_apply (F := Ideal) x y _).trans ?_
  refine Eq.trans (congrArg (val_main_v1 (F := Ideal) x y) (?_ : _ = ix2 ⟨1024 * s.val + r.val, by omega⟩ j)) (prod_apply x y ⟨1024 * s.val + r.val, by omega⟩ j)
  refine (ValueIdx.eq_ix2 _).trans (congrArg₂ ix2 (Fin.ext ?_) (Fin.ext ?_))
  · show ((s.val * 1024 + r.val) * 1024 + j.val) / 1024 = 1024 * s.val + r.val
    omega
  · show ((s.val * 1024 + r.val) * 1024 + j.val) % 1024 = j.val
    omega

/-- The reference elsewhere. -/
theorem ref_out (i : S4x2560x1024.Idx) (h : 1024 ≤ (i 1).val) : (val_main_v4 (F := Ideal) x y d i : EReal) = d i := by
  have h2 : (i 1).val < 2560 := (i 1).isLt
  unfold val_main_v4
  refine (concatenate_pair_apply_right (s₁ := S4x1024x1024) (s₂ := S4x1536x1024) (t := S4x2560x1024) 1 (val_main_v2 (F := Ideal) x y) (val_main_v3 (F := Ideal) d) _ i rfl rfl
    (ix3 (i 0) ⟨(i 1).val - 1024, by omega⟩ (i 2)) (fun b hb => ?_) (show (i 1).val - 1024 + 1024 = (i 1).val by omega)).trans ?_
  · match b with
    | ⟨0, _⟩ => rfl
    | ⟨1, _⟩ => exact absurd rfl hb
    | ⟨2, _⟩ => rfl
  refine (val_main_v3_apply (F := Ideal) d _).trans (congrArg d ?_)
  refine (ValueIdx.eq_ix3 _).trans (Eq.trans (congrArg (fun q => ix3 (i 0) q (i 2)) (Fin.ext ?_)) (ValueIdx.eq_ix3 i).symm)
  show 1024 + ((i 1).val - 1024) = (i 1).val
  omega

end Cert.Reference3Ideal.Hand

namespace Cert.Kernel3Ideal.Hand

open Idealize.ShloMosaic hiding ix1 ix2 ix3 ix4
open Idealize.ShloMosaic.TcCoe Idealize.ShloMosaic.ValueIdx Idealize.ShloMosaic.Tactic
open Cert.Kernel3Ideal Cert.Kernel3Ideal.Gen
open Cert.Wgrad

variable (m : (ℓ : Loc nD τ sig) → Buf (Elt Ideal) ℓ) (c : Dev nD)

/-- The array the call leaves is the reference's. -/
theorem arr3 : (dats m 0 c).arrAt 2 cfg0.N = Cert.Reference3Ideal.Read.val_main_v4 (F := Ideal) (aX m c) (aY m c) (m ((c : Thread nD τ).loc main_arg2)) := by
  refine (dats m 0 c).arrAt_eq_of_coversWhere_of_agree 2 _ (fun β => β (1 : Fin 3) < 2) (by decide +kernel) (fun t hf y => ?_) (fun i hi => ?_)
  · rw [after0_2]
    have ht := t_lt t
    have hf' := (flush0_2 t).mp hf
    obtain ⟨u, r, j, rfl⟩ : ∃ (u : Fin 1) (r : Fin 512) (j : Fin 1024), y = ix3 u r j := ⟨y 0, y 1, y 2, ValueIdx.eq_ix3 y⟩
    obtain rfl : u = 0 := Subsingleton.elim _ _
    refine (last3 m c t hf' r j).trans ?_
    have e0 : ((cfg0.win 2).blk t).view.emb (ix3 0 r j) = ix3 (⟨t.val / 4, by omega⟩ : Fin 4) ⟨512 * (t.val / 2 % 2) + r.val, by omega⟩ j := by
      blk_ext [index3_2]
      show t.val / 2 % 2 * 512 + r.val = 512 * (t.val / 2 % 2) + r.val
      omega
    have e1 : 1024 * (t.val / 4) + (512 * (t.val / 2 % 2) + r.val) = 512 * (t.val / 2) + r.val := by omega
    rw [← e1]
    exact (Cert.Reference3Ideal.Hand.ref_in (aX m c) (aY m c) (m ((c : Thread nD τ).loc main_arg2)) ⟨t.val / 4, by omega⟩ ⟨512 * (t.val / 2 % 2) + r.val, by omega⟩ j).symm.trans
      (congrArg (Cert.Reference3Ideal.Read.val_main_v4 (F := Ideal) (aX m c) (aY m c) (m ((c : Thread nD τ).loc main_arg2))) e0.symm)
  · have h1 : ¬(i 1).val / 512 < 2 := hi
    have h2 : (i 1).val < 2560 := (i 1).isLt
    refine (congrFun (V_d m c) i).trans ?_
    exact (Cert.Reference3Ideal.Hand.ref_out (aX m c) (aY m c) (m ((c : Thread nD τ).loc main_arg2)) i (by omega)).symm

end Cert.Kernel3Ideal.Hand

namespace Cert.Proof

open Idealize.ShloMosaic hiding ix1 ix2 ix3 ix4
open Idealize.ShloMosaic.TcCoe Idealize.SL.Sem

/-- The call that makes the second feed-forward weights' gradient and its plain reference end with the same result. -/
theorem algebraic_w_down : Cert.algebraic_Kernel3Ideal_Reference3Ideal (hKernel3Ideal := Cert.Kernel3Ideal.Gen.facts)
    (hReference3Ideal := Cert.Reference3Ideal.Gen.facts) := by
  intro m g m' g' hpre hargs
  refine ⟨fun c => (Cert.Kernel3Ideal.Gen.dats m 0 c).arrAt 2 Cert.Kernel3Ideal.cfg0.N, Cert.Kernel3Ideal.Value.run_blocks (F := Ideal) m g, ?_⟩
  refine (θ_run (Cert.Reference3Ideal.defs (F := Ideal)) _ _).mono (fun r h c => ?_) (Cert.Reference3Ideal.Value.run (F := Ideal) m' g')
  obtain ⟨e0, e1, e2⟩ := hargs c
  obtain ⟨k4, ka⟩ := h c
  refine ⟨(k4.trans (Cert.Reference3Ideal.Read.val_main_v4_eq (F := Ideal) _ _ _)).trans ?_, ka⟩
  rw [e0, e1, e2]
  exact (Cert.Kernel3Ideal.Hand.arr3 m c).symm

/-- The call runs, leaves its arguments as launched and ends with every counter at zero. -/
theorem frame_kernel3 : Cert.quiescent_Kernel3 (hKernel3 := Cert.Kernel3.Gen.facts) := fun m ρ _ =>
  Eq.mp (by sl_kernel_rfl) (Cert.Kernel3Ideal.Gen.frame (F := Bits) m ρ)

/-- The idealized call runs, leaves its arguments as launched and ends with every counter at zero. -/
theorem frame_kernel3Ideal : Cert.quiescent_Kernel3Ideal (hKernel3Ideal := Cert.Kernel3Ideal.Gen.facts) := fun m ρ _ =>
  Cert.Kernel3Ideal.Gen.frame (F := Ideal) m ρ

/-- The reference runs, leaves its arguments as launched and ends with every counter at zero. -/
theorem frame_reference3Ideal : Cert.quiescent_Reference3Ideal (hReference3Ideal := Cert.Reference3Ideal.Gen.facts) := fun m ρ _ =>
  (θ_run (Cert.Reference3Ideal.defs (F := Ideal)) _ _).mono
    (fun r h => ⟨fun c => (h c).2, sem_eq_zero_of_no_sems (by decide) r.2⟩)
    (Cert.Reference3Ideal.Value.run (F := Ideal) m ρ)

end Cert.Proof

end
-- ==== Proof.W4.lean ====
/-
  The gradient of the first feed-forward weights: the call leaves in each shard's rows the product of the two arrays' columns over all
  the rows, and what else was in the buffer is kept.
-/
module

public import proofs.«01_k».proof.Defs
public import proofs.«01_k».proof.Proof.Wgrad
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Kernel4Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel4Ideal Cert.Kernel4Ideal.Gen
open Cert.Wgrad
open scoped BigOperators

variable (m : (ℓ : Loc nD τ sig) → Buf (Elt Ideal) ℓ) (c : Dev nD)

/-- The block index of the first array at a point. -/
theorem index4_0 : ∀ t : Fin cfg0.N, win0_0.index t = ![t.val % 2, t.val / 2 % 2] :=
  (by decide +kernel : ∀ t : Fin grid0.N, win0_0.index t = ![t.val % 2, t.val / 2 % 2])
/-- The block index of the second array at a point. -/
theorem index4_1 : ∀ t : Fin cfg0.N, win0_1.index t = ![t.val % 2, t.val / 4] :=
  (by decide +kernel : ∀ t : Fin grid0.N, win0_1.index t = ![t.val % 2, t.val / 4])
/-- The block index of the result at a point. -/
theorem index4_2 : ∀ t : Fin cfg0.N, win0_2.index t = ![t.val / 4, 2 + t.val / 2 % 2, 0] :=
  (by decide +kernel : ∀ t : Fin grid0.N, win0_2.index t = ![t.val / 4, 2 + t.val / 2 % 2, 0])

/-- A grid point's number is below 16. -/
theorem t_lt (t : Fin cfg0.N) : t.val < 16 := lt_of_lt_of_eq t.isLt N_0

/-- The first array as the call is entered with it. -/
theorem V_x : (V m c main_v0 : S4096x1024.Idx → EReal) = m ((c : Thread nD τ).loc main_arg0) := by
  show StableHlo.after hostOps0 (fun b => m (c, b)) (Proc.devRef .tc main_v0) = _
  after_results_simp <;> rfl

/-- The second array as the call is entered with it. -/
theorem V_y : (V m c main_v1 : S4096x4096.Idx → EReal) = m ((c : Thread nD τ).loc main_arg1) := by
  show StableHlo.after hostOps0 (fun b => m (c, b)) (Proc.devRef .tc main_v1) = _
  after_results_simp <;> rfl

/-- The result's buffer as the call is entered with it. -/
theorem V_d : V m c main_v2 = m ((c : Thread nD τ).loc main_arg2) := by
  show StableHlo.after hostOps0 (fun b => m (c, b)) (Proc.devRef .tc main_v2) = _
  after_results_simp <;> rfl

/-- The first array. -/
abbrev aX : S4096x1024.Idx → EReal := m ((c : Thread nD τ).loc main_arg0)
/-- The second array. -/
abbrev aY : S4096x4096.Idx → EReal := m ((c : Thread nD τ).loc main_arg1)

/-- The first array's rows of a grid point. -/
theorem bX_apply (t : Fin cfg0.N) (k : Fin 2048) (r : Fin 512) :
    (iblk m c 0 t (ix2 k r) : EReal) = at2 (aX m c) (2048 * (t.val % 2) + k.val) (512 * (t.val / 2 % 2) + r.val) := by
  have ht := t_lt t
  rw [at2_of (aX m c) (by omega) (by omega)]
  refine Eq.trans ?_ (congrFun (V_x m c) _)
  unfold iblk
  refine congrArg (V m c main_v0) (?_ : ((cfg0.win 0).blk t).view.emb (ix2 k r) = _)
  blk_ext [index4_0]
  · show t.val % 2 * 2048 + k.val = 2048 * (t.val % 2) + k.val
    omega
  · show t.val / 2 % 2 * 512 + r.val = 512 * (t.val / 2 % 2) + r.val
    omega

/-- The second array's rows of a grid point. -/
theorem bY_apply (t : Fin cfg0.N) (k : Fin 2048) (j : Fin 1024) :
    (iblk m c 1 t (ix2 k j) : EReal) = at2 (aY m c) (2048 * (t.val % 2) + k.val) (1024 * (t.val / 4) + j.val) := by
  have ht := t_lt t
  rw [at2_of (aY m c) (by omega) (by omega)]
  refine Eq.trans ?_ (congrFun (V_y m c) _)
  unfold iblk
  refine congrArg (V m c main_v1) (?_ : ((cfg0.win 1).blk t).view.emb (ix2 k j) = _)
  blk_ext [index4_1]
  · show t.val % 2 * 2048 + k.val = 2048 * (t.val % 2) + k.val
    omega
  · show t.val / 4 * 1024 + j.val = 1024 * (t.val / 4) + j.val
    omega

/-- The term a row adds to an element of block `g` of the gradient. -/
abbrev term (g : ℕ) (r : Fin 512) (j : Fin 1024) (k : ℕ) : EReal := at2 (aX m c) k (512 * (g % 2) + r.val) * at2 (aY m c) k (1024 * (g / 2) + j.val)

/-- The product of a grid point's stretch of rows. -/
theorem part4 (t : Fin cfg0.N) (r : Fin 512) (j : Fin 1024) :
    (k0_pay1 (iblk m c 0 t) (iblk m c 1 t) (ix2 r j) : EReal) = ∑ k : Fin 2048, term m c (t.val / 2) r j (2048 * (t.val % 2) + k.val) :=
  (part_apply dot_S2048x512_S2048x1024_S512x1024_0_0_1_1_n_n rfl rfl rfl rfl rfl rfl _ _ _ _ r j).trans
    (Finset.sum_congr rfl fun k _ => congrArg₂ (fun u v : EReal => u * v) (bX_apply m c t k r)
      ((bY_apply m c t k j).trans (by rw [show t.val / 4 = t.val / 2 / 2 by omega])))

/-- The first stretch starts the sum. -/
theorem first4 (t : Fin cfg0.N) (h0 : t.val % 2 = 0) (r : Fin 512) (j : Fin 1024) :
    (outsAt0 m c t.val t.isLt (ix3 0 r j) : EReal) = ∑ k : Fin 2048, term m c (t.val / 2) r j (2048 * (t.val % 2) + k.val) := by
  have e : outsAt0 m c t.val t.isLt = k0_pay2 (iblk m c 0 t) (iblk m c 1 t) := by
    rw [outsAt0_A m c t h0 (by omega)]; frame_out
  rw [e]
  exact (lift_apply _ _ r j).trans (part4 m c t r j)

/-- The next stretch adds to it. -/
theorem next4 (t : Fin cfg0.N) (h0 : ¬t.val % 2 = 0) (r : Fin 512) (j : Fin 1024) :
    (outsAt0 m c t.val t.isLt (ix3 0 r j) : EReal) = outsAt0 m c (t.val - 1) (Nat.lt_of_le_of_lt (Nat.sub_le _ _) t.isLt) (ix3 0 r j)
      + ∑ k : Fin 2048, term m c (t.val / 2) r j (2048 * (t.val % 2) + k.val) := by
  have e : outsAt0 m c t.val t.isLt = k0_pay3 (iblk m c 0 t) (iblk m c 1 t) (outsAt0 m c (t.val - 1) (Nat.lt_of_le_of_lt (Nat.sub_le _ _) t.isLt)) := by
    rw [outsAt0_B m c t h0 (by omega)]; frame_out
  rw [e]
  exact (lift_add_apply _ _ _ _ r j).trans (congrArg _ (part4 m c t r j))

/-- When a shard's block is written back it holds the product of the columns over all the rows. -/
theorem last4 (t : Fin cfg0.N) (h : t.val % 2 = 1) (r : Fin 512) (j : Fin 1024) :
    (outsAt0 m c t.val t.isLt (ix3 0 r j) : EReal) = col (aX m c) (aY m c) (512 * (t.val / 2 % 2) + r.val) (1024 * (t.val / 2 / 2) + j.val) :=
   accum_last (N := cfg0.N) (J := 2) (s := 2048) (by decide) (fun n hn => (outsAt0 m c n hn (ix3 0 r j) : EReal)) (fun g => term m c g r j)
    (fun t h h0 => first4 m c ⟨t, h⟩ h0 r j) (fun t h h0 => next4 m c ⟨t, h⟩ h0 r j) t.val t.isLt h

end Cert.Kernel4Ideal.Hand

namespace Cert.Reference4Ideal.Hand

open Idealize.ShloMosaic hiding ix1 ix2 ix3 ix4
open Idealize.ShloMosaic.TcCoe Idealize.ShloMosaic.ValueIdx
open Cert.Reference4Ideal Cert.Reference4Ideal.Gen Cert.Reference4Ideal.Read
open Cert.Wgrad

variable (x : S4096x1024.Idx → EReal) (y : S4096x4096.Idx → EReal) (d : S4x2560x1024.Idx → EReal)

/-- The reference's product. -/
theorem prod_apply (p : Fin 1024) (q : Fin 4096) : (val_main_v1 (F := Ideal) x y (ix2 p q) : EReal) = col x y p.val q.val := by
  refine (val_main_v1_apply x y (ix2 p q)).trans (Eq.trans ?_ (col_eq x y p.isLt q.isLt).symm)
  refine Finset.sum_congr rfl fun k _ => ?_
  refine congrArg₂ (fun u v : EReal => u * v) ((val_main_v0_apply (F := Ideal) x _).trans (congrArg x ?_)) (congrArg y ?_)
  · exact ValueIdx.eq_ix2 _
  · exact ValueIdx.eq_ix2 _

/-- The reference where the call writes. -/
theorem ref_in (s : Fin 4) (r : Fin 1024) (j : Fin 1024) :
    (val_main_v6 (F := Ideal) x y d (ix3 s ⟨1024 + r.val, by omega⟩ j) : EReal) = col x y r.val (1024 * s.val + j.val) := by
  unfold val_main_v6
  refine (concatenate_apply_piece (α := EReal) (t := S4x2560x1024) 1 [⟨S4x1024x1024, val_main_v4 (F := Ideal) d⟩, ⟨S4x1024x1024, val_main_v3 (F := Ideal) x y⟩, ⟨S4x512x1024, val_main_v5 (F := Ideal) d⟩] _
    (ix3 s ⟨1024 + r.val, by omega⟩ j) 1 (show 1 < 3 by decide) S4x1024x1024 (val_main_v3 (F := Ideal) x y) rfl rfl 1024 rfl (ix3 s r j) (fun b hb => ?_) rfl).trans ?_
  · match b with
    | ⟨0, _⟩ => rfl
    | ⟨1, _⟩ => exact absurd rfl hb
    | ⟨2, _⟩ => rfl
  refine (val_main_v3_apply (F := Ideal) x y _).trans ((val_main_v2_apply (F := Ideal) x y _).trans ?_)
  refine Eq.trans (congrArg (val_main_v1 (F := Ideal) x y) (?_ : _ = ix2 r ⟨1024 * s.val + j.val, by omega⟩)) (prod_apply x y r ⟨1024 * s.val + j.val, by omega⟩)
  refine (ValueIdx.eq_ix2 _).trans (congrArg₂ ix2 (Fin.ext ?_) (Fin.ext ?_))
  · show ((r.val * 4 + s.val) * 1024 + j.val) / 4096 = r.val
    omega
  · show ((r.val * 4 + s.val) * 1024 + j.val) % 4096 = 1024 * s.val + j.val
    omega

/-- The reference before the rows the call writes. -/
theorem ref_before (i : S4x2560x1024.Idx) (h : (i 1).val < 1024) : (val_main_v6 (F := Ideal) x y d i : EReal) = d i := by
  unfold val_main_v6
  refine (concatenate_apply_piece (α := EReal) (t := S4x2560x1024) 1 [⟨S4x1024x1024, val_main_v4 (F := Ideal) d⟩, ⟨S4x1024x1024, val_main_v3 (F := Ideal) x y⟩, ⟨S4x512x1024, val_main_v5 (F := Ideal) d⟩] _
    i 0 (show 0 < 3 by decide) S4x1024x1024 (val_main_v4 (F := Ideal) d) rfl rfl 0 rfl (ix3 (i 0) ⟨(i 1).val, h⟩ (i 2)) (fun b hb => ?_) (Nat.zero_add _)).trans ?_
  · match b with
    | ⟨0, _⟩ => rfl
    | ⟨1, _⟩ => exact absurd rfl hb
    | ⟨2, _⟩ => rfl
  refine (val_main_v4_apply (F := Ideal) d _).trans (congrArg d ?_)
  exact (ValueIdx.eq_ix3 _).trans (ValueIdx.eq_ix3 i).symm

/-- The reference after the rows the call writes. -/
theorem ref_after (i : S4x2560x1024.Idx) (h : 2048 ≤ (i 1).val) : (val_main_v6 (F := Ideal) x y d i : EReal) = d i := by
  have h2 : (i 1).val < 2560 := (i 1).isLt
  unfold val_main_v6
  refine (concatenate_apply_piece (α := EReal) (t := S4x2560x1024) 1 [⟨S4x1024x1024, val_main_v4 (F := Ideal) d⟩, ⟨S4x1024x1024, val_main_v3 (F := Ideal) x y⟩, ⟨S4x512x1024, val_main_v5 (F := Ideal) d⟩] _
    i 2 (show 2 < 3 by decide) S4x512x1024 (val_main_v5 (F := Ideal) d) rfl rfl 2048 rfl (ix3 (i 0) ⟨(i 1).val - 2048, by omega⟩ (i 2)) (fun b hb => ?_) (show 2048 + ((i 1).val - 2048) = (i 1).val by omega)).trans ?_
  · match b with
    | ⟨0, _⟩ => rfl
    | ⟨1, _⟩ => exact absurd rfl hb
    | ⟨2, _⟩ => rfl
  refine (val_main_v5_apply (F := Ideal) d _).trans (congrArg d ?_)
  refine (ValueIdx.eq_ix3 _).trans (Eq.trans (congrArg (fun q => ix3 (i 0) q (i 2)) (Fin.ext ?_)) (ValueIdx.eq_ix3 i).symm)
  show 2048 + ((i 1).val - 2048) = (i 1).val
  omega

/-- The reference elsewhere. -/
theorem ref_out (i : S4x2560x1024.Idx) (h : (i 1).val < 1024 ∨ 2048 ≤ (i 1).val) : (val_main_v6 (F := Ideal) x y d i : EReal) = d i :=
  h.elim (ref_before x y d i) (ref_after x y d i)

end Cert.Reference4Ideal.Hand

namespace Cert.Kernel4Ideal.Hand

open Idealize.ShloMosaic hiding ix1 ix2 ix3 ix4
open Idealize.ShloMosaic.TcCoe Idealize.ShloMosaic.ValueIdx Idealize.ShloMosaic.Tactic
open Cert.Kernel4Ideal Cert.Kernel4Ideal.Gen
open Cert.Wgrad

variable (m : (ℓ : Loc nD τ sig) → Buf (Elt Ideal) ℓ) (c : Dev nD)

/-- The array the call leaves is the reference's. -/
theorem arr4 : (dats m 0 c).arrAt 2 cfg0.N = Cert.Reference4Ideal.Read.val_main_v6 (F := Ideal) (aX m c) (aY m c) (m ((c : Thread nD τ).loc main_arg2)) := by
  refine (dats m 0 c).arrAt_eq_of_coversWhere_of_agree 2 _ (fun β => 2 ≤ β (1 : Fin 3) ∧ β (1 : Fin 3) < 4) (by decide +kernel) (fun t hf y => ?_) (fun i hi => ?_)
  · rw [after0_2]
    have ht := t_lt t
    have hf' := (flush0_2 t).mp hf
    obtain ⟨u, r, j, rfl⟩ : ∃ (u : Fin 1) (r : Fin 512) (j : Fin 1024), y = ix3 u r j := ⟨y 0, y 1, y 2, ValueIdx.eq_ix3 y⟩
    obtain rfl : u = 0 := Subsingleton.elim _ _
    refine (last4 m c t hf' r j).trans ?_
    have e0 : ((cfg0.win 2).blk t).view.emb (ix3 0 r j) = ix3 (⟨t.val / 4, by omega⟩ : Fin 4) ⟨1024 + (512 * (t.val / 2 % 2) + r.val), by omega⟩ j := by
      blk_ext [index4_2]
      show (2 + t.val / 2 % 2) * 512 + r.val = 1024 + (512 * (t.val / 2 % 2) + r.val)
      omega
    have e1 : t.val / 2 / 2 = t.val / 4 := by omega
    rw [e1]
    exact (Cert.Reference4Ideal.Hand.ref_in (aX m c) (aY m c) (m ((c : Thread nD τ).loc main_arg2)) ⟨t.val / 4, by omega⟩ ⟨512 * (t.val / 2 % 2) + r.val, by omega⟩ j).symm.trans
      (congrArg (Cert.Reference4Ideal.Read.val_main_v6 (F := Ideal) (aX m c) (aY m c) (m ((c : Thread nD τ).loc main_arg2))) e0.symm)
  · have h1 : ¬(2 ≤ (i 1).val / 512 ∧ (i 1).val / 512 < 4) := hi
    have h2 : (i 1).val < 2560 := (i 1).isLt
    refine (congrFun (V_d m c) i).trans ?_
    exact (Cert.Reference4Ideal.Hand.ref_out (aX m c) (aY m c) (m ((c : Thread nD τ).loc main_arg2)) i (by omega)).symm

end Cert.Kernel4Ideal.Hand

namespace Cert.Proof

open Idealize.ShloMosaic hiding ix1 ix2 ix3 ix4
open Idealize.ShloMosaic.TcCoe Idealize.SL.Sem

/-- The call that makes the first feed-forward weights' gradient and its plain reference end with the same result. -/
theorem algebraic_w_up : Cert.algebraic_Kernel4Ideal_Reference4Ideal (hKernel4Ideal := Cert.Kernel4Ideal.Gen.facts)
    (hReference4Ideal := Cert.Reference4Ideal.Gen.facts) := by
  intro m g m' g' hpre hargs
  refine ⟨fun c => (Cert.Kernel4Ideal.Gen.dats m 0 c).arrAt 2 Cert.Kernel4Ideal.cfg0.N, Cert.Kernel4Ideal.Value.run_blocks (F := Ideal) m g, ?_⟩
  refine (θ_run (Cert.Reference4Ideal.defs (F := Ideal)) _ _).mono (fun r h c => ?_) (Cert.Reference4Ideal.Value.run (F := Ideal) m' g')
  obtain ⟨e0, e1, e2⟩ := hargs c
  obtain ⟨k6, ka⟩ := h c
  refine ⟨(k6.trans (Cert.Reference4Ideal.Read.val_main_v6_eq (F := Ideal) _ _ _)).trans ?_, ka⟩
  rw [e0, e1, e2]
  exact (Cert.Kernel4Ideal.Hand.arr4 m c).symm

/-- The call runs, leaves its arguments as launched and ends with every counter at zero. -/
theorem frame_kernel4 : Cert.quiescent_Kernel4 (hKernel4 := Cert.Kernel4.Gen.facts) := fun m ρ _ =>
  Eq.mp (by sl_kernel_rfl) (Cert.Kernel4Ideal.Gen.frame (F := Bits) m ρ)

/-- The idealized call runs, leaves its arguments as launched and ends with every counter at zero. -/
theorem frame_kernel4Ideal : Cert.quiescent_Kernel4Ideal (hKernel4Ideal := Cert.Kernel4Ideal.Gen.facts) := fun m ρ _ =>
  Cert.Kernel4Ideal.Gen.frame (F := Ideal) m ρ

/-- The reference runs, leaves its arguments as launched and ends with every counter at zero. -/
theorem frame_reference4Ideal : Cert.quiescent_Reference4Ideal (hReference4Ideal := Cert.Reference4Ideal.Gen.facts) := fun m ρ _ =>
  (θ_run (Cert.Reference4Ideal.defs (F := Ideal)) _ _).mono
    (fun r h => ⟨fun c => (h c).2, sem_eq_zero_of_no_sems (by decide) r.2⟩)
    (Cert.Reference4Ideal.Value.run (F := Ideal) m ρ)

end Cert.Proof

end
-- ==== Proof.W5.lean ====
/-
  The gradient of the output weights: the call leaves in each shard's rows the product of the two arrays' columns over all
  the rows, and what else was in the buffer is kept.
-/
module

public import proofs.«01_k».proof.Defs
public import proofs.«01_k».proof.Proof.Wgrad
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Kernel5Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel5Ideal Cert.Kernel5Ideal.Gen
open Cert.Wgrad
open scoped BigOperators

variable (m : (ℓ : Loc nD τ sig) → Buf (Elt Ideal) ℓ) (c : Dev nD)

/-- The block index of the first array at a point. -/
theorem index5_0 : ∀ t : Fin cfg0.N, win0_0.index t = ![t.val % 2, t.val / 2] :=
  (by decide +kernel : ∀ t : Fin grid0.N, win0_0.index t = ![t.val % 2, t.val / 2])
/-- The block index of the second array at a point. -/
theorem index5_1 : ∀ t : Fin cfg0.N, win0_1.index t = ![t.val % 2, 0] :=
  (by decide +kernel : ∀ t : Fin grid0.N, win0_1.index t = ![t.val % 2, 0])
/-- The block index of the result at a point. -/
theorem index5_2 : ∀ t : Fin cfg0.N, win0_2.index t = ![t.val / 2, 9, 0] :=
  (by decide +kernel : ∀ t : Fin grid0.N, win0_2.index t = ![t.val / 2, 9, 0])

/-- A grid point's number is below 8. -/
theorem t_lt (t : Fin cfg0.N) : t.val < 8 := lt_of_lt_of_eq t.isLt N_0

/-- The first array as the call is entered with it. -/
theorem V_x : (V m c main_v0 : S4096x1024.Idx → EReal) = m ((c : Thread nD τ).loc main_arg0) := by
  show StableHlo.after hostOps0 (fun b => m (c, b)) (Proc.devRef .tc main_v0) = _
  after_results_simp <;> rfl

/-- The second array as the call is entered with it. -/
theorem V_y : (V m c main_v1 : S4096x1024.Idx → EReal) = m ((c : Thread nD τ).loc main_arg1) := by
  show StableHlo.after hostOps0 (fun b => m (c, b)) (Proc.devRef .tc main_v1) = _
  after_results_simp <;> rfl

/-- The result's buffer as the call is entered with it. -/
theorem V_d : V m c main_v2 = m ((c : Thread nD τ).loc main_arg2) := by
  show StableHlo.after hostOps0 (fun b => m (c, b)) (Proc.devRef .tc main_v2) = _
  after_results_simp <;> rfl

/-- The first array. -/
abbrev aX : S4096x1024.Idx → EReal := m ((c : Thread nD τ).loc main_arg0)
/-- The second array. -/
abbrev aY : S4096x1024.Idx → EReal := m ((c : Thread nD τ).loc main_arg1)

/-- The first array's rows of a grid point. -/
theorem bX_apply (t : Fin cfg0.N) (k : Fin 2048) (r : Fin 256) :
    (iblk m c 0 t (ix2 k r) : EReal) = at2 (aX m c) (2048 * (t.val % 2) + k.val) (256 * (t.val / 2) + r.val) := by
  have ht := t_lt t
  rw [at2_of (aX m c) (by omega) (by omega)]
  refine Eq.trans ?_ (congrFun (V_x m c) _)
  unfold iblk
  refine congrArg (V m c main_v0) (?_ : ((cfg0.win 0).blk t).view.emb (ix2 k r) = _)
  blk_ext [index5_0]
  · show t.val % 2 * 2048 + k.val = 2048 * (t.val % 2) + k.val
    omega
  · show t.val / 2 * 256 + r.val = 256 * (t.val / 2) + r.val
    omega

/-- The second array's rows of a grid point. -/
theorem bY_apply (t : Fin cfg0.N) (k : Fin 2048) (j : Fin 1024) :
    (iblk m c 1 t (ix2 k j) : EReal) = at2 (aY m c) (2048 * (t.val % 2) + k.val) j.val := by
  have ht := t_lt t
  rw [at2_of (aY m c) (by omega) (by omega)]
  refine Eq.trans ?_ (congrFun (V_y m c) _)
  unfold iblk
  refine congrArg (V m c main_v1) (?_ : ((cfg0.win 1).blk t).view.emb (ix2 k j) = _)
  blk_ext [index5_1]
  show t.val % 2 * 2048 + k.val = 2048 * (t.val % 2) + k.val
  omega

/-- The term a row adds to an element of shard `s`'s gradient. -/
abbrev term (s : ℕ) (r : Fin 256) (j : Fin 1024) (k : ℕ) : EReal := at2 (aX m c) k (256 * s + r.val) * at2 (aY m c) k j.val

/-- The product of a grid point's stretch of rows. -/
theorem part5 (t : Fin cfg0.N) (r : Fin 256) (j : Fin 1024) :
    (k0_pay1 (iblk m c 0 t) (iblk m c 1 t) (ix2 r j) : EReal) = ∑ k : Fin 2048, term m c (t.val / 2) r j (2048 * (t.val % 2) + k.val) :=
  (part_apply dot_S2048x256_S2048x1024_S256x1024_0_0_1_1_n_n rfl rfl rfl rfl rfl rfl _ _ _ _ r j).trans
    (Finset.sum_congr rfl fun k _ => congrArg₂ (fun u v : EReal => u * v) (bX_apply m c t k r) (bY_apply m c t k j))

/-- The first stretch starts the sum. -/
theorem first5 (t : Fin cfg0.N) (h0 : t.val % 2 = 0) (r : Fin 256) (j : Fin 1024) :
    (outsAt0 m c t.val t.isLt (ix3 0 r j) : EReal) = ∑ k : Fin 2048, term m c (t.val / 2) r j (2048 * (t.val % 2) + k.val) := by
  have e : outsAt0 m c t.val t.isLt = k0_pay2 (iblk m c 0 t) (iblk m c 1 t) := by
    rw [outsAt0_A m c t h0 (by omega)]; frame_out
  rw [e]
  exact (lift_apply _ _ r j).trans (part5 m c t r j)

/-- The next stretch adds to it. -/
theorem next5 (t : Fin cfg0.N) (h0 : ¬t.val % 2 = 0) (r : Fin 256) (j : Fin 1024) :
    (outsAt0 m c t.val t.isLt (ix3 0 r j) : EReal) = outsAt0 m c (t.val - 1) (Nat.lt_of_le_of_lt (Nat.sub_le _ _) t.isLt) (ix3 0 r j)
      + ∑ k : Fin 2048, term m c (t.val / 2) r j (2048 * (t.val % 2) + k.val) := by
  have e : outsAt0 m c t.val t.isLt = k0_pay3 (iblk m c 0 t) (iblk m c 1 t) (outsAt0 m c (t.val - 1) (Nat.lt_of_le_of_lt (Nat.sub_le _ _) t.isLt)) := by
    rw [outsAt0_B m c t h0 (by omega)]; frame_out
  rw [e]
  exact (lift_add_apply _ _ _ _ r j).trans (congrArg _ (part5 m c t r j))

/-- When a shard's block is written back it holds the product of the columns over all the rows. -/
theorem last5 (t : Fin cfg0.N) (h : t.val % 2 = 1) (r : Fin 256) (j : Fin 1024) :
    (outsAt0 m c t.val t.isLt (ix3 0 r j) : EReal) = col (aX m c) (aY m c) (256 * (t.val / 2) + r.val) j.val :=
   accum_last (N := cfg0.N) (J := 2) (s := 2048) (by decide) (fun n hn => (outsAt0 m c n hn (ix3 0 r j) : EReal)) (fun g => term m c g r j)
    (fun t h h0 => first5 m c ⟨t, h⟩ h0 r j) (fun t h h0 => next5 m c ⟨t, h⟩ h0 r j) t.val t.isLt h

end Cert.Kernel5Ideal.Hand

namespace Cert.Reference5Ideal.Hand

open Idealize.ShloMosaic hiding ix1 ix2 ix3 ix4
open Idealize.ShloMosaic.TcCoe Idealize.ShloMosaic.ValueIdx
open Cert.Reference5Ideal Cert.Reference5Ideal.Gen Cert.Reference5Ideal.Read
open Cert.Wgrad

variable (x y : S4096x1024.Idx → EReal) (d : S4x2560x1024.Idx → EReal)

/-- The reference's product. -/
theorem prod_apply (p : Fin 1024) (q : Fin 1024) : (val_main_v2 (F := Ideal) x y (ix2 p q) : EReal) = col x y p.val q.val := by
  refine (val_main_v2_apply x y (ix2 p q)).trans (Eq.trans ?_ (col_eq x y p.isLt q.isLt).symm)
  refine Finset.sum_congr rfl fun k _ => ?_
  refine congrArg₂ (fun u v : EReal => u * v) ((val_main_v1_apply (F := Ideal) x _).trans (congrArg x ?_)) (congrArg y ?_)
  · exact ValueIdx.eq_ix2 _
  · exact ValueIdx.eq_ix2 _

/-- The reference where the call writes. -/
theorem ref_in (s : Fin 4) (r : Fin 256) (j : Fin 1024) :
    (val_main_v4 (F := Ideal) x y d (ix3 s ⟨2304 + r.val, by omega⟩ j) : EReal) = col x y (256 * s.val + r.val) j.val := by
  unfold val_main_v4
  refine (concatenate_pair_apply_right (s₁ := S4x2304x1024) (s₂ := S4x256x1024) (t := S4x2560x1024) 1 (val_main_v0 (F := Ideal) d) (val_main_v3 (F := Ideal) x y) _ (ix3 s ⟨2304 + r.val, by omega⟩ j) rfl rfl (ix3 s r j)
    (fun b hb => ?_) (Nat.add_comm r.val 2304)).trans ?_
  · match b with
    | ⟨0, _⟩ => rfl
    | ⟨1, _⟩ => exact absurd rfl hb
    | ⟨2, _⟩ => rfl
  refine (val_main_v3_apply (F := Ideal) x y _).trans ?_
  refine Eq.trans (congrArg (val_main_v2 (F := Ideal) x y) (?_ : _ = ix2 ⟨256 * s.val + r.val, by omega⟩ j)) (prod_apply x y ⟨256 * s.val + r.val, by omega⟩ j)
  refine (ValueIdx.eq_ix2 _).trans (congrArg₂ ix2 (Fin.ext ?_) (Fin.ext ?_))
  · show ((s.val * 256 + r.val) * 1024 + j.val) / 1024 = 256 * s.val + r.val
    omega
  · show ((s.val * 256 + r.val) * 1024 + j.val) % 1024 = j.val
    omega

/-- The reference elsewhere. -/
theorem ref_out (i : S4x2560x1024.Idx) (h : (i 1).val < 2304) : (val_main_v4 (F := Ideal) x y d i : EReal) = d i := by
  unfold val_main_v4
  refine (concatenate_pair_apply_left (s₁ := S4x2304x1024) (s₂ := S4x256x1024) (t := S4x2560x1024) 1 (val_main_v0 (F := Ideal) d) (val_main_v3 (F := Ideal) x y) _ i rfl (ix3 (i 0) ⟨(i 1).val, h⟩ (i 2))
    (fun b => ?_)).trans ?_
  · match b with
    | ⟨0, _⟩ => rfl
    | ⟨1, _⟩ => rfl
    | ⟨2, _⟩ => rfl
  refine (val_main_v0_apply (F := Ideal) d _).trans (congrArg d ?_)
  exact (ValueIdx.eq_ix3 _).trans (ValueIdx.eq_ix3 i).symm

end Cert.Reference5Ideal.Hand

namespace Cert.Kernel5Ideal.Hand

open Idealize.ShloMosaic hiding ix1 ix2 ix3 ix4
open Idealize.ShloMosaic.TcCoe Idealize.ShloMosaic.ValueIdx Idealize.ShloMosaic.Tactic
open Cert.Kernel5Ideal Cert.Kernel5Ideal.Gen
open Cert.Wgrad

variable (m : (ℓ : Loc nD τ sig) → Buf (Elt Ideal) ℓ) (c : Dev nD)

/-- The array the call leaves is the reference's. -/
theorem arr5 : (dats m 0 c).arrAt 2 cfg0.N = Cert.Reference5Ideal.Read.val_main_v4 (F := Ideal) (aX m c) (aY m c) (m ((c : Thread nD τ).loc main_arg2)) := by
  refine (dats m 0 c).arrAt_eq_of_coversWhere_of_agree 2 _ (fun β => β (1 : Fin 3) = 9) (by decide +kernel) (fun t hf y => ?_) (fun i hi => ?_)
  · rw [after0_2]
    have ht := t_lt t
    have hf' := (flush0_2 t).mp hf
    obtain ⟨u, r, j, rfl⟩ : ∃ (u : Fin 1) (r : Fin 256) (j : Fin 1024), y = ix3 u r j := ⟨y 0, y 1, y 2, ValueIdx.eq_ix3 y⟩
    obtain rfl : u = 0 := Subsingleton.elim _ _
    refine (last5 m c t hf' r j).trans ?_
    have e0 : ((cfg0.win 2).blk t).view.emb (ix3 0 r j) = ix3 (⟨t.val / 2, by omega⟩ : Fin 4) ⟨2304 + r.val, by omega⟩ j := by
      blk_ext [index5_2]
    exact (Cert.Reference5Ideal.Hand.ref_in (aX m c) (aY m c) (m ((c : Thread nD τ).loc main_arg2)) ⟨t.val / 2, by omega⟩ r j).symm.trans
      (congrArg (Cert.Reference5Ideal.Read.val_main_v4 (F := Ideal) (aX m c) (aY m c) (m ((c : Thread nD τ).loc main_arg2))) e0.symm)
  · have h1 : ¬(i 1).val / 256 = 9 := hi
    have h2 : (i 1).val < 2560 := (i 1).isLt
    refine (congrFun (V_d m c) i).trans ?_
    exact (Cert.Reference5Ideal.Hand.ref_out (aX m c) (aY m c) (m ((c : Thread nD τ).loc main_arg2)) i (by omega)).symm

end Cert.Kernel5Ideal.Hand

namespace Cert.Proof

open Idealize.ShloMosaic hiding ix1 ix2 ix3 ix4
open Idealize.ShloMosaic.TcCoe Idealize.SL.Sem

/-- The call that makes the output weights' gradient and its plain reference end with the same result. -/
theorem algebraic_w_out : Cert.algebraic_Kernel5Ideal_Reference5Ideal (hKernel5Ideal := Cert.Kernel5Ideal.Gen.facts)
    (hReference5Ideal := Cert.Reference5Ideal.Gen.facts) := by
  intro m g m' g' hpre hargs
  refine ⟨fun c => (Cert.Kernel5Ideal.Gen.dats m 0 c).arrAt 2 Cert.Kernel5Ideal.cfg0.N, Cert.Kernel5Ideal.Value.run_blocks (F := Ideal) m g, ?_⟩
  refine (θ_run (Cert.Reference5Ideal.defs (F := Ideal)) _ _).mono (fun r h c => ?_) (Cert.Reference5Ideal.Value.run (F := Ideal) m' g')
  obtain ⟨e0, e1, e2⟩ := hargs c
  obtain ⟨k4, ka⟩ := h c
  refine ⟨(k4.trans (Cert.Reference5Ideal.Read.val_main_v4_eq (F := Ideal) _ _ _)).trans ?_, ka⟩
  rw [e0, e1, e2]
  exact (Cert.Kernel5Ideal.Hand.arr5 m c).symm

/-- The call runs, leaves its arguments as launched and ends with every counter at zero. -/
theorem frame_kernel5 : Cert.quiescent_Kernel5 (hKernel5 := Cert.Kernel5.Gen.facts) := fun m ρ _ =>
  Eq.mp (by sl_kernel_rfl) (Cert.Kernel5Ideal.Gen.frame (F := Bits) m ρ)

/-- The idealized call runs, leaves its arguments as launched and ends with every counter at zero. -/
theorem frame_kernel5Ideal : Cert.quiescent_Kernel5Ideal (hKernel5Ideal := Cert.Kernel5Ideal.Gen.facts) := fun m ρ _ =>
  Cert.Kernel5Ideal.Gen.frame (F := Ideal) m ρ

/-- The reference runs, leaves its arguments as launched and ends with every counter at zero. -/
theorem frame_reference5Ideal : Cert.quiescent_Reference5Ideal (hReference5Ideal := Cert.Reference5Ideal.Gen.facts) := fun m ρ _ =>
  (θ_run (Cert.Reference5Ideal.defs (F := Ideal)) _ _).mono
    (fun r h => ⟨fun c => (h c).2, sem_eq_zero_of_no_sems (by decide) r.2⟩)
    (Cert.Reference5Ideal.Value.run (F := Ideal) m ρ)

end Cert.Proof

end
-- ==== Proof.W6.lean ====
/-
  The gradient of the attention's output weights: the call leaves in each shard's rows the product of the two arrays' columns over all
  the rows, and what else was in the buffer is kept.
-/
module

public import proofs.«01_k».proof.Defs
public import proofs.«01_k».proof.Proof.Wgrad
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Kernel6Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel6Ideal Cert.Kernel6Ideal.Gen
open Cert.Wgrad
open scoped BigOperators

variable (m : (ℓ : Loc nD τ sig) → Buf (Elt Ideal) ℓ) (c : Dev nD)

/-- The block index of the first array at a point. -/
theorem index6_0 : ∀ t : Fin cfg0.N, win0_0.index t = ![t.val % 2, t.val / 2] :=
  (by decide +kernel : ∀ t : Fin grid0.N, win0_0.index t = ![t.val % 2, t.val / 2])
/-- The block index of the second array at a point. -/
theorem index6_1 : ∀ t : Fin cfg0.N, win0_1.index t = ![t.val % 2, 0] :=
  (by decide +kernel : ∀ t : Fin grid0.N, win0_1.index t = ![t.val % 2, 0])
/-- The block index of the result at a point. -/
theorem index6_2 : ∀ t : Fin cfg0.N, win0_2.index t = ![t.val / 2, 8, 0] :=
  (by decide +kernel : ∀ t : Fin grid0.N, win0_2.index t = ![t.val / 2, 8, 0])

/-- A grid point's number is below 8. -/
theorem t_lt (t : Fin cfg0.N) : t.val < 8 := lt_of_lt_of_eq t.isLt N_0

/-- The first array as the call is entered with it. -/
theorem V_x : (V m c main_v0 : S4096x1024.Idx → EReal) = m ((c : Thread nD τ).loc main_arg0) := by
  show StableHlo.after hostOps0 (fun b => m (c, b)) (Proc.devRef .tc main_v0) = _
  after_results_simp <;> rfl

/-- The second array as the call is entered with it. -/
theorem V_y : (V m c main_v1 : S4096x1024.Idx → EReal) = m ((c : Thread nD τ).loc main_arg1) := by
  show StableHlo.after hostOps0 (fun b => m (c, b)) (Proc.devRef .tc main_v1) = _
  after_results_simp <;> rfl

/-- The result's buffer as the call is entered with it. -/
theorem V_d : V m c main_v2 = m ((c : Thread nD τ).loc main_arg2) := by
  show StableHlo.after hostOps0 (fun b => m (c, b)) (Proc.devRef .tc main_v2) = _
  after_results_simp <;> rfl

/-- The first array. -/
abbrev aX : S4096x1024.Idx → EReal := m ((c : Thread nD τ).loc main_arg0)
/-- The second array. -/
abbrev aY : S4096x1024.Idx → EReal := m ((c : Thread nD τ).loc main_arg1)

/-- The first array's rows of a grid point. -/
theorem bX_apply (t : Fin cfg0.N) (k : Fin 2048) (r : Fin 256) :
    (iblk m c 0 t (ix2 k r) : EReal) = at2 (aX m c) (2048 * (t.val % 2) + k.val) (256 * (t.val / 2) + r.val) := by
  have ht := t_lt t
  rw [at2_of (aX m c) (by omega) (by omega)]
  refine Eq.trans ?_ (congrFun (V_x m c) _)
  unfold iblk
  refine congrArg (V m c main_v0) (?_ : ((cfg0.win 0).blk t).view.emb (ix2 k r) = _)
  blk_ext [index6_0]
  · show t.val % 2 * 2048 + k.val = 2048 * (t.val % 2) + k.val
    omega
  · show t.val / 2 * 256 + r.val = 256 * (t.val / 2) + r.val
    omega

/-- The second array's rows of a grid point. -/
theorem bY_apply (t : Fin cfg0.N) (k : Fin 2048) (j : Fin 1024) :
    (iblk m c 1 t (ix2 k j) : EReal) = at2 (aY m c) (2048 * (t.val % 2) + k.val) j.val := by
  have ht := t_lt t
  rw [at2_of (aY m c) (by omega) (by omega)]
  refine Eq.trans ?_ (congrFun (V_y m c) _)
  unfold iblk
  refine congrArg (V m c main_v1) (?_ : ((cfg0.win 1).blk t).view.emb (ix2 k j) = _)
  blk_ext [index6_1]
  show t.val % 2 * 2048 + k.val = 2048 * (t.val % 2) + k.val
  omega

/-- The term a row adds to an element of shard `s`'s gradient. -/
abbrev term (s : ℕ) (r : Fin 256) (j : Fin 1024) (k : ℕ) : EReal := at2 (aX m c) k (256 * s + r.val) * at2 (aY m c) k j.val

/-- The product of a grid point's stretch of rows. -/
theorem part6 (t : Fin cfg0.N) (r : Fin 256) (j : Fin 1024) :
    (k0_pay1 (iblk m c 0 t) (iblk m c 1 t) (ix2 r j) : EReal) = ∑ k : Fin 2048, term m c (t.val / 2) r j (2048 * (t.val % 2) + k.val) :=
  (part_apply dot_S2048x256_S2048x1024_S256x1024_0_0_1_1_n_n rfl rfl rfl rfl rfl rfl _ _ _ _ r j).trans
    (Finset.sum_congr rfl fun k _ => congrArg₂ (fun u v : EReal => u * v) (bX_apply m c t k r) (bY_apply m c t k j))

/-- The first stretch starts the sum. -/
theorem first6 (t : Fin cfg0.N) (h0 : t.val % 2 = 0) (r : Fin 256) (j : Fin 1024) :
    (outsAt0 m c t.val t.isLt (ix3 0 r j) : EReal) = ∑ k : Fin 2048, term m c (t.val / 2) r j (2048 * (t.val % 2) + k.val) := by
  have e : outsAt0 m c t.val t.isLt = k0_pay2 (iblk m c 0 t) (iblk m c 1 t) := by
    rw [outsAt0_A m c t h0 (by omega)]; frame_out
  rw [e]
  exact (lift_apply _ _ r j).trans (part6 m c t r j)

/-- The next stretch adds to it. -/
theorem next6 (t : Fin cfg0.N) (h0 : ¬t.val % 2 = 0) (r : Fin 256) (j : Fin 1024) :
    (outsAt0 m c t.val t.isLt (ix3 0 r j) : EReal) = outsAt0 m c (t.val - 1) (Nat.lt_of_le_of_lt (Nat.sub_le _ _) t.isLt) (ix3 0 r j)
      + ∑ k : Fin 2048, term m c (t.val / 2) r j (2048 * (t.val % 2) + k.val) := by
  have e : outsAt0 m c t.val t.isLt = k0_pay3 (iblk m c 0 t) (iblk m c 1 t) (outsAt0 m c (t.val - 1) (Nat.lt_of_le_of_lt (Nat.sub_le _ _) t.isLt)) := by
    rw [outsAt0_B m c t h0 (by omega)]; frame_out
  rw [e]
  exact (lift_add_apply _ _ _ _ r j).trans (congrArg _ (part6 m c t r j))

/-- When a shard's block is written back it holds the product of the columns over all the rows. -/
theorem last6 (t : Fin cfg0.N) (h : t.val % 2 = 1) (r : Fin 256) (j : Fin 1024) :
    (outsAt0 m c t.val t.isLt (ix3 0 r j) : EReal) = col (aX m c) (aY m c) (256 * (t.val / 2) + r.val) j.val :=
   accum_last (N := cfg0.N) (J := 2) (s := 2048) (by decide) (fun n hn => (outsAt0 m c n hn (ix3 0 r j) : EReal)) (fun g => term m c g r j)
    (fun t h h0 => first6 m c ⟨t, h⟩ h0 r j) (fun t h h0 => next6 m c ⟨t, h⟩ h0 r j) t.val t.isLt h

end Cert.Kernel6Ideal.Hand

namespace Cert.Reference6Ideal.Hand

open Idealize.ShloMosaic hiding ix1 ix2 ix3 ix4
open Idealize.ShloMosaic.TcCoe Idealize.ShloMosaic.ValueIdx
open Cert.Reference6Ideal Cert.Reference6Ideal.Gen Cert.Reference6Ideal.Read
open Cert.Wgrad

variable (x y : S4096x1024.Idx → EReal) (d : S4x2560x1024.Idx → EReal)

/-- The reference's product. -/
theorem prod_apply (p : Fin 1024) (q : Fin 1024) : (val_main_v2 (F := Ideal) x y (ix2 p q) : EReal) = col x y p.val q.val := by
  refine (val_main_v2_apply x y (ix2 p q)).trans (Eq.trans ?_ (col_eq x y p.isLt q.isLt).symm)
  refine Finset.sum_congr rfl fun k _ => ?_
  refine congrArg₂ (fun u v : EReal => u * v) ((val_main_v1_apply (F := Ideal) x _).trans (congrArg x ?_)) (congrArg y ?_)
  · exact ValueIdx.eq_ix2 _
  · exact ValueIdx.eq_ix2 _

/-- The reference where the call writes. -/
theorem ref_in (s : Fin 4) (r : Fin 256) (j : Fin 1024) :
    (val_main_v5 (F := Ideal) x y d (ix3 s ⟨2048 + r.val, by omega⟩ j) : EReal) = col x y (256 * s.val + r.val) j.val := by
  unfold val_main_v5
  refine (concatenate_apply_piece (α := EReal) (t := S4x2560x1024) 1 [⟨S4x2048x1024, val_main_v0 (F := Ideal) d⟩, ⟨S4x256x1024, val_main_v3 (F := Ideal) x y⟩, ⟨S4x256x1024, val_main_v4 (F := Ideal) d⟩] _
    (ix3 s ⟨2048 + r.val, by omega⟩ j) 1 (show 1 < 3 by decide) S4x256x1024 (val_main_v3 (F := Ideal) x y) rfl rfl 2048 rfl (ix3 s r j) (fun b hb => ?_) rfl).trans ?_
  · match b with
    | ⟨0, _⟩ => rfl
    | ⟨1, _⟩ => exact absurd rfl hb
    | ⟨2, _⟩ => rfl
  refine (val_main_v3_apply (F := Ideal) x y _).trans ?_
  refine Eq.trans (congrArg (val_main_v2 (F := Ideal) x y) (?_ : _ = ix2 ⟨256 * s.val + r.val, by omega⟩ j)) (prod_apply x y ⟨256 * s.val + r.val, by omega⟩ j)
  refine (ValueIdx.eq_ix2 _).trans (congrArg₂ ix2 (Fin.ext ?_) (Fin.ext ?_))
  · show ((s.val * 256 + r.val) * 1024 + j.val) / 1024 = 256 * s.val + r.val
    omega
  · show ((s.val * 256 + r.val) * 1024 + j.val) % 1024 = j.val
    omega

/-- The reference before the rows the call writes. -/
theorem ref_before (i : S4x2560x1024.Idx) (h : (i 1).val < 2048) : (val_main_v5 (F := Ideal) x y d i : EReal) = d i := by
  unfold val_main_v5
  refine (concatenate_apply_piece (α := EReal) (t := S4x2560x1024) 1 [⟨S4x2048x1024, val_main_v0 (F := Ideal) d⟩, ⟨S4x256x1024, val_main_v3 (F := Ideal) x y⟩, ⟨S4x256x1024, val_main_v4 (F := Ideal) d⟩] _
    i 0 (show 0 < 3 by decide) S4x2048x1024 (val_main_v0 (F := Ideal) d) rfl rfl 0 rfl (ix3 (i 0) ⟨(i 1).val, h⟩ (i 2)) (fun b hb => ?_) (Nat.zero_add _)).trans ?_
  · match b with
    | ⟨0, _⟩ => rfl
    | ⟨1, _⟩ => exact absurd rfl hb
    | ⟨2, _⟩ => rfl
  refine (val_main_v0_apply (F := Ideal) d _).trans (congrArg d ?_)
  exact (ValueIdx.eq_ix3 _).trans (ValueIdx.eq_ix3 i).symm

/-- The reference after the rows the call writes. -/
theorem ref_after (i : S4x2560x1024.Idx) (h : 2304 ≤ (i 1).val) : (val_main_v5 (F := Ideal) x y d i : EReal) = d i := by
  have h2 : (i 1).val < 2560 := (i 1).isLt
  unfold val_main_v5
  refine (concatenate_apply_piece (α := EReal) (t := S4x2560x1024) 1 [⟨S4x2048x1024, val_main_v0 (F := Ideal) d⟩, ⟨S4x256x1024, val_main_v3 (F := Ideal) x y⟩, ⟨S4x256x1024, val_main_v4 (F := Ideal) d⟩] _
    i 2 (show 2 < 3 by decide) S4x256x1024 (val_main_v4 (F := Ideal) d) rfl rfl 2304 rfl (ix3 (i 0) ⟨(i 1).val - 2304, by omega⟩ (i 2)) (fun b hb => ?_) (show 2304 + ((i 1).val - 2304) = (i 1).val by omega)).trans ?_
  · match b with
    | ⟨0, _⟩ => rfl
    | ⟨1, _⟩ => exact absurd rfl hb
    | ⟨2, _⟩ => rfl
  refine (val_main_v4_apply (F := Ideal) d _).trans (congrArg d ?_)
  refine (ValueIdx.eq_ix3 _).trans (Eq.trans (congrArg (fun q => ix3 (i 0) q (i 2)) (Fin.ext ?_)) (ValueIdx.eq_ix3 i).symm)
  show 2304 + ((i 1).val - 2304) = (i 1).val
  omega

/-- The reference elsewhere. -/
theorem ref_out (i : S4x2560x1024.Idx) (h : (i 1).val < 2048 ∨ 2304 ≤ (i 1).val) : (val_main_v5 (F := Ideal) x y d i : EReal) = d i :=
  h.elim (ref_before x y d i) (ref_after x y d i)

end Cert.Reference6Ideal.Hand

namespace Cert.Kernel6Ideal.Hand

open Idealize.ShloMosaic hiding ix1 ix2 ix3 ix4
open Idealize.ShloMosaic.TcCoe Idealize.ShloMosaic.ValueIdx Idealize.ShloMosaic.Tactic
open Cert.Kernel6Ideal Cert.Kernel6Ideal.Gen
open Cert.Wgrad

variable (m : (ℓ : Loc nD τ sig) → Buf (Elt Ideal) ℓ) (c : Dev nD)

/-- The array the call leaves is the reference's. -/
theorem arr6 : (dats m 0 c).arrAt 2 cfg0.N = Cert.Reference6Ideal.Read.val_main_v5 (F := Ideal) (aX m c) (aY m c) (m ((c : Thread nD τ).loc main_arg2)) := by
  refine (dats m 0 c).arrAt_eq_of_coversWhere_of_agree 2 _ (fun β => β (1 : Fin 3) = 8) (by decide +kernel) (fun t hf y => ?_) (fun i hi => ?_)
  · rw [after0_2]
    have ht := t_lt t
    have hf' := (flush0_2 t).mp hf
    obtain ⟨u, r, j, rfl⟩ : ∃ (u : Fin 1) (r : Fin 256) (j : Fin 1024), y = ix3 u r j := ⟨y 0, y 1, y 2, ValueIdx.eq_ix3 y⟩
    obtain rfl : u = 0 := Subsingleton.elim _ _
    refine (last6 m c t hf' r j).trans ?_
    have e0 : ((cfg0.win 2).blk t).view.emb (ix3 0 r j) = ix3 (⟨t.val / 2, by omega⟩ : Fin 4) ⟨2048 + r.val, by omega⟩ j := by
      blk_ext [index6_2]
    exact (Cert.Reference6Ideal.Hand.ref_in (aX m c) (aY m c) (m ((c : Thread nD τ).loc main_arg2)) ⟨t.val / 2, by omega⟩ r j).symm.trans
      (congrArg (Cert.Reference6Ideal.Read.val_main_v5 (F := Ideal) (aX m c) (aY m c) (m ((c : Thread nD τ).loc main_arg2))) e0.symm)
  · have h1 : ¬(i 1).val / 256 = 8 := hi
    have h2 : (i 1).val < 2560 := (i 1).isLt
    refine (congrFun (V_d m c) i).trans ?_
    exact (Cert.Reference6Ideal.Hand.ref_out (aX m c) (aY m c) (m ((c : Thread nD τ).loc main_arg2)) i (by omega)).symm

end Cert.Kernel6Ideal.Hand

namespace Cert.Proof

open Idealize.ShloMosaic hiding ix1 ix2 ix3 ix4
open Idealize.ShloMosaic.TcCoe Idealize.SL.Sem

/-- The call that makes the attention's output weights' gradient and its plain reference end with the same result. -/
theorem algebraic_w_o_mla : Cert.algebraic_Kernel6Ideal_Reference6Ideal (hKernel6Ideal := Cert.Kernel6Ideal.Gen.facts)
    (hReference6Ideal := Cert.Reference6Ideal.Gen.facts) := by
  intro m g m' g' hpre hargs
  refine ⟨fun c => (Cert.Kernel6Ideal.Gen.dats m 0 c).arrAt 2 Cert.Kernel6Ideal.cfg0.N, Cert.Kernel6Ideal.Value.run_blocks (F := Ideal) m g, ?_⟩
  refine (θ_run (Cert.Reference6Ideal.defs (F := Ideal)) _ _).mono (fun r h c => ?_) (Cert.Reference6Ideal.Value.run (F := Ideal) m' g')
  obtain ⟨e0, e1, e2⟩ := hargs c
  obtain ⟨k5, ka⟩ := h c
  refine ⟨(k5.trans (Cert.Reference6Ideal.Read.val_main_v5_eq (F := Ideal) _ _ _)).trans ?_, ka⟩
  rw [e0, e1, e2]
  exact (Cert.Kernel6Ideal.Hand.arr6 m c).symm

/-- The call runs, leaves its arguments as launched and ends with every counter at zero. -/
theorem frame_kernel6 : Cert.quiescent_Kernel6 (hKernel6 := Cert.Kernel6.Gen.facts) := fun m ρ _ =>
  Eq.mp (by sl_kernel_rfl) (Cert.Kernel6Ideal.Gen.frame (F := Bits) m ρ)

/-- The idealized call runs, leaves its arguments as launched and ends with every counter at zero. -/
theorem frame_kernel6Ideal : Cert.quiescent_Kernel6Ideal (hKernel6Ideal := Cert.Kernel6Ideal.Gen.facts) := fun m ρ _ =>
  Cert.Kernel6Ideal.Gen.frame (F := Ideal) m ρ

/-- The reference runs, leaves its arguments as launched and ends with every counter at zero. -/
theorem frame_reference6Ideal : Cert.quiescent_Reference6Ideal (hReference6Ideal := Cert.Reference6Ideal.Gen.facts) := fun m ρ _ =>
  (θ_run (Cert.Reference6Ideal.defs (F := Ideal)) _ _).mono
    (fun r h => ⟨fun c => (h c).2, sem_eq_zero_of_no_sems (by decide) r.2⟩)
    (Cert.Reference6Ideal.Value.run (F := Ideal) m ρ)

end Cert.Proof

end
-- ==== Proof.W7.lean ====
/-
  The gradient of the input weights: the call leaves the product of the two arrays' columns over all the rows.
-/
module

public import proofs.«01_k».proof.Defs
public import proofs.«01_k».proof.Proof.Wgrad
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Kernel7Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel7Ideal Cert.Kernel7Ideal.Gen
open Cert.Wgrad
open scoped BigOperators

variable (m : (ℓ : Loc nD τ sig) → Buf (Elt Ideal) ℓ) (c : Dev nD)

/-- The block index of the first array at a point. -/
theorem index7_0 : ∀ t : Fin cfg0.N, win0_0.index t = ![t.val % 4, t.val / 4] :=
  (by decide +kernel : ∀ t : Fin grid0.N, win0_0.index t = ![t.val % 4, t.val / 4])
/-- The block index of the second array at a point. -/
theorem index7_1 : ∀ t : Fin cfg0.N, win0_1.index t = ![t.val % 4, 0] :=
  (by decide +kernel : ∀ t : Fin grid0.N, win0_1.index t = ![t.val % 4, 0])
/-- The block index of the result at a point. -/
theorem index7_2 : ∀ t : Fin cfg0.N, win0_2.index t = ![t.val / 4, 0] :=
  (by decide +kernel : ∀ t : Fin grid0.N, win0_2.index t = ![t.val / 4, 0])

/-- A grid point's number is below 8. -/
theorem t_lt (t : Fin cfg0.N) : t.val < 8 := lt_of_lt_of_eq t.isLt N_0

/-- The first array as the call is entered with it. -/
theorem V_x : (V m c main_v0 : S4096x1024.Idx → EReal) = m ((c : Thread nD τ).loc main_arg0) := by
  show StableHlo.after hostOps0 (fun b => m (c, b)) (Proc.devRef .tc main_v0) = _
  after_results_simp <;> rfl

/-- The second array as the call is entered with it. -/
theorem V_y : (V m c main_v1 : S4096x3328.Idx → EReal) = m ((c : Thread nD τ).loc main_arg1) := by
  show StableHlo.after hostOps0 (fun b => m (c, b)) (Proc.devRef .tc main_v1) = _
  after_results_simp <;> rfl

/-- The first array. -/
abbrev aX : S4096x1024.Idx → EReal := m ((c : Thread nD τ).loc main_arg0)
/-- The second array. -/
abbrev aY : S4096x3328.Idx → EReal := m ((c : Thread nD τ).loc main_arg1)

/-- The first array's rows of a grid point. -/
theorem bX_apply (t : Fin cfg0.N) (k : Fin 1024) (r : Fin 512) :
    (iblk m c 0 t (ix2 k r) : EReal) = at2 (aX m c) (1024 * (t.val % 4) + k.val) (512 * (t.val / 4) + r.val) := by
  have ht := t_lt t
  rw [at2_of (aX m c) (by omega) (by omega)]
  refine Eq.trans ?_ (congrFun (V_x m c) _)
  unfold iblk
  refine congrArg (V m c main_v0) (?_ : ((cfg0.win 0).blk t).view.emb (ix2 k r) = _)
  blk_ext [index7_0]
  · show t.val % 4 * 1024 + k.val = 1024 * (t.val % 4) + k.val
    omega
  · show t.val / 4 * 512 + r.val = 512 * (t.val / 4) + r.val
    omega

/-- The second array's rows of a grid point. -/
theorem bY_apply (t : Fin cfg0.N) (k : Fin 1024) (j : Fin 3328) :
    (iblk m c 1 t (ix2 k j) : EReal) = at2 (aY m c) (1024 * (t.val % 4) + k.val) j.val := by
  have ht := t_lt t
  rw [at2_of (aY m c) (by omega) (by omega)]
  refine Eq.trans ?_ (congrFun (V_y m c) _)
  unfold iblk
  refine congrArg (V m c main_v1) (?_ : ((cfg0.win 1).blk t).view.emb (ix2 k j) = _)
  blk_ext [index7_1]
  show t.val % 4 * 1024 + k.val = 1024 * (t.val % 4) + k.val
  omega

/-- The term a row adds to an element of block `s` of the gradient. -/
abbrev term (s : ℕ) (r : Fin 512) (j : Fin 3328) (k : ℕ) : EReal := at2 (aX m c) k (512 * s + r.val) * at2 (aY m c) k j.val

/-- The product of a grid point's stretch of rows. -/
theorem part7 (t : Fin cfg0.N) (r : Fin 512) (j : Fin 3328) :
    (k0_pay1 (iblk m c 0 t) (iblk m c 1 t) (ix2 r j) : EReal) = ∑ k : Fin 1024, term m c (t.val / 4) r j (1024 * (t.val % 4) + k.val) :=
  (part_apply dot_S1024x512_S1024x3328_S512x3328_0_0_1_1_n_n rfl rfl rfl rfl rfl rfl _ _ _ _ r j).trans
    (Finset.sum_congr rfl fun k _ => congrArg₂ (fun u v : EReal => u * v) (bX_apply m c t k r) (bY_apply m c t k j))

/-- The first stretch starts the sum. -/
theorem first7 (t : Fin cfg0.N) (h0 : t.val % 4 = 0) (r : Fin 512) (j : Fin 3328) :
    (outsAt0 m c t.val t.isLt (ix2 r j) : EReal) = ∑ k : Fin 1024, term m c (t.val / 4) r j (1024 * (t.val % 4) + k.val) := by
  have e : outsAt0 m c t.val t.isLt = k0_pay1 (iblk m c 0 t) (iblk m c 1 t) := by
    rw [outsAt0_A m c t h0 (by omega)]; frame_out
  rw [e]
  exact part7 m c t r j

/-- The next stretch adds to it. -/
theorem next7 (t : Fin cfg0.N) (h0 : ¬t.val % 4 = 0) (r : Fin 512) (j : Fin 3328) :
    (outsAt0 m c t.val t.isLt (ix2 r j) : EReal) = outsAt0 m c (t.val - 1) (Nat.lt_of_le_of_lt (Nat.sub_le _ _) t.isLt) (ix2 r j)
      + ∑ k : Fin 1024, term m c (t.val / 4) r j (1024 * (t.val % 4) + k.val) := by
  have e : outsAt0 m c t.val t.isLt = k0_pay2 (iblk m c 0 t) (iblk m c 1 t) (outsAt0 m c (t.val - 1) (Nat.lt_of_le_of_lt (Nat.sub_le _ _) t.isLt)) := by
    rw [outsAt0_B m c t h0 (by omega)]; frame_out
  rw [e]
  exact (flat_add_apply _ _ _ r j).trans (congrArg _ (part7 m c t r j))

/-- When a block is written back it holds the product of the columns over all the rows. -/
theorem last7 (t : Fin cfg0.N) (h : t.val % 4 = 3) (r : Fin 512) (j : Fin 3328) :
    (outsAt0 m c t.val t.isLt (ix2 r j) : EReal) = col (aX m c) (aY m c) (512 * (t.val / 4) + r.val) j.val :=
   accum_last (N := cfg0.N) (J := 4) (s := 1024) (by decide) (fun n hn => (outsAt0 m c n hn (ix2 r j) : EReal)) (fun g => term m c g r j)
    (fun t h h0 => first7 m c ⟨t, h⟩ h0 r j) (fun t h h0 => next7 m c ⟨t, h⟩ h0 r j) t.val t.isLt h

end Cert.Kernel7Ideal.Hand

namespace Cert.Reference7Ideal.Hand

open Idealize.ShloMosaic hiding ix1 ix2 ix3 ix4
open Idealize.ShloMosaic.TcCoe Idealize.ShloMosaic.ValueIdx
open Cert.Reference7Ideal Cert.Reference7Ideal.Gen Cert.Reference7Ideal.Read
open Cert.Wgrad

variable (x : S4096x1024.Idx → EReal) (y : S4096x3328.Idx → EReal)

/-- The reference's product. -/
theorem prod_apply (p : Fin 1024) (q : Fin 3328) : (val_main_v1 (F := Ideal) x y (ix2 p q) : EReal) = col x y p.val q.val := by
  refine (val_main_v1_apply x y (ix2 p q)).trans (Eq.trans ?_ (col_eq x y p.isLt q.isLt).symm)
  refine Finset.sum_congr rfl fun k _ => ?_
  refine congrArg₂ (fun u v : EReal => u * v) ((val_main_v0_apply (F := Ideal) x _).trans (congrArg x ?_)) (congrArg y ?_)
  · exact ValueIdx.eq_ix2 _
  · exact ValueIdx.eq_ix2 _

end Cert.Reference7Ideal.Hand

namespace Cert.Kernel7Ideal.Hand

open Idealize.ShloMosaic hiding ix1 ix2 ix3 ix4
open Idealize.ShloMosaic.TcCoe Idealize.ShloMosaic.ValueIdx Idealize.ShloMosaic.Tactic
open Cert.Kernel7Ideal Cert.Kernel7Ideal.Gen
open Cert.Wgrad

variable (m : (ℓ : Loc nD τ sig) → Buf (Elt Ideal) ℓ) (c : Dev nD)

/-- The array the call leaves is the reference's. -/
theorem arr7 : (dats m 0 c).arrAt 2 cfg0.N = Cert.Reference7Ideal.Read.val_main_v1 (F := Ideal) (aX m c) (aY m c) := by
  refine (dats m 0 c).arrAt_eq_of_covers 2 _ (by decide +kernel) fun t hf y => ?_
  rw [after0_2]
  have ht := t_lt t
  have hf' := (flush0_2 t).mp hf
  obtain ⟨r, j, rfl⟩ : ∃ (r : Fin 512) (j : Fin 3328), y = ix2 r j := ⟨y 0, y 1, ValueIdx.eq_ix2 y⟩
  refine (last7 m c t hf' r j).trans ?_
  have e0 : ((cfg0.win 2).blk t).view.emb (ix2 r j) = ix2 (⟨512 * (t.val / 4) + r.val, by omega⟩ : Fin 1024) j := by
    blk_ext [index7_2]
    show t.val / 4 * 512 + r.val = 512 * (t.val / 4) + r.val
    omega
  exact (Cert.Reference7Ideal.Hand.prod_apply (aX m c) (aY m c) (⟨512 * (t.val / 4) + r.val, by omega⟩ : Fin 1024) j).symm.trans
    (congrArg (Cert.Reference7Ideal.Read.val_main_v1 (F := Ideal) (aX m c) (aY m c)) e0.symm)

end Cert.Kernel7Ideal.Hand

namespace Cert.Proof

open Idealize.ShloMosaic hiding ix1 ix2 ix3 ix4
open Idealize.ShloMosaic.TcCoe Idealize.SL.Sem

/-- The call that makes the input weights' gradient and its plain reference end with the same result. -/
theorem algebraic_w_in : Cert.algebraic_Kernel7Ideal_Reference7Ideal (hKernel7Ideal := Cert.Kernel7Ideal.Gen.facts)
    (hReference7Ideal := Cert.Reference7Ideal.Gen.facts) := by
  intro m g m' g' hpre hargs
  refine ⟨fun c => (Cert.Kernel7Ideal.Gen.dats m 0 c).arrAt 2 Cert.Kernel7Ideal.cfg0.N, Cert.Kernel7Ideal.Value.run_blocks (F := Ideal) m g, ?_⟩
  refine (θ_run (Cert.Reference7Ideal.defs (F := Ideal)) _ _).mono (fun r h c => ?_) (Cert.Reference7Ideal.Value.run (F := Ideal) m' g')
  obtain ⟨e0, e1⟩ := hargs c
  obtain ⟨k1, ka⟩ := h c
  refine ⟨(k1.trans (Cert.Reference7Ideal.Read.val_main_v1_eq (F := Ideal) _ _)).trans ?_, ka⟩
  rw [e0, e1]
  exact (Cert.Kernel7Ideal.Hand.arr7 m c).symm

/-- The call runs, leaves its arguments as launched and ends with every counter at zero. -/
theorem frame_kernel7 : Cert.quiescent_Kernel7 (hKernel7 := Cert.Kernel7.Gen.facts) := fun m ρ _ =>
  Eq.mp (by sl_kernel_rfl) (Cert.Kernel7Ideal.Gen.frame (F := Bits) m ρ)

/-- The idealized call runs, leaves its arguments as launched and ends with every counter at zero. -/
theorem frame_kernel7Ideal : Cert.quiescent_Kernel7Ideal (hKernel7Ideal := Cert.Kernel7Ideal.Gen.facts) := fun m ρ _ =>
  Cert.Kernel7Ideal.Gen.frame (F := Ideal) m ρ

/-- The reference runs, leaves its arguments as launched and ends with every counter at zero. -/
theorem frame_reference7Ideal : Cert.quiescent_Reference7Ideal (hReference7Ideal := Cert.Reference7Ideal.Gen.facts) := fun m ρ _ =>
  (θ_run (Cert.Reference7Ideal.defs (F := Ideal)) _ _).mono
    (fun r h => ⟨fun c => (h c).2, sem_eq_zero_of_no_sems (by decide) r.2⟩)
    (Cert.Reference7Ideal.Value.run (F := Ideal) m ρ)

end Cert.Proof

end
-- ==== Proof.W8.lean ====
/-
  The gradient of the query weights: the call leaves the product of the two arrays' columns over all the rows.
-/
module

public import proofs.«01_k».proof.Defs
public import proofs.«01_k».proof.Proof.Wgrad
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Kernel8Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel8Ideal Cert.Kernel8Ideal.Gen
open Cert.Wgrad
open scoped BigOperators

variable (m : (ℓ : Loc nD τ sig) → Buf (Elt Ideal) ℓ) (c : Dev nD)

/-- The block index of the first array at a point. -/
theorem index8_0 : ∀ t : Fin cfg0.N, win0_0.index t = ![t.val % 4, 0] :=
  (by decide +kernel : ∀ t : Fin grid0.N, win0_0.index t = ![t.val % 4, 0])
/-- The block index of the second array at a point. -/
theorem index8_1 : ∀ t : Fin cfg0.N, win0_1.index t = ![t.val % 4, 0] :=
  (by decide +kernel : ∀ t : Fin grid0.N, win0_1.index t = ![t.val % 4, 0])
/-- The block index of the result at a point. -/
theorem index8_2 : ∀ t : Fin cfg0.N, win0_2.index t = ![0, 0] :=
  (by decide +kernel : ∀ t : Fin grid0.N, win0_2.index t = ![0, 0])

/-- A grid point's number is below 4. -/
theorem t_lt (t : Fin cfg0.N) : t.val < 4 := lt_of_lt_of_eq t.isLt N_0

/-- The first array as the call is entered with it. -/
theorem V_x : (V m c main_v0 : S4096x384.Idx → EReal) = m ((c : Thread nD τ).loc main_arg0) := by
  show StableHlo.after hostOps0 (fun b => m (c, b)) (Proc.devRef .tc main_v0) = _
  after_results_simp <;> rfl

/-- The second array as the call is entered with it. -/
theorem V_y : (V m c main_v1 : S4096x2048.Idx → EReal) = m ((c : Thread nD τ).loc main_arg1) := by
  show StableHlo.after hostOps0 (fun b => m (c, b)) (Proc.devRef .tc main_v1) = _
  after_results_simp <;> rfl

/-- The first array. -/
abbrev aX : S4096x384.Idx → EReal := m ((c : Thread nD τ).loc main_arg0)
/-- The second array. -/
abbrev aY : S4096x2048.Idx → EReal := m ((c : Thread nD τ).loc main_arg1)

/-- The first array's rows of a grid point. -/
theorem bX_apply (t : Fin cfg0.N) (k : Fin 1024) (r : Fin 384) :
    (iblk m c 0 t (ix2 k r) : EReal) = at2 (aX m c) (1024 * (t.val % 4) + k.val) r.val := by
  have ht := t_lt t
  rw [at2_of (aX m c) (by omega) (by omega)]
  refine Eq.trans ?_ (congrFun (V_x m c) _)
  unfold iblk
  refine congrArg (V m c main_v0) (?_ : ((cfg0.win 0).blk t).view.emb (ix2 k r) = _)
  blk_ext [index8_0]
  show t.val % 4 * 1024 + k.val = 1024 * (t.val % 4) + k.val
  omega

/-- The second array's rows of a grid point. -/
theorem bY_apply (t : Fin cfg0.N) (k : Fin 1024) (j : Fin 2048) :
    (iblk m c 1 t (ix2 k j) : EReal) = at2 (aY m c) (1024 * (t.val % 4) + k.val) j.val := by
  have ht := t_lt t
  rw [at2_of (aY m c) (by omega) (by omega)]
  refine Eq.trans ?_ (congrFun (V_y m c) _)
  unfold iblk
  refine congrArg (V m c main_v1) (?_ : ((cfg0.win 1).blk t).view.emb (ix2 k j) = _)
  blk_ext [index8_1]
  show t.val % 4 * 1024 + k.val = 1024 * (t.val % 4) + k.val
  omega

/-- The term a row adds to an element of the gradient. -/
abbrev term (s : ℕ) (r : Fin 384) (j : Fin 2048) (k : ℕ) : EReal := at2 (aX m c) k r.val * at2 (aY m c) k j.val

/-- The product of a grid point's stretch of rows. -/
theorem part8 (t : Fin cfg0.N) (r : Fin 384) (j : Fin 2048) :
    (k0_pay1 (iblk m c 0 t) (iblk m c 1 t) (ix2 r j) : EReal) = ∑ k : Fin 1024, term m c (t.val / 4) r j (1024 * (t.val % 4) + k.val) :=
  (part_apply dot_S1024x384_S1024x2048_S384x2048_0_0_1_1_n_n rfl rfl rfl rfl rfl rfl _ _ _ _ r j).trans
    (Finset.sum_congr rfl fun k _ => congrArg₂ (fun u v : EReal => u * v) (bX_apply m c t k r) (bY_apply m c t k j))

/-- The first stretch starts the sum. -/
theorem first8 (t : Fin cfg0.N) (h0 : t.val % 4 = 0) (r : Fin 384) (j : Fin 2048) :
    (outsAt0 m c t.val t.isLt (ix2 r j) : EReal) = ∑ k : Fin 1024, term m c (t.val / 4) r j (1024 * (t.val % 4) + k.val) := by
  have e : outsAt0 m c t.val t.isLt = k0_pay1 (iblk m c 0 t) (iblk m c 1 t) := by
    rw [outsAt0_A m c t h0 (by have := t_lt t; omega)]; frame_out
  rw [e]
  exact part8 m c t r j

/-- The next stretch adds to it. -/
theorem next8 (t : Fin cfg0.N) (h0 : ¬t.val % 4 = 0) (r : Fin 384) (j : Fin 2048) :
    (outsAt0 m c t.val t.isLt (ix2 r j) : EReal) = outsAt0 m c (t.val - 1) (Nat.lt_of_le_of_lt (Nat.sub_le _ _) t.isLt) (ix2 r j)
      + ∑ k : Fin 1024, term m c (t.val / 4) r j (1024 * (t.val % 4) + k.val) := by
  have e : outsAt0 m c t.val t.isLt = k0_pay2 (iblk m c 0 t) (iblk m c 1 t) (outsAt0 m c (t.val - 1) (Nat.lt_of_le_of_lt (Nat.sub_le _ _) t.isLt)) := by
    rw [outsAt0_B m c t h0 (by omega)]; frame_out
  rw [e]
  exact (flat_add_apply _ _ _ r j).trans (congrArg _ (part8 m c t r j))

/-- When the block is written back it holds the product of the columns over all the rows. -/
theorem last8 (t : Fin cfg0.N) (h : t.val % 4 = 3) (r : Fin 384) (j : Fin 2048) :
    (outsAt0 m c t.val t.isLt (ix2 r j) : EReal) = col (aX m c) (aY m c) r.val j.val :=
   accum_last (N := cfg0.N) (J := 4) (s := 1024) (by decide) (fun n hn => (outsAt0 m c n hn (ix2 r j) : EReal)) (fun g => term m c g r j)
    (fun t h h0 => first8 m c ⟨t, h⟩ h0 r j) (fun t h h0 => next8 m c ⟨t, h⟩ h0 r j) t.val t.isLt h

end Cert.Kernel8Ideal.Hand

namespace Cert.Reference8Ideal.Hand

open Idealize.ShloMosaic hiding ix1 ix2 ix3 ix4
open Idealize.ShloMosaic.TcCoe Idealize.ShloMosaic.ValueIdx
open Cert.Reference8Ideal Cert.Reference8Ideal.Gen Cert.Reference8Ideal.Read
open Cert.Wgrad

variable (x : S4096x384.Idx → EReal) (y : S4096x2048.Idx → EReal)

/-- The reference's product. -/
theorem prod_apply (p : Fin 384) (q : Fin 2048) : (val_main_v1 (F := Ideal) x y (ix2 p q) : EReal) = col x y p.val q.val := by
  refine (val_main_v1_apply x y (ix2 p q)).trans (Eq.trans ?_ (col_eq x y p.isLt q.isLt).symm)
  refine Finset.sum_congr rfl fun k _ => ?_
  refine congrArg₂ (fun u v : EReal => u * v) ((val_main_v0_apply (F := Ideal) x _).trans (congrArg x ?_)) (congrArg y ?_)
  · exact ValueIdx.eq_ix2 _
  · exact ValueIdx.eq_ix2 _

end Cert.Reference8Ideal.Hand

namespace Cert.Kernel8Ideal.Hand

open Idealize.ShloMosaic hiding ix1 ix2 ix3 ix4
open Idealize.ShloMosaic.TcCoe Idealize.ShloMosaic.ValueIdx Idealize.ShloMosaic.Tactic
open Cert.Kernel8Ideal Cert.Kernel8Ideal.Gen
open Cert.Wgrad

variable (m : (ℓ : Loc nD τ sig) → Buf (Elt Ideal) ℓ) (c : Dev nD)

/-- The array the call leaves is the reference's. -/
theorem arr8 : (dats m 0 c).arrAt 2 cfg0.N = Cert.Reference8Ideal.Read.val_main_v1 (F := Ideal) (aX m c) (aY m c) := by
  refine (dats m 0 c).arrAt_eq_of_covers 2 _ (by decide +kernel) fun t hf y => ?_
  rw [after0_2]
  have ht := t_lt t
  have hf' := (flush0_2 t).mp hf
  obtain ⟨r, j, rfl⟩ : ∃ (r : Fin 384) (j : Fin 2048), y = ix2 r j := ⟨y 0, y 1, ValueIdx.eq_ix2 y⟩
  refine (last8 m c t hf' r j).trans ?_
  have e0 : ((cfg0.win 2).blk t).view.emb (ix2 r j) = ix2 r j := by
    blk_ext [index8_2]
  exact (Cert.Reference8Ideal.Hand.prod_apply (aX m c) (aY m c) r j).symm.trans
    (congrArg (Cert.Reference8Ideal.Read.val_main_v1 (F := Ideal) (aX m c) (aY m c)) e0.symm)

end Cert.Kernel8Ideal.Hand

namespace Cert.Proof

open Idealize.ShloMosaic hiding ix1 ix2 ix3 ix4
open Idealize.ShloMosaic.TcCoe Idealize.SL.Sem

/-- The call that makes the query weights' gradient and its plain reference end with the same result. -/
theorem algebraic_w_q_b : Cert.algebraic_Kernel8Ideal_Reference8Ideal (hKernel8Ideal := Cert.Kernel8Ideal.Gen.facts)
    (hReference8Ideal := Cert.Reference8Ideal.Gen.facts) := by
  intro m g m' g' hpre hargs
  refine ⟨fun c => (Cert.Kernel8Ideal.Gen.dats m 0 c).arrAt 2 Cert.Kernel8Ideal.cfg0.N, Cert.Kernel8Ideal.Value.run_blocks (F := Ideal) m g, ?_⟩
  refine (θ_run (Cert.Reference8Ideal.defs (F := Ideal)) _ _).mono (fun r h c => ?_) (Cert.Reference8Ideal.Value.run (F := Ideal) m' g')
  obtain ⟨e0, e1⟩ := hargs c
  obtain ⟨k1, ka⟩ := h c
  refine ⟨(k1.trans (Cert.Reference8Ideal.Read.val_main_v1_eq (F := Ideal) _ _)).trans ?_, ka⟩
  rw [e0, e1]
  exact (Cert.Kernel8Ideal.Hand.arr8 m c).symm

/-- The call runs, leaves its arguments as launched and ends with every counter at zero. -/
theorem frame_kernel8 : Cert.quiescent_Kernel8 (hKernel8 := Cert.Kernel8.Gen.facts) := fun m ρ _ =>
  Eq.mp (by sl_kernel_rfl) (Cert.Kernel8Ideal.Gen.frame (F := Bits) m ρ)

/-- The idealized call runs, leaves its arguments as launched and ends with every counter at zero. -/
theorem frame_kernel8Ideal : Cert.quiescent_Kernel8Ideal (hKernel8Ideal := Cert.Kernel8Ideal.Gen.facts) := fun m ρ _ =>
  Cert.Kernel8Ideal.Gen.frame (F := Ideal) m ρ

/-- The reference runs, leaves its arguments as launched and ends with every counter at zero. -/
theorem frame_reference8Ideal : Cert.quiescent_Reference8Ideal (hReference8Ideal := Cert.Reference8Ideal.Gen.facts) := fun m ρ _ =>
  (θ_run (Cert.Reference8Ideal.defs (F := Ideal)) _ _).mono
    (fun r h => ⟨fun c => (h c).2, sem_eq_zero_of_no_sems (by decide) r.2⟩)
    (Cert.Reference8Ideal.Value.run (F := Ideal) m ρ)

end Cert.Proof

end
-- ==== Proof.W9.lean ====
/-
  The gradient of the gate weights: the call leaves in each shard's rows the product of the two arrays' columns over all
  the rows, and what else was in the buffer is kept.
-/
module

public import proofs.«01_k».proof.Defs
public import proofs.«01_k».proof.Proof.Wgrad
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Kernel9Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel9Ideal Cert.Kernel9Ideal.Gen
open Cert.Wgrad
open scoped BigOperators

variable (m : (ℓ : Loc nD τ sig) → Buf (Elt Ideal) ℓ) (c : Dev nD)

/-- The block index of the first array at a point. -/
theorem index9_0 : ∀ t : Fin cfg0.N, win0_0.index t = ![t.val % 2, t.val / 2] :=
  (by decide +kernel : ∀ t : Fin grid0.N, win0_0.index t = ![t.val % 2, t.val / 2])
/-- The block index of the second array at a point. -/
theorem index9_1 : ∀ t : Fin cfg0.N, win0_1.index t = ![t.val % 2, 0] :=
  (by decide +kernel : ∀ t : Fin grid0.N, win0_1.index t = ![t.val % 2, 0])
/-- The block index of the result at a point. -/
theorem index9_2 : ∀ t : Fin cfg0.N, win0_2.index t = ![t.val / 2, 2, 0] :=
  (by decide +kernel : ∀ t : Fin grid0.N, win0_2.index t = ![t.val / 2, 2, 0])

/-- A grid point's number is below 8. -/
theorem t_lt (t : Fin cfg0.N) : t.val < 8 := lt_of_lt_of_eq t.isLt N_0

/-- The first array as the call is entered with it. -/
theorem V_x : (V m c main_v0 : S4096x512.Idx → EReal) = m ((c : Thread nD τ).loc main_arg0) := by
  show StableHlo.after hostOps0 (fun b => m (c, b)) (Proc.devRef .tc main_v0) = _
  after_results_simp <;> rfl

/-- The second array as the call is entered with it. -/
theorem V_y : (V m c main_v1 : S4096x512.Idx → EReal) = m ((c : Thread nD τ).loc main_arg1) := by
  show StableHlo.after hostOps0 (fun b => m (c, b)) (Proc.devRef .tc main_v1) = _
  after_results_simp <;> rfl

/-- The result's buffer as the call is entered with it. -/
theorem V_d : V m c main_v2 = m ((c : Thread nD τ).loc main_arg2) := by
  show StableHlo.after hostOps0 (fun b => m (c, b)) (Proc.devRef .tc main_v2) = _
  after_results_simp <;> rfl

/-- The first array. -/
abbrev aX : S4096x512.Idx → EReal := m ((c : Thread nD τ).loc main_arg0)
/-- The second array. -/
abbrev aY : S4096x512.Idx → EReal := m ((c : Thread nD τ).loc main_arg1)

/-- The first array's rows of a grid point. -/
theorem bX_apply (t : Fin cfg0.N) (k : Fin 2048) (r : Fin 128) :
    (iblk m c 0 t (ix2 k r) : EReal) = at2 (aX m c) (2048 * (t.val % 2) + k.val) (128 * (t.val / 2) + r.val) := by
  have ht := t_lt t
  rw [at2_of (aX m c) (by omega) (by omega)]
  refine Eq.trans ?_ (congrFun (V_x m c) _)
  unfold iblk
  refine congrArg (V m c main_v0) (?_ : ((cfg0.win 0).blk t).view.emb (ix2 k r) = _)
  blk_ext [index9_0]
  · show t.val % 2 * 2048 + k.val = 2048 * (t.val % 2) + k.val
    omega
  · show t.val / 2 * 128 + r.val = 128 * (t.val / 2) + r.val
    omega

/-- The second array's rows of a grid point. -/
theorem bY_apply (t : Fin cfg0.N) (k : Fin 2048) (j : Fin 512) :
    (iblk m c 1 t (ix2 k j) : EReal) = at2 (aY m c) (2048 * (t.val % 2) + k.val) j.val := by
  have ht := t_lt t
  rw [at2_of (aY m c) (by omega) (by omega)]
  refine Eq.trans ?_ (congrFun (V_y m c) _)
  unfold iblk
  refine congrArg (V m c main_v1) (?_ : ((cfg0.win 1).blk t).view.emb (ix2 k j) = _)
  blk_ext [index9_1]
  show t.val % 2 * 2048 + k.val = 2048 * (t.val % 2) + k.val
  omega

/-- The term a row adds to an element of shard `s`'s gradient. -/
abbrev term (s : ℕ) (r : Fin 128) (j : Fin 512) (k : ℕ) : EReal := at2 (aX m c) k (128 * s + r.val) * at2 (aY m c) k j.val

/-- The product of a grid point's stretch of rows. -/
theorem part9 (t : Fin cfg0.N) (r : Fin 128) (j : Fin 512) :
    (k0_pay1 (iblk m c 0 t) (iblk m c 1 t) (ix2 r j) : EReal) = ∑ k : Fin 2048, term m c (t.val / 2) r j (2048 * (t.val % 2) + k.val) :=
  (part_apply dot_S2048x128_S2048x512_S128x512_0_0_1_1_n_n rfl rfl rfl rfl rfl rfl _ _ _ _ r j).trans
    (Finset.sum_congr rfl fun k _ => congrArg₂ (fun u v : EReal => u * v) (bX_apply m c t k r) (bY_apply m c t k j))

/-- The first stretch starts the sum. -/
theorem first9 (t : Fin cfg0.N) (h0 : t.val % 2 = 0) (r : Fin 128) (j : Fin 512) :
    (outsAt0 m c t.val t.isLt (ix3 0 r j) : EReal) = ∑ k : Fin 2048, term m c (t.val / 2) r j (2048 * (t.val % 2) + k.val) := by
  have e : outsAt0 m c t.val t.isLt = k0_pay2 (iblk m c 0 t) (iblk m c 1 t) := by
    rw [outsAt0_A m c t h0 (by omega)]; frame_out
  rw [e]
  exact (lift_apply _ _ r j).trans (part9 m c t r j)

/-- The next stretch adds to it. -/
theorem next9 (t : Fin cfg0.N) (h0 : ¬t.val % 2 = 0) (r : Fin 128) (j : Fin 512) :
    (outsAt0 m c t.val t.isLt (ix3 0 r j) : EReal) = outsAt0 m c (t.val - 1) (Nat.lt_of_le_of_lt (Nat.sub_le _ _) t.isLt) (ix3 0 r j)
      + ∑ k : Fin 2048, term m c (t.val / 2) r j (2048 * (t.val % 2) + k.val) := by
  have e : outsAt0 m c t.val t.isLt = k0_pay3 (iblk m c 0 t) (iblk m c 1 t) (outsAt0 m c (t.val - 1) (Nat.lt_of_le_of_lt (Nat.sub_le _ _) t.isLt)) := by
    rw [outsAt0_B m c t h0 (by omega)]; frame_out
  rw [e]
  exact (lift_add_apply _ _ _ _ r j).trans (congrArg _ (part9 m c t r j))

/-- When a shard's block is written back it holds the product of the columns over all the rows. -/
theorem last9 (t : Fin cfg0.N) (h : t.val % 2 = 1) (r : Fin 128) (j : Fin 512) :
    (outsAt0 m c t.val t.isLt (ix3 0 r j) : EReal) = col (aX m c) (aY m c) (128 * (t.val / 2) + r.val) j.val :=
   accum_last (N := cfg0.N) (J := 2) (s := 2048) (by decide) (fun n hn => (outsAt0 m c n hn (ix3 0 r j) : EReal)) (fun g => term m c g r j)
    (fun t h h0 => first9 m c ⟨t, h⟩ h0 r j) (fun t h h0 => next9 m c ⟨t, h⟩ h0 r j) t.val t.isLt h

end Cert.Kernel9Ideal.Hand

namespace Cert.Reference9Ideal.Hand

open Idealize.ShloMosaic hiding ix1 ix2 ix3 ix4
open Idealize.ShloMosaic.TcCoe Idealize.ShloMosaic.ValueIdx
open Cert.Reference9Ideal Cert.Reference9Ideal.Gen Cert.Reference9Ideal.Read
open Cert.Wgrad

variable (x y : S4096x512.Idx → EReal) (d : S4x384x512.Idx → EReal)

/-- The reference's product. -/
theorem prod_apply (p : Fin 512) (q : Fin 512) : (val_main_v2 (F := Ideal) x y (ix2 p q) : EReal) = col x y p.val q.val := by
  refine (val_main_v2_apply x y (ix2 p q)).trans (Eq.trans ?_ (col_eq x y p.isLt q.isLt).symm)
  refine Finset.sum_congr rfl fun k _ => ?_
  refine congrArg₂ (fun u v : EReal => u * v) ((val_main_v1_apply (F := Ideal) x _).trans (congrArg x ?_)) (congrArg y ?_)
  · exact ValueIdx.eq_ix2 _
  · exact ValueIdx.eq_ix2 _

/-- The reference where the call writes. -/
theorem ref_in (s : Fin 4) (r : Fin 128) (j : Fin 512) :
    (val_main_v4 (F := Ideal) x y d (ix3 s ⟨256 + r.val, by omega⟩ j) : EReal) = col x y (128 * s.val + r.val) j.val := by
  unfold val_main_v4
  refine (concatenate_pair_apply_right (s₁ := S4x256x512) (s₂ := S4x128x512) (t := S4x384x512) 1 (val_main_v0 (F := Ideal) d) (val_main_v3 (F := Ideal) x y) _ (ix3 s ⟨256 + r.val, by omega⟩ j) rfl rfl (ix3 s r j)
    (fun b hb => ?_) (Nat.add_comm r.val 256)).trans ?_
  · match b with
    | ⟨0, _⟩ => rfl
    | ⟨1, _⟩ => exact absurd rfl hb
    | ⟨2, _⟩ => rfl
  refine (val_main_v3_apply (F := Ideal) x y _).trans ?_
  refine Eq.trans (congrArg (val_main_v2 (F := Ideal) x y) (?_ : _ = ix2 ⟨128 * s.val + r.val, by omega⟩ j)) (prod_apply x y ⟨128 * s.val + r.val, by omega⟩ j)
  refine (ValueIdx.eq_ix2 _).trans (congrArg₂ ix2 (Fin.ext ?_) (Fin.ext ?_))
  · show ((s.val * 128 + r.val) * 512 + j.val) / 512 = 128 * s.val + r.val
    omega
  · show ((s.val * 128 + r.val) * 512 + j.val) % 512 = j.val
    omega

/-- The reference elsewhere. -/
theorem ref_out (i : S4x384x512.Idx) (h : (i 1).val < 256) : (val_main_v4 (F := Ideal) x y d i : EReal) = d i := by
  unfold val_main_v4
  refine (concatenate_pair_apply_left (s₁ := S4x256x512) (s₂ := S4x128x512) (t := S4x384x512) 1 (val_main_v0 (F := Ideal) d) (val_main_v3 (F := Ideal) x y) _ i rfl (ix3 (i 0) ⟨(i 1).val, h⟩ (i 2))
    (fun b => ?_)).trans ?_
  · match b with
    | ⟨0, _⟩ => rfl
    | ⟨1, _⟩ => rfl
    | ⟨2, _⟩ => rfl
  refine (val_main_v0_apply (F := Ideal) d _).trans (congrArg d ?_)
  exact (ValueIdx.eq_ix3 _).trans (ValueIdx.eq_ix3 i).symm

end Cert.Reference9Ideal.Hand

namespace Cert.Kernel9Ideal.Hand

open Idealize.ShloMosaic hiding ix1 ix2 ix3 ix4
open Idealize.ShloMosaic.TcCoe Idealize.ShloMosaic.ValueIdx Idealize.ShloMosaic.Tactic
open Cert.Kernel9Ideal Cert.Kernel9Ideal.Gen
open Cert.Wgrad

variable (m : (ℓ : Loc nD τ sig) → Buf (Elt Ideal) ℓ) (c : Dev nD)

/-- The array the call leaves is the reference's. -/
theorem arr9 : (dats m 0 c).arrAt 2 cfg0.N = Cert.Reference9Ideal.Read.val_main_v4 (F := Ideal) (aX m c) (aY m c) (m ((c : Thread nD τ).loc main_arg2)) := by
  refine (dats m 0 c).arrAt_eq_of_coversWhere_of_agree 2 _ (fun β => β (1 : Fin 3) = 2) (by decide +kernel) (fun t hf y => ?_) (fun i hi => ?_)
  · rw [after0_2]
    have ht := t_lt t
    have hf' := (flush0_2 t).mp hf
    obtain ⟨u, r, j, rfl⟩ : ∃ (u : Fin 1) (r : Fin 128) (j : Fin 512), y = ix3 u r j := ⟨y 0, y 1, y 2, ValueIdx.eq_ix3 y⟩
    obtain rfl : u = 0 := Subsingleton.elim _ _
    refine (last9 m c t hf' r j).trans ?_
    have e0 : ((cfg0.win 2).blk t).view.emb (ix3 0 r j) = ix3 (⟨t.val / 2, by omega⟩ : Fin 4) ⟨256 + r.val, by omega⟩ j := by
      blk_ext [index9_2]
    exact (Cert.Reference9Ideal.Hand.ref_in (aX m c) (aY m c) (m ((c : Thread nD τ).loc main_arg2)) ⟨t.val / 2, by omega⟩ r j).symm.trans
      (congrArg (Cert.Reference9Ideal.Read.val_main_v4 (F := Ideal) (aX m c) (aY m c) (m ((c : Thread nD τ).loc main_arg2))) e0.symm)
  · have h1 : ¬(i 1).val / 128 = 2 := hi
    have h2 : (i 1).val < 384 := (i 1).isLt
    refine (congrFun (V_d m c) i).trans ?_
    exact (Cert.Reference9Ideal.Hand.ref_out (aX m c) (aY m c) (m ((c : Thread nD τ).loc main_arg2)) i (by omega)).symm

end Cert.Kernel9Ideal.Hand

namespace Cert.Proof

open Idealize.ShloMosaic hiding ix1 ix2 ix3 ix4
open Idealize.ShloMosaic.TcCoe Idealize.SL.Sem

/-- The call that makes the gate weights' gradient and its plain reference end with the same result. -/
theorem algebraic_w_glu : Cert.algebraic_Kernel9Ideal_Reference9Ideal (hKernel9Ideal := Cert.Kernel9Ideal.Gen.facts)
    (hReference9Ideal := Cert.Reference9Ideal.Gen.facts) := by
  intro m g m' g' hpre hargs
  refine ⟨fun c => (Cert.Kernel9Ideal.Gen.dats m 0 c).arrAt 2 Cert.Kernel9Ideal.cfg0.N, Cert.Kernel9Ideal.Value.run_blocks (F := Ideal) m g, ?_⟩
  refine (θ_run (Cert.Reference9Ideal.defs (F := Ideal)) _ _).mono (fun r h c => ?_) (Cert.Reference9Ideal.Value.run (F := Ideal) m' g')
  obtain ⟨e0, e1, e2⟩ := hargs c
  obtain ⟨k4, ka⟩ := h c
  refine ⟨(k4.trans (Cert.Reference9Ideal.Read.val_main_v4_eq (F := Ideal) _ _ _)).trans ?_, ka⟩
  rw [e0, e1, e2]
  exact (Cert.Kernel9Ideal.Hand.arr9 m c).symm

/-- The call runs, leaves its arguments as launched and ends with every counter at zero. -/
theorem frame_kernel9 : Cert.quiescent_Kernel9 (hKernel9 := Cert.Kernel9.Gen.facts) := fun m ρ _ =>
  Eq.mp (by sl_kernel_rfl) (Cert.Kernel9Ideal.Gen.frame (F := Bits) m ρ)

/-- The idealized call runs, leaves its arguments as launched and ends with every counter at zero. -/
theorem frame_kernel9Ideal : Cert.quiescent_Kernel9Ideal (hKernel9Ideal := Cert.Kernel9Ideal.Gen.facts) := fun m ρ _ =>
  Cert.Kernel9Ideal.Gen.frame (F := Ideal) m ρ

/-- The reference runs, leaves its arguments as launched and ends with every counter at zero. -/
theorem frame_reference9Ideal : Cert.quiescent_Reference9Ideal (hReference9Ideal := Cert.Reference9Ideal.Gen.facts) := fun m ρ _ =>
  (θ_run (Cert.Reference9Ideal.defs (F := Ideal)) _ _).mono
    (fun r h => ⟨fun c => (h c).2, sem_eq_zero_of_no_sems (by decide) r.2⟩)
    (Cert.Reference9Ideal.Value.run (F := Ideal) m ρ)

end Cert.Proof

end
-- ==== Proof.W10.lean ====
/-
  The gradient of the state-space output weights: the call leaves in each shard's columns the product of the two arrays' columns over
  all the rows.
-/
module

public import proofs.«01_k».proof.Defs
public import proofs.«01_k».proof.Proof.Wgrad
public import proofs.«01_k».proof.Proof.Gen.Kernel10
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Kernel10Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel10Ideal Cert.Kernel10Ideal.Gen
open Cert.Wgrad
open scoped BigOperators

variable (m : (ℓ : Loc nD τ sig) → Buf (Elt Ideal) ℓ) (c : Dev nD)

/-- The block index of the first array at a point. -/
theorem index10_0 : ∀ t : Fin cfg0.N, win0_0.index t = ![t.val % 2, 0] :=
  (by decide +kernel : ∀ t : Fin grid0.N, win0_0.index t = ![t.val % 2, 0])
/-- The block index of the second array at a point. -/
theorem index10_1 : ∀ t : Fin cfg0.N, win0_1.index t = ![t.val % 2, t.val / 2] :=
  (by decide +kernel : ∀ t : Fin grid0.N, win0_1.index t = ![t.val % 2, t.val / 2])
/-- The block index of the result at a point. -/
theorem index10_2 : ∀ t : Fin cfg0.N, win0_2.index t = ![t.val / 2, 0, 0] :=
  (by decide +kernel : ∀ t : Fin grid0.N, win0_2.index t = ![t.val / 2, 0, 0])

/-- A grid point's number is below 8. -/
theorem t_lt (t : Fin cfg0.N) : t.val < 8 := lt_of_lt_of_eq t.isLt N_0

/-- The first array as the call is entered with it. -/
theorem V_x : (V m c main_v0 : S4096x512.Idx → EReal) = m ((c : Thread nD τ).loc main_arg0) := by
  show StableHlo.after hostOps0 (fun b => m (c, b)) (Proc.devRef .tc main_v0) = _
  after_results_simp <;> rfl

/-- The second array as the call is entered with it. -/
theorem V_y : (V m c main_v1 : S4096x1024.Idx → EReal) = m ((c : Thread nD τ).loc main_arg1) := by
  show StableHlo.after hostOps0 (fun b => m (c, b)) (Proc.devRef .tc main_v1) = _
  after_results_simp <;> rfl

/-- The first array. -/
abbrev aX : S4096x512.Idx → EReal := m ((c : Thread nD τ).loc main_arg0)
/-- The second array. -/
abbrev aY : S4096x1024.Idx → EReal := m ((c : Thread nD τ).loc main_arg1)

/-- The first array's rows of a grid point. -/
theorem bX_apply (t : Fin cfg0.N) (k : Fin 2048) (r : Fin 512) :
    (iblk m c 0 t (ix2 k r) : EReal) = at2 (aX m c) (2048 * (t.val % 2) + k.val) r.val := by
  have ht := t_lt t
  rw [at2_of (aX m c) (by omega) (by omega)]
  refine Eq.trans ?_ (congrFun (V_x m c) _)
  unfold iblk
  refine congrArg (V m c main_v0) (?_ : ((cfg0.win 0).blk t).view.emb (ix2 k r) = _)
  blk_ext [index10_0]
  show t.val % 2 * 2048 + k.val = 2048 * (t.val % 2) + k.val
  omega

/-- The second array's rows of a grid point. -/
theorem bY_apply (t : Fin cfg0.N) (k : Fin 2048) (j : Fin 256) :
    (iblk m c 1 t (ix2 k j) : EReal) = at2 (aY m c) (2048 * (t.val % 2) + k.val) (256 * (t.val / 2) + j.val) := by
  have ht := t_lt t
  rw [at2_of (aY m c) (by omega) (by omega)]
  refine Eq.trans ?_ (congrFun (V_y m c) _)
  unfold iblk
  refine congrArg (V m c main_v1) (?_ : ((cfg0.win 1).blk t).view.emb (ix2 k j) = _)
  blk_ext [index10_1]
  · show t.val % 2 * 2048 + k.val = 2048 * (t.val % 2) + k.val
    omega
  · show t.val / 2 * 256 + j.val = 256 * (t.val / 2) + j.val
    omega

/-- The term a row adds to an element of shard `s`'s gradient. -/
abbrev term (s : ℕ) (r : Fin 512) (j : Fin 256) (k : ℕ) : EReal := at2 (aX m c) k r.val * at2 (aY m c) k (256 * s + j.val)

/-- The product of a grid point's stretch of rows. -/
theorem part10 (t : Fin cfg0.N) (r : Fin 512) (j : Fin 256) :
    (k0_pay1 (iblk m c 0 t) (iblk m c 1 t) (ix2 r j) : EReal) = ∑ k : Fin 2048, term m c (t.val / 2) r j (2048 * (t.val % 2) + k.val) :=
  (part_apply dot_S2048x512_S2048x256_S512x256_0_0_1_1_n_n rfl rfl rfl rfl rfl rfl _ _ _ _ r j).trans
    (Finset.sum_congr rfl fun k _ => congrArg₂ (fun u v : EReal => u * v) (bX_apply m c t k r) (bY_apply m c t k j))

/-- The first stretch starts the sum. -/
theorem first10 (t : Fin cfg0.N) (h0 : t.val % 2 = 0) (r : Fin 512) (j : Fin 256) :
    (outsAt0 m c t.val t.isLt (ix3 0 r j) : EReal) = ∑ k : Fin 2048, term m c (t.val / 2) r j (2048 * (t.val % 2) + k.val) := by
  have e : outsAt0 m c t.val t.isLt = k0_pay2 (iblk m c 0 t) (iblk m c 1 t) := by
    rw [outsAt0_A m c t h0 (by omega)]; frame_out
  rw [e]
  exact (lift_apply _ _ r j).trans (part10 m c t r j)

/-- The next stretch adds to it. -/
theorem next10 (t : Fin cfg0.N) (h0 : ¬t.val % 2 = 0) (r : Fin 512) (j : Fin 256) :
    (outsAt0 m c t.val t.isLt (ix3 0 r j) : EReal) = outsAt0 m c (t.val - 1) (Nat.lt_of_le_of_lt (Nat.sub_le _ _) t.isLt) (ix3 0 r j)
      + ∑ k : Fin 2048, term m c (t.val / 2) r j (2048 * (t.val % 2) + k.val) := by
  have e : outsAt0 m c t.val t.isLt = k0_pay3 (iblk m c 0 t) (iblk m c 1 t) (outsAt0 m c (t.val - 1) (Nat.lt_of_le_of_lt (Nat.sub_le _ _) t.isLt)) := by
    rw [outsAt0_B m c t h0 (by omega)]; frame_out
  rw [e]
  exact (lift_add_apply _ _ _ _ r j).trans (congrArg _ (part10 m c t r j))

/-- When a shard's block is written back it holds the product of the columns over all the rows. -/
theorem last10 (t : Fin cfg0.N) (h : t.val % 2 = 1) (r : Fin 512) (j : Fin 256) :
    (outsAt0 m c t.val t.isLt (ix3 0 r j) : EReal) = col (aX m c) (aY m c) r.val (256 * (t.val / 2) + j.val) :=
   accum_last (N := cfg0.N) (J := 2) (s := 2048) (by decide) (fun n hn => (outsAt0 m c n hn (ix3 0 r j) : EReal)) (fun g => term m c g r j)
    (fun t h h0 => first10 m c ⟨t, h⟩ h0 r j) (fun t h h0 => next10 m c ⟨t, h⟩ h0 r j) t.val t.isLt h

end Cert.Kernel10Ideal.Hand

namespace Cert.Reference10Ideal.Hand

open Idealize.ShloMosaic hiding ix1 ix2 ix3 ix4
open Idealize.ShloMosaic.TcCoe Idealize.ShloMosaic.ValueIdx
open Cert.Reference10Ideal Cert.Reference10Ideal.Gen Cert.Reference10Ideal.Read
open Cert.Wgrad

variable (x : S4096x512.Idx → EReal) (y : S4096x1024.Idx → EReal)

/-- The reference's product. -/
theorem prod_apply (p : Fin 512) (q : Fin 1024) : (val_main_v1 (F := Ideal) x y (ix2 p q) : EReal) = col x y p.val q.val := by
  refine (val_main_v1_apply x y (ix2 p q)).trans (Eq.trans ?_ (col_eq x y p.isLt q.isLt).symm)
  refine Finset.sum_congr rfl fun k _ => ?_
  refine congrArg₂ (fun u v : EReal => u * v) ((val_main_v0_apply (F := Ideal) x _).trans (congrArg x ?_)) (congrArg y ?_)
  · exact ValueIdx.eq_ix2 _
  · exact ValueIdx.eq_ix2 _

/-- The reference at an element. -/
theorem ref_in (s : Fin 4) (r : Fin 512) (j : Fin 256) :
    (val_main_v3 (F := Ideal) x y (ix3 s r j) : EReal) = col x y r.val (256 * s.val + j.val) := by
  refine (val_main_v3_apply (F := Ideal) x y _).trans ((val_main_v2_apply (F := Ideal) x y _).trans ?_)
  refine Eq.trans (congrArg (val_main_v1 (F := Ideal) x y) (?_ : _ = ix2 r ⟨256 * s.val + j.val, by omega⟩)) (prod_apply x y r ⟨256 * s.val + j.val, by omega⟩)
  refine (ValueIdx.eq_ix2 _).trans (congrArg₂ ix2 (Fin.ext ?_) (Fin.ext ?_))
  · show ((r.val * 4 + s.val) * 256 + j.val) / 1024 = r.val
    omega
  · show ((r.val * 4 + s.val) * 256 + j.val) % 1024 = 256 * s.val + j.val
    omega

end Cert.Reference10Ideal.Hand

namespace Cert.Kernel10Ideal.Hand

open Idealize.ShloMosaic hiding ix1 ix2 ix3 ix4
open Idealize.ShloMosaic.TcCoe Idealize.ShloMosaic.ValueIdx Idealize.ShloMosaic.Tactic
open Cert.Kernel10Ideal Cert.Kernel10Ideal.Gen
open Cert.Wgrad

variable (m : (ℓ : Loc nD τ sig) → Buf (Elt Ideal) ℓ) (c : Dev nD)

/-- The array the call leaves is the reference's. -/
theorem arr10 : (dats m 0 c).arrAt 2 cfg0.N = Cert.Reference10Ideal.Read.val_main_v3 (F := Ideal) (aX m c) (aY m c) := by
  refine (dats m 0 c).arrAt_eq_of_covers 2 _ (by decide +kernel) fun t hf y => ?_
  rw [after0_2]
  have ht := t_lt t
  have hf' := (flush0_2 t).mp hf
  obtain ⟨u, r, j, rfl⟩ : ∃ (u : Fin 1) (r : Fin 512) (j : Fin 256), y = ix3 u r j := ⟨y 0, y 1, y 2, ValueIdx.eq_ix3 y⟩
  obtain rfl : u = 0 := Subsingleton.elim _ _
  refine (last10 m c t hf' r j).trans ?_
  have e0 : ((cfg0.win 2).blk t).view.emb (ix3 0 r j) = ix3 (⟨t.val / 2, by omega⟩ : Fin 4) r j := by
    blk_ext [index10_2]
  exact (Cert.Reference10Ideal.Hand.ref_in (aX m c) (aY m c) ⟨t.val / 2, by omega⟩ r j).symm.trans
    (congrArg (Cert.Reference10Ideal.Read.val_main_v3 (F := Ideal) (aX m c) (aY m c)) e0.symm)

end Cert.Kernel10Ideal.Hand

namespace Cert.Proof

open Idealize.ShloMosaic hiding ix1 ix2 ix3 ix4
open Idealize.ShloMosaic.TcCoe Idealize.SL.Sem

/-- The call that makes the state-space output weights' gradient and its plain reference end with the same result. -/
theorem algebraic_w_o_ssm : Cert.algebraic_Kernel10Ideal_Reference10Ideal (hKernel10Ideal := Cert.Kernel10Ideal.Gen.facts)
    (hReference10Ideal := Cert.Reference10Ideal.Gen.facts) := by
  intro m g m' g' hpre hargs
  refine ⟨fun c => (Cert.Kernel10Ideal.Gen.dats m 0 c).arrAt 2 Cert.Kernel10Ideal.cfg0.N, Cert.Kernel10Ideal.Value.run_blocks (F := Ideal) m g, ?_⟩
  refine (θ_run (Cert.Reference10Ideal.defs (F := Ideal)) _ _).mono (fun r h c => ?_) (Cert.Reference10Ideal.Value.run (F := Ideal) m' g')
  obtain ⟨e0, e1⟩ := hargs c
  obtain ⟨k3, ka⟩ := h c
  refine ⟨(k3.trans (Cert.Reference10Ideal.Read.val_main_v3_eq (F := Ideal) _ _)).trans ?_, ka⟩
  rw [e0, e1]
  exact (Cert.Kernel10Ideal.Hand.arr10 m c).symm

/-- The call runs, leaves its arguments as launched and ends with every counter at zero. -/
theorem frame_kernel10 : Cert.quiescent_Kernel10 (hKernel10 := Cert.Kernel10.Gen.facts) := fun m ρ _ =>
  Eq.mp (by sl_kernel_rfl) (Cert.Kernel10Ideal.Gen.frame (F := Bits) m ρ)

/-- The idealized call runs, leaves its arguments as launched and ends with every counter at zero. -/
theorem frame_kernel10Ideal : Cert.quiescent_Kernel10Ideal (hKernel10Ideal := Cert.Kernel10Ideal.Gen.facts) := fun m ρ _ =>
  Cert.Kernel10Ideal.Gen.frame (F := Ideal) m ρ

/-- The reference runs, leaves its arguments as launched and ends with every counter at zero. -/
theorem frame_reference10Ideal : Cert.quiescent_Reference10Ideal (hReference10Ideal := Cert.Reference10Ideal.Gen.facts) := fun m ρ _ =>
  (θ_run (Cert.Reference10Ideal.defs (F := Ideal)) _ _).mono
    (fun r h => ⟨fun c => (h c).2, sem_eq_zero_of_no_sems (by decide) r.2⟩)
    (Cert.Reference10Ideal.Value.run (F := Ideal) m ρ)

end Cert.Proof

end
-- ==== Proof.Adam.lean ====
/-
  One AdamW step of a single element, over exact values: the two running means and the change of the weight, with the step's
  constants.
-/
module

public import Idealize.ShloMosaic.PureOps.Ideal

@[expose] public section

noncomputable section

namespace Cert.Adam

open Idealize.ShloMosaic

/-- A constant of the step as an exact value. -/
abbrev lit (b : BitVec 32) : Ideal .f32 := FloatOps.ofBits .f32 b

/-- The running mean of the gradient, moved a tenth of the way to the gradient. -/
def mean (g m : Ideal .f32) : Ideal .f32 :=
  FloatOps.addf (FloatOps.mulf (lit 0x3F666666#32) m) (FloatOps.mulf (lit 0x3DCCCCCD#32) g)

/-- The running mean of the squared gradient, moved a thousandth of the way to the square. -/
def square (g v : Ideal .f32) : Ideal .f32 :=
  FloatOps.addf (FloatOps.mulf (lit 0x3F7FBE77#32) v) (FloatOps.mulf (lit 0x3A83126F#32) (FloatOps.mulf g g))

/-- The change of a weight: the corrected mean over the root of the corrected square, with the weight's decay. -/
def change (w g m v : Ideal .f32) : Ideal .f32 :=
  FloatOps.mulf (lit 0xBA83126F#32)
    (FloatOps.addf
      (FloatOps.divf (FloatOps.divf (mean g m) (lit 0x3F26BD02#32))
        (FloatOps.addf (FloatOps.sqrt (FloatOps.divf (square g v) (lit 0x3C231ACC#32))) (lit 0x322BCC77#32)))
      (FloatOps.mulf (lit 0x3C23D70A#32) w))

end Cert.Adam

end
-- ==== Proof.A11.lean ====
/-
  The optimiser's step of the small weights, packed in rows: each point's block of rows gets the step of its elements.
-/
module

public import proofs.«01_k».proof.Defs
public import proofs.«01_k».proof.Proof.Adam
public import proofs.«01_k».proof.Proof.Gen.Kernel11
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference11Ideal.Hand

open Idealize.ShloMosaic
open Cert.Reference11Ideal Cert.Reference11Ideal.Read

variable (w : S144x1024.Idx → Ideal .f32) (g : S144x1024.Idx → Ideal .f32) (m v : S144x1024.Idx → Ideal .f32) (i : S144x1024.Idx)

/-- The reference's running mean at an element. -/
theorem mean_apply : val_main_v4 (F := Ideal) g m i = Adam.mean (g i) (m i) := rfl

/-- The reference's running square at an element. -/
theorem square_apply : val_main_v10 (F := Ideal) g v i = Adam.square (g i) (v i) := rfl

/-- The reference's change at an element. -/
theorem change_apply : val_main_v23 (F := Ideal) w g m v i = Adam.change (w i) (g i) (m i) (v i) := rfl

end Cert.Reference11Ideal.Hand

namespace Cert.Kernel11Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel11Ideal Cert.Kernel11Ideal.Gen

variable (m : (ℓ : Loc nD τ sig) → Buf (Elt Ideal) ℓ) (c : Dev nD)

/-- The weight. -/
abbrev aW : S144x1024.Idx → Ideal .f32 := m ((c : Thread nD τ).loc main_arg0)
/-- The gradients. -/
abbrev aG : S144x1024.Idx → Ideal .f32 := m ((c : Thread nD τ).loc main_arg1)
/-- The running mean. -/
abbrev aM : S144x1024.Idx → Ideal .f32 := m ((c : Thread nD τ).loc main_arg2)
/-- The running square. -/
abbrev aV : S144x1024.Idx → Ideal .f32 := m ((c : Thread nD τ).loc main_arg3)

/-- Where a point's block lies in the results. -/
abbrev spot (t : Fin cfg0.N) (y : S16x1024.Idx) : S144x1024.Idx := ((cfg0.win 4).blk t).view.emb y

/-- The weight's block of a point. -/
theorem bW (t : Fin cfg0.N) (y : S16x1024.Idx) : iblk m c 0 t y = aW m c (spot t y) := congrFun (V_main_arg0 m c) _
/-- The running mean's block of a point. -/
theorem bM (t : Fin cfg0.N) (y : S16x1024.Idx) : iblk m c 2 t y = aM m c (spot t y) := congrFun (V_main_arg2 m c) _
/-- The running square's block of a point. -/
theorem bV (t : Fin cfg0.N) (y : S16x1024.Idx) : iblk m c 3 t y = aV m c (spot t y) := congrFun (V_main_arg3 m c) _

/-- The block index of the gradients at a point. -/
theorem index11_1 : ∀ t : Fin cfg0.N, win0_1.index t = ![t.val, 0] :=
  (by decide +kernel : ∀ t : Fin grid0.N, win0_1.index t = ![t.val, 0])
/-- The block index of the results at a point. -/
theorem index11_4 : ∀ t : Fin cfg0.N, win0_4.index t = ![t.val, 0] :=
  (by decide +kernel : ∀ t : Fin grid0.N, win0_4.index t = ![t.val, 0])

/-- The gradient's block of a point. -/
theorem bG (t : Fin cfg0.N) (y : S16x1024.Idx) : iblk m c 1 t y = aG m c (spot t y) := by
  have ht : t.val < 9 := lt_of_lt_of_eq t.isLt N_0
  obtain ⟨r, j, rfl⟩ : ∃ (r : Fin 16) (j : Fin 1024), y = ix2 r j := ⟨y 0, y 1, ValueIdx.eq_ix2 y⟩
  refine (congrFun (V_main_arg1 m c) _).trans (congrArg (aG m c) ?_)
  have er : ((ix2 r j 0 : Fin 16) : ℕ) = r.val := rfl
  have e1 : ((cfg0.win 1).blk t).view.emb (ix2 r j) = ix2 (⟨16 * t.val + r.val, by omega⟩ : Fin 144) j := by
    blk_ext [index11_1]
  have e4 : spot t (ix2 r j) = ix2 (⟨16 * t.val + r.val, by omega⟩ : Fin 144) j := by
    unfold spot
    blk_ext [index11_4]
  exact e1.trans e4.symm

/-- The gradients passed on. -/
theorem grad11 : (dats m 0 c).arrAt 4 cfg0.N = aG m c := by
  refine (dats m 0 c).arrAt_eq_of_covers 4 _ (by decide +kernel) fun t hf y => ?_
  rw [after0_4]
  have e : (outsAt0 m c t).1 = iblk m c 1 t := by unfold outsAt0; frame_out
  rw [e]
  exact bG m c t y

/-- The changes of the weights. -/
theorem change11 : (dats m 0 c).arrAt 5 cfg0.N = Cert.Reference11Ideal.Read.val_main_v23 (F := Ideal) (aW m c) (aG m c) (aM m c) (aV m c) := by
  refine (dats m 0 c).arrAt_eq_of_covers 5 _ (by decide +kernel) fun t hf y => ?_
  rw [after0_5]
  have e : (outsAt0 m c t).2.1 = k0_pay3 (iblk m c 1 t) (iblk m c 2 t) (iblk m c 3 t) (iblk m c 0 t) := by unfold outsAt0; frame_out
  rw [e]
  refine Eq.trans ?_ (Cert.Reference11Ideal.Hand.change_apply (aW m c) (aG m c) (aM m c) (aV m c) (spot t y)).symm
  rw [← bW, ← bG, ← bM, ← bV]
  rfl

/-- The new running means. -/
theorem mean11 : (dats m 0 c).arrAt 6 cfg0.N = Cert.Reference11Ideal.Read.val_main_v4 (F := Ideal) (aG m c) (aM m c) := by
  refine (dats m 0 c).arrAt_eq_of_covers 6 _ (by decide +kernel) fun t hf y => ?_
  rw [after0_6]
  have e : (outsAt0 m c t).2.2.1 = k0_pay1 (iblk m c 1 t) (iblk m c 2 t) := by unfold outsAt0; frame_out
  rw [e]
  refine Eq.trans ?_ (Cert.Reference11Ideal.Hand.mean_apply (aG m c) (aM m c) (spot t y)).symm
  rw [← bG, ← bM]
  rfl

/-- The new running squares. -/
theorem square11 : (dats m 0 c).arrAt 7 cfg0.N = Cert.Reference11Ideal.Read.val_main_v10 (F := Ideal) (aG m c) (aV m c) := by
  refine (dats m 0 c).arrAt_eq_of_covers 7 _ (by decide +kernel) fun t hf y => ?_
  rw [after0_7]
  have e : (outsAt0 m c t).2.2.2 = k0_pay2 (iblk m c 1 t) (iblk m c 3 t) := by unfold outsAt0; frame_out
  rw [e]
  refine Eq.trans ?_ (Cert.Reference11Ideal.Hand.square_apply (aG m c) (aV m c) (spot t y)).symm
  rw [← bG, ← bV]
  rfl

end Cert.Kernel11Ideal.Hand

namespace Cert.Proof

open Idealize.ShloMosaic hiding ix1 ix2 ix3 ix4
open Idealize.ShloMosaic.TcCoe Idealize.SL.Sem

/-- The optimiser's step of the small weights, packed in rows and its plain reference end with the same results. -/
theorem algebraic_adamw_small : Cert.algebraic_Kernel11Ideal_Reference11Ideal (hKernel11Ideal := Cert.Kernel11Ideal.Gen.facts)
    (hReference11Ideal := Cert.Reference11Ideal.Gen.facts) := by
  intro m g m' g' hpre hargs
  refine ⟨fun c => (Cert.Kernel11Ideal.Gen.dats m 0 c).arrAt 4 Cert.Kernel11Ideal.cfg0.N, fun c => (Cert.Kernel11Ideal.Gen.dats m 0 c).arrAt 5 Cert.Kernel11Ideal.cfg0.N,
    fun c => (Cert.Kernel11Ideal.Gen.dats m 0 c).arrAt 6 Cert.Kernel11Ideal.cfg0.N, fun c => (Cert.Kernel11Ideal.Gen.dats m 0 c).arrAt 7 Cert.Kernel11Ideal.cfg0.N,
    Cert.Kernel11Ideal.Value.run_blocks (F := Ideal) m g, ?_⟩
  refine (θ_run (Cert.Reference11Ideal.defs (F := Ideal)) _ _).mono (fun r h c => ?_) (Cert.Reference11Ideal.Value.run (F := Ideal) m' g')
  obtain ⟨e0, e1, e2, e3⟩ := hargs c
  obtain ⟨k0, k1, k2, k3, ka⟩ := h c
  rw [e0, e1, e2, e3] at k1
  rw [e1] at k0
  rw [e1, e2] at k2
  rw [e1, e3] at k3
  exact ⟨k0.trans (Cert.Kernel11Ideal.Hand.grad11 m c).symm, k1.trans (Cert.Kernel11Ideal.Hand.change11 m c).symm,
    k2.trans (Cert.Kernel11Ideal.Hand.mean11 m c).symm, k3.trans (Cert.Kernel11Ideal.Hand.square11 m c).symm, ka⟩

/-- The call runs, leaves its arguments as launched and ends with every counter at zero. -/
theorem frame_kernel11 : Cert.quiescent_Kernel11 (hKernel11 := Cert.Kernel11.Gen.facts) := fun m ρ _ =>
  Eq.mp (by sl_kernel_rfl) (Cert.Kernel11Ideal.Gen.frame (F := Bits) m ρ)

/-- The idealized call runs, leaves its arguments as launched and ends with every counter at zero. -/
theorem frame_kernel11Ideal : Cert.quiescent_Kernel11Ideal (hKernel11Ideal := Cert.Kernel11Ideal.Gen.facts) := fun m ρ _ =>
  Cert.Kernel11Ideal.Gen.frame (F := Ideal) m ρ

/-- The reference runs, leaves its arguments as launched and ends with every counter at zero. -/
theorem frame_reference11Ideal : Cert.quiescent_Reference11Ideal (hReference11Ideal := Cert.Reference11Ideal.Gen.facts) := fun m ρ _ =>
  (θ_run (Cert.Reference11Ideal.defs (F := Ideal)) _ _).mono
    (fun r h => ⟨fun c => (h c).2.2.2.2, sem_eq_zero_of_no_sems (by decide) r.2⟩)
    (Cert.Reference11Ideal.Value.run (F := Ideal) m ρ)

end Cert.Proof

end
-- ==== Proof.A12.lean ====
/-
  The optimiser's step of the contracting weight: each point's block of rows gets the step of its elements, its gradient from the
  weight's rows of the group.
-/
module

public import proofs.«01_k».proof.Defs
public import proofs.«01_k».proof.Proof.Adam
public import proofs.«01_k».proof.Proof.Gen.Kernel12
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference12Ideal.Hand

open Idealize.ShloMosaic
open Cert.Reference12Ideal Cert.Reference12Ideal.Read

variable (w : S1024x1024.Idx → Ideal .f32) (g : S2560x1024.Idx → Ideal .f32) (m v : S1024x1024.Idx → Ideal .f32) (i : S1024x1024.Idx)

/-- The reference's running mean at an element. -/
theorem mean_apply : val_main_v5 (F := Ideal) g m i = Adam.mean (g (idx_main_v0 i)) (m i) := by
  rw [← val_main_v0_apply (F := Ideal) g i]; rfl

/-- The reference's running square at an element. -/
theorem square_apply : val_main_v11 (F := Ideal) g v i = Adam.square (g (idx_main_v0 i)) (v i) := by
  rw [← val_main_v0_apply (F := Ideal) g i]; rfl

/-- The reference's change at an element. -/
theorem change_apply : val_main_v24 (F := Ideal) w g m v i = Adam.change (w i) (g (idx_main_v0 i)) (m i) (v i) := by
  rw [← val_main_v0_apply (F := Ideal) g i]; rfl

end Cert.Reference12Ideal.Hand

namespace Cert.Kernel12Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel12Ideal Cert.Kernel12Ideal.Gen
open Cert.Reference12Ideal.Read (idx_main_v0)

variable (m : (ℓ : Loc nD τ sig) → Buf (Elt Ideal) ℓ) (c : Dev nD)

/-- The weight. -/
abbrev aW : S1024x1024.Idx → Ideal .f32 := m ((c : Thread nD τ).loc main_arg0)
/-- The group's gradients. -/
abbrev aG : S2560x1024.Idx → Ideal .f32 := m ((c : Thread nD τ).loc main_arg1)
/-- The running mean. -/
abbrev aM : S1024x1024.Idx → Ideal .f32 := m ((c : Thread nD τ).loc main_arg2)
/-- The running square. -/
abbrev aV : S1024x1024.Idx → Ideal .f32 := m ((c : Thread nD τ).loc main_arg3)

/-- Where a point's block lies in the results. -/
abbrev spot (t : Fin cfg0.N) (y : S256x1024.Idx) : S1024x1024.Idx := ((cfg0.win 4).blk t).view.emb y

/-- The weight's block of a point. -/
theorem bW (t : Fin cfg0.N) (y : S256x1024.Idx) : iblk m c 0 t y = aW m c (spot t y) := congrFun (V_main_arg0 m c) _
/-- The running mean's block of a point. -/
theorem bM (t : Fin cfg0.N) (y : S256x1024.Idx) : iblk m c 2 t y = aM m c (spot t y) := congrFun (V_main_arg2 m c) _
/-- The running square's block of a point. -/
theorem bV (t : Fin cfg0.N) (y : S256x1024.Idx) : iblk m c 3 t y = aV m c (spot t y) := congrFun (V_main_arg3 m c) _

/-- The block index of the gradients at a point. -/
theorem index12_1 : ∀ t : Fin cfg0.N, win0_1.index t = ![t.val, 0] :=
  (by decide +kernel : ∀ t : Fin grid0.N, win0_1.index t = ![t.val, 0])
/-- The block index of the results at a point. -/
theorem index12_4 : ∀ t : Fin cfg0.N, win0_4.index t = ![t.val, 0] :=
  (by decide +kernel : ∀ t : Fin grid0.N, win0_4.index t = ![t.val, 0])

/-- The gradient's block of a point lies in the weight's rows of the group. -/
theorem bG (t : Fin cfg0.N) (y : S256x1024.Idx) : iblk m c 1 t y = aG m c (idx_main_v0 (spot t y)) := by
  have ht : t.val < 4 := lt_of_lt_of_eq t.isLt N_0
  obtain ⟨r, j, rfl⟩ : ∃ (r : Fin 256) (j : Fin 1024), y = ix2 r j := ⟨y 0, y 1, ValueIdx.eq_ix2 y⟩
  refine (congrFun (V_main_arg1 m c) _).trans (congrArg (aG m c) ?_)
  have er : ((ix2 r j 0 : Fin 256) : ℕ) = r.val := rfl
  have e1 : ((cfg0.win 1).blk t).view.emb (ix2 r j) = ix2 (⟨256 * t.val + r.val, by omega⟩ : Fin 2560) j := by
    blk_ext [index12_1]
  have e4 : spot t (ix2 r j) = ix2 (⟨256 * t.val + r.val, by omega⟩ : Fin 1024) j := by
    unfold spot
    blk_ext [index12_4]
  refine Eq.trans e1 (Eq.trans ?_ (congrArg idx_main_v0 e4).symm)
  exact (ValueIdx.eq_ix2 _).symm

/-- The gradients passed on. -/
theorem grad12 : (dats m 0 c).arrAt 4 cfg0.N = Cert.Reference12Ideal.Read.val_main_v0 (F := Ideal) (aG m c) := by
  refine (dats m 0 c).arrAt_eq_of_covers 4 _ (by decide +kernel) fun t hf y => ?_
  rw [after0_4]
  have e : (outsAt0 m c t).1 = iblk m c 1 t := by unfold outsAt0; frame_out
  rw [e]
  exact (bG m c t y).trans (Cert.Reference12Ideal.Read.val_main_v0_apply (F := Ideal) (aG m c) _).symm

/-- The changes of the weights. -/
theorem change12 : (dats m 0 c).arrAt 5 cfg0.N = Cert.Reference12Ideal.Read.val_main_v24 (F := Ideal) (aW m c) (aG m c) (aM m c) (aV m c) := by
  refine (dats m 0 c).arrAt_eq_of_covers 5 _ (by decide +kernel) fun t hf y => ?_
  rw [after0_5]
  have e : (outsAt0 m c t).2.1 = k0_pay3 (iblk m c 1 t) (iblk m c 2 t) (iblk m c 3 t) (iblk m c 0 t) := by unfold outsAt0; frame_out
  rw [e]
  refine Eq.trans ?_ (Cert.Reference12Ideal.Hand.change_apply (aW m c) (aG m c) (aM m c) (aV m c) (spot t y)).symm
  rw [← bW, ← bG, ← bM, ← bV]
  rfl

/-- The new running means. -/
theorem mean12 : (dats m 0 c).arrAt 6 cfg0.N = Cert.Reference12Ideal.Read.val_main_v5 (F := Ideal) (aG m c) (aM m c) := by
  refine (dats m 0 c).arrAt_eq_of_covers 6 _ (by decide +kernel) fun t hf y => ?_
  rw [after0_6]
  have e : (outsAt0 m c t).2.2.1 = k0_pay1 (iblk m c 1 t) (iblk m c 2 t) := by unfold outsAt0; frame_out
  rw [e]
  refine Eq.trans ?_ (Cert.Reference12Ideal.Hand.mean_apply (aG m c) (aM m c) (spot t y)).symm
  rw [← bG, ← bM]
  rfl

/-- The new running squares. -/
theorem square12 : (dats m 0 c).arrAt 7 cfg0.N = Cert.Reference12Ideal.Read.val_main_v11 (F := Ideal) (aG m c) (aV m c) := by
  refine (dats m 0 c).arrAt_eq_of_covers 7 _ (by decide +kernel) fun t hf y => ?_
  rw [after0_7]
  have e : (outsAt0 m c t).2.2.2 = k0_pay2 (iblk m c 1 t) (iblk m c 3 t) := by unfold outsAt0; frame_out
  rw [e]
  refine Eq.trans ?_ (Cert.Reference12Ideal.Hand.square_apply (aG m c) (aV m c) (spot t y)).symm
  rw [← bG, ← bV]
  rfl

end Cert.Kernel12Ideal.Hand

namespace Cert.Proof

open Idealize.ShloMosaic hiding ix1 ix2 ix3 ix4
open Idealize.ShloMosaic.TcCoe Idealize.SL.Sem

/-- The optimiser's step of the contracting weight and its plain reference end with the same results. -/
theorem algebraic_adamw_w_down : Cert.algebraic_Kernel12Ideal_Reference12Ideal (hKernel12Ideal := Cert.Kernel12Ideal.Gen.facts)
    (hReference12Ideal := Cert.Reference12Ideal.Gen.facts) := by
  intro m g m' g' hpre hargs
  refine ⟨fun c => (Cert.Kernel12Ideal.Gen.dats m 0 c).arrAt 4 Cert.Kernel12Ideal.cfg0.N, fun c => (Cert.Kernel12Ideal.Gen.dats m 0 c).arrAt 5 Cert.Kernel12Ideal.cfg0.N,
    fun c => (Cert.Kernel12Ideal.Gen.dats m 0 c).arrAt 6 Cert.Kernel12Ideal.cfg0.N, fun c => (Cert.Kernel12Ideal.Gen.dats m 0 c).arrAt 7 Cert.Kernel12Ideal.cfg0.N,
    Cert.Kernel12Ideal.Value.run_blocks (F := Ideal) m g, ?_⟩
  refine (θ_run (Cert.Reference12Ideal.defs (F := Ideal)) _ _).mono (fun r h c => ?_) (Cert.Reference12Ideal.Value.run (F := Ideal) m' g')
  obtain ⟨e0, e1, e2, e3⟩ := hargs c
  obtain ⟨k0, k1, k2, k3, ka⟩ := h c
  rw [e0, e1, e2, e3] at k1
  rw [e1] at k0
  rw [e1, e2] at k2
  rw [e1, e3] at k3
  exact ⟨k0.trans (Cert.Kernel12Ideal.Hand.grad12 m c).symm, k1.trans (Cert.Kernel12Ideal.Hand.change12 m c).symm,
    k2.trans (Cert.Kernel12Ideal.Hand.mean12 m c).symm, k3.trans (Cert.Kernel12Ideal.Hand.square12 m c).symm, ka⟩

/-- The call runs, leaves its arguments as launched and ends with every counter at zero. -/
theorem frame_kernel12 : Cert.quiescent_Kernel12 (hKernel12 := Cert.Kernel12.Gen.facts) := fun m ρ _ =>
  Eq.mp (by sl_kernel_rfl) (Cert.Kernel12Ideal.Gen.frame (F := Bits) m ρ)

/-- The idealized call runs, leaves its arguments as launched and ends with every counter at zero. -/
theorem frame_kernel12Ideal : Cert.quiescent_Kernel12Ideal (hKernel12Ideal := Cert.Kernel12Ideal.Gen.facts) := fun m ρ _ =>
  Cert.Kernel12Ideal.Gen.frame (F := Ideal) m ρ

/-- The reference runs, leaves its arguments as launched and ends with every counter at zero. -/
theorem frame_reference12Ideal : Cert.quiescent_Reference12Ideal (hReference12Ideal := Cert.Reference12Ideal.Gen.facts) := fun m ρ _ =>
  (θ_run (Cert.Reference12Ideal.defs (F := Ideal)) _ _).mono
    (fun r h => ⟨fun c => (h c).2.2.2.2, sem_eq_zero_of_no_sems (by decide) r.2⟩)
    (Cert.Reference12Ideal.Value.run (F := Ideal) m ρ)

end Cert.Proof

end
-- ==== Proof.A13.lean ====
/-
  The optimiser's step of the expanding weight: each point's block of rows gets the step of its elements, its gradient from the
  weight's rows of the group.
-/
module

public import proofs.«01_k».proof.Defs
public import proofs.«01_k».proof.Proof.Adam
public import proofs.«01_k».proof.Proof.Gen.Kernel13
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference13Ideal.Hand

open Idealize.ShloMosaic
open Cert.Reference13Ideal Cert.Reference13Ideal.Read

variable (w : S1024x1024.Idx → Ideal .f32) (g : S2560x1024.Idx → Ideal .f32) (m v : S1024x1024.Idx → Ideal .f32) (i : S1024x1024.Idx)

/-- The reference's running mean at an element. -/
theorem mean_apply : val_main_v5 (F := Ideal) g m i = Adam.mean (g (idx_main_v0 i)) (m i) := by
  rw [← val_main_v0_apply (F := Ideal) g i]; rfl

/-- The reference's running square at an element. -/
theorem square_apply : val_main_v11 (F := Ideal) g v i = Adam.square (g (idx_main_v0 i)) (v i) := by
  rw [← val_main_v0_apply (F := Ideal) g i]; rfl

/-- The reference's change at an element. -/
theorem change_apply : val_main_v24 (F := Ideal) w g m v i = Adam.change (w i) (g (idx_main_v0 i)) (m i) (v i) := by
  rw [← val_main_v0_apply (F := Ideal) g i]; rfl

end Cert.Reference13Ideal.Hand

namespace Cert.Kernel13Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel13Ideal Cert.Kernel13Ideal.Gen
open Cert.Reference13Ideal.Read (idx_main_v0)

variable (m : (ℓ : Loc nD τ sig) → Buf (Elt Ideal) ℓ) (c : Dev nD)

/-- The weight. -/
abbrev aW : S1024x1024.Idx → Ideal .f32 := m ((c : Thread nD τ).loc main_arg0)
/-- The group's gradients. -/
abbrev aG : S2560x1024.Idx → Ideal .f32 := m ((c : Thread nD τ).loc main_arg1)
/-- The running mean. -/
abbrev aM : S1024x1024.Idx → Ideal .f32 := m ((c : Thread nD τ).loc main_arg2)
/-- The running square. -/
abbrev aV : S1024x1024.Idx → Ideal .f32 := m ((c : Thread nD τ).loc main_arg3)

/-- Where a point's block lies in the results. -/
abbrev spot (t : Fin cfg0.N) (y : S256x1024.Idx) : S1024x1024.Idx := ((cfg0.win 4).blk t).view.emb y

/-- The weight's block of a point. -/
theorem bW (t : Fin cfg0.N) (y : S256x1024.Idx) : iblk m c 0 t y = aW m c (spot t y) := congrFun (V_main_arg0 m c) _
/-- The running mean's block of a point. -/
theorem bM (t : Fin cfg0.N) (y : S256x1024.Idx) : iblk m c 2 t y = aM m c (spot t y) := congrFun (V_main_arg2 m c) _
/-- The running square's block of a point. -/
theorem bV (t : Fin cfg0.N) (y : S256x1024.Idx) : iblk m c 3 t y = aV m c (spot t y) := congrFun (V_main_arg3 m c) _

/-- The block index of the gradients at a point. -/
theorem index13_1 : ∀ t : Fin cfg0.N, win0_1.index t = ![t.val + 4, 0] :=
  (by decide +kernel : ∀ t : Fin grid0.N, win0_1.index t = ![t.val + 4, 0])
/-- The block index of the results at a point. -/
theorem index13_4 : ∀ t : Fin cfg0.N, win0_4.index t = ![t.val, 0] :=
  (by decide +kernel : ∀ t : Fin grid0.N, win0_4.index t = ![t.val, 0])

/-- The gradient's block of a point lies in the weight's rows of the group. -/
theorem bG (t : Fin cfg0.N) (y : S256x1024.Idx) : iblk m c 1 t y = aG m c (idx_main_v0 (spot t y)) := by
  have ht : t.val < 4 := lt_of_lt_of_eq t.isLt N_0
  obtain ⟨r, j, rfl⟩ : ∃ (r : Fin 256) (j : Fin 1024), y = ix2 r j := ⟨y 0, y 1, ValueIdx.eq_ix2 y⟩
  refine (congrFun (V_main_arg1 m c) _).trans (congrArg (aG m c) ?_)
  have e1 : ((cfg0.win 1).blk t).view.emb (ix2 r j) = ix2 (⟨1024 + (256 * t.val + r.val), by omega⟩ : Fin 2560) j := by
    blk_ext [index13_1]
    show (t.val + 4) * 256 + r.val = 1024 + (256 * t.val + r.val)
    omega
  have e4 : spot t (ix2 r j) = ix2 (⟨256 * t.val + r.val, by omega⟩ : Fin 1024) j := by
    unfold spot
    blk_ext [index13_4]
    show t.val * 256 + r.val = 256 * t.val + r.val
    omega
  refine Eq.trans e1 (Eq.trans ?_ (congrArg idx_main_v0 e4).symm)
  exact (ValueIdx.eq_ix2 _).symm

/-- The gradients passed on. -/
theorem grad13 : (dats m 0 c).arrAt 4 cfg0.N = Cert.Reference13Ideal.Read.val_main_v0 (F := Ideal) (aG m c) := by
  refine (dats m 0 c).arrAt_eq_of_covers 4 _ (by decide +kernel) fun t hf y => ?_
  rw [after0_4]
  have e : (outsAt0 m c t).1 = iblk m c 1 t := by unfold outsAt0; frame_out
  rw [e]
  exact (bG m c t y).trans (Cert.Reference13Ideal.Read.val_main_v0_apply (F := Ideal) (aG m c) _).symm

/-- The changes of the weights. -/
theorem change13 : (dats m 0 c).arrAt 5 cfg0.N = Cert.Reference13Ideal.Read.val_main_v24 (F := Ideal) (aW m c) (aG m c) (aM m c) (aV m c) := by
  refine (dats m 0 c).arrAt_eq_of_covers 5 _ (by decide +kernel) fun t hf y => ?_
  rw [after0_5]
  have e : (outsAt0 m c t).2.1 = k0_pay3 (iblk m c 1 t) (iblk m c 2 t) (iblk m c 3 t) (iblk m c 0 t) := by unfold outsAt0; frame_out
  rw [e]
  refine Eq.trans ?_ (Cert.Reference13Ideal.Hand.change_apply (aW m c) (aG m c) (aM m c) (aV m c) (spot t y)).symm
  rw [← bW, ← bG, ← bM, ← bV]
  rfl

/-- The new running means. -/
theorem mean13 : (dats m 0 c).arrAt 6 cfg0.N = Cert.Reference13Ideal.Read.val_main_v5 (F := Ideal) (aG m c) (aM m c) := by
  refine (dats m 0 c).arrAt_eq_of_covers 6 _ (by decide +kernel) fun t hf y => ?_
  rw [after0_6]
  have e : (outsAt0 m c t).2.2.1 = k0_pay1 (iblk m c 1 t) (iblk m c 2 t) := by unfold outsAt0; frame_out
  rw [e]
  refine Eq.trans ?_ (Cert.Reference13Ideal.Hand.mean_apply (aG m c) (aM m c) (spot t y)).symm
  rw [← bG, ← bM]
  rfl

/-- The new running squares. -/
theorem square13 : (dats m 0 c).arrAt 7 cfg0.N = Cert.Reference13Ideal.Read.val_main_v11 (F := Ideal) (aG m c) (aV m c) := by
  refine (dats m 0 c).arrAt_eq_of_covers 7 _ (by decide +kernel) fun t hf y => ?_
  rw [after0_7]
  have e : (outsAt0 m c t).2.2.2 = k0_pay2 (iblk m c 1 t) (iblk m c 3 t) := by unfold outsAt0; frame_out
  rw [e]
  refine Eq.trans ?_ (Cert.Reference13Ideal.Hand.square_apply (aG m c) (aV m c) (spot t y)).symm
  rw [← bG, ← bV]
  rfl

end Cert.Kernel13Ideal.Hand

namespace Cert.Proof

open Idealize.ShloMosaic hiding ix1 ix2 ix3 ix4
open Idealize.ShloMosaic.TcCoe Idealize.SL.Sem

/-- The optimiser's step of the expanding weight and its plain reference end with the same results. -/
theorem algebraic_adamw_w_up : Cert.algebraic_Kernel13Ideal_Reference13Ideal (hKernel13Ideal := Cert.Kernel13Ideal.Gen.facts)
    (hReference13Ideal := Cert.Reference13Ideal.Gen.facts) := by
  intro m g m' g' hpre hargs
  refine ⟨fun c => (Cert.Kernel13Ideal.Gen.dats m 0 c).arrAt 4 Cert.Kernel13Ideal.cfg0.N, fun c => (Cert.Kernel13Ideal.Gen.dats m 0 c).arrAt 5 Cert.Kernel13Ideal.cfg0.N,
    fun c => (Cert.Kernel13Ideal.Gen.dats m 0 c).arrAt 6 Cert.Kernel13Ideal.cfg0.N, fun c => (Cert.Kernel13Ideal.Gen.dats m 0 c).arrAt 7 Cert.Kernel13Ideal.cfg0.N,
    Cert.Kernel13Ideal.Value.run_blocks (F := Ideal) m g, ?_⟩
  refine (θ_run (Cert.Reference13Ideal.defs (F := Ideal)) _ _).mono (fun r h c => ?_) (Cert.Reference13Ideal.Value.run (F := Ideal) m' g')
  obtain ⟨e0, e1, e2, e3⟩ := hargs c
  obtain ⟨k0, k1, k2, k3, ka⟩ := h c
  rw [e0, e1, e2, e3] at k1
  rw [e1] at k0
  rw [e1, e2] at k2
  rw [e1, e3] at k3
  exact ⟨k0.trans (Cert.Kernel13Ideal.Hand.grad13 m c).symm, k1.trans (Cert.Kernel13Ideal.Hand.change13 m c).symm,
    k2.trans (Cert.Kernel13Ideal.Hand.mean13 m c).symm, k3.trans (Cert.Kernel13Ideal.Hand.square13 m c).symm, ka⟩

/-- The call runs, leaves its arguments as launched and ends with every counter at zero. -/
theorem frame_kernel13 : Cert.quiescent_Kernel13 (hKernel13 := Cert.Kernel13.Gen.facts) := fun m ρ _ =>
  Eq.mp (by sl_kernel_rfl) (Cert.Kernel13Ideal.Gen.frame (F := Bits) m ρ)

/-- The idealized call runs, leaves its arguments as launched and ends with every counter at zero. -/
theorem frame_kernel13Ideal : Cert.quiescent_Kernel13Ideal (hKernel13Ideal := Cert.Kernel13Ideal.Gen.facts) := fun m ρ _ =>
  Cert.Kernel13Ideal.Gen.frame (F := Ideal) m ρ

/-- The reference runs, leaves its arguments as launched and ends with every counter at zero. -/
theorem frame_reference13Ideal : Cert.quiescent_Reference13Ideal (hReference13Ideal := Cert.Reference13Ideal.Gen.facts) := fun m ρ _ =>
  (θ_run (Cert.Reference13Ideal.defs (F := Ideal)) _ _).mono
    (fun r h => ⟨fun c => (h c).2.2.2.2, sem_eq_zero_of_no_sems (by decide) r.2⟩)
    (Cert.Reference13Ideal.Value.run (F := Ideal) m ρ)

end Cert.Proof

end
-- ==== Proof.A14.lean ====
/-
  The optimiser's step of the attention's output weight: each point's block of rows gets the step of its elements, its gradient from the
  weight's rows of the group.
-/
module

public import proofs.«01_k».proof.Defs
public import proofs.«01_k».proof.Proof.Adam
public import proofs.«01_k».proof.Proof.Gen.Kernel14
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference14Ideal.Hand

open Idealize.ShloMosaic
open Cert.Reference14Ideal Cert.Reference14Ideal.Read

variable (w : S256x1024.Idx → Ideal .f32) (g : S2560x1024.Idx → Ideal .f32) (m v : S256x1024.Idx → Ideal .f32) (i : S256x1024.Idx)

/-- The reference's running mean at an element. -/
theorem mean_apply : val_main_v5 (F := Ideal) g m i = Adam.mean (g (idx_main_v0 i)) (m i) := by
  rw [← val_main_v0_apply (F := Ideal) g i]; rfl

/-- The reference's running square at an element. -/
theorem square_apply : val_main_v11 (F := Ideal) g v i = Adam.square (g (idx_main_v0 i)) (v i) := by
  rw [← val_main_v0_apply (F := Ideal) g i]; rfl

/-- The reference's change at an element. -/
theorem change_apply : val_main_v24 (F := Ideal) w g m v i = Adam.change (w i) (g (idx_main_v0 i)) (m i) (v i) := by
  rw [← val_main_v0_apply (F := Ideal) g i]; rfl

end Cert.Reference14Ideal.Hand

namespace Cert.Kernel14Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel14Ideal Cert.Kernel14Ideal.Gen
open Cert.Reference14Ideal.Read (idx_main_v0)

variable (m : (ℓ : Loc nD τ sig) → Buf (Elt Ideal) ℓ) (c : Dev nD)

/-- The weight. -/
abbrev aW : S256x1024.Idx → Ideal .f32 := m ((c : Thread nD τ).loc main_arg0)
/-- The group's gradients. -/
abbrev aG : S2560x1024.Idx → Ideal .f32 := m ((c : Thread nD τ).loc main_arg1)
/-- The running mean. -/
abbrev aM : S256x1024.Idx → Ideal .f32 := m ((c : Thread nD τ).loc main_arg2)
/-- The running square. -/
abbrev aV : S256x1024.Idx → Ideal .f32 := m ((c : Thread nD τ).loc main_arg3)

/-- Where a point's block lies in the results. -/
abbrev spot (t : Fin cfg0.N) (y : S256x1024.Idx) : S256x1024.Idx := ((cfg0.win 4).blk t).view.emb y

/-- The weight's block of a point. -/
theorem bW (t : Fin cfg0.N) (y : S256x1024.Idx) : iblk m c 0 t y = aW m c (spot t y) := congrFun (V_main_arg0 m c) _
/-- The running mean's block of a point. -/
theorem bM (t : Fin cfg0.N) (y : S256x1024.Idx) : iblk m c 2 t y = aM m c (spot t y) := congrFun (V_main_arg2 m c) _
/-- The running square's block of a point. -/
theorem bV (t : Fin cfg0.N) (y : S256x1024.Idx) : iblk m c 3 t y = aV m c (spot t y) := congrFun (V_main_arg3 m c) _

/-- The block index of the gradients at a point. -/
theorem index14_1 : ∀ t : Fin cfg0.N, win0_1.index t = ![t.val + 8, 0] :=
  (by decide +kernel : ∀ t : Fin grid0.N, win0_1.index t = ![t.val + 8, 0])
/-- The block index of the results at a point. -/
theorem index14_4 : ∀ t : Fin cfg0.N, win0_4.index t = ![t.val, 0] :=
  (by decide +kernel : ∀ t : Fin grid0.N, win0_4.index t = ![t.val, 0])

/-- The gradient's block of a point lies in the weight's rows of the group. -/
theorem bG (t : Fin cfg0.N) (y : S256x1024.Idx) : iblk m c 1 t y = aG m c (idx_main_v0 (spot t y)) := by
  have ht : t.val < 1 := lt_of_lt_of_eq t.isLt N_0
  obtain ⟨r, j, rfl⟩ : ∃ (r : Fin 256) (j : Fin 1024), y = ix2 r j := ⟨y 0, y 1, ValueIdx.eq_ix2 y⟩
  refine (congrFun (V_main_arg1 m c) _).trans (congrArg (aG m c) ?_)
  have er : ((ix2 r j 0 : Fin 256) : ℕ) = r.val := rfl
  have e1 : ((cfg0.win 1).blk t).view.emb (ix2 r j) = ix2 (⟨2048 + (256 * t.val + r.val), by omega⟩ : Fin 2560) j := by
    blk_ext [index14_1]
  have e4 : spot t (ix2 r j) = ix2 (⟨256 * t.val + r.val, by omega⟩ : Fin 256) j := by
    unfold spot
    blk_ext [index14_4]
  refine Eq.trans e1 (Eq.trans ?_ (congrArg idx_main_v0 e4).symm)
  exact (ValueIdx.eq_ix2 _).symm

/-- The gradients passed on. -/
theorem grad14 : (dats m 0 c).arrAt 4 cfg0.N = Cert.Reference14Ideal.Read.val_main_v0 (F := Ideal) (aG m c) := by
  refine (dats m 0 c).arrAt_eq_of_covers 4 _ (by decide +kernel) fun t hf y => ?_
  rw [after0_4]
  have e : (outsAt0 m c t).1 = iblk m c 1 t := by unfold outsAt0; frame_out
  rw [e]
  exact (bG m c t y).trans (Cert.Reference14Ideal.Read.val_main_v0_apply (F := Ideal) (aG m c) _).symm

/-- The changes of the weights. -/
theorem change14 : (dats m 0 c).arrAt 5 cfg0.N = Cert.Reference14Ideal.Read.val_main_v24 (F := Ideal) (aW m c) (aG m c) (aM m c) (aV m c) := by
  refine (dats m 0 c).arrAt_eq_of_covers 5 _ (by decide +kernel) fun t hf y => ?_
  rw [after0_5]
  have e : (outsAt0 m c t).2.1 = k0_pay3 (iblk m c 1 t) (iblk m c 2 t) (iblk m c 3 t) (iblk m c 0 t) := by unfold outsAt0; frame_out
  rw [e]
  refine Eq.trans ?_ (Cert.Reference14Ideal.Hand.change_apply (aW m c) (aG m c) (aM m c) (aV m c) (spot t y)).symm
  rw [← bW, ← bG, ← bM, ← bV]
  rfl

/-- The new running means. -/
theorem mean14 : (dats m 0 c).arrAt 6 cfg0.N = Cert.Reference14Ideal.Read.val_main_v5 (F := Ideal) (aG m c) (aM m c) := by
  refine (dats m 0 c).arrAt_eq_of_covers 6 _ (by decide +kernel) fun t hf y => ?_
  rw [after0_6]
  have e : (outsAt0 m c t).2.2.1 = k0_pay1 (iblk m c 1 t) (iblk m c 2 t) := by unfold outsAt0; frame_out
  rw [e]
  refine Eq.trans ?_ (Cert.Reference14Ideal.Hand.mean_apply (aG m c) (aM m c) (spot t y)).symm
  rw [← bG, ← bM]
  rfl

/-- The new running squares. -/
theorem square14 : (dats m 0 c).arrAt 7 cfg0.N = Cert.Reference14Ideal.Read.val_main_v11 (F := Ideal) (aG m c) (aV m c) := by
  refine (dats m 0 c).arrAt_eq_of_covers 7 _ (by decide +kernel) fun t hf y => ?_
  rw [after0_7]
  have e : (outsAt0 m c t).2.2.2 = k0_pay2 (iblk m c 1 t) (iblk m c 3 t) := by unfold outsAt0; frame_out
  rw [e]
  refine Eq.trans ?_ (Cert.Reference14Ideal.Hand.square_apply (aG m c) (aV m c) (spot t y)).symm
  rw [← bG, ← bV]
  rfl

end Cert.Kernel14Ideal.Hand

namespace Cert.Proof

open Idealize.ShloMosaic hiding ix1 ix2 ix3 ix4
open Idealize.ShloMosaic.TcCoe Idealize.SL.Sem

/-- The optimiser's step of the attention's output weight and its plain reference end with the same results. -/
theorem algebraic_adamw_w_o_mla : Cert.algebraic_Kernel14Ideal_Reference14Ideal (hKernel14Ideal := Cert.Kernel14Ideal.Gen.facts)
    (hReference14Ideal := Cert.Reference14Ideal.Gen.facts) := by
  intro m g m' g' hpre hargs
  refine ⟨fun c => (Cert.Kernel14Ideal.Gen.dats m 0 c).arrAt 4 Cert.Kernel14Ideal.cfg0.N, fun c => (Cert.Kernel14Ideal.Gen.dats m 0 c).arrAt 5 Cert.Kernel14Ideal.cfg0.N,
    fun c => (Cert.Kernel14Ideal.Gen.dats m 0 c).arrAt 6 Cert.Kernel14Ideal.cfg0.N, fun c => (Cert.Kernel14Ideal.Gen.dats m 0 c).arrAt 7 Cert.Kernel14Ideal.cfg0.N,
    Cert.Kernel14Ideal.Value.run_blocks (F := Ideal) m g, ?_⟩
  refine (θ_run (Cert.Reference14Ideal.defs (F := Ideal)) _ _).mono (fun r h c => ?_) (Cert.Reference14Ideal.Value.run (F := Ideal) m' g')
  obtain ⟨e0, e1, e2, e3⟩ := hargs c
  obtain ⟨k0, k1, k2, k3, ka⟩ := h c
  rw [e0, e1, e2, e3] at k1
  rw [e1] at k0
  rw [e1, e2] at k2
  rw [e1, e3] at k3
  exact ⟨k0.trans (Cert.Kernel14Ideal.Hand.grad14 m c).symm, k1.trans (Cert.Kernel14Ideal.Hand.change14 m c).symm,
    k2.trans (Cert.Kernel14Ideal.Hand.mean14 m c).symm, k3.trans (Cert.Kernel14Ideal.Hand.square14 m c).symm, ka⟩

/-- The call runs, leaves its arguments as launched and ends with every counter at zero. -/
theorem frame_kernel14 : Cert.quiescent_Kernel14 (hKernel14 := Cert.Kernel14.Gen.facts) := fun m ρ _ =>
  Eq.mp (by sl_kernel_rfl) (Cert.Kernel14Ideal.Gen.frame (F := Bits) m ρ)

/-- The idealized call runs, leaves its arguments as launched and ends with every counter at zero. -/
theorem frame_kernel14Ideal : Cert.quiescent_Kernel14Ideal (hKernel14Ideal := Cert.Kernel14Ideal.Gen.facts) := fun m ρ _ =>
  Cert.Kernel14Ideal.Gen.frame (F := Ideal) m ρ

/-- The reference runs, leaves its arguments as launched and ends with every counter at zero. -/
theorem frame_reference14Ideal : Cert.quiescent_Reference14Ideal (hReference14Ideal := Cert.Reference14Ideal.Gen.facts) := fun m ρ _ =>
  (θ_run (Cert.Reference14Ideal.defs (F := Ideal)) _ _).mono
    (fun r h => ⟨fun c => (h c).2.2.2.2, sem_eq_zero_of_no_sems (by decide) r.2⟩)
    (Cert.Reference14Ideal.Value.run (F := Ideal) m ρ)

end Cert.Proof

end
-- ==== Proof.A15.lean ====
/-
  The optimiser's step of the output weight: each point's block of rows gets the step of its elements, its gradient from the
  weight's rows of the group.
-/
module

public import proofs.«01_k».proof.Defs
public import proofs.«01_k».proof.Proof.Adam
public import proofs.«01_k».proof.Proof.Gen.Kernel15
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference15Ideal.Hand

open Idealize.ShloMosaic
open Cert.Reference15Ideal Cert.Reference15Ideal.Read

variable (w : S256x1024.Idx → Ideal .f32) (g : S2560x1024.Idx → Ideal .f32) (m v : S256x1024.Idx → Ideal .f32) (i : S256x1024.Idx)

/-- The reference's running mean at an element. -/
theorem mean_apply : val_main_v5 (F := Ideal) g m i = Adam.mean (g (idx_main_v0 i)) (m i) := by
  rw [← val_main_v0_apply (F := Ideal) g i]; rfl

/-- The reference's running square at an element. -/
theorem square_apply : val_main_v11 (F := Ideal) g v i = Adam.square (g (idx_main_v0 i)) (v i) := by
  rw [← val_main_v0_apply (F := Ideal) g i]; rfl

/-- The reference's change at an element. -/
theorem change_apply : val_main_v24 (F := Ideal) w g m v i = Adam.change (w i) (g (idx_main_v0 i)) (m i) (v i) := by
  rw [← val_main_v0_apply (F := Ideal) g i]; rfl

end Cert.Reference15Ideal.Hand

namespace Cert.Kernel15Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel15Ideal Cert.Kernel15Ideal.Gen
open Cert.Reference15Ideal.Read (idx_main_v0)

variable (m : (ℓ : Loc nD τ sig) → Buf (Elt Ideal) ℓ) (c : Dev nD)

/-- The weight. -/
abbrev aW : S256x1024.Idx → Ideal .f32 := m ((c : Thread nD τ).loc main_arg0)
/-- The group's gradients. -/
abbrev aG : S2560x1024.Idx → Ideal .f32 := m ((c : Thread nD τ).loc main_arg1)
/-- The running mean. -/
abbrev aM : S256x1024.Idx → Ideal .f32 := m ((c : Thread nD τ).loc main_arg2)
/-- The running square. -/
abbrev aV : S256x1024.Idx → Ideal .f32 := m ((c : Thread nD τ).loc main_arg3)

/-- Where a point's block lies in the results. -/
abbrev spot (t : Fin cfg0.N) (y : S256x1024.Idx) : S256x1024.Idx := ((cfg0.win 4).blk t).view.emb y

/-- The weight's block of a point. -/
theorem bW (t : Fin cfg0.N) (y : S256x1024.Idx) : iblk m c 0 t y = aW m c (spot t y) := congrFun (V_main_arg0 m c) _
/-- The running mean's block of a point. -/
theorem bM (t : Fin cfg0.N) (y : S256x1024.Idx) : iblk m c 2 t y = aM m c (spot t y) := congrFun (V_main_arg2 m c) _
/-- The running square's block of a point. -/
theorem bV (t : Fin cfg0.N) (y : S256x1024.Idx) : iblk m c 3 t y = aV m c (spot t y) := congrFun (V_main_arg3 m c) _

/-- The block index of the gradients at a point. -/
theorem index15_1 : ∀ t : Fin cfg0.N, win0_1.index t = ![t.val + 9, 0] :=
  (by decide +kernel : ∀ t : Fin grid0.N, win0_1.index t = ![t.val + 9, 0])
/-- The block index of the results at a point. -/
theorem index15_4 : ∀ t : Fin cfg0.N, win0_4.index t = ![t.val, 0] :=
  (by decide +kernel : ∀ t : Fin grid0.N, win0_4.index t = ![t.val, 0])

/-- The gradient's block of a point lies in the weight's rows of the group. -/
theorem bG (t : Fin cfg0.N) (y : S256x1024.Idx) : iblk m c 1 t y = aG m c (idx_main_v0 (spot t y)) := by
  have ht : t.val < 1 := lt_of_lt_of_eq t.isLt N_0
  obtain ⟨r, j, rfl⟩ : ∃ (r : Fin 256) (j : Fin 1024), y = ix2 r j := ⟨y 0, y 1, ValueIdx.eq_ix2 y⟩
  refine (congrFun (V_main_arg1 m c) _).trans (congrArg (aG m c) ?_)
  have er : ((ix2 r j 0 : Fin 256) : ℕ) = r.val := rfl
  have e1 : ((cfg0.win 1).blk t).view.emb (ix2 r j) = ix2 (⟨2304 + (256 * t.val + r.val), by omega⟩ : Fin 2560) j := by
    blk_ext [index15_1]
  have e4 : spot t (ix2 r j) = ix2 (⟨256 * t.val + r.val, by omega⟩ : Fin 256) j := by
    unfold spot
    blk_ext [index15_4]
  refine Eq.trans e1 (Eq.trans ?_ (congrArg idx_main_v0 e4).symm)
  exact (ValueIdx.eq_ix2 _).symm

/-- The gradients passed on. -/
theorem grad15 : (dats m 0 c).arrAt 4 cfg0.N = Cert.Reference15Ideal.Read.val_main_v0 (F := Ideal) (aG m c) := by
  refine (dats m 0 c).arrAt_eq_of_covers 4 _ (by decide +kernel) fun t hf y => ?_
  rw [after0_4]
  have e : (outsAt0 m c t).1 = iblk m c 1 t := by unfold outsAt0; frame_out
  rw [e]
  exact (bG m c t y).trans (Cert.Reference15Ideal.Read.val_main_v0_apply (F := Ideal) (aG m c) _).symm

/-- The changes of the weights. -/
theorem change15 : (dats m 0 c).arrAt 5 cfg0.N = Cert.Reference15Ideal.Read.val_main_v24 (F := Ideal) (aW m c) (aG m c) (aM m c) (aV m c) := by
  refine (dats m 0 c).arrAt_eq_of_covers 5 _ (by decide +kernel) fun t hf y => ?_
  rw [after0_5]
  have e : (outsAt0 m c t).2.1 = k0_pay3 (iblk m c 1 t) (iblk m c 2 t) (iblk m c 3 t) (iblk m c 0 t) := by unfold outsAt0; frame_out
  rw [e]
  refine Eq.trans ?_ (Cert.Reference15Ideal.Hand.change_apply (aW m c) (aG m c) (aM m c) (aV m c) (spot t y)).symm
  rw [← bW, ← bG, ← bM, ← bV]
  rfl

/-- The new running means. -/
theorem mean15 : (dats m 0 c).arrAt 6 cfg0.N = Cert.Reference15Ideal.Read.val_main_v5 (F := Ideal) (aG m c) (aM m c) := by
  refine (dats m 0 c).arrAt_eq_of_covers 6 _ (by decide +kernel) fun t hf y => ?_
  rw [after0_6]
  have e : (outsAt0 m c t).2.2.1 = k0_pay1 (iblk m c 1 t) (iblk m c 2 t) := by unfold outsAt0; frame_out
  rw [e]
  refine Eq.trans ?_ (Cert.Reference15Ideal.Hand.mean_apply (aG m c) (aM m c) (spot t y)).symm
  rw [← bG, ← bM]
  rfl

/-- The new running squares. -/
theorem square15 : (dats m 0 c).arrAt 7 cfg0.N = Cert.Reference15Ideal.Read.val_main_v11 (F := Ideal) (aG m c) (aV m c) := by
  refine (dats m 0 c).arrAt_eq_of_covers 7 _ (by decide +kernel) fun t hf y => ?_
  rw [after0_7]
  have e : (outsAt0 m c t).2.2.2 = k0_pay2 (iblk m c 1 t) (iblk m c 3 t) := by unfold outsAt0; frame_out
  rw [e]
  refine Eq.trans ?_ (Cert.Reference15Ideal.Hand.square_apply (aG m c) (aV m c) (spot t y)).symm
  rw [← bG, ← bV]
  rfl

end Cert.Kernel15Ideal.Hand

namespace Cert.Proof

open Idealize.ShloMosaic hiding ix1 ix2 ix3 ix4
open Idealize.ShloMosaic.TcCoe Idealize.SL.Sem

/-- The optimiser's step of the output weight and its plain reference end with the same results. -/
theorem algebraic_adamw_w_out : Cert.algebraic_Kernel15Ideal_Reference15Ideal (hKernel15Ideal := Cert.Kernel15Ideal.Gen.facts)
    (hReference15Ideal := Cert.Reference15Ideal.Gen.facts) := by
  intro m g m' g' hpre hargs
  refine ⟨fun c => (Cert.Kernel15Ideal.Gen.dats m 0 c).arrAt 4 Cert.Kernel15Ideal.cfg0.N, fun c => (Cert.Kernel15Ideal.Gen.dats m 0 c).arrAt 5 Cert.Kernel15Ideal.cfg0.N,
    fun c => (Cert.Kernel15Ideal.Gen.dats m 0 c).arrAt 6 Cert.Kernel15Ideal.cfg0.N, fun c => (Cert.Kernel15Ideal.Gen.dats m 0 c).arrAt 7 Cert.Kernel15Ideal.cfg0.N,
    Cert.Kernel15Ideal.Value.run_blocks (F := Ideal) m g, ?_⟩
  refine (θ_run (Cert.Reference15Ideal.defs (F := Ideal)) _ _).mono (fun r h c => ?_) (Cert.Reference15Ideal.Value.run (F := Ideal) m' g')
  obtain ⟨e0, e1, e2, e3⟩ := hargs c
  obtain ⟨k0, k1, k2, k3, ka⟩ := h c
  rw [e0, e1, e2, e3] at k1
  rw [e1] at k0
  rw [e1, e2] at k2
  rw [e1, e3] at k3
  exact ⟨k0.trans (Cert.Kernel15Ideal.Hand.grad15 m c).symm, k1.trans (Cert.Kernel15Ideal.Hand.change15 m c).symm,
    k2.trans (Cert.Kernel15Ideal.Hand.mean15 m c).symm, k3.trans (Cert.Kernel15Ideal.Hand.square15 m c).symm, ka⟩

/-- The call runs, leaves its arguments as launched and ends with every counter at zero. -/
theorem frame_kernel15 : Cert.quiescent_Kernel15 (hKernel15 := Cert.Kernel15.Gen.facts) := fun m ρ _ =>
  Eq.mp (by sl_kernel_rfl) (Cert.Kernel15Ideal.Gen.frame (F := Bits) m ρ)

/-- The idealized call runs, leaves its arguments as launched and ends with every counter at zero. -/
theorem frame_kernel15Ideal : Cert.quiescent_Kernel15Ideal (hKernel15Ideal := Cert.Kernel15Ideal.Gen.facts) := fun m ρ _ =>
  Cert.Kernel15Ideal.Gen.frame (F := Ideal) m ρ

/-- The reference runs, leaves its arguments as launched and ends with every counter at zero. -/
theorem frame_reference15Ideal : Cert.quiescent_Reference15Ideal (hReference15Ideal := Cert.Reference15Ideal.Gen.facts) := fun m ρ _ =>
  (θ_run (Cert.Reference15Ideal.defs (F := Ideal)) _ _).mono
    (fun r h => ⟨fun c => (h c).2.2.2.2, sem_eq_zero_of_no_sems (by decide) r.2⟩)
    (Cert.Reference15Ideal.Value.run (F := Ideal) m ρ)

end Cert.Proof

end
-- ==== Proof.A16.lean ====
/-
  The optimiser's step of the input weight: each point's block of rows gets the step of its elements.
-/
module

public import proofs.«01_k».proof.Defs
public import proofs.«01_k».proof.Proof.Adam
public import proofs.«01_k».proof.Proof.Gen.Kernel16
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference16Ideal.Hand

open Idealize.ShloMosaic
open Cert.Reference16Ideal Cert.Reference16Ideal.Read

variable (w : S1024x816.Idx → Ideal .f32) (g : S1024x816.Idx → Ideal .f32) (m v : S1024x816.Idx → Ideal .f32) (i : S1024x816.Idx)

/-- The reference's running mean at an element. -/
theorem mean_apply : val_main_v4 (F := Ideal) g m i = Adam.mean (g i) (m i) := rfl

/-- The reference's running square at an element. -/
theorem square_apply : val_main_v10 (F := Ideal) g v i = Adam.square (g i) (v i) := rfl

/-- The reference's change at an element. -/
theorem change_apply : val_main_v23 (F := Ideal) w g m v i = Adam.change (w i) (g i) (m i) (v i) := rfl

end Cert.Reference16Ideal.Hand

namespace Cert.Kernel16Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel16Ideal Cert.Kernel16Ideal.Gen

variable (m : (ℓ : Loc nD τ sig) → Buf (Elt Ideal) ℓ) (c : Dev nD)

/-- The weight. -/
abbrev aW : S1024x816.Idx → Ideal .f32 := m ((c : Thread nD τ).loc main_arg0)
/-- The gradients. -/
abbrev aG : S1024x816.Idx → Ideal .f32 := m ((c : Thread nD τ).loc main_arg1)
/-- The running mean. -/
abbrev aM : S1024x816.Idx → Ideal .f32 := m ((c : Thread nD τ).loc main_arg2)
/-- The running square. -/
abbrev aV : S1024x816.Idx → Ideal .f32 := m ((c : Thread nD τ).loc main_arg3)

/-- Where a point's block lies in the results. -/
abbrev spot (t : Fin cfg0.N) (y : S256x816.Idx) : S1024x816.Idx := ((cfg0.win 4).blk t).view.emb y

/-- The weight's block of a point. -/
theorem bW (t : Fin cfg0.N) (y : S256x816.Idx) : iblk m c 0 t y = aW m c (spot t y) := congrFun (V_main_arg0 m c) _
/-- The running mean's block of a point. -/
theorem bM (t : Fin cfg0.N) (y : S256x816.Idx) : iblk m c 2 t y = aM m c (spot t y) := congrFun (V_main_arg2 m c) _
/-- The running square's block of a point. -/
theorem bV (t : Fin cfg0.N) (y : S256x816.Idx) : iblk m c 3 t y = aV m c (spot t y) := congrFun (V_main_arg3 m c) _

/-- The block index of the gradients at a point. -/
theorem index16_1 : ∀ t : Fin cfg0.N, win0_1.index t = ![t.val, 0] :=
  (by decide +kernel : ∀ t : Fin grid0.N, win0_1.index t = ![t.val, 0])
/-- The block index of the results at a point. -/
theorem index16_4 : ∀ t : Fin cfg0.N, win0_4.index t = ![t.val, 0] :=
  (by decide +kernel : ∀ t : Fin grid0.N, win0_4.index t = ![t.val, 0])

/-- The gradient's block of a point. -/
theorem bG (t : Fin cfg0.N) (y : S256x816.Idx) : iblk m c 1 t y = aG m c (spot t y) := by
  have ht : t.val < 4 := lt_of_lt_of_eq t.isLt N_0
  obtain ⟨r, j, rfl⟩ : ∃ (r : Fin 256) (j : Fin 816), y = ix2 r j := ⟨y 0, y 1, ValueIdx.eq_ix2 y⟩
  refine (congrFun (V_main_arg1 m c) _).trans (congrArg (aG m c) ?_)
  have er : ((ix2 r j 0 : Fin 256) : ℕ) = r.val := rfl
  have e1 : ((cfg0.win 1).blk t).view.emb (ix2 r j) = ix2 (⟨256 * t.val + r.val, by omega⟩ : Fin 1024) j := by
    blk_ext [index16_1]
  have e4 : spot t (ix2 r j) = ix2 (⟨256 * t.val + r.val, by omega⟩ : Fin 1024) j := by
    unfold spot
    blk_ext [index16_4]
  exact e1.trans e4.symm

/-- The gradients passed on. -/
theorem grad16 : (dats m 0 c).arrAt 4 cfg0.N = aG m c := by
  refine (dats m 0 c).arrAt_eq_of_covers 4 _ (by decide +kernel) fun t hf y => ?_
  rw [after0_4]
  have e : (outsAt0 m c t).1 = iblk m c 1 t := by unfold outsAt0; frame_out
  rw [e]
  exact bG m c t y

/-- The changes of the weights. -/
theorem change16 : (dats m 0 c).arrAt 5 cfg0.N = Cert.Reference16Ideal.Read.val_main_v23 (F := Ideal) (aW m c) (aG m c) (aM m c) (aV m c) := by
  refine (dats m 0 c).arrAt_eq_of_covers 5 _ (by decide +kernel) fun t hf y => ?_
  rw [after0_5]
  have e : (outsAt0 m c t).2.1 = k0_pay3 (iblk m c 1 t) (iblk m c 2 t) (iblk m c 3 t) (iblk m c 0 t) := by unfold outsAt0; frame_out
  rw [e]
  refine Eq.trans ?_ (Cert.Reference16Ideal.Hand.change_apply (aW m c) (aG m c) (aM m c) (aV m c) (spot t y)).symm
  rw [← bW, ← bG, ← bM, ← bV]
  rfl

/-- The new running means. -/
theorem mean16 : (dats m 0 c).arrAt 6 cfg0.N = Cert.Reference16Ideal.Read.val_main_v4 (F := Ideal) (aG m c) (aM m c) := by
  refine (dats m 0 c).arrAt_eq_of_covers 6 _ (by decide +kernel) fun t hf y => ?_
  rw [after0_6]
  have e : (outsAt0 m c t).2.2.1 = k0_pay1 (iblk m c 1 t) (iblk m c 2 t) := by unfold outsAt0; frame_out
  rw [e]
  refine Eq.trans ?_ (Cert.Reference16Ideal.Hand.mean_apply (aG m c) (aM m c) (spot t y)).symm
  rw [← bG, ← bM]
  rfl

/-- The new running squares. -/
theorem square16 : (dats m 0 c).arrAt 7 cfg0.N = Cert.Reference16Ideal.Read.val_main_v10 (F := Ideal) (aG m c) (aV m c) := by
  refine (dats m 0 c).arrAt_eq_of_covers 7 _ (by decide +kernel) fun t hf y => ?_
  rw [after0_7]
  have e : (outsAt0 m c t).2.2.2 = k0_pay2 (iblk m c 1 t) (iblk m c 3 t) := by unfold outsAt0; frame_out
  rw [e]
  refine Eq.trans ?_ (Cert.Reference16Ideal.Hand.square_apply (aG m c) (aV m c) (spot t y)).symm
  rw [← bG, ← bV]
  rfl

end Cert.Kernel16Ideal.Hand

namespace Cert.Proof

open Idealize.ShloMosaic hiding ix1 ix2 ix3 ix4
open Idealize.ShloMosaic.TcCoe Idealize.SL.Sem

/-- The optimiser's step of the input weight and its plain reference end with the same results. -/
theorem algebraic_adamw_w_in : Cert.algebraic_Kernel16Ideal_Reference16Ideal (hKernel16Ideal := Cert.Kernel16Ideal.Gen.facts)
    (hReference16Ideal := Cert.Reference16Ideal.Gen.facts) := by
  intro m g m' g' hpre hargs
  refine ⟨fun c => (Cert.Kernel16Ideal.Gen.dats m 0 c).arrAt 4 Cert.Kernel16Ideal.cfg0.N, fun c => (Cert.Kernel16Ideal.Gen.dats m 0 c).arrAt 5 Cert.Kernel16Ideal.cfg0.N,
    fun c => (Cert.Kernel16Ideal.Gen.dats m 0 c).arrAt 6 Cert.Kernel16Ideal.cfg0.N, fun c => (Cert.Kernel16Ideal.Gen.dats m 0 c).arrAt 7 Cert.Kernel16Ideal.cfg0.N,
    Cert.Kernel16Ideal.Value.run_blocks (F := Ideal) m g, ?_⟩
  refine (θ_run (Cert.Reference16Ideal.defs (F := Ideal)) _ _).mono (fun r h c => ?_) (Cert.Reference16Ideal.Value.run (F := Ideal) m' g')
  obtain ⟨e0, e1, e2, e3⟩ := hargs c
  obtain ⟨k0, k1, k2, k3, ka⟩ := h c
  rw [e0, e1, e2, e3] at k1
  rw [e1] at k0
  rw [e1, e2] at k2
  rw [e1, e3] at k3
  exact ⟨k0.trans (Cert.Kernel16Ideal.Hand.grad16 m c).symm, k1.trans (Cert.Kernel16Ideal.Hand.change16 m c).symm,
    k2.trans (Cert.Kernel16Ideal.Hand.mean16 m c).symm, k3.trans (Cert.Kernel16Ideal.Hand.square16 m c).symm, ka⟩

/-- The call runs, leaves its arguments as launched and ends with every counter at zero. -/
theorem frame_kernel16 : Cert.quiescent_Kernel16 (hKernel16 := Cert.Kernel16.Gen.facts) := fun m ρ _ =>
  Eq.mp (by sl_kernel_rfl) (Cert.Kernel16Ideal.Gen.frame (F := Bits) m ρ)

/-- The idealized call runs, leaves its arguments as launched and ends with every counter at zero. -/
theorem frame_kernel16Ideal : Cert.quiescent_Kernel16Ideal (hKernel16Ideal := Cert.Kernel16Ideal.Gen.facts) := fun m ρ _ =>
  Cert.Kernel16Ideal.Gen.frame (F := Ideal) m ρ

/-- The reference runs, leaves its arguments as launched and ends with every counter at zero. -/
theorem frame_reference16Ideal : Cert.quiescent_Reference16Ideal (hReference16Ideal := Cert.Reference16Ideal.Gen.facts) := fun m ρ _ =>
  (θ_run (Cert.Reference16Ideal.defs (F := Ideal)) _ _).mono
    (fun r h => ⟨fun c => (h c).2.2.2.2, sem_eq_zero_of_no_sems (by decide) r.2⟩)
    (Cert.Reference16Ideal.Value.run (F := Ideal) m ρ)

end Cert.Proof

end
-- ==== Proof.A17.lean ====
/-
  The optimiser's step of the queries' weight: each point's block of rows gets the step of its elements.
-/
module

public import proofs.«01_k».proof.Defs
public import proofs.«01_k».proof.Proof.Adam
public import proofs.«01_k».proof.Proof.Gen.Kernel17
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference17Ideal.Hand

open Idealize.ShloMosaic
open Cert.Reference17Ideal Cert.Reference17Ideal.Read

variable (w : S384x384.Idx → Ideal .f32) (g : S384x384.Idx → Ideal .f32) (m v : S384x384.Idx → Ideal .f32) (i : S384x384.Idx)

/-- The reference's running mean at an element. -/
theorem mean_apply : val_main_v4 (F := Ideal) g m i = Adam.mean (g i) (m i) := rfl

/-- The reference's running square at an element. -/
theorem square_apply : val_main_v10 (F := Ideal) g v i = Adam.square (g i) (v i) := rfl

/-- The reference's change at an element. -/
theorem change_apply : val_main_v23 (F := Ideal) w g m v i = Adam.change (w i) (g i) (m i) (v i) := rfl

end Cert.Reference17Ideal.Hand

namespace Cert.Kernel17Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel17Ideal Cert.Kernel17Ideal.Gen

variable (m : (ℓ : Loc nD τ sig) → Buf (Elt Ideal) ℓ) (c : Dev nD)

/-- The weight. -/
abbrev aW : S384x384.Idx → Ideal .f32 := m ((c : Thread nD τ).loc main_arg0)
/-- The gradients. -/
abbrev aG : S384x384.Idx → Ideal .f32 := m ((c : Thread nD τ).loc main_arg1)
/-- The running mean. -/
abbrev aM : S384x384.Idx → Ideal .f32 := m ((c : Thread nD τ).loc main_arg2)
/-- The running square. -/
abbrev aV : S384x384.Idx → Ideal .f32 := m ((c : Thread nD τ).loc main_arg3)

/-- Where a point's block lies in the results. -/
abbrev spot (t : Fin cfg0.N) (y : S128x384.Idx) : S384x384.Idx := ((cfg0.win 4).blk t).view.emb y

/-- The weight's block of a point. -/
theorem bW (t : Fin cfg0.N) (y : S128x384.Idx) : iblk m c 0 t y = aW m c (spot t y) := congrFun (V_main_arg0 m c) _
/-- The running mean's block of a point. -/
theorem bM (t : Fin cfg0.N) (y : S128x384.Idx) : iblk m c 2 t y = aM m c (spot t y) := congrFun (V_main_arg2 m c) _
/-- The running square's block of a point. -/
theorem bV (t : Fin cfg0.N) (y : S128x384.Idx) : iblk m c 3 t y = aV m c (spot t y) := congrFun (V_main_arg3 m c) _

/-- The block index of the gradients at a point. -/
theorem index17_1 : ∀ t : Fin cfg0.N, win0_1.index t = ![t.val, 0] :=
  (by decide +kernel : ∀ t : Fin grid0.N, win0_1.index t = ![t.val, 0])
/-- The block index of the results at a point. -/
theorem index17_4 : ∀ t : Fin cfg0.N, win0_4.index t = ![t.val, 0] :=
  (by decide +kernel : ∀ t : Fin grid0.N, win0_4.index t = ![t.val, 0])

/-- The gradient's block of a point. -/
theorem bG (t : Fin cfg0.N) (y : S128x384.Idx) : iblk m c 1 t y = aG m c (spot t y) := by
  have ht : t.val < 3 := lt_of_lt_of_eq t.isLt N_0
  obtain ⟨r, j, rfl⟩ : ∃ (r : Fin 128) (j : Fin 384), y = ix2 r j := ⟨y 0, y 1, ValueIdx.eq_ix2 y⟩
  refine (congrFun (V_main_arg1 m c) _).trans (congrArg (aG m c) ?_)
  have er : ((ix2 r j 0 : Fin 128) : ℕ) = r.val := rfl
  have e1 : ((cfg0.win 1).blk t).view.emb (ix2 r j) = ix2 (⟨128 * t.val + r.val, by omega⟩ : Fin 384) j := by
    blk_ext [index17_1]
  have e4 : spot t (ix2 r j) = ix2 (⟨128 * t.val + r.val, by omega⟩ : Fin 384) j := by
    unfold spot
    blk_ext [index17_4]
  exact e1.trans e4.symm

/-- The gradients passed on. -/
theorem grad17 : (dats m 0 c).arrAt 4 cfg0.N = aG m c := by
  refine (dats m 0 c).arrAt_eq_of_covers 4 _ (by decide +kernel) fun t hf y => ?_
  rw [after0_4]
  have e : (outsAt0 m c t).1 = iblk m c 1 t := by unfold outsAt0; frame_out
  rw [e]
  exact bG m c t y

/-- The changes of the weights. -/
theorem change17 : (dats m 0 c).arrAt 5 cfg0.N = Cert.Reference17Ideal.Read.val_main_v23 (F := Ideal) (aW m c) (aG m c) (aM m c) (aV m c) := by
  refine (dats m 0 c).arrAt_eq_of_covers 5 _ (by decide +kernel) fun t hf y => ?_
  rw [after0_5]
  have e : (outsAt0 m c t).2.1 = k0_pay3 (iblk m c 1 t) (iblk m c 2 t) (iblk m c 3 t) (iblk m c 0 t) := by unfold outsAt0; frame_out
  rw [e]
  refine Eq.trans ?_ (Cert.Reference17Ideal.Hand.change_apply (aW m c) (aG m c) (aM m c) (aV m c) (spot t y)).symm
  rw [← bW, ← bG, ← bM, ← bV]
  rfl

/-- The new running means. -/
theorem mean17 : (dats m 0 c).arrAt 6 cfg0.N = Cert.Reference17Ideal.Read.val_main_v4 (F := Ideal) (aG m c) (aM m c) := by
  refine (dats m 0 c).arrAt_eq_of_covers 6 _ (by decide +kernel) fun t hf y => ?_
  rw [after0_6]
  have e : (outsAt0 m c t).2.2.1 = k0_pay1 (iblk m c 1 t) (iblk m c 2 t) := by unfold outsAt0; frame_out
  rw [e]
  refine Eq.trans ?_ (Cert.Reference17Ideal.Hand.mean_apply (aG m c) (aM m c) (spot t y)).symm
  rw [← bG, ← bM]
  rfl

/-- The new running squares. -/
theorem square17 : (dats m 0 c).arrAt 7 cfg0.N = Cert.Reference17Ideal.Read.val_main_v10 (F := Ideal) (aG m c) (aV m c) := by
  refine (dats m 0 c).arrAt_eq_of_covers 7 _ (by decide +kernel) fun t hf y => ?_
  rw [after0_7]
  have e : (outsAt0 m c t).2.2.2 = k0_pay2 (iblk m c 1 t) (iblk m c 3 t) := by unfold outsAt0; frame_out
  rw [e]
  refine Eq.trans ?_ (Cert.Reference17Ideal.Hand.square_apply (aG m c) (aV m c) (spot t y)).symm
  rw [← bG, ← bV]
  rfl

end Cert.Kernel17Ideal.Hand

namespace Cert.Proof

open Idealize.ShloMosaic hiding ix1 ix2 ix3 ix4
open Idealize.ShloMosaic.TcCoe Idealize.SL.Sem

/-- The optimiser's step of the queries' weight and its plain reference end with the same results. -/
theorem algebraic_adamw_w_q_b : Cert.algebraic_Kernel17Ideal_Reference17Ideal (hKernel17Ideal := Cert.Kernel17Ideal.Gen.facts)
    (hReference17Ideal := Cert.Reference17Ideal.Gen.facts) := by
  intro m g m' g' hpre hargs
  refine ⟨fun c => (Cert.Kernel17Ideal.Gen.dats m 0 c).arrAt 4 Cert.Kernel17Ideal.cfg0.N, fun c => (Cert.Kernel17Ideal.Gen.dats m 0 c).arrAt 5 Cert.Kernel17Ideal.cfg0.N,
    fun c => (Cert.Kernel17Ideal.Gen.dats m 0 c).arrAt 6 Cert.Kernel17Ideal.cfg0.N, fun c => (Cert.Kernel17Ideal.Gen.dats m 0 c).arrAt 7 Cert.Kernel17Ideal.cfg0.N,
    Cert.Kernel17Ideal.Value.run_blocks (F := Ideal) m g, ?_⟩
  refine (θ_run (Cert.Reference17Ideal.defs (F := Ideal)) _ _).mono (fun r h c => ?_) (Cert.Reference17Ideal.Value.run (F := Ideal) m' g')
  obtain ⟨e0, e1, e2, e3⟩ := hargs c
  obtain ⟨k0, k1, k2, k3, ka⟩ := h c
  rw [e0, e1, e2, e3] at k1
  rw [e1] at k0
  rw [e1, e2] at k2
  rw [e1, e3] at k3
  exact ⟨k0.trans (Cert.Kernel17Ideal.Hand.grad17 m c).symm, k1.trans (Cert.Kernel17Ideal.Hand.change17 m c).symm,
    k2.trans (Cert.Kernel17Ideal.Hand.mean17 m c).symm, k3.trans (Cert.Kernel17Ideal.Hand.square17 m c).symm, ka⟩

/-- The call runs, leaves its arguments as launched and ends with every counter at zero. -/
theorem frame_kernel17 : Cert.quiescent_Kernel17 (hKernel17 := Cert.Kernel17.Gen.facts) := fun m ρ _ =>
  Eq.mp (by sl_kernel_rfl) (Cert.Kernel17Ideal.Gen.frame (F := Bits) m ρ)

/-- The idealized call runs, leaves its arguments as launched and ends with every counter at zero. -/
theorem frame_kernel17Ideal : Cert.quiescent_Kernel17Ideal (hKernel17Ideal := Cert.Kernel17Ideal.Gen.facts) := fun m ρ _ =>
  Cert.Kernel17Ideal.Gen.frame (F := Ideal) m ρ

/-- The reference runs, leaves its arguments as launched and ends with every counter at zero. -/
theorem frame_reference17Ideal : Cert.quiescent_Reference17Ideal (hReference17Ideal := Cert.Reference17Ideal.Gen.facts) := fun m ρ _ =>
  (θ_run (Cert.Reference17Ideal.defs (F := Ideal)) _ _).mono
    (fun r h => ⟨fun c => (h c).2.2.2.2, sem_eq_zero_of_no_sems (by decide) r.2⟩)
    (Cert.Reference17Ideal.Value.run (F := Ideal) m ρ)

end Cert.Proof

end
-- ==== Proof.A18.lean ====
/-
  The optimiser's step of the keys' and values' weight: each point's block of rows gets the step of its elements, its gradient from the
  weight's rows of the group.
-/
module

public import proofs.«01_k».proof.Defs
public import proofs.«01_k».proof.Proof.Adam
public import proofs.«01_k».proof.Proof.Gen.Kernel18
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference18Ideal.Hand

open Idealize.ShloMosaic
open Cert.Reference18Ideal Cert.Reference18Ideal.Read

variable (w : S256x512.Idx → Ideal .f32) (g : S384x512.Idx → Ideal .f32) (m v : S256x512.Idx → Ideal .f32) (i : S256x512.Idx)

/-- The reference's running mean at an element. -/
theorem mean_apply : val_main_v5 (F := Ideal) g m i = Adam.mean (g (idx_main_v0 i)) (m i) := by
  rw [← val_main_v0_apply (F := Ideal) g i]; rfl

/-- The reference's running square at an element. -/
theorem square_apply : val_main_v11 (F := Ideal) g v i = Adam.square (g (idx_main_v0 i)) (v i) := by
  rw [← val_main_v0_apply (F := Ideal) g i]; rfl

/-- The reference's change at an element. -/
theorem change_apply : val_main_v24 (F := Ideal) w g m v i = Adam.change (w i) (g (idx_main_v0 i)) (m i) (v i) := by
  rw [← val_main_v0_apply (F := Ideal) g i]; rfl

end Cert.Reference18Ideal.Hand

namespace Cert.Kernel18Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel18Ideal Cert.Kernel18Ideal.Gen
open Cert.Reference18Ideal.Read (idx_main_v0)

variable (m : (ℓ : Loc nD τ sig) → Buf (Elt Ideal) ℓ) (c : Dev nD)

/-- The weight. -/
abbrev aW : S256x512.Idx → Ideal .f32 := m ((c : Thread nD τ).loc main_arg0)
/-- The group's gradients. -/
abbrev aG : S384x512.Idx → Ideal .f32 := m ((c : Thread nD τ).loc main_arg1)
/-- The running mean. -/
abbrev aM : S256x512.Idx → Ideal .f32 := m ((c : Thread nD τ).loc main_arg2)
/-- The running square. -/
abbrev aV : S256x512.Idx → Ideal .f32 := m ((c : Thread nD τ).loc main_arg3)

/-- Where a point's block lies in the results. -/
abbrev spot (t : Fin cfg0.N) (y : S256x512.Idx) : S256x512.Idx := ((cfg0.win 4).blk t).view.emb y

/-- The weight's block of a point. -/
theorem bW (t : Fin cfg0.N) (y : S256x512.Idx) : iblk m c 0 t y = aW m c (spot t y) := congrFun (V_main_arg0 m c) _
/-- The running mean's block of a point. -/
theorem bM (t : Fin cfg0.N) (y : S256x512.Idx) : iblk m c 2 t y = aM m c (spot t y) := congrFun (V_main_arg2 m c) _
/-- The running square's block of a point. -/
theorem bV (t : Fin cfg0.N) (y : S256x512.Idx) : iblk m c 3 t y = aV m c (spot t y) := congrFun (V_main_arg3 m c) _

/-- The block index of the gradients at a point. -/
theorem index18_1 : ∀ t : Fin cfg0.N, win0_1.index t = ![t.val, 0] :=
  (by decide +kernel : ∀ t : Fin grid0.N, win0_1.index t = ![t.val, 0])
/-- The block index of the results at a point. -/
theorem index18_4 : ∀ t : Fin cfg0.N, win0_4.index t = ![t.val, 0] :=
  (by decide +kernel : ∀ t : Fin grid0.N, win0_4.index t = ![t.val, 0])

/-- The weight's rows are the group's first rows. -/
theorem idx_val (i : S256x512.Idx) (a : Fin 2) : (idx_main_v0 i a : ℕ) = i a := by
  match a with
  | 0 => rfl
  | 1 => rfl

/-- An element of the gradient's block of a point lies in the array where the results' lies in theirs. -/
theorem emb_val (t : Fin cfg0.N) (z : ((cfg0.win 1).xblock (cfg0.grid.coords t)).Idx) (y : S256x512.Idx) (h : ∀ a : Fin 2, (z a : ℕ) = y a)
    (a : Fin 2) : ((((cfg0.win 1).blk t).view.emb z) a : ℕ) = idx_main_v0 (spot t y) a := by
  rw [idx_val]
  refine ((cfg0.win 1).rect_emb_val t z a).trans (Eq.trans ?_ ((cfg0.win 4).rect_emb_val t y a).symm)
  rw [show (cfg0.win 1).index t = _ from index18_1 t, show (cfg0.win 4).index t = _ from index18_4 t, h]

/-- The gradient's block of a point, which no end of the group's array cuts, lies in the weight's rows of the group. -/
theorem bG (t : Fin cfg0.N) (y : S256x512.Idx) : X0_1 m c t y = aG m c (idx_main_v0 (spot t y)) := by
  unfold X0_1 Idealize.ShloMosaic.Pipeline.Window.fill
  rw [dif_pos (moved0_1 t y)]
  exact (congrFun (V_main_arg1 m c) _).trans (congrArg (aG m c) (funext fun a => Fin.ext (emb_val t _ y (fun _ => rfl) a)))

/-- The gradients passed on. -/
theorem grad18 : (dats m 0 c).arrAt 4 cfg0.N = Cert.Reference18Ideal.Read.val_main_v0 (F := Ideal) (aG m c) := by
  refine (dats m 0 c).arrAt_eq_of_covers 4 _ (by decide +kernel) fun t hf y => ?_
  rw [after0_4]
  have e : (outsAt0 m c t).1 = X0_1 m c t := by unfold outsAt0; frame_out
  rw [e]
  exact (bG m c t y).trans (Cert.Reference18Ideal.Read.val_main_v0_apply (F := Ideal) (aG m c) _).symm

/-- The changes of the weights. -/
theorem change18 : (dats m 0 c).arrAt 5 cfg0.N = Cert.Reference18Ideal.Read.val_main_v24 (F := Ideal) (aW m c) (aG m c) (aM m c) (aV m c) := by
  refine (dats m 0 c).arrAt_eq_of_covers 5 _ (by decide +kernel) fun t hf y => ?_
  rw [after0_5]
  have e : (outsAt0 m c t).2.1 = k0_pay3 (X0_1 m c t) (iblk m c 2 t) (iblk m c 3 t) (iblk m c 0 t) := by unfold outsAt0; frame_out
  rw [e]
  refine Eq.trans ?_ (Cert.Reference18Ideal.Hand.change_apply (aW m c) (aG m c) (aM m c) (aV m c) (spot t y)).symm
  rw [← bW, ← bG, ← bM, ← bV]
  rfl

/-- The new running means. -/
theorem mean18 : (dats m 0 c).arrAt 6 cfg0.N = Cert.Reference18Ideal.Read.val_main_v5 (F := Ideal) (aG m c) (aM m c) := by
  refine (dats m 0 c).arrAt_eq_of_covers 6 _ (by decide +kernel) fun t hf y => ?_
  rw [after0_6]
  have e : (outsAt0 m c t).2.2.1 = k0_pay1 (X0_1 m c t) (iblk m c 2 t) := by unfold outsAt0; frame_out
  rw [e]
  refine Eq.trans ?_ (Cert.Reference18Ideal.Hand.mean_apply (aG m c) (aM m c) (spot t y)).symm
  rw [← bG, ← bM]
  rfl

/-- The new running squares. -/
theorem square18 : (dats m 0 c).arrAt 7 cfg0.N = Cert.Reference18Ideal.Read.val_main_v11 (F := Ideal) (aG m c) (aV m c) := by
  refine (dats m 0 c).arrAt_eq_of_covers 7 _ (by decide +kernel) fun t hf y => ?_
  rw [after0_7]
  have e : (outsAt0 m c t).2.2.2 = k0_pay2 (X0_1 m c t) (iblk m c 3 t) := by unfold outsAt0; frame_out
  rw [e]
  refine Eq.trans ?_ (Cert.Reference18Ideal.Hand.square_apply (aG m c) (aV m c) (spot t y)).symm
  rw [← bG, ← bV]
  rfl

end Cert.Kernel18Ideal.Hand

namespace Cert.Proof

open Idealize.ShloMosaic hiding ix1 ix2 ix3 ix4
open Idealize.ShloMosaic.TcCoe Idealize.SL.Sem

/-- The optimiser's step of the keys' and values' weight and its plain reference end with the same results. -/
theorem algebraic_adamw_w_kv_b : Cert.algebraic_Kernel18Ideal_Reference18Ideal (hKernel18Ideal := Cert.Kernel18Ideal.Gen.facts)
    (hReference18Ideal := Cert.Reference18Ideal.Gen.facts) := by
  intro m g m' g' hpre hargs
  refine ⟨fun c => (Cert.Kernel18Ideal.Gen.dats m 0 c).arrAt 4 Cert.Kernel18Ideal.cfg0.N, fun c => (Cert.Kernel18Ideal.Gen.dats m 0 c).arrAt 5 Cert.Kernel18Ideal.cfg0.N,
    fun c => (Cert.Kernel18Ideal.Gen.dats m 0 c).arrAt 6 Cert.Kernel18Ideal.cfg0.N, fun c => (Cert.Kernel18Ideal.Gen.dats m 0 c).arrAt 7 Cert.Kernel18Ideal.cfg0.N,
    Cert.Kernel18Ideal.Value.run_blocks (F := Ideal) m g, ?_⟩
  refine (θ_run (Cert.Reference18Ideal.defs (F := Ideal)) _ _).mono (fun r h c => ?_) (Cert.Reference18Ideal.Value.run (F := Ideal) m' g')
  obtain ⟨e0, e1, e2, e3⟩ := hargs c
  obtain ⟨k0, k1, k2, k3, ka⟩ := h c
  rw [e0, e1, e2, e3] at k1
  rw [e1] at k0
  rw [e1, e2] at k2
  rw [e1, e3] at k3
  exact ⟨k0.trans (Cert.Kernel18Ideal.Hand.grad18 m c).symm, k1.trans (Cert.Kernel18Ideal.Hand.change18 m c).symm,
    k2.trans (Cert.Kernel18Ideal.Hand.mean18 m c).symm, k3.trans (Cert.Kernel18Ideal.Hand.square18 m c).symm, ka⟩

/-- The call runs, leaves its arguments as launched and ends with every counter at zero. -/
theorem frame_kernel18 : Cert.quiescent_Kernel18 (hKernel18 := Cert.Kernel18.Gen.facts) := fun m ρ _ =>
  Eq.mp (by sl_kernel_rfl) (Cert.Kernel18Ideal.Gen.frame (F := Bits) m ρ)

/-- The idealized call runs, leaves its arguments as launched and ends with every counter at zero. -/
theorem frame_kernel18Ideal : Cert.quiescent_Kernel18Ideal (hKernel18Ideal := Cert.Kernel18Ideal.Gen.facts) := fun m ρ _ =>
  Cert.Kernel18Ideal.Gen.frame (F := Ideal) m ρ

/-- The reference runs, leaves its arguments as launched and ends with every counter at zero. -/
theorem frame_reference18Ideal : Cert.quiescent_Reference18Ideal (hReference18Ideal := Cert.Reference18Ideal.Gen.facts) := fun m ρ _ =>
  (θ_run (Cert.Reference18Ideal.defs (F := Ideal)) _ _).mono
    (fun r h => ⟨fun c => (h c).2.2.2.2, sem_eq_zero_of_no_sems (by decide) r.2⟩)
    (Cert.Reference18Ideal.Value.run (F := Ideal) m ρ)

end Cert.Proof

end
-- ==== Proof.A19.lean ====
/-
  The optimiser's step of the gate's weight: each point's block of rows gets the step of its elements, its gradient from the
  weight's rows of the group.
-/
module

public import proofs.«01_k».proof.Defs
public import proofs.«01_k».proof.Proof.Adam
public import proofs.«01_k».proof.Proof.Gen.Kernel19
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference19Ideal.Hand

open Idealize.ShloMosaic
open Cert.Reference19Ideal Cert.Reference19Ideal.Read

variable (w : S128x512.Idx → Ideal .f32) (g : S384x512.Idx → Ideal .f32) (m v : S128x512.Idx → Ideal .f32) (i : S128x512.Idx)

/-- The reference's running mean at an element. -/
theorem mean_apply : val_main_v5 (F := Ideal) g m i = Adam.mean (g (idx_main_v0 i)) (m i) := by
  rw [← val_main_v0_apply (F := Ideal) g i]; rfl

/-- The reference's running square at an element. -/
theorem square_apply : val_main_v11 (F := Ideal) g v i = Adam.square (g (idx_main_v0 i)) (v i) := by
  rw [← val_main_v0_apply (F := Ideal) g i]; rfl

/-- The reference's change at an element. -/
theorem change_apply : val_main_v24 (F := Ideal) w g m v i = Adam.change (w i) (g (idx_main_v0 i)) (m i) (v i) := by
  rw [← val_main_v0_apply (F := Ideal) g i]; rfl

end Cert.Reference19Ideal.Hand

namespace Cert.Kernel19Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel19Ideal Cert.Kernel19Ideal.Gen
open Cert.Reference19Ideal.Read (idx_main_v0)

variable (m : (ℓ : Loc nD τ sig) → Buf (Elt Ideal) ℓ) (c : Dev nD)

/-- The weight. -/
abbrev aW : S128x512.Idx → Ideal .f32 := m ((c : Thread nD τ).loc main_arg0)
/-- The group's gradients. -/
abbrev aG : S384x512.Idx → Ideal .f32 := m ((c : Thread nD τ).loc main_arg1)
/-- The running mean. -/
abbrev aM : S128x512.Idx → Ideal .f32 := m ((c : Thread nD τ).loc main_arg2)
/-- The running square. -/
abbrev aV : S128x512.Idx → Ideal .f32 := m ((c : Thread nD τ).loc main_arg3)

/-- Where a point's block lies in the results. -/
abbrev spot (t : Fin cfg0.N) (y : S128x512.Idx) : S128x512.Idx := ((cfg0.win 4).blk t).view.emb y

/-- The weight's block of a point. -/
theorem bW (t : Fin cfg0.N) (y : S128x512.Idx) : iblk m c 0 t y = aW m c (spot t y) := congrFun (V_main_arg0 m c) _
/-- The running mean's block of a point. -/
theorem bM (t : Fin cfg0.N) (y : S128x512.Idx) : iblk m c 2 t y = aM m c (spot t y) := congrFun (V_main_arg2 m c) _
/-- The running square's block of a point. -/
theorem bV (t : Fin cfg0.N) (y : S128x512.Idx) : iblk m c 3 t y = aV m c (spot t y) := congrFun (V_main_arg3 m c) _

/-- The block index of the gradients at a point. -/
theorem index19_1 : ∀ t : Fin cfg0.N, win0_1.index t = ![t.val + 2, 0] :=
  (by decide +kernel : ∀ t : Fin grid0.N, win0_1.index t = ![t.val + 2, 0])
/-- The block index of the results at a point. -/
theorem index19_4 : ∀ t : Fin cfg0.N, win0_4.index t = ![t.val, 0] :=
  (by decide +kernel : ∀ t : Fin grid0.N, win0_4.index t = ![t.val, 0])

/-- The gradient's block of a point lies in the weight's rows of the group. -/
theorem bG (t : Fin cfg0.N) (y : S128x512.Idx) : iblk m c 1 t y = aG m c (idx_main_v0 (spot t y)) := by
  have ht : t.val < 1 := lt_of_lt_of_eq t.isLt N_0
  obtain ⟨r, j, rfl⟩ : ∃ (r : Fin 128) (j : Fin 512), y = ix2 r j := ⟨y 0, y 1, ValueIdx.eq_ix2 y⟩
  refine (congrFun (V_main_arg1 m c) _).trans (congrArg (aG m c) ?_)
  have er : ((ix2 r j 0 : Fin 128) : ℕ) = r.val := rfl
  have e1 : ((cfg0.win 1).blk t).view.emb (ix2 r j) = ix2 (⟨256 + (128 * t.val + r.val), by omega⟩ : Fin 384) j := by
    blk_ext [index19_1]
  have e4 : spot t (ix2 r j) = ix2 (⟨128 * t.val + r.val, by omega⟩ : Fin 128) j := by
    unfold spot
    blk_ext [index19_4]
  refine Eq.trans e1 (Eq.trans ?_ (congrArg idx_main_v0 e4).symm)
  exact (ValueIdx.eq_ix2 _).symm

/-- The gradients passed on. -/
theorem grad19 : (dats m 0 c).arrAt 4 cfg0.N = Cert.Reference19Ideal.Read.val_main_v0 (F := Ideal) (aG m c) := by
  refine (dats m 0 c).arrAt_eq_of_covers 4 _ (by decide +kernel) fun t hf y => ?_
  rw [after0_4]
  have e : (outsAt0 m c t).1 = iblk m c 1 t := by unfold outsAt0; frame_out
  rw [e]
  exact (bG m c t y).trans (Cert.Reference19Ideal.Read.val_main_v0_apply (F := Ideal) (aG m c) _).symm

/-- The changes of the weights. -/
theorem change19 : (dats m 0 c).arrAt 5 cfg0.N = Cert.Reference19Ideal.Read.val_main_v24 (F := Ideal) (aW m c) (aG m c) (aM m c) (aV m c) := by
  refine (dats m 0 c).arrAt_eq_of_covers 5 _ (by decide +kernel) fun t hf y => ?_
  rw [after0_5]
  have e : (outsAt0 m c t).2.1 = k0_pay3 (iblk m c 1 t) (iblk m c 2 t) (iblk m c 3 t) (iblk m c 0 t) := by unfold outsAt0; frame_out
  rw [e]
  refine Eq.trans ?_ (Cert.Reference19Ideal.Hand.change_apply (aW m c) (aG m c) (aM m c) (aV m c) (spot t y)).symm
  rw [← bW, ← bG, ← bM, ← bV]
  rfl

/-- The new running means. -/
theorem mean19 : (dats m 0 c).arrAt 6 cfg0.N = Cert.Reference19Ideal.Read.val_main_v5 (F := Ideal) (aG m c) (aM m c) := by
  refine (dats m 0 c).arrAt_eq_of_covers 6 _ (by decide +kernel) fun t hf y => ?_
  rw [after0_6]
  have e : (outsAt0 m c t).2.2.1 = k0_pay1 (iblk m c 1 t) (iblk m c 2 t) := by unfold outsAt0; frame_out
  rw [e]
  refine Eq.trans ?_ (Cert.Reference19Ideal.Hand.mean_apply (aG m c) (aM m c) (spot t y)).symm
  rw [← bG, ← bM]
  rfl

/-- The new running squares. -/
theorem square19 : (dats m 0 c).arrAt 7 cfg0.N = Cert.Reference19Ideal.Read.val_main_v11 (F := Ideal) (aG m c) (aV m c) := by
  refine (dats m 0 c).arrAt_eq_of_covers 7 _ (by decide +kernel) fun t hf y => ?_
  rw [after0_7]
  have e : (outsAt0 m c t).2.2.2 = k0_pay2 (iblk m c 1 t) (iblk m c 3 t) := by unfold outsAt0; frame_out
  rw [e]
  refine Eq.trans ?_ (Cert.Reference19Ideal.Hand.square_apply (aG m c) (aV m c) (spot t y)).symm
  rw [← bG, ← bV]
  rfl

end Cert.Kernel19Ideal.Hand

namespace Cert.Proof

open Idealize.ShloMosaic hiding ix1 ix2 ix3 ix4
open Idealize.ShloMosaic.TcCoe Idealize.SL.Sem

/-- The optimiser's step of the gate's weight and its plain reference end with the same results. -/
theorem algebraic_adamw_w_glu : Cert.algebraic_Kernel19Ideal_Reference19Ideal (hKernel19Ideal := Cert.Kernel19Ideal.Gen.facts)
    (hReference19Ideal := Cert.Reference19Ideal.Gen.facts) := by
  intro m g m' g' hpre hargs
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N,
    fun c => (Cert.Kernel19Ideal.Gen.dats m 0 c).arrAt 6 Cert.Kernel19Ideal.cfg0.N, fun c => (Cert.Kernel19Ideal.Gen.dats m 0 c).arrAt 7 Cert.Kernel19Ideal.cfg0.N,
    Cert.Kernel19Ideal.Value.run_blocks (F := Ideal) m g, ?_⟩
  refine (θ_run (Cert.Reference19Ideal.defs (F := Ideal)) _ _).mono (fun r h c => ?_) (Cert.Reference19Ideal.Value.run (F := Ideal) m' g')
  obtain ⟨e0, e1, e2, e3⟩ := hargs c
  obtain ⟨k0, k1, k2, k3, ka⟩ := h c
  rw [e0, e1, e2, e3] at k1
  rw [e1] at k0
  rw [e1, e2] at k2
  rw [e1, e3] at k3
  exact ⟨k0.trans (Cert.Kernel19Ideal.Hand.grad19 m c).symm, k1.trans (Cert.Kernel19Ideal.Hand.change19 m c).symm,
    k2.trans (Cert.Kernel19Ideal.Hand.mean19 m c).symm, k3.trans (Cert.Kernel19Ideal.Hand.square19 m c).symm, ka⟩

/-- The call runs, leaves its arguments as launched and ends with every counter at zero. -/
theorem frame_kernel19 : Cert.quiescent_Kernel19 (hKernel19 := Cert.Kernel19.Gen.facts) := fun m ρ _ =>
  Eq.mp (by sl_kernel_rfl) (Cert.Kernel19Ideal.Gen.frame (F := Bits) m ρ)

/-- The idealized call runs, leaves its arguments as launched and ends with every counter at zero. -/
theorem frame_kernel19Ideal : Cert.quiescent_Kernel19Ideal (hKernel19Ideal := Cert.Kernel19Ideal.Gen.facts) := fun m ρ _ =>
  Cert.Kernel19Ideal.Gen.frame (F := Ideal) m ρ

/-- The reference runs, leaves its arguments as launched and ends with every counter at zero. -/
theorem frame_reference19Ideal : Cert.quiescent_Reference19Ideal (hReference19Ideal := Cert.Reference19Ideal.Gen.facts) := fun m ρ _ =>
  (θ_run (Cert.Reference19Ideal.defs (F := Ideal)) _ _).mono
    (fun r h => ⟨fun c => (h c).2.2.2.2, sem_eq_zero_of_no_sems (by decide) r.2⟩)
    (Cert.Reference19Ideal.Value.run (F := Ideal) m ρ)

end Cert.Proof

end
-- ==== Proof.A20.lean ====
/-
  The optimiser's step of the state-space output weight: each point's block of rows gets the step of its elements.
-/
module

public import proofs.«01_k».proof.Defs
public import proofs.«01_k».proof.Proof.Adam
public import proofs.«01_k».proof.Proof.Gen.Kernel20
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference20Ideal.Hand

open Idealize.ShloMosaic
open Cert.Reference20Ideal Cert.Reference20Ideal.Read

variable (w : S512x256.Idx → Ideal .f32) (g : S512x256.Idx → Ideal .f32) (m v : S512x256.Idx → Ideal .f32) (i : S512x256.Idx)

/-- The reference's running mean at an element. -/
theorem mean_apply : val_main_v4 (F := Ideal) g m i = Adam.mean (g i) (m i) := rfl

/-- The reference's running square at an element. -/
theorem square_apply : val_main_v10 (F := Ideal) g v i = Adam.square (g i) (v i) := rfl

/-- The reference's change at an element. -/
theorem change_apply : val_main_v23 (F := Ideal) w g m v i = Adam.change (w i) (g i) (m i) (v i) := rfl

end Cert.Reference20Ideal.Hand

namespace Cert.Kernel20Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel20Ideal Cert.Kernel20Ideal.Gen

variable (m : (ℓ : Loc nD τ sig) → Buf (Elt Ideal) ℓ) (c : Dev nD)

/-- The weight. -/
abbrev aW : S512x256.Idx → Ideal .f32 := m ((c : Thread nD τ).loc main_arg0)
/-- The gradients. -/
abbrev aG : S512x256.Idx → Ideal .f32 := m ((c : Thread nD τ).loc main_arg1)
/-- The running mean. -/
abbrev aM : S512x256.Idx → Ideal .f32 := m ((c : Thread nD τ).loc main_arg2)
/-- The running square. -/
abbrev aV : S512x256.Idx → Ideal .f32 := m ((c : Thread nD τ).loc main_arg3)

/-- Where a point's block lies in the results. -/
abbrev spot (t : Fin cfg0.N) (y : S256x256.Idx) : S512x256.Idx := ((cfg0.win 4).blk t).view.emb y

/-- The weight's block of a point. -/
theorem bW (t : Fin cfg0.N) (y : S256x256.Idx) : iblk m c 0 t y = aW m c (spot t y) := congrFun (V_main_arg0 m c) _
/-- The running mean's block of a point. -/
theorem bM (t : Fin cfg0.N) (y : S256x256.Idx) : iblk m c 2 t y = aM m c (spot t y) := congrFun (V_main_arg2 m c) _
/-- The running square's block of a point. -/
theorem bV (t : Fin cfg0.N) (y : S256x256.Idx) : iblk m c 3 t y = aV m c (spot t y) := congrFun (V_main_arg3 m c) _

/-- The block index of the gradients at a point. -/
theorem index20_1 : ∀ t : Fin cfg0.N, win0_1.index t = ![t.val, 0] :=
  (by decide +kernel : ∀ t : Fin grid0.N, win0_1.index t = ![t.val, 0])
/-- The block index of the results at a point. -/
theorem index20_4 : ∀ t : Fin cfg0.N, win0_4.index t = ![t.val, 0] :=
  (by decide +kernel : ∀ t : Fin grid0.N, win0_4.index t = ![t.val, 0])

/-- The gradient's block of a point. -/
theorem bG (t : Fin cfg0.N) (y : S256x256.Idx) : iblk m c 1 t y = aG m c (spot t y) := by
  have ht : t.val < 2 := lt_of_lt_of_eq t.isLt N_0
  obtain ⟨r, j, rfl⟩ : ∃ (r : Fin 256) (j : Fin 256), y = ix2 r j := ⟨y 0, y 1, ValueIdx.eq_ix2 y⟩
  refine (congrFun (V_main_arg1 m c) _).trans (congrArg (aG m c) ?_)
  have er : ((ix2 r j 0 : Fin 256) : ℕ) = r.val := rfl
  have e1 : ((cfg0.win 1).blk t).view.emb (ix2 r j) = ix2 (⟨256 * t.val + r.val, by omega⟩ : Fin 512) j := by
    blk_ext [index20_1]
  have e4 : spot t (ix2 r j) = ix2 (⟨256 * t.val + r.val, by omega⟩ : Fin 512) j := by
    unfold spot
    blk_ext [index20_4]
  exact e1.trans e4.symm

/-- The gradients passed on. -/
theorem grad20 : (dats m 0 c).arrAt 4 cfg0.N = aG m c := by
  refine (dats m 0 c).arrAt_eq_of_covers 4 _ (by decide +kernel) fun t hf y => ?_
  rw [after0_4]
  have e : (outsAt0 m c t).1 = iblk m c 1 t := by unfold outsAt0; frame_out
  rw [e]
  exact bG m c t y

/-- The changes of the weights. -/
theorem change20 : (dats m 0 c).arrAt 5 cfg0.N = Cert.Reference20Ideal.Read.val_main_v23 (F := Ideal) (aW m c) (aG m c) (aM m c) (aV m c) := by
  refine (dats m 0 c).arrAt_eq_of_covers 5 _ (by decide +kernel) fun t hf y => ?_
  rw [after0_5]
  have e : (outsAt0 m c t).2.1 = k0_pay3 (iblk m c 1 t) (iblk m c 2 t) (iblk m c 3 t) (iblk m c 0 t) := by unfold outsAt0; frame_out
  rw [e]
  refine Eq.trans ?_ (Cert.Reference20Ideal.Hand.change_apply (aW m c) (aG m c) (aM m c) (aV m c) (spot t y)).symm
  rw [← bW, ← bG, ← bM, ← bV]
  rfl

/-- The new running means. -/
theorem mean20 : (dats m 0 c).arrAt 6 cfg0.N = Cert.Reference20Ideal.Read.val_main_v4 (F := Ideal) (aG m c) (aM m c) := by
  refine (dats m 0 c).arrAt_eq_of_covers 6 _ (by decide +kernel) fun t hf y => ?_
  rw [after0_6]
  have e : (outsAt0 m c t).2.2.1 = k0_pay1 (iblk m c 1 t) (iblk m c 2 t) := by unfold outsAt0; frame_out
  rw [e]
  refine Eq.trans ?_ (Cert.Reference20Ideal.Hand.mean_apply (aG m c) (aM m c) (spot t y)).symm
  rw [← bG, ← bM]
  rfl

/-- The new running squares. -/
theorem square20 : (dats m 0 c).arrAt 7 cfg0.N = Cert.Reference20Ideal.Read.val_main_v10 (F := Ideal) (aG m c) (aV m c) := by
  refine (dats m 0 c).arrAt_eq_of_covers 7 _ (by decide +kernel) fun t hf y => ?_
  rw [after0_7]
  have e : (outsAt0 m c t).2.2.2 = k0_pay2 (iblk m c 1 t) (iblk m c 3 t) := by unfold outsAt0; frame_out
  rw [e]
  refine Eq.trans ?_ (Cert.Reference20Ideal.Hand.square_apply (aG m c) (aV m c) (spot t y)).symm
  rw [← bG, ← bV]
  rfl

end Cert.Kernel20Ideal.Hand

namespace Cert.Proof

open Idealize.ShloMosaic hiding ix1 ix2 ix3 ix4
open Idealize.ShloMosaic.TcCoe Idealize.SL.Sem

/-- The optimiser's step of the state-space output weight and its plain reference end with the same results. -/
theorem algebraic_adamw_w_o_ssm : Cert.algebraic_Kernel20Ideal_Reference20Ideal (hKernel20Ideal := Cert.Kernel20Ideal.Gen.facts)
    (hReference20Ideal := Cert.Reference20Ideal.Gen.facts) := by
  intro m g m' g' hpre hargs
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N,
    fun c => (Cert.Kernel20Ideal.Gen.dats m 0 c).arrAt 6 Cert.Kernel20Ideal.cfg0.N, fun c => (Cert.Kernel20Ideal.Gen.dats m 0 c).arrAt 7 Cert.Kernel20Ideal.cfg0.N,
    Cert.Kernel20Ideal.Value.run_blocks (F := Ideal) m g, ?_⟩
  refine (θ_run (Cert.Reference20Ideal.defs (F := Ideal)) _ _).mono (fun r h c => ?_) (Cert.Reference20Ideal.Value.run (F := Ideal) m' g')
  obtain ⟨e0, e1, e2, e3⟩ := hargs c
  obtain ⟨k0, k1, k2, k3, ka⟩ := h c
  rw [e0, e1, e2, e3] at k1
  rw [e1] at k0
  rw [e1, e2] at k2
  rw [e1, e3] at k3
  exact ⟨k0.trans (Cert.Kernel20Ideal.Hand.grad20 m c).symm, k1.trans (Cert.Kernel20Ideal.Hand.change20 m c).symm,
    k2.trans (Cert.Kernel20Ideal.Hand.mean20 m c).symm, k3.trans (Cert.Kernel20Ideal.Hand.square20 m c).symm, ka⟩

/-- The call runs, leaves its arguments as launched and ends with every counter at zero. -/
theorem frame_kernel20 : Cert.quiescent_Kernel20 (hKernel20 := Cert.Kernel20.Gen.facts) := fun m ρ _ =>
  Eq.mp (by sl_kernel_rfl) (Cert.Kernel20Ideal.Gen.frame (F := Bits) m ρ)

/-- The idealized call runs, leaves its arguments as launched and ends with every counter at zero. -/
theorem frame_kernel20Ideal : Cert.quiescent_Kernel20Ideal (hKernel20Ideal := Cert.Kernel20Ideal.Gen.facts) := fun m ρ _ =>
  Cert.Kernel20Ideal.Gen.frame (F := Ideal) m ρ

/-- The reference runs, leaves its arguments as launched and ends with every counter at zero. -/
theorem frame_reference20Ideal : Cert.quiescent_Reference20Ideal (hReference20Ideal := Cert.Reference20Ideal.Gen.facts) := fun m ρ _ =>
  (θ_run (Cert.Reference20Ideal.defs (F := Ideal)) _ _).mono
    (fun r h => ⟨fun c => (h c).2.2.2.2, sem_eq_zero_of_no_sems (by decide) r.2⟩)
    (Cert.Reference20Ideal.Value.run (F := Ideal) m ρ)

end Cert.Proof

end
-- ==== Proof.InSpec.lean ====
/-
  The gradient of a normalised and projected row as formulas over the real numbers, and four strips of columns side by side.
-/
module

public import proofs.«01_k».proof.Proof.MlpSpec
public import Idealize.ShloMosaic.Lib.ValueIdx

@[expose] public section

noncomputable section

namespace Cert.InProj

open Idealize.ShloMosaic
open Idealize.ShloMosaic.ValueIdx
open Cert.Mlp (rr)
open scoped BigOperators

variable (G : Fin 1024 → ℝ) (W : Fin 1024 → Fin 3328 → ℝ) (x e : Fin 1024 → ℝ) (p : Fin 3328 → ℝ)

/-- The gradient of the normalised row: the gradient of the product times the transposed weights. -/
def dn (j : Fin 1024) : ℝ := ∑ k, p k * W j k
/-- The gradient of the row: what came past the layer, and what comes back through the normalisation. -/
def dx (j : Fin 1024) : ℝ :=
  e j + rr x * (dn W p j * G j - x j * rr x * ((∑ i, dn W p i * G i * (x i * rr x)) * (1 / 1024)))
/-- The row's share of the gradient of the gains. -/
def dg (j : Fin 1024) : ℝ := dn W p j * (x j * rr x)

/-- Four strips of 512, 768, 1024 and 1024 columns side by side. -/
def side {n : ℕ} {α : Type} (a : (⟨2, ![n, 512]⟩ : Shape).Idx → α) (b : (⟨2, ![n, 768]⟩ : Shape).Idx → α)
    (c d : (⟨2, ![n, 1024]⟩ : Shape).Idx → α) : (⟨2, ![n, 3328]⟩ : Shape).Idx → α := fun y =>
  if h0 : (y 1).val < 512 then a (ix2 (y 0) ⟨(y 1).val, h0⟩)
  else if h1 : (y 1).val < 1280 then b (ix2 (y 0) ⟨(y 1).val - 512, by omega⟩)
  else if h2 : (y 1).val < 2304 then c (ix2 (y 0) ⟨(y 1).val - 1280, by omega⟩)
  else d (ix2 (y 0) ⟨(y 1).val - 2304, by have : (y 1).val < 3328 := (y 1).isLt; omega⟩)

section
variable {n : ℕ} {α : Type} (a : (⟨2, ![n, 512]⟩ : Shape).Idx → α) (b : (⟨2, ![n, 768]⟩ : Shape).Idx → α)
    (c d : (⟨2, ![n, 1024]⟩ : Shape).Idx → α) (y : (⟨2, ![n, 3328]⟩ : Shape).Idx)

/-- The first strip. -/
theorem side_0 (z : (⟨2, ![n, 512]⟩ : Shape).Idx) (h0 : (y 0).val = (z 0).val) (h1 : (y 1).val = (z 1).val) : side a b c d y = a z := by
  have hz : (z 1).val < 512 := (z 1).isLt
  unfold side
  rw [dif_pos (by omega)]
  exact congrArg a (funext fun ax => Fin.ext (match ax with | ⟨0, _⟩ => h0 | ⟨1, _⟩ => h1))
/-- The second strip. -/
theorem side_1 (z : (⟨2, ![n, 768]⟩ : Shape).Idx) (h0 : (y 0).val = (z 0).val) (h1 : (y 1).val = 512 + (z 1).val) : side a b c d y = b z := by
  have hz : (z 1).val < 768 := (z 1).isLt
  unfold side
  rw [dif_neg (by omega), dif_pos (by omega)]
  exact congrArg b (funext fun ax => Fin.ext (match ax with | ⟨0, _⟩ => h0 | ⟨1, _⟩ => (show (y 1).val - 512 = (z 1).val by omega)))
/-- The third strip. -/
theorem side_2 (z : (⟨2, ![n, 1024]⟩ : Shape).Idx) (h0 : (y 0).val = (z 0).val) (h1 : (y 1).val = 1280 + (z 1).val) : side a b c d y = c z := by
  have hz : (z 1).val < 1024 := (z 1).isLt
  unfold side
  rw [dif_neg (by omega), dif_neg (by omega), dif_pos (by omega)]
  exact congrArg c (funext fun ax => Fin.ext (match ax with | ⟨0, _⟩ => h0 | ⟨1, _⟩ => (show (y 1).val - 1280 = (z 1).val by omega)))
/-- The fourth strip. -/
theorem side_3 (z : (⟨2, ![n, 1024]⟩ : Shape).Idx) (h0 : (y 0).val = (z 0).val) (h1 : (y 1).val = 2304 + (z 1).val) : side a b c d y = d z := by
  have hz : (z 1).val < 1024 := (z 1).isLt
  unfold side
  rw [dif_neg (by omega), dif_neg (by omega), dif_neg (by omega)]
  exact congrArg d (funext fun ax => Fin.ext (match ax with | ⟨0, _⟩ => h0 | ⟨1, _⟩ => (show (y 1).val - 2304 = (z 1).val by omega)))

/-- Every column is a column of one of the four strips. -/
theorem side_cases {P : α → Prop} (ha : ∀ z, (y 0).val = (z 0).val → (y 1).val = (z 1).val → P (a z))
    (hb : ∀ z, (y 0).val = (z 0).val → (y 1).val = 512 + (z 1).val → P (b z))
    (hc : ∀ z, (y 0).val = (z 0).val → (y 1).val = 1280 + (z 1).val → P (c z))
    (hd : ∀ z, (y 0).val = (z 0).val → (y 1).val = 2304 + (z 1).val → P (d z)) : P (side a b c d y) := by
  have hy : (y 1).val < 3328 := (y 1).isLt
  unfold side
  split
  · exact ha _ rfl rfl
  split
  · exact hb _ rfl (show (y 1).val = 512 + ((y 1).val - 512) by omega)
  split
  · exact hc _ rfl (show (y 1).val = 1280 + ((y 1).val - 1280) by omega)
  · exact hd _ rfl (show (y 1).val = 2304 + ((y 1).val - 2304) by omega)
end

end Cert.InProj

end
-- ==== Proof.InBody.lean ====
/-
  What one block of 512 rows of the backward input projection computes, as plain functions of its eight input blocks, and
  the proof that each output block after a grid point is one of them. Everything is over any float values `F`, in the
  program's own pure operations.
-/
module

public import proofs.«01_k».proof.Proof.InSpec
public import proofs.«01_k».proof.Proof.Gen.Kernel21Ideal.Value
public import Idealize.ShloMosaic.Lib.Pipeline.ValueKit
public import Idealize.ShloMosaic.Lib.ValueIdx

@[expose] public section

set_option maxRecDepth 16384

noncomputable section

namespace Cert.Kernel21Ideal.Hand

open Idealize.ShloMosaic hiding ix1 ix2 ix3 ix4
open Idealize.ShloMosaic.TcCoe Idealize.ShloMosaic.ValueIdx
open Cert.Kernel21Ideal Cert.Kernel21Ideal.Gen
open Cert.InProj (side side_0 side_1 side_2 side_3 side_cases)

variable {F : FTy → Type} [FloatOps F]

/-- Four strips stored one after the other into a block are the four side by side. -/
theorem side_canon (a : Vec F S512x512 .bf16) (b : Vec F S512x768 .bf16) (c d : Vec F S512x1024 .bf16) :
    View.canon (Val := Elt F)
        [⟨Rect.unit ![0, 2304] ![512, 1024] inb_S512x3328_S512x1024_0_2304, d⟩, ⟨Rect.unit ![0, 1280] ![512, 1024] inb_S512x3328_S512x1024_0_1280, c⟩,
          ⟨Rect.unit ![0, 512] ![512, 768] inb_S512x3328_S512x768_0_512, b⟩, ⟨Rect.unit ![0, 0] ![512, 512] inb_S512x3328_S512x512_0_0, a⟩]
      = (side a b c d : Vec F S512x3328 .bf16) := by
  funext y
  canon_tiles x h using View.cover_of_tiledBy _ ![512, 256] (by sl_kernel_rfl) _
  · exact (side_3 a b c d y x h0 h1).symm
  · exact (side_2 a b c d y x h0 h1).symm
  · exact (side_1 a b c d y x h0 h1).symm
  · exact (side_0 a b c d y x h0 (by omega)).symm

/-- Read back whole, they are the four side by side as well. -/
theorem side_read {sg : RefSig} {κ : Kind} {sp : Space} (v : View sg κ sp S512x3328 .bf16) (a : Vec F S512x512 .bf16) (b : Vec F S512x768 .bf16) (c d : Vec F S512x1024 .bf16) :
    v.readCov (Val := Elt F)
        [⟨Rect.unit ![0, 2304] ![512, 1024] inb_S512x3328_S512x1024_0_2304, k0_pay7 d⟩, ⟨Rect.unit ![0, 1280] ![512, 1024] inb_S512x3328_S512x1024_0_1280, k0_pay6 c⟩,
          ⟨Rect.unit ![0, 512] ![512, 768] inb_S512x3328_S512x768_0_512, k0_pay5 b⟩, ⟨Rect.unit ![0, 0] ![512, 512] inb_S512x3328_S512x512_0_0, k0_pay4 a⟩]
        (Rect.unit ![0, 0] ![512, 3328] inb_S512x3328_S512x3328_0_0).toLoadRect
      = (side a b c d : Vec F S512x3328 .bf16) := by
  unfold k0_pay4 k0_pay5 k0_pay6 k0_pay7
  simp only [shapeCast_self]
  rw [View.readCov_eq_canon', side_canon]
  funext j
  refine congrArg (side a b c d : Vec F S512x3328 .bf16) (funext fun ax => Fin.ext ?_)
  match ax with
  | ⟨0, _⟩ => show 0 + 1 * (j 0).val = (j 0).val; omega
  | ⟨1, _⟩ => show 0 + 1 * (j 1).val = (j 1).val; omega

variable (m : (ℓ : Loc nD τ sig) → Buf (Elt F) ℓ)

/-- The rows of a grid point. -/
abbrev bX (c : Dev nD) (t : Fin cfg0.N) : Vec F S512x1024 .f32 := iblk m c 0 t
/-- The gains. -/
abbrev bG (c : Dev nD) (t : Fin cfg0.N) : Vec F S1x1024 .f32 := iblk m c 1 t
/-- The weights. -/
abbrev bW (c : Dev nD) (t : Fin cfg0.N) : Vec F S1024x3328 .bf16 := iblk m c 2 t
/-- The first strip of the gradient of the product. -/
abbrev bA (c : Dev nD) (t : Fin cfg0.N) : Vec F S512x512 .bf16 := iblk m c 3 t
/-- The second strip. -/
abbrev bB (c : Dev nD) (t : Fin cfg0.N) : Vec F S512x768 .bf16 := iblk m c 4 t
/-- The third strip. -/
abbrev bC (c : Dev nD) (t : Fin cfg0.N) : Vec F S512x1024 .bf16 := iblk m c 5 t
/-- The fourth strip. -/
abbrev bD (c : Dev nD) (t : Fin cfg0.N) : Vec F S512x1024 .bf16 := iblk m c 6 t
/-- The gradient that came past the layer. -/
abbrev bE (c : Dev nD) (t : Fin cfg0.N) : Vec F S512x1024 .f32 := iblk m c 7 t
/-- The four strips side by side. -/
abbrev bP (c : Dev nD) (t : Fin cfg0.N) : Vec F S512x3328 .bf16 := side (bA m c t) (bB m c t) (bC m c t) (bD m c t)

/-- The gradient of the rows, after a grid point. -/
theorem out8 (c : Dev nD) (t : Fin cfg0.N) :
    (outsAt0 m c t.val t.isLt).1 = k0_pay11 (bX m c t) (k0_pay2 (bG m c t)) (bP m c t) (bW m c t) (bE m c t) := by
  have hN : t.val < 8 := lt_of_lt_of_eq t.isLt N_0
  by_cases h : t.val = 0
  · rw [outsAt0_A m c t (by omega) (by omega)]; frame_out; rw [side_read]
  · rw [outsAt0_B m c t (by omega) (by omega)]; frame_out; rw [side_read]

/-- The normalised rows, after a grid point. -/
theorem out9 (c : Dev nD) (t : Fin cfg0.N) : (outsAt0 m c t.val t.isLt).2.1 = k0_pay3 (bX m c t) (bG m c t) := by
  have hN : t.val < 8 := lt_of_lt_of_eq t.isLt N_0
  by_cases h : t.val = 0
  · rw [outsAt0_A m c t (by omega) (by omega)]; frame_out
  · rw [outsAt0_B m c t (by omega) (by omega)]; frame_out

/-- The four strips, after a grid point. -/
theorem out10 (c : Dev nD) (t : Fin cfg0.N) : (outsAt0 m c t.val t.isLt).2.2.1 = bP m c t := by
  have hN : t.val < 8 := lt_of_lt_of_eq t.isLt N_0
  refine Eq.trans ?_ (side_canon _ _ _ _)
  by_cases h : t.val = 0
  · rw [outsAt0_A m c t (by omega) (by omega)]; frame_out; unfold k0_pay4 k0_pay5 k0_pay6 k0_pay7; simp only [shapeCast_self]
  · rw [outsAt0_B m c t (by omega) (by omega)]; frame_out; unfold k0_pay4 k0_pay5 k0_pay6 k0_pay7; simp only [shapeCast_self]

/-- The gradient of the gains after the first grid point. -/
theorem out11_first (c : Dev nD) (t : Fin cfg0.N) (h : t.val = 0) :
    (outsAt0 m c t.val t.isLt).2.2.2 = k0_pay12 (bX m c t) (bP m c t) (bW m c t) := by
  rw [outsAt0_A m c t (by omega) (by omega)]; frame_out; rw [side_read]

/-- The gradient of the gains after a later grid point: the block's share added to what was there. -/
theorem out11_next (c : Dev nD) (t : Fin cfg0.N) (h : t.val ≠ 0) :
    (outsAt0 m c t.val t.isLt).2.2.2
      = addf (outsAt0 m c (t.val - 1) (Nat.lt_of_le_of_lt (Nat.sub_le _ _) t.isLt)).2.2.2 (k0_pay12 (bX m c t) (bP m c t) (bW m c t)) := by
  have hN : t.val < 8 := lt_of_lt_of_eq t.isLt N_0
  rw [outsAt0_B m c t (by omega) (by omega)]; frame_out
  unfold k0_pay1
  rw [shapeCast_self, side_read]

end Cert.Kernel21Ideal.Hand

end
-- ==== Proof.InReal.lean ====
/-
  One block of the backward input projection at real inputs: every value is the real number that the formulas of the row give.
-/
module

public import proofs.«01_k».proof.Proof.InBody
public import proofs.«01_k».proof.Proof.MlpReal

@[expose] public section

set_option maxRecDepth 16384

noncomputable section

namespace Cert.Kernel21Ideal.Hand

open Idealize.ShloMosaic hiding ix1 ix2 ix3 ix4
open Idealize.ShloMosaic.TcCoe Idealize.ShloMosaic.ValueIdx
open Cert.Kernel21Ideal Cert.Kernel21Ideal.Gen
open Cert.KernelIdeal.Hand (coe_sum coe_dot rowSum_apply colSum_apply broadcastTo_a1_ab_apply)
open Cert.Kernel2Ideal.Hand (row_apply)
open Cert.Mlp (rr vv hn eps ofBits_inv1024 ofBits_eps rsqrt_vv)
open Cert.InProj
open scoped BigOperators

/-- The inputs of a block are real numbers. -/
structure RealIn (x e : Vec Ideal S512x1024 .f32) (g : Vec Ideal S1x1024 .f32) (w : Vec Ideal S1024x3328 .bf16) (p : Vec Ideal S512x3328 .bf16)
    (X E : Fin 512 → Fin 1024 → ℝ) (G : Fin 1024 → ℝ) (W : Fin 1024 → Fin 3328 → ℝ) (P : Fin 512 → Fin 3328 → ℝ) : Prop where
  x : ∀ r j, (x (ix2 r j) : EReal) = (X r j : ℝ)
  e : ∀ r j, (e (ix2 r j) : EReal) = (E r j : ℝ)
  g : ∀ j, (g (ix2 0 j) : EReal) = (G j : ℝ)
  w : ∀ j k, (w (ix2 j k) : EReal) = (W j k : ℝ)
  p : ∀ r k, (p (ix2 r k) : EReal) = (P r k : ℝ)

variable {x e : Vec Ideal S512x1024 .f32} {g : Vec Ideal S1x1024 .f32} {w : Vec Ideal S1024x3328 .bf16} {p : Vec Ideal S512x3328 .bf16}
    {X E : Fin 512 → Fin 1024 → ℝ} {G : Fin 1024 → ℝ} {W : Fin 1024 → Fin 3328 → ℝ} {P : Fin 512 → Fin 3328 → ℝ}
    (H : RealIn x e g w p X E G W P)
include H

/-- The reciprocal root of the mean square. -/
theorem pay9_real (r : Fin 512) (q : Fin 1) : (k0_pay9 x (ix2 r q) : EReal) = ((rr (X r) : ℝ) : EReal) := by
  have h1 : (shapeCast S512x1 (multiReduction .add [1] S512 (mulf x x : FVec Ideal S512x1024 .f32) 0x00000000#32 reduces_S512x1024_S512 (.inl rfl) rfl) shapeCasts_S512_S512x1 (ix2 r q) : EReal)
      = ((∑ j, X r j * X r j : ℝ) : EReal) := by
    refine (shapeCast_a_a1_apply _ _ r q).trans ?_
    exact (rowSum_apply (mulf x x : FVec Ideal S512x1024 .f32) _ _ _ r).trans (coe_dot _ (fun j _ => H.x r j) (fun j _ => H.x r j))
  refine (congrArg₂ (fun a b : EReal => Ideal.rsqrt (a * Ideal.ofBits .f32 0x3A800000#32 + b)) h1 ofBits_eps : _ = _).trans ?_
  rw [ofBits_inv1024, ← EReal.coe_mul, ← EReal.coe_add]
  exact rsqrt_vv (X r)

/-- The row times the reciprocal root. -/
theorem pay10_real (r : Fin 512) (j : Fin 1024) : (k0_pay10 x (ix2 r j) : EReal) = ((X r j * rr (X r) : ℝ) : EReal) := by
  refine (congrArg₂ (fun a b : EReal => a * b) (H.x r j) ((broadcastTo_a1_ab_apply (k0_pay9 x) _ r j).trans (pay9_real H r 0)) : _ = _).trans ?_
  rw [← EReal.coe_mul]

/-- The gains repeated down the rows. -/
theorem gain_real (r : Fin 512) (j : Fin 1024) : (broadcastTo S512x1024 (k0_pay2 g) broadcasts_S1x1024_S512x1024 (ix2 r j) : EReal) = ((G j : ℝ) : EReal) := by
  refine (row_apply (k0_pay2 g) _ r j).trans ?_
  unfold k0_pay2
  rw [shapeCast_self]; exact H.g j

/-- The normalised rows. -/
theorem xn_real (r : Fin 512) (j : Fin 1024) : (k0_pay3 x g (ix2 r j) : EReal) = ((hn G (X r) j : ℝ) : EReal) := by
  refine (congrArg₂ (fun a b : EReal => a * b) (pay10_real H r j) (gain_real H r j) : _ = _).trans ?_
  rw [← EReal.coe_mul]; rfl

/-- The gradient of the normalised rows. -/
theorem dn_real (r : Fin 512) (j : Fin 1024) : (k0_pay8 p w (ix2 r j) : EReal) = ((dn W (P r) j : ℝ) : EReal) := by
  unfold k0_pay8
  rw [shapeCast_self, shapeCast_self]
  refine (Ideal.matmul_transposedRhs_apply none p w _ r j).trans ?_
  have hz : (constant (F := Ideal) S512x1024 .f32 0x00000000#32 (ix2 r j) : EReal) = 0 := Ideal.ofBits_zero_f32
  rw [hz, zero_add]
  exact coe_dot _ (fun k _ => H.p r k) (fun k _ => H.w j k)

/-- That times the gains. -/
theorem dnG_real (r : Fin 512) (i : Fin 1024) : (mulf (k0_pay8 p w) (broadcastTo S512x1024 (k0_pay2 g) broadcasts_S1x1024_S512x1024) (ix2 r i) : EReal)
    = ((dn W (P r) i * G i : ℝ) : EReal) := by
  refine (congrArg₂ (fun a b : EReal => a * b) (dn_real H r i) (gain_real H r i) : _ = _).trans ?_
  rw [← EReal.coe_mul]

/-- The gradient of the rows. -/
theorem dx_real (r : Fin 512) (j : Fin 1024) : (k0_pay11 x (k0_pay2 g) p w e (ix2 r j) : EReal) = ((dx G W (X r) (E r) (P r) j : ℝ) : EReal) := by
  have hs : (shapeCast S512x1 (multiReduction .add [1] S512 (mulf (mulf (k0_pay8 p w) (broadcastTo S512x1024 (k0_pay2 g) broadcasts_S1x1024_S512x1024)) (k0_pay10 x))
        0x00000000#32 reduces_S512x1024_S512 (.inl rfl) rfl) shapeCasts_S512_S512x1 (ix2 r 0) : EReal)
      = ((∑ i, dn W (P r) i * G i * (X r i * rr (X r)) : ℝ) : EReal) :=
    (shapeCast_a_a1_apply (multiReduction .add [1] S512 (mulf (mulf (k0_pay8 p w) (broadcastTo S512x1024 (k0_pay2 g) broadcasts_S1x1024_S512x1024)) (k0_pay10 x)) 0x00000000#32 reduces_S512x1024_S512 (.inl rfl) rfl) _ r 0).trans
      ((rowSum_apply _ _ _ _ r).trans (coe_dot _ (fun i _ => dnG_real H r i) (fun i _ => pay10_real H r i)))
  have hm := (congrArg₂ (fun a b : EReal => a * b) hs ofBits_inv1024 : _ = _)
  have hb := (congrArg₂ (fun a b : EReal => a * b) (pay10_real H r j) ((broadcastTo_a1_ab_apply (mulf (shapeCast S512x1 (multiReduction .add [1] S512 (mulf (mulf (k0_pay8 p w) (broadcastTo S512x1024 (k0_pay2 g) broadcasts_S1x1024_S512x1024)) (k0_pay10 x)) 0x00000000#32 reduces_S512x1024_S512 (.inl rfl) rfl) shapeCasts_S512_S512x1) (broadcast S512x1 (Scalar.ofBits .f32 0x3A800000#32))) broadcasts_S512x1_S512x1024 r j).trans hm) : _ = _)
  have hd := (congrArg₂ (fun a b : EReal => a - b) (dnG_real H r j) hb : _ = _)
  have hp := (congrArg₂ (fun a b : EReal => a * b) ((broadcastTo_a1_ab_apply (k0_pay9 x) broadcasts_S512x1_S512x1024 r j).trans (pay9_real H r 0)) hd : _ = _)
  refine (congrArg₂ (fun a b : EReal => a + b) (H.e r j) hp : _ = _).trans ?_
  simp only [← EReal.coe_mul, ← EReal.coe_sub, ← EReal.coe_add]; rfl

/-- The block's share of the gradient of the gains. -/
theorem dg_real (q : Fin 1) (j : Fin 1024) : (k0_pay12 x p w (ix2 q j) : EReal) = ((∑ r, dg W (X r) (P r) j : ℝ) : EReal) :=
  (shapeCast_a_1a_apply (multiReduction .add [0] S1024 (mulf (k0_pay8 p w) (k0_pay10 x)) 0x00000000#32 reduces_S512x1024_S1024 (.inl rfl) rfl) shapeCasts_S1024_S1x1024 q j).trans
    ((colSum_apply (mulf (k0_pay8 p w) (k0_pay10 x)) reduces_S512x1024_S1024 (.inl rfl) rfl j).trans (coe_dot _ (fun r _ => dn_real H r j) (fun r _ => pay10_real H r j)))

end Cert.Kernel21Ideal.Hand

end
-- ==== Proof.InArr.lean ====
/-
  The arrays the backward input projection leaves, as real numbers: the blocks a grid point reads off the arrays, and every
  element of the four result arrays when the arguments hold real numbers.
-/
module

public import proofs.«01_k».proof.Proof.InReal
public import Idealize.ShloMosaic.Lib.Pipeline.ValueKit.Geometry

@[expose] public section

set_option maxRecDepth 16384

noncomputable section

namespace Cert.Kernel21Ideal.Hand

open Idealize.ShloMosaic hiding ix1 ix2 ix3 ix4
open Idealize.ShloMosaic.TcCoe Idealize.ShloMosaic.ValueIdx Idealize.ShloMosaic.Tactic
open Idealize.ShloMosaic.Pipeline (Dat Cfg Window)
open Cert.Kernel21Ideal Cert.Kernel21Ideal.Gen
open Cert.Mlp (hn)
open Cert.InProj
open scoped BigOperators

variable (m : (ℓ : Loc nD τ sig) → Buf (Elt Ideal) ℓ) (c : Dev nD)

/-- The block index of the rows at a point. -/
theorem index21_0 : ∀ t : Fin cfg0.N, win0_0.index t = ![t.val, 0] :=
  (by decide +kernel : ∀ t : Fin grid0.N, win0_0.index t = ![t.val, 0])
/-- The block index of the gains at a point. -/
theorem index21_1 : ∀ t : Fin cfg0.N, win0_1.index t = ![0, 0] :=
  (by decide +kernel : ∀ t : Fin grid0.N, win0_1.index t = ![0, 0])
/-- The block index of the weights at a point. -/
theorem index21_2 : ∀ t : Fin cfg0.N, win0_2.index t = ![0, 0] :=
  (by decide +kernel : ∀ t : Fin grid0.N, win0_2.index t = ![0, 0])
/-- The block index of the first strip at a point. -/
theorem index21_3 : ∀ t : Fin cfg0.N, win0_3.index t = ![t.val, 0] :=
  (by decide +kernel : ∀ t : Fin grid0.N, win0_3.index t = ![t.val, 0])
/-- The block index of the second strip at a point. -/
theorem index21_4 : ∀ t : Fin cfg0.N, win0_4.index t = ![t.val, 0] :=
  (by decide +kernel : ∀ t : Fin grid0.N, win0_4.index t = ![t.val, 0])
/-- The block index of the third strip at a point. -/
theorem index21_5 : ∀ t : Fin cfg0.N, win0_5.index t = ![t.val, 0] :=
  (by decide +kernel : ∀ t : Fin grid0.N, win0_5.index t = ![t.val, 0])
/-- The block index of the fourth strip at a point. -/
theorem index21_6 : ∀ t : Fin cfg0.N, win0_6.index t = ![t.val, 0] :=
  (by decide +kernel : ∀ t : Fin grid0.N, win0_6.index t = ![t.val, 0])
/-- The block index of the gradient past the layer at a point. -/
theorem index21_7 : ∀ t : Fin cfg0.N, win0_7.index t = ![t.val, 0] :=
  (by decide +kernel : ∀ t : Fin grid0.N, win0_7.index t = ![t.val, 0])
/-- The block index of the row gradient at a point. -/
theorem index21_8 : ∀ t : Fin cfg0.N, win0_8.index t = ![t.val, 0] :=
  (by decide +kernel : ∀ t : Fin grid0.N, win0_8.index t = ![t.val, 0])
/-- The block index of the normalised rows at a point. -/
theorem index21_9 : ∀ t : Fin cfg0.N, win0_9.index t = ![t.val, 0] :=
  (by decide +kernel : ∀ t : Fin grid0.N, win0_9.index t = ![t.val, 0])
/-- The block index of the joined strips at a point. -/
theorem index21_10 : ∀ t : Fin cfg0.N, win0_10.index t = ![t.val, 0] :=
  (by decide +kernel : ∀ t : Fin grid0.N, win0_10.index t = ![t.val, 0])

/-- A grid point's number is below 8. -/
theorem t_lt (t : Fin cfg0.N) : t.val < 8 := lt_of_lt_of_eq t.isLt N_0

/-- The rows of a grid point, read off the first argument. -/
theorem bX_apply (t : Fin cfg0.N) (r : Fin 512) (j : Fin 1024) :
    bX m c t (ix2 r j) = m ((c : Thread nD τ).loc main_arg0) (ix2 ⟨512 * t.val + r.val, by have := t_lt t; omega⟩ j) := by
  have e : bX m c t (ix2 r j) = V m c main_arg0 (ix2 ⟨512 * t.val + r.val, by have := t_lt t; omega⟩ j) := by
    show iblk m c 0 t (ix2 r j) = _
    unfold iblk
    refine congrArg (V m c main_arg0) (?_ : ((cfg0.win 0).blk t).view.emb (ix2 r j) = _)
    blk_ext [index21_0]
    show t.val * 512 + r.val = 512 * t.val + r.val
    omega
  rw [e, V_main_arg0]

/-- The rows of the gradient past the layer of a grid point, read off the eighth argument. -/
theorem bE_apply (t : Fin cfg0.N) (r : Fin 512) (j : Fin 1024) :
    bE m c t (ix2 r j) = m ((c : Thread nD τ).loc main_arg7) (ix2 ⟨512 * t.val + r.val, by have := t_lt t; omega⟩ j) := by
  have e : bE m c t (ix2 r j) = V m c main_arg7 (ix2 ⟨512 * t.val + r.val, by have := t_lt t; omega⟩ j) := by
    show iblk m c 7 t (ix2 r j) = _
    unfold iblk
    refine congrArg (V m c main_arg7) (?_ : ((cfg0.win 7).blk t).view.emb (ix2 r j) = _)
    blk_ext [index21_7]
    show t.val * 512 + r.val = 512 * t.val + r.val
    omega
  rw [e, V_main_arg7]

/-- The gains as the call is entered with them. -/
theorem V_gain (j : Fin 1024) : (V m c main_v0 (ix2 0 j) : EReal) = m ((c : Thread nD τ).loc main_arg1) (ix1 j) := by
  have e : V m c main_v0 = shapeCast S1x1024 (m ((c : Thread nD τ).loc main_arg1)) shapeCasts_S1024_S1x1024 := by
    show StableHlo.after hostOps0 (fun b => m (c, b)) (Proc.devRef .tc main_v0) = _
    after_results_simp <;> rfl
  rw [e]
  exact shapeCast_a_1a_apply _ _ 0 j

/-- The gains of a grid point. -/
theorem bG_apply (t : Fin cfg0.N) (j : Fin 1024) : (bG m c t (ix2 0 j) : EReal) = m ((c : Thread nD τ).loc main_arg1) (ix1 j) := by
  have e : bG m c t (ix2 0 j) = V m c main_v0 (ix2 0 j) := by
    show iblk m c 1 t (ix2 0 j) = _
    unfold iblk
    refine congrArg (V m c main_v0) (?_ : ((cfg0.win 1).blk t).view.emb (ix2 0 j) = _)
    blk_ext [index21_1]
  rw [e, V_gain]

/-- The weights of a grid point, read off the third argument. -/
theorem bW_apply (t : Fin cfg0.N) (j : Fin 1024) (k : Fin 3328) :
    (bW m c t (ix2 j k) : EReal) = m ((c : Thread nD τ).loc main_arg2) (ix2 j k) := by
  have e : bW m c t (ix2 j k) = V m c main_v1 (ix2 j k) := by
    show iblk m c 2 t (ix2 j k) = _
    unfold iblk
    refine congrArg (V m c main_v1) (?_ : ((cfg0.win 2).blk t).view.emb (ix2 j k) = _)
    blk_ext [index21_2]
  have h : (V m c main_v1 : S1024x3328.Idx → EReal) = m ((c : Thread nD τ).loc main_arg2) := by
    show StableHlo.after hostOps0 (fun b => m (c, b)) (Proc.devRef .tc main_v1) = _
    after_results_simp <;> rfl
  exact e.trans (congrFun h _)

/-- The first strip of a grid point, read off the fourth argument. -/
theorem bA_apply (t : Fin cfg0.N) (r : Fin 512) (k : Fin 512) :
    (bA m c t (ix2 r k) : EReal) = m ((c : Thread nD τ).loc main_arg3) (ix2 ⟨512 * t.val + r.val, by have := t_lt t; omega⟩ k) := by
  have e : bA m c t (ix2 r k) = V m c main_v2 (ix2 ⟨512 * t.val + r.val, by have := t_lt t; omega⟩ k) := by
    show iblk m c 3 t (ix2 r k) = _
    unfold iblk
    refine congrArg (V m c main_v2) (?_ : ((cfg0.win 3).blk t).view.emb (ix2 r k) = _)
    blk_ext [index21_3]
    show t.val * 512 + r.val = 512 * t.val + r.val
    omega
  have h : (V m c main_v2 : S4096x512.Idx → EReal) = m ((c : Thread nD τ).loc main_arg3) := by
    show StableHlo.after hostOps0 (fun b => m (c, b)) (Proc.devRef .tc main_v2) = _
    after_results_simp <;> rfl
  exact e.trans (congrFun h _)

/-- The second strip of a grid point, read off the fifth argument. -/
theorem bB_apply (t : Fin cfg0.N) (r : Fin 512) (k : Fin 768) :
    (bB m c t (ix2 r k) : EReal) = m ((c : Thread nD τ).loc main_arg4) (ix2 ⟨512 * t.val + r.val, by have := t_lt t; omega⟩ k) := by
  have e : bB m c t (ix2 r k) = V m c main_v3 (ix2 ⟨512 * t.val + r.val, by have := t_lt t; omega⟩ k) := by
    show iblk m c 4 t (ix2 r k) = _
    unfold iblk
    refine congrArg (V m c main_v3) (?_ : ((cfg0.win 4).blk t).view.emb (ix2 r k) = _)
    blk_ext [index21_4]
    show t.val * 512 + r.val = 512 * t.val + r.val
    omega
  have h : (V m c main_v3 : S4096x768.Idx → EReal) = m ((c : Thread nD τ).loc main_arg4) := by
    show StableHlo.after hostOps0 (fun b => m (c, b)) (Proc.devRef .tc main_v3) = _
    after_results_simp <;> rfl
  exact e.trans (congrFun h _)

/-- The third strip of a grid point, read off the sixth argument. -/
theorem bC_apply (t : Fin cfg0.N) (r : Fin 512) (k : Fin 1024) :
    (bC m c t (ix2 r k) : EReal) = m ((c : Thread nD τ).loc main_arg5) (ix2 ⟨512 * t.val + r.val, by have := t_lt t; omega⟩ k) := by
  have e : bC m c t (ix2 r k) = V m c main_v4 (ix2 ⟨512 * t.val + r.val, by have := t_lt t; omega⟩ k) := by
    show iblk m c 5 t (ix2 r k) = _
    unfold iblk
    refine congrArg (V m c main_v4) (?_ : ((cfg0.win 5).blk t).view.emb (ix2 r k) = _)
    blk_ext [index21_5]
    show t.val * 512 + r.val = 512 * t.val + r.val
    omega
  have h : (V m c main_v4 : S4096x1024.Idx → EReal) = m ((c : Thread nD τ).loc main_arg5) := by
    show StableHlo.after hostOps0 (fun b => m (c, b)) (Proc.devRef .tc main_v4) = _
    after_results_simp <;> rfl
  exact e.trans (congrFun h _)

/-- The fourth strip of a grid point, read off the seventh argument. -/
theorem bD_apply (t : Fin cfg0.N) (r : Fin 512) (k : Fin 1024) :
    (bD m c t (ix2 r k) : EReal) = m ((c : Thread nD τ).loc main_arg6) (ix2 ⟨512 * t.val + r.val, by have := t_lt t; omega⟩ k) := by
  have e : bD m c t (ix2 r k) = V m c main_v5 (ix2 ⟨512 * t.val + r.val, by have := t_lt t; omega⟩ k) := by
    show iblk m c 6 t (ix2 r k) = _
    unfold iblk
    refine congrArg (V m c main_v5) (?_ : ((cfg0.win 6).blk t).view.emb (ix2 r k) = _)
    blk_ext [index21_6]
    show t.val * 512 + r.val = 512 * t.val + r.val
    omega
  have h : (V m c main_v5 : S4096x1024.Idx → EReal) = m ((c : Thread nD τ).loc main_arg6) := by
    show StableHlo.after hostOps0 (fun b => m (c, b)) (Proc.devRef .tc main_v5) = _
    after_results_simp <;> rfl
  exact e.trans (congrFun h _)

/-- The four strips of the whole array side by side. -/
def args : S4096x3328.Idx → EReal :=
  side (α := EReal) (m ((c : Thread nD τ).loc main_arg3)) (m ((c : Thread nD τ).loc main_arg4)) (m ((c : Thread nD τ).loc main_arg5)) (m ((c : Thread nD τ).loc main_arg6))

/-- The four strips of a grid point side by side are rows of the four strips of the whole array side by side. -/
theorem bP_apply (t : Fin cfg0.N) (r : Fin 512) (k : Fin 3328) :
    (bP m c t (ix2 r k) : EReal) = args m c (ix2 ⟨512 * t.val + r.val, by have := t_lt t; omega⟩ k) := by
  have ht := t_lt t
  refine side_cases (P := fun v : EReal => v = args m c (ix2 ⟨512 * t.val + r.val, by omega⟩ k)) (α := EReal) (bA m c t) (bB m c t) (bC m c t) (bD m c t) (ix2 r k) ?_ ?_ ?_ ?_
  · intro z h0 h1
    obtain ⟨a, b, rfl⟩ : ∃ (a : Fin 512) (b : Fin 512), z = ix2 a b := ⟨z 0, z 1, ValueIdx.eq_ix2 z⟩
    obtain rfl : r = a := Fin.ext h0
    refine (bA_apply m c t r b).trans (Eq.symm ?_)
    exact side_0 (α := EReal) _ _ _ _ (ix2 ⟨512 * t.val + r.val, by omega⟩ k) (ix2 ⟨512 * t.val + r.val, by omega⟩ b) rfl h1
  · intro z h0 h1
    obtain ⟨a, b, rfl⟩ : ∃ (a : Fin 512) (b : Fin 768), z = ix2 a b := ⟨z 0, z 1, ValueIdx.eq_ix2 z⟩
    obtain rfl : r = a := Fin.ext h0
    refine (bB_apply m c t r b).trans (Eq.symm ?_)
    exact side_1 (α := EReal) _ _ _ _ (ix2 ⟨512 * t.val + r.val, by omega⟩ k) (ix2 ⟨512 * t.val + r.val, by omega⟩ b) rfl h1
  · intro z h0 h1
    obtain ⟨a, b, rfl⟩ : ∃ (a : Fin 512) (b : Fin 1024), z = ix2 a b := ⟨z 0, z 1, ValueIdx.eq_ix2 z⟩
    obtain rfl : r = a := Fin.ext h0
    refine (bC_apply m c t r b).trans (Eq.symm ?_)
    exact side_2 (α := EReal) _ _ _ _ (ix2 ⟨512 * t.val + r.val, by omega⟩ k) (ix2 ⟨512 * t.val + r.val, by omega⟩ b) rfl h1
  · intro z h0 h1
    obtain ⟨a, b, rfl⟩ : ∃ (a : Fin 512) (b : Fin 1024), z = ix2 a b := ⟨z 0, z 1, ValueIdx.eq_ix2 z⟩
    obtain rfl : r = a := Fin.ext h0
    refine (bD_apply m c t r b).trans (Eq.symm ?_)
    exact side_3 (α := EReal) _ _ _ _ (ix2 ⟨512 * t.val + r.val, by omega⟩ k) (ix2 ⟨512 * t.val + r.val, by omega⟩ b) rfl h1

/-- Blocks of 512 numbers, one after the other. -/
theorem sum_blocks (f : ℕ → ℝ) (n : ℕ) : ∑ i ∈ Finset.range n, ∑ r : Fin 512, f (512 * i + r.val) = ∑ i ∈ Finset.range (512 * n), f i := by
  induction n with
  | zero => rfl
  | succ n ih => rw [Finset.sum_range_succ, ih, Nat.mul_succ, Finset.sum_range_add, Finset.sum_range (fun x => f (512 * n + x))]

/-- The arguments hold real numbers: row `i` of the first, of the last, and of the four strips side by side is `X i`, `E i` and `P i`. -/
structure RealArgs (X E : ℕ → Fin 1024 → ℝ) (G : Fin 1024 → ℝ) (W : Fin 1024 → Fin 3328 → ℝ) (P : ℕ → Fin 3328 → ℝ) : Prop where
  x : ∀ (i : Fin 4096) j, @Eq EReal (m ((c : Thread nD τ).loc main_arg0) (ix2 i j)) ((X i.val j : ℝ))
  e : ∀ (i : Fin 4096) j, @Eq EReal (m ((c : Thread nD τ).loc main_arg7) (ix2 i j)) ((E i.val j : ℝ))
  g : ∀ j, @Eq EReal (m ((c : Thread nD τ).loc main_arg1) (ix1 j)) ((G j : ℝ))
  w : ∀ j k, @Eq EReal (m ((c : Thread nD τ).loc main_arg2) (ix2 j k)) ((W j k : ℝ))
  p : ∀ (i : Fin 4096) k, args m c (ix2 i k) = ((P i.val k : ℝ))

variable {X E : ℕ → Fin 1024 → ℝ} {G : Fin 1024 → ℝ} {W : Fin 1024 → Fin 3328 → ℝ} {P : ℕ → Fin 3328 → ℝ} (H : RealArgs m c X E G W P)
include H

/-- The blocks of a grid point then hold real numbers. -/
theorem realIn (t : Fin cfg0.N) : RealIn (bX m c t) (bE m c t) (bG m c t) (bW m c t) (bP m c t)
    (fun r => X (512 * t.val + r.val)) (fun r => E (512 * t.val + r.val)) G W (fun r => P (512 * t.val + r.val)) where
  x r j := (bX_apply m c t r j).trans (H.x _ j)
  e r j := (bE_apply m c t r j).trans (H.e _ j)
  g j := (bG_apply m c t j).trans (H.g j)
  w j k := (bW_apply m c t j k).trans (H.w j k)
  p r k := (bP_apply m c t r k).trans (H.p _ k)

/-- The gradient of the rows. -/
theorem arr8 : (dats m 0 c).arrAt 8 cfg0.N = fun i : S4096x1024.Idx => ((dx G W (X (i 0).val) (E (i 0).val) (P (i 0).val) (i 1) : ℝ) : EReal) := by
  refine (dats m 0 c).arrAt_eq_of_covers 8 _ (by decide +kernel) fun t hf y => ?_
  rw [after0_8, out8]
  obtain ⟨r, j, rfl⟩ : ∃ (r : Fin 512) (j : Fin 1024), y = ix2 r j := ⟨y 0, y 1, ValueIdx.eq_ix2 y⟩
  refine (dx_real (realIn m c H t) r j).trans ?_
  have e0 : (((cfg0.win 8).blk t).view.emb (ix2 r j)) = ix2 ⟨512 * t.val + r.val, by have := t_lt t; omega⟩ j := by
    blk_ext [index21_8]
    show t.val * 512 + r.val = 512 * t.val + r.val
    omega
  refine Eq.trans ?_ (congrArg (fun i : S4096x1024.Idx => ((dx G W (X (i 0).val) (E (i 0).val) (P (i 0).val) (i 1) : ℝ) : EReal)) e0).symm
  rfl

/-- The normalised rows. -/
theorem arr9 : (dats m 0 c).arrAt 9 cfg0.N = fun i : S4096x1024.Idx => ((hn G (X (i 0).val) (i 1) : ℝ) : EReal) := by
  refine (dats m 0 c).arrAt_eq_of_covers 9 _ (by decide +kernel) fun t hf y => ?_
  rw [after0_9, out9]
  obtain ⟨r, j, rfl⟩ : ∃ (r : Fin 512) (j : Fin 1024), y = ix2 r j := ⟨y 0, y 1, ValueIdx.eq_ix2 y⟩
  refine (xn_real (realIn m c H t) r j).trans ?_
  have e0 : (((cfg0.win 9).blk t).view.emb (ix2 r j)) = ix2 ⟨512 * t.val + r.val, by have := t_lt t; omega⟩ j := by
    blk_ext [index21_9]
    show t.val * 512 + r.val = 512 * t.val + r.val
    omega
  refine Eq.trans ?_ (congrArg (fun i : S4096x1024.Idx => ((hn G (X (i 0).val) (i 1) : ℝ) : EReal)) e0).symm
  rfl

/-- The four strips side by side. -/
theorem arr10 : (dats m 0 c).arrAt 10 cfg0.N = fun i : S4096x3328.Idx => ((P (i 0).val (i 1) : ℝ) : EReal) := by
  refine (dats m 0 c).arrAt_eq_of_covers 10 _ (by decide +kernel) fun t hf y => ?_
  rw [after0_10, out10]
  obtain ⟨r, k, rfl⟩ : ∃ (r : Fin 512) (k : Fin 3328), y = ix2 r k := ⟨y 0, y 1, ValueIdx.eq_ix2 y⟩
  refine ((realIn m c H t).p r k).trans ?_
  have e0 : (((cfg0.win 10).blk t).view.emb (ix2 r k)) = ix2 ⟨512 * t.val + r.val, by have := t_lt t; omega⟩ k := by
    blk_ext [index21_10]
    show t.val * 512 + r.val = 512 * t.val + r.val
    omega
  refine Eq.trans ?_ (congrArg (fun i : S4096x3328.Idx => ((P (i 0).val (i 1) : ℝ) : EReal)) e0).symm
  rfl

/-- The gradient of the gains after a grid point: the shares of the blocks up to it. -/
theorem dg_upto (j : Fin 1024) : ∀ (n : ℕ) (hn : n < cfg0.N),
    @Eq EReal ((outsAt0 m c n hn).2.2.2 (ix2 0 j))
      ((∑ i ∈ Finset.range (n + 1), ∑ r : Fin 512, dg W (X (512 * i + r.val)) (P (512 * i + r.val)) j : ℝ))
  | 0, hn => (congrFun (out11_first m c ⟨0, hn⟩ rfl) (ix2 0 j)).trans ((dg_real (realIn m c H ⟨0, hn⟩) 0 j).trans (by rw [Finset.sum_range_one]))
  | n + 1, hn => by
    refine (congrFun (out11_next m c ⟨n + 1, hn⟩ (Nat.succ_ne_zero n)) (ix2 0 j)).trans ?_
    refine (congrArg₂ (fun a b : EReal => a + b) (dg_upto j n (Nat.lt_of_succ_lt hn)) (dg_real (realIn m c H ⟨n + 1, hn⟩) 0 j) : _ = _).trans ?_
    rw [← EReal.coe_add, ← Finset.sum_range_succ (fun i => ∑ r : Fin 512, dg W (X (512 * i + r.val)) (P (512 * i + r.val)) j)]

/-- The gradient of the gains. -/
theorem arr11 : (dats m 0 c).arrAt 11 cfg0.N
    = fun i : S1x1024.Idx => ((∑ n ∈ Finset.range 4096, dg W (X n) (P n) (i 1) : ℝ) : EReal) := by
  refine (dats m 0 c).arrAt_eq_of_after_last 11 t0_7 (by decide +kernel) _ fun y => ?_
  rw [after0_11]
  obtain ⟨q, j, rfl⟩ : ∃ (q : Fin 1) (j : Fin 1024), y = ix2 q j := ⟨y 0, y 1, ValueIdx.eq_ix2 y⟩
  obtain rfl : q = 0 := Subsingleton.elim _ _
  refine (dg_upto m c H j 7 _).trans ?_
  rw [sum_blocks (fun n => dg W (X n) (P n) j) 8]
  rfl

end Cert.Kernel21Ideal.Hand

end
-- ==== Proof.InRef.lean ====
/-
  The plain reference of the backward input projection at real arguments: every array of it is the real number that the
  formulas of the row give.
-/
module

public import proofs.«01_k».proof.Proof.Gen.Reference21Ideal.Read
public import proofs.«01_k».proof.Proof.InSpec
public import proofs.«01_k».proof.Proof.MlpRef
public import Idealize.ShloMosaic.Lib.IdealHost
public import Idealize.ShloMosaic.Lib.KernelVsHost

@[expose] public section

set_option maxRecDepth 16384

noncomputable section

namespace Cert.Reference21Ideal.Hand

open Cert.Reference21Ideal Cert.Reference21Ideal.Gen Cert.Reference21Ideal.Read
open Idealize.ShloMosaic Idealize.ShloMosaic.TcCoe
open Cert.KernelIdeal.Hand (coe_sum coe_dot)
open Cert.Reference2Ideal.Hand (zero_sum)
open Cert.Mlp (rr vv hn eps vv_pos rr_sq rsqrt_vv ofBits_1024 ofBits_eps ofBits_neg_half)
open Cert.InProj
open scoped BigOperators

/-- The joined gradient of the product is the four strips side by side. -/
theorem r17 (x3 : (⟨S4096x512, .f32⟩ : BufTy).Contents (Elt Ideal)) (x4 : (⟨S4096x768, .f32⟩ : BufTy).Contents (Elt Ideal))
    (x5 x6 : (⟨S4096x1024, .f32⟩ : BufTy).Contents (Elt Ideal)) (i : S4096x3328.Idx) :
    val_main_v17 (F := Ideal) x3 x4 x5 x6 i = side (α := EReal) x3 x4 x5 x6 i := by
  unfold val_main_v17
  refine side_cases (P := fun v : EReal => concatenate S4096x3328 1 [⟨S4096x512, x3⟩, ⟨S4096x768, x4⟩, ⟨S4096x1024, x5⟩, ⟨S4096x1024, x6⟩] concatenates_S4096x512_S4096x768_S4096x1024_S4096x1024_S4096x3328_d1 i = v) (α := EReal) x3 x4 x5 x6 i ?_ ?_ ?_ ?_
  · intro z h0 h1
    refine concatenate_apply_piece (α := EReal) 1 [⟨S4096x512, x3⟩, ⟨S4096x768, x4⟩, ⟨S4096x1024, x5⟩, ⟨S4096x1024, x6⟩] concatenates_S4096x512_S4096x768_S4096x1024_S4096x1024_S4096x3328_d1 i 0 (show 0 < 4 by decide) S4096x512 x3 rfl rfl 0 rfl z (fun q hq => ?_) ((Nat.zero_add _).trans h1.symm)
    match q with
    | ⟨0, _⟩ => exact h0.symm
    | ⟨1, _⟩ => exact absurd rfl hq
  · intro z h0 h1
    refine concatenate_apply_piece (α := EReal) 1 [⟨S4096x512, x3⟩, ⟨S4096x768, x4⟩, ⟨S4096x1024, x5⟩, ⟨S4096x1024, x6⟩] concatenates_S4096x512_S4096x768_S4096x1024_S4096x1024_S4096x3328_d1 i 1 (show 1 < 4 by decide) S4096x768 x4 rfl rfl 512 rfl z (fun q hq => ?_) h1.symm
    match q with
    | ⟨0, _⟩ => exact h0.symm
    | ⟨1, _⟩ => exact absurd rfl hq
  · intro z h0 h1
    refine concatenate_apply_piece (α := EReal) 1 [⟨S4096x512, x3⟩, ⟨S4096x768, x4⟩, ⟨S4096x1024, x5⟩, ⟨S4096x1024, x6⟩] concatenates_S4096x512_S4096x768_S4096x1024_S4096x1024_S4096x3328_d1 i 2 (show 2 < 4 by decide) S4096x1024 x5 rfl rfl 1280 rfl z (fun q hq => ?_) h1.symm
    match q with
    | ⟨0, _⟩ => exact h0.symm
    | ⟨1, _⟩ => exact absurd rfl hq
  · intro z h0 h1
    refine concatenate_apply_piece (α := EReal) 1 [⟨S4096x512, x3⟩, ⟨S4096x768, x4⟩, ⟨S4096x1024, x5⟩, ⟨S4096x1024, x6⟩] concatenates_S4096x512_S4096x768_S4096x1024_S4096x1024_S4096x3328_d1 i 3 (show 3 < 4 by decide) S4096x1024 x6 rfl rfl 2304 rfl z (fun q hq => ?_) h1.symm
    match q with
    | ⟨0, _⟩ => exact h0.symm
    | ⟨1, _⟩ => exact absurd rfl hq

/-- The arguments are real numbers. -/
structure RealRef (x0 x7 : (⟨S4096x1024, .f32⟩ : BufTy).Contents (Elt Ideal)) (x1 : (⟨S1024, .f32⟩ : BufTy).Contents (Elt Ideal))
    (x2 : (⟨S1024x3328, .f32⟩ : BufTy).Contents (Elt Ideal)) (x3 : (⟨S4096x512, .f32⟩ : BufTy).Contents (Elt Ideal))
    (x4 : (⟨S4096x768, .f32⟩ : BufTy).Contents (Elt Ideal)) (x5 x6 : (⟨S4096x1024, .f32⟩ : BufTy).Contents (Elt Ideal))
    (X E : ℕ → Fin 1024 → ℝ) (G : Fin 1024 → ℝ) (W : Fin 1024 → Fin 3328 → ℝ) (P : ℕ → Fin 3328 → ℝ) : Prop where
  x : ∀ i : S4096x1024.Idx, @Eq EReal (x0 i) (X (i 0).val (i 1) : ℝ)
  e : ∀ i : S4096x1024.Idx, @Eq EReal (x7 i) (E (i 0).val (i 1) : ℝ)
  g : ∀ i : S1024.Idx, @Eq EReal (x1 i) (G (i 0) : ℝ)
  w : ∀ i : S1024x3328.Idx, @Eq EReal (x2 i) (W (i 0) (i 1) : ℝ)
  p : ∀ i : S4096x3328.Idx, side (α := EReal) x3 x4 x5 x6 i = (P (i 0).val (i 1) : ℝ)

variable {x0 x7 : (⟨S4096x1024, .f32⟩ : BufTy).Contents (Elt Ideal)} {x1 : (⟨S1024, .f32⟩ : BufTy).Contents (Elt Ideal)}
    {x2 : (⟨S1024x3328, .f32⟩ : BufTy).Contents (Elt Ideal)} {x3 : (⟨S4096x512, .f32⟩ : BufTy).Contents (Elt Ideal)}
    {x4 : (⟨S4096x768, .f32⟩ : BufTy).Contents (Elt Ideal)} {x5 x6 : (⟨S4096x1024, .f32⟩ : BufTy).Contents (Elt Ideal)}
    {X E : ℕ → Fin 1024 → ℝ} {G : Fin 1024 → ℝ} {W : Fin 1024 → Fin 3328 → ℝ} {P : ℕ → Fin 3328 → ℝ}
    (H : RealRef x0 x7 x1 x2 x3 x4 x5 x6 X E G W P)
include H

/-- The mean square and the small number. -/
theorem r6 (i : S4096x1.Idx) : @Eq EReal (val_main_v6 (F := Ideal) x0 i) (vv (X (i 0).val) : ℝ) := by
  have h1 : @Eq EReal (val_main_v2 (F := Ideal) x0 i) (∑ j, X (i 0).val j * X (i 0).val j : ℝ) := by
    rw [val_main_v2_apply, val_main_v1_apply]
    refine zero_sum (f := fun j => X (i 0).val j * X (i 0).val j) fun k => ?_
    rw [val_main_v0_apply]
    refine (congrArg₂ (fun a b : EReal => a * b) (H.x _) (H.x _) : _ = _).trans ?_
    rw [← EReal.coe_mul]; rfl
  rw [val_main_v6_apply, val_main_v4_apply, val_main_v3_apply, val_main_v5_apply]
  refine (congrArg₂ (fun a b : EReal => a + b) ((congrArg₂ Ideal.div h1 ofBits_1024).trans (Ideal.div_coe (by norm_num) _)) ofBits_eps : _ = _).trans ?_
  rw [← EReal.coe_mul, ← EReal.coe_add]; rfl

/-- Its reciprocal root. -/
theorem r7 (i : S4096x1.Idx) : @Eq EReal (val_main_v7 (F := Ideal) x0 i) (rr (X (i 0).val) : ℝ) := by
  rw [val_main_v7_apply]
  exact (congrArg Ideal.rsqrt (r6 H i)).trans (rsqrt_vv _)

/-- Minus half its cube. -/
theorem r10 (i : S4096x1.Idx) : @Eq EReal (val_main_v10 (F := Ideal) x0 i) (-(1 / 2) * (rr (X (i 0).val) * (1 / vv (X (i 0).val))) : ℝ) := by
  rw [val_main_v10_apply, val_main_v9_apply, val_main_v8_apply]
  refine (congrArg₂ (fun a b : EReal => a * b) ofBits_neg_half ((congrArg₂ Ideal.div (r7 H i) (r6 H i)).trans (Ideal.div_coe (vv_pos _).ne' _)) : _ = _).trans ?_
  rw [← EReal.coe_mul, ← EReal.coe_mul]

/-- The rows over their root mean square. -/
theorem r12 (i : S4096x1024.Idx) : @Eq EReal (val_main_v12 (F := Ideal) x0 i) (X (i 0).val (i 1) * rr (X (i 0).val) : ℝ) := by
  rw [val_main_v12_apply, val_main_v11_apply]
  refine (congrArg₂ (fun a b : EReal => a * b) (H.x i) (r7 H _) : _ = _).trans ?_
  rw [← EReal.coe_mul]

/-- The third result, before its cast: the normalised rows. -/
theorem r15 (i : S4096x1024.Idx) : @Eq EReal (val_main_v15 (F := Ideal) x0 x1 i) (hn G (X (i 0).val) (i 1) : ℝ) := by
  rw [val_main_v15_apply, val_main_v14_apply, val_main_v13_apply]
  refine (congrArg₂ (fun a b : EReal => a * b) (r12 H i) (H.g _) : _ = _).trans ?_
  rw [← EReal.coe_mul]; rfl

/-- The gradient of the normalised rows. -/
theorem r18 (i : S4096x1024.Idx) : @Eq EReal (val_main_v18 (F := Ideal) x2 x3 x4 x5 x6 i) (dn W (P (i 0).val) (i 1) : ℝ) := by
  rw [val_main_v18_apply]
  exact coe_dot _ (fun k _ => (r17 x3 x4 x5 x6 _).trans (H.p _)) (fun k _ => H.w _)

/-- That times the gains. -/
theorem r23 (i : S4096x1024.Idx) : @Eq EReal (val_main_v23 (F := Ideal) x1 x2 x3 x4 x5 x6 i) (dn W (P (i 0).val) (i 1) * G (i 1) : ℝ) := by
  rw [val_main_v23_apply, val_main_v22_apply, val_main_v13_apply]
  refine (congrArg₂ (fun a b : EReal => a * b) (r18 H i) (H.g _) : _ = _).trans ?_
  rw [← EReal.coe_mul]; rfl

/-- The part of the gradient that comes through the mean square, over the row's entry and halved. -/
theorem r34 (i : S4096x1024.Idx) : @Eq EReal (val_main_v34 (F := Ideal) x0 x1 x2 x3 x4 x5 x6 i)
    ((∑ j, X (i 0).val j * (dn W (P (i 0).val) j * G j)) * (-(1 / 2) * (rr (X (i 0).val) * (1 / vv (X (i 0).val)))) * (1 / 1024) : ℝ) := by
  rw [val_main_v34_apply, val_main_v33_apply]
  refine (zero_sum (f := fun _ : Fin 1 => (∑ j, X (i 0).val j * (dn W (P (i 0).val) j * G j)) * (-(1 / 2) * (rr (X (i 0).val) * (1 / vv (X (i 0).val)))) * (1 / 1024)) fun k => ?_).trans (by rw [Fin.sum_univ_one])
  rw [val_main_v32_apply, val_main_v30_apply, val_main_v27_apply, val_main_v26_apply, val_main_v31_apply]
  have h : @Eq EReal ((val_main_cst_5 (F := Ideal)) (Shape.Idx.first h_S_) + ∑ j : Fin 1024, (val_main_v25 (F := Ideal) x0 x1 x2 x3 x4 x5 x6) (idx_main_v26 (idx_main_v27 (idx_main_v33 (idx_main_v34 i) k)) j))
      (∑ j, X (i 0).val j * (dn W (P (i 0).val) j * G j) : ℝ) := by
    refine zero_sum (f := fun j => X (i 0).val j * (dn W (P (i 0).val) j * G j)) fun j => ?_
    obtain rfl : k = 0 := Subsingleton.elim _ _
    rw [val_main_v25_apply]
    refine (congrArg₂ (fun a b : EReal => a * b) (H.x _) (r23 H _) : _ = _).trans ?_
    have e0 : ((idx_main_v26 (idx_main_v27 (idx_main_v33 (idx_main_v34 i) 0)) j) 0).val = (i 0).val := by
      show (i 0).val * 1 + 0 = (i 0).val
      omega
    rw [← EReal.coe_mul, e0]; rfl
  refine ((congrArg₂ Ideal.div (congrArg₂ (fun a b : EReal => a * b) h (r10 H _)) ofBits_1024).trans (Ideal.div_coe (by norm_num) _) : _ = _).trans ?_
  rw [← EReal.coe_mul, ← EReal.coe_mul]

/-- The first result: the gradient of the rows. -/
theorem r39 (i : S4096x1024.Idx) : @Eq EReal (val_main_v39 (F := Ideal) x0 x1 x2 x3 x4 x5 x6 x7 i) (dx G W (X (i 0).val) (E (i 0).val) (P (i 0).val) (i 1) : ℝ) := by
  rw [val_main_v39_apply, val_main_v38_apply, val_main_v36_apply, val_main_v29_apply, val_main_v28_apply, val_main_v35_apply, val_main_v37_apply]
  refine (congrArg₂ (fun a b : EReal => a + b) (H.e i) (congrArg₂ (fun a b : EReal => a + b) (congrArg₂ (fun a b : EReal => a + b)
    (congrArg₂ (fun a b : EReal => a * b) (r23 H i) (r7 H _)) (congrArg₂ (fun a b : EReal => a * b) (H.x i) (r34 H i))) (congrArg₂ (fun a b : EReal => a * b) (r34 H i) (H.x i))) : _ = _).trans ?_
  simp only [← EReal.coe_mul, ← EReal.coe_add]
  refine congrArg _ ?_
  show E (i 0).val (i 1) + (dn W (P (i 0).val) (i 1) * G (i 1) * rr (X (i 0).val) + _ + _) = _
  unfold dx
  have e : (∑ j, X (i 0).val j * (dn W (P (i 0).val) j * G j)) * rr (X (i 0).val)
      = ∑ j, dn W (P (i 0).val) j * G j * (X (i 0).val j * rr (X (i 0).val)) := by
    rw [Finset.sum_mul]
    exact Finset.sum_congr rfl fun j _ => by ring
  have e2 : 1 / vv (X (i 0).val) = rr (X (i 0).val) * rr (X (i 0).val) := by
    have := rr_sq (X (i 0).val)
    have h := (vv_pos (X (i 0).val)).ne'
    field_simp
    linarith
  rw [← e, e2]
  ring

/-- The second result: the gradient of the gains. -/
theorem r40 (i : S1x1024.Idx) : @Eq EReal (val_main_v40 (F := Ideal) x0 x2 x3 x4 x5 x6 i) (∑ n ∈ Finset.range 4096, dg W (X n) (P n) (i 1) : ℝ) := by
  have h1 : (i 1).val < 1024 := (i 1).isLt
  have h0 : (i 0).val < 1 := (i 0).isLt
  rw [val_main_v40_apply, val_main_v24_apply]
  refine (zero_sum (f := fun _ : Fin 1 => ∑ n ∈ Finset.range 4096, dg W (X n) (P n) (i 1)) fun k => ?_).trans (by rw [Fin.sum_univ_one])
  rw [val_main_v21_apply, val_main_v20_apply, Finset.sum_range]
  refine zero_sum (f := fun n : Fin 4096 => dg W (X n.val) (P n.val) (i 1)) fun n => ?_
  rw [val_main_v19_apply]
  refine (congrArg₂ (fun a b : EReal => a * b) (r12 H _) (r18 H _) : _ = _).trans ?_
  rw [← EReal.coe_mul]
  refine congrArg _ ?_
  obtain rfl : k = 0 := Subsingleton.elim _ _
  have e : (idx_main_v20 (idx_main_v21 (idx_main_v24 (idx_main_v40 i) 0)) n) 1 = i 1 := Fin.ext (by
    show 0 * 1024 + ((i 0).val * 1024 + (i 1).val) = (i 1).val
    omega)
  rw [e]
  exact mul_comm _ _

end Cert.Reference21Ideal.Hand

end
-- ==== Proof.InValue.lean ====
/- The backward input projection's results on finite arguments: what the run leaves in the four result arrays is, element by
   element, what the plain reference computes; and the runs of the three programs of that call. -/
module

public import proofs.«01_k».proof.Defs
public import proofs.«01_k».proof.Proof.InArr
public import proofs.«01_k».proof.Proof.InRef
public import proofs.«01_k».proof.Proof.Value
public import proofs.«01_k».proof.Proof.Gen.Kernel21
public import proofs.«01_k».proof.Proof.Gen.Kernel21Ideal.Value
public import proofs.«01_k».proof.Proof.Gen.Pre_finite3

@[expose] public section

set_option maxRecDepth 16384

noncomputable section

namespace Cert.Proof

open Idealize.ShloMosaic hiding ix1 ix2 ix3 ix4
open Idealize.ShloMosaic.TcCoe Idealize.ShloMosaic.ValueIdx Idealize.SL.Sem
open Cert.Kernel21Ideal.Hand (RealArgs args)
open Cert.Reference21Ideal.Hand (RealRef)
open Cert.KernelIdeal.Hand (real_of_finite)
open Cert.InProj (side side_cases)

/-- The memories of the backward input projection. -/
abbrev Mem21 := (ℓ : Loc Cert.Kernel21Ideal.nD Cert.Kernel21Ideal.τ Cert.Kernel21Ideal.sig) → Buf (Elt Ideal) ℓ

/-- A matrix of real numbers, as one real function of its row's number and its column. -/
theorem exists_rows {n k : ℕ} (hn : 0 < n) (x : (⟨2, ![n, k]⟩ : Shape).Idx → EReal) (hx : ∀ i, ∃ r : ℝ, x i = (r : EReal)) :
    ∃ X : ℕ → Fin k → ℝ, ∀ (i : Fin n) j, x (ix2 i j) = (X i.val j : EReal) := by
  choose f e using hx
  exact ⟨fun i j => f (ix2 ⟨i % n, Nat.mod_lt _ hn⟩ j), fun i j =>
    (e _).trans (congrArg (fun q => (f (ix2 q j) : EReal)) (Fin.ext (Nat.mod_eq_of_lt i.isLt).symm))⟩

/-- Finite arguments are real numbers, numbered as the proofs about the call number them. -/
theorem exists_realArgs21 (m : Mem21) (c : Dev Cert.Kernel21Ideal.nD)
    (h0 : ∀ i : Cert.Kernel21Ideal.S4096x1024.Idx, ∃ r : ℝ, @Eq EReal (m ((c : Thread Cert.Kernel21Ideal.nD Cert.Kernel21Ideal.τ).loc Cert.Kernel21Ideal.main_arg0) i) r)
    (h1 : ∀ i : Cert.Kernel21Ideal.S1024.Idx, ∃ r : ℝ, @Eq EReal (m ((c : Thread Cert.Kernel21Ideal.nD Cert.Kernel21Ideal.τ).loc Cert.Kernel21Ideal.main_arg1) i) r)
    (h2 : ∀ i : Cert.Kernel21Ideal.S1024x3328.Idx, ∃ r : ℝ, @Eq EReal (m ((c : Thread Cert.Kernel21Ideal.nD Cert.Kernel21Ideal.τ).loc Cert.Kernel21Ideal.main_arg2) i) r)
    (h3 : ∀ i : Cert.Kernel21Ideal.S4096x512.Idx, ∃ r : ℝ, @Eq EReal (m ((c : Thread Cert.Kernel21Ideal.nD Cert.Kernel21Ideal.τ).loc Cert.Kernel21Ideal.main_arg3) i) r)
    (h4 : ∀ i : Cert.Kernel21Ideal.S4096x768.Idx, ∃ r : ℝ, @Eq EReal (m ((c : Thread Cert.Kernel21Ideal.nD Cert.Kernel21Ideal.τ).loc Cert.Kernel21Ideal.main_arg4) i) r)
    (h5 : ∀ i : Cert.Kernel21Ideal.S4096x1024.Idx, ∃ r : ℝ, @Eq EReal (m ((c : Thread Cert.Kernel21Ideal.nD Cert.Kernel21Ideal.τ).loc Cert.Kernel21Ideal.main_arg5) i) r)
    (h6 : ∀ i : Cert.Kernel21Ideal.S4096x1024.Idx, ∃ r : ℝ, @Eq EReal (m ((c : Thread Cert.Kernel21Ideal.nD Cert.Kernel21Ideal.τ).loc Cert.Kernel21Ideal.main_arg6) i) r)
    (h7 : ∀ i : Cert.Kernel21Ideal.S4096x1024.Idx, ∃ r : ℝ, @Eq EReal (m ((c : Thread Cert.Kernel21Ideal.nD Cert.Kernel21Ideal.τ).loc Cert.Kernel21Ideal.main_arg7) i) r) :
    ∃ X E G W P, RealArgs m c X E G W P := by
  have hp : ∀ i, ∃ r : ℝ, args m c i = (r : EReal) := fun i =>
    side_cases (P := fun v : EReal => ∃ r : ℝ, v = (r : EReal)) (α := EReal) _ _ _ _ i (fun z _ _ => h3 z) (fun z _ _ => h4 z) (fun z _ _ => h5 z) (fun z _ _ => h6 z)
  obtain ⟨X, eX⟩ := exists_rows (by decide) _ h0
  obtain ⟨E, eE⟩ := exists_rows (by decide) _ h7
  obtain ⟨P, eP⟩ := exists_rows (by decide) _ hp
  choose G eG using h1
  choose W eW using h2
  exact ⟨X, E, fun j => G (ix1 j), fun j k => W (ix2 j k), P, eX, eE, fun j => eG _, fun j k => eW _, eP⟩

/-- The same numbers, numbered as the proofs about the reference number them. -/
theorem realRef21 {m : Mem21} {c : Dev Cert.Kernel21Ideal.nD} {X E : ℕ → Fin 1024 → ℝ} {G : Fin 1024 → ℝ} {W : Fin 1024 → Fin 3328 → ℝ} {P : ℕ → Fin 3328 → ℝ}
    (H : RealArgs m c X E G W P) :
    RealRef (m ((c : Thread Cert.Kernel21Ideal.nD Cert.Kernel21Ideal.τ).loc Cert.Kernel21Ideal.main_arg0))
      (m ((c : Thread Cert.Kernel21Ideal.nD Cert.Kernel21Ideal.τ).loc Cert.Kernel21Ideal.main_arg7))
      (m ((c : Thread Cert.Kernel21Ideal.nD Cert.Kernel21Ideal.τ).loc Cert.Kernel21Ideal.main_arg1))
      (m ((c : Thread Cert.Kernel21Ideal.nD Cert.Kernel21Ideal.τ).loc Cert.Kernel21Ideal.main_arg2))
      (m ((c : Thread Cert.Kernel21Ideal.nD Cert.Kernel21Ideal.τ).loc Cert.Kernel21Ideal.main_arg3))
      (m ((c : Thread Cert.Kernel21Ideal.nD Cert.Kernel21Ideal.τ).loc Cert.Kernel21Ideal.main_arg4))
      (m ((c : Thread Cert.Kernel21Ideal.nD Cert.Kernel21Ideal.τ).loc Cert.Kernel21Ideal.main_arg5))
      (m ((c : Thread Cert.Kernel21Ideal.nD Cert.Kernel21Ideal.τ).loc Cert.Kernel21Ideal.main_arg6)) X E G W P where
  x i := (congrArg (m ((c : Thread Cert.Kernel21Ideal.nD Cert.Kernel21Ideal.τ).loc Cert.Kernel21Ideal.main_arg0)) (ValueIdx.eq_ix2 i)).trans (H.x (i 0) (i 1))
  e i := (congrArg (m ((c : Thread Cert.Kernel21Ideal.nD Cert.Kernel21Ideal.τ).loc Cert.Kernel21Ideal.main_arg7)) (ValueIdx.eq_ix2 i)).trans (H.e (i 0) (i 1))
  g i := (congrArg (m ((c : Thread Cert.Kernel21Ideal.nD Cert.Kernel21Ideal.τ).loc Cert.Kernel21Ideal.main_arg1)) (ValueIdx.eq_ix1 i)).trans (H.g (i 0))
  w i := (congrArg (m ((c : Thread Cert.Kernel21Ideal.nD Cert.Kernel21Ideal.τ).loc Cert.Kernel21Ideal.main_arg2)) (ValueIdx.eq_ix2 i)).trans (H.w (i 0) (i 1))
  p i := (congrArg (args m c) (ValueIdx.eq_ix2 i)).trans (H.p (i 0) (i 1))

/-- The backward input projection and its plain reference end with the same four results on finite arguments. -/
theorem algebraic_in : Cert.algebraic_Kernel21Ideal_Reference21Ideal_pre_finite3 (hKernel21Ideal := Cert.Kernel21Ideal.Gen.facts)
    (hReference21Ideal := Cert.Reference21Ideal.Gen.facts) (hPre_finite3 := Cert.Pre_finite3.Gen.facts) := by
  intro m g m' g' hpre hargs
  refine ⟨fun c => (Cert.Kernel21Ideal.Gen.dats m 0 c).arrAt 8 Cert.Kernel21Ideal.cfg0.N, fun c => (Cert.Kernel21Ideal.Gen.dats m 0 c).arrAt 11 Cert.Kernel21Ideal.cfg0.N,
    fun c => (Cert.Kernel21Ideal.Gen.dats m 0 c).arrAt 9 Cert.Kernel21Ideal.cfg0.N, fun c => (Cert.Kernel21Ideal.Gen.dats m 0 c).arrAt 10 Cert.Kernel21Ideal.cfg0.N, ?_, ?_⟩
  · refine (θ_run (Cert.Kernel21Ideal.defs (F := Ideal)) _ _).mono (fun r h c => ?_) (Cert.Kernel21Ideal.Value.run_blocks (F := Ideal) m g)
    obtain ⟨k8, k9, k10, k11, ka⟩ := h c
    exact ⟨k8, k11, k9, k10, ka⟩
  · refine (θ_run (Cert.Reference21Ideal.defs (F := Ideal)) _ _).mono (fun r h c => ?_) (Cert.Reference21Ideal.Value.run (F := Ideal) m' g')
    obtain ⟨e0, e1, e2, e3, e4, e5, e6, e7⟩ := hargs c
    obtain ⟨h0, h1, h2, h3, h4, h5, h6, h7⟩ := hpre c
    obtain ⟨X, E, G, W, P, H⟩ := exists_realArgs21 m c (fun i => real_of_finite _ (congrFun h0 i)) (fun i => real_of_finite _ (congrFun h1 i))
      (fun i => real_of_finite _ (congrFun h2 i)) (fun i => real_of_finite _ (congrFun h3 i)) (fun i => real_of_finite _ (congrFun h4 i))
      (fun i => real_of_finite _ (congrFun h5 i)) (fun i => real_of_finite _ (congrFun h6 i)) (fun i => real_of_finite _ (congrFun h7 i))
    have R := realRef21 H
    rw [← e0, ← e1, ← e2, ← e3, ← e4, ← e5, ← e6, ← e7] at R
    obtain ⟨k39, k40, k41, k42, ka⟩ := h c
    refine ⟨(k39.trans (Cert.Reference21Ideal.Read.val_main_v39_eq (F := Ideal) m' c)).trans ?_, (k40.trans (Cert.Reference21Ideal.Read.val_main_v40_eq (F := Ideal) _ _ _ _ _ _)).trans ?_,
      (k41.trans (Cert.Reference21Ideal.Read.val_main_v41_eq (F := Ideal) _ _)).trans ?_, (k42.trans (Cert.Reference21Ideal.Read.val_main_v42_eq (F := Ideal) _ _ _ _)).trans ?_, ka⟩
    · exact (funext fun i => Cert.Reference21Ideal.Hand.r39 R i).trans (Cert.Kernel21Ideal.Hand.arr8 m c H).symm
    · exact (funext fun i => Cert.Reference21Ideal.Hand.r40 R i).trans (Cert.Kernel21Ideal.Hand.arr11 m c H).symm
    · exact (funext fun i => (Cert.Reference21Ideal.Read.val_main_v41_apply (F := Ideal) _ _ i).trans (Cert.Reference21Ideal.Hand.r15 R i)).trans (Cert.Kernel21Ideal.Hand.arr9 m c H).symm
    · exact (funext fun i => (Cert.Reference21Ideal.Read.val_main_v42_apply (F := Ideal) _ _ _ _ i).trans ((Cert.Reference21Ideal.Hand.r17 _ _ _ _ i).trans (R.p i))).trans (Cert.Kernel21Ideal.Hand.arr10 m c H).symm

/-- The backward input projection runs, leaves its arguments as launched and ends with every counter at zero. -/
theorem frame_kernel21 : Cert.quiescent_Kernel21 (hKernel21 := Cert.Kernel21.Gen.facts) := fun m ρ _ =>
  Eq.mp (by sl_kernel_rfl) (Cert.Kernel21Ideal.Gen.frame (F := Bits) m ρ)

/-- The idealized backward input projection runs, leaves its arguments as launched and ends with every counter at zero. -/
theorem frame_kernel21Ideal : Cert.quiescent_Kernel21Ideal (hKernel21Ideal := Cert.Kernel21Ideal.Gen.facts) := fun m ρ _ =>
  Cert.Kernel21Ideal.Gen.frame (F := Ideal) m ρ

/-- The reference of the backward input projection runs, leaves its arguments as launched and ends with every counter at zero. -/
theorem frame_reference21Ideal : Cert.quiescent_Reference21Ideal (hReference21Ideal := Cert.Reference21Ideal.Gen.facts) := fun m ρ _ =>
  (θ_run (Cert.Reference21Ideal.defs (F := Ideal)) _ _).mono
    (fun r h => ⟨fun c => (h c).2.2.2.2, sem_eq_zero_of_no_sems (by decide) r.2⟩)
    (Cert.Reference21Ideal.Value.run (F := Ideal) m ρ)

end Cert.Proof

end
-- ==== Proof.KvRun.lean ====
/-
  The run of the call that makes the gradient of the key-value projection's weights. Its result's blocks of 256 rows do
  not divide the buffer's 384, though none of the blocks it writes reaches past the end. Each result block is made over two
  grid points: the first writes the product of a stretch of rows, the second reads it back and adds its own.
-/
module

public import proofs.«01_k».proof.Proof.Gen.Kernel22Ideal.Frame
public import proofs.«01_k».proof.Proof.Gen.Kernel22Ideal.Skeleton
public import Idealize.ShloMosaic.Lib.Pipeline.TableIdle
public import Idealize.ShloMosaic.Lib.Pipeline.ClipFacts
public import Idealize.ShloMosaic.Lib.Pipeline.Value
public import Idealize.ShloMosaic.Lib.Claim

@[expose] public section

set_option maxRecDepth 16384

noncomputable section

namespace Cert.Kernel22Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel22Ideal Cert.Kernel22Ideal.Gen

variable {F : FTy → Type} [FloatOps F]

local notation "𝕄" => MT nD τ sig Unit (Elt F) ℕ (UR sig nD τ) ℕ

/-- A grid point's number is below 8. -/
theorem t_lt (t : Fin cfg0.N) : t.val < 8 := lt_of_lt_of_eq t.isLt N_0

/-- The body starts a block at the points of even number. -/
theorem starts : ∀ t : Fin cfg0.N, k0_cond1 (grid0.coords t) = 1#1 ↔ t.val % 2 = 0 :=
  (by decide +kernel : ∀ t : Fin grid0.N, k0_cond1 (grid0.coords t) = 1#1 ↔ t.val % 2 = 0)

/-- It adds to one at the points of odd number. -/
theorem adds : ∀ t : Fin cfg0.N, k0_cond2 (grid0.coords t) = 1#1 ↔ t.val % 2 = 1 :=
  (by decide +kernel : ∀ t : Fin grid0.N, k0_cond2 (grid0.coords t) = 1#1 ↔ t.val % 2 = 1)

/-- The body writes its result at every point. -/
theorem busy : ∀ t : Fin cfg0.N, cfg0.idle 2 (grid0.coords t) = false :=
  (by decide +kernel : ∀ t : Fin grid0.N, cfg0.idle 2 (grid0.coords t) = false)

/-- No block of the result reaches past the buffer's end. -/
theorem uncut (i : grid0.Coords) (a : Fin 3) : (cfg0.win 2).clip i a = none :=
  Pipeline.Clip.of_eq_none ((by decide +kernel : ∀ (i : grid0.Coords) a, (cc0_transform_3 i a + 1) * S1x256x512.size a ≤ S4x384x512.size a) i a)

/-- At which points the result's buffer holds nothing yet: those of even number. -/
def freshTab : ℕ → Bool := fun n => n % 2 == 0

/-- The table follows the write-backs. -/
theorem freshTab_step : ∀ t : Fin cfg0.N,
    freshTab (t.val + 1) = ((cfg0.win 2).flush t || (cfg0.idle 2 (cfg0.grid.coords t) && freshTab t.val)) := by decide +kernel

/-- At a point of odd number the buffer holds what the point before left. -/
theorem notFresh (t : Fin cfg0.N) (h : ¬t.val % 2 = 0) : cfg0.fresh 2 t.val = false := by
  rw [Pipeline.Cfg.fresh_tab cfg0 2 freshTab rfl freshTab_step t.val (Nat.le_of_lt t.isLt)]
  exact beq_false_of_ne h

section body

variable (c : Dev nD) (i : grid0.Coords) (x : Memref sig .tc .vmem S2048x256 .bf16) (hx : x.IsWhole)
  (y : Memref sig .tc .vmem S2048x512 .bf16) (hy : y.IsWhole) (o : Memref sig .tc .vmem S1x256x512 .f32) (ho : o.IsWhole)

set_option maxHeartbeats 1000000 in
/-- A body that starts a block: the pieces it stores, and that it runs. -/
def run_start (h0 : k0_cond1 i = 1#1) (h1 : ¬k0_cond2 i = 1#1) (u : Vec F S2048x256 .bf16) (v : Vec F S2048x512 .bf16) :
    { L : List (View.Piece (Elt F) S1x256x512 .f32) //
      ∀ (E : Set ℕ) (K : PUnit → sProp 𝕄),
        iprop(owns (c : Thread nD τ) x fullShare u ∗ owns (c : Thread nD τ) y fullShare v ∗ (∃ d, owns (c : Thread nD τ) o fullShare d)
            ∗ (iprop(owns (c : Thread nD τ) x fullShare u ∗ owns (c : Thread nD τ) y fullShare v
              ∗ (∃ f, o.view.loc (c : Thread nD τ) ↦[o.view.set]{fullShare} o.view.writes (Elt F) f L)) -∗ K ⟨⟩))
          ⊢ wp frame (wpE (defs₀ (F := F)) Variants.none c none) E (cc0_wgrad_w_kv_b i x hx y hy (Memref.whole main_arg2) (Memref.isWhole_whole _) o ho) K } := by
  refine ⟨?_, fun E K => ?run⟩
  case run =>
    simp only [cc0_wgrad_w_kv_b_eq_skeleton]; unfold cc0_wgrad_w_kv_b_skel
    unfold owns
    iintro ⟨⟨%f0, %hf0, H0⟩, ⟨%f1, %hf1, H1⟩, ⟨%d2, %f2, -, H2⟩, Hk⟩
    obtain rfl := hx.eq_unread hf0; obtain rfl := hy.eq_unread hf1
    sl_exec (disch := first | sl_exact h0 | sl_exact h1)
    sl_step
    iapply Hk
    isplitl [H0]
    · iexists _; isplitr; · ipureintro; exact hx.read_unread _
      iexact H0
    isplitl [H1]
    · iexists _; isplitr; · ipureintro; exact hy.read_unread _
      iexact H1
    iexists _; iexact H2

set_option maxHeartbeats 1000000 in
/-- A body that adds to a block: the pieces it stores, and that it runs. -/
def run_add (h0 : ¬k0_cond1 i = 1#1) (h1 : k0_cond2 i = 1#1) (u : Vec F S2048x256 .bf16) (v : Vec F S2048x512 .bf16) (w : Vec F S1x256x512 .f32) :
    { L : List (View.Piece (Elt F) S1x256x512 .f32) //
      ∀ (E : Set ℕ) (K : PUnit → sProp 𝕄),
        iprop(owns (c : Thread nD τ) x fullShare u ∗ owns (c : Thread nD τ) y fullShare v ∗ owns (c : Thread nD τ) o fullShare w
            ∗ (iprop(owns (c : Thread nD τ) x fullShare u ∗ owns (c : Thread nD τ) y fullShare v
              ∗ (∃ f, o.view.loc (c : Thread nD τ) ↦[o.view.set]{fullShare} o.view.writes (Elt F) f L)) -∗ K ⟨⟩))
          ⊢ wp frame (wpE (defs₀ (F := F)) Variants.none c none) E (cc0_wgrad_w_kv_b i x hx y hy (Memref.whole main_arg2) (Memref.isWhole_whole _) o ho) K } := by
  refine ⟨?_, fun E K => ?run⟩
  case run =>
    simp only [cc0_wgrad_w_kv_b_eq_skeleton]; unfold cc0_wgrad_w_kv_b_skel
    unfold owns
    iintro ⟨⟨%f0, %hf0, H0⟩, ⟨%f1, %hf1, H1⟩, ⟨%f2, %hf2, H2⟩, Hk⟩
    obtain rfl := hx.eq_unread hf0; obtain rfl := hy.eq_unread hf1; obtain rfl := ho.eq_unread hf2
    sl_exec (disch := first | sl_exact h0 | sl_exact h1)
    sl_step
    iapply Hk
    isplitl [H0]
    · iexists _; isplitr; · ipureintro; exact hx.read_unread _
      iexact H0
    isplitl [H1]
    · iexists _; isplitr; · ipureintro; exact hy.read_unread _
      iexact H1
    iexists _; iexact H2

/-- A starting body's pieces fill the block. -/
theorem fill_start (h0 : k0_cond1 i = 1#1) (h1 : ¬k0_cond2 i = 1#1) (u : Vec F S2048x256 .bf16) (v : Vec F S2048x512 .bf16) (z : S1x256x512.Idx) :
    ∃ pc ∈ (run_start c i x hx y hy o ho h0 h1 u v).1, z ∈ pc.1.set :=
  View.cover_of_tiledL (run_start c i x hx y hy o ho h0 h1 u v).1 S1x256x512.size (by sl_kernel_rfl) z

/-- An adding body's pieces fill the block. -/
theorem fill_add (h0 : ¬k0_cond1 i = 1#1) (h1 : k0_cond2 i = 1#1) (u : Vec F S2048x256 .bf16) (v : Vec F S2048x512 .bf16) (w : Vec F S1x256x512 .f32)
    (z : S1x256x512.Idx) : ∃ pc ∈ (run_add c i x hx y hy o ho h0 h1 u v w).1, z ∈ pc.1.set :=
  View.cover_of_tiledL (run_add c i x hx y hy o ho h0 h1 u v w).1 S1x256x512.size (by sl_kernel_rfl) z

/-- A buffer of the result's blocks. -/
abbrev slot : View sig .tc .vmem S1x256x512 .f32 := (Memref.whole cc0_stg2_0 : Memref sig .tc .vmem S1x256x512 .f32).view

/-- The block a starting body leaves. -/
def left_start (h0 : k0_cond1 i = 1#1) (h1 : ¬k0_cond2 i = 1#1) (u : Vec F S2048x256 .bf16) (v : Vec F S2048x512 .bf16) : Vec F S1x256x512 .f32 :=
  slot.read (Elt F) (slot.writes (Elt F) slot.junk (run_start c i x hx y hy o ho h0 h1 u v).1)

/-- The block an adding body leaves. -/
def left_add (h0 : ¬k0_cond1 i = 1#1) (h1 : k0_cond2 i = 1#1) (u : Vec F S2048x256 .bf16) (v : Vec F S2048x512 .bf16) (w : Vec F S1x256x512 .f32) :
    Vec F S1x256x512 .f32 :=
  slot.read (Elt F) (slot.writes (Elt F) slot.junk (run_add c i x hx y hy o ho h0 h1 u v w).1)

end body

variable (m : (ℓ : Loc nD τ sig) → Buf (Elt F) ℓ) (ρ : Dev nD → PrngReg)

/-- The buffer of the first array's block at a point. -/
abbrev ms0 (t : Fin cfg0.N) : Memref sig .tc .vmem S2048x256 .bf16 := win0_0.stage (cfg0.slots t 0)
/-- The buffer of the second array's block at a point. -/
abbrev ms1 (t : Fin cfg0.N) : Memref sig .tc .vmem S2048x512 .bf16 := win0_1.stage (cfg0.slots t 1)
/-- The buffer of the result's block at a point. -/
abbrev ms2 (t : Fin cfg0.N) : Memref sig .tc .vmem S1x256x512 .f32 := win0_2.stage (cfg0.slots t 2)

/-- The three are whole buffers. -/
theorem hs (t : Fin cfg0.N) : (ms0 t).IsWhole ∧ (ms1 t).IsWhole ∧ (ms2 t).IsWhole :=
  ⟨hstage0_0 ((cfg0.slots t 0).cast nbuf0_0), hstage0_1 ((cfg0.slots t 1).cast nbuf0_1), hstage0_2 ((cfg0.slots t 2).cast nbuf0_2)⟩

/-- At a point of even number nothing is added. -/
theorem not_adds (t : Fin cfg0.N) (h : t.val % 2 = 0) : ¬k0_cond2 (grid0.coords t) = 1#1 := fun e => by
  have := (adds t).mp e; omega

/-- At a point of odd number the body adds. -/
theorem adds_of (t : Fin cfg0.N) (h : ¬t.val % 2 = 0) : k0_cond2 (grid0.coords t) = 1#1 := (adds t).mpr (by omega)

/-- What the result's buffer holds after a point of even number. -/
abbrev even (c : Dev nD) (t : Fin cfg0.N) (h : t.val % 2 = 0) : Vec F S1x256x512 .f32 :=
  left_start c (grid0.coords t) (ms0 t) (hs t).1 (ms1 t) (hs t).2.1 (ms2 t) (hs t).2.2 ((starts t).mpr h) (not_adds t h) (iblk m c 0 t) (iblk m c 1 t)

/-- What it holds after a point of odd number, from what it held before. -/
abbrev odd (c : Dev nD) (t : Fin cfg0.N) (h : ¬t.val % 2 = 0) (w : Vec F S1x256x512 .f32) : Vec F S1x256x512 .f32 :=
  left_add c (grid0.coords t) (ms0 t) (hs t).1 (ms1 t) (hs t).2.1 (ms2 t) (hs t).2.2 (fun e => h ((starts t).mp e)) (adds_of t h) (iblk m c 0 t) (iblk m c 1 t) w

/-- What the result's buffer holds after each point. -/
def outs (c : Dev nD) : (n : ℕ) → n < cfg0.N → Vec F S1x256x512 .f32
  | 0, hn => even m c ⟨0, hn⟩ rfl
  | n + 1, hn => if h : (n + 1) % 2 = 0 then even m c ⟨n + 1, hn⟩ h else odd m c ⟨n + 1, hn⟩ h (outs c n (Nat.lt_of_succ_lt hn))

/-- After a point of even number. -/
theorem outs_even (c : Dev nD) (t : Fin cfg0.N) (h : t.val % 2 = 0) : outs m c t.val t.isLt = even m c t h := by
  obtain ⟨n, hn⟩ := t
  cases n with
  | zero => rfl
  | succ n => exact dif_pos h

/-- After a point of odd number. -/
theorem outs_odd (c : Dev nD) (t : Fin cfg0.N) (h : ¬t.val % 2 = 0) :
    outs m c t.val t.isLt = odd m c t h (outs m c (t.val - 1) (Nat.lt_of_le_of_lt (Nat.sub_le _ _) t.isLt)) := by
  obtain ⟨n, hn⟩ := t
  cases n with
  | zero => exact absurd rfl h
  | succ n => exact dif_neg h

/-- What the run says of the three windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outs m c t.val t.isLt
  Φ _ := Pipeline.ΦA spec0 c
  q _ := fullShare
  owed _ := 0

/-- The arrays are as the call is entered with them. -/
theorem A_eq (c : Dev nD) (w : Fin cfg0.W) : (dats m 0 c).A w = V m c (Pipeline.arrRef spec0 w) := by dsimp only [dats]
/-- The first array's block stays. -/
theorem after0 (c : Dev nD) (t : Fin cfg0.N) : (dats m 0 c).after 0 t = iblk m c 0 t := by dsimp only [dats]
/-- The second array's block stays. -/
theorem after1 (c : Dev nD) (t : Fin cfg0.N) : (dats m 0 c).after 1 t = iblk m c 1 t := by dsimp only [dats]
/-- The result's block after a point. -/
theorem after2 (c : Dev nD) (t : Fin cfg0.N) : (dats m 0 c).after 2 t = outs m c t.val t.isLt := by dsimp only [dats]
/-- The first array's block before a point. -/
theorem before0 (c : Dev nD) (t : Fin cfg0.N) (d) : (dats m 0 c).before 0 t d = iblk m c 0 t := before0_0_of m (dats m 0 c) (A_eq m c 0) (after0 m c) t d
/-- The second array's block before a point. -/
theorem before1 (c : Dev nD) (t : Fin cfg0.N) (d) : (dats m 0 c).before 1 t d = iblk m c 1 t := before0_1_of m (dats m 0 c) (A_eq m c 1) (after1 m c) t d

/-- Before a point of odd number the result's buffer holds what the point before left. -/
theorem before2 (c : Dev nD) (t : Fin cfg0.N) (h : ¬t.val % 2 = 0) (d) :
    (dats m 0 c).before 2 t d = outs m c (t.val - 1) (Nat.lt_of_le_of_lt (Nat.sub_le _ _) t.isLt) := by
  rw [Dat.before_out_traj _ 2 rfl uncut (fun t _ hi _ => absurd hi (by rw [busy t]; exact Bool.false_ne_true)) t.val t rfl d,
    if_neg (by rw [notFresh t h]; exact Bool.false_ne_true)]
  dsimp only [dats]

/-- What a body leaves of the first array's block. -/
theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
/-- What it leaves of the second's. -/
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
/-- What it leaves of the result's. -/
theorem leaves2 (c : Dev nD) (t : Fin cfg0.N) : (dats m 0 c).leavesExact 2 t = owns (c : Thread nD τ) (ms2 t) fullShare (outs m c t.val t.isLt) := by
  unfold Dat.leavesExact; rw [show cfg0.idle 2 (cfg0.grid.coords t) = false from busy t, after2]

/-- What a body is entered with. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 800000 in
/-- The body runs at every point. -/
theorem body_runs (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [leaves0, leaves1, leaves2, show (dats m 0 c).Φ t.succ = (dats m 0 c).Φ t.castSucc from rfl,
    show (dats m 0 c).owesAt () t.succ = (dats m 0 c).owesAt () t.castSucc from rfl]
  by_cases h : t.val % 2 = 0
  · rw [outs_even m c t h]
    unfold even left_start
    iintro ⟨HΦ, Ho, ⟨%d0, H0⟩, ⟨%d1, H1⟩, ⟨%d2, H2⟩⟩
    iapply ((run_start c (grid0.coords t) _ _ _ _ _ _ ((starts t).mpr h) (not_adds t h) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (fill_start c _ _ _ _ _ _ _ _ _ _ _)
  · rw [outs_odd m c t h]
    simp only [before2 m c t h]
    unfold odd left_add
    iintro ⟨HΦ, Ho, ⟨%d0, H0⟩, ⟨%d1, H1⟩, ⟨%d2, H2⟩⟩
    iapply ((run_add c (grid0.coords t) _ _ _ _ _ _ (fun e => h ((starts t).mp e)) (adds_of t h) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (fill_add c _ _ _ _ _ _ _ _ _ _ _ _)

/-- So what the launch asks of it holds. -/
theorem body_ok (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_runs m c t) rfl .rfl fun _ => .rfl

set_option backward.isDefEq.respectTransparency.types false in
/-- The call runs, its arrays as the run says, and every counter ends at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hΦ := fun _ _ => rfl)

/-- The call leaves its arguments as launched, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) ((θ_run defs _ _).mono (fun _ h => h.1) (run_all m ρ))) ((θ_run defs _ _).mono (fun _ h => h.2) (run_all m ρ))

/-- The call ends with the array the run names, its arguments as launched. -/
theorem run_arr : θ_run defs (onTc (τ := τ) (main (F := F))) ⟨m, fun _ => 0, ρ⟩ fun r => ∀ c : Dev nD,
      r.2.mem ((c : Thread nD τ).loc main_v2) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1.1 c).1 2, h.2.1 c⟩) (θ_run_and (run_all m ρ) (frame m ρ))

end Cert.Kernel22Ideal.Hand

end
-- ==== Proof.W22.lean ====
/-
  The gradient of the key-value projection's weights: the call leaves in each shard's first 256 rows the product of the two
  arrays' columns over all the rows, and what else was in the buffer is kept.
-/
module

public import proofs.«01_k».proof.Defs
public import proofs.«01_k».proof.Proof.Wgrad
public import proofs.«01_k».proof.Proof.KvRun
public import proofs.«01_k».proof.Proof.Gen.Kernel22
public import proofs.«01_k».proof.Proof.Gen.Reference22Ideal.Run
public import proofs.«01_k».proof.Proof.Gen.Reference22Ideal.Read
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Reference22Ideal.Hand

open Idealize.ShloMosaic hiding ix1 ix2 ix3 ix4
open Idealize.ShloMosaic.TcCoe Idealize.ShloMosaic.ValueIdx
open Cert.Reference22Ideal Cert.Reference22Ideal.Gen Cert.Reference22Ideal.Read
open Cert.Wgrad

variable (x : S4096x256.Idx → EReal) (y : S4096x2048.Idx → EReal) (d : S4x384x512.Idx → EReal)

/-- The reference's product. -/
theorem prod_apply (p : Fin 256) (q : Fin 2048) : (val_main_v1 (F := Ideal) x y (ix2 p q) : EReal) = col x y p.val q.val := by
  refine (val_main_v1_apply x y (ix2 p q)).trans (Eq.trans ?_ (col_eq x y p.isLt q.isLt).symm)
  refine Finset.sum_congr rfl fun k _ => ?_
  refine congrArg₂ (fun u v : EReal => u * v) ((val_main_v0_apply (F := Ideal) x _).trans (congrArg x ?_)) (congrArg y ?_)
  · exact ValueIdx.eq_ix2 _
  · exact ValueIdx.eq_ix2 _

/-- The reference where the call writes. -/
theorem ref_in (s : Fin 4) (r : Fin 256) (j : Fin 512) :
    (val_main_v5 (F := Ideal) x y d (ix3 s ⟨r.val, by omega⟩ j) : EReal) = col x y r.val (512 * s.val + j.val) := by
  unfold val_main_v5
  refine (concatenate_pair_apply_left (s₁ := S4x256x512) (s₂ := S4x128x512) (t := S4x384x512) 1 (val_main_v3 (F := Ideal) x y) (val_main_v4 (F := Ideal) d) _ (ix3 s ⟨r.val, by omega⟩ j) rfl (ix3 s r j)
    (fun b => ?_)).trans ?_
  · match b with
    | ⟨0, _⟩ => rfl
    | ⟨1, _⟩ => rfl
    | ⟨2, _⟩ => rfl
  refine (val_main_v3_apply (F := Ideal) x y _).trans ((val_main_v2_apply (F := Ideal) x y _).trans ?_)
  refine Eq.trans (congrArg (val_main_v1 (F := Ideal) x y) (?_ : _ = ix2 r ⟨512 * s.val + j.val, by omega⟩)) (prod_apply x y r ⟨512 * s.val + j.val, by omega⟩)
  refine (ValueIdx.eq_ix2 _).trans (congrArg₂ ix2 (Fin.ext ?_) (Fin.ext ?_))
  · show ((r.val * 4 + s.val) * 512 + j.val) / 2048 = r.val
    omega
  · show ((r.val * 4 + s.val) * 512 + j.val) % 2048 = 512 * s.val + j.val
    omega

/-- The reference elsewhere. -/
theorem ref_out (i : S4x384x512.Idx) (h : 256 ≤ (i 1).val) : (val_main_v5 (F := Ideal) x y d i : EReal) = d i := by
  unfold val_main_v5
  have h2 : (i 1).val < 384 := (i 1).isLt
  refine (concatenate_pair_apply_right (s₁ := S4x256x512) (s₂ := S4x128x512) (t := S4x384x512) 1 (val_main_v3 (F := Ideal) x y) (val_main_v4 (F := Ideal) d) _ i rfl rfl (ix3 (i 0) ⟨(i 1).val - 256, by omega⟩ (i 2))
    (fun b hb => ?_) (Nat.sub_add_cancel h)).trans ?_
  · match b with
    | ⟨0, _⟩ => rfl
    | ⟨1, _⟩ => exact absurd rfl hb
    | ⟨2, _⟩ => rfl
  refine (val_main_v4_apply (F := Ideal) d _).trans (congrArg d (funext fun a => Fin.ext ?_))
  match a with
  | ⟨0, _⟩ => first | rfl | (show 0 + (i 0).val = (i 0).val; omega)
  | ⟨1, _⟩ => first | (show 256 + ((i 1).val - 256) = (i 1).val; omega) | (show (i 1).val - 256 + 256 = (i 1).val; omega)
  | ⟨2, _⟩ => first | rfl | (show 0 + (i 2).val = (i 2).val; omega)

end Cert.Reference22Ideal.Hand

namespace Cert.Kernel22Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel22Ideal Cert.Kernel22Ideal.Gen
open Cert.Wgrad
open scoped BigOperators

variable (m : (ℓ : Loc nD τ sig) → Buf (Elt Ideal) ℓ) (c : Dev nD)

/-- The block index of the first array at a point. -/
theorem index22_0 : ∀ t : Fin cfg0.N, win0_0.index t = ![t.val % 2, 0] :=
  (by decide +kernel : ∀ t : Fin grid0.N, win0_0.index t = ![t.val % 2, 0])
/-- The block index of the second array at a point. -/
theorem index22_1 : ∀ t : Fin cfg0.N, win0_1.index t = ![t.val % 2, t.val / 2] :=
  (by decide +kernel : ∀ t : Fin grid0.N, win0_1.index t = ![t.val % 2, t.val / 2])
/-- The block index of the result at a point. -/
theorem index22_2 : ∀ t : Fin cfg0.N, win0_2.index t = ![t.val / 2, 0, 0] :=
  (by decide +kernel : ∀ t : Fin grid0.N, win0_2.index t = ![t.val / 2, 0, 0])

/-- The first array as the call is entered with it. -/
theorem V_x : (V m c main_v0 : S4096x256.Idx → EReal) = m ((c : Thread nD τ).loc main_arg0) := by
  show StableHlo.after hostOps0 (fun b => m (c, b)) (Proc.devRef .tc main_v0) = _
  after_results_simp <;> rfl

/-- The second array as the call is entered with it. -/
theorem V_y : (V m c main_v1 : S4096x2048.Idx → EReal) = m ((c : Thread nD τ).loc main_arg1) := by
  show StableHlo.after hostOps0 (fun b => m (c, b)) (Proc.devRef .tc main_v1) = _
  after_results_simp <;> rfl

/-- The result's buffer as the call is entered with it. -/
theorem V_d : V m c main_v2 = m ((c : Thread nD τ).loc main_arg2) := by
  show StableHlo.after hostOps0 (fun b => m (c, b)) (Proc.devRef .tc main_v2) = _
  after_results_simp <;> rfl

/-- The first array. -/
abbrev aX : S4096x256.Idx → EReal := m ((c : Thread nD τ).loc main_arg0)
/-- The second array. -/
abbrev aY : S4096x2048.Idx → EReal := m ((c : Thread nD τ).loc main_arg1)

/-- The first array's rows of a grid point. -/
theorem bX_apply (t : Fin cfg0.N) (k : Fin 2048) (r : Fin 256) :
    (iblk m c 0 t (ix2 k r) : EReal) = at2 (aX m c) (2048 * (t.val % 2) + k.val) r.val := by
  have ht := t_lt t
  rw [at2_of (aX m c) (by omega) (by omega)]
  refine Eq.trans ?_ (congrFun (V_x m c) _)
  unfold iblk
  refine congrArg (V m c main_v0) (?_ : ((cfg0.win 0).blk t).view.emb (ix2 k r) = _)
  blk_ext [index22_0]
  show t.val % 2 * 2048 + k.val = 2048 * (t.val % 2) + k.val
  omega

/-- The second array's rows of a grid point. -/
theorem bY_apply (t : Fin cfg0.N) (k : Fin 2048) (j : Fin 512) :
    (iblk m c 1 t (ix2 k j) : EReal) = at2 (aY m c) (2048 * (t.val % 2) + k.val) (512 * (t.val / 2) + j.val) := by
  have ht := t_lt t
  rw [at2_of (aY m c) (by omega) (by omega)]
  refine Eq.trans ?_ (congrFun (V_y m c) _)
  unfold iblk
  refine congrArg (V m c main_v1) (?_ : ((cfg0.win 1).blk t).view.emb (ix2 k j) = _)
  blk_ext [index22_1]
  · show t.val % 2 * 2048 + k.val = 2048 * (t.val % 2) + k.val
    omega
  · show t.val / 2 * 512 + j.val = 512 * (t.val / 2) + j.val
    omega

/-- The term a row adds to an element of shard `s`'s gradient. -/
abbrev term (s : ℕ) (r : Fin 256) (j : Fin 512) (k : ℕ) : EReal := at2 (aX m c) k r.val * at2 (aY m c) k (512 * s + j.val)

/-- The product of a grid point's stretch of rows. -/
theorem part22 (t : Fin cfg0.N) (r : Fin 256) (j : Fin 512) :
    (k0_pay1 (iblk m c 0 t) (iblk m c 1 t) (ix2 r j) : EReal) = ∑ k : Fin 2048, term m c (t.val / 2) r j (2048 * (t.val % 2) + k.val) :=
  (part_apply dot_S2048x256_S2048x512_S256x512_0_0_1_1_n_n rfl rfl rfl rfl rfl rfl _ _ _ _ r j).trans
    (Finset.sum_congr rfl fun k _ => congrArg₂ (fun u v : EReal => u * v) (bX_apply m c t k r) (bY_apply m c t k j))

/-- The first stretch starts the sum. -/
theorem first22 (t : Fin cfg0.N) (h0 : t.val % 2 = 0) (r : Fin 256) (j : Fin 512) :
    (outs m c t.val t.isLt (ix3 0 r j) : EReal) = ∑ k : Fin 2048, term m c (t.val / 2) r j (2048 * (t.val % 2) + k.val) := by
  have e : outs m c t.val t.isLt = k0_pay2 (iblk m c 0 t) (iblk m c 1 t) := by
    rw [outs_even m c t h0]; unfold even; frame_out
  rw [e]
  exact (lift_apply _ _ r j).trans (part22 m c t r j)

/-- The next stretch adds to it. -/
theorem next22 (t : Fin cfg0.N) (h0 : ¬t.val % 2 = 0) (r : Fin 256) (j : Fin 512) :
    (outs m c t.val t.isLt (ix3 0 r j) : EReal) = outs m c (t.val - 1) (Nat.lt_of_le_of_lt (Nat.sub_le _ _) t.isLt) (ix3 0 r j)
      + ∑ k : Fin 2048, term m c (t.val / 2) r j (2048 * (t.val % 2) + k.val) := by
  have e : outs m c t.val t.isLt = k0_pay3 (iblk m c 0 t) (iblk m c 1 t) (outs m c (t.val - 1) (Nat.lt_of_le_of_lt (Nat.sub_le _ _) t.isLt)) := by
    rw [outs_odd m c t h0]; unfold odd; frame_out
  rw [e]
  exact (lift_add_apply _ _ _ _ r j).trans (congrArg _ (part22 m c t r j))

/-- When a shard's block is written back it holds the product of the columns over all the rows. -/
theorem last22 (t : Fin cfg0.N) (h : t.val % 2 = 1) (r : Fin 256) (j : Fin 512) :
    (outs m c t.val t.isLt (ix3 0 r j) : EReal) = col (aX m c) (aY m c) r.val (512 * (t.val / 2) + j.val) :=
  accum_last (N := cfg0.N) (J := 2) (s := 2048) (by decide) (fun n hn => (outs m c n hn (ix3 0 r j) : EReal)) (fun g => term m c g r j)
    (fun t h h0 => first22 m c ⟨t, h⟩ h0 r j) (fun t h h0 => next22 m c ⟨t, h⟩ h0 r j) t.val t.isLt h

/-- An element of the written part of a block lies in the buffer at the block's shard, its own row and column. -/
theorem emb_val (t : Fin cfg0.N) (z : ((cfg0.win 2).xblock (cfg0.grid.coords t)).Idx) (r : Fin 256) (j : Fin 512)
    (h0 : (z 0 : ℕ) = 0) (h1 : (z 1 : ℕ) = r.val) (h2 : (z 2 : ℕ) = j.val) :
    ((cfg0.win 2).blk t).view.emb z = ix3 (⟨t.val / 2, by have := t_lt t; omega⟩ : Fin 4) ⟨r.val, by omega⟩ j := by
  refine funext fun a => Fin.ext (((cfg0.win 2).rect_emb_val t z a).trans ?_)
  rw [show (cfg0.win 2).index t = _ from index22_2 t]
  match a with
  | ⟨0, _⟩ => show t.val / 2 * 1 + (z 0 : ℕ) = t.val / 2; omega
  | ⟨1, _⟩ => show 0 * 256 + (z 1 : ℕ) = r.val; omega
  | ⟨2, _⟩ => show 0 * 512 + (z 2 : ℕ) = j.val; omega

/-- The array the call leaves is the reference's. -/
theorem arr22 : (dats m 0 c).arrAt 2 cfg0.N = Cert.Reference22Ideal.Read.val_main_v5 (F := Ideal) (aX m c) (aY m c) (m ((c : Thread nD τ).loc main_arg2)) := by
  refine (dats m 0 c).arrAt_eq_of_coversWhere_of_agree 2 _ (fun β => β (1 : Fin 3) = 0) (by decide +kernel) (fun t hf z => ?_) (fun i hi => ?_)
  · rw [after2]
    have ht := t_lt t
    have hf' := (flush0_2 t).mp hf
    obtain ⟨u, r, j, e⟩ : ∃ (u : Fin 1) (r : Fin 256) (j : Fin 512), (cfg0.win 2).xinj (cfg0.grid.coords t) z = ix3 u r j :=
      ⟨(cfg0.win 2).xinj (cfg0.grid.coords t) z 0, (cfg0.win 2).xinj (cfg0.grid.coords t) z 1, (cfg0.win 2).xinj (cfg0.grid.coords t) z 2, ValueIdx.eq_ix3 _⟩
    obtain rfl : u = 0 := Subsingleton.elim _ _
    have ev : ∀ a, (z a : ℕ) = ix3 (0 : Fin 1) r j a := fun a => congrArg Fin.val (congrFun e a)
    have e0 := emb_val t z r j (ev 0) (ev 1) (ev 2)
    refine (congrArg (outs m c t.val t.isLt) e).trans ((last22 m c t hf' r j).trans ?_)
    exact (Cert.Reference22Ideal.Hand.ref_in (aX m c) (aY m c) (m ((c : Thread nD τ).loc main_arg2)) ⟨t.val / 2, by omega⟩ r j).symm.trans
      (congrArg (Cert.Reference22Ideal.Read.val_main_v5 (F := Ideal) (aX m c) (aY m c) (m ((c : Thread nD τ).loc main_arg2))) e0.symm)
  · have h1 : ¬(i 1).val / 256 = 0 := hi
    refine (congrFun (V_d m c) i).trans ?_
    exact (Cert.Reference22Ideal.Hand.ref_out (aX m c) (aY m c) (m ((c : Thread nD τ).loc main_arg2)) i (by omega)).symm

end Cert.Kernel22Ideal.Hand

namespace Cert.Proof

open Idealize.ShloMosaic hiding ix1 ix2 ix3 ix4
open Idealize.ShloMosaic.TcCoe Idealize.SL.Sem

/-- The call that makes the key-value projection's weight gradient and its plain reference end with the same result. -/
theorem algebraic_w_kv_b : Cert.algebraic_Kernel22Ideal_Reference22Ideal (hKernel22Ideal := Cert.Kernel22Ideal.Gen.facts)
    (hReference22Ideal := Cert.Reference22Ideal.Gen.facts) := by
  intro m g m' g' hpre hargs
  refine ⟨fun c => (Cert.Kernel22Ideal.Hand.dats m 0 c).arrAt 2 Cert.Kernel22Ideal.cfg0.N, Cert.Kernel22Ideal.Hand.run_arr (F := Ideal) m g, ?_⟩
  refine (θ_run (Cert.Reference22Ideal.defs (F := Ideal)) _ _).mono (fun r h c => ?_) (Cert.Reference22Ideal.Value.run (F := Ideal) m' g')
  obtain ⟨e0, e1, e2⟩ := hargs c
  obtain ⟨k5, ka⟩ := h c
  refine ⟨(k5.trans (Cert.Reference22Ideal.Read.val_main_v5_eq (F := Ideal) _ _ _)).trans ?_, ka⟩
  rw [e0, e1, e2]
  exact (Cert.Kernel22Ideal.Hand.arr22 m c).symm

/-- The call runs, leaves its arguments as launched and ends with every counter at zero. -/
theorem frame_kernel22 : Cert.quiescent_Kernel22 (hKernel22 := Cert.Kernel22.Gen.facts) := fun m ρ _ =>
  Eq.mp (by sl_kernel_rfl) (Cert.Kernel22Ideal.Hand.frame (F := Bits) m ρ)

/-- The idealized call runs, leaves its arguments as launched and ends with every counter at zero. -/
theorem frame_kernel22Ideal : Cert.quiescent_Kernel22Ideal (hKernel22Ideal := Cert.Kernel22Ideal.Gen.facts) := fun m ρ _ =>
  Cert.Kernel22Ideal.Hand.frame (F := Ideal) m ρ

/-- The reference runs, leaves its arguments as launched and ends with every counter at zero. -/
theorem frame_reference22Ideal : Cert.quiescent_Reference22Ideal (hReference22Ideal := Cert.Reference22Ideal.Gen.facts) := fun m ρ _ =>
  (θ_run (Cert.Reference22Ideal.defs (F := Ideal)) _ _).mono
    (fun r h => ⟨fun c => (h c).2, sem_eq_zero_of_no_sems (by decide) r.2⟩)
    (Cert.Reference22Ideal.Value.run (F := Ideal) m ρ)

end Cert.Proof

end
-- ==== Proof.ParamSel.lean ====
/-
  Collecting a state's own entries: a product with a matrix of zeros and ones picks one entry of each row, and the
  reference's masked sum over the eight groups of a strip picks the same one.
-/
module

public import proofs.«01_k».proof.Proof.Gen.Kernel23Ideal.Frame
public import proofs.«01_k».proof.Proof.Gen.Reference23Ideal.Read
public import Idealize.ShloMosaic.Lib.MatmulPlain
public import Idealize.ShloMosaic.Lib.IdealHost
public import Idealize.ShloMosaic.Lib.ValueLayout

@[expose] public section

set_option maxRecDepth 16384

noncomputable section

namespace Cert.Kernel23Ideal.Hand

open Idealize.ShloMosaic Idealize.ShloMosaic.TcCoe Idealize.ShloMosaic.ValueIdx
open Cert.Kernel23Ideal.Gen Cert.Kernel23Ideal
open scoped BigOperators

/-- Two small whole numbers written as words are equal words when they are equal numbers. -/
theorem cmp_nat {a b : ℕ} (ha : a < 2 ^ 32) (hb : b < 2 ^ 32) :
    IntOp.cmpi .eq (BitVec.ofNat 32 a) (BitVec.ofNat 32 b) = if a = b then 1#1 else 0#1 := by
  by_cases h : a = b
  · subst h; simp [IntOp.cmpi]
  · have e : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]
    exact congrArg BitVec.ofBool (beq_eq_false_iff_ne.2 e)

/-- A choice by a comparison is a choice by the condition compared. -/
theorem pick_if (P : Prop) [Decidable P] (a b : EReal) : Scalar.select (if P then 1#1 else 0#1) a b = if P then a else b := by
  by_cases h : P <;> simp [Scalar.select, h]

/-- The low six bits of a column number. -/
theorem low6 : ∀ k : Fin 2048, IntOp.andi (BitVec.ofNat 32 k.val) 63#32 = BitVec.ofNat 32 (k.val % 64) := by decide +kernel
/-- A column number less its low six bits. -/
theorem high6 : ∀ k : Fin 2048, IntOp.shrsi .vector (BitVec.ofNat 32 k.val) 6#32 = BitVec.ofNat 32 (k.val / 64) := by decide +kernel
/-- A row number moved by no bits. -/
theorem high0 : ∀ k : Fin 32, IntOp.shrsi .vector (BitVec.ofNat 32 k.val) 0#32 = BitVec.ofNat 32 k.val := by decide +kernel
/-- The group within its strip that a channel belongs to. -/
theorem group_of : ∀ r : Fin 512, IntOp.andi (IntOp.shrsi .vector (BitVec.ofNat 32 r.val) 4#32) 7#32 = BitVec.ofNat 32 (r.val / 16 % 8) := by decide +kernel

/-- The matrix that selects a state: one where the column's place within its group is the row, zero elsewhere. -/
theorem sel_apply (p : Fin 64) (k : Fin 2048) : k0_pay2 (F := Ideal) (ix2 p k) = if k.val % 64 = p.val then (1 : EReal) else 0 := by
  have h0 : (iota .tc S64x2048 32 [0] iota_S64x2048_d0_w32 : IVec S64x2048 32) (ix2 p k) = BitVec.ofNat 32 p.val := iota_single_apply _ _ _ _ _ _
  have h1 : (iota .tc S64x2048 32 [1] iota_S64x2048_d1_w32 : IVec S64x2048 32) (ix2 p k) = BitVec.ofNat 32 k.val := iota_single_apply _ _ _ _ _ _
  have hc : IntOp.cmpi .eq (IntOp.andi (BitVec.ofNat 32 k.val) 63#32) (BitVec.ofNat 32 p.val) = if k.val % 64 = p.val then 1#1 else 0#1 := by
    rw [low6, cmp_nat (by omega) (by omega)]
  unfold k0_pay2
  refine (congrArg₂ (fun a b => Scalar.select (IntOp.cmpi .eq (IntOp.andi a 63#32) b) (Ideal.ofBits .f32 0x3F800000#32) (Ideal.ofBits .f32 0x00000000#32)) h1 h0).trans ?_
  show Scalar.select _ _ _ = _
  rw [hc, Ideal.ofBits_one_f32, Ideal.ofBits_zero_f32, pick_if]

/-- A row of the flat gradient keeps its own group. -/
theorem flat_apply (g : Fin 32) (k : Fin 2048) : k0_pay3 (ix2 g k) = if g.val = k.val / 64 then 1#1 else 0#1 := by
  have h0 : (iota .tc S32x2048 32 [0] iota_S32x2048_d0_w32 : IVec S32x2048 32) (ix2 g k) = BitVec.ofNat 32 g.val := iota_single_apply _ _ _ _ _ _
  have h1 : (iota .tc S32x2048 32 [1] iota_S32x2048_d1_w32 : IVec S32x2048 32) (ix2 g k) = BitVec.ofNat 32 k.val := iota_single_apply _ _ _ _ _ _
  unfold k0_pay3
  refine (congrArg₂ (fun a b => IntOp.cmpi .eq (IntOp.shrsi .vector a 0#32) (IntOp.shrsi .vector b 6#32)) h0 h1).trans ?_
  show IntOp.cmpi _ _ _ = _
  rw [high0, high6, cmp_nat (by omega) (by omega)]

/-- A row of the block gradient keeps the group its channel belongs to. -/
theorem block_apply (r k : Fin 512) : k0_pay4 (ix2 r k) = if r.val / 16 % 8 = k.val / 64 then 1#1 else 0#1 := by
  have h0 : (iota .tc S512x512 32 [0] iota_S512x512_d0_w32 : IVec S512x512 32) (ix2 r k) = BitVec.ofNat 32 r.val := iota_single_apply _ _ _ _ _ _
  have h1 : (iota .tc S512x512 32 [1] iota_S512x512_d1_w32 : IVec S512x512 32) (ix2 r k) = BitVec.ofNat 32 k.val := iota_single_apply _ _ _ _ _ _
  unfold k0_pay4
  refine (congrArg₂ (fun a b => IntOp.cmpi .eq (IntOp.andi (IntOp.shrsi .vector a 4#32) 7#32) (IntOp.shrsi .vector b 6#32)) h0 h1).trans ?_
  show IntOp.cmpi _ _ _ = _
  rw [group_of, show IntOp.shrsi .vector (BitVec.ofNat 32 k.val) 6#32 = BitVec.ofNat 32 (k.val / 64) from high6 ⟨k.val, by omega⟩,
    cmp_nat (by omega) (by omega)]

/-- A row split in three parts, each multiplied with a selecting row and summed, is the selected entry: the first part
    is the whole row and the other two are zero where the row is finite. -/
theorem pick {K : ℕ} (y s : Fin K → EReal) (hy : ∀ k, ∃ a : ℝ, y k = a) (k0 : Fin K) (h1 : s k0 = 1) (h0 : ∀ k, k ≠ k0 → y k * s k = 0) :
    ((0 + (0 + ∑ k, y k * s k)) + (0 + ∑ k, (y k - y k) * s k)) + (0 + ∑ k, ((y k - y k) - (y k - y k)) * s k) = y k0 := by
  have e : ∀ k, y k - y k = 0 := fun k => by
    obtain ⟨a, ha⟩ := hy k
    rw [ha, ← EReal.coe_sub, sub_self, EReal.coe_zero]
  simp only [e, sub_zero, zero_mul, Finset.sum_const_zero, add_zero, zero_add]
  rw [Finset.sum_eq_single k0 (fun k _ hk => h0 k hk) (fun h => absurd (Finset.mem_univ _) h), h1, mul_one]

/-- A product of the flat gradient's groups with the selecting matrix, at an index. -/
theorem dot32_apply (y : FVec Ideal S32x2048 .bf16) (s : FVec Ideal S64x2048 .bf16) (r : Fin 32) (c : Fin 64) :
    matmul dot_S32x2048_S64x2048_S32x64_1_1_0_0_n_n none y s (constant S32x64 .f32 0x00000000#32) (ix2 r c) = 0 + ∑ k : Fin 2048, y (ix2 r k) * s (ix2 c k) :=
  (Ideal.matmul_transposedRhs_apply none y s _ r c).trans (congrArg (· + _) Ideal.ofBits_zero_f32)

/-- A product of the block gradient's groups with the selecting matrix, at an index. -/
theorem dot512_apply (y : FVec Ideal S512x512 .bf16) (s : FVec Ideal S64x512 .bf16) (r : Fin 512) (c : Fin 64) :
    matmul dot_S512x512_S64x512_S512x64_1_1_0_0_n_n none y s (constant S512x64 .f32 0x00000000#32) (ix2 r c) = 0 + ∑ k : Fin 512, y (ix2 r k) * s (ix2 c k) :=
  (Ideal.matmul_transposedRhs_apply none y s _ r c).trans (congrArg (· + _) Ideal.ofBits_zero_f32)

/-- The three parts' products of a row of the block gradient, as sums. -/
theorem parts512 (s : FVec Ideal S64x2048 .bf16) (m : IVec S512x512 1) (u : FVec Ideal S512x512 .f32) (r : Fin 512) (p : Fin 64) (y z : Fin 512 → EReal)
    (hy : ∀ k, select m u (broadcast S512x512 (Scalar.ofBits (F := Ideal) .f32 0x00000000#32)) (ix2 r k) = y k)
    (hz : ∀ k, extractStridedSlice S64x512 ![0, 0] s slices_S64x2048_o0_0_S64x512 (ix2 p k) = z k) :
    k0_pay25 (F := Ideal) s m u (ix2 r p)
      = ((0 + (0 + ∑ k, y k * z k)) + (0 + ∑ k, (y k - y k) * z k)) + (0 + ∑ k, ((y k - y k) - (y k - y k)) * z k) := by
  obtain rfl : (fun k => select m u (broadcast S512x512 (Scalar.ofBits (F := Ideal) .f32 0x00000000#32)) (ix2 r k)) = y := funext hy
  obtain rfl : (fun k => extractStridedSlice S64x512 ![0, 0] s slices_S64x2048_o0_0_S64x512 (ix2 p k)) = z := funext hz
  unfold k0_pay25
  exact congrArg₂ (fun a b : EReal => a + b) (congrArg₂ (fun a b : EReal => a + b) (congrArg₂ (fun a b : EReal => a + b) Ideal.ofBits_zero_f32
    (dot512_apply _ _ r p)) (dot512_apply _ _ r p)) (dot512_apply _ _ r p)

/-- The three parts' products of a row of the flat gradient, as sums. -/
theorem parts32 (s : FVec Ideal S64x2048 .bf16) (m : IVec S32x2048 1) (x : FVec Ideal S1x2048 .f32) (g : Fin 32) (p : Fin 64) (y : Fin 2048 → EReal)
    (hy : ∀ k, select m (broadcastTo S32x2048 (shapeCast S1x2048 x shapeCasts_S1x2048_S1x2048) broadcasts_S1x2048_S32x2048)
      (broadcast S32x2048 (Scalar.ofBits (F := Ideal) .f32 0x00000000#32)) (ix2 g k) = y k) :
    k0_pay23 (F := Ideal) s m x (ix2 g p)
      = ((0 + (0 + ∑ k, y k * s (ix2 p k))) + (0 + ∑ k, (y k - y k) * s (ix2 p k))) + (0 + ∑ k, ((y k - y k) - (y k - y k)) * s (ix2 p k)) := by
  obtain rfl : (fun k => select m (broadcastTo S32x2048 (shapeCast S1x2048 x shapeCasts_S1x2048_S1x2048) broadcasts_S1x2048_S32x2048)
      (broadcast S32x2048 (Scalar.ofBits (F := Ideal) .f32 0x00000000#32)) (ix2 g k)) = y := funext hy
  unfold k0_pay23
  exact congrArg₂ (fun a b : EReal => a + b) (congrArg₂ (fun a b : EReal => a + b) (congrArg₂ (fun a b : EReal => a + b) Ideal.ofBits_zero_f32
    (dot32_apply _ _ g p)) (dot32_apply _ _ g p)) (dot32_apply _ _ g p)

/-- Picking the entry of a group and a state out of a row masked to the group. -/
theorem pick_group {K : ℕ} (w : Fin K → EReal) (hw : ∀ k, ∃ a : ℝ, w k = a) (g p : ℕ) (hp : p < 64) (hk : g * 64 + p < K) (y z : Fin K → EReal)
    (hy : ∀ k, y k = if g = k.val / 64 then w k else 0) (hz : ∀ k, z k = if k.val % 64 = p then (1 : EReal) else 0) :
    ((0 + (0 + ∑ k, y k * z k)) + (0 + ∑ k, (y k - y k) * z k)) + (0 + ∑ k, ((y k - y k) - (y k - y k)) * z k) = w ⟨g * 64 + p, hk⟩ := by
  refine (pick y z (fun k => ?_) ⟨g * 64 + p, hk⟩ ?_ fun k hne => ?_).trans ((hy _).trans (if_pos ?_))
  · rw [hy k]
    by_cases h : g = k.val / 64
    · rw [if_pos h]; exact hw k
    · rw [if_neg h]; exact ⟨0, rfl⟩
  · rw [hz]; exact if_pos (show (g * 64 + p) % 64 = p by omega)
  · rw [hy k, hz k]
    by_cases h : g = k.val / 64
    · have h' : ¬ k.val % 64 = p := fun h' => hne (Fin.ext (show k.val = g * 64 + p by omega))
      rw [if_neg h', mul_zero]
    · rw [if_neg h, zero_mul]
  · show g = (g * 64 + p) / 64
    omega

/-- The flat gradient laid out by group and state is the flat gradient reshaped. -/
theorem unflat (x : FVec Ideal S1x2048 .f32) (hx : ∀ i, ∃ a : ℝ, x i = a) :
    k0_pay23 (F := Ideal) k0_pay2 k0_pay3 x = Cert.Reference23Ideal.Read.val_main_v45 (F := Ideal) x := by
  funext i
  obtain ⟨g, p, rfl⟩ : ∃ (g : Fin 32) (p : Fin 64), i = ix2 g p := ⟨i 0, i 1, eq_ix2 i⟩
  rw [Cert.Reference23Ideal.Read.val_main_v45_apply]
  refine (parts32 _ _ x g p (fun k => if g.val = k.val / 64 then x (ix2 (0 : Fin 1) k) else 0) fun k => ?_).trans
    ((pick_group (fun k => x (ix2 (0 : Fin 1) k)) (fun k => hx _) g.val p.val p.isLt (by omega) _ _ (fun k => rfl) (sel_apply p)).trans (congrArg x ?_))
  · have hb : (broadcastTo S32x2048 (shapeCast S1x2048 x shapeCasts_S1x2048_S1x2048) broadcasts_S1x2048_S32x2048) (ix2 g k) = x (ix2 (0 : Fin 1) k) := by
      rw [shapeCast_self]; exact broadcastTo_1b_ab_apply _ _ _ _
    exact (congrArg₂ (fun c a => Scalar.select c a (Ideal.ofBits .f32 0x00000000#32)) (flat_apply g k) hb).trans
      ((congrArg (Scalar.select _ _) Ideal.ofBits_zero_f32).trans (pick_if _ _ _))
  · funext a; apply Fin.ext
    match a with
    | ⟨0, _⟩ => rfl
    | ⟨1, _⟩ => show g.val * 64 + p.val = (g.val * 64 + p.val) % 2048; omega

/-- The place of a channel's own entry. -/
theorem own_lt (r : Fin 512) (p : Fin 64) : r.val / 16 % 8 * 64 + p.val < 512 := by omega

/-- The block gradient's own states, collected: each channel keeps the entries of its own group. -/
theorem blocks (u : FVec Ideal S512x512 .f32) (hu : ∀ i, ∃ a : ℝ, u i = a) (r : Fin 512) (p : Fin 64) :
    k0_pay25 (F := Ideal) k0_pay2 k0_pay4 u (ix2 r p) = u (ix2 r ⟨r.val / 16 % 8 * 64 + p.val, own_lt r p⟩) := by
  have hz : ∀ k : Fin 512, extractStridedSlice S64x512 ![0, 0] (k0_pay2 (F := Ideal)) slices_S64x2048_o0_0_S64x512 (ix2 p k) = if k.val % 64 = p.val then (1 : EReal) else 0 := fun k =>
    (extractStridedSlice_apply ![0, 0] _ _ (ix2 p k) (ix2 p (Fin.castLE (by decide) k : Fin 2048)) (fun a => match a with
      | ⟨0, _⟩ => (Nat.zero_add _).symm
      | ⟨1, _⟩ => (Nat.zero_add _).symm)).trans (sel_apply p _)
  have hy : ∀ k : Fin 512, select k0_pay4 u (broadcast S512x512 (Scalar.ofBits (F := Ideal) .f32 0x00000000#32)) (ix2 r k)
      = if r.val / 16 % 8 = k.val / 64 then u (ix2 r k) else 0 := fun k =>
    (congrArg (fun c => Scalar.select c (u (ix2 r k)) (Ideal.ofBits .f32 0x00000000#32)) (block_apply r k)).trans
      ((congrArg (Scalar.select _ _) Ideal.ofBits_zero_f32).trans (pick_if _ _ _))
  have e1 := parts512 _ _ u r p _ _ hy hz
  have e2 := pick_group (fun k => u (ix2 r k)) (fun k => hu (ix2 r k)) (r.val / 16 % 8) p.val p.isLt (own_lt r p)
    (fun k => if r.val / 16 % 8 = k.val / 64 then u (ix2 r k) else 0) (fun k => if k.val % 64 = p.val then (1 : EReal) else 0) (fun k => rfl) (fun k => rfl)
  exact e1.trans e2

end Cert.Kernel23Ideal.Hand

namespace Cert.Reference23Ideal.Hand

open Idealize.ShloMosaic Idealize.ShloMosaic.TcCoe Idealize.ShloMosaic.ValueIdx
open Cert.Reference23Ideal.Read Cert.Reference23Ideal Cert.Reference23Ideal.Gen Cert.Kernel23Ideal.Hand
open scoped BigOperators

/-- The reference's masked sum over the groups of a strip, of any block. -/
def own (u : FVec Ideal S512x512 .f32) : FVec Ideal S512x64 .f32 :=
  shapeCast _ (Host.reduceAdd (select (val_main_call0_v1 (F := Ideal)) (shapeCast _ u shapeCasts_S512x512_S4x8x16x8x64) (val_main_call0_v2 (F := Ideal)))
    (val_main_cst_3 (F := Ideal)) reducesTo_S4x8x16x8x64_S4x8x16x64_d3 h_S_) shapeCasts_S4x8x16x64_S512x64

/-- The four masked sums of the reference are that one: first of the left half of the input gradient. -/
theorem own_57 (x : FVec Ideal S512x1024 .f32) : val_main_v57 (F := Ideal) x = own (val_main_v47 (F := Ideal) x) := rfl
/-- The right half of the input gradient. -/
theorem own_68 (x : FVec Ideal S512x1024 .f32) : val_main_v68 (F := Ideal) x = own (val_main_v58 (F := Ideal) x) := rfl
/-- The left half of the output gradient. -/
theorem own_162 (x : FVec Ideal S512x1024 .f32) : val_main_v162 (F := Ideal) x = own (val_main_v47 (F := Ideal) x) := rfl
/-- The right half of the output gradient. -/
theorem own_173 (x : FVec Ideal S512x1024 .f32) : val_main_v173 (F := Ideal) x = own (val_main_v58 (F := Ideal) x) := rfl

/-- The masked sum keeps the entries of a channel's own group. -/
theorem own_apply (u : FVec Ideal S512x512 .f32) (r : Fin 512) (p : Fin 64) : own u (ix2 r p) = u (ix2 r ⟨r.val / 16 % 8 * 64 + p.val, own_lt r p⟩) := by
  obtain ⟨x, hx⟩ : ∃ x : FVec Ideal S512x1024 .f32, val_main_v47 (F := Ideal) x = u :=
    ⟨fun i => u (ix2 (i 0) ⟨(i 1).val % 512, Nat.mod_lt _ (by omega)⟩), by
      funext i
      obtain ⟨a, b, rfl⟩ : ∃ a b : Fin 512, i = ix2 a b := ⟨i 0, i 1, eq_ix2 i⟩
      rw [val_main_v47_apply]
      refine congrArg (fun c => u (ix2 a c)) (Fin.ext ?_)
      show b.val % 512 = b.val
      omega⟩
  rw [← hx, ← own_57, val_main_v57_apply, val_main_v56_apply, val_main_cst_3_apply]
  have hc : ∀ k : Fin 8, val_main_v55 (F := Ideal) x (idx_main_v56 (idx_main_v57 (ix2 r p)) k)
      = if r.val / 16 % 8 = k.val then val_main_v47 (F := Ideal) x (ix2 r ⟨k.val * 64 + p.val, by omega⟩) else 0 := fun k => by
    rw [val_main_v55_apply, val_main_call0_v1_apply, val_main_v53_apply, val_main_v52_apply, val_main_v51_apply, val_main_v48_apply, val_main_v49_apply,
      val_main_v50_apply, val_main_c_apply, val_main_v54_apply, val_main_call0_v2_apply]
    have e : IntOp.cmpi .eq (IntOp.addi (BitVec.ofNat 32 ((r.val * 64 + p.val) / 1024 % 8)) 0#32) (BitVec.ofNat 32 k.val) = if r.val / 16 % 8 = k.val then 1#1 else 0#1 := by
      rw [show IntOp.addi (BitVec.ofNat 32 ((r.val * 64 + p.val) / 1024 % 8)) 0#32 = BitVec.ofNat 32 (r.val / 16 % 8) by
        rw [show (r.val * 64 + p.val) / 1024 % 8 = r.val / 16 % 8 by omega]; exact BitVec.add_zero _, cmp_nat (by omega) (by omega)]
    refine (congrArg₂ (fun c a => Scalar.select c a (Ideal.ofBits .f32 0x00000000#32)) e ?_).trans (by rw [Ideal.ofBits_zero_f32]; exact pick_if _ _ _)
    refine congrArg (val_main_v47 (F := Ideal) x) (funext fun a => Fin.ext ?_)
    match a with
    | ⟨0, _⟩ =>
      show (((((r.val * 64 + p.val) / 8192 * 8 + (r.val * 64 + p.val) / 1024 % 8) * 16 + (r.val * 64 + p.val) / 64 % 16) * 8 + k.val) * 64 + (r.val * 64 + p.val) % 64) / 512 = r.val
      omega
    | ⟨1, _⟩ =>
      show (((((r.val * 64 + p.val) / 8192 * 8 + (r.val * 64 + p.val) / 1024 % 8) * 16 + (r.val * 64 + p.val) / 64 % 16) * 8 + k.val) * 64 + (r.val * 64 + p.val) % 64) % 512 = k.val * 64 + p.val
      omega
  simp only [hc]
  refine (congrArg (· + _) Ideal.ofBits_zero_f32).trans ?_
  rw [zero_add, Finset.sum_eq_single (⟨r.val / 16 % 8, by omega⟩ : Fin 8) (fun k _ hk => if_neg fun h => hk (Fin.ext h.symm)) (fun h => absurd (Finset.mem_univ _) h)]
  exact if_pos rfl

end Cert.Reference23Ideal.Hand

end
-- ==== Proof.ParamStages.lean ====
/-
  The kernel's stages are the reference's: the same operations in the same order, up to the layout operations and the
  names of the sums and the negations.
-/
module

public import proofs.«01_k».proof.Proof.ParamSel
public import Idealize.ShloMosaic.Lib.KernelVsHost

@[expose] public section

set_option maxRecDepth 16384

noncomputable section

namespace Cert.Kernel23Ideal.Hand

open Idealize.ShloMosaic Idealize.ShloMosaic.TcCoe Idealize.ShloMosaic.ValueIdx
open Cert.Kernel23Ideal.Gen Cert.Kernel23Ideal
open Cert.Reference23Ideal.Read Cert.Reference23Ideal.Hand

/-- A column spread along its rows. -/
theorem spread (x : FVec Ideal S32x1 .f32) : broadcastTo S32x64 x broadcasts_S32x1_S32x64
    = broadcastInDim S32x64 ![0, 1] Cert.Reference23Ideal.Gen.bcast_S32x1_S32x64_0_1 x := by
  funext i
  refine (broadcastTo_apply x _ i (ix2 (i 0) (0 : Fin 1)) fun a => ?_).trans (broadcastInDim_apply _ _ x i (ix2 (i 0) (0 : Fin 1)) fun a => ?_).symm
  · match a with
    | ⟨0, _⟩ => rfl
    | ⟨1, _⟩ => rfl
  · match a with
    | ⟨0, _⟩ => rfl
    | ⟨1, _⟩ => rfl

/-- A matrix with a unit axis put in the middle. -/
theorem middle (x : FVec Ideal S32x64 .f32) : shapeCast S32x1x64 x shapeCasts_S32x64_S32x1x64
    = broadcastInDim S32x1x64 ![0, 2] Cert.Reference23Ideal.Gen.bcast_S32x64_S32x1x64_0_2 x := by
  funext i
  refine (shapeCast_apply x _ i (ix2 (i 0) (i 2)) ?_).trans (broadcastInDim_apply _ _ x i (ix2 (i 0) (i 2)) fun a => ?_).symm
  · rw [Shape.rowMajor_val_two, Shape.rowMajor_val_three]
    have h1 : (i 1).val < 1 := (i 1).isLt
    show (i 0).val * 64 + (i 2).val = ((i 0).val * 1 + (i 1).val) * 64 + (i 2).val
    omega
  · match a with
    | ⟨0, _⟩ => rfl
    | ⟨1, _⟩ => rfl

/-- A unit axis in the middle spread over sixteen channels. -/
theorem channels (x : FVec Ideal S32x1x64 .f32) : broadcastTo S32x16x64 x broadcasts_S32x1x64_S32x16x64
    = broadcastInDim S32x16x64 ![0, 1, 2] Cert.Reference23Ideal.Gen.bcast_S32x1x64_S32x16x64_0_1_2 x := by
  funext i
  refine (broadcastTo_apply x _ i (ix3 (i 0) (0 : Fin 1) (i 2)) fun a => ?_).trans (broadcastInDim_apply _ _ x i (ix3 (i 0) (0 : Fin 1) (i 2)) fun a => ?_).symm
  · match a with
    | ⟨0, _⟩ => rfl
    | ⟨1, _⟩ => rfl
    | ⟨2, _⟩ => rfl
  · match a with
    | ⟨0, _⟩ => rfl
    | ⟨1, _⟩ => rfl
    | ⟨2, _⟩ => rfl

/-- A number less a value is, from zero, the value negated. -/
theorem zero_sub (s : Shape) (x : FVec Ideal s .f32) : subf (broadcast s (Scalar.ofBits .f32 0x00000000#32)) x = Host.negf x := subf_zero_eq_hostNegf x

/-- The sums over the channels of a group, over a unit axis, and over the states. -/
theorem sum16 (x : FVec Ideal S32x16x64 .f32) : multiReduction .add [1] S32x64 x 0x00000000#32 reduces_S32x16x64_S32x64 (.inl rfl) rfl
    = Host.reduceAdd x (val_main_cst_7 (F := Ideal)) Cert.Reference23Ideal.Gen.reducesTo_S32x16x64_S32x64_d1 Cert.Reference23Ideal.Gen.h_S_ :=
  multiReduction_add_eq_hostReduceAdd _ _ _ _ _ _ _ _ Ideal.ofBits_zero_f32
/-- The sum over a unit axis. -/
theorem sum1 (x : FVec Ideal S32x1x64 .f32) : multiReduction .add [1] S32x64 x 0x00000000#32 reduces_S32x1x64_S32x64 (.inl rfl) rfl
    = Host.reduceAdd x (val_main_cst_8 (F := Ideal)) Cert.Reference23Ideal.Gen.reducesTo_S32x1x64_S32x64_d1 Cert.Reference23Ideal.Gen.h_S_ :=
  multiReduction_add_eq_hostReduceAdd _ _ _ _ _ _ _ _ Ideal.ofBits_zero_f32
/-- The sum over the states. -/
theorem sum64 (x : FVec Ideal S32x64 .f32) : multiReduction .add [1] S32 x 0x00000000#32 reduces_S32x64_S32 (.inl rfl) rfl
    = Host.reduceAdd x (val_main_cst_11 (F := Ideal)) Cert.Reference23Ideal.Gen.reducesTo_S32x64_S32_d1 Cert.Reference23Ideal.Gen.h_S_ :=
  multiReduction_add_eq_hostReduceAdd _ _ _ _ _ _ _ _ Ideal.ofBits_zero_f32

/-- The constant one spread over a matrix. -/
theorem ones : broadcast S32x64 (Scalar.ofBits (F := Ideal) .f32 0x3F800000#32) = val_main_v17 (F := Ideal) :=
  (broadcastInDim_constant _ _ _).symm
/-- The pointwise functions have one meaning in the kernel and outside it. -/
theorem exp_host {s : Shape} (x : FVec Ideal s .f32) : exp x = Host.exp x := rfl
/-- The sine has one meaning in the kernel and outside it. -/
theorem sin_host {s : Shape} (x : FVec Ideal s .f32) : sin x = Host.sin x := rfl
/-- The cosine has one meaning in the kernel and outside it. -/
theorem cos_host {s : Shape} (x : FVec Ideal s .f32) : cos x = Host.cos x := rfl
/-- The quotient has one meaning in the kernel and outside it. -/
theorem div_host {s : Shape} (x y : FVec Ideal s .f32) : divf x y = Host.divf x y := rfl

section
variable (x0 x1 : FVec Ideal S32x64 .f32) (x2 : FVec Ideal S32x1 .f32) (x3 x4 : FVec Ideal S512x64 .f32)
  (x5 x6 : FVec Ideal S1x2048 .f32) (x7 x8 : FVec Ideal S512x1024 .f32)

/-- The stages before the gradients. -/
theorem s5 : k0_pay5 (F := Ideal) x2 = val_main_v0 (F := Ideal) x2 := rfl
/-- The sizes of the transition. -/
theorem s6 : k0_pay6 (F := Ideal) x0 x2 = val_main_v3 (F := Ideal) x0 x2 := by unfold k0_pay6; dsimp only; rw [s5, spread]; rfl
/-- The angles. -/
theorem s7 : k0_pay7 (F := Ideal) x1 x2 = val_main_v5 (F := Ideal) x1 x2 := by unfold k0_pay7; dsimp only; rw [s5, spread]; rfl
/-- The cosines of the angles. -/
theorem s8 : k0_pay8 (F := Ideal) x1 x2 = val_main_v6 (F := Ideal) x1 x2 := by unfold k0_pay8; dsimp only; rw [s7]; rfl
/-- The sines of the angles. -/
theorem s9 : k0_pay9 (F := Ideal) x1 x2 = val_main_v7 (F := Ideal) x1 x2 := by unfold k0_pay9; dsimp only; rw [s7]; rfl
/-- The real parts of the transition. -/
theorem s10 : k0_pay10 (F := Ideal) x0 x1 x2 = val_main_v8 (F := Ideal) x0 x1 x2 := by unfold k0_pay10; dsimp only; rw [s6, s8]; rfl
/-- The angles once more. -/
theorem s11 : k0_pay11 (F := Ideal) x1 x2 = val_main_v10 (F := Ideal) x1 x2 := by unfold k0_pay11; dsimp only; rw [s5, spread]; rfl
/-- The sines once more. -/
theorem s12 : k0_pay12 (F := Ideal) x1 x2 = val_main_v11 (F := Ideal) x1 x2 := by unfold k0_pay12; dsimp only; rw [s11]; rfl
/-- The cosines once more. -/
theorem s13 : k0_pay13 (F := Ideal) (val_main_v10 (F := Ideal) x1 x2) = val_main_v12 (F := Ideal) x1 x2 := rfl
/-- The imaginary parts of the transition. -/
theorem s14 : k0_pay14 (F := Ideal) (val_main_v3 (F := Ideal) x0 x2) (val_main_v11 (F := Ideal) x1 x2) = val_main_v13 (F := Ideal) x0 x1 x2 := rfl
/-- The squares of the exponents. -/
theorem s15 : k0_pay15 (F := Ideal) x0 x1 = val_main_v16 (F := Ideal) x0 x1 := rfl
/-- The real parts less one. -/
theorem s16 : k0_pay16 (F := Ideal) (val_main_v8 (F := Ideal) x0 x1 x2) = val_main_v18 (F := Ideal) x0 x1 x2 := by unfold k0_pay16; dsimp only; rw [ones]; rfl
/-- The numerator of the real quotient. -/
theorem s17 : k0_pay17 (F := Ideal) x0 x1 (val_main_v3 (F := Ideal) x0 x2) (val_main_v8 (F := Ideal) x0 x1 x2) (val_main_v11 (F := Ideal) x1 x2)
    = val_main_v21 (F := Ideal) x0 x1 x2 := by unfold k0_pay17; dsimp only; rw [s14, s16]; rfl
/-- The factor of the real quotient in its derivative. -/
theorem s18 : k0_pay18 (F := Ideal) x0 x1 = val_main_v25 (F := Ideal) x0 x1 := by unfold k0_pay18; dsimp only; rw [s15, ones]; rfl
/-- The numerator of the imaginary quotient. -/
theorem s19 : k0_pay19 (F := Ideal) x0 x1 (val_main_v3 (F := Ideal) x0 x2) (val_main_v8 (F := Ideal) x0 x1 x2) (val_main_v11 (F := Ideal) x1 x2)
    = val_main_v28 (F := Ideal) x0 x1 x2 := by unfold k0_pay19; dsimp only; rw [s14, s16]; rfl
/-- The factor of the imaginary quotient in its derivative. -/
theorem s20 : k0_pay20 (F := Ideal) x0 x1 = val_main_v32 (F := Ideal) x0 x1 := by unfold k0_pay20; dsimp only; rw [s15, ones]; rfl
/-- The real quotients spread over the channels. -/
theorem s21 : k0_pay21 (F := Ideal) x0 x1 (val_main_v3 (F := Ideal) x0 x2) (val_main_v8 (F := Ideal) x0 x1 x2) (val_main_v11 (F := Ideal) x1 x2)
    = val_main_v35 (F := Ideal) x0 x1 x2 := by unfold k0_pay21; dsimp only; rw [s17, s15, middle, shapeCast_self, channels]; rfl
/-- The imaginary quotients spread over the channels. -/
theorem s22 : k0_pay22 (F := Ideal) x0 x1 (val_main_v3 (F := Ideal) x0 x2) (val_main_v8 (F := Ideal) x0 x1 x2) (val_main_v11 (F := Ideal) x1 x2)
    = val_main_v38 (F := Ideal) x0 x1 x2 := by unfold k0_pay22; dsimp only; rw [s19, s15, middle, shapeCast_self, channels]; rfl

/-- The halves of a gradient. -/
theorem left : View.ld x7 r0_4 = val_main_v47 (F := Ideal) x7 := View.ld_unit _ _ _ _
/-- The right half of a gradient. -/
theorem right : View.ld x7 r0_5 = val_main_v58 (F := Ideal) x7 := View.ld_unit _ _ _ _

variable (h5 : ∀ i, ∃ a : ℝ, x5 i = a) (h6 : ∀ i, ∃ a : ℝ, x6 i = a) (h7 : ∀ i, ∃ a : ℝ, x7 i = a) (h8 : ∀ i, ∃ a : ℝ, x8 i = a)

/-- The collected halves. -/
theorem collected (u : FVec Ideal S512x512 .f32) (hu : ∀ i, ∃ a : ℝ, u i = a) : k0_pay25 (F := Ideal) k0_pay2 k0_pay4 u = own u := by
  funext i
  obtain ⟨r, p, rfl⟩ : ∃ (r : Fin 512) (p : Fin 64), i = ix2 r p := ⟨i 0, i 1, eq_ix2 i⟩
  exact (blocks u hu r p).trans (own_apply u r p).symm
/-- The left half of a real gradient is real. -/
theorem left_real (h7 : ∀ i, ∃ a : ℝ, x7 i = a) : ∀ i, ∃ a : ℝ, val_main_v47 (F := Ideal) x7 i = a := fun i => by rw [val_main_v47_apply]; exact h7 _
/-- The right half of a real gradient is real. -/
theorem right_real (h7 : ∀ i, ∃ a : ℝ, x7 i = a) : ∀ i, ∃ a : ℝ, val_main_v58 (F := Ideal) x7 i = a := fun i => by rw [val_main_v58_apply]; exact h7 _

/-- The right half of the input gradient, collected in two steps. -/
theorem s31 (u : FVec Ideal S512x512 .f32) (hu : ∀ i, ∃ a : ℝ, u i = a) : k0_pay31 (F := Ideal) (k0_pay27 k0_pay2) (k0_pay28 k0_pay4 u) (k0_pay29 k0_pay4 u) (k0_pay30 k0_pay4 u) = own u :=
  (show _ = k0_pay25 (F := Ideal) k0_pay2 k0_pay4 u from rfl).trans (collected u hu)
/-- The left half of the output gradient, collected. -/
theorem s56 (u : FVec Ideal S512x512 .f32) (hu : ∀ i, ∃ a : ℝ, u i = a) : k0_pay56 (F := Ideal) k0_pay2 k0_pay4 u = own u :=
  (show _ = k0_pay25 (F := Ideal) k0_pay2 k0_pay4 u from rfl).trans (collected u hu)
/-- The right half of the output gradient, collected and negated. -/
theorem s1 (u : FVec Ideal S512x512 .f32) (hu : ∀ i, ∃ a : ℝ, u i = a) : k0_pay1 (F := Ideal) (k0_pay58 k0_pay2) (k0_pay61 k0_pay4 u) (k0_pay62 k0_pay4 u) (k0_pay63 k0_pay2 k0_pay4 u) (Scalar.ofBits .f32 0x00000000#32)
    = Host.negf (own u) :=
  (show _ = subf (broadcast S512x64 (Scalar.ofBits .f32 0x00000000#32)) (k0_pay25 (F := Ideal) k0_pay2 k0_pay4 u) from rfl).trans
    ((zero_sub _ _).trans (congrArg Host.negf (collected u hu)))
/-- The second gradient as a matrix of groups. -/
theorem s24 (x : FVec Ideal S1x2048 .f32) (hx : ∀ i, ∃ a : ℝ, x i = a) : k0_pay24 (F := Ideal) k0_pay2 k0_pay3 x = val_main_v46 (F := Ideal) x :=
  (show _ = k0_pay23 (F := Ideal) k0_pay2 k0_pay3 x from rfl).trans (unflat x hx)

end

section
variable (x0 x1 : FVec Ideal S32x64 .f32) (x2 : FVec Ideal S32x1 .f32) (x3 x4 : FVec Ideal S512x64 .f32)
  (x5 x6 : FVec Ideal S1x2048 .f32) (x7 : FVec Ideal S512x1024 .f32)
  (a : FVec Ideal S64x512 .bf16) (b : FVec Ideal S512x512 .bf16) (c : FVec Ideal S512x512 .f32) (d : FVec Ideal S512x512 .bf16)
  (H : k0_pay31 (F := Ideal) a b c d = val_main_v68 (F := Ideal) x7)

include H

/-- The stages that read the block gradient. -/
theorem s33 : k0_pay33 (F := Ideal) (val_main_v35 (F := Ideal) x0 x1 x2) (val_main_v38 (F := Ideal) x0 x1 x2) (val_main_v57 (F := Ideal) x7) a b c d
    = val_main_v75 (F := Ideal) x0 x1 x2 x7 := by unfold k0_pay33 k0_pay32; dsimp only; rw [H, zero_sub]; rfl
/-- The gradient of the real input weights. -/
theorem s34 : k0_pay34 (F := Ideal) (val_main_v35 (F := Ideal) x0 x1 x2) (val_main_v38 (F := Ideal) x0 x1 x2) (val_main_v57 (F := Ideal) x7) a b c d
    = val_main_v79 (F := Ideal) x0 x1 x2 x7 := by unfold k0_pay34; dsimp only; rw [H]; rfl
/-- The sums behind the imaginary quotients. -/
theorem s35 : k0_pay35 (F := Ideal) x3 x4 (val_main_v57 (F := Ideal) x7) a b c d = val_main_v85 (F := Ideal) x3 x4 x7 := by
  unfold k0_pay35 k0_pay32; dsimp only; rw [H, zero_sub, sum16, middle, sum1]; rfl
/-- The sums behind the real quotients. -/
theorem s36 : k0_pay36 (F := Ideal) x3 x4 (val_main_v57 (F := Ideal) x7) a b c d = val_main_v89 (F := Ideal) x3 x4 x7 := by
  unfold k0_pay36; dsimp only; rw [H, sum16, middle, sum1]; rfl
/-- The imaginary gradient through the division. -/
theorem s37 : k0_pay37 (F := Ideal) x3 x4 (val_main_v28 (F := Ideal) x0 x1 x2) (val_main_v32 (F := Ideal) x0 x1) (val_main_v57 (F := Ideal) x7) a b c d
    = val_main_v92 (F := Ideal) x0 x1 x2 x3 x4 x7 := by unfold k0_pay37; dsimp only; rw [s35 x3 x4 x7 a b c d H, zero_sub]; rfl
/-- The imaginary sums over the squares. -/
theorem s38 : k0_pay38 (F := Ideal) x3 x4 (val_main_v16 (F := Ideal) x0 x1) (val_main_v57 (F := Ideal) x7) a b c d = val_main_v93 (F := Ideal) x0 x1 x3 x4 x7 := by
  unfold k0_pay38; dsimp only; rw [s35 x3 x4 x7 a b c d H]; rfl
/-- The imaginary sums over the squares, negated. -/
theorem s39 : k0_pay39 (F := Ideal) x3 x4 (val_main_v16 (F := Ideal) x0 x1) (val_main_v57 (F := Ideal) x7) a b c d = val_main_v94 (F := Ideal) x0 x1 x3 x4 x7 := by
  unfold k0_pay39; dsimp only; rw [s38 x0 x1 x3 x4 x7 a b c d H, zero_sub]; rfl
/-- Their product with the real parts less one. -/
theorem s40 : k0_pay40 (F := Ideal) x3 x4 (val_main_v16 (F := Ideal) x0 x1) (val_main_v18 (F := Ideal) x0 x1 x2) (val_main_v57 (F := Ideal) x7) a b c d
    = val_main_v95 (F := Ideal) x0 x1 x2 x3 x4 x7 := by unfold k0_pay40; dsimp only; rw [s39 x0 x1 x3 x4 x7 a b c d H]; rfl
/-- The gradient of the real parts. -/
theorem s41 : k0_pay41 (F := Ideal) x1 x3 x4 (val_main_v16 (F := Ideal) x0 x1) (val_main_v45 (F := Ideal) x5) (val_main_v57 (F := Ideal) x7) a b c d
    = val_main_v97 (F := Ideal) x0 x1 x3 x4 x5 x7 := by unfold k0_pay41; dsimp only; rw [s39 x0 x1 x3 x4 x7 a b c d H]; rfl
/-- The product of the sums with the imaginary parts. -/
theorem s42 : k0_pay42 (F := Ideal) x3 x4 (val_main_v13 (F := Ideal) x0 x1 x2) (val_main_v16 (F := Ideal) x0 x1) (val_main_v57 (F := Ideal) x7) a b c d
    = val_main_v98 (F := Ideal) x0 x1 x2 x3 x4 x7 := by unfold k0_pay42; dsimp only; rw [s38 x0 x1 x3 x4 x7 a b c d H]; rfl
/-- The gradient of the imaginary parts. -/
theorem s43 : k0_pay43 (F := Ideal) x0 x3 x4 (val_main_v16 (F := Ideal) x0 x1) (val_main_v46 (F := Ideal) x6) (val_main_v57 (F := Ideal) x7) a b c d
    = val_main_v100 (F := Ideal) x0 x1 x3 x4 x6 x7 := by unfold k0_pay43; dsimp only; rw [s38 x0 x1 x3 x4 x7 a b c d H]; rfl
/-- The real gradient through the division. -/
theorem s44 : k0_pay44 (F := Ideal) x3 x4 (val_main_v21 (F := Ideal) x0 x1 x2) (val_main_v25 (F := Ideal) x0 x1) (val_main_v57 (F := Ideal) x7) a b c d
    = val_main_v102 (F := Ideal) x0 x1 x2 x3 x4 x7 := by unfold k0_pay44; dsimp only; rw [s36 x3 x4 x7 a b c d H]; rfl

end

section
variable (x0 x1 : FVec Ideal S32x64 .f32) (x2 : FVec Ideal S32x1 .f32) (x3 x4 : FVec Ideal S512x64 .f32)
  (x5 x6 : FVec Ideal S1x2048 .f32) (x7 : FVec Ideal S512x1024 .f32)

/-- The stages after the sums. -/
theorem s46 : k0_pay46 (F := Ideal) (val_main_v92 (F := Ideal) x0 x1 x2 x3 x4 x7) (val_main_v102 (F := Ideal) x0 x1 x2 x3 x4 x7) (k0_pay45 (F := Ideal))
    = val_main_v104 (F := Ideal) x0 x1 x2 x3 x4 x7 := by unfold k0_pay46 k0_pay45; dsimp only; rw [zero_sub]; rfl
/-- The real sums over the squares. -/
theorem s47 : k0_pay47 (F := Ideal) (val_main_v16 (F := Ideal) x0 x1) (val_main_v89 (F := Ideal) x3 x4 x7) = val_main_v105 (F := Ideal) x0 x1 x3 x4 x7 := rfl
/-- The whole gradient of the imaginary parts. -/
theorem s48 : k0_pay48 (F := Ideal) x1 (val_main_v16 (F := Ideal) x0 x1) (val_main_v89 (F := Ideal) x3 x4 x7) (val_main_v100 (F := Ideal) x0 x1 x3 x4 x6 x7)
    = val_main_v109 (F := Ideal) x0 x1 x3 x4 x6 x7 := by unfold k0_pay48; dsimp only; rw [s47]; rfl
/-- The whole gradient of the real parts. -/
theorem s49 : k0_pay49 (F := Ideal) x0 (val_main_v16 (F := Ideal) x0 x1) (val_main_v89 (F := Ideal) x3 x4 x7) (val_main_v97 (F := Ideal) x0 x1 x3 x4 x5 x7)
    = val_main_v113 (F := Ideal) x0 x1 x3 x4 x5 x7 := by unfold k0_pay49; dsimp only; rw [s47]; rfl
/-- The gradient of the angles through the sine. -/
theorem s50 : k0_pay50 (F := Ideal) x1 (val_main_v3 (F := Ideal) x0 x2) (val_main_v12 (F := Ideal) x1 x2) (val_main_v16 (F := Ideal) x0 x1) (val_main_v89 (F := Ideal) x3 x4 x7)
    (val_main_v100 (F := Ideal) x0 x1 x3 x4 x6 x7) = val_main_v124 (F := Ideal) x0 x1 x2 x3 x4 x6 x7 := by unfold k0_pay50; dsimp only; rw [s48]; rfl
/-- The gradient of the angles through the cosine. -/
theorem s51 : k0_pay51 (F := Ideal) x0 (val_main_v3 (F := Ideal) x0 x2) (val_main_v7 (F := Ideal) x1 x2) (val_main_v16 (F := Ideal) x0 x1) (val_main_v89 (F := Ideal) x3 x4 x7)
    (val_main_v97 (F := Ideal) x0 x1 x3 x4 x5 x7) = val_main_v135 (F := Ideal) x0 x1 x2 x3 x4 x5 x7 := by unfold k0_pay51; dsimp only; rw [s49, zero_sub]; rfl
/-- The gradient of the exponents times the step. -/
theorem s53 : k0_pay53 (F := Ideal) x0 x1 (val_main_v3 (F := Ideal) x0 x2) (val_main_v6 (F := Ideal) x1 x2) (val_main_v11 (F := Ideal) x1 x2) (val_main_v16 (F := Ideal) x0 x1)
    (val_main_v89 (F := Ideal) x3 x4 x7) (val_main_v97 (F := Ideal) x0 x1 x3 x4 x5 x7) (val_main_v100 (F := Ideal) x0 x1 x3 x4 x6 x7)
    = val_main_v143 (F := Ideal) x0 x1 x2 x3 x4 x5 x6 x7 := by unfold k0_pay53; dsimp only; rw [s48, s49]; rfl

/-- The three gradients of the continuous parameters. -/
theorem s52 : k0_pay52 (F := Ideal) x0 x1 (val_main_v0 (F := Ideal) x2) (val_main_v3 (F := Ideal) x0 x2) (val_main_v7 (F := Ideal) x1 x2) (val_main_v12 (F := Ideal) x1 x2)
    (val_main_v13 (F := Ideal) x0 x1 x2) (val_main_v16 (F := Ideal) x0 x1) (val_main_v89 (F := Ideal) x3 x4 x7) (val_main_v92 (F := Ideal) x0 x1 x2 x3 x4 x7)
    (val_main_v95 (F := Ideal) x0 x1 x2 x3 x4 x7) (val_main_v97 (F := Ideal) x0 x1 x3 x4 x5 x7) (val_main_v100 (F := Ideal) x0 x1 x3 x4 x6 x7)
    (val_main_v102 (F := Ideal) x0 x1 x2 x3 x4 x7) (k0_pay45 (F := Ideal)) = val_main_v142 (F := Ideal) x0 x1 x2 x3 x4 x5 x6 x7 := by
  unfold k0_pay52; dsimp only; rw [s46, s47, s50, s51, spread]; rfl
/-- The gradient of the real exponents. -/
theorem s54 : k0_pay54 (F := Ideal) x0 x1 (val_main_v0 (F := Ideal) x2) (val_main_v3 (F := Ideal) x0 x2) (val_main_v6 (F := Ideal) x1 x2) (val_main_v11 (F := Ideal) x1 x2)
    (val_main_v16 (F := Ideal) x0 x1) (val_main_v18 (F := Ideal) x0 x1 x2) (val_main_v89 (F := Ideal) x3 x4 x7) (val_main_v92 (F := Ideal) x0 x1 x2 x3 x4 x7)
    (val_main_v97 (F := Ideal) x0 x1 x3 x4 x5 x7) (val_main_v98 (F := Ideal) x0 x1 x2 x3 x4 x7) (val_main_v100 (F := Ideal) x0 x1 x3 x4 x6 x7)
    (val_main_v102 (F := Ideal) x0 x1 x2 x3 x4 x7) (k0_pay45 (F := Ideal)) = val_main_v150 (F := Ideal) x0 x1 x2 x3 x4 x5 x6 x7 := by
  unfold k0_pay54; dsimp only; rw [s46, s47, s53, spread]; rfl
/-- The gradient of the logarithms of the time steps. -/
theorem s55 : k0_pay55 (F := Ideal) x0 x1 (val_main_v0 (F := Ideal) x2) (val_main_v3 (F := Ideal) x0 x2) (val_main_v6 (F := Ideal) x1 x2) (val_main_v7 (F := Ideal) x1 x2)
    (val_main_v11 (F := Ideal) x1 x2) (val_main_v12 (F := Ideal) x1 x2) (val_main_v16 (F := Ideal) x0 x1) (val_main_v89 (F := Ideal) x3 x4 x7)
    (val_main_v97 (F := Ideal) x0 x1 x3 x4 x5 x7) (val_main_v100 (F := Ideal) x0 x1 x3 x4 x6 x7) = val_main_v151 (F := Ideal) x0 x1 x2 x3 x4 x5 x6 x7 := by
  unfold k0_pay55; dsimp only; rw [s50, s51, s53, sum64, sum64, sum64]; rfl

end

end Cert.Kernel23Ideal.Hand

end
-- ==== Proof.ParamOut.lean ====
/-
  What the call's one grid point leaves in each of its seven result blocks is the reference's result of the blocks it read.
-/
module

public import proofs.«01_k».proof.Proof.ParamStages

@[expose] public section

set_option maxRecDepth 16384

noncomputable section

namespace Cert.Kernel23Ideal.Hand

open Idealize.ShloMosaic Idealize.ShloMosaic.TcCoe Idealize.ShloMosaic.ValueIdx
open Cert.Kernel23Ideal.Gen Cert.Kernel23Ideal
open Cert.Reference23Ideal.Read Cert.Reference23Ideal.Hand

/-- Two zero offsets are the zero offsets. -/
theorem zeros : (![0, 0] : Fin 2 → ℕ) = fun _ => 0 := funext fun a => match a with
  | ⟨0, _⟩ => rfl
  | ⟨1, _⟩ => rfl

/-- A whole state matrix read is that state matrix. -/
theorem ld0 (x : Vec Ideal S32x64 .f32) : View.ld x r0_0 = x := View.ld_unit_zero (S := S32x64) zeros _ x
/-- A whole column read is that column. -/
theorem ld1 (x : Vec Ideal S32x1 .f32) : View.ld x r0_1 = x := View.ld_unit_zero (S := S32x1) zeros _ x
/-- A whole channel matrix read is that channel matrix. -/
theorem ld2 (x : Vec Ideal S512x64 .f32) : View.ld x r0_2 = x := View.ld_unit_zero (S := S512x64) zeros _ x
/-- A whole row read is that row. -/
theorem ld3 (x : Vec Ideal S1x2048 .f32) : View.ld x r0_3 = x := View.ld_unit_zero (S := S1x2048) zeros _ x
/-- A whole state matrix written is what the block then holds. -/
theorem put0 (w : Vec Ideal S32x64 .f32) : View.canon [(⟨r0_0, w⟩ : View.Piece (Elt Ideal) S32x64 .f32)] = w :=
  View.canon_cons_unit_zero (S := S32x64) zeros _ w []
/-- A whole column written is what the block then holds. -/
theorem put1 (w : Vec Ideal S32x1 .f32) : View.canon [(⟨r0_1, w⟩ : View.Piece (Elt Ideal) S32x1 .f32)] = w :=
  View.canon_cons_unit_zero (S := S32x1) zeros _ w []
/-- A whole channel matrix written is what the block then holds. -/
theorem put2 (w : Vec Ideal S512x64 .f32) : View.canon [(⟨r0_2, w⟩ : View.Piece (Elt Ideal) S512x64 .f32)] = w :=
  View.canon_cons_unit_zero (S := S512x64) zeros _ w []

section
variable (x0 x1 : Vec Ideal S32x64 .f32) (x2 : Vec Ideal S32x1 .f32) (x3 x4 : Vec Ideal S512x64 .f32)
  (x5 x6 : Vec Ideal S1x2048 .f32) (x7 x8 : Vec Ideal S512x1024 .f32)

/-- The time steps. -/
theorem p67 : k0_pay67 (F := Ideal) x0 x1 x2 x3 x4 x5 x6 x7 x8 = val_main_v0 (F := Ideal) x2 := by
  unfold k0_pay67; rw [ld1, s5]
/-- The sizes of the transition. -/
theorem p68 : k0_pay68 (F := Ideal) x0 x1 x2 x3 x4 x5 x6 x7 x8 = val_main_v3 (F := Ideal) x0 x2 := by
  unfold k0_pay68; rw [ld0, ld1, s6]
/-- The cosines of the angles. -/
theorem p69 : k0_pay69 (F := Ideal) x0 x1 x2 x3 x4 x5 x6 x7 x8 = val_main_v6 (F := Ideal) x1 x2 := by
  unfold k0_pay69; rw [ld0, ld1, s8]
/-- The sines of the angles. -/
theorem p70 : k0_pay70 (F := Ideal) x0 x1 x2 x3 x4 x5 x6 x7 x8 = val_main_v7 (F := Ideal) x1 x2 := by
  unfold k0_pay70; rw [ld0, ld1, s9]
/-- The real parts of the transition. -/
theorem p71 : k0_pay71 (F := Ideal) x0 x1 x2 x3 x4 x5 x6 x7 x8 = val_main_v8 (F := Ideal) x0 x1 x2 := by
  unfold k0_pay71; rw [ld0, ld0, ld1, s10]
/-- The sines once more. -/
theorem p72 : k0_pay72 (F := Ideal) x0 x1 x2 x3 x4 x5 x6 x7 x8 = val_main_v11 (F := Ideal) x1 x2 := by
  unfold k0_pay72; rw [ld0, ld1, s12]
/-- The cosines once more. -/
theorem p73 : k0_pay73 (F := Ideal) x0 x1 x2 x3 x4 x5 x6 x7 x8 = val_main_v12 (F := Ideal) x1 x2 := by
  unfold k0_pay73; rw [ld0, ld1, s11, s13]
/-- The imaginary parts of the transition. -/
theorem p74 : k0_pay74 (F := Ideal) x0 x1 x2 x3 x4 x5 x6 x7 x8 = val_main_v13 (F := Ideal) x0 x1 x2 := by
  unfold k0_pay74; rw [p68 x0 x1 x2 x3 x4 x5 x6 x7 x8, p72 x0 x1 x2 x3 x4 x5 x6 x7 x8, s14]
/-- The squares of the exponents. -/
theorem p75 : k0_pay75 (F := Ideal) x0 x1 x2 x3 x4 x5 x6 x7 x8 = val_main_v16 (F := Ideal) x0 x1 := by
  unfold k0_pay75; rw [ld0, ld0, s15]
/-- The real parts less one. -/
theorem p76 : k0_pay76 (F := Ideal) x0 x1 x2 x3 x4 x5 x6 x7 x8 = val_main_v18 (F := Ideal) x0 x1 x2 := by
  unfold k0_pay76; rw [p71 x0 x1 x2 x3 x4 x5 x6 x7 x8, s16]
/-- The real quotients spread over the channels. -/
theorem p77 : k0_pay77 (F := Ideal) x0 x1 x2 x3 x4 x5 x6 x7 x8 = val_main_v35 (F := Ideal) x0 x1 x2 := by
  unfold k0_pay77; rw [ld0, ld0, p68 x0 x1 x2 x3 x4 x5 x6 x7 x8, p71 x0 x1 x2 x3 x4 x5 x6 x7 x8, p72 x0 x1 x2 x3 x4 x5 x6 x7 x8, s21]
/-- The imaginary quotients spread over the channels. -/
theorem p78 : k0_pay78 (F := Ideal) x0 x1 x2 x3 x4 x5 x6 x7 x8 = val_main_v38 (F := Ideal) x0 x1 x2 := by
  unfold k0_pay78; rw [ld0, ld0, p68 x0 x1 x2 x3 x4 x5 x6 x7 x8, p71 x0 x1 x2 x3 x4 x5 x6 x7 x8, p72 x0 x1 x2 x3 x4 x5 x6 x7 x8, s22]

/-- The left half of the third gradient, collected. -/
theorem p79 (h7 : ∀ i, ∃ a : ℝ, x7 i = a) : k0_pay79 (F := Ideal) x0 x1 x2 x3 x4 x5 x6 x7 x8 = val_main_v57 (F := Ideal) x7 := by
  unfold k0_pay79 k0_pay64 k0_pay66; rw [left, collected _ (left_real _ h7), own_57]
/-- The right half of the third gradient, collected. -/
theorem p31 (h7 : ∀ i, ∃ a : ℝ, x7 i = a) : k0_pay31 (F := Ideal) (k0_pay80 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8) = val_main_v68 (F := Ideal) x7 := by
  unfold k0_pay80 k0_pay81 k0_pay82 k0_pay83 k0_pay64 k0_pay66; rw [right, s31 _ (right_real _ h7), own_68]
/-- The first gradient as a matrix of groups. -/
theorem p23 (h5 : ∀ i, ∃ a : ℝ, x5 i = a) : k0_pay23 (F := Ideal) (k0_pay64 x0 x1 x2 x3 x4 x5 x6 x7 x8) (k0_pay65 x0 x1 x2 x3 x4 x5 x6 x7 x8) (View.ld x5 r0_3) = val_main_v45 (F := Ideal) x5 := by
  unfold k0_pay64 k0_pay65; rw [ld3, unflat x5 h5]
/-- The second gradient as a matrix of groups. -/
theorem p24 (h6 : ∀ i, ∃ a : ℝ, x6 i = a) : k0_pay24 (F := Ideal) (k0_pay64 x0 x1 x2 x3 x4 x5 x6 x7 x8) (k0_pay65 x0 x1 x2 x3 x4 x5 x6 x7 x8) (View.ld x6 r0_3) = val_main_v46 (F := Ideal) x6 := by
  unfold k0_pay64 k0_pay65; rw [ld3, s24 x6 h6]

/-- The sums behind the real quotients. -/
theorem p84 (h7 : ∀ i, ∃ a : ℝ, x7 i = a) : k0_pay84 (F := Ideal) x0 x1 x2 x3 x4 x5 x6 x7 x8 = val_main_v89 (F := Ideal) x3 x4 x7 := by
  unfold k0_pay84; rw [ld2, ld2, p79 x0 x1 x2 x3 x4 x5 x6 x7 x8 h7, s36 x3 x4 x7 _ _ _ _ (p31 x0 x1 x2 x3 x4 x5 x6 x7 x8 h7)]
/-- The imaginary gradient through the division. -/
theorem p85 (h7 : ∀ i, ∃ a : ℝ, x7 i = a) : k0_pay85 (F := Ideal) x0 x1 x2 x3 x4 x5 x6 x7 x8 = val_main_v92 (F := Ideal) x0 x1 x2 x3 x4 x7 := by
  unfold k0_pay85; rw [ld2, ld2, ld0, ld0, p68 x0 x1 x2 x3 x4 x5 x6 x7 x8, p71 x0 x1 x2 x3 x4 x5 x6 x7 x8, p72 x0 x1 x2 x3 x4 x5 x6 x7 x8, s19, s20, p79 x0 x1 x2 x3 x4 x5 x6 x7 x8 h7, s37 x0 x1 x2 x3 x4 x7 _ _ _ _ (p31 x0 x1 x2 x3 x4 x5 x6 x7 x8 h7)]
/-- The gradient of the real parts. -/
theorem p86 (h5 : ∀ i, ∃ a : ℝ, x5 i = a) (h7 : ∀ i, ∃ a : ℝ, x7 i = a) : k0_pay86 (F := Ideal) x0 x1 x2 x3 x4 x5 x6 x7 x8 = val_main_v97 (F := Ideal) x0 x1 x3 x4 x5 x7 := by
  unfold k0_pay86; rw [ld0, ld2, ld2, p75 x0 x1 x2 x3 x4 x5 x6 x7 x8, p23 x0 x1 x2 x3 x4 x5 x6 x7 x8 h5, p79 x0 x1 x2 x3 x4 x5 x6 x7 x8 h7, s41 x0 x1 x3 x4 x5 x7 _ _ _ _ (p31 x0 x1 x2 x3 x4 x5 x6 x7 x8 h7)]
/-- The gradient of the imaginary parts. -/
theorem p87 (h6 : ∀ i, ∃ a : ℝ, x6 i = a) (h7 : ∀ i, ∃ a : ℝ, x7 i = a) : k0_pay87 (F := Ideal) x0 x1 x2 x3 x4 x5 x6 x7 x8 = val_main_v100 (F := Ideal) x0 x1 x3 x4 x6 x7 := by
  unfold k0_pay87; rw [ld0, ld2, ld2, p75 x0 x1 x2 x3 x4 x5 x6 x7 x8, p24 x0 x1 x2 x3 x4 x5 x6 x7 x8 h6, p79 x0 x1 x2 x3 x4 x5 x6 x7 x8 h7, s43 x0 x1 x3 x4 x6 x7 _ _ _ _ (p31 x0 x1 x2 x3 x4 x5 x6 x7 x8 h7)]
/-- The real gradient through the division. -/
theorem p88 (h7 : ∀ i, ∃ a : ℝ, x7 i = a) : k0_pay88 (F := Ideal) x0 x1 x2 x3 x4 x5 x6 x7 x8 = val_main_v102 (F := Ideal) x0 x1 x2 x3 x4 x7 := by
  unfold k0_pay88; rw [ld2, ld2, ld0, ld0, p68 x0 x1 x2 x3 x4 x5 x6 x7 x8, p71 x0 x1 x2 x3 x4 x5 x6 x7 x8, p72 x0 x1 x2 x3 x4 x5 x6 x7 x8, s17, s18, p79 x0 x1 x2 x3 x4 x5 x6 x7 x8 h7, s44 x0 x1 x2 x3 x4 x7 _ _ _ _ (p31 x0 x1 x2 x3 x4 x5 x6 x7 x8 h7)]

/-- The gradient of the real exponents. -/
theorem o9 (h5 : ∀ i, ∃ a : ℝ, x5 i = a) (h6 : ∀ i, ∃ a : ℝ, x6 i = a) (h7 : ∀ i, ∃ a : ℝ, x7 i = a) : out0_9 (F := Ideal) x0 x1 x2 x3 x4 x5 x6 x7 x8 = val_main_v150 (F := Ideal) x0 x1 x2 x3 x4 x5 x6 x7 := by
  unfold out0_9
  rw [put0, ld0, ld0, ld2, ld2, p67 x0 x1 x2 x3 x4 x5 x6 x7 x8, p68 x0 x1 x2 x3 x4 x5 x6 x7 x8, p69 x0 x1 x2 x3 x4 x5 x6 x7 x8, p72 x0 x1 x2 x3 x4 x5 x6 x7 x8, p74 x0 x1 x2 x3 x4 x5 x6 x7 x8, p75 x0 x1 x2 x3 x4 x5 x6 x7 x8, p76 x0 x1 x2 x3 x4 x5 x6 x7 x8, p84 x0 x1 x2 x3 x4 x5 x6 x7 x8 h7, p85 x0 x1 x2 x3 x4 x5 x6 x7 x8 h7,
    p86 x0 x1 x2 x3 x4 x5 x6 x7 x8 h5 h7, p87 x0 x1 x2 x3 x4 x5 x6 x7 x8 h6 h7, p88 x0 x1 x2 x3 x4 x5 x6 x7 x8 h7, p79 x0 x1 x2 x3 x4 x5 x6 x7 x8 h7,
    s42 x0 x1 x2 x3 x4 x7 _ _ _ _ (p31 x0 x1 x2 x3 x4 x5 x6 x7 x8 h7)]
  unfold k0_pay89
  exact s54 x0 x1 x2 x3 x4 x5 x6 x7
/-- The gradient of the imaginary exponents. -/
theorem o10 (h5 : ∀ i, ∃ a : ℝ, x5 i = a) (h6 : ∀ i, ∃ a : ℝ, x6 i = a) (h7 : ∀ i, ∃ a : ℝ, x7 i = a) : out0_10 (F := Ideal) x0 x1 x2 x3 x4 x5 x6 x7 x8 = val_main_v142 (F := Ideal) x0 x1 x2 x3 x4 x5 x6 x7 := by
  unfold out0_10
  rw [put0, ld0, ld0, ld2, ld2, p67 x0 x1 x2 x3 x4 x5 x6 x7 x8, p68 x0 x1 x2 x3 x4 x5 x6 x7 x8, p70 x0 x1 x2 x3 x4 x5 x6 x7 x8, p73 x0 x1 x2 x3 x4 x5 x6 x7 x8, p74 x0 x1 x2 x3 x4 x5 x6 x7 x8, p75 x0 x1 x2 x3 x4 x5 x6 x7 x8, p76 x0 x1 x2 x3 x4 x5 x6 x7 x8, p84 x0 x1 x2 x3 x4 x5 x6 x7 x8 h7, p85 x0 x1 x2 x3 x4 x5 x6 x7 x8 h7,
    p86 x0 x1 x2 x3 x4 x5 x6 x7 x8 h5 h7, p87 x0 x1 x2 x3 x4 x5 x6 x7 x8 h6 h7, p88 x0 x1 x2 x3 x4 x5 x6 x7 x8 h7, p79 x0 x1 x2 x3 x4 x5 x6 x7 x8 h7,
    s40 x0 x1 x2 x3 x4 x7 _ _ _ _ (p31 x0 x1 x2 x3 x4 x5 x6 x7 x8 h7)]
  unfold k0_pay89
  exact s52 x0 x1 x2 x3 x4 x5 x6 x7
/-- The gradient of the logarithms of the time steps. -/
theorem o11 (h5 : ∀ i, ∃ a : ℝ, x5 i = a) (h6 : ∀ i, ∃ a : ℝ, x6 i = a) (h7 : ∀ i, ∃ a : ℝ, x7 i = a) : out0_11 (F := Ideal) x0 x1 x2 x3 x4 x5 x6 x7 x8 = val_main_v151 (F := Ideal) x0 x1 x2 x3 x4 x5 x6 x7 := by
  unfold out0_11
  rw [put1, ld0, ld0, p67 x0 x1 x2 x3 x4 x5 x6 x7 x8, p68 x0 x1 x2 x3 x4 x5 x6 x7 x8, p69 x0 x1 x2 x3 x4 x5 x6 x7 x8, p70 x0 x1 x2 x3 x4 x5 x6 x7 x8, p72 x0 x1 x2 x3 x4 x5 x6 x7 x8, p73 x0 x1 x2 x3 x4 x5 x6 x7 x8, p75 x0 x1 x2 x3 x4 x5 x6 x7 x8, p84 x0 x1 x2 x3 x4 x5 x6 x7 x8 h7, p86 x0 x1 x2 x3 x4 x5 x6 x7 x8 h5 h7, p87 x0 x1 x2 x3 x4 x5 x6 x7 x8 h6 h7]
  exact s55 x0 x1 x2 x3 x4 x5 x6 x7
/-- The gradient of the real input weights. -/
theorem o12 (h7 : ∀ i, ∃ a : ℝ, x7 i = a) : out0_12 (F := Ideal) x0 x1 x2 x3 x4 x5 x6 x7 x8 = val_main_v79 (F := Ideal) x0 x1 x2 x7 := by
  unfold out0_12
  rw [put2, p77 x0 x1 x2 x3 x4 x5 x6 x7 x8, p78 x0 x1 x2 x3 x4 x5 x6 x7 x8, p79 x0 x1 x2 x3 x4 x5 x6 x7 x8 h7, s34 x0 x1 x2 x7 _ _ _ _ (p31 x0 x1 x2 x3 x4 x5 x6 x7 x8 h7)]
/-- The gradient of the imaginary input weights. -/
theorem o13 (h7 : ∀ i, ∃ a : ℝ, x7 i = a) : out0_13 (F := Ideal) x0 x1 x2 x3 x4 x5 x6 x7 x8 = val_main_v75 (F := Ideal) x0 x1 x2 x7 := by
  unfold out0_13
  rw [put2, p77 x0 x1 x2 x3 x4 x5 x6 x7 x8, p78 x0 x1 x2 x3 x4 x5 x6 x7 x8, p79 x0 x1 x2 x3 x4 x5 x6 x7 x8 h7, s33 x0 x1 x2 x7 _ _ _ _ (p31 x0 x1 x2 x3 x4 x5 x6 x7 x8 h7)]
/-- The gradient of the real output weights. -/
theorem o14 (h8 : ∀ i, ∃ a : ℝ, x8 i = a) : out0_14 (F := Ideal) x0 x1 x2 x3 x4 x5 x6 x7 x8 = val_main_v162 (F := Ideal) x8 := by
  unfold out0_14 k0_pay64 k0_pay66
  rw [put2, left, s56 _ (left_real _ h8), own_162]
/-- The gradient of the imaginary output weights. -/
theorem o15 (h8 : ∀ i, ∃ a : ℝ, x8 i = a) : out0_15 (F := Ideal) x0 x1 x2 x3 x4 x5 x6 x7 x8 = val_main_v174 (F := Ideal) x8 := by
  unfold out0_15 k0_pay64 k0_pay66
  rw [put2, right, s1 _ (right_real _ h8)]
  rfl

end

end Cert.Kernel23Ideal.Hand

end
-- ==== Proof.ParamArr.lean ====
/-
  The call's one grid point reads every argument whole and writes every result whole: what its blocks hold is what the
  arrays hold after the run.
-/
module

public import proofs.«01_k».proof.Proof.Gen.Kernel23Ideal.Frame
public import Idealize.ShloMosaic.Lib.Pipeline.ValueKit
public import Idealize.ShloMosaic.Lib.Pipeline.ValueKit.Partial
public import Idealize.ShloMosaic.Lib.ValueIdx

@[expose] public section

set_option maxRecDepth 16384

noncomputable section

namespace Cert.Kernel23Ideal.Hand

open Idealize.ShloMosaic hiding ix1 ix2 ix3 ix4
open Idealize.ShloMosaic.TcCoe Idealize.ShloMosaic.ValueIdx Idealize.ShloMosaic.Tactic Idealize.SL.Sem
open Idealize.ShloMosaic.Pipeline (Dat Cfg Window)
open Cert.Kernel23Ideal Cert.Kernel23Ideal.Gen

variable (m : (ℓ : Loc nD τ sig) → Buf (Elt Ideal) ℓ) (c : Dev nD)

/-- The block index of the first argument. -/
theorem index23_0 : ∀ t : Fin cfg0.N, win0_0.index t = ![0, 0] :=
  (by decide +kernel : ∀ t : Fin grid0.N, win0_0.index t = ![0, 0])
/-- The block of the first argument is all of it. -/
theorem whole0 (t : Fin cfg0.N) (y : S32x64.Idx) : ((cfg0.win 0).blk t).view.emb y = y := by
  obtain ⟨r, j, rfl⟩ : ∃ (r : Fin 32) (j : Fin 64), y = ix2 r j := ⟨y 0, y 1, ValueIdx.eq_ix2 y⟩
  blk_ext [index23_0]
/-- The block index of the second argument. -/
theorem index23_1 : ∀ t : Fin cfg0.N, win0_1.index t = ![0, 0] :=
  (by decide +kernel : ∀ t : Fin grid0.N, win0_1.index t = ![0, 0])
/-- The block of the second argument is all of it. -/
theorem whole1 (t : Fin cfg0.N) (y : S32x64.Idx) : ((cfg0.win 1).blk t).view.emb y = y := by
  obtain ⟨r, j, rfl⟩ : ∃ (r : Fin 32) (j : Fin 64), y = ix2 r j := ⟨y 0, y 1, ValueIdx.eq_ix2 y⟩
  blk_ext [index23_1]
/-- The block index of the third argument. -/
theorem index23_2 : ∀ t : Fin cfg0.N, win0_2.index t = ![0, 0] :=
  (by decide +kernel : ∀ t : Fin grid0.N, win0_2.index t = ![0, 0])
/-- The block of the third argument is all of it. -/
theorem whole2 (t : Fin cfg0.N) (y : S32x1.Idx) : ((cfg0.win 2).blk t).view.emb y = y := by
  obtain ⟨r, j, rfl⟩ : ∃ (r : Fin 32) (j : Fin 1), y = ix2 r j := ⟨y 0, y 1, ValueIdx.eq_ix2 y⟩
  blk_ext [index23_2]
/-- The block index of the fourth argument. -/
theorem index23_3 : ∀ t : Fin cfg0.N, win0_3.index t = ![0, 0] :=
  (by decide +kernel : ∀ t : Fin grid0.N, win0_3.index t = ![0, 0])
/-- The block of the fourth argument is all of it. -/
theorem whole3 (t : Fin cfg0.N) (y : S512x64.Idx) : ((cfg0.win 3).blk t).view.emb y = y := by
  obtain ⟨r, j, rfl⟩ : ∃ (r : Fin 512) (j : Fin 64), y = ix2 r j := ⟨y 0, y 1, ValueIdx.eq_ix2 y⟩
  blk_ext [index23_3]
/-- The block index of the fifth argument. -/
theorem index23_4 : ∀ t : Fin cfg0.N, win0_4.index t = ![0, 0] :=
  (by decide +kernel : ∀ t : Fin grid0.N, win0_4.index t = ![0, 0])
/-- The block of the fifth argument is all of it. -/
theorem whole4 (t : Fin cfg0.N) (y : S512x64.Idx) : ((cfg0.win 4).blk t).view.emb y = y := by
  obtain ⟨r, j, rfl⟩ : ∃ (r : Fin 512) (j : Fin 64), y = ix2 r j := ⟨y 0, y 1, ValueIdx.eq_ix2 y⟩
  blk_ext [index23_4]
/-- The block index of the sixth argument. -/
theorem index23_5 : ∀ t : Fin cfg0.N, win0_5.index t = ![0, 0] :=
  (by decide +kernel : ∀ t : Fin grid0.N, win0_5.index t = ![0, 0])
/-- The block of the sixth argument is all of it. -/
theorem whole5 (t : Fin cfg0.N) (y : S1x2048.Idx) : ((cfg0.win 5).blk t).view.emb y = y := by
  obtain ⟨r, j, rfl⟩ : ∃ (r : Fin 1) (j : Fin 2048), y = ix2 r j := ⟨y 0, y 1, ValueIdx.eq_ix2 y⟩
  blk_ext [index23_5]
/-- The block index of the seventh argument. -/
theorem index23_6 : ∀ t : Fin cfg0.N, win0_6.index t = ![0, 0] :=
  (by decide +kernel : ∀ t : Fin grid0.N, win0_6.index t = ![0, 0])
/-- The block of the seventh argument is all of it. -/
theorem whole6 (t : Fin cfg0.N) (y : S1x2048.Idx) : ((cfg0.win 6).blk t).view.emb y = y := by
  obtain ⟨r, j, rfl⟩ : ∃ (r : Fin 1) (j : Fin 2048), y = ix2 r j := ⟨y 0, y 1, ValueIdx.eq_ix2 y⟩
  blk_ext [index23_6]
/-- The block index of the eighth argument. -/
theorem index23_7 : ∀ t : Fin cfg0.N, win0_7.index t = ![0, 0] :=
  (by decide +kernel : ∀ t : Fin grid0.N, win0_7.index t = ![0, 0])
/-- The block of the eighth argument is all of it. -/
theorem whole7 (t : Fin cfg0.N) (y : S512x1024.Idx) : ((cfg0.win 7).blk t).view.emb y = y := by
  obtain ⟨r, j, rfl⟩ : ∃ (r : Fin 512) (j : Fin 1024), y = ix2 r j := ⟨y 0, y 1, ValueIdx.eq_ix2 y⟩
  blk_ext [index23_7]
/-- The block index of the ninth argument. -/
theorem index23_8 : ∀ t : Fin cfg0.N, win0_8.index t = ![0, 0] :=
  (by decide +kernel : ∀ t : Fin grid0.N, win0_8.index t = ![0, 0])
/-- The block of the ninth argument is all of it. -/
theorem whole8 (t : Fin cfg0.N) (y : S512x1024.Idx) : ((cfg0.win 8).blk t).view.emb y = y := by
  obtain ⟨r, j, rfl⟩ : ∃ (r : Fin 512) (j : Fin 1024), y = ix2 r j := ⟨y 0, y 1, ValueIdx.eq_ix2 y⟩
  blk_ext [index23_8]
/-- The block index of the first result. -/
theorem index23_9 : ∀ t : Fin cfg0.N, win0_9.index t = ![0, 0] :=
  (by decide +kernel : ∀ t : Fin grid0.N, win0_9.index t = ![0, 0])
/-- The block of the first result is all of it. -/
theorem whole9 (t : Fin cfg0.N) (y : S32x64.Idx) : ((cfg0.win 9).blk t).view.emb y = y := by
  obtain ⟨r, j, rfl⟩ : ∃ (r : Fin 32) (j : Fin 64), y = ix2 r j := ⟨y 0, y 1, ValueIdx.eq_ix2 y⟩
  blk_ext [index23_9]
/-- The block index of the second result. -/
theorem index23_10 : ∀ t : Fin cfg0.N, win0_10.index t = ![0, 0] :=
  (by decide +kernel : ∀ t : Fin grid0.N, win0_10.index t = ![0, 0])
/-- The block of the second result is all of it. -/
theorem whole10 (t : Fin cfg0.N) (y : S32x64.Idx) : ((cfg0.win 10).blk t).view.emb y = y := by
  obtain ⟨r, j, rfl⟩ : ∃ (r : Fin 32) (j : Fin 64), y = ix2 r j := ⟨y 0, y 1, ValueIdx.eq_ix2 y⟩
  blk_ext [index23_10]
/-- The block index of the third result. -/
theorem index23_11 : ∀ t : Fin cfg0.N, win0_11.index t = ![0, 0] :=
  (by decide +kernel : ∀ t : Fin grid0.N, win0_11.index t = ![0, 0])
/-- The block of the third result is all of it. -/
theorem whole11 (t : Fin cfg0.N) (y : S32x1.Idx) : ((cfg0.win 11).blk t).view.emb y = y := by
  obtain ⟨r, j, rfl⟩ : ∃ (r : Fin 32) (j : Fin 1), y = ix2 r j := ⟨y 0, y 1, ValueIdx.eq_ix2 y⟩
  blk_ext [index23_11]
/-- The block index of the fourth result. -/
theorem index23_12 : ∀ t : Fin cfg0.N, win0_12.index t = ![0, 0] :=
  (by decide +kernel : ∀ t : Fin grid0.N, win0_12.index t = ![0, 0])
/-- The block of the fourth result is all of it. -/
theorem whole12 (t : Fin cfg0.N) (y : S512x64.Idx) : ((cfg0.win 12).blk t).view.emb y = y := by
  obtain ⟨r, j, rfl⟩ : ∃ (r : Fin 512) (j : Fin 64), y = ix2 r j := ⟨y 0, y 1, ValueIdx.eq_ix2 y⟩
  blk_ext [index23_12]
/-- The block index of the fifth result. -/
theorem index23_13 : ∀ t : Fin cfg0.N, win0_13.index t = ![0, 0] :=
  (by decide +kernel : ∀ t : Fin grid0.N, win0_13.index t = ![0, 0])
/-- The block of the fifth result is all of it. -/
theorem whole13 (t : Fin cfg0.N) (y : S512x64.Idx) : ((cfg0.win 13).blk t).view.emb y = y := by
  obtain ⟨r, j, rfl⟩ : ∃ (r : Fin 512) (j : Fin 64), y = ix2 r j := ⟨y 0, y 1, ValueIdx.eq_ix2 y⟩
  blk_ext [index23_13]
/-- The block index of the sixth result. -/
theorem index23_14 : ∀ t : Fin cfg0.N, win0_14.index t = ![0, 0] :=
  (by decide +kernel : ∀ t : Fin grid0.N, win0_14.index t = ![0, 0])
/-- The block of the sixth result is all of it. -/
theorem whole14 (t : Fin cfg0.N) (y : S512x64.Idx) : ((cfg0.win 14).blk t).view.emb y = y := by
  obtain ⟨r, j, rfl⟩ : ∃ (r : Fin 512) (j : Fin 64), y = ix2 r j := ⟨y 0, y 1, ValueIdx.eq_ix2 y⟩
  blk_ext [index23_14]
/-- The block index of the seventh result. -/
theorem index23_15 : ∀ t : Fin cfg0.N, win0_15.index t = ![0, 0] :=
  (by decide +kernel : ∀ t : Fin grid0.N, win0_15.index t = ![0, 0])
/-- The block of the seventh result is all of it. -/
theorem whole15 (t : Fin cfg0.N) (y : S512x64.Idx) : ((cfg0.win 15).blk t).view.emb y = y := by
  obtain ⟨r, j, rfl⟩ : ∃ (r : Fin 512) (j : Fin 64), y = ix2 r j := ⟨y 0, y 1, ValueIdx.eq_ix2 y⟩
  blk_ext [index23_15]
/-- What the point reads of the first argument. -/
theorem b0 (t : Fin cfg0.N) : iblk m c 0 t = m ((c : Thread nD τ).loc main_arg0) := by
  funext y
  unfold iblk
  exact congrArg (m ((c : Thread nD τ).loc main_arg0)) (whole0 t y)
/-- What the point reads of the second argument. -/
theorem b1 (t : Fin cfg0.N) : iblk m c 1 t = m ((c : Thread nD τ).loc main_arg1) := by
  funext y
  unfold iblk
  exact congrArg (m ((c : Thread nD τ).loc main_arg1)) (whole1 t y)
/-- What the point reads of the third argument. -/
theorem b2 (t : Fin cfg0.N) : iblk m c 2 t = m ((c : Thread nD τ).loc main_arg2) := by
  funext y
  unfold iblk
  exact congrArg (m ((c : Thread nD τ).loc main_arg2)) (whole2 t y)
/-- What the point reads of the fourth argument. -/
theorem b3 (t : Fin cfg0.N) : iblk m c 3 t = m ((c : Thread nD τ).loc main_arg3) := by
  funext y
  unfold iblk
  exact congrArg (m ((c : Thread nD τ).loc main_arg3)) (whole3 t y)
/-- What the point reads of the fifth argument. -/
theorem b4 (t : Fin cfg0.N) : iblk m c 4 t = m ((c : Thread nD τ).loc main_arg4) := by
  funext y
  unfold iblk
  exact congrArg (m ((c : Thread nD τ).loc main_arg4)) (whole4 t y)
/-- What the point reads of the sixth argument. -/
theorem b5 (t : Fin cfg0.N) : iblk m c 5 t = m ((c : Thread nD τ).loc main_arg5) := by
  funext y
  unfold iblk
  exact congrArg (m ((c : Thread nD τ).loc main_arg5)) (whole5 t y)
/-- What the point reads of the seventh argument. -/
theorem b6 (t : Fin cfg0.N) : iblk m c 6 t = m ((c : Thread nD τ).loc main_arg6) := by
  funext y
  unfold iblk
  exact congrArg (m ((c : Thread nD τ).loc main_arg6)) (whole6 t y)
/-- What the point reads of the eighth argument. -/
theorem b7 (t : Fin cfg0.N) : iblk m c 7 t = m ((c : Thread nD τ).loc main_arg7) := by
  funext y
  unfold iblk
  exact congrArg (m ((c : Thread nD τ).loc main_arg7)) (whole7 t y)
/-- What the point reads of the ninth argument. -/
theorem b8 (t : Fin cfg0.N) : iblk m c 8 t = m ((c : Thread nD τ).loc main_arg8) := by
  funext y
  unfold iblk
  exact congrArg (m ((c : Thread nD τ).loc main_arg8)) (whole8 t y)
/-- The array of the first result after the run. -/
theorem arr9 : (dats m 0 c).arrAt 9 cfg0.N = out0_9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  rw [after0_9, b0, b1, b2, b3, b4, b5, b6, b7, b8]
  exact congrArg (out0_9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (whole9 t y).symm
/-- The array of the second result after the run. -/
theorem arr10 : (dats m 0 c).arrAt 10 cfg0.N = out0_10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  rw [after0_10, b0, b1, b2, b3, b4, b5, b6, b7, b8]
  exact congrArg (out0_10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (whole10 t y).symm
/-- The array of the third result after the run. -/
theorem arr11 : (dats m 0 c).arrAt 11 cfg0.N = out0_11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  rw [after0_11, b0, b1, b2, b3, b4, b5, b6, b7, b8]
  exact congrArg (out0_11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (whole11 t y).symm
/-- The array of the fourth result after the run. -/
theorem arr12 : (dats m 0 c).arrAt 12 cfg0.N = out0_12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  rw [after0_12, b0, b1, b2, b3, b4, b5, b6, b7, b8]
  exact congrArg (out0_12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (whole12 t y).symm
/-- The array of the fifth result after the run. -/
theorem arr13 : (dats m 0 c).arrAt 13 cfg0.N = out0_13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  rw [after0_13, b0, b1, b2, b3, b4, b5, b6, b7, b8]
  exact congrArg (out0_13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (whole13 t y).symm
/-- The array of the sixth result after the run. -/
theorem arr14 : (dats m 0 c).arrAt 14 cfg0.N = out0_14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  rw [after0_14, b0, b1, b2, b3, b4, b5, b6, b7, b8]
  exact congrArg (out0_14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (whole14 t y).symm
/-- The array of the seventh result after the run. -/
theorem arr15 : (dats m 0 c).arrAt 15 cfg0.N = out0_15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 15 _ (by decide +kernel) fun t hf y => ?_
  rw [after0_15, b0, b1, b2, b3, b4, b5, b6, b7, b8]
  exact congrArg (out0_15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (whole15 t y).symm

end Cert.Kernel23Ideal.Hand

end
-- ==== Proof.ParamValue.lean ====
/- The parameters' gradients on finite gradients: what the run leaves in the seven result arrays is what the plain reference
   computes; and the runs of the three programs of that call. -/
module

public import proofs.«01_k».proof.Defs
public import proofs.«01_k».proof.Proof.ParamOut
public import proofs.«01_k».proof.Proof.ParamArr
public import proofs.«01_k».proof.Proof.Value
public import proofs.«01_k».proof.Proof.Gen.Kernel23
public import proofs.«01_k».proof.Proof.Gen.Reference23Ideal.Run
public import proofs.«01_k».proof.Proof.Gen.Pre_finite4

@[expose] public section

set_option maxRecDepth 16384

noncomputable section

namespace Cert.Proof

open Idealize.ShloMosaic hiding ix1 ix2 ix3 ix4
open Idealize.ShloMosaic.TcCoe Idealize.SL.Sem
open Cert.Kernel23Ideal.Hand (o9 o10 o11 o12 o13 o14 o15 arr9 arr10 arr11 arr12 arr13 arr14 arr15)
open Cert.KernelIdeal.Hand (real_of_finite)

/-- The call and its plain reference end with the same seven results when the gradients they take are finite. -/
theorem algebraic_param : Cert.algebraic_Kernel23Ideal_Reference23Ideal_pre_finite4 (hKernel23Ideal := Cert.Kernel23Ideal.Gen.facts)
    (hReference23Ideal := Cert.Reference23Ideal.Gen.facts) (hPre_finite4 := Cert.Pre_finite4.Gen.facts) := by
  intro m g m' g' hpre hargs
  refine ⟨fun c => (Cert.Kernel23Ideal.Gen.dats m 0 c).arrAt 9 Cert.Kernel23Ideal.cfg0.N,
    fun c => (Cert.Kernel23Ideal.Gen.dats m 0 c).arrAt 10 Cert.Kernel23Ideal.cfg0.N,
    fun c => (Cert.Kernel23Ideal.Gen.dats m 0 c).arrAt 11 Cert.Kernel23Ideal.cfg0.N,
    fun c => (Cert.Kernel23Ideal.Gen.dats m 0 c).arrAt 12 Cert.Kernel23Ideal.cfg0.N,
    fun c => (Cert.Kernel23Ideal.Gen.dats m 0 c).arrAt 13 Cert.Kernel23Ideal.cfg0.N,
    fun c => (Cert.Kernel23Ideal.Gen.dats m 0 c).arrAt 14 Cert.Kernel23Ideal.cfg0.N,
    fun c => (Cert.Kernel23Ideal.Gen.dats m 0 c).arrAt 15 Cert.Kernel23Ideal.cfg0.N, ?_, ?_⟩
  · refine (θ_run (Cert.Kernel23Ideal.defs (F := Ideal)) _ _).mono (fun r h c => ?_)
      (θ_run_and (Cert.Kernel23Ideal.Gen.run_main (F := Ideal) m g) (Cert.Kernel23Ideal.Gen.unchanged (F := Ideal) m g))
    have k := (h.1 c).1
    exact ⟨k 9, k 10, k 11, k 12, k 13, k 14, k 15, h.2 c⟩
  · refine (θ_run (Cert.Reference23Ideal.defs (F := Ideal)) _ _).mono (fun r h c => ?_) (Cert.Reference23Ideal.Value.run (F := Ideal) m' g')
    obtain ⟨e0, e1, e2, e3, e4, e5, e6, e7, e8⟩ := hargs c
    obtain ⟨p5, p6, p7, p8⟩ := hpre c
    have h5 : ∀ i : Cert.Kernel23Ideal.S1x2048.Idx, ∃ a : ℝ, @Eq EReal (m ((c : Thread Cert.Kernel23Ideal.nD Cert.Kernel23Ideal.τ).loc Cert.Kernel23Ideal.main_arg5) i) a :=
      fun i => real_of_finite _ (congrFun p5 i)
    have h6 : ∀ i : Cert.Kernel23Ideal.S1x2048.Idx, ∃ a : ℝ, @Eq EReal (m ((c : Thread Cert.Kernel23Ideal.nD Cert.Kernel23Ideal.τ).loc Cert.Kernel23Ideal.main_arg6) i) a :=
      fun i => real_of_finite _ (congrFun p6 i)
    have h7 : ∀ i : Cert.Kernel23Ideal.S512x1024.Idx, ∃ a : ℝ, @Eq EReal (m ((c : Thread Cert.Kernel23Ideal.nD Cert.Kernel23Ideal.τ).loc Cert.Kernel23Ideal.main_arg7) i) a :=
      fun i => real_of_finite _ (congrFun p7 i)
    have h8 : ∀ i : Cert.Kernel23Ideal.S512x1024.Idx, ∃ a : ℝ, @Eq EReal (m ((c : Thread Cert.Kernel23Ideal.nD Cert.Kernel23Ideal.τ).loc Cert.Kernel23Ideal.main_arg8) i) a :=
      fun i => real_of_finite _ (congrFun p8 i)
    obtain ⟨k150, k142, k151, k79, k75, k162, k174, ka⟩ := h c
    refine ⟨(k150.trans (Cert.Reference23Ideal.Read.val_main_v150_eq (F := Ideal) _)).trans ?_,
      (k142.trans (Cert.Reference23Ideal.Read.val_main_v142_eq (F := Ideal) _)).trans ?_,
      (k151.trans (Cert.Reference23Ideal.Read.val_main_v151_eq (F := Ideal) _)).trans ?_,
      (k79.trans (Cert.Reference23Ideal.Read.val_main_v79_eq (F := Ideal) _)).trans ?_,
      (k75.trans (Cert.Reference23Ideal.Read.val_main_v75_eq (F := Ideal) _)).trans ?_,
      (k162.trans (Cert.Reference23Ideal.Read.val_main_v162_eq (F := Ideal) _)).trans ?_,
      (k174.trans (Cert.Reference23Ideal.Read.val_main_v174_eq (F := Ideal) _)).trans ?_, ka⟩
    · show Cert.Reference23Ideal.Read.val_main_v150 (F := Ideal) (m' ((c : Thread Cert.Reference23Ideal.nD Cert.Reference23Ideal.τ).loc Cert.Reference23Ideal.main_arg0)) (m' ((c : Thread Cert.Reference23Ideal.nD Cert.Reference23Ideal.τ).loc Cert.Reference23Ideal.main_arg1)) (m' ((c : Thread Cert.Reference23Ideal.nD Cert.Reference23Ideal.τ).loc Cert.Reference23Ideal.main_arg2)) (m' ((c : Thread Cert.Reference23Ideal.nD Cert.Reference23Ideal.τ).loc Cert.Reference23Ideal.main_arg3)) (m' ((c : Thread Cert.Reference23Ideal.nD Cert.Reference23Ideal.τ).loc Cert.Reference23Ideal.main_arg4)) (m' ((c : Thread Cert.Reference23Ideal.nD Cert.Reference23Ideal.τ).loc Cert.Reference23Ideal.main_arg5)) (m' ((c : Thread Cert.Reference23Ideal.nD Cert.Reference23Ideal.τ).loc Cert.Reference23Ideal.main_arg6)) (m' ((c : Thread Cert.Reference23Ideal.nD Cert.Reference23Ideal.τ).loc Cert.Reference23Ideal.main_arg7)) = _
      rw [e0, e1, e2, e3, e4, e5, e6, e7]
      exact ((arr9 m c).trans (o9 _ _ _ _ _ _ _ _ _ h5 h6 h7)).symm
    · show Cert.Reference23Ideal.Read.val_main_v142 (F := Ideal) (m' ((c : Thread Cert.Reference23Ideal.nD Cert.Reference23Ideal.τ).loc Cert.Reference23Ideal.main_arg0)) (m' ((c : Thread Cert.Reference23Ideal.nD Cert.Reference23Ideal.τ).loc Cert.Reference23Ideal.main_arg1)) (m' ((c : Thread Cert.Reference23Ideal.nD Cert.Reference23Ideal.τ).loc Cert.Reference23Ideal.main_arg2)) (m' ((c : Thread Cert.Reference23Ideal.nD Cert.Reference23Ideal.τ).loc Cert.Reference23Ideal.main_arg3)) (m' ((c : Thread Cert.Reference23Ideal.nD Cert.Reference23Ideal.τ).loc Cert.Reference23Ideal.main_arg4)) (m' ((c : Thread Cert.Reference23Ideal.nD Cert.Reference23Ideal.τ).loc Cert.Reference23Ideal.main_arg5)) (m' ((c : Thread Cert.Reference23Ideal.nD Cert.Reference23Ideal.τ).loc Cert.Reference23Ideal.main_arg6)) (m' ((c : Thread Cert.Reference23Ideal.nD Cert.Reference23Ideal.τ).loc Cert.Reference23Ideal.main_arg7)) = _
      rw [e0, e1, e2, e3, e4, e5, e6, e7]
      exact ((arr10 m c).trans (o10 _ _ _ _ _ _ _ _ _ h5 h6 h7)).symm
    · show Cert.Reference23Ideal.Read.val_main_v151 (F := Ideal) (m' ((c : Thread Cert.Reference23Ideal.nD Cert.Reference23Ideal.τ).loc Cert.Reference23Ideal.main_arg0)) (m' ((c : Thread Cert.Reference23Ideal.nD Cert.Reference23Ideal.τ).loc Cert.Reference23Ideal.main_arg1)) (m' ((c : Thread Cert.Reference23Ideal.nD Cert.Reference23Ideal.τ).loc Cert.Reference23Ideal.main_arg2)) (m' ((c : Thread Cert.Reference23Ideal.nD Cert.Reference23Ideal.τ).loc Cert.Reference23Ideal.main_arg3)) (m' ((c : Thread Cert.Reference23Ideal.nD Cert.Reference23Ideal.τ).loc Cert.Reference23Ideal.main_arg4)) (m' ((c : Thread Cert.Reference23Ideal.nD Cert.Reference23Ideal.τ).loc Cert.Reference23Ideal.main_arg5)) (m' ((c : Thread Cert.Reference23Ideal.nD Cert.Reference23Ideal.τ).loc Cert.Reference23Ideal.main_arg6)) (m' ((c : Thread Cert.Reference23Ideal.nD Cert.Reference23Ideal.τ).loc Cert.Reference23Ideal.main_arg7)) = _
      rw [e0, e1, e2, e3, e4, e5, e6, e7]
      exact ((arr11 m c).trans (o11 _ _ _ _ _ _ _ _ _ h5 h6 h7)).symm
    · show Cert.Reference23Ideal.Read.val_main_v79 (F := Ideal) (m' ((c : Thread Cert.Reference23Ideal.nD Cert.Reference23Ideal.τ).loc Cert.Reference23Ideal.main_arg0)) (m' ((c : Thread Cert.Reference23Ideal.nD Cert.Reference23Ideal.τ).loc Cert.Reference23Ideal.main_arg1)) (m' ((c : Thread Cert.Reference23Ideal.nD Cert.Reference23Ideal.τ).loc Cert.Reference23Ideal.main_arg2)) (m' ((c : Thread Cert.Reference23Ideal.nD Cert.Reference23Ideal.τ).loc Cert.Reference23Ideal.main_arg7)) = _
      rw [e0, e1, e2, e7]
      exact ((arr12 m c).trans (o12 _ _ _ _ _ _ _ _ _ h7)).symm
    · show Cert.Reference23Ideal.Read.val_main_v75 (F := Ideal) (m' ((c : Thread Cert.Reference23Ideal.nD Cert.Reference23Ideal.τ).loc Cert.Reference23Ideal.main_arg0)) (m' ((c : Thread Cert.Reference23Ideal.nD Cert.Reference23Ideal.τ).loc Cert.Reference23Ideal.main_arg1)) (m' ((c : Thread Cert.Reference23Ideal.nD Cert.Reference23Ideal.τ).loc Cert.Reference23Ideal.main_arg2)) (m' ((c : Thread Cert.Reference23Ideal.nD Cert.Reference23Ideal.τ).loc Cert.Reference23Ideal.main_arg7)) = _
      rw [e0, e1, e2, e7]
      exact ((arr13 m c).trans (o13 _ _ _ _ _ _ _ _ _ h7)).symm
    · show Cert.Reference23Ideal.Read.val_main_v162 (F := Ideal) (m' ((c : Thread Cert.Reference23Ideal.nD Cert.Reference23Ideal.τ).loc Cert.Reference23Ideal.main_arg8)) = _
      rw [e8]
      exact ((arr14 m c).trans (o14 _ _ _ _ _ _ _ _ _ h8)).symm
    · show Cert.Reference23Ideal.Read.val_main_v174 (F := Ideal) (m' ((c : Thread Cert.Reference23Ideal.nD Cert.Reference23Ideal.τ).loc Cert.Reference23Ideal.main_arg8)) = _
      rw [e8]
      exact ((arr15 m c).trans (o15 _ _ _ _ _ _ _ _ _ h8)).symm

/-- The call runs, leaves its arguments as launched and ends with every counter at zero. -/
theorem frame_kernel23 : Cert.quiescent_Kernel23 (hKernel23 := Cert.Kernel23.Gen.facts) := fun m ρ _ =>
  Eq.mp (by sl_kernel_rfl) (Cert.Kernel23Ideal.Gen.frame (F := Bits) m ρ)

/-- The idealized call runs, leaves its arguments as launched and ends with every counter at zero. -/
theorem frame_kernel23Ideal : Cert.quiescent_Kernel23Ideal (hKernel23Ideal := Cert.Kernel23Ideal.Gen.facts) := fun m ρ _ =>
  Cert.Kernel23Ideal.Gen.frame (F := Ideal) m ρ

/-- The reference runs, leaves its arguments as launched and ends with every counter at zero. -/
theorem frame_reference23Ideal : Cert.quiescent_Reference23Ideal (hReference23Ideal := Cert.Reference23Ideal.Gen.facts) := fun m ρ _ =>
  (θ_run (Cert.Reference23Ideal.defs (F := Ideal)) _ _).mono
    (fun r h => ⟨fun c => (h c).2.2.2.2.2.2.2, sem_eq_zero_of_no_sems (by decide) r.2⟩)
    (Cert.Reference23Ideal.Value.run (F := Ideal) m ρ)

end Cert.Proof

end
-- ==== Proof.lean ====
/- The certificate: the programs' facts, then each claim by its theorem. -/
module

public import proofs.«01_k».proof.Defs
public import proofs.«01_k».proof.Proof.Frames
public import proofs.«01_k».proof.Proof.Value
public import proofs.«01_k».proof.Proof.MlpValue
public import proofs.«01_k».proof.Proof.W3
public import proofs.«01_k».proof.Proof.W4
public import proofs.«01_k».proof.Proof.W5
public import proofs.«01_k».proof.Proof.W6
public import proofs.«01_k».proof.Proof.W7
public import proofs.«01_k».proof.Proof.W8
public import proofs.«01_k».proof.Proof.W9
public import proofs.«01_k».proof.Proof.W10
public import proofs.«01_k».proof.Proof.A11
public import proofs.«01_k».proof.Proof.A12
public import proofs.«01_k».proof.Proof.A13
public import proofs.«01_k».proof.Proof.A14
public import proofs.«01_k».proof.Proof.A15
public import proofs.«01_k».proof.Proof.A16
public import proofs.«01_k».proof.Proof.A17
public import proofs.«01_k».proof.Proof.A18
public import proofs.«01_k».proof.Proof.A19
public import proofs.«01_k».proof.Proof.A20
public import proofs.«01_k».proof.Proof.InValue
public import proofs.«01_k».proof.Proof.W22
public import proofs.«01_k».proof.Proof.ParamValue
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Pre_finite2
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Pre_finite4
public import proofs.«01_k».proof.Proof.Gen.Pre_finite3
public import proofs.«01_k».proof.Proof.Gen.ReferenceIdeal.Run
public import proofs.«01_k».proof.Proof.Gen.ReferenceIdeal.Read

@[expose] public section

noncomputable section

namespace Cert.Proof

/-- Every claim of the certificate; the frames hold of every memory, so of the finite ones. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Pre_finite.Gen.facts, Cert.Pre_finite2.Gen.facts, Cert.Pre_finite3.Gen.facts, Cert.Pre_finite4.Gen.facts,
  frame_kernel, frame_kernelIdeal, fun m g _ => frame_kernelIdeal m g trivial, frame_referenceIdeal, fun m g _ => frame_referenceIdeal m g trivial,
  frame_kernel2, frame_kernel2Ideal, fun m g _ => frame_kernel2Ideal m g trivial, frame_reference2Ideal, fun m g _ => frame_reference2Ideal m g trivial,
  frame_kernel3, frame_kernel3Ideal, frame_reference3Ideal,
  frame_kernel4, frame_kernel4Ideal, frame_reference4Ideal,
  frame_kernel5, frame_kernel5Ideal, frame_reference5Ideal,
  frame_kernel6, frame_kernel6Ideal, frame_reference6Ideal,
  frame_kernel7, frame_kernel7Ideal, frame_reference7Ideal,
  frame_kernel8, frame_kernel8Ideal, frame_reference8Ideal,
  frame_kernel9, frame_kernel9Ideal, frame_reference9Ideal,
  frame_kernel10, frame_kernel10Ideal, frame_reference10Ideal,
  frame_kernel11, frame_kernel11Ideal, frame_reference11Ideal,
  frame_kernel12, frame_kernel12Ideal, frame_reference12Ideal,
  frame_kernel13, frame_kernel13Ideal, frame_reference13Ideal,
  frame_kernel14, frame_kernel14Ideal, frame_reference14Ideal,
  frame_kernel15, frame_kernel15Ideal, frame_reference15Ideal,
  frame_kernel16, frame_kernel16Ideal, frame_reference16Ideal,
  frame_kernel17, frame_kernel17Ideal, frame_reference17Ideal,
  frame_kernel18, frame_kernel18Ideal, frame_reference18Ideal,
  frame_kernel19, frame_kernel19Ideal, frame_reference19Ideal,
  frame_kernel20, frame_kernel20Ideal, frame_reference20Ideal,
  frame_kernel21, frame_kernel21Ideal, fun m g _ => frame_kernel21Ideal m g trivial, frame_reference21Ideal, fun m g _ => frame_reference21Ideal m g trivial,
  frame_kernel22, frame_kernel22Ideal, frame_reference22Ideal,
  frame_kernel23, frame_kernel23Ideal, fun m g _ => frame_kernel23Ideal m g trivial, frame_reference23Ideal, fun m g _ => frame_reference23Ideal m g trivial,
  trivial, algebraic_finite, trivial, algebraic_mlp,
  trivial, algebraic_w_down,
  trivial, algebraic_w_up,
  trivial, algebraic_w_out,
  trivial, algebraic_w_o_mla,
  trivial, algebraic_w_in,
  trivial, algebraic_w_q_b,
  trivial, algebraic_w_glu,
  trivial, algebraic_w_o_ssm,
  trivial, algebraic_adamw_small,
  trivial, algebraic_adamw_w_down,
  trivial, algebraic_adamw_w_up,
  trivial, algebraic_adamw_w_o_mla,
  trivial, algebraic_adamw_w_out,
  trivial, algebraic_adamw_w_in,
  trivial, algebraic_adamw_w_q_b,
  trivial, algebraic_adamw_w_kv_b,
  trivial, algebraic_adamw_w_glu,
  trivial, algebraic_adamw_w_o_ssm,
  trivial, algebraic_in,
  trivial, algebraic_w_kv_b,
  trivial, algebraic_param⟩

end Cert.Proof

end
